-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_inputs [hPre_finite_inputs : Cert.Pre_finite_inputs.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_inputs.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_inputs [hPre_finite_inputs : Cert.Pre_finite_inputs.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_inputs.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite_inputs [hKernel18Ideal : Cert.Kernel18Ideal.Facts] [hPre_finite_inputs : Cert.Pre_finite_inputs.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_inputs m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite_inputs [hReference18Ideal : Cert.Reference18Ideal.Facts] [hPre_finite_inputs : Cert.Pre_finite_inputs.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_inputs m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v126_0)) (v1 : (c : Dev Cert.KernelIdeal.nD) → Buf (Elt Ideal) ((c.tc : Thread Cert.KernelIdeal.nD Cert.KernelIdeal.τ).loc Cert.KernelIdeal.main_v126_1)) (v2 : (c : Dev Cert.KernelIdeal.nD) → Buf (Elt Ideal) ((c.tc : Thread Cert.KernelIdeal.nD Cert.KernelIdeal.τ).loc Cert.KernelIdeal.main_v126_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126_0) = v0 c
          ∧ r.2.mem ((c.tc : Thread Cert.KernelIdeal.nD Cert.KernelIdeal.τ).loc Cert.KernelIdeal.main_v126_1) = v1 c
          ∧ r.2.mem ((c.tc : Thread Cert.KernelIdeal.nD Cert.KernelIdeal.τ).loc Cert.KernelIdeal.main_v126_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite_inputs [hKernel18Ideal : Cert.Kernel18Ideal.Facts] [hReference18Ideal : Cert.Reference18Ideal.Facts] [hPre_finite_inputs : Cert.Pre_finite_inputs.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_inputs m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v47_0)) (v1 : (c : Dev Cert.Kernel18Ideal.nD) → Buf (Elt Ideal) ((c.tc : Thread Cert.Kernel18Ideal.nD Cert.Kernel18Ideal.τ).loc Cert.Kernel18Ideal.main_v47_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v47_0) = v0 c
          ∧ r.2.mem ((c.tc : Thread Cert.Kernel18Ideal.nD Cert.Kernel18Ideal.τ).loc Cert.Kernel18Ideal.main_v47_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v74) = v0 c
          ∧ r.2.mem ((c.tc : Thread Cert.Reference18Ideal.nD Cert.Reference18Ideal.τ).loc Cert.Reference18Ideal.main_v78) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v36) = v0 c
          ∧ r.2.mem ((c.tc : Thread Cert.Reference20Ideal.nD Cert.Reference20Ideal.τ).loc Cert.Reference20Ideal.main_v41) = v1 c
          ∧ r.2.mem ((c.tc : Thread Cert.Reference20Ideal.nD Cert.Reference20Ideal.τ).loc Cert.Reference20Ideal.main_v46) = v2 c
          ∧ r.2.mem ((c.tc : Thread Cert.Reference20Ideal.nD Cert.Reference20Ideal.τ).loc Cert.Reference20Ideal.main_v51) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_v46) = v2 c
          ∧ r.2.mem ((c.tc : Thread Cert.Reference21Ideal.nD Cert.Reference21Ideal.τ).loc Cert.Reference21Ideal.main_v51) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v36) = v0 c
          ∧ r.2.mem ((c.tc : Thread Cert.Reference22Ideal.nD Cert.Reference22Ideal.τ).loc Cert.Reference22Ideal.main_v41) = v1 c
          ∧ r.2.mem ((c.tc : Thread Cert.Reference22Ideal.nD Cert.Reference22Ideal.τ).loc Cert.Reference22Ideal.main_v46) = v2 c
          ∧ r.2.mem ((c.tc : Thread Cert.Reference22Ideal.nD Cert.Reference22Ideal.τ).loc Cert.Reference22Ideal.main_v51) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v36) = v0 c
          ∧ r.2.mem ((c.tc : Thread Cert.Reference23Ideal.nD Cert.Reference23Ideal.τ).loc Cert.Reference23Ideal.main_v41) = v1 c
          ∧ r.2.mem ((c.tc : Thread Cert.Reference23Ideal.nD Cert.Reference23Ideal.τ).loc Cert.Reference23Ideal.main_v46) = v2 c
          ∧ r.2.mem ((c.tc : Thread Cert.Reference23Ideal.nD Cert.Reference23Ideal.τ).loc Cert.Reference23Ideal.main_v51) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v41) = v1 c
          ∧ r.2.mem ((c.tc : Thread Cert.Reference24Ideal.nD Cert.Reference24Ideal.τ).loc Cert.Reference24Ideal.main_v46) = v2 c
          ∧ r.2.mem ((c.tc : Thread Cert.Reference24Ideal.nD Cert.Reference24Ideal.τ).loc Cert.Reference24Ideal.main_v51) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v36) = v0 c
          ∧ r.2.mem ((c.tc : Thread Cert.Reference25Ideal.nD Cert.Reference25Ideal.τ).loc Cert.Reference25Ideal.main_v41) = v1 c
          ∧ r.2.mem ((c.tc : Thread Cert.Reference25Ideal.nD Cert.Reference25Ideal.τ).loc Cert.Reference25Ideal.main_v46) = v2 c
          ∧ r.2.mem ((c.tc : Thread Cert.Reference25Ideal.nD Cert.Reference25Ideal.τ).loc Cert.Reference25Ideal.main_v51) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_v29) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_inputs (hKernel18Ideal := hKernel18Ideal) (hPre_finite_inputs := hPre_finite_inputs)
    ∧ quiescent_Reference18Ideal (hReference18Ideal := hReference18Ideal)
    ∧ quiescent_Reference18Ideal_pre_finite_inputs (hReference18Ideal := hReference18Ideal) (hPre_finite_inputs := hPre_finite_inputs)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_inputs (hKernel18Ideal := hKernel18Ideal) (hReference18Ideal := hReference18Ideal) (hPre_finite_inputs := hPre_finite_inputs)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x1024 1 := andi main_v2 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : IVec S2048x1024 1 := andi main_v6 main_v9
  let main_v11 : FVec F S2048x1024 .f32 := Host.absf main_arg3
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : IVec S2048x1024 1 := andi main_v10 main_v13
  main_v14
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S2048x1024 .f32) (main_arg2 : FVec F S2048x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x1024 1 := andi main_v2 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : IVec S2048x1024 1 := andi main_v6 main_v9
  main_v10
-- ==== Kernel.lean ====
abbrev S2048x1024 : Shape := ⟨2, ![2048, 1024]⟩
abbrev S1x2048x16x64 : Shape := ⟨4, ![1, 2048, 16, 64]⟩
abbrev S129 : Shape := ⟨1, ![129]⟩
abbrev S_ : Shape := ⟨0, ![]⟩
abbrev S387 : Shape := ⟨1, ![387]⟩
abbrev S1x16x2048x64 : Shape := ⟨4, ![1, 16, 2048, 64]⟩
abbrev S1x16x4096x64 : Shape := ⟨4, ![1, 16, 4096, 64]⟩
abbrev S2048 : Shape := ⟨1, ![2048]⟩
abbrev S2048x1 : Shape := ⟨2, ![2048, 1]⟩
abbrev S1x387 : Shape := ⟨2, ![1, 387]⟩
abbrev S2048x387 : Shape := ⟨2, ![2048, 387]⟩
abbrev S2048x387x1 : Shape := ⟨3, ![2048, 387, 1]⟩
abbrev S1x16x2048x387x64 : Shape := ⟨5, ![1, 16, 2048, 387, 64]⟩
abbrev S1x16x2048x1x64 : Shape := ⟨5, ![1, 16, 2048, 1, 64]⟩
abbrev S1x16x2048x387 : Shape := ⟨4, ![1, 16, 2048, 387]⟩
abbrev S1x16x2048 : Shape := ⟨3, ![1, 16, 2048]⟩
abbrev S1x16x2048x1 : Shape := ⟨4, ![1, 16, 2048, 1]⟩
abbrev S1x16x2048x387x1 : Shape := ⟨5, ![1, 16, 2048, 387, 1]⟩
abbrev S16x2048 : Shape := ⟨2, ![16, 2048]⟩
abbrev S2048x16 : Shape := ⟨2, ![2048, 16]⟩
abbrev S2048x16x64 : Shape := ⟨3, ![2048, 16, 64]⟩
abbrev S2048x3072 : Shape := ⟨2, ![2048, 3072]⟩
abbrev S512 : Shape := ⟨1, ![512]⟩
abbrev S4 : Shape := ⟨1, ![4]⟩
abbrev S4x1x1 : Shape := ⟨3, ![4, 1, 1]⟩
abbrev S1x512x1 : Shape := ⟨3, ![1, 512, 1]⟩
abbrev S4x512x1 : Shape := ⟨3, ![4, 512, 1]⟩
abbrev S1x1x512 : Shape := ⟨3, ![1, 1, 512]⟩
abbrev S4x512x512 : Shape := ⟨3, ![4, 512, 512]⟩
abbrev S2048x128 : Shape := ⟨2, ![2048, 128]⟩
abbrev S512x128 : Shape := ⟨2, ![512, 128]⟩
abbrev S1x128 : Shape := ⟨2, ![1, 128]⟩
abbrev S512x1 : Shape := ⟨2, ![512, 1]⟩
abbrev S1x512x512 : Shape := ⟨3, ![1, 512, 512]⟩
abbrev S512x512 : Shape := ⟨2, ![512, 512]⟩

abbrev nBuf : Space → Nat
  | .hbm => 179
  | .vmem => 19
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S1x2048x16x64, .f32⟩
  | 5 => ⟨S1x2048x16x64, .f32⟩
  | 6 => ⟨S1x2048x16x64, .f32⟩
  | 7 => ⟨S129, .i32⟩
  | 8 => ⟨S_, .i32⟩
  | 9 => ⟨S129, .i32⟩
  | 10 => ⟨S129, .i32⟩
  | 11 => ⟨S129, .i32⟩
  | 12 => ⟨S_, .i32⟩
  | 13 => ⟨S129, .i32⟩
  | 14 => ⟨S129, .i32⟩
  | 15 => ⟨S129, .i32⟩
  | 16 => ⟨S_, .i32⟩
  | 17 => ⟨S129, .i32⟩
  | 18 => ⟨S129, .i32⟩
  | 19 => ⟨S387, .i32⟩
  | 20 => ⟨S1x16x2048x64, .f32⟩
  | 21 => ⟨S_, .f32⟩
  | 22 => ⟨S1x16x2048x64, .f32⟩
  | 23 => ⟨S1x16x2048x64, .f32⟩
  | 24 => ⟨S1x16x4096x64, .f32⟩
  | 25 => ⟨S1x16x2048x64, .f32⟩
  | 26 => ⟨S1x16x4096x64, .f32⟩
  | 27 => ⟨S2048, .i32⟩
  | 28 => ⟨S2048x1, .i32⟩
  | 29 => ⟨S1x387, .i32⟩
  | 30 => ⟨S2048x387, .i32⟩
  | 31 => ⟨S2048x387, .i32⟩
  | 32 => ⟨S2048x387, .i32⟩
  | 33 => ⟨S_, .i32⟩
  | 34 => ⟨S2048x387, .i32⟩
  | 35 => ⟨S2048x387, .i32⟩
  | 36 => ⟨S_, .i32⟩
  | 37 => ⟨S2048x387, .i32⟩
  | 38 => ⟨S2048x387, .i1⟩
  | 39 => ⟨S_, .i32⟩
  | 40 => ⟨S2048x387, .i32⟩
  | 41 => ⟨S2048x387, .i32⟩
  | 42 => ⟨S2048x387, .i32⟩
  | 43 => ⟨S2048x387x1, .i32⟩
  | 44 => ⟨S1x16x2048x387x64, .f32⟩
  | 45 => ⟨S_, .i32⟩
  | 46 => ⟨S2048x387, .i32⟩
  | 47 => ⟨S2048x387, .i32⟩
  | 48 => ⟨S_, .i32⟩
  | 49 => ⟨S2048x387, .i32⟩
  | 50 => ⟨S2048x387, .i1⟩
  | 51 => ⟨S_, .i32⟩
  | 52 => ⟨S2048x387, .i32⟩
  | 53 => ⟨S2048x387, .i32⟩
  | 54 => ⟨S2048x387, .i32⟩
  | 55 => ⟨S2048x387x1, .i32⟩
  | 56 => ⟨S1x16x2048x387x64, .f32⟩
  | 57 => ⟨S1x16x2048x1x64, .f32⟩
  | 58 => ⟨S1x16x2048x387x64, .f32⟩
  | 59 => ⟨S1x16x2048x387x64, .f32⟩
  | 60 => ⟨S_, .f32⟩
  | 61 => ⟨S1x16x2048x387, .f32⟩
  | 62 => ⟨S_, .i32⟩
  | 63 => ⟨S2048x387, .i32⟩
  | 64 => ⟨S2048x387, .i1⟩
  | 65 => ⟨S_, .f32⟩
  | 66 => ⟨S_, .f32⟩
  | 67 => ⟨S1x16x2048x387, .i1⟩
  | 68 => ⟨S1x16x2048x387, .f32⟩
  | 69 => ⟨S1x16x2048x387, .f32⟩
  | 70 => ⟨S_, .f32⟩
  | 71 => ⟨S1x16x2048, .f32⟩
  | 72 => ⟨S_, .f32⟩
  | 73 => ⟨S1x16x2048, .f32⟩
  | 74 => ⟨S1x16x2048, .f32⟩
  | 75 => ⟨S1x16x2048x1, .f32⟩
  | 76 => ⟨S1x16x2048x387, .f32⟩
  | 77 => ⟨S1x16x2048x387, .f32⟩
  | 78 => ⟨S1x16x2048x387, .f32⟩
  | 79 => ⟨S_, .f32⟩
  | 80 => ⟨S1x16x2048, .f32⟩
  | 81 => ⟨S1x16x2048x1, .f32⟩
  | 82 => ⟨S1x16x2048x387, .f32⟩
  | 83 => ⟨S1x16x2048x387, .f32⟩
  | 84 => ⟨S1x16x2048x387x1, .f32⟩
  | 85 => ⟨S1x16x2048x387x64, .f32⟩
  | 86 => ⟨S1x16x2048x387x64, .f32⟩
  | 87 => ⟨S_, .f32⟩
  | 88 => ⟨S1x16x2048x64, .f32⟩
  | 89 => ⟨S1x2048x16x64, .f32⟩
  | 90 => ⟨S2048x1024, .f32⟩
  | 91 => ⟨S_, .f32⟩
  | 92 => ⟨S1x16x2048, .f32⟩
  | 93 => ⟨S1x16x2048x1, .f32⟩
  | 94 => ⟨S1x16x2048x387, .f32⟩
  | 95 => ⟨S1x16x2048x387, .f32⟩
  | 96 => ⟨S1x16x2048x387, .f32⟩
  | 97 => ⟨S_, .f32⟩
  | 98 => ⟨S1x16x2048, .f32⟩
  | 99 => ⟨S1x16x2048, .f32⟩
  | 100 => ⟨S1x16x2048, .f32⟩
  | 101 => ⟨S16x2048, .f32⟩
  | 102 => ⟨S2048x16, .f32⟩
  | 103 => ⟨S2048x16x64, .f32⟩
  | 104 => ⟨S2048x1024, .f32⟩
  | 105 => ⟨S2048x1024, .bf16⟩
  | 106 => ⟨S2048x1024, .bf16⟩
  | 107 => ⟨S2048x1024, .bf16⟩
  | 108 => ⟨S2048x3072, .bf16⟩
  | 109 => ⟨S512, .i32⟩
  | 110 => ⟨S4, .i32⟩
  | 111 => ⟨S4x1x1, .i32⟩
  | 112 => ⟨S_, .i32⟩
  | 113 => ⟨S4x1x1, .i32⟩
  | 114 => ⟨S4x1x1, .i32⟩
  | 115 => ⟨S1x512x1, .i32⟩
  | 116 => ⟨S4x512x1, .i32⟩
  | 117 => ⟨S4x512x1, .i32⟩
  | 118 => ⟨S4x512x1, .i32⟩
  | 119 => ⟨S1x1x512, .i32⟩
  | 120 => ⟨S4x512x512, .i32⟩
  | 121 => ⟨S4x512x512, .i32⟩
  | 122 => ⟨S4x512x512, .i32⟩
  | 123 => ⟨S_, .i32⟩
  | 124 => ⟨S4x512x512, .i32⟩
  | 125 => ⟨S4x512x512, .i1⟩
  | 126 => ⟨S_, .i32⟩
  | 127 => ⟨S4x512x512, .i32⟩
  | _ => ⟨S2048x1024, .f32⟩

abbrev hbmTy0_1 (i : Nat) : BufTy := match i % 128 with
  | 0 => ⟨S4x512x512, .i1⟩
  | 1 => ⟨S4x512x512, .i1⟩
  | 2 => ⟨S_, .f32⟩
  | 3 => ⟨S_, .f32⟩
  | 4 => ⟨S4x512x512, .f32⟩
  | 5 => ⟨S4x512x512, .f32⟩
  | 6 => ⟨S4x512x512, .f32⟩
  | 7 => ⟨S_, .i32⟩
  | 8 => ⟨S4x512x512, .i32⟩
  | 9 => ⟨S4x512x512, .i1⟩
  | 10 => ⟨S4x512x512, .i1⟩
  | 11 => ⟨S_, .i32⟩
  | 12 => ⟨S4x512x512, .i32⟩
  | 13 => ⟨S4x512x512, .i32⟩
  | 14 => ⟨S_, .i32⟩
  | 15 => ⟨S4x512x512, .i32⟩
  | 16 => ⟨S4x512x512, .i1⟩
  | 17 => ⟨S4x512x512, .i1⟩
  | 18 => ⟨S_, .f32⟩
  | 19 => ⟨S_, .f32⟩
  | 20 => ⟨S4x512x512, .f32⟩
  | 21 => ⟨S4x512x512, .f32⟩
  | 22 => ⟨S4x512x512, .f32⟩
  | 23 => ⟨S_, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S4x512x512, .i1⟩
  | 30 => ⟨S_, .f32⟩
  | 31 => ⟨S_, .f32⟩
  | 32 => ⟨S4x512x512, .f32⟩
  | 33 => ⟨S4x512x512, .f32⟩
  | 34 => ⟨S4x512x512, .f32⟩
  | 35 => ⟨S4x512x512, .f32⟩
  | 36 => ⟨S4x512x512, .f32⟩
  | 37 => ⟨S_, .f32⟩
  | 38 => ⟨S4x512x512, .f32⟩
  | 39 => ⟨S4x512x512, .i1⟩
  | 40 => ⟨S_, .f32⟩
  | 41 => ⟨S4x512x512, .f32⟩
  | 42 => ⟨S4x512x512, .f32⟩
  | 43 => ⟨S4x512x512, .f32⟩
  | 44 => ⟨S_, .f32⟩
  | 45 => ⟨S4x512x512, .f32⟩
  | 46 => ⟨S4x512x512, .f32⟩
  | 47 => ⟨S4x512x512, .f32⟩
  | 48 => ⟨S2048x1024, .f32⟩
  | 49 => ⟨S2048x1024, .f32⟩
  | 50 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S4x512x512, .f32⟩
  | .local _ .vmem, ⟨13, _⟩ => ⟨S2048x128, .f32⟩
  | .local _ .vmem, ⟨14, _⟩ => ⟨S2048x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_18 : Ref sig .tc := ⟨.hbm, 123, rfl⟩
abbrev main_v96 : Ref sig .tc := ⟨.hbm, 124, rfl⟩
abbrev main_v97 : Ref sig .tc := ⟨.hbm, 125, rfl⟩
abbrev main_c_19 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_20 : Ref sig .tc := ⟨.hbm, 130, rfl⟩
abbrev main_cst_21 : Ref sig .tc := ⟨.hbm, 131, rfl⟩
abbrev main_call1_v0 : Ref sig .tc := ⟨.hbm, 132, rfl⟩
abbrev main_call1_v1 : Ref sig .tc := ⟨.hbm, 133, rfl⟩
abbrev main_v101 : Ref sig .tc := ⟨.hbm, 134, rfl⟩
abbrev main_c_22 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_23 : Ref sig .tc := ⟨.hbm, 139, rfl⟩
abbrev main_v105 : Ref sig .tc := ⟨.hbm, 140, rfl⟩
abbrev main_v106 : Ref sig .tc := ⟨.hbm, 141, rfl⟩
abbrev main_c_24 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_25 : Ref sig .tc := ⟨.hbm, 146, rfl⟩
abbrev main_cst_26 : Ref sig .tc := ⟨.hbm, 147, rfl⟩
abbrev main_call2_v0 : Ref sig .tc := ⟨.hbm, 148, rfl⟩
abbrev main_call2_v1 : Ref sig .tc := ⟨.hbm, 149, rfl⟩
abbrev main_v110 : Ref sig .tc := ⟨.hbm, 150, rfl⟩
abbrev main_c_27 : Ref sig .tc := ⟨.hbm, 151, rfl⟩
abbrev main_v111 : Ref sig .tc := ⟨.hbm, 152, rfl⟩
abbrev main_v112 : Ref sig .tc := ⟨.hbm, 153, rfl⟩
abbrev main_c_28 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_29 : Ref sig .tc := ⟨.hbm, 158, rfl⟩
abbrev main_cst_30 : Ref sig .tc := ⟨.hbm, 159, rfl⟩
abbrev main_call3_v0 : Ref sig .tc := ⟨.hbm, 160, rfl⟩
abbrev main_call3_v1 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_31 : Ref sig .tc := ⟨.hbm, 165, rfl⟩
abbrev main_v119 : Ref sig .tc := ⟨.hbm, 166, rfl⟩
abbrev main_v120 : Ref sig .tc := ⟨.hbm, 167, rfl⟩
abbrev main_cst_32 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_33 : Ref sig .tc := ⟨.hbm, 172, rfl⟩
abbrev main_call4_v0 : Ref sig .tc := ⟨.hbm, 173, rfl⟩
abbrev main_v124 : Ref sig .tc := ⟨.hbm, 174, rfl⟩
abbrev main_v125 : Ref sig .tc := ⟨.hbm, 175, rfl⟩
abbrev main_v126_0 : Ref sig .tc := ⟨.hbm, 176, rfl⟩
abbrev main_v126_1 : Ref sig .tc := ⟨.hbm, 177, rfl⟩
abbrev main_v126_2 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_5 : BitVec 32 := 1#32
  ⟨arg1, v22, c1_i32_5⟩
def k0_mult1 (i : grid0.Coords) (k0_t1 : Fin (k0_t1_loop i).trips) : BitVec 32 :=
  let arg1 : BitVec 32 := BitVec.ofNat 32 (i 1).val
  let c1_i32_5 : BitVec 32 := 1#32
  let arg12 : BitVec 32 := Scf.iv arg1 c1_i32_5 k0_t1
  let c512_i32 : BitVec 32 := 512#32
  let v27 : BitVec 32 := Scalar.muli arg12 c512_i32
  v27
def k0_off1 (i : grid0.Coords) (k0_t1 : Fin (k0_t1_loop i).trips) : Fin 2 → Nat :=
  let arg1 : BitVec 32 := BitVec.ofNat 32 (i 1).val
  let c1_i32_5 : BitVec 32 := 1#32
  let arg12 : BitVec 32 := Scf.iv arg1 c1_i32_5 k0_t1
  let c512_i32 : BitVec 32 := 512#32
  let v27 : BitVec 32 := Scalar.muli arg12 c512_i32
  let v28 : BitVec 32 := v27
  let v29 : Index := Scalar.indexCast v28
  let c0_11 : Index := 0#32
  ![v29.toNat, 0]
def k0_off2 (i : grid0.Coords) (k0_t1 : Fin (k0_t1_loop i).trips) : Fin 3 → Nat :=
  let arg1 : BitVec 32 := BitVec.ofNat 32 (i 1).val
  let c1_i32_5 : BitVec 32 := 1#32
  let arg12 : BitVec 32 := Scf.iv arg1 c1_i32_5 k0_t1
  let v76 : BitVec 32 := Scalar.subi arg12 arg1
  let v77 : Index := Scalar.indexCast v76
  let c0_24 : Index := 0#32
  let c0_25 : Index := 0#32
  ![v77.toNat, 0, 0]
@[reducible] def k0_t2_loop (i : grid0.Coords) : Scf.Loop 32 :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let v19 : BitVec 32 := Scalar.addi arg1 v18
  let c1_i32_6 : BitVec 32 := 1#32
  ⟨v22, v19, c1_i32_6⟩
def k0_mult2 (i : grid0.Coords) (k0_t2 : Fin (k0_t2_loop i).trips) : BitVec 32 :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_6 : BitVec 32 := 1#32
  let arg12 : BitVec 32 := Scf.iv v22 c1_i32_6 k0_t2
  let c512_i32 : BitVec 32 := 512#32
  let v27 : BitVec 32 := Scalar.muli arg12 c512_i32
  v27
def k0_off3 (i : grid0.Coords) (k0_t2 : Fin (k0_t2_loop i).trips) : Fin 2 → Nat :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_6 : BitVec 32 := 1#32
  let arg12 : BitVec 32 := Scf.iv v22 c1_i32_6 k0_t2
  let c512_i32 : BitVec 32 := 512#32
  let v27 : BitVec 32 := Scalar.muli arg12 c512_i32
  let v28 : BitVec 32 := v27
  let v29 : Index := Scalar.indexCast v28
  let c0_11 : Index := 0#32
  ![v29.toNat, 0]
def k0_off4 (i : grid0.Coords) (k0_t2 : Fin (k0_t2_loop i).trips) : Fin 3 → Nat :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_6 : BitVec 32 := 1#32
  let arg12 : BitVec 32 := Scf.iv v22 c1_i32_6 k0_t2
  let v76 : BitVec 32 := Scalar.subi arg12 arg1
  let v77 : Index := Scalar.indexCast v76
  let c0_24 : Index := 0#32
  let c0_25 : Index := 0#32
  ![v77.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
abbrev S2048x1024 : Shape := ⟨2, ![2048, 1024]⟩
abbrev S1x2048x16x64 : Shape := ⟨4, ![1, 2048, 16, 64]⟩
abbrev S129 : Shape := ⟨1, ![129]⟩
abbrev S_ : Shape := ⟨0, ![]⟩
abbrev S387 : Shape := ⟨1, ![387]⟩
abbrev S1x16x2048x64 : Shape := ⟨4, ![1, 16, 2048, 64]⟩
abbrev S1x16x4096x64 : Shape := ⟨4, ![1, 16, 4096, 64]⟩
abbrev S2048 : Shape := ⟨1, ![2048]⟩
abbrev S2048x1 : Shape := ⟨2, ![2048, 1]⟩
abbrev S1x387 : Shape := ⟨2, ![1, 387]⟩
abbrev S2048x387 : Shape := ⟨2, ![2048, 387]⟩
abbrev S2048x387x1 : Shape := ⟨3, ![2048, 387, 1]⟩
abbrev S1x16x2048x387x64 : Shape := ⟨5, ![1, 16, 2048, 387, 64]⟩
abbrev S1x16x2048x1x64 : Shape := ⟨5, ![1, 16, 2048, 1, 64]⟩
abbrev S1x16x2048x387 : Shape := ⟨4, ![1, 16, 2048, 387]⟩
abbrev S1x16x2048 : Shape := ⟨3, ![1, 16, 2048]⟩
abbrev S1x16x2048x1 : Shape := ⟨4, ![1, 16, 2048, 1]⟩
abbrev S1x16x2048x387x1 : Shape := ⟨5, ![1, 16, 2048, 387, 1]⟩
abbrev S16x2048 : Shape := ⟨2, ![16, 2048]⟩
abbrev S2048x16 : Shape := ⟨2, ![2048, 16]⟩
abbrev S2048x16x64 : Shape := ⟨3, ![2048, 16, 64]⟩
abbrev S2048x3072 : Shape := ⟨2, ![2048, 3072]⟩
abbrev S512 : Shape := ⟨1, ![512]⟩
abbrev S4 : Shape := ⟨1, ![4]⟩
abbrev S4x1x1 : Shape := ⟨3, ![4, 1, 1]⟩
abbrev S1x512x1 : Shape := ⟨3, ![1, 512, 1]⟩
abbrev S4x512x1 : Shape := ⟨3, ![4, 512, 1]⟩
abbrev S1x1x512 : Shape := ⟨3, ![1, 1, 512]⟩
abbrev S4x512x512 : Shape := ⟨3, ![4, 512, 512]⟩
abbrev S2048x128 : Shape := ⟨2, ![2048, 128]⟩
abbrev S512x128 : Shape := ⟨2, ![512, 128]⟩
abbrev S1x128 : Shape := ⟨2, ![1, 128]⟩
abbrev S512x1 : Shape := ⟨2, ![512, 1]⟩
abbrev S1x512x512 : Shape := ⟨3, ![1, 512, 512]⟩
abbrev S512x512 : Shape := ⟨2, ![512, 512]⟩

abbrev nBuf : Space → Nat
  | .hbm => 179
  | .vmem => 19
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S1x2048x16x64, .f32⟩
  | 5 => ⟨S1x2048x16x64, .f32⟩
  | 6 => ⟨S1x2048x16x64, .f32⟩
  | 7 => ⟨S129, .i32⟩
  | 8 => ⟨S_, .i32⟩
  | 9 => ⟨S129, .i32⟩
  | 10 => ⟨S129, .i32⟩
  | 11 => ⟨S129, .i32⟩
  | 12 => ⟨S_, .i32⟩
  | 13 => ⟨S129, .i32⟩
  | 14 => ⟨S129, .i32⟩
  | 15 => ⟨S129, .i32⟩
  | 16 => ⟨S_, .i32⟩
  | 17 => ⟨S129, .i32⟩
  | 18 => ⟨S129, .i32⟩
  | 19 => ⟨S387, .i32⟩
  | 20 => ⟨S1x16x2048x64, .f32⟩
  | 21 => ⟨S_, .f32⟩
  | 22 => ⟨S1x16x2048x64, .f32⟩
  | 23 => ⟨S1x16x2048x64, .f32⟩
  | 24 => ⟨S1x16x4096x64, .f32⟩
  | 25 => ⟨S1x16x2048x64, .f32⟩
  | 26 => ⟨S1x16x4096x64, .f32⟩
  | 27 => ⟨S2048, .i32⟩
  | 28 => ⟨S2048x1, .i32⟩
  | 29 => ⟨S1x387, .i32⟩
  | 30 => ⟨S2048x387, .i32⟩
  | 31 => ⟨S2048x387, .i32⟩
  | 32 => ⟨S2048x387, .i32⟩
  | 33 => ⟨S_, .i32⟩
  | 34 => ⟨S2048x387, .i32⟩
  | 35 => ⟨S2048x387, .i32⟩
  | 36 => ⟨S_, .i32⟩
  | 37 => ⟨S2048x387, .i32⟩
  | 38 => ⟨S2048x387, .i1⟩
  | 39 => ⟨S_, .i32⟩
  | 40 => ⟨S2048x387, .i32⟩
  | 41 => ⟨S2048x387, .i32⟩
  | 42 => ⟨S2048x387, .i32⟩
  | 43 => ⟨S2048x387x1, .i32⟩
  | 44 => ⟨S1x16x2048x387x64, .f32⟩
  | 45 => ⟨S_, .i32⟩
  | 46 => ⟨S2048x387, .i32⟩
  | 47 => ⟨S2048x387, .i32⟩
  | 48 => ⟨S_, .i32⟩
  | 49 => ⟨S2048x387, .i32⟩
  | 50 => ⟨S2048x387, .i1⟩
  | 51 => ⟨S_, .i32⟩
  | 52 => ⟨S2048x387, .i32⟩
  | 53 => ⟨S2048x387, .i32⟩
  | 54 => ⟨S2048x387, .i32⟩
  | 55 => ⟨S2048x387x1, .i32⟩
  | 56 => ⟨S1x16x2048x387x64, .f32⟩
  | 57 => ⟨S1x16x2048x1x64, .f32⟩
  | 58 => ⟨S1x16x2048x387x64, .f32⟩
  | 59 => ⟨S1x16x2048x387x64, .f32⟩
  | 60 => ⟨S_, .f32⟩
  | 61 => ⟨S1x16x2048x387, .f32⟩
  | 62 => ⟨S_, .i32⟩
  | 63 => ⟨S2048x387, .i32⟩
  | 64 => ⟨S2048x387, .i1⟩
  | 65 => ⟨S_, .f32⟩
  | 66 => ⟨S_, .f32⟩
  | 67 => ⟨S1x16x2048x387, .i1⟩
  | 68 => ⟨S1x16x2048x387, .f32⟩
  | 69 => ⟨S1x16x2048x387, .f32⟩
  | 70 => ⟨S_, .f32⟩
  | 71 => ⟨S1x16x2048, .f32⟩
  | 72 => ⟨S_, .f32⟩
  | 73 => ⟨S1x16x2048, .f32⟩
  | 74 => ⟨S1x16x2048, .f32⟩
  | 75 => ⟨S1x16x2048x1, .f32⟩
  | 76 => ⟨S1x16x2048x387, .f32⟩
  | 77 => ⟨S1x16x2048x387, .f32⟩
  | 78 => ⟨S1x16x2048x387, .f32⟩
  | 79 => ⟨S_, .f32⟩
  | 80 => ⟨S1x16x2048, .f32⟩
  | 81 => ⟨S1x16x2048x1, .f32⟩
  | 82 => ⟨S1x16x2048x387, .f32⟩
  | 83 => ⟨S1x16x2048x387, .f32⟩
  | 84 => ⟨S1x16x2048x387x1, .f32⟩
  | 85 => ⟨S1x16x2048x387x64, .f32⟩
  | 86 => ⟨S1x16x2048x387x64, .f32⟩
  | 87 => ⟨S_, .f32⟩
  | 88 => ⟨S1x16x2048x64, .f32⟩
  | 89 => ⟨S1x2048x16x64, .f32⟩
  | 90 => ⟨S2048x1024, .f32⟩
  | 91 => ⟨S_, .f32⟩
  | 92 => ⟨S1x16x2048, .f32⟩
  | 93 => ⟨S1x16x2048x1, .f32⟩
  | 94 => ⟨S1x16x2048x387, .f32⟩
  | 95 => ⟨S1x16x2048x387, .f32⟩
  | 96 => ⟨S1x16x2048x387, .f32⟩
  | 97 => ⟨S_, .f32⟩
  | 98 => ⟨S1x16x2048, .f32⟩
  | 99 => ⟨S1x16x2048, .f32⟩
  | 100 => ⟨S1x16x2048, .f32⟩
  | 101 => ⟨S16x2048, .f32⟩
  | 102 => ⟨S2048x16, .f32⟩
  | 103 => ⟨S2048x16x64, .f32⟩
  | 104 => ⟨S2048x1024, .f32⟩
  | 105 => ⟨S2048x1024, .bf16⟩
  | 106 => ⟨S2048x1024, .bf16⟩
  | 107 => ⟨S2048x1024, .bf16⟩
  | 108 => ⟨S2048x3072, .bf16⟩
  | 109 => ⟨S512, .i32⟩
  | 110 => ⟨S4, .i32⟩
  | 111 => ⟨S4x1x1, .i32⟩
  | 112 => ⟨S_, .i32⟩
  | 113 => ⟨S4x1x1, .i32⟩
  | 114 => ⟨S4x1x1, .i32⟩
  | 115 => ⟨S1x512x1, .i32⟩
  | 116 => ⟨S4x512x1, .i32⟩
  | 117 => ⟨S4x512x1, .i32⟩
  | 118 => ⟨S4x512x1, .i32⟩
  | 119 => ⟨S1x1x512, .i32⟩
  | 120 => ⟨S4x512x512, .i32⟩
  | 121 => ⟨S4x512x512, .i32⟩
  | 122 => ⟨S4x512x512, .i32⟩
  | 123 => ⟨S_, .i32⟩
  | 124 => ⟨S4x512x512, .i32⟩
  | 125 => ⟨S4x512x512, .i1⟩
  | 126 => ⟨S_, .i32⟩
  | 127 => ⟨S4x512x512, .i32⟩
  | _ => ⟨S2048x1024, .f32⟩

abbrev hbmTy0_1 (i : Nat) : BufTy := match i % 128 with
  | 0 => ⟨S4x512x512, .i1⟩
  | 1 => ⟨S4x512x512, .i1⟩
  | 2 => ⟨S_, .f32⟩
  | 3 => ⟨S_, .f32⟩
  | 4 => ⟨S4x512x512, .f32⟩
  | 5 => ⟨S4x512x512, .f32⟩
  | 6 => ⟨S4x512x512, .f32⟩
  | 7 => ⟨S_, .i32⟩
  | 8 => ⟨S4x512x512, .i32⟩
  | 9 => ⟨S4x512x512, .i1⟩
  | 10 => ⟨S4x512x512, .i1⟩
  | 11 => ⟨S_, .i32⟩
  | 12 => ⟨S4x512x512, .i32⟩
  | 13 => ⟨S4x512x512, .i32⟩
  | 14 => ⟨S_, .i32⟩
  | 15 => ⟨S4x512x512, .i32⟩
  | 16 => ⟨S4x512x512, .i1⟩
  | 17 => ⟨S4x512x512, .i1⟩
  | 18 => ⟨S_, .f32⟩
  | 19 => ⟨S_, .f32⟩
  | 20 => ⟨S4x512x512, .f32⟩
  | 21 => ⟨S4x512x512, .f32⟩
  | 22 => ⟨S4x512x512, .f32⟩
  | 23 => ⟨S_, .i32⟩
  | 24 => ⟨S4x512x512, .i32⟩
  | 25 => ⟨S4x512x512, .i32⟩
  | 26 => ⟨S_, .i32⟩
  | 27 => ⟨S4x512x512, .i32⟩
  | 28 => ⟨S4x512x512, .i1⟩
  | 29 => ⟨S4x512x512, .i1⟩
  | 30 => ⟨S_, .f32⟩
  | 31 => ⟨S_, .f32⟩
  | 32 => ⟨S4x512x512, .f32⟩
  | 33 => ⟨S4x512x512, .f32⟩
  | 34 => ⟨S4x512x512, .f32⟩
  | 35 => ⟨S4x512x512, .f32⟩
  | 36 => ⟨S4x512x512, .f32⟩
  | 37 => ⟨S_, .f32⟩
  | 38 => ⟨S4x512x512, .f32⟩
  | 39 => ⟨S4x512x512, .i1⟩
  | 40 => ⟨S_, .f32⟩
  | 41 => ⟨S4x512x512, .f32⟩
  | 42 => ⟨S4x512x512, .f32⟩
  | 43 => ⟨S4x512x512, .f32⟩
  | 44 => ⟨S_, .f32⟩
  | 45 => ⟨S4x512x512, .f32⟩
  | 46 => ⟨S4x512x512, .f32⟩
  | 47 => ⟨S4x512x512, .f32⟩
  | 48 => ⟨S2048x1024, .f32⟩
  | 49 => ⟨S2048x1024, .f32⟩
  | 50 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S4x512x512, .f32⟩
  | .local _ .vmem, ⟨13, _⟩ => ⟨S2048x128, .f32⟩
  | .local _ .vmem, ⟨14, _⟩ => ⟨S2048x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_18 : Ref sig .tc := ⟨.hbm, 123, rfl⟩
abbrev main_v96 : Ref sig .tc := ⟨.hbm, 124, rfl⟩
abbrev main_v97 : Ref sig .tc := ⟨.hbm, 125, rfl⟩
abbrev main_c_19 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_20 : Ref sig .tc := ⟨.hbm, 130, rfl⟩
abbrev main_cst_21 : Ref sig .tc := ⟨.hbm, 131, rfl⟩
abbrev main_call1_v0 : Ref sig .tc := ⟨.hbm, 132, rfl⟩
abbrev main_call1_v1 : Ref sig .tc := ⟨.hbm, 133, rfl⟩
abbrev main_v101 : Ref sig .tc := ⟨.hbm, 134, rfl⟩
abbrev main_c_22 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_23 : Ref sig .tc := ⟨.hbm, 139, rfl⟩
abbrev main_v105 : Ref sig .tc := ⟨.hbm, 140, rfl⟩
abbrev main_v106 : Ref sig .tc := ⟨.hbm, 141, rfl⟩
abbrev main_c_24 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_25 : Ref sig .tc := ⟨.hbm, 146, rfl⟩
abbrev main_cst_26 : Ref sig .tc := ⟨.hbm, 147, rfl⟩
abbrev main_call2_v0 : Ref sig .tc := ⟨.hbm, 148, rfl⟩
abbrev main_call2_v1 : Ref sig .tc := ⟨.hbm, 149, rfl⟩
abbrev main_v110 : Ref sig .tc := ⟨.hbm, 150, rfl⟩
abbrev main_c_27 : Ref sig .tc := ⟨.hbm, 151, rfl⟩
abbrev main_v111 : Ref sig .tc := ⟨.hbm, 152, rfl⟩
abbrev main_v112 : Ref sig .tc := ⟨.hbm, 153, rfl⟩
abbrev main_c_28 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_29 : Ref sig .tc := ⟨.hbm, 158, rfl⟩
abbrev main_cst_30 : Ref sig .tc := ⟨.hbm, 159, rfl⟩
abbrev main_call3_v0 : Ref sig .tc := ⟨.hbm, 160, rfl⟩
abbrev main_call3_v1 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_31 : Ref sig .tc := ⟨.hbm, 165, rfl⟩
abbrev main_v119 : Ref sig .tc := ⟨.hbm, 166, rfl⟩
abbrev main_v120 : Ref sig .tc := ⟨.hbm, 167, rfl⟩
abbrev main_cst_32 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_33 : Ref sig .tc := ⟨.hbm, 172, rfl⟩
abbrev main_call4_v0 : Ref sig .tc := ⟨.hbm, 173, rfl⟩
abbrev main_v124 : Ref sig .tc := ⟨.hbm, 174, rfl⟩
abbrev main_v125 : Ref sig .tc := ⟨.hbm, 175, rfl⟩
abbrev main_v126_0 : Ref sig .tc := ⟨.hbm, 176, rfl⟩
abbrev main_v126_1 : Ref sig .tc := ⟨.hbm, 177, rfl⟩
abbrev main_v126_2 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_5 : BitVec 32 := 1#32
  ⟨arg1, v22, c1_i32_5⟩
def k0_mult1 (i : grid0.Coords) (k0_t1 : Fin (k0_t1_loop i).trips) : BitVec 32 :=
  let arg1 : BitVec 32 := BitVec.ofNat 32 (i 1).val
  let c1_i32_5 : BitVec 32 := 1#32
  let arg12 : BitVec 32 := Scf.iv arg1 c1_i32_5 k0_t1
  let c512_i32 : BitVec 32 := 512#32
  let v27 : BitVec 32 := Scalar.muli arg12 c512_i32
  v27
def k0_off1 (i : grid0.Coords) (k0_t1 : Fin (k0_t1_loop i).trips) : Fin 2 → Nat :=
  let arg1 : BitVec 32 := BitVec.ofNat 32 (i 1).val
  let c1_i32_5 : BitVec 32 := 1#32
  let arg12 : BitVec 32 := Scf.iv arg1 c1_i32_5 k0_t1
  let c512_i32 : BitVec 32 := 512#32
  let v27 : BitVec 32 := Scalar.muli arg12 c512_i32
  let v28 : BitVec 32 := v27
  let v29 : Index := Scalar.indexCast v28
  let c0_11 : Index := 0#32
  ![v29.toNat, 0]
def k0_off2 (i : grid0.Coords) (k0_t1 : Fin (k0_t1_loop i).trips) : Fin 3 → Nat :=
  let arg1 : BitVec 32 := BitVec.ofNat 32 (i 1).val
  let c1_i32_5 : BitVec 32 := 1#32
  let arg12 : BitVec 32 := Scf.iv arg1 c1_i32_5 k0_t1
  let v76 : BitVec 32 := Scalar.subi arg12 arg1
  let v77 : Index := Scalar.indexCast v76
  let c0_24 : Index := 0#32
  let c0_25 : Index := 0#32
  ![v77.toNat, 0, 0]
@[reducible] def k0_t2_loop (i : grid0.Coords) : Scf.Loop 32 :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let v19 : BitVec 32 := Scalar.addi arg1 v18
  let c1_i32_6 : BitVec 32 := 1#32
  ⟨v22, v19, c1_i32_6⟩
def k0_mult2 (i : grid0.Coords) (k0_t2 : Fin (k0_t2_loop i).trips) : BitVec 32 :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_6 : BitVec 32 := 1#32
  let arg12 : BitVec 32 := Scf.iv v22 c1_i32_6 k0_t2
  let c512_i32 : BitVec 32 := 512#32
  let v27 : BitVec 32 := Scalar.muli arg12 c512_i32
  v27
def k0_off3 (i : grid0.Coords) (k0_t2 : Fin (k0_t2_loop i).trips) : Fin 2 → Nat :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_6 : BitVec 32 := 1#32
  let arg12 : BitVec 32 := Scf.iv v22 c1_i32_6 k0_t2
  let c512_i32 : BitVec 32 := 512#32
  let v27 : BitVec 32 := Scalar.muli arg12 c512_i32
  let v28 : BitVec 32 := v27
  let v29 : Index := Scalar.indexCast v28
  let c0_11 : Index := 0#32
  ![v29.toNat, 0]
def k0_off4 (i : grid0.Coords) (k0_t2 : Fin (k0_t2_loop i).trips) : Fin 3 → Nat :=
  let arg1 : BitVec 32 := BitVec.ofNat 32 (i 1).val
  let c4_i32 : BitVec 32 := 4#32
  let v18 : BitVec 32 := Scalar.subi c4_i32 arg1
  let c1_i32 : BitVec 32 := 1#32
  let v20 : BitVec 32 := Scalar.divsi v18 c1_i32
  let v21 : BitVec 32 := Scalar.muli v20 c1_i32
  let v22 : BitVec 32 := Scalar.addi arg1 v21
  let c1_i32_6 : BitVec 32 := 1#32
  let arg12 : BitVec 32 := Scf.iv v22 c1_i32_6 k0_t2
  let v76 : BitVec 32 := Scalar.subi arg12 arg1
  let v77 : Index := Scalar.indexCast v76
  let c0_24 : Index := 0#32
  let c0_25 : Index := 0#32
  ![v77.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2048x1024 : Shape := ⟨2, ![2048, 1024]⟩
abbrev S1x2048x16x64 : Shape := ⟨4, ![1, 2048, 16, 64]⟩
abbrev S129 : Shape := ⟨1, ![129]⟩
abbrev S_ : Shape := ⟨0, ![]⟩
abbrev S387 : Shape := ⟨1, ![387]⟩
abbrev S1x16x2048x64 : Shape := ⟨4, ![1, 16, 2048, 64]⟩
abbrev S1x16x4096x64 : Shape := ⟨4, ![1, 16, 4096, 64]⟩
abbrev S2048 : Shape := ⟨1, ![2048]⟩
abbrev S2048x1 : Shape := ⟨2, ![2048, 1]⟩
abbrev S1x387 : Shape := ⟨2, ![1, 387]⟩
abbrev S2048x387 : Shape := ⟨2, ![2048, 387]⟩
abbrev S2048x387x1 : Shape := ⟨3, ![2048, 387, 1]⟩
abbrev S1x16x2048x387x64 : Shape := ⟨5, ![1, 16, 2048, 387, 64]⟩
abbrev S1x16x2048x1x64 : Shape := ⟨5, ![1, 16, 2048, 1, 64]⟩
abbrev S1x16x2048x387 : Shape := ⟨4, ![1, 16, 2048, 387]⟩
abbrev S1x16x2048 : Shape := ⟨3, ![1, 16, 2048]⟩
abbrev S1x16x2048x1 : Shape := ⟨4, ![1, 16, 2048, 1]⟩
abbrev S1x16x2048x387x1 : Shape := ⟨5, ![1, 16, 2048, 387, 1]⟩
abbrev S16x2048x387 : Shape := ⟨3, ![16, 2048, 387]⟩
abbrev S16x2048 : Shape := ⟨2, ![16, 2048]⟩
abbrev S16x2048x64 : Shape := ⟨3, ![16, 2048, 64]⟩

abbrev nBuf : Space → Nat
  | .hbm => 177
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S1x2048x16x64, .f32⟩
  | 5 => ⟨S1x2048x16x64, .f32⟩
  | 6 => ⟨S1x2048x16x64, .f32⟩
  | 7 => ⟨S129, .i32⟩
  | 8 => ⟨S_, .i32⟩
  | 9 => ⟨S129, .i32⟩
  | 10 => ⟨S129, .i32⟩
  | 11 => ⟨S129, .i32⟩
  | 12 => ⟨S_, .i32⟩
  | 13 => ⟨S129, .i32⟩
  | 14 => ⟨S129, .i32⟩
  | 15 => ⟨S129, .i32⟩
  | 16 => ⟨S_, .i32⟩
  | 17 => ⟨S129, .i32⟩
  | 18 => ⟨S129, .i32⟩
  | 19 => ⟨S387, .i32⟩
  | 20 => ⟨S1x16x2048x64, .f32⟩
  | 21 => ⟨S_, .f32⟩
  | 22 => ⟨S1x16x2048x64, .f32⟩
  | 23 => ⟨S1x16x2048x64, .f32⟩
  | 24 => ⟨S1x16x4096x64, .f32⟩
  | 25 => ⟨S_, .f32⟩
  | 26 => ⟨S1x16x2048x64, .f32⟩
  | 27 => ⟨S1x16x2048x64, .f32⟩
  | 28 => ⟨S1x16x4096x64, .f32⟩
  | 29 => ⟨S_, .f32⟩
  | 30 => ⟨S1x16x2048x64, .f32⟩
  | 31 => ⟨S2048, .i32⟩
  | 32 => ⟨S2048x1, .i32⟩
  | 33 => ⟨S1x387, .i32⟩
  | 34 => ⟨S2048x387, .i32⟩
  | 35 => ⟨S2048x387, .i32⟩
  | 36 => ⟨S2048x387, .i32⟩
  | 37 => ⟨S_, .i32⟩
  | 38 => ⟨S2048x387, .i32⟩
  | 39 => ⟨S2048x387, .i32⟩
  | 40 => ⟨S_, .i32⟩
  | 41 => ⟨S2048x387, .i32⟩
  | 42 => ⟨S2048x387, .i1⟩
  | 43 => ⟨S_, .i32⟩
  | 44 => ⟨S2048x387, .i32⟩
  | 45 => ⟨S2048x387, .i32⟩
  | 46 => ⟨S2048x387, .i32⟩
  | 47 => ⟨S2048x387x1, .i32⟩
  | 48 => ⟨S1x16x2048x387x64, .f32⟩
  | 49 => ⟨S_, .i32⟩
  | 50 => ⟨S2048x387, .i32⟩
  | 51 => ⟨S2048x387, .i32⟩
  | 52 => ⟨S_, .i32⟩
  | 53 => ⟨S2048x387, .i32⟩
  | 54 => ⟨S2048x387, .i1⟩
  | 55 => ⟨S_, .i32⟩
  | 56 => ⟨S2048x387, .i32⟩
  | 57 => ⟨S2048x387, .i32⟩
  | 58 => ⟨S2048x387, .i32⟩
  | 59 => ⟨S2048x387x1, .i32⟩
  | 60 => ⟨S1x16x2048x387x64, .f32⟩
  | 61 => ⟨S1x16x2048x1x64, .f32⟩
  | 62 => ⟨S1x16x2048x387x64, .f32⟩
  | 63 => ⟨S1x16x2048x387x64, .f32⟩
  | 64 => ⟨S_, .f32⟩
  | 65 => ⟨S1x16x2048x387, .f32⟩
  | 66 => ⟨S_, .i32⟩
  | 67 => ⟨S2048x387, .i32⟩
  | 68 => ⟨S2048x387, .i1⟩
  | 69 => ⟨S_, .f32⟩
  | 70 => ⟨S_, .f32⟩
  | 71 => ⟨S1x16x2048x387, .i1⟩
  | 72 => ⟨S1x16x2048x387, .f32⟩
  | 73 => ⟨S1x16x2048x387, .f32⟩
  | 74 => ⟨S_, .f32⟩
  | 75 => ⟨S1x16x2048x387, .f32⟩
  | 76 => ⟨S_, .f32⟩
  | 77 => ⟨S1x16x2048, .f32⟩
  | 78 => ⟨S1x16x2048x1, .f32⟩
  | 79 => ⟨S1x16x2048x387, .f32⟩
  | 80 => ⟨S1x16x2048x387, .i1⟩
  | 81 => ⟨S1x16x2048x387, .f32⟩
  | 82 => ⟨S_, .f32⟩
  | 83 => ⟨S1x16x2048, .f32⟩
  | 84 => ⟨S_, .f32⟩
  | 85 => ⟨S1x16x2048, .f32⟩
  | 86 => ⟨S1x16x2048, .f32⟩
  | 87 => ⟨S_, .f32⟩
  | 88 => ⟨S1x16x2048, .f32⟩
  | 89 => ⟨S1x16x2048, .i1⟩
  | 90 => ⟨S_, .f32⟩
  | 91 => ⟨S1x16x2048, .f32⟩
  | 92 => ⟨S1x16x2048, .i1⟩
  | 93 => ⟨S_, .f32⟩
  | 94 => ⟨S1x16x2048, .f32⟩
  | 95 => ⟨S_, .f32⟩
  | 96 => ⟨S1x16x2048, .f32⟩
  | 97 => ⟨S_, .f32⟩
  | 98 => ⟨S1x16x2048, .f32⟩
  | 99 => ⟨S1x16x2048, .f32⟩
  | 100 => ⟨S1x16x2048, .f32⟩
  | 101 => ⟨S1x16x2048x1, .f32⟩
  | 102 => ⟨S1x16x2048x387, .f32⟩
  | 103 => ⟨S1x16x2048x387, .f32⟩
  | 104 => ⟨S1x16x2048x387, .f32⟩
  | 105 => ⟨S_, .f32⟩
  | 106 => ⟨S1x16x2048, .f32⟩
  | 107 => ⟨S1x16x2048x1, .f32⟩
  | 108 => ⟨S1x16x2048x387, .f32⟩
  | 109 => ⟨S1x16x2048x387, .f32⟩
  | 110 => ⟨S1x16x2048x1, .f32⟩
  | 111 => ⟨S_, .f32⟩
  | 112 => ⟨S1x16x2048x1, .f32⟩
  | 113 => ⟨S1x16x2048x1, .f32⟩
  | 114 => ⟨S1x16x2048x387x1, .f32⟩
  | 115 => ⟨S1x16x2048x387x64, .f32⟩
  | 116 => ⟨S1x16x2048x387x64, .f32⟩
  | 117 => ⟨S_, .f32⟩
  | 118 => ⟨S1x16x2048x64, .f32⟩
  | 119 => ⟨S1x2048x16x64, .f32⟩
  | 120 => ⟨S2048x1024, .f32⟩
  | 121 => ⟨S1x2048x16x64, .f32⟩
  | 122 => ⟨S1x16x2048x64, .f32⟩
  | 123 => ⟨S1x16x2048x387x64, .f32⟩
  | 124 => ⟨S1x16x2048x387x64, .f32⟩
  | 125 => ⟨S1x16x2048x387x64, .f32⟩
  | 126 => ⟨S1x16x2048x387x64, .f32⟩
  | 127 => ⟨S_, .f32⟩
  | _ => ⟨S2048x1024, .f32⟩

abbrev hbmTy0_1 (i : Nat) : BufTy := match i % 128 with
  | 0 => ⟨S1x16x2048x387, .f32⟩
  | 1 => ⟨S1x16x2048x387x1, .f32⟩
  | 2 => ⟨S_, .f32⟩
  | 3 => ⟨S16x2048x387, .f32⟩
  | 4 => ⟨S1x16x2048x387, .f32⟩
  | 5 => ⟨S1x16x2048x387, .f32⟩
  | 6 => ⟨S1x16x2048x387, .f32⟩
  | 7 => ⟨S1x16x2048x387, .f32⟩
  | 8 => ⟨S_, .f32⟩
  | 9 => ⟨S1x16x2048, .f32⟩
  | 10 => ⟨S1x16x2048x1, .f32⟩
  | 11 => ⟨S1x16x2048x1, .f32⟩
  | 12 => ⟨S1x16x2048x387, .f32⟩
  | 13 => ⟨S1x16x2048x387, .f32⟩
  | 14 => ⟨S_, .f32⟩
  | 15 => ⟨S16x2048, .f32⟩
  | 16 => ⟨S1x16x2048, .f32⟩
  | 17 => ⟨S1x16x2048x387, .f32⟩
  | 18 => ⟨S1x16x2048x387, .f32⟩
  | 19 => ⟨S1x16x2048x387, .f32⟩
  | 20 => ⟨S_, .f32⟩
  | 21 => ⟨S1x16x2048x387, .f32⟩
  | 22 => ⟨S1x16x2048x387, .f32⟩
  | 23 => ⟨S1x16x2048x387x64, .f32⟩
  | 24 => ⟨S1x16x2048x387x64, .f32⟩
  | 25 => ⟨S1x16x2048x387x64, .f32⟩
  | 26 => ⟨S1x16x2048x387x64, .f32⟩
  | 27 => ⟨S_, .f32⟩
  | 28 => ⟨S1x16x2048x64, .f32⟩
  | 29 => ⟨S1x16x2048x1x64, .f32⟩
  | 30 => ⟨S_, .f32⟩
  | 31 => ⟨S16x2048x64, .f32⟩
  | 32 => ⟨S1x16x2048x64, .f32⟩
  | 33 => ⟨S_, .f32⟩
  | 34 => ⟨S1x16x4096x64, .f32⟩
  | 35 => ⟨S1x16x4096x64, .f32⟩
  | 36 => ⟨S_, .f32⟩
  | 37 => ⟨S1x16x4096x64, .f32⟩
  | 38 => ⟨S1x16x4096x64, .f32⟩
  | 39 => ⟨S1x16x2048x64, .f32⟩
  | 40 => ⟨S1x16x2048x64, .f32⟩
  | 41 => ⟨S1x2048x16x64, .f32⟩
  | 42 => ⟨S1x16x2048x64, .f32⟩
  | 43 => ⟨S1x16x2048x64, .f32⟩
  | 44 => ⟨S1x2048x16x64, .f32⟩
  | 45 => ⟨S1x2048x16x64, .f32⟩
  | 46 => ⟨S2048x1024, .f32⟩
  | 47 => ⟨S2048x1024, .f32⟩
  | 48 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_call0_v0 : Ref sig .tc := ⟨.hbm, 70, rfl⟩
abbrev main_v51_1 : Ref sig .tc := ⟨.hbm, 71, rfl⟩
abbrev main_call0_v2 : Ref sig .tc := ⟨.hbm, 72, rfl⟩
abbrev main_v51_0 : Ref sig .tc := ⟨.hbm, 73, rfl⟩
abbrev main_call0_cst : Ref sig .tc := ⟨.hbm, 74, rfl⟩
abbrev main_v51_2 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_cst_19 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_21 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_22 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_23 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_24 : Ref sig .tc := ⟨.hbm, 127, rfl⟩
abbrev main_v92 : Ref sig .tc := ⟨.hbm, 128, rfl⟩
abbrev main_v93 : Ref sig .tc := ⟨.hbm, 129, rfl⟩
abbrev main_cst_25 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_27 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call1_cst : Ref sig .tc := ⟨.hbm, 148, rfl⟩
abbrev main_call1_v0 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_28 : Ref sig .tc := ⟨.hbm, 155, rfl⟩
abbrev main_v114 : Ref sig .tc := ⟨.hbm, 156, rfl⟩
abbrev main_v115 : Ref sig .tc := ⟨.hbm, 157, rfl⟩
abbrev main_cst_29 : Ref sig .tc := ⟨.hbm, 158, rfl⟩
abbrev main_v116 : Ref sig .tc := ⟨.hbm, 159, rfl⟩
abbrev main_v117 : Ref sig .tc := ⟨.hbm, 160, rfl⟩
abbrev main_cst_30 : Ref sig .tc := ⟨.hbm, 161, rfl⟩
abbrev main_v118 : Ref sig .tc := ⟨.hbm, 162, rfl⟩
abbrev main_v119 : Ref sig .tc := ⟨.hbm, 163, rfl⟩
abbrev main_cst_31 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]
-- ==== Kernel2.lean ====
abbrev S2048x1024 : Shape := ⟨2, ![2048, 1024]⟩
abbrev S2048x5120 : Shape := ⟨2, ![2048, 5120]⟩
abbrev S8x1024x640 : Shape := ⟨3, ![8, 1024, 640]⟩
abbrev S2048x1280 : Shape := ⟨2, ![2048, 1280]⟩
abbrev S2x1024x640 : Shape := ⟨3, ![2, 1024, 640]⟩
abbrev S8x128 : Shape := ⟨2, ![8, 128]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x5120, .f32⟩
  | .hbm, ⟨2, _⟩ => ⟨S2048x1024, .bf16⟩
  | .hbm, ⟨3, _⟩ => ⟨S2048x5120, .bf16⟩
  | .hbm, ⟨4, _⟩ => ⟨S8x1024x640, .bf16⟩
  | .local _ .vmem, ⟨0, _⟩ => ⟨S2048x1024, .bf16⟩
  | .local _ .vmem, ⟨1, _⟩ => ⟨S2048x1280, .bf16⟩
  | .local _ .vmem, ⟨2, _⟩ => ⟨S2048x1280, .bf16⟩
  | .local _ .vmem, ⟨3, _⟩ => ⟨S2x1024x640, .bf16⟩
  | .local _ .vmem, ⟨4, _⟩ => ⟨S2x1024x640, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S2048x1024 : Shape := ⟨2, ![2048, 1024]⟩
abbrev S2048x5120 : Shape := ⟨2, ![2048, 5120]⟩
abbrev S8x1024x640 : Shape := ⟨3, ![8, 1024, 640]⟩
abbrev S2048x1280 : Shape := ⟨2, ![2048, 1280]⟩
abbrev S2x1024x640 : Shape := ⟨3, ![2, 1024, 640]⟩
abbrev S8x128 : Shape := ⟨2, ![8, 128]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x5120, .f32⟩
  | .hbm, ⟨2, _⟩ => ⟨S2048x1024, .bf16⟩
  | .hbm, ⟨3, _⟩ => ⟨S2048x5120, .bf16⟩
  | .hbm, ⟨4, _⟩ => ⟨S8x1024x640, .bf16⟩
  | .local _ .vmem, ⟨0, _⟩ => ⟨S2048x1024, .bf16⟩
  | .local _ .vmem, ⟨1, _⟩ => ⟨S2048x1280, .bf16⟩
  | .local _ .vmem, ⟨2, _⟩ => ⟨S2048x1280, .bf16⟩
  | .local _ .vmem, ⟨3, _⟩ => ⟨S2x1024x640, .bf16⟩
  | .local _ .vmem, ⟨4, _⟩ => ⟨S2x1024x640, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S2048x5120 : Shape := ⟨2, ![2048, 5120]⟩
abbrev S_ : Shape := ⟨0, ![]⟩
abbrev S1024x5120 : Shape := ⟨2, ![1024, 5120]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5120, .f32⟩
  | .hbm, ⟨2, _⟩ => ⟨S_, .f32⟩
  | .hbm, ⟨3, _⟩ => ⟨S1024x5120, .f32⟩
  | .hbm, ⟨4, _⟩ => ⟨S2048x5120, .f32⟩
  | .hbm, ⟨5, _⟩ => ⟨S5120x1024, .f32⟩
  | .hbm, ⟨6, _⟩ => ⟨S1024x5120, .f32⟩
  | .hbm, ⟨7, _⟩ => ⟨S1024x5120, .bf16⟩
  | .hbm, ⟨8, _⟩ => ⟨S1024x8x640, .bf16⟩
  | .hbm, ⟨9, _⟩ => ⟨S8x1024x640, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x5120 : Shape := ⟨2, ![2048, 5120]⟩
abbrev S1024x5120 : Shape := ⟨2, ![1024, 5120]⟩
abbrev S1024x8x640 : Shape := ⟨3, ![1024, 8, 640]⟩
abbrev S8x1024x640 : Shape := ⟨3, ![8, 1024, 640]⟩
abbrev S2048x1024 : Shape := ⟨2, ![2048, 1024]⟩
abbrev S1024x1280 : Shape := ⟨2, ![1024, 1280]⟩
abbrev S2x1024x640 : Shape := ⟨3, ![2, 1024, 640]⟩
abbrev S1024x1024 : Shape := ⟨2, ![1024, 1024]⟩
abbrev S1x1024x640 : Shape := ⟨3, ![1, 1024, 640]⟩
abbrev S1024x640 : Shape := ⟨2, ![1024, 640]⟩

abbrev nBuf : Space → Nat
  | .hbm => 7
  | .vmem => 7
  | .smem => 0
  | _ => 0

abbrev bufTy : (tb : Table) → Fin (tcTables nBuf tb) → BufTy
  | .hbm, ⟨0, _⟩ => ⟨S2048x5120, .f32⟩
  | .hbm, ⟨1, _⟩ => ⟨S1024x5120, .f32⟩
  | .hbm, ⟨2, _⟩ => ⟨S2048x5120, .bf16⟩
  | .hbm, ⟨3, _⟩ => ⟨S1024x5120, .bf16⟩
  | .hbm, ⟨4, _⟩ => ⟨S1024x8x640, .bf16⟩
  | .hbm, ⟨5, _⟩ => ⟨S8x1024x640, .bf16⟩
  | .hbm, ⟨6, _⟩ => ⟨S2048x1024, .f32⟩
  | .local _ .vmem, ⟨0, _⟩ => ⟨S1024x1280, .bf16⟩
  | .local _ .vmem, ⟨1, _⟩ => ⟨S1024x1280, .bf16⟩
  | .local _ .vmem, ⟨2, _⟩ => ⟨S2x1024x640, .bf16⟩
  | .local _ .vmem, ⟨3, _⟩ => ⟨S2x1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_9 : BitVec 32 := 3#32
  let v16 : BitVec 1 := Scalar.cmpi .eq arg2 c3_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S2048x5120 : Shape := ⟨2, ![2048, 5120]⟩
abbrev S1024x5120 : Shape := ⟨2, ![1024, 5120]⟩
abbrev S1024x8x640 : Shape := ⟨3, ![1024, 8, 640]⟩
abbrev S8x1024x640 : Shape := ⟨3, ![8, 1024, 640]⟩
abbrev S2048x1024 : Shape := ⟨2, ![2048, 1024]⟩
abbrev S1024x1280 : Shape := ⟨2, ![1024, 1280]⟩
abbrev S2x1024x640 : Shape := ⟨3, ![2, 1024, 640]⟩
abbrev S1024x1024 : Shape := ⟨2, ![1024, 1024]⟩
abbrev S1x1024x640 : Shape := ⟨3, ![1, 1024, 640]⟩
abbrev S1024x640 : Shape := ⟨2, ![1024, 640]⟩

abbrev nBuf : Space → Nat
  | .hbm => 7
  | .vmem => 7
  | .smem => 0
  | _ => 0

abbrev bufTy : (tb : Table) → Fin (tcTables nBuf tb) → BufTy
  | .hbm, ⟨0, _⟩ => ⟨S2048x5120, .f32⟩
  | .hbm, ⟨1, _⟩ => ⟨S1024x5120, .f32⟩
  | .hbm, ⟨2, _⟩ => ⟨S2048x5120, .bf16⟩
  | .hbm, ⟨3, _⟩ => ⟨S1024x5120, .bf16⟩
  | .hbm, ⟨4, _⟩ => ⟨S1024x8x640, .bf16⟩
  | .hbm, ⟨5, _⟩ => ⟨S8x1024x640, .bf16⟩
  | .hbm, ⟨6, _⟩ => ⟨S2048x1024, .f32⟩
  | .local _ .vmem, ⟨0, _⟩ => ⟨S1024x1280, .bf16⟩
  | .local _ .vmem, ⟨1, _⟩ => ⟨S1024x1280, .bf16⟩
  | .local _ .vmem, ⟨2, _⟩ => ⟨S2x1024x640, .bf16⟩
  | .local _ .vmem, ⟨3, _⟩ => ⟨S2x1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_9 : BitVec 32 := 3#32
  let v16 : BitVec 1 := Scalar.cmpi .eq arg2 c3_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5120 : Shape := ⟨2, ![2048, 5120]⟩
abbrev S1024x5120 : Shape := ⟨2, ![1024, 5120]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S1024x5120, .f32⟩
  | .hbm, ⟨2, _⟩ => ⟨S_, .f32⟩
  | .hbm, ⟨3, _⟩ => ⟨S2048x1024, .f32⟩
  | .hbm, ⟨4, _⟩ => ⟨S2048x5120, .f32⟩
  | .hbm, ⟨5, _⟩ => ⟨S2048x1024, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S8x1024x512 : Shape := ⟨3, ![8, 1024, 512]⟩
abbrev S2x1024x512 : Shape := ⟨3, ![2, 1024, 512]⟩
abbrev S8x128 : Shape := ⟨2, ![8, 128]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2x1024x512, .bf16⟩
  | .local _ .vmem, ⟨4, _⟩ => ⟨S2x1024x512, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x4096 : Shape := ⟨2, ![2048, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S2048x4096, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_9 : BitVec 32 := 3#32
  let v16 : BitVec 1 := Scalar.cmpi .eq arg2 c3_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x1024 : Shape := ⟨2, ![2048, 1024]⟩
abbrev S1024x5120 : Shape := ⟨2, ![1024, 5120]⟩
abbrev S1024x8x640 : Shape := ⟨3, ![1024, 8, 640]⟩
abbrev S8x1024x640 : Shape := ⟨3, ![8, 1024, 640]⟩
abbrev S2048x5120 : Shape := ⟨2, ![2048, 5120]⟩
abbrev S1024x1024 : Shape := ⟨2, ![1024, 1024]⟩
abbrev S2x1024x640 : Shape := ⟨3, ![2, 1024, 640]⟩
abbrev S1024x1280 : Shape := ⟨2, ![1024, 1280]⟩
abbrev S8x128 : Shape := ⟨2, ![8, 128]⟩
abbrev S1x1024x640 : Shape := ⟨3, ![1, 1024, 640]⟩
abbrev S1024x640 : Shape := ⟨2, ![1024, 640]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5120, .f32⟩
  | .hbm, ⟨2, _⟩ => ⟨S2048x1024, .bf16⟩
  | .hbm, ⟨3, _⟩ => ⟨S1024x5120, .bf16⟩
  | .hbm, ⟨4, _⟩ => ⟨S1024x8x640, .bf16⟩
  | .hbm, ⟨5, _⟩ => ⟨S8x1024x640, .bf16⟩
  | .hbm, ⟨6, _⟩ => ⟨S2048x5120, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x640, .bf16⟩
  | .local _ .vmem, ⟨3, _⟩ => ⟨S2x1024x640, .bf16⟩
  | .local _ .vmem, ⟨4, _⟩ => ⟨S1024x1280, .f32⟩
  | .local _ .vmem, ⟨5, _⟩ => ⟨S1024x1280, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S2048x1024 : Shape := ⟨2, ![2048, 1024]⟩
abbrev S1024x5120 : Shape := ⟨2, ![1024, 5120]⟩
abbrev S1024x8x640 : Shape := ⟨3, ![1024, 8, 640]⟩
abbrev S8x1024x640 : Shape := ⟨3, ![8, 1024, 640]⟩
abbrev S2048x5120 : Shape := ⟨2, ![2048, 5120]⟩
abbrev S1024x1024 : Shape := ⟨2, ![1024, 1024]⟩
abbrev S2x1024x640 : Shape := ⟨3, ![2, 1024, 640]⟩
abbrev S1024x1280 : Shape := ⟨2, ![1024, 1280]⟩
abbrev S8x128 : Shape := ⟨2, ![8, 128]⟩
abbrev S1x1024x640 : Shape := ⟨3, ![1, 1024, 640]⟩
abbrev S1024x640 : Shape := ⟨2, ![1024, 640]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5120, .f32⟩
  | .hbm, ⟨2, _⟩ => ⟨S2048x1024, .bf16⟩
  | .hbm, ⟨3, _⟩ => ⟨S1024x5120, .bf16⟩
  | .hbm, ⟨4, _⟩ => ⟨S1024x8x640, .bf16⟩
  | .hbm, ⟨5, _⟩ => ⟨S8x1024x640, .bf16⟩
  | .hbm, ⟨6, _⟩ => ⟨S2048x5120, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x640, .bf16⟩
  | .local _ .vmem, ⟨3, _⟩ => ⟨S2x1024x640, .bf16⟩
  | .local _ .vmem, ⟨4, _⟩ => ⟨S1024x1280, .f32⟩
  | .local _ .vmem, ⟨5, _⟩ => ⟨S1024x1280, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x5120 : Shape := ⟨2, ![1024, 5120]⟩
abbrev S2048x5120 : Shape := ⟨2, ![2048, 5120]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5120, .f32⟩
  | .hbm, ⟨2, _⟩ => ⟨S2048x5120, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S2x1024x512 : Shape := ⟨3, ![2, 1024, 512]⟩
abbrev S8x128 : Shape := ⟨2, ![8, 128]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S2048x4096, .f32⟩
  | .local _ .vmem, ⟨0, _⟩ => ⟨S2048x1024, .bf16⟩
  | .local _ .vmem, ⟨1, _⟩ => ⟨S2x1024x512, .bf16⟩
  | .local _ .vmem, ⟨2, _⟩ => ⟨S2x1024x512, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S2048x1536 : Shape := ⟨2, ![2048, 1536]⟩
abbrev S2048x1024 : Shape := ⟨2, ![2048, 1024]⟩
abbrev S1536x1024 : Shape := ⟨2, ![1536, 1024]⟩
abbrev S2048x768 : Shape := ⟨2, ![2048, 768]⟩
abbrev S768x1024 : Shape := ⟨2, ![768, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S2048x1536, .bf16⟩
  | .hbm, ⟨3, _⟩ => ⟨S2048x1024, .bf16⟩
  | .hbm, ⟨4, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | .local _ .vmem, ⟨5, _⟩ => ⟨S8x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S2048x1536 : Shape := ⟨2, ![2048, 1536]⟩
abbrev S2048x1024 : Shape := ⟨2, ![2048, 1024]⟩
abbrev S1536x1024 : Shape := ⟨2, ![1536, 1024]⟩
abbrev S2048x768 : Shape := ⟨2, ![2048, 768]⟩
abbrev S768x1024 : Shape := ⟨2, ![768, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S2048x1536, .bf16⟩
  | .hbm, ⟨3, _⟩ => ⟨S2048x1024, .bf16⟩
  | .hbm, ⟨4, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | .local _ .vmem, ⟨5, _⟩ => ⟨S8x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S_, .f32⟩
  | .hbm, ⟨3, _⟩ => ⟨S1536x1024, .f32⟩
  | .hbm, ⟨4, _⟩ => ⟨S2048x1024, .f32⟩
  | .hbm, ⟨5, _⟩ => ⟨S1024x1536, .f32⟩
  | .hbm, ⟨6, _⟩ => ⟨S1536x1024, .f32⟩
  | .hbm, ⟨7, _⟩ => ⟨S1536x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S1536x1024 : Shape := ⟨2, ![1536, 1024]⟩
abbrev S2048x1536 : Shape := ⟨2, ![2048, 1536]⟩
abbrev S1024x1024 : Shape := ⟨2, ![1024, 1024]⟩
abbrev S768x1024 : Shape := ⟨2, ![768, 1024]⟩
abbrev S1024x768 : Shape := ⟨2, ![1024, 768]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1536x1024, .f32⟩
  | .hbm, ⟨2, _⟩ => ⟨S2048x1024, .bf16⟩
  | .hbm, ⟨3, _⟩ => ⟨S1536x1024, .bf16⟩
  | .hbm, ⟨4, _⟩ => ⟨S2048x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S2048x1024 : Shape := ⟨2, ![2048, 1024]⟩
abbrev S1536x1024 : Shape := ⟨2, ![1536, 1024]⟩
abbrev S2048x1536 : Shape := ⟨2, ![2048, 1536]⟩
abbrev S1024x1024 : Shape := ⟨2, ![1024, 1024]⟩
abbrev S768x1024 : Shape := ⟨2, ![768, 1024]⟩
abbrev S1024x768 : Shape := ⟨2, ![1024, 768]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1536x1024, .f32⟩
  | .hbm, ⟨2, _⟩ => ⟨S2048x1024, .bf16⟩
  | .hbm, ⟨3, _⟩ => ⟨S1536x1024, .bf16⟩
  | .hbm, ⟨4, _⟩ => ⟨S2048x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1536x1024 : Shape := ⟨2, ![1536, 1024]⟩
abbrev S_ : Shape := ⟨0, ![]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1536x1024, .f32⟩
  | .hbm, ⟨2, _⟩ => ⟨S_, .f32⟩
  | .hbm, ⟨3, _⟩ => ⟨S2048x1536, .f32⟩
  | .hbm, ⟨4, _⟩ => ⟨S2048x1024, .f32⟩
  | .hbm, ⟨5, _⟩ => ⟨S2048x1536, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x2048 : Shape := ⟨2, ![2048, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S2048x2048 : Shape := ⟨2, ![2048, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x1024 : Shape := ⟨2, ![2048, 1024]⟩
abbrev S2048x2048 : Shape := ⟨2, ![2048, 2048]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x1536 : Shape := ⟨2, ![2048, 1536]⟩
abbrev S1536x1024 : Shape := ⟨2, ![1536, 1024]⟩
abbrev S2048x1024 : Shape := ⟨2, ![2048, 1024]⟩
abbrev S1024x1536 : Shape := ⟨2, ![1024, 1536]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1536, .bf16⟩
  | .hbm, ⟨3, _⟩ => ⟨S1536x1024, .bf16⟩
  | .hbm, ⟨4, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S2048x1536 : Shape := ⟨2, ![2048, 1536]⟩
abbrev S1536x1024 : Shape := ⟨2, ![1536, 1024]⟩
abbrev S2048x1024 : Shape := ⟨2, ![2048, 1024]⟩
abbrev S1024x1536 : Shape := ⟨2, ![1024, 1536]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1536, .bf16⟩
  | .hbm, ⟨3, _⟩ => ⟨S1536x1024, .bf16⟩
  | .hbm, ⟨4, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1536 : Shape := ⟨2, ![2048, 1536]⟩
abbrev S1536x1024 : Shape := ⟨2, ![1536, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference14Ideal.lean ====
abbrev S2048x2048 : Shape := ⟨2, ![2048, 2048]⟩
abbrev S_ : Shape := ⟨0, ![]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S4x512x512, .f32⟩
  | .hbm, ⟨4, _⟩ => ⟨S2048x4x512, .f32⟩
  | .hbm, ⟨5, _⟩ => ⟨S4x512x2048, .f32⟩
  | .hbm, ⟨6, _⟩ => ⟨S2048x4x512, .f32⟩
  | .hbm, ⟨7, _⟩ => ⟨S2048x2048, .f32⟩
  | .hbm, ⟨8, _⟩ => ⟨S2048x4x512, .f32⟩
  | .hbm, ⟨9, _⟩ => ⟨S4x512x2048, .f32⟩
  | .hbm, ⟨10, _⟩ => ⟨S4x512x512, .f32⟩
  | .hbm, ⟨11, _⟩ => ⟨S4x512x512, .f32⟩
  | .hbm, ⟨12, _⟩ => ⟨S4x512x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x2048, .bf16⟩
  | .hbm, ⟨3, _⟩ => ⟨S4x512x512, .bf16⟩
  | .hbm, ⟨4, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x2048 : Shape := ⟨2, ![2048, 2048]⟩
abbrev S4x512x512 : Shape := ⟨3, ![4, 512, 512]⟩
abbrev S_ : Shape := ⟨0, ![]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S_, .f32⟩
  | .hbm, ⟨3, _⟩ => ⟨S2048x2048, .f32⟩
  | .hbm, ⟨4, _⟩ => ⟨S2048x4x512, .f32⟩
  | .hbm, ⟨5, _⟩ => ⟨S4x512x2048, .f32⟩
  | .hbm, ⟨6, _⟩ => ⟨S2048x4x512, .f32⟩
  | .hbm, ⟨7, _⟩ => ⟨S2048x2048, .f32⟩
  | .hbm, ⟨8, _⟩ => ⟨S2048x4x512, .f32⟩
  | .hbm, ⟨9, _⟩ => ⟨S4x512x2048, .f32⟩
  | .hbm, ⟨10, _⟩ => ⟨S4x2048x512, .f32⟩
  | .hbm, ⟨11, _⟩ => ⟨S2048x4x512, .f32⟩
  | .hbm, ⟨12, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x2048, .bf16⟩
  | .hbm, ⟨3, _⟩ => ⟨S4x512x512, .bf16⟩
  | .hbm, ⟨4, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S2048x2048 : Shape := ⟨2, ![2048, 2048]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S2048x4x512, .f32⟩
  | .hbm, ⟨3, _⟩ => ⟨S4x512x2048, .f32⟩
  | .hbm, ⟨4, _⟩ => ⟨S2048x4x512, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S2048x512 : Shape := ⟨2, ![2048, 512]⟩
abbrev S512x512 : Shape := ⟨2, ![512, 512]⟩
abbrev S8x128 : Shape := ⟨2, ![8, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .bf16⟩
  | .hbm, ⟨3, _⟩ => ⟨S2048x512, .bf16⟩
  | .hbm, ⟨4, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S2048x512 : Shape := ⟨2, ![2048, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S_, .f32⟩
  | .hbm, ⟨3, _⟩ => ⟨S512x512, .f32⟩
  | .hbm, ⟨4, _⟩ => ⟨S2048x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x1024 : Shape := ⟨2, ![2048, 1024]⟩
abbrev S2048x3072 : Shape := ⟨2, ![2048, 3072]⟩
abbrev S512 : Shape := ⟨1, ![512]⟩
abbrev S4 : Shape := ⟨1, ![4]⟩
abbrev S4x1x1 : Shape := ⟨3, ![4, 1, 1]⟩
abbrev S_ : Shape := ⟨0, ![]⟩
abbrev S1x512x1 : Shape := ⟨3, ![1, 512, 1]⟩
abbrev S4x512x1 : Shape := ⟨3, ![4, 512, 1]⟩
abbrev S1x1x512 : Shape := ⟨3, ![1, 1, 512]⟩
abbrev S4x512x512 : Shape := ⟨3, ![4, 512, 512]⟩
abbrev S512x128 : Shape := ⟨2, ![512, 128]⟩
abbrev S2048x128 : Shape := ⟨2, ![2048, 128]⟩
abbrev S1x128 : Shape := ⟨2, ![1, 128]⟩
abbrev S512x1 : Shape := ⟨2, ![512, 1]⟩
abbrev S1x512x512 : Shape := ⟨3, ![1, 512, 512]⟩
abbrev S512x512 : Shape := ⟨2, ![512, 512]⟩

abbrev nBuf : Space → Nat
  | .hbm => 76
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x3072, .bf16⟩
  | .hbm, ⟨7, _⟩ => ⟨S512, .i32⟩
  | .hbm, ⟨8, _⟩ => ⟨S4, .i32⟩
  | .hbm, ⟨9, _⟩ => ⟨S4x1x1, .i32⟩
  | .hbm, ⟨10, _⟩ => ⟨S_, .i32⟩
  | .hbm, ⟨11, _⟩ => ⟨S4x1x1, .i32⟩
  | .hbm, ⟨12, _⟩ => ⟨S4x1x1, .i32⟩
  | .hbm, ⟨13, _⟩ => ⟨S1x512x1, .i32⟩
  | .hbm, ⟨14, _⟩ => ⟨S4x512x1, .i32⟩
  | .hbm, ⟨15, _⟩ => ⟨S4x512x1, .i32⟩
  | .hbm, ⟨16, _⟩ => ⟨S4x512x1, .i32⟩
  | .hbm, ⟨17, _⟩ => ⟨S1x1x512, .i32⟩
  | .hbm, ⟨18, _⟩ => ⟨S4x512x512, .i32⟩
  | .hbm, ⟨19, _⟩ => ⟨S4x512x512, .i32⟩
  | .hbm, ⟨20, _⟩ => ⟨S4x512x512, .i32⟩
  | .hbm, ⟨21, _⟩ => ⟨S_, .i32⟩
  | .hbm, ⟨22, _⟩ => ⟨S4x512x512, .i32⟩
  | .hbm, ⟨23, _⟩ => ⟨S4x512x512, .i1⟩
  | .hbm, ⟨24, _⟩ => ⟨S_, .i32⟩
  | .hbm, ⟨25, _⟩ => ⟨S4x512x512, .i32⟩
  | .hbm, ⟨26, _⟩ => ⟨S4x512x512, .i1⟩
  | .hbm, ⟨27, _⟩ => ⟨S4x512x512, .i1⟩
  | .hbm, ⟨28, _⟩ => ⟨S_, .f32⟩
  | .hbm, ⟨29, _⟩ => ⟨S_, .f32⟩
  | .hbm, ⟨30, _⟩ => ⟨S4x512x512, .f32⟩
  | .hbm, ⟨31, _⟩ => ⟨S4x512x512, .f32⟩
  | .hbm, ⟨32, _⟩ => ⟨S4x512x512, .f32⟩
  | .hbm, ⟨33, _⟩ => ⟨S_, .i32⟩
  | .hbm, ⟨34, _⟩ => ⟨S4x512x512, .i32⟩
  | .hbm, ⟨35, _⟩ => ⟨S4x512x512, .i1⟩
  | .hbm, ⟨36, _⟩ => ⟨S4x512x512, .i1⟩
  | .hbm, ⟨37, _⟩ => ⟨S_, .i32⟩
  | .hbm, ⟨38, _⟩ => ⟨S4x512x512, .i32⟩
  | .hbm, ⟨39, _⟩ => ⟨S4x512x512, .i32⟩
  | .hbm, ⟨40, _⟩ => ⟨S_, .i32⟩
  | .hbm, ⟨41, _⟩ => ⟨S4x512x512, .i32⟩
  | .hbm, ⟨42, _⟩ => ⟨S4x512x512, .i1⟩
  | .hbm, ⟨43, _⟩ => ⟨S4x512x512, .i1⟩
  | .hbm, ⟨44, _⟩ => ⟨S_, .f32⟩
  | .hbm, ⟨45, _⟩ => ⟨S_, .f32⟩
  | .hbm, ⟨46, _⟩ => ⟨S4x512x512, .f32⟩
  | .hbm, ⟨47, _⟩ => ⟨S4x512x512, .f32⟩
  | .hbm, ⟨48, _⟩ => ⟨S4x512x512, .f32⟩
  | .hbm, ⟨49, _⟩ => ⟨S_, .i32⟩
  | .hbm, ⟨50, _⟩ => ⟨S4x512x512, .i32⟩
  | .hbm, ⟨51, _⟩ => ⟨S4x512x512, .i32⟩
  | .hbm, ⟨52, _⟩ => ⟨S_, .i32⟩
  | .hbm, ⟨53, _⟩ => ⟨S4x512x512, .i32⟩
  | .hbm, ⟨54, _⟩ => ⟨S4x512x512, .i1⟩
  | .hbm, ⟨55, _⟩ => ⟨S4x512x512, .i1⟩
  | .hbm, ⟨56, _⟩ => ⟨S_, .f32⟩
  | .hbm, ⟨57, _⟩ => ⟨S_, .f32⟩
  | .hbm, ⟨58, _⟩ => ⟨S4x512x512, .f32⟩
  | .hbm, ⟨59, _⟩ => ⟨S4x512x512, .f32⟩
  | .hbm, ⟨60, _⟩ => ⟨S4x512x512, .f32⟩
  | .hbm, ⟨61, _⟩ => ⟨S4x512x512, .f32⟩
  | .hbm, ⟨62, _⟩ => ⟨S4x512x512, .f32⟩
  | .hbm, ⟨63, _⟩ => ⟨S_, .f32⟩
  | .hbm, ⟨64, _⟩ => ⟨S4x512x512, .f32⟩
  | .hbm, ⟨65, _⟩ => ⟨S4x512x512, .i1⟩
  | .hbm, ⟨66, _⟩ => ⟨S_, .f32⟩
  | .hbm, ⟨67, _⟩ => ⟨S4x512x512, .f32⟩
  | .hbm, ⟨68, _⟩ => ⟨S4x512x512, .f32⟩
  | .hbm, ⟨69, _⟩ => ⟨S4x512x512, .f32⟩
  | .hbm, ⟨70, _⟩ => ⟨S_, .f32⟩
  | .hbm, ⟨71, _⟩ => ⟨S4x512x512, .f32⟩
  | .hbm, ⟨72, _⟩ => ⟨S4x512x512, .f32⟩
  | .hbm, ⟨73, _⟩ => ⟨S4x512x512, .f32⟩
  | .hbm, ⟨74, _⟩ => ⟨S2048x1024, .f32⟩
  | .hbm, ⟨75, _⟩ => ⟨S2048x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S4x512x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_cst_11 : Ref sig .tc := ⟨.hbm, 57, rfl⟩
abbrev main_call2_v0 : Ref sig .tc := ⟨.hbm, 58, rfl⟩
abbrev main_call2_v1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_call3_v0 : Ref sig .tc := ⟨.hbm, 71, rfl⟩
abbrev main_v45 : Ref sig .tc := ⟨.hbm, 72, rfl⟩
abbrev main_v46 : Ref sig .tc := ⟨.hbm, 73, rfl⟩
abbrev main_v47_0 : Ref sig .tc := ⟨.hbm, 74, rfl⟩
abbrev main_v47_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v14 : BitVec 32 := Scalar.addi arg1 c1_i32
  let v16 : BitVec 32 := Scalar.subi v14 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_5 : BitVec 32 := 1#32
  ⟨c0_i32, v20, c1_i32_5⟩
def k0_mult1 (i : grid0.Coords) (k0_t1 : Fin (k0_t1_loop i).trips) : BitVec 32 :=
  let c0_i32 : BitVec 32 := 0#32
  let c1_i32_5 : BitVec 32 := 1#32
  let arg8 : BitVec 32 := Scf.iv c0_i32 c1_i32_5 k0_t1
  let c512_i32 : BitVec 32 := 512#32
  let v48 : BitVec 32 := Scalar.muli arg8 c512_i32
  v48
def k0_off1 (i : grid0.Coords) (k0_t1 : Fin (k0_t1_loop i).trips) : Fin 2 → Nat :=
  let c0_i32 : BitVec 32 := 0#32
  let c1_i32_5 : BitVec 32 := 1#32
  let arg8 : BitVec 32 := Scf.iv c0_i32 c1_i32_5 k0_t1
  let c512_i32 : BitVec 32 := 512#32
  let v48 : BitVec 32 := Scalar.muli arg8 c512_i32
  let v49 : BitVec 32 := v48
  let v50 : Index := Scalar.indexCast v49
  let c0_13 : Index := 0#32
  ![v50.toNat, 0]
def k0_off2 (i : grid0.Coords) (k0_t1 : Fin (k0_t1_loop i).trips) : Fin 3 → Nat :=
  let arg1 : BitVec 32 := BitVec.ofNat 32 (i 1).val
  let c0_i32 : BitVec 32 := 0#32
  let c1_i32_5 : BitVec 32 := 1#32
  let arg8 : BitVec 32 := Scf.iv c0_i32 c1_i32_5 k0_t1
  let v63 : BitVec 32 := Scalar.subi arg1 arg8
  let v64 : Index := Scalar.indexCast v63
  let c0_16 : Index := 0#32
  let c0_17 : Index := 0#32
  ![v64.toNat, 0, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v14 : BitVec 32 := Scalar.addi arg1 c1_i32
  let v16 : BitVec 32 := Scalar.subi v14 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let v17 : BitVec 32 := Scalar.addi c0_i32 v16
  let c1_i32_6 : BitVec 32 := 1#32
  ⟨v20, v17, c1_i32_6⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v14 : BitVec 32 := Scalar.addi arg1 c1_i32
  let v16 : BitVec 32 := Scalar.subi v14 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_6 : BitVec 32 := 1#32
  let arg8 : BitVec 32 := Scf.iv v20 c1_i32_6 k0_t2
  let c512_i32 : BitVec 32 := 512#32
  let v48 : BitVec 32 := Scalar.muli arg8 c512_i32
  v48
def k0_off3 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v14 : BitVec 32 := Scalar.addi arg1 c1_i32
  let v16 : BitVec 32 := Scalar.subi v14 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_6 : BitVec 32 := 1#32
  let arg8 : BitVec 32 := Scf.iv v20 c1_i32_6 k0_t2
  let c512_i32 : BitVec 32 := 512#32
  let v48 : BitVec 32 := Scalar.muli arg8 c512_i32
  let v49 : BitVec 32 := v48
  let v50 : Index := Scalar.indexCast v49
  let c0_13 : Index := 0#32
  ![v50.toNat, 0]
def k0_off4 (i : grid0.Coords) (k0_t2 : Fin (k0_t2_loop i).trips) : Fin 3 → Nat :=
  let arg1 : BitVec 32 := BitVec.ofNat 32 (i 1).val
  let c0_i32 : BitVec 32 := 0#32
  let c1_i32 : BitVec 32 := 1#32
  let v14 : BitVec 32 := Scalar.addi arg1 c1_i32
  let v16 : BitVec 32 := Scalar.subi v14 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_6 : BitVec 32 := 1#32
  let arg8 : BitVec 32 := Scf.iv v20 c1_i32_6 k0_t2
  let v63 : BitVec 32 := Scalar.subi arg1 arg8
  let v64 : Index := Scalar.indexCast v63
  let c0_16 : Index := 0#32
  let c0_17 : Index := 0#32
  ![v64.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference18Ideal.lean ====
abbrev S2048x1024 : Shape := ⟨2, ![2048, 1024]⟩
abbrev S1x2048x16x64 : Shape := ⟨4, ![1, 2048, 16, 64]⟩
abbrev S129 : Shape := ⟨1, ![129]⟩
abbrev S_ : Shape := ⟨0, ![]⟩
abbrev S387 : Shape := ⟨1, ![387]⟩
abbrev S1x16x2048x64 : Shape := ⟨4, ![1, 16, 2048, 64]⟩
abbrev S1x16x4096x64 : Shape := ⟨4, ![1, 16, 4096, 64]⟩
abbrev S2048 : Shape := ⟨1, ![2048]⟩
abbrev S2048x1 : Shape := ⟨2, ![2048, 1]⟩
abbrev S1x387 : Shape := ⟨2, ![1, 387]⟩
abbrev S2048x387 : Shape := ⟨2, ![2048, 387]⟩
abbrev S2048x387x1 : Shape := ⟨3, ![2048, 387, 1]⟩
abbrev S1x16x2048x387x64 : Shape := ⟨5, ![1, 16, 2048, 387, 64]⟩
abbrev S1x16x2048x1x64 : Shape := ⟨5, ![1, 16, 2048, 1, 64]⟩
abbrev S1x16x2048x387 : Shape := ⟨4, ![1, 16, 2048, 387]⟩
abbrev S1x16x2048 : Shape := ⟨3, ![1, 16, 2048]⟩
abbrev S1x16x2048x1 : Shape := ⟨4, ![1, 16, 2048, 1]⟩
abbrev S1x16x2048x387x1 : Shape := ⟨5, ![1, 16, 2048, 387, 1]⟩
abbrev S16x2048 : Shape := ⟨2, ![16, 2048]⟩
abbrev S2048x16 : Shape := ⟨2, ![2048, 16]⟩
abbrev S2048x16x64 : Shape := ⟨3, ![2048, 16, 64]⟩

abbrev nBuf : Space → Nat
  | .hbm => 104
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x2048x16x64, .f32⟩
  | .hbm, ⟨4, _⟩ => ⟨S1x2048x16x64, .f32⟩
  | .hbm, ⟨5, _⟩ => ⟨S1x2048x16x64, .f32⟩
  | .hbm, ⟨6, _⟩ => ⟨S129, .i32⟩
  | .hbm, ⟨7, _⟩ => ⟨S_, .i32⟩
  | .hbm, ⟨8, _⟩ => ⟨S129, .i32⟩
  | .hbm, ⟨9, _⟩ => ⟨S129, .i32⟩
  | .hbm, ⟨10, _⟩ => ⟨S129, .i32⟩
  | .hbm, ⟨11, _⟩ => ⟨S_, .i32⟩
  | .hbm, ⟨12, _⟩ => ⟨S129, .i32⟩
  | .hbm, ⟨13, _⟩ => ⟨S129, .i32⟩
  | .hbm, ⟨14, _⟩ => ⟨S129, .i32⟩
  | .hbm, ⟨15, _⟩ => ⟨S_, .i32⟩
  | .hbm, ⟨16, _⟩ => ⟨S129, .i32⟩
  | .hbm, ⟨17, _⟩ => ⟨S129, .i32⟩
  | .hbm, ⟨18, _⟩ => ⟨S387, .i32⟩
  | .hbm, ⟨19, _⟩ => ⟨S1x16x2048x64, .f32⟩
  | .hbm, ⟨20, _⟩ => ⟨S_, .f32⟩
  | .hbm, ⟨21, _⟩ => ⟨S1x16x2048x64, .f32⟩
  | .hbm, ⟨22, _⟩ => ⟨S1x16x2048x64, .f32⟩
  | .hbm, ⟨23, _⟩ => ⟨S1x16x4096x64, .f32⟩
  | .hbm, ⟨24, _⟩ => ⟨S1x16x2048x64, .f32⟩
  | .hbm, ⟨25, _⟩ => ⟨S1x16x4096x64, .f32⟩
  | .hbm, ⟨26, _⟩ => ⟨S2048, .i32⟩
  | .hbm, ⟨27, _⟩ => ⟨S2048x1, .i32⟩
  | .hbm, ⟨28, _⟩ => ⟨S1x387, .i32⟩
  | .hbm, ⟨29, _⟩ => ⟨S2048x387, .i32⟩
  | .hbm, ⟨30, _⟩ => ⟨S2048x387, .i32⟩
  | .hbm, ⟨31, _⟩ => ⟨S2048x387, .i32⟩
  | .hbm, ⟨32, _⟩ => ⟨S_, .i32⟩
  | .hbm, ⟨33, _⟩ => ⟨S2048x387, .i32⟩
  | .hbm, ⟨34, _⟩ => ⟨S2048x387, .i32⟩
  | .hbm, ⟨35, _⟩ => ⟨S_, .i32⟩
  | .hbm, ⟨36, _⟩ => ⟨S2048x387, .i32⟩
  | .hbm, ⟨37, _⟩ => ⟨S2048x387, .i1⟩
  | .hbm, ⟨38, _⟩ => ⟨S_, .i32⟩
  | .hbm, ⟨39, _⟩ => ⟨S2048x387, .i32⟩
  | .hbm, ⟨40, _⟩ => ⟨S2048x387, .i32⟩
  | .hbm, ⟨41, _⟩ => ⟨S2048x387, .i32⟩
  | .hbm, ⟨42, _⟩ => ⟨S2048x387x1, .i32⟩
  | .hbm, ⟨43, _⟩ => ⟨S1x16x2048x387x64, .f32⟩
  | .hbm, ⟨44, _⟩ => ⟨S_, .i32⟩
  | .hbm, ⟨45, _⟩ => ⟨S2048x387, .i32⟩
  | .hbm, ⟨46, _⟩ => ⟨S2048x387, .i32⟩
  | .hbm, ⟨47, _⟩ => ⟨S_, .i32⟩
  | .hbm, ⟨48, _⟩ => ⟨S2048x387, .i32⟩
  | .hbm, ⟨49, _⟩ => ⟨S2048x387, .i1⟩
  | .hbm, ⟨50, _⟩ => ⟨S_, .i32⟩
  | .hbm, ⟨51, _⟩ => ⟨S2048x387, .i32⟩
  | .hbm, ⟨52, _⟩ => ⟨S2048x387, .i32⟩
  | .hbm, ⟨53, _⟩ => ⟨S2048x387, .i32⟩
  | .hbm, ⟨54, _⟩ => ⟨S2048x387x1, .i32⟩
  | .hbm, ⟨55, _⟩ => ⟨S1x16x2048x387x64, .f32⟩
  | .hbm, ⟨56, _⟩ => ⟨S1x16x2048x1x64, .f32⟩
  | .hbm, ⟨57, _⟩ => ⟨S1x16x2048x387x64, .f32⟩
  | .hbm, ⟨58, _⟩ => ⟨S1x16x2048x387x64, .f32⟩
  | .hbm, ⟨59, _⟩ => ⟨S_, .f32⟩
  | .hbm, ⟨60, _⟩ => ⟨S1x16x2048x387, .f32⟩
  | .hbm, ⟨61, _⟩ => ⟨S_, .i32⟩
  | .hbm, ⟨62, _⟩ => ⟨S2048x387, .i32⟩
  | .hbm, ⟨63, _⟩ => ⟨S2048x387, .i1⟩
  | .hbm, ⟨64, _⟩ => ⟨S_, .f32⟩
  | .hbm, ⟨65, _⟩ => ⟨S_, .f32⟩
  | .hbm, ⟨66, _⟩ => ⟨S1x16x2048x387, .i1⟩
  | .hbm, ⟨67, _⟩ => ⟨S1x16x2048x387, .f32⟩
  | .hbm, ⟨68, _⟩ => ⟨S1x16x2048x387, .f32⟩
  | .hbm, ⟨69, _⟩ => ⟨S_, .f32⟩
  | .hbm, ⟨70, _⟩ => ⟨S1x16x2048, .f32⟩
  | .hbm, ⟨71, _⟩ => ⟨S1x16x2048x1, .f32⟩
  | .hbm, ⟨72, _⟩ => ⟨S1x16x2048x387, .f32⟩
  | .hbm, ⟨73, _⟩ => ⟨S1x16x2048x387, .f32⟩
  | .hbm, ⟨74, _⟩ => ⟨S1x16x2048x387, .f32⟩
  | .hbm, ⟨75, _⟩ => ⟨S_, .f32⟩
  | .hbm, ⟨76, _⟩ => ⟨S1x16x2048, .f32⟩
  | .hbm, ⟨77, _⟩ => ⟨S1x16x2048, .f32⟩
  | .hbm, ⟨78, _⟩ => ⟨S1x16x2048, .f32⟩
  | .hbm, ⟨79, _⟩ => ⟨S_, .f32⟩
  | .hbm, ⟨80, _⟩ => ⟨S1x16x2048, .f32⟩
  | .hbm, ⟨81, _⟩ => ⟨S_, .f32⟩
  | .hbm, ⟨82, _⟩ => ⟨S1x16x2048, .f32⟩
  | .hbm, ⟨83, _⟩ => ⟨S1x16x2048, .f32⟩
  | .hbm, ⟨84, _⟩ => ⟨S1x16x2048x1, .f32⟩
  | .hbm, ⟨85, _⟩ => ⟨S1x16x2048x387, .f32⟩
  | .hbm, ⟨86, _⟩ => ⟨S1x16x2048x387, .f32⟩
  | .hbm, ⟨87, _⟩ => ⟨S1x16x2048x387, .f32⟩
  | .hbm, ⟨88, _⟩ => ⟨S_, .f32⟩
  | .hbm, ⟨89, _⟩ => ⟨S1x16x2048, .f32⟩
  | .hbm, ⟨90, _⟩ => ⟨S1x16x2048x1, .f32⟩
  | .hbm, ⟨91, _⟩ => ⟨S1x16x2048x387, .f32⟩
  | .hbm, ⟨92, _⟩ => ⟨S1x16x2048x387, .f32⟩
  | .hbm, ⟨93, _⟩ => ⟨S1x16x2048x387x1, .f32⟩
  | .hbm, ⟨94, _⟩ => ⟨S1x16x2048x387x64, .f32⟩
  | .hbm, ⟨95, _⟩ => ⟨S1x16x2048x387x64, .f32⟩
  | .hbm, ⟨96, _⟩ => ⟨S_, .f32⟩
  | .hbm, ⟨97, _⟩ => ⟨S1x16x2048x64, .f32⟩
  | .hbm, ⟨98, _⟩ => ⟨S1x2048x16x64, .f32⟩
  | .hbm, ⟨99, _⟩ => ⟨S2048x1024, .f32⟩
  | .hbm, ⟨100, _⟩ => ⟨S16x2048, .f32⟩
  | .hbm, ⟨101, _⟩ => ⟨S2048x16, .f32⟩
  | .hbm, ⟨102, _⟩ => ⟨S2048x16x64, .f32⟩
  | .hbm, ⟨103, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Kernel19.lean ====
abbrev S8x256 : Shape := ⟨2, ![8, 256]⟩
abbrev S1x8x256 : Shape := ⟨3, ![1, 8, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256, .f32⟩
  | .hbm, ⟨1, _⟩ => ⟨S1x8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .local _ .vmem, ⟨0, _⟩ => ⟨S8x256, .f32⟩
  | .local _ .vmem, ⟨1, _⟩ => ⟨S1x8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x256 : Shape := ⟨2, ![8, 256]⟩
abbrev S1x8x256 : Shape := ⟨3, ![1, 8, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S1x8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S_, .f32⟩
  | .hbm, ⟨6, _⟩ => ⟨S8x256, .f32⟩
  | .hbm, ⟨7, _⟩ => ⟨S8x256, .f32⟩
  | .hbm, ⟨8, _⟩ => ⟨S_, .f32⟩
  | .hbm, ⟨9, _⟩ => ⟨S8x256, .f32⟩
  | .hbm, ⟨10, _⟩ => ⟨S8x256, .f32⟩
  | .hbm, ⟨11, _⟩ => ⟨S8x256, .f32⟩
  | .hbm, ⟨12, _⟩ => ⟨S_, .f32⟩
  | .hbm, ⟨13, _⟩ => ⟨S8x256, .f32⟩
  | .hbm, ⟨14, _⟩ => ⟨S8x256, .f32⟩
  | .hbm, ⟨15, _⟩ => ⟨S8x256, .f32⟩
  | .hbm, ⟨16, _⟩ => ⟨S_, .f32⟩
  | .hbm, ⟨17, _⟩ => ⟨S8x256, .f32⟩
  | .hbm, ⟨18, _⟩ => ⟨S8x256, .f32⟩
  | .hbm, ⟨19, _⟩ => ⟨S8x256, .f32⟩
  | .hbm, ⟨20, _⟩ => ⟨S_, .f32⟩
  | .hbm, ⟨21, _⟩ => ⟨S8x256, .f32⟩
  | .hbm, ⟨22, _⟩ => ⟨S8x256, .f32⟩
  | .hbm, ⟨23, _⟩ => ⟨S_, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S_, .f32⟩
  | .hbm, ⟨32, _⟩ => ⟨S8x256, .f32⟩
  | .hbm, ⟨33, _⟩ => ⟨S8x256, .f32⟩
  | .hbm, ⟨34, _⟩ => ⟨S8x256, .f32⟩
  | .hbm, ⟨35, _⟩ => ⟨S_, .f32⟩
  | .hbm, ⟨36, _⟩ => ⟨S8x256, .f32⟩
  | .hbm, ⟨37, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel20.lean ====
abbrev S2x1024x512 : Shape := ⟨3, ![2, 1024, 512]⟩
abbrev S8x1024x512 : Shape := ⟨3, ![8, 1024, 512]⟩
abbrev S1x512x512 : Shape := ⟨3, ![1, 512, 512]⟩
abbrev S8x512x512 : Shape := ⟨3, ![8, 512, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S2x1024x512 : Shape := ⟨3, ![2, 1024, 512]⟩
abbrev S8x1024x512 : Shape := ⟨3, ![8, 1024, 512]⟩
abbrev S1x512x512 : Shape := ⟨3, ![1, 512, 512]⟩
abbrev S8x512x512 : Shape := ⟨3, ![8, 512, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2x1024x512 : Shape := ⟨3, ![2, 1024, 512]⟩
abbrev S8x1024x512 : Shape := ⟨3, ![8, 1024, 512]⟩
abbrev S1x1024x512 : Shape := ⟨3, ![1, 1024, 512]⟩
abbrev S1024x512 : Shape := ⟨2, ![1024, 512]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S1x1024x512, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S1x1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S1024x512, .f32⟩
  | .hbm, ⟨52, _⟩ => ⟨S1x1024x512, .f32⟩
  | .hbm, ⟨53, _⟩ => ⟨S1x1024x512, .f32⟩
  | .hbm, ⟨54, _⟩ => ⟨S2x1024x512, .f32⟩
  | .hbm, ⟨55, _⟩ => ⟨S1x1024x512, .f32⟩
  | .hbm, ⟨56, _⟩ => ⟨S1024x512, .f32⟩
  | .hbm, ⟨57, _⟩ => ⟨S1x1024x512, .f32⟩
  | .hbm, ⟨58, _⟩ => ⟨S1x1024x512, .f32⟩
  | .hbm, ⟨59, _⟩ => ⟨S2x1024x512, .f32⟩
  | .hbm, ⟨60, _⟩ => ⟨S1x1024x512, .f32⟩
  | .hbm, ⟨61, _⟩ => ⟨S1024x512, .f32⟩
  | .hbm, ⟨62, _⟩ => ⟨S1x1024x512, .f32⟩
  | .hbm, ⟨63, _⟩ => ⟨S1x1024x512, .f32⟩
  | .hbm, ⟨64, _⟩ => ⟨S2x1024x512, .f32⟩
  | .hbm, ⟨65, _⟩ => ⟨S1x1024x512, .f32⟩
  | .hbm, ⟨66, _⟩ => ⟨S1024x512, .f32⟩
  | .hbm, ⟨67, _⟩ => ⟨S1x1024x512, .f32⟩
  | .hbm, ⟨68, _⟩ => ⟨S1x1024x512, .f32⟩
  | .hbm, ⟨69, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel21.lean ====
abbrev S2x1024x640 : Shape := ⟨3, ![2, 1024, 640]⟩
abbrev S8x1024x640 : Shape := ⟨3, ![8, 1024, 640]⟩
abbrev S1x256x640 : Shape := ⟨3, ![1, 256, 640]⟩
abbrev S8x256x640 : Shape := ⟨3, ![8, 256, 640]⟩
abbrev S256x640 : Shape := ⟨2, ![256, 640]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x640, .f32⟩
  | .hbm, ⟨1, _⟩ => ⟨S8x1024x640, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S2x1024x640, .f32⟩
  | .local _ .vmem, ⟨0, _⟩ => ⟨S1x256x640, .f32⟩
  | .local _ .vmem, ⟨1, _⟩ => ⟨S1x256x640, .f32⟩
  | .local _ .vmem, ⟨2, _⟩ => ⟨S8x256x640, .bf16⟩
  | .local _ .vmem, ⟨3, _⟩ => ⟨S8x256x640, .bf16⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel21Ideal.lean ====
abbrev S2x1024x640 : Shape := ⟨3, ![2, 1024, 640]⟩
abbrev S8x1024x640 : Shape := ⟨3, ![8, 1024, 640]⟩
abbrev S1x256x640 : Shape := ⟨3, ![1, 256, 640]⟩
abbrev S8x256x640 : Shape := ⟨3, ![8, 256, 640]⟩
abbrev S256x640 : Shape := ⟨2, ![256, 640]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x640, .f32⟩
  | .hbm, ⟨1, _⟩ => ⟨S8x1024x640, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S2x1024x640, .f32⟩
  | .local _ .vmem, ⟨0, _⟩ => ⟨S1x256x640, .f32⟩
  | .local _ .vmem, ⟨1, _⟩ => ⟨S1x256x640, .f32⟩
  | .local _ .vmem, ⟨2, _⟩ => ⟨S8x256x640, .bf16⟩
  | .local _ .vmem, ⟨3, _⟩ => ⟨S8x256x640, .bf16⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2x1024x640 : Shape := ⟨3, ![2, 1024, 640]⟩
abbrev S8x1024x640 : Shape := ⟨3, ![8, 1024, 640]⟩
abbrev S1x1024x640 : Shape := ⟨3, ![1, 1024, 640]⟩
abbrev S1024x640 : Shape := ⟨2, ![1024, 640]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S8x1024x640, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S1x1024x640, .f32⟩
  | .hbm, ⟨9, _⟩ => ⟨S1024x640, .f32⟩
  | .hbm, ⟨10, _⟩ => ⟨S8x1024x640, .f32⟩
  | .hbm, ⟨11, _⟩ => ⟨S_, .f32⟩
  | .hbm, ⟨12, _⟩ => ⟨S1024x640, .f32⟩
  | .hbm, ⟨13, _⟩ => ⟨S1x1024x640, .f32⟩
  | .hbm, ⟨14, _⟩ => ⟨S1024x640, .f32⟩
  | .hbm, ⟨15, _⟩ => ⟨S1x1024x640, .f32⟩
  | .hbm, ⟨16, _⟩ => ⟨S1024x640, .f32⟩
  | .hbm, ⟨17, _⟩ => ⟨S_, .f32⟩
  | .hbm, ⟨18, _⟩ => ⟨S1024x640, .f32⟩
  | .hbm, ⟨19, _⟩ => ⟨S1024x640, .f32⟩
  | .hbm, ⟨20, _⟩ => ⟨S_, .f32⟩
  | .hbm, ⟨21, _⟩ => ⟨S1024x640, .f32⟩
  | .hbm, ⟨22, _⟩ => ⟨S1024x640, .f32⟩
  | .hbm, ⟨23, _⟩ => ⟨S1024x640, .f32⟩
  | .hbm, ⟨24, _⟩ => ⟨S_, .f32⟩
  | .hbm, ⟨25, _⟩ => ⟨S1024x640, .f32⟩
  | .hbm, ⟨26, _⟩ => ⟨S1024x640, .f32⟩
  | .hbm, ⟨27, _⟩ => ⟨S1024x640, .f32⟩
  | .hbm, ⟨28, _⟩ => ⟨S_, .f32⟩
  | .hbm, ⟨29, _⟩ => ⟨S1024x640, .f32⟩
  | .hbm, ⟨30, _⟩ => ⟨S1024x640, .f32⟩
  | .hbm, ⟨31, _⟩ => ⟨S1024x640, .f32⟩
  | .hbm, ⟨32, _⟩ => ⟨S_, .f32⟩
  | .hbm, ⟨33, _⟩ => ⟨S1024x640, .f32⟩
  | .hbm, ⟨34, _⟩ => ⟨S1024x640, .f32⟩
  | .hbm, ⟨35, _⟩ => ⟨S_, .f32⟩
  | .hbm, ⟨36, _⟩ => ⟨S1024x640, .f32⟩
  | .hbm, ⟨37, _⟩ => ⟨S1024x640, .f32⟩
  | .hbm, ⟨38, _⟩ => ⟨S1024x640, .f32⟩
  | .hbm, ⟨39, _⟩ => ⟨S_, .f32⟩
  | .hbm, ⟨40, _⟩ => ⟨S1024x640, .f32⟩
  | .hbm, ⟨41, _⟩ => ⟨S1024x640, .f32⟩
  | .hbm, ⟨42, _⟩ => ⟨S1024x640, .f32⟩
  | .hbm, ⟨43, _⟩ => ⟨S_, .f32⟩
  | .hbm, ⟨44, _⟩ => ⟨S1024x640, .f32⟩
  | .hbm, ⟨45, _⟩ => ⟨S1024x640, .f32⟩
  | .hbm, ⟨46, _⟩ => ⟨S1024x640, .f32⟩
  | .hbm, ⟨47, _⟩ => ⟨S_, .f32⟩
  | .hbm, ⟨48, _⟩ => ⟨S1024x640, .f32⟩
  | .hbm, ⟨49, _⟩ => ⟨S1024x640, .f32⟩
  | .hbm, ⟨50, _⟩ => ⟨S1x1024x640, .f32⟩
  | .hbm, ⟨51, _⟩ => ⟨S1024x640, .f32⟩
  | .hbm, ⟨52, _⟩ => ⟨S1x1024x640, .f32⟩
  | .hbm, ⟨53, _⟩ => ⟨S1x1024x640, .f32⟩
  | .hbm, ⟨54, _⟩ => ⟨S2x1024x640, .f32⟩
  | .hbm, ⟨55, _⟩ => ⟨S1x1024x640, .f32⟩
  | .hbm, ⟨56, _⟩ => ⟨S1024x640, .f32⟩
  | .hbm, ⟨57, _⟩ => ⟨S1x1024x640, .f32⟩
  | .hbm, ⟨58, _⟩ => ⟨S1x1024x640, .f32⟩
  | .hbm, ⟨59, _⟩ => ⟨S2x1024x640, .f32⟩
  | .hbm, ⟨60, _⟩ => ⟨S1x1024x640, .f32⟩
  | .hbm, ⟨61, _⟩ => ⟨S1024x640, .f32⟩
  | .hbm, ⟨62, _⟩ => ⟨S1x1024x640, .f32⟩
  | .hbm, ⟨63, _⟩ => ⟨S1x1024x640, .f32⟩
  | .hbm, ⟨64, _⟩ => ⟨S2x1024x640, .f32⟩
  | .hbm, ⟨65, _⟩ => ⟨S1x1024x640, .f32⟩
  | .hbm, ⟨66, _⟩ => ⟨S1024x640, .f32⟩
  | .hbm, ⟨67, _⟩ => ⟨S1x1024x640, .f32⟩
  | .hbm, ⟨68, _⟩ => ⟨S1x1024x640, .f32⟩
  | .hbm, ⟨69, _⟩ => ⟨S2x1024x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel22.lean ====
abbrev S2x192x1024 : Shape := ⟨3, ![2, 192, 1024]⟩
abbrev S8x192x1024 : Shape := ⟨3, ![8, 192, 1024]⟩
abbrev S1x192x1024 : Shape := ⟨3, ![1, 192, 1024]⟩
abbrev S192x1024 : Shape := ⟨2, ![192, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x192x1024, .f32⟩
  | .hbm, ⟨1, _⟩ => ⟨S8x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .hbm, ⟨11, _⟩ => ⟨S2x192x1024, .f32⟩
  | .local _ .vmem, ⟨0, _⟩ => ⟨S1x192x1024, .f32⟩
  | .local _ .vmem, ⟨1, _⟩ => ⟨S8x192x1024, .bf16⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | _, _ => ⟨S2x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel22Ideal.lean ====
abbrev S2x192x1024 : Shape := ⟨3, ![2, 192, 1024]⟩
abbrev S8x192x1024 : Shape := ⟨3, ![8, 192, 1024]⟩
abbrev S1x192x1024 : Shape := ⟨3, ![1, 192, 1024]⟩
abbrev S192x1024 : Shape := ⟨2, ![192, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x192x1024, .f32⟩
  | .hbm, ⟨1, _⟩ => ⟨S8x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .hbm, ⟨11, _⟩ => ⟨S2x192x1024, .f32⟩
  | .local _ .vmem, ⟨0, _⟩ => ⟨S1x192x1024, .f32⟩
  | .local _ .vmem, ⟨1, _⟩ => ⟨S8x192x1024, .bf16⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | _, _ => ⟨S2x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S2x192x1024 : Shape := ⟨3, ![2, 192, 1024]⟩
abbrev S8x192x1024 : Shape := ⟨3, ![8, 192, 1024]⟩
abbrev S1x192x1024 : Shape := ⟨3, ![1, 192, 1024]⟩
abbrev S192x1024 : Shape := ⟨2, ![192, 1024]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x192x1024, .f32⟩
  | .hbm, ⟨1, _⟩ => ⟨S8x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S1x192x1024, .f32⟩
  | .hbm, ⟨9, _⟩ => ⟨S192x1024, .f32⟩
  | .hbm, ⟨10, _⟩ => ⟨S8x192x1024, .f32⟩
  | .hbm, ⟨11, _⟩ => ⟨S_, .f32⟩
  | .hbm, ⟨12, _⟩ => ⟨S192x1024, .f32⟩
  | .hbm, ⟨13, _⟩ => ⟨S1x192x1024, .f32⟩
  | .hbm, ⟨14, _⟩ => ⟨S192x1024, .f32⟩
  | .hbm, ⟨15, _⟩ => ⟨S1x192x1024, .f32⟩
  | .hbm, ⟨16, _⟩ => ⟨S192x1024, .f32⟩
  | .hbm, ⟨17, _⟩ => ⟨S_, .f32⟩
  | .hbm, ⟨18, _⟩ => ⟨S192x1024, .f32⟩
  | .hbm, ⟨19, _⟩ => ⟨S192x1024, .f32⟩
  | .hbm, ⟨20, _⟩ => ⟨S_, .f32⟩
  | .hbm, ⟨21, _⟩ => ⟨S192x1024, .f32⟩
  | .hbm, ⟨22, _⟩ => ⟨S192x1024, .f32⟩
  | .hbm, ⟨23, _⟩ => ⟨S192x1024, .f32⟩
  | .hbm, ⟨24, _⟩ => ⟨S_, .f32⟩
  | .hbm, ⟨25, _⟩ => ⟨S192x1024, .f32⟩
  | .hbm, ⟨26, _⟩ => ⟨S192x1024, .f32⟩
  | .hbm, ⟨27, _⟩ => ⟨S192x1024, .f32⟩
  | .hbm, ⟨28, _⟩ => ⟨S_, .f32⟩
  | .hbm, ⟨29, _⟩ => ⟨S192x1024, .f32⟩
  | .hbm, ⟨30, _⟩ => ⟨S192x1024, .f32⟩
  | .hbm, ⟨31, _⟩ => ⟨S192x1024, .f32⟩
  | .hbm, ⟨32, _⟩ => ⟨S_, .f32⟩
  | .hbm, ⟨33, _⟩ => ⟨S192x1024, .f32⟩
  | .hbm, ⟨34, _⟩ => ⟨S192x1024, .f32⟩
  | .hbm, ⟨35, _⟩ => ⟨S_, .f32⟩
  | .hbm, ⟨36, _⟩ => ⟨S192x1024, .f32⟩
  | .hbm, ⟨37, _⟩ => ⟨S192x1024, .f32⟩
  | .hbm, ⟨38, _⟩ => ⟨S192x1024, .f32⟩
  | .hbm, ⟨39, _⟩ => ⟨S_, .f32⟩
  | .hbm, ⟨40, _⟩ => ⟨S192x1024, .f32⟩
  | .hbm, ⟨41, _⟩ => ⟨S192x1024, .f32⟩
  | .hbm, ⟨42, _⟩ => ⟨S192x1024, .f32⟩
  | .hbm, ⟨43, _⟩ => ⟨S_, .f32⟩
  | .hbm, ⟨44, _⟩ => ⟨S192x1024, .f32⟩
  | .hbm, ⟨45, _⟩ => ⟨S192x1024, .f32⟩
  | .hbm, ⟨46, _⟩ => ⟨S192x1024, .f32⟩
  | .hbm, ⟨47, _⟩ => ⟨S_, .f32⟩
  | .hbm, ⟨48, _⟩ => ⟨S192x1024, .f32⟩
  | .hbm, ⟨49, _⟩ => ⟨S192x1024, .f32⟩
  | .hbm, ⟨50, _⟩ => ⟨S1x192x1024, .f32⟩
  | .hbm, ⟨51, _⟩ => ⟨S192x1024, .f32⟩
  | .hbm, ⟨52, _⟩ => ⟨S1x192x1024, .f32⟩
  | .hbm, ⟨53, _⟩ => ⟨S1x192x1024, .f32⟩
  | .hbm, ⟨54, _⟩ => ⟨S2x192x1024, .f32⟩
  | .hbm, ⟨55, _⟩ => ⟨S1x192x1024, .f32⟩
  | .hbm, ⟨56, _⟩ => ⟨S192x1024, .f32⟩
  | .hbm, ⟨57, _⟩ => ⟨S1x192x1024, .f32⟩
  | .hbm, ⟨58, _⟩ => ⟨S1x192x1024, .f32⟩
  | .hbm, ⟨59, _⟩ => ⟨S2x192x1024, .f32⟩
  | .hbm, ⟨60, _⟩ => ⟨S1x192x1024, .f32⟩
  | .hbm, ⟨61, _⟩ => ⟨S192x1024, .f32⟩
  | .hbm, ⟨62, _⟩ => ⟨S1x192x1024, .f32⟩
  | .hbm, ⟨63, _⟩ => ⟨S1x192x1024, .f32⟩
  | .hbm, ⟨64, _⟩ => ⟨S2x192x1024, .f32⟩
  | .hbm, ⟨65, _⟩ => ⟨S1x192x1024, .f32⟩
  | .hbm, ⟨66, _⟩ => ⟨S192x1024, .f32⟩
  | .hbm, ⟨67, _⟩ => ⟨S1x192x1024, .f32⟩
  | .hbm, ⟨68, _⟩ => ⟨S1x192x1024, .f32⟩
  | .hbm, ⟨69, _⟩ => ⟨S2x192x1024, .f32⟩
  | _, _ => ⟨S2x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel23.lean ====
abbrev S2x256x1024 : Shape := ⟨3, ![2, 256, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel23Ideal.lean ====
abbrev S2x256x1024 : Shape := ⟨3, ![2, 256, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S2x256x1024 : Shape := ⟨3, ![2, 256, 1024]⟩
abbrev S8x256x1024 : Shape := ⟨3, ![8, 256, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S1x256x1024, .f32⟩
  | .hbm, ⟨9, _⟩ => ⟨S256x1024, .f32⟩
  | .hbm, ⟨10, _⟩ => ⟨S8x256x1024, .f32⟩
  | .hbm, ⟨11, _⟩ => ⟨S_, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S1x256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S1x256x1024, .f32⟩
  | .hbm, ⟨51, _⟩ => ⟨S256x1024, .f32⟩
  | .hbm, ⟨52, _⟩ => ⟨S1x256x1024, .f32⟩
  | .hbm, ⟨53, _⟩ => ⟨S1x256x1024, .f32⟩
  | .hbm, ⟨54, _⟩ => ⟨S2x256x1024, .f32⟩
  | .hbm, ⟨55, _⟩ => ⟨S1x256x1024, .f32⟩
  | .hbm, ⟨56, _⟩ => ⟨S256x1024, .f32⟩
  | .hbm, ⟨57, _⟩ => ⟨S1x256x1024, .f32⟩
  | .hbm, ⟨58, _⟩ => ⟨S1x256x1024, .f32⟩
  | .hbm, ⟨59, _⟩ => ⟨S2x256x1024, .f32⟩
  | .hbm, ⟨60, _⟩ => ⟨S1x256x1024, .f32⟩
  | .hbm, ⟨61, _⟩ => ⟨S256x1024, .f32⟩
  | .hbm, ⟨62, _⟩ => ⟨S1x256x1024, .f32⟩
  | .hbm, ⟨63, _⟩ => ⟨S1x256x1024, .f32⟩
  | .hbm, ⟨64, _⟩ => ⟨S2x256x1024, .f32⟩
  | .hbm, ⟨65, _⟩ => ⟨S1x256x1024, .f32⟩
  | .hbm, ⟨66, _⟩ => ⟨S256x1024, .f32⟩
  | .hbm, ⟨67, _⟩ => ⟨S1x256x1024, .f32⟩
  | .hbm, ⟨68, _⟩ => ⟨S1x256x1024, .f32⟩
  | .hbm, ⟨69, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel24.lean ====
abbrev S2x64x512 : Shape := ⟨3, ![2, 64, 512]⟩
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x64x512, .f32⟩
  | .hbm, ⟨1, _⟩ => ⟨S8x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x512, .f32⟩
  | .hbm, ⟨9, _⟩ => ⟨S2x64x512, .f32⟩
  | .hbm, ⟨10, _⟩ => ⟨S2x64x512, .f32⟩
  | .hbm, ⟨11, _⟩ => ⟨S2x64x512, .f32⟩
  | .local _ .vmem, ⟨0, _⟩ => ⟨S1x64x512, .f32⟩
  | .local _ .vmem, ⟨1, _⟩ => ⟨S8x64x512, .bf16⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel24Ideal.lean ====
abbrev S2x64x512 : Shape := ⟨3, ![2, 64, 512]⟩
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x64x512, .f32⟩
  | .hbm, ⟨1, _⟩ => ⟨S8x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x512, .f32⟩
  | .hbm, ⟨9, _⟩ => ⟨S2x64x512, .f32⟩
  | .hbm, ⟨10, _⟩ => ⟨S2x64x512, .f32⟩
  | .hbm, ⟨11, _⟩ => ⟨S2x64x512, .f32⟩
  | .local _ .vmem, ⟨0, _⟩ => ⟨S1x64x512, .f32⟩
  | .local _ .vmem, ⟨1, _⟩ => ⟨S8x64x512, .bf16⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S2x64x512 : Shape := ⟨3, ![2, 64, 512]⟩
abbrev S8x64x512 : Shape := ⟨3, ![8, 64, 512]⟩
abbrev S1x64x512 : Shape := ⟨3, ![1, 64, 512]⟩
abbrev S64x512 : Shape := ⟨2, ![64, 512]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x64x512, .f32⟩
  | .hbm, ⟨1, _⟩ => ⟨S8x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S1x64x512, .f32⟩
  | .hbm, ⟨9, _⟩ => ⟨S64x512, .f32⟩
  | .hbm, ⟨10, _⟩ => ⟨S8x64x512, .f32⟩
  | .hbm, ⟨11, _⟩ => ⟨S_, .f32⟩
  | .hbm, ⟨12, _⟩ => ⟨S64x512, .f32⟩
  | .hbm, ⟨13, _⟩ => ⟨S1x64x512, .f32⟩
  | .hbm, ⟨14, _⟩ => ⟨S64x512, .f32⟩
  | .hbm, ⟨15, _⟩ => ⟨S1x64x512, .f32⟩
  | .hbm, ⟨16, _⟩ => ⟨S64x512, .f32⟩
  | .hbm, ⟨17, _⟩ => ⟨S_, .f32⟩
  | .hbm, ⟨18, _⟩ => ⟨S64x512, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S_, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S64x512, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S1x64x512, .f32⟩
  | .hbm, ⟨51, _⟩ => ⟨S64x512, .f32⟩
  | .hbm, ⟨52, _⟩ => ⟨S1x64x512, .f32⟩
  | .hbm, ⟨53, _⟩ => ⟨S1x64x512, .f32⟩
  | .hbm, ⟨54, _⟩ => ⟨S2x64x512, .f32⟩
  | .hbm, ⟨55, _⟩ => ⟨S1x64x512, .f32⟩
  | .hbm, ⟨56, _⟩ => ⟨S64x512, .f32⟩
  | .hbm, ⟨57, _⟩ => ⟨S1x64x512, .f32⟩
  | .hbm, ⟨58, _⟩ => ⟨S1x64x512, .f32⟩
  | .hbm, ⟨59, _⟩ => ⟨S2x64x512, .f32⟩
  | .hbm, ⟨60, _⟩ => ⟨S1x64x512, .f32⟩
  | .hbm, ⟨61, _⟩ => ⟨S64x512, .f32⟩
  | .hbm, ⟨62, _⟩ => ⟨S1x64x512, .f32⟩
  | .hbm, ⟨63, _⟩ => ⟨S1x64x512, .f32⟩
  | .hbm, ⟨64, _⟩ => ⟨S2x64x512, .f32⟩
  | .hbm, ⟨65, _⟩ => ⟨S1x64x512, .f32⟩
  | .hbm, ⟨66, _⟩ => ⟨S64x512, .f32⟩
  | .hbm, ⟨67, _⟩ => ⟨S1x64x512, .f32⟩
  | .hbm, ⟨68, _⟩ => ⟨S1x64x512, .f32⟩
  | .hbm, ⟨69, _⟩ => ⟨S2x64x512, .f32⟩
  | _, _ => ⟨S2x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel25.lean ====
abbrev S2x256x512 : Shape := ⟨3, ![2, 256, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S8x256x512, .bf16⟩
  | .hbm, ⟨2, _⟩ => ⟨S2x256x512, .f32⟩
  | .hbm, ⟨3, _⟩ => ⟨S2x256x512, .f32⟩
  | .hbm, ⟨4, _⟩ => ⟨S2x256x512, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S2x256x512, .f32⟩
  | .local _ .vmem, ⟨0, _⟩ => ⟨S1x256x512, .f32⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S2x256x512 : Shape := ⟨3, ![2, 256, 512]⟩
abbrev S8x256x512 : Shape := ⟨3, ![8, 256, 512]⟩
abbrev S1x256x512 : Shape := ⟨3, ![1, 256, 512]⟩
abbrev S256x512 : Shape := ⟨2, ![256, 512]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S8x256x512, .bf16⟩
  | .hbm, ⟨2, _⟩ => ⟨S2x256x512, .f32⟩
  | .hbm, ⟨3, _⟩ => ⟨S2x256x512, .f32⟩
  | .hbm, ⟨4, _⟩ => ⟨S2x256x512, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S1x256x512, .f32⟩
  | .hbm, ⟨9, _⟩ => ⟨S256x512, .f32⟩
  | .hbm, ⟨10, _⟩ => ⟨S8x256x512, .f32⟩
  | .hbm, ⟨11, _⟩ => ⟨S_, .f32⟩
  | .hbm, ⟨12, _⟩ => ⟨S256x512, .f32⟩
  | .hbm, ⟨13, _⟩ => ⟨S1x256x512, .f32⟩
  | .hbm, ⟨14, _⟩ => ⟨S256x512, .f32⟩
  | .hbm, ⟨15, _⟩ => ⟨S1x256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S_, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S_, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S_, .f32⟩
  | .hbm, ⟨40, _⟩ => ⟨S256x512, .f32⟩
  | .hbm, ⟨41, _⟩ => ⟨S256x512, .f32⟩
  | .hbm, ⟨42, _⟩ => ⟨S256x512, .f32⟩
  | .hbm, ⟨43, _⟩ => ⟨S_, .f32⟩
  | .hbm, ⟨44, _⟩ => ⟨S256x512, .f32⟩
  | .hbm, ⟨45, _⟩ => ⟨S256x512, .f32⟩
  | .hbm, ⟨46, _⟩ => ⟨S256x512, .f32⟩
  | .hbm, ⟨47, _⟩ => ⟨S_, .f32⟩
  | .hbm, ⟨48, _⟩ => ⟨S256x512, .f32⟩
  | .hbm, ⟨49, _⟩ => ⟨S256x512, .f32⟩
  | .hbm, ⟨50, _⟩ => ⟨S1x256x512, .f32⟩
  | .hbm, ⟨51, _⟩ => ⟨S256x512, .f32⟩
  | .hbm, ⟨52, _⟩ => ⟨S1x256x512, .f32⟩
  | .hbm, ⟨53, _⟩ => ⟨S1x256x512, .f32⟩
  | .hbm, ⟨54, _⟩ => ⟨S2x256x512, .f32⟩
  | .hbm, ⟨55, _⟩ => ⟨S1x256x512, .f32⟩
  | .hbm, ⟨56, _⟩ => ⟨S256x512, .f32⟩
  | .hbm, ⟨57, _⟩ => ⟨S1x256x512, .f32⟩
  | .hbm, ⟨58, _⟩ => ⟨S1x256x512, .f32⟩
  | .hbm, ⟨59, _⟩ => ⟨S2x256x512, .f32⟩
  | .hbm, ⟨60, _⟩ => ⟨S1x256x512, .f32⟩
  | .hbm, ⟨61, _⟩ => ⟨S256x512, .f32⟩
  | .hbm, ⟨62, _⟩ => ⟨S1x256x512, .f32⟩
  | .hbm, ⟨63, _⟩ => ⟨S1x256x512, .f32⟩
  | .hbm, ⟨64, _⟩ => ⟨S2x256x512, .f32⟩
  | .hbm, ⟨65, _⟩ => ⟨S1x256x512, .f32⟩
  | .hbm, ⟨66, _⟩ => ⟨S256x512, .f32⟩
  | .hbm, ⟨67, _⟩ => ⟨S1x256x512, .f32⟩
  | .hbm, ⟨68, _⟩ => ⟨S1x256x512, .f32⟩
  | .hbm, ⟨69, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel26.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S2048x2048 : Shape := ⟨2, ![2048, 2048]⟩
abbrev S2048x4096 : Shape := ⟨2, ![2048, 4096]⟩
abbrev S1x2048 : Shape := ⟨2, ![1, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S2048x2048 : Shape := ⟨2, ![2048, 2048]⟩
abbrev S2048x4096 : Shape := ⟨2, ![2048, 4096]⟩
abbrev S1x2048 : Shape := ⟨2, ![1, 2048]⟩
abbrev S2048 : Shape := ⟨1, ![2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel28.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference28Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.KernelHost.lean ====
/- What the kernel's host code hands to the launch: the bias of the three patterns, the log-sum-exp of every row, the
   forward pass's output, and the queries, keys and values side by side. -/
module

public import proofs.«01_k».proof.Proof.Gen.KernelIdeal.Value
public import proofs.«01_k».proof.Proof.Gen.ReferenceIdeal.Read
public import Idealize.ShloMosaic.Lib.ValueIdx
public import Idealize.ShloMosaic.Lib.StableHlo.ReadAt

@[expose] public section

set_option maxRecDepth 16384

noncomputable section

namespace Cert.Attn

open Idealize.ShloMosaic Idealize.ShloMosaic.TcCoe Idealize.ShloMosaic.Tactic
open Idealize.SL Idealize.SL.Sem
open Cert.KernelIdeal Cert.KernelIdeal.Gen
open Cert.ReferenceIdeal.Read

/-- The distances of a query in tile `n` from a key in tile 0, as words. -/
def distWords : IVec S4x512x512 32 :=
  subi
    (broadcastInDim S4x512x512 ![0, 1, 2] bcast_S4x512x1_S4x512x512_0_1_2
      (addi
        (broadcastInDim S4x512x1 ![0, 1, 2] bcast_S4x1x1_S4x512x1_0_1_2
          (muli (broadcastInDim S4x1x1 ![0] bcast_S4_S4x1x1_0 (iotaInDim S4 32 0))
            (broadcastInDim S4x1x1 ![] bcast_S_S4x1x1 (constantI S_ 32 512#32))))
        (broadcastInDim S4x512x1 ![0, 1, 2] bcast_S1x512x1_S4x512x1_0_1_2
          (broadcastInDim S1x512x1 ![1] bcast_S512_S1x512x1_1 (iotaInDim S512 32 0)))))
    (broadcastInDim S4x512x512 ![0, 1, 2] bcast_S1x1x512_S4x512x512_0_1_2
      (broadcastInDim S1x1x512 ![2] bcast_S512_S1x1x512_2 (iotaInDim S512 32 0)))

/-- A word laid over the tiles. -/
def wordTiles (w : BitVec 32) : IVec S4x512x512 32 := broadcastInDim S4x512x512 ![] bcast_S_S4x512x512 (constantI S_ 32 w)
/-- A float constant laid over the tiles. -/
def floatTiles (w : BitVec 32) : FVec Ideal S4x512x512 .f32 :=
  broadcastInDim S4x512x512 ![] bcast_S_S4x512x512 (constant (F := Ideal) S_ .f32 w)
/-- One where the bit is set, else zero. -/
def indicator (b : IVec S4x512x512 1) : FVec Ideal S4x512x512 .f32 :=
  select b (floatTiles 0x3F800000#32) (floatTiles 0x00000000#32)

/-- The query does not come before the key. -/
def behind : IVec S4x512x512 1 := cmpi .sge distWords (wordTiles 0#32)
def nearBits : IVec S4x512x512 1 := andi behind (cmpi .sle distWords (wordTiles 128#32))
def midBits : IVec S4x512x512 1 :=
  andi (andi behind (cmpi .sle distWords (wordTiles 512#32))) (cmpi .eq (andi distWords (wordTiles 3#32)) (wordTiles 0#32))
def farBits : IVec S4x512x512 1 := andi behind (cmpi .eq (andi distWords (wordTiles 15#32)) (wordTiles 0#32))

/-- The multiplicity, computed in floats. -/
def multTiles : FVec Ideal S4x512x512 .f32 := addf (addf (indicator nearBits) (indicator midBits)) (indicator farBits)

/-- The bias: the logarithm of the multiplicity, −∞ where it is zero. -/
def biasTiles : FVec Ideal S4x512x512 .f32 :=
  select (cmpf .ogt multTiles (floatTiles 0x00000000#32)) (Host.log (maximumf multTiles (floatTiles 0x3F800000#32)))
    (floatTiles 0xFF800000#32)

variable (m : (ℓ : Loc nD τ sig) → Buf (Elt Ideal) ℓ) (c : Dev nD)

theorem V_bias : V m c main_v125 = biasTiles := by
  unfold V; after_reads_simp; rfl

/-- The four arguments on a device. -/
abbrev argQ := m ((c : Thread nD τ).loc main_arg0)
abbrev argK := m ((c : Thread nD τ).loc main_arg1)
abbrev argV := m ((c : Thread nD τ).loc main_arg2)
abbrev argG := m ((c : Thread nD τ).loc main_arg3)

theorem V_out : V m c main_v66 = val_main_v85 (F := Ideal) (argQ m c) (argK m c) (argV m c) := by
  unfold V; after_reads_simp; rfl

/-- The log-sum-exp of every head and row: the row maximum plus the logarithm of the sum of the exponentials above it. -/
def lseRows (q k : FVec Ideal S2048x1024 .f32) : FVec Ideal S1x16x2048 .f32 :=
  addf (val_main_v52 (F := Ideal) q k)
    (Host.log (Host.reduceAdd
      (Host.exp (subf (val_main_v51_0 (F := Ideal) q k)
        (broadcastInDim S1x16x2048x387 ![0, 1, 2, 3] bcast_S1x16x2048x1_S1x16x2048x387_0_1_2_3
          (broadcastInDim S1x16x2048x1 ![0, 1, 2] bcast_S1x16x2048_S1x16x2048x1_0_1_2 (val_main_v52 (F := Ideal) q k)))))
      (constant (F := Ideal) S_ .f32 0x00000000#32) reducesTo_S1x16x2048x387_S1x16x2048_d3 h_S_))

/-- The same, by row and lane: every lane of a head holds the head's value. -/
def lseLanes (q k : FVec Ideal S2048x1024 .f32) : FVec Ideal S2048x1024 .f32 :=
  shapeCast S2048x1024
    (broadcastInDim S2048x16x64 ![0, 1] bcast_S2048x16_S2048x16x64_0_1
      (transpose S2048x16 [1, 0] (shapeCast S16x2048 (lseRows q k) shapeCasts_S1x16x2048_S16x2048)
        transposes_S16x2048_S2048x16_1_0))
    shapeCasts_S2048x16x64_S2048x1024

theorem V_lse : V m c main_v78 = lseLanes (argQ m c) (argK m c) := by
  unfold V; after_reads_simp; rfl

/-- The queries, keys and values side by side. -/
def sideBySide (q k v : FVec Ideal S2048x1024 .f32) : FVec Ideal S2048x3072 .bf16 :=
  concatenate S2048x3072 1 [⟨S2048x1024, truncf (F := Ideal) .bf16 q bitsLt_bf16_f32⟩, ⟨S2048x1024, truncf (F := Ideal) .bf16 k bitsLt_bf16_f32⟩,
    ⟨S2048x1024, truncf (F := Ideal) .bf16 v bitsLt_bf16_f32⟩] concatenates_S2048x1024_S2048x1024_S2048x1024_S2048x3072_d1

theorem V_qkv : V m c main_v82 = sideBySide (argQ m c) (argK m c) (argV m c) := by
  unfold V; after_reads_simp; rfl

theorem V_grad : V m c main_arg3 = argG m c := by
  unfold V; after_reads_simp

end Cert.Attn

end
-- ==== Proof.Spec.lean ====
/- The mathematics both programs compute, over the reals: causal attention in which the key at distance `δ = R - C`
   behind the query counts `mult δ` times, and its three gradients. The reference runs over the 387 offsets it gathers,
   the kernel over all keys with the multiplicity; `sum_offsets` is the bridge between the two sums. -/
module

public import Idealize.ShloMosaic.PureOps.Ideal
public import Mathlib.Analysis.SpecialFunctions.Log.Basic

@[expose] public section

noncomputable section

namespace Cert.Attn

/-- A 2048 × 1024 array of reals, by row and lane. -/
abbrev Arr := Fin 2048 → Fin 1024 → ℝ

/-- Lane `d` of head `h`. -/
def lane (h : Fin 16) (d : Fin 64) : Fin 1024 := ⟨64 * h.val + d.val, by omega⟩

/-- The head a lane belongs to, and the lane's place within the head. -/
def headOf (l : Fin 1024) : Fin 16 := ⟨l.val / 64, by omega⟩
def place (l : Fin 1024) : Fin 64 := ⟨l.val % 64, by omega⟩

theorem lane_headOf (l : Fin 1024) : lane (headOf l) (place l) = l := by
  apply Fin.ext; simp only [lane, headOf, place]; omega

theorem headOf_lane (h : Fin 16) (d : Fin 64) : headOf (lane h d) = h := by
  apply Fin.ext; simp only [lane, headOf]; omega

/-- How many of the three patterns reach back by `δ`: one step up to 128, four steps up to 512, sixteen steps. -/
def mult (δ : ℤ) : ℝ :=
  (if 0 ≤ δ ∧ δ ≤ 128 then 1 else 0) + (if (0 ≤ δ ∧ δ ≤ 512) ∧ δ % 4 = 0 then 1 else 0)
    + (if 0 ≤ δ ∧ δ % 16 = 0 then 1 else 0)

theorem mult_nonneg (δ : ℤ) : 0 ≤ mult δ := by unfold mult; split_ifs <;> norm_num

theorem mult_neg {δ : ℤ} (h : δ < 0) : mult δ = 0 := by
  unfold mult
  rw [if_neg (by omega), if_neg (by omega), if_neg (by omega)]; norm_num

theorem mult_zero : mult 0 = 3 := by unfold mult; norm_num

/-- The multiplicity of key `C` for query `R`. -/
def times (R C : Fin 2048) : ℝ := mult ((R.val : ℤ) - C.val)

section
variable (q k v g : Arr) (h : Fin 16) (R C : Fin 2048)

/-- The score of query `R` against key `C` in head `h`. -/
def score : ℝ := ∑ d : Fin 64, q R (lane h d) * k C (lane h d)

/-- The unnormalised weight of key `C`, counted with its multiplicity. -/
def weight : ℝ := times R C * Real.exp (score q k h R C)

/-- The softmax denominator of query `R`. -/
def total : ℝ := ∑ C, weight q k h R C

/-- The attention probability of key `C`. -/
def prob : ℝ := weight q k h R C / total q k h R

/-- The gradient reaching the probability of key `C`. -/
def gradProb : ℝ := ∑ d : Fin 64, g R (lane h d) * v C (lane h d)

/-- The mean of that gradient under the probabilities. -/
def meanGrad : ℝ := ∑ C, prob q k h R C * gradProb v g h R C

/-- The gradient reaching the score of key `C`. -/
def gradScore : ℝ := prob q k h R C * (gradProb v g h R C - meanGrad q k v g h R)

/-- The three gradients. -/
def gradQ (l : Fin 1024) : ℝ := ∑ C, gradScore q k v g (headOf l) R C * k C l
def gradK (l : Fin 1024) : ℝ := ∑ R, gradScore q k v g (headOf l) R C * q R l
def gradV (l : Fin 1024) : ℝ := ∑ R, prob q k (headOf l) R C * g R l

theorem weight_nonneg : 0 ≤ weight q k h R C := mul_nonneg (mult_nonneg _) (Real.exp_pos _).le

/-- A query's own key has weight, so the denominator is positive. -/
theorem total_pos : 0 < total q k h R := by
  refine Finset.sum_pos' (fun C _ => weight_nonneg q k h R C) ⟨R, Finset.mem_univ _, ?_⟩
  unfold weight times
  rw [sub_self, mult_zero]
  exact mul_pos (by norm_num) (Real.exp_pos _)

end

/-! ## The gathered offsets -/

/-- The offset number `κ` reaches back by: `0, 1, …, 128`, then `0, 4, …, 512`, then `0, 16, …, 2048`. -/
def off (κ : Fin 387) : ℕ :=
  if κ.val < 129 then κ.val else if κ.val < 258 then 4 * (κ.val - 129) else 16 * (κ.val - 258)

theorem off_le (κ : Fin 387) : off κ ≤ 2048 := by
  unfold off; split_ifs <;> omega

/-- One pattern of step `a`: exactly one of its 129 offsets reaches from `R` to `C` if the distance is a multiple of `a`
    up to `128 a`, and none otherwise. -/
theorem sum_step (a : ℕ) (ha : 0 < a) (R C : ℕ) :
    (∑ κ : Fin 129, if a * κ.val + C = R then (1 : ℝ) else 0)
      = if (C ≤ R ∧ R - C ≤ 128 * a) ∧ (R - C) % a = 0 then 1 else 0 := by
  by_cases h : (C ≤ R ∧ R - C ≤ 128 * a) ∧ (R - C) % a = 0
  · rw [if_pos h]
    obtain ⟨⟨h1, h2⟩, h3⟩ := h
    obtain ⟨n, hn⟩ := Nat.dvd_of_mod_eq_zero h3
    have hn' : n < 129 := by
      by_contra hc
      have h129 : 129 ≤ n := by omega
      have := Nat.mul_le_mul_left a h129
      nlinarith
    rw [Finset.sum_eq_single (⟨n, hn'⟩ : Fin 129)]
    · rw [if_pos (by show a * n + C = R; omega)]
    · intro b _ hb
      rw [if_neg]
      intro he
      apply hb
      apply Fin.ext
      show b.val = n
      exact Nat.eq_of_mul_eq_mul_left ha (by omega)
    · intro hc; exact absurd (Finset.mem_univ _) hc
  · rw [if_neg h]
    refine Finset.sum_eq_zero fun κ _ => if_neg fun he => h ⟨⟨by omega, ?_⟩, ?_⟩
    · have : a * κ.val ≤ a * 128 := Nat.mul_le_mul_left a (by omega)
      rw [← he, Nat.add_sub_cancel]; omega
    · rw [← he, Nat.add_sub_cancel]; exact Nat.mul_mod_right a _

/-- The offsets that reach from `R` to `C` number `mult (R - C)`. -/
theorem sum_hits (R C : Fin 2048) :
    (∑ κ : Fin 387, if off κ + C.val = R.val then (1 : ℝ) else 0) = times R C := by
  have e : (∑ κ : Fin 387, if off κ + C.val = R.val then (1 : ℝ) else 0)
      = (∑ κ : Fin 129, if 1 * κ.val + C.val = R.val then (1 : ℝ) else 0)
        + (∑ κ : Fin 129, if 4 * κ.val + C.val = R.val then (1 : ℝ) else 0)
        + (∑ κ : Fin 129, if 16 * κ.val + C.val = R.val then (1 : ℝ) else 0) := by
    refine (Fin.sum_univ_add (a := 129 + 129) (b := 129) _).trans ?_
    rw [Fin.sum_univ_add]
    refine congrArg₂ (· + ·) (congrArg₂ (· + ·) ?_ ?_) ?_
    · refine Finset.sum_congr rfl fun κ _ => ?_
      have : off (Fin.castAdd 129 (Fin.castAdd 129 κ)) = 1 * κ.val := by
        have := κ.isLt
        simp only [off, Fin.val_castAdd]; rw [if_pos (by omega)]; omega
      rw [this]
    · refine Finset.sum_congr rfl fun κ _ => ?_
      have : off (Fin.castAdd 129 (Fin.natAdd 129 κ)) = 4 * κ.val := by
        have := κ.isLt
        simp only [off, Fin.val_castAdd, Fin.val_natAdd]; rw [if_neg (by omega), if_pos (by omega)]; omega
      rw [this]
    · refine Finset.sum_congr rfl fun κ _ => ?_
      have : off (Fin.natAdd (129 + 129) κ) = 16 * κ.val := by
        have := κ.isLt
        simp only [off, Fin.val_natAdd]; rw [if_neg (by omega), if_neg (by omega)]; omega
      rw [this]
  rw [e, sum_step 1 (by omega), sum_step 4 (by omega), sum_step 16 (by omega)]
  unfold times mult
  have hR := R.isLt
  congr 1
  · congr 1
    · exact if_congr (by omega) rfl rfl
    · exact if_congr (by omega) rfl rfl
  · exact if_congr (by omega) rfl rfl

/-- A sum over the offsets, each reaching back from query `R` if it does not leave the sequence, is the sum over all keys
    counted with their multiplicity. -/
theorem sum_offsets (R : Fin 2048) (f : Fin 2048 → ℝ) :
    (∑ κ : Fin 387, if h : off κ ≤ R.val then f ⟨R.val - off κ, by omega⟩ else 0) = ∑ C, times R C * f C := by
  have e : ∀ κ : Fin 387, (if h : off κ ≤ R.val then f ⟨R.val - off κ, by omega⟩ else 0)
      = ∑ C : Fin 2048, (if off κ + C.val = R.val then (1 : ℝ) else 0) * f C := by
    intro κ
    by_cases h : off κ ≤ R.val
    · rw [dif_pos h, Finset.sum_eq_single (⟨R.val - off κ, by omega⟩ : Fin 2048)]
      · rw [if_pos (by show off κ + (R.val - off κ) = R.val; omega), one_mul]
      · intro C _ hC
        rw [if_neg, zero_mul]
        intro he
        apply hC; apply Fin.ext; show C.val = R.val - off κ; omega
      · intro hc; exact absurd (Finset.mem_univ _) hc
    · rw [dif_neg h]
      symm
      refine Finset.sum_eq_zero fun C _ => ?_
      rw [if_neg (by omega), zero_mul]
  rw [Finset.sum_congr rfl fun κ _ => e κ, Finset.sum_comm]
  refine Finset.sum_congr rfl fun C _ => ?_
  rw [← Finset.sum_mul, sum_hits]

/-- The same from the key's side: summed over the queries and the offsets that lead to key `C`. -/
theorem sum_arrivals (C : Fin 2048) (f : Fin 2048 → ℝ) :
    (∑ R : Fin 2048, ∑ κ : Fin 387, if off κ + C.val = R.val then f R else 0) = ∑ R, times R C * f R := by
  refine Finset.sum_congr rfl fun R _ => ?_
  rw [← sum_hits, Finset.sum_mul]
  exact Finset.sum_congr rfl fun κ _ => by split_ifs <;> simp

end Cert.Attn

end
-- ==== Proof.Coe.lean ====
/- Extended reals that are real numbers: sums, the operations the programs apply to them, and the constants they name. -/
module

public import Idealize.ShloMosaic.PureOps.Ideal
public import Idealize.ShloMosaic.PureOps.Reduce

@[expose] public section

noncomputable section

namespace Cert.Attn

open Idealize.ShloMosaic

/-- A finite sum of reals, taken among the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a positive one. -/
theorem div_coe_pos (x y : ℝ) (hy : 0 < y) : Ideal.div (x : EReal) (y : EReal) = ((x / y : ℝ) : EReal) := by
  rw [Ideal.div_coe hy.ne', ← EReal.coe_mul, mul_one_div]

theorem log_coe_pos (x : ℝ) (hx : 0 < x) : Ideal.log (x : EReal) = ((Real.log x : ℝ) : EReal) := by
  rw [Ideal.log_coe, if_neg (not_le.2 hx)]

theorem const_one : Ideal.ofBits .f32 0x3F800000#32 = ((1 : ℝ) : EReal) := by
  simp [Ideal.ofBits, Ideal.ieee]
  rw [← EReal.coe_mul, ← EReal.coe_one]
  norm_num

theorem const_zero : Ideal.ofBits .f32 0x00000000#32 = ((0 : ℝ) : EReal) := by
  simp [Ideal.ofBits, Ideal.ieee]

theorem const_bot : Ideal.ofBits .f32 0xFF800000#32 = (⊥ : EReal) := by
  simp [Ideal.ofBits, Ideal.ieee]

/-- The largest of finitely many values, each real or −∞ and one of them real, is real. -/
theorem fold_max_real {n : ℕ} (f : Fin n → EReal) (hf : ∀ κ, f κ < ⊤) (κ : Fin n) (hκ : ⊥ < f κ) :
    ∃ r : ℝ, (Finset.univ : Finset (Fin n)).fold max ⊥ f = (r : EReal) := by
  have h1 : (Finset.univ : Finset (Fin n)).fold max ⊥ f < ⊤ :=
    (Finset.fold_max_lt _).2 ⟨bot_lt_top, fun x _ => hf x⟩
  have h2 : ⊥ < (Finset.univ : Finset (Fin n)).fold max ⊥ f :=
    (Finset.lt_fold_max _).2 (Or.inr ⟨κ, Finset.mem_univ _, hκ⟩)
  exact ⟨_, (EReal.coe_toReal h1.ne h2.ne').symm⟩

end Cert.Attn

end
-- ==== Proof.RefIndex.lean ====
/- The reference's index arithmetic: the offsets it gathers, the rows they lead to, and its `gather` and `scatter` read at
   an index. -/
module

public import proofs.«01_k».proof.Proof.Spec
public import proofs.«01_k».proof.Proof.Gen.ReferenceIdeal.Read
public import Idealize.ShloMosaic.Lib.ValueIdx
public import Idealize.ShloMosaic.Lib.Pipeline.Value

@[expose] public section

set_option maxRecDepth 16384

noncomputable section

namespace Cert.Attn

open Idealize.ShloMosaic Idealize.ShloMosaic.ValueIdx
open Cert.ReferenceIdeal Cert.ReferenceIdeal.Gen Cert.ReferenceIdeal.Read

/-- The list of offsets, entry by entry. -/
theorem offsets_read (κ : Fin 387) : val_main_v12 (F := Ideal) (ix1 κ) = BitVec.ofNat 32 (off κ) := by
  unfold val_main_v12
  have hκ := κ.isLt
  by_cases h1 : κ.val < 129
  · refine (concatenate_apply_piece (t := S387) 0 _ _ (ix1 κ) 0 (by decide) S129 _ rfl rfl 0 rfl (ix1 (⟨κ.val, h1⟩ : Fin 129))
      (fun b hb => absurd (Subsingleton.elim (α := Fin 1) _ _) hb) (Nat.zero_add _)).trans ?_
    rw [val_main_v5_apply, val_main_v4_apply, val_main_c_apply, val_main_v3_apply]
    show BitVec.ofNat 32 κ.val * 1#32 = _
    rw [BitVec.mul_one, off, if_pos h1]
  · by_cases h2 : κ.val < 258
    · refine (concatenate_apply_piece (t := S387) 0 _ _ (ix1 κ) 1 (by decide) S129 _ rfl rfl 129 rfl (ix1 (⟨κ.val - 129, by omega⟩ : Fin 129))
        (fun b hb => absurd (Subsingleton.elim (α := Fin 1) _ _) hb) (by show 129 + (κ.val - 129) = κ.val; omega)).trans ?_
      rw [val_main_v8_apply, val_main_v7_apply, val_main_c_0_apply, val_main_v6_apply]
      show BitVec.ofNat 32 (κ.val - 129) * BitVec.ofNat 32 4 = _
      rw [← BitVec.ofNat_mul, off, if_neg h1, if_pos h2, Nat.mul_comm]
    · refine (concatenate_apply_piece (t := S387) 0 _ _ (ix1 κ) 2 (by decide) S129 _ rfl rfl 258 rfl (ix1 (⟨κ.val - 258, by omega⟩ : Fin 129))
        (fun b hb => absurd (Subsingleton.elim (α := Fin 1) _ _) hb) (by show 258 + (κ.val - 258) = κ.val; omega)).trans ?_
      rw [val_main_v11_apply, val_main_v10_apply, val_main_c_1_apply, val_main_v9_apply]
      show BitVec.ofNat 32 (κ.val - 258) * BitVec.ofNat 32 16 = _
      rw [← BitVec.ofNat_mul, off, if_neg h1, if_neg h2, Nat.mul_comm]

/-- The distance from the front of the sequence at which offset `κ` of query `R` lands. -/
theorem rel_read (R : Fin 2048) (κ : Fin 387) :
    val_main_v26 (F := Ideal) (ix2 R κ) = BitVec.ofNat 32 R.val - BitVec.ofNat 32 (off κ) := by
  rw [val_main_v26_apply, val_main_v24_apply, val_main_v22_apply, val_main_v21_apply, val_main_v25_apply, val_main_v23_apply]
  have e : idx_main_v23 (idx_main_v25 (ix2 R κ)) = ix1 κ := by funext a; match a with | ⟨0, _⟩ => rfl
  rw [e]
  exact congrArg (BitVec.ofNat 32 R.val - ·) (offsets_read κ)

/-- The gathered row, counted in the padded sequence of 4096 rows. -/
theorem row_word (R : Fin 2048) (κ : Fin 387) :
    BitVec.ofNat 32 R.val - BitVec.ofNat 32 (off κ) + 2048#32 = BitVec.ofNat 32 (R.val + 2048 - off κ) := by
  have h1 := off_le κ
  have h2 := R.isLt
  apply BitVec.eq_of_toNat_eq
  simp only [BitVec.toNat_add, BitVec.toNat_sub, BitVec.toNat_ofNat]
  omega

theorem toInt_small (n : ℕ) (h : n < 4096) : (BitVec.ofNat 32 n).toInt = n := by
  rw [BitVec.toInt_eq_toNat_of_lt (by rw [BitVec.toNat_ofNat]; omega), BitVec.toNat_ofNat]
  omega

theorem not_slt_zero (n : ℕ) (h : n < 4096) : IntOp.cmpi .slt (BitVec.ofNat 32 n) 0#32 = 0#1 := by
  have : (BitVec.ofNat 32 n).slt 0#32 = false := by
    rw [BitVec.slt, toInt_small n h]; simp
  simp [IntOp.cmpi, this]

theorem keyRow_read (R : Fin 2048) (κ : Fin 387) :
    val_main_v34 (F := Ideal) (ix3 R κ 0) = BitVec.ofNat 32 (R.val + 2048 - off κ) := by
  have h1 := off_le κ
  have h2 := R.isLt
  rw [val_main_v34_apply]
  have e : idx_main_v34 (ix3 R κ (0 : Fin 1)) = ix2 R κ := by funext a; match a with | ⟨0, _⟩ => rfl | ⟨1, _⟩ => rfl
  have e28 : val_main_v28 (F := Ideal) (ix2 R κ) = BitVec.ofNat 32 (R.val + 2048 - off κ) := by
    rw [val_main_v28_apply, rel_read, val_main_v27_apply, val_main_c_4_apply]
    exact row_word R κ
  rw [e, val_main_v33_apply, val_main_v30_apply, e28, val_main_v29_apply, val_main_c_5_apply, not_slt_zero _ (by omega)]
  rfl

theorem valueRow_read (R : Fin 2048) (κ : Fin 387) :
    val_main_v43 (F := Ideal) (ix3 R κ 0) = BitVec.ofNat 32 (R.val + 2048 - off κ) := by
  have h1 := off_le κ
  have h2 := R.isLt
  rw [val_main_v43_apply]
  have e : idx_main_v43 (ix3 R κ (0 : Fin 1)) = ix2 R κ := by funext a; match a with | ⟨0, _⟩ => rfl | ⟨1, _⟩ => rfl
  have e28 : val_main_v37 (F := Ideal) (ix2 R κ) = BitVec.ofNat 32 (R.val + 2048 - off κ) := by
    rw [val_main_v37_apply, rel_read, val_main_v36_apply, val_main_c_7_apply]
    exact row_word R κ
  rw [e, val_main_v42_apply, val_main_v39_apply, e28, val_main_v38_apply, val_main_c_8_apply, not_slt_zero _ (by omega)]
  rfl

/-- The mask: the offset does not leave the sequence. -/
theorem mask_read (h : Fin 16) (R : Fin 2048) (κ : Fin 387) :
    val_main_v51_1 (F := Ideal) (ix4 0 h R κ) = if off κ ≤ R.val then 1#1 else 0#1 := by
  have h1 := off_le κ
  have h2 := R.isLt
  rw [val_main_v51_1_apply]
  have e : idx_main_v51_1 (ix4 (0 : Fin 1) h R κ) = ix2 R κ := by funext a; match a with | ⟨0, _⟩ => rfl | ⟨1, _⟩ => rfl
  rw [e, val_main_v50_apply, rel_read, val_main_v49_apply, val_main_c_11_apply]
  have hi : (BitVec.ofNat 32 R.val - BitVec.ofNat 32 (off κ)).toInt = (R.val : ℤ) - off κ := by
    rw [BitVec.toInt_sub, toInt_small _ (by omega), toInt_small _ (by omega)]
    exact Int.bmod_eq_of_le (by omega) (by omega)
  by_cases hle : off κ ≤ R.val
  · rw [if_pos hle]
    have : (0#32).sle (BitVec.ofNat 32 R.val - BitVec.ofNat 32 (off κ)) = true := by
      rw [BitVec.sle, hi]; simp; omega
    simp [IntOp.cmpi, this]
  · rw [if_neg hle]
    have : (0#32).sle (BitVec.ofNat 32 R.val - BitVec.ofNat 32 (off κ)) = false := by
      rw [BitVec.sle, hi]; simp; omega
    simp [IntOp.cmpi, this]

/-- The gather of the reference at an index: the row its start index names, of the same head and lane. -/
theorem gather_read (x : S1x16x4096x64.Idx → EReal) (idx : IVec S2048x387x1 32) (h : Fin 16) (R : Fin 2048) (κ : Fin 387)
    (d : Fin 64) :
    Host.gather gather_S1x16x4096x64_S2048x387x1_S1x16x2048x387x64_014_2_n_n_2_2_116164 x idx (ix5 0 h R κ d)
      = x (ix4 0 h ⟨min (idx (ix3 R κ 0)).toInt.toNat 4095, by omega⟩ d) := by
  unfold Host.gather
  congr 1
  funext a
  apply Fin.ext
  have hs : ∀ c, gather_S1x16x4096x64_S2048x387x1_S1x16x2048x387x64_014_2_n_n_2_2_116164.siIdx (ix5 0 h R κ d) c = ix3 R κ 0 := by
    intro c
    funext b; apply Fin.ext
    have hc : c.val = 0 := by have h : c.val < 1 := c.isLt; omega
    match b with
    | ⟨0, _⟩ => rfl
    | ⟨1, _⟩ => rfl
    | ⟨2, _⟩ => exact hc
  match a with
  | ⟨0, _⟩ => rfl
  | ⟨1, _⟩ => exact Nat.zero_add _
  | ⟨2, _⟩ =>
    show min (idx _).toInt.toNat 4095 + 0 + 0 = min (idx _).toInt.toNat 4095
    rw [hs]; rfl
  | ⟨3, _⟩ => exact Nat.zero_add _

/-- Where an update of the reference's scatter lands. -/
theorem scatter_lands (idx : IVec S2048x387x1 32) (h h' : Fin 16) (R : Fin 2048) (κ : Fin 387) (N : Fin 4096) (d d' : Fin 64) :
    scatter_S1x16x4096x64_S2048x387x1_S1x16x2048x387x64_014_2_2_2.resultIdx? (ix5 0 h R κ d) idx = some (ix4 0 h' N d')
      ↔ h = h' ∧ d = d' ∧ (idx (ix3 R κ 0)).toInt = N.val := by
  have hs : ∀ c, scatter_S1x16x4096x64_S2048x387x1_S1x16x2048x387x64_014_2_2_2.siIdx (ix5 0 h R κ d) c = ix3 R κ 0 := by
    intro c
    funext b; apply Fin.ext
    have hc : c.val = 0 := by have h : c.val < 1 := c.isLt; omega
    match b with
    | ⟨0, _⟩ => rfl
    | ⟨1, _⟩ => rfl
    | ⟨2, _⟩ => exact hc
  set D := scatter_S1x16x4096x64_S2048x387x1_S1x16x2048x387x64_014_2_2_2 with hD
  have e0 : D.start (ix5 0 h R κ d) idx 0 + D.window (ix5 0 h R κ d) 0 = 0 := rfl
  have e1 : D.start (ix5 0 h R κ d) idx 1 + D.window (ix5 0 h R κ d) 1 = h.val := Int.zero_add _
  have e2 : D.start (ix5 0 h R κ d) idx 2 + D.window (ix5 0 h R κ d) 2 = (idx (ix3 R κ 0)).toInt := by
    show (idx _).toInt + 0 = _
    rw [hs, Int.add_zero]
  have e3 : D.start (ix5 0 h R κ d) idx 3 + D.window (ix5 0 h R κ d) 3 = d.val := Int.zero_add _
  unfold ScatterDims.resultIdx?
  constructor
  · intro H
    split at H
    · rename_i hin
      have H' := Option.some.inj H
      have g1 := congrArg Fin.val (congrFun H' 1)
      have g2 := congrArg Fin.val (congrFun H' 2)
      have g3 := congrArg Fin.val (congrFun H' 3)
      have hin2 := hin 2
      simp only [e1, e2, e3] at g1 g2 g3 hin2
      refine ⟨Fin.ext ?_, Fin.ext ?_, ?_⟩
      · simpa using g1
      · simpa using g3
      · have : (idx (ix3 R κ 0)).toInt.toNat = N.val := g2
        omega
    · exact absurd H (by simp)
  · rintro ⟨rfl, rfl, hN⟩
    have hall : ∀ a, D.start (ix5 0 h R κ d) idx a + D.window (ix5 0 h R κ d) a
        = ((ix4 (0 : Fin 1) h N d : S1x16x4096x64.Idx) a).val := by
      intro a
      match a with
      | ⟨0, _⟩ => exact e0
      | ⟨1, _⟩ => exact e1
      | ⟨2, _⟩ => exact e2.trans hN
      | ⟨3, _⟩ => exact e3
    rw [dif_pos fun a => by rw [hall a]; exact ⟨Int.natCast_nonneg _, Int.ofNat_lt.2 (Fin.isLt _)⟩]
    congr 1
    funext a
    apply Fin.ext
    show (D.start _ idx a + D.window _ a).toNat = _
    rw [hall a]
    rfl

/-- A rank-5 index with a leading unit axis is its four other coordinates. -/
def idxEquiv5 : S1x16x2048x387x64.Idx ≃ Fin 16 × Fin 2048 × Fin 387 × Fin 64 where
  toFun i := (i 1, i 2, i 3, i 4)
  invFun p := ix5 0 p.1 p.2.1 p.2.2.1 p.2.2.2
  left_inv i := by
    refine Eq.trans ?_ (eq_ix5 i).symm
    have : i 0 = (0 : Fin 1) := Fin.ext (by have h : (i 0).val < 1 := (i 0).isLt; exact Nat.lt_one_iff.1 h)
    rw [this]
    rfl
  right_inv _ := rfl

/-- The scatter of the reference at an index: the element plus the updates of that head and lane whose row it is. -/
theorem scatter_read (x : S1x16x4096x64.Idx → EReal) (idx : IVec S2048x387x1 32) (u : S1x16x2048x387x64.Idx → EReal)
    (h : Fin 16) (N : Fin 4096) (d : Fin 64) :
    Host.scatterAdd (F := Ideal) (φ := .f32) scatter_S1x16x4096x64_S2048x387x1_S1x16x2048x387x64_014_2_2_2 x idx u (ix4 0 h N d)
      = x (ix4 0 h N d) + ∑ R : Fin 2048, ∑ κ : Fin 387,
          if (idx (ix3 R κ 0)).toInt = N.val then u (ix5 0 h R κ d) else 0 := by
  show x _ + _ = _
  congr 1
  rw [Finset.sum_filter, ← Equiv.sum_comp idxEquiv5.symm, Fintype.sum_prod_type]
  rw [Finset.sum_eq_single h]
  · rw [Fintype.sum_prod_type]
    refine Finset.sum_congr rfl fun R _ => ?_
    rw [Fintype.sum_prod_type]
    refine Finset.sum_congr rfl fun κ _ => ?_
    rw [Finset.sum_eq_single d]
    · exact if_congr ((scatter_lands idx h h R κ N d d).trans ⟨fun H => H.2.2, fun H => ⟨rfl, rfl, H⟩⟩) rfl rfl
    · intro d' _ hd
      exact if_neg fun H => hd ((scatter_lands idx h h R κ N d' d).1 H).2.1
    · intro H; exact absurd (Finset.mem_univ _) H
  · intro h' _ hh
    refine Finset.sum_eq_zero fun p _ => ?_
    obtain ⟨R, κ, d'⟩ := p
    exact if_neg fun H => hh ((scatter_lands idx h' h R κ N d' d).1 H).1
  · intro H; exact absurd (Finset.mem_univ _) H

end Cert.Attn

end
-- ==== Proof.Reference.lean ====
/- The reference, value by value, at arguments that are real numbers: its forward pass's scores, probabilities and output. -/
module

public import proofs.«01_k».proof.Proof.Spec
public import proofs.«01_k».proof.Proof.Coe
public import proofs.«01_k».proof.Proof.RefIndex

@[expose] public section

set_option maxRecDepth 16384

noncomputable section

namespace Cert.Attn

open Idealize.ShloMosaic Idealize.ShloMosaic.ValueIdx
open Cert.ReferenceIdeal Cert.ReferenceIdeal.Gen Cert.ReferenceIdeal.Read

/-- A real array as an argument of the programs. -/
def arr (x : Arr) : S2048x1024.Idx → EReal := fun i => ((x (i 0) (i 1) : ℝ) : EReal)

/-- The row an offset leads to, when it does not leave the sequence. -/
def back (R : Fin 2048) (κ : Fin 387) : Fin 2048 := ⟨R.val - off κ, by omega⟩

variable (q k v g : Arr) (h : Fin 16) (R C : Fin 2048) (κ : Fin 387) (d : Fin 64)

/-- Reading an array split into heads. -/
theorem split_index (x : Arr) (i : S2048x1024.Idx)
    (h0 : (i 0).val = (((0 * 2048 + R.val) * 16 + h.val) * 64 + d.val) / 1024)
    (h1 : (i 1).val = (((0 * 2048 + R.val) * 16 + h.val) * 64 + d.val) % 1024) : arr x i = ((x R (lane h d) : ℝ) : EReal) := by
  unfold arr
  have e0 : i 0 = R := Fin.ext (by rw [h0]; omega)
  have e1 : i 1 = lane h d := Fin.ext (by rw [h1]; simp only [lane]; omega)
  rw [e0, e1]

theorem query_read : val_main_v13 (F := Ideal) (arr q) (ix4 0 h R d) = ((q R (lane h d) : ℝ) : EReal) := by
  rw [val_main_v13_apply, val_main_v0_apply]
  exact split_index h R d q _ rfl rfl

theorem key_read : val_main_v15 (F := Ideal) (arr k) (ix4 0 h R d) = ((k R (lane h d) : ℝ) : EReal) := by
  rw [val_main_v15_apply, val_main_v1_apply]
  exact split_index h R d k _ rfl rfl

theorem value_read : val_main_v18 (F := Ideal) (arr v) (ix4 0 h R d) = ((v R (lane h d) : ℝ) : EReal) := by
  rw [val_main_v18_apply, val_main_v2_apply]
  exact split_index h R d v _ rfl rfl

theorem grad_read : val_main_v87 (F := Ideal) (arr g) (ix4 0 h R d) = ((g R (lane h d) : ℝ) : EReal) := by
  rw [val_main_v87_apply, val_main_v86_apply]
  exact split_index h R d g _ rfl rfl

theorem zeros_read (i : S1x16x2048x64.Idx) : val_main_v14 (F := Ideal) i = ((0 : ℝ) : EReal) := by
  rw [val_main_v14_apply, val_main_cst_apply]
  exact const_zero

/-- A sequence with 2048 zero rows in front, read at a row counted from the front of those. -/
theorem padded_read (x : S1x16x2048x64.Idx → EReal) (N : Fin 4096) :
    concatenate S1x16x4096x64 2 [⟨S1x16x2048x64, val_main_v14 (F := Ideal)⟩, ⟨S1x16x2048x64, x⟩]
        concatenates_S1x16x2048x64_S1x16x2048x64_S1x16x4096x64_d2 (ix4 0 h N d)
      = if hN : 2048 ≤ N.val then x (ix4 0 h ⟨N.val - 2048, by omega⟩ d) else ((0 : ℝ) : EReal) := by
  by_cases hN : 2048 ≤ N.val
  · rw [dif_pos hN]
    refine concatenate_pair_apply_right (t := S1x16x4096x64) (s₁ := S1x16x2048x64) (s₂ := S1x16x2048x64) 2 _ _ _ (ix4 0 h N d) rfl rfl _ (fun b hb => ?_) ?_
    · match b with
      | ⟨0, _⟩ => rfl
      | ⟨1, _⟩ => rfl
      | ⟨2, _⟩ => exact absurd rfl hb
      | ⟨3, _⟩ => rfl
    · show N.val - 2048 + 2048 = N.val
      omega
  · rw [dif_neg hN]
    refine (concatenate_pair_apply_left (t := S1x16x4096x64) (s₁ := S1x16x2048x64) (s₂ := S1x16x2048x64) 2 _ _ _ (ix4 0 h N d) rfl
      (ix4 0 h ⟨N.val, by omega⟩ d) (fun b => ?_)).trans (zeros_read _)
    match b with
    | ⟨0, _⟩ => rfl
    | ⟨1, _⟩ => rfl
    | ⟨2, _⟩ => rfl
    | ⟨3, _⟩ => rfl

/-- A gathered row: the row the offset leads to, zero if that is in front of the sequence. -/
theorem padded_gather (x : S1x16x2048x64.Idx → EReal) (y : Arr) (hx : ∀ h R d, x (ix4 0 h R d) = ((y R (lane h d) : ℝ) : EReal))
    (idx : IVec S2048x387x1 32) (hi : ∀ R κ, idx (ix3 R κ 0) = BitVec.ofNat 32 (R.val + 2048 - off κ)) :
    Host.gather gather_S1x16x4096x64_S2048x387x1_S1x16x2048x387x64_014_2_n_n_2_2_116164
        (concatenate S1x16x4096x64 2 [⟨S1x16x2048x64, val_main_v14 (F := Ideal)⟩, ⟨S1x16x2048x64, x⟩]
          concatenates_S1x16x2048x64_S1x16x2048x64_S1x16x4096x64_d2) idx (ix5 0 h R κ d)
      = (((if off κ ≤ R.val then y (back R κ) (lane h d) else 0 : ℝ)) : EReal) := by
  have h1 := off_le κ
  have h2 := R.isLt
  have hn : min (idx (ix3 R κ 0)).toInt.toNat 4095 = R.val + 2048 - off κ := by
    rw [hi, toInt_small _ (by omega)]; simp; omega
  rw [gather_read]
  have e : (⟨min (idx (ix3 R κ 0)).toInt.toNat 4095, by omega⟩ : Fin 4096) = ⟨R.val + 2048 - off κ, by omega⟩ := Fin.ext hn
  rw [e, padded_read]
  by_cases hle : off κ ≤ R.val
  · rw [dif_pos (by show 2048 ≤ R.val + 2048 - off κ; omega), if_pos hle, hx]
    have : (⟨R.val + 2048 - off κ - 2048, by omega⟩ : Fin 2048) = back R κ := Fin.ext (by show R.val + 2048 - off κ - 2048 = R.val - off κ; omega)
    rw [this]
  · rw [dif_neg (by show ¬ 2048 ≤ R.val + 2048 - off κ; omega), if_neg hle]

theorem keys_gathered : val_main_v35 (F := Ideal) (arr k) (ix5 0 h R κ d)
    = (((if off κ ≤ R.val then k (back R κ) (lane h d) else 0 : ℝ)) : EReal) := by
  unfold val_main_v35 val_main_v16
  exact padded_gather h R κ d _ k (fun h R d => key_read k h R d) _ (fun R κ => keyRow_read R κ)

theorem values_gathered : val_main_v44 (F := Ideal) (arr v) (ix5 0 h R κ d)
    = (((if off κ ≤ R.val then v (back R κ) (lane h d) else 0 : ℝ)) : EReal) := by
  unfold val_main_v44 val_main_v19
  exact padded_gather h R κ d _ v (fun h R d => value_read v h R d) _ (fun R κ => valueRow_read R κ)

/-- The query laid beside the gathered keys. -/
theorem query_spread : val_main_v46 (F := Ideal) (arr q) (ix5 0 h R κ d) = ((q R (lane h d) : ℝ) : EReal) := by
  rw [val_main_v46_apply, val_main_v45_apply, ← query_read]
  refine congrArg (val_main_v13 (F := Ideal) (arr q)) ?_
  funext a; match a with | ⟨0, _⟩ => rfl | ⟨1, _⟩ => rfl | ⟨2, _⟩ => rfl | ⟨3, _⟩ => rfl

/-- The raw score of an offset. -/
theorem rawScore_read : val_main_v48 (F := Ideal) (arr q) (arr k) (ix4 0 h R κ)
    = (((if off κ ≤ R.val then score q k h R (back R κ) else 0 : ℝ)) : EReal) := by
  rw [val_main_v48_apply, val_main_cst_10_apply]
  have e : ∀ d : Fin 64, val_main_v47 (F := Ideal) (arr q) (arr k) (idx_main_v48 (ix4 0 h R κ) d)
      = ((q R (lane h d) * (if off κ ≤ R.val then k (back R κ) (lane h d) else 0) : ℝ) : EReal) := by
    intro d
    have e5 : idx_main_v48 (ix4 (0 : Fin 1) h R κ) d = ix5 0 h R κ d := by
      funext a; match a with | ⟨0, _⟩ => rfl | ⟨1, _⟩ => rfl | ⟨2, _⟩ => rfl | ⟨3, _⟩ => rfl | ⟨4, _⟩ => rfl
    rw [e5, val_main_v47_apply, query_spread, keys_gathered, EReal.coe_mul]
    rfl
  rw [Finset.sum_congr rfl fun d _ => e d, sum_coe]
  refine (congrArg (· + _) const_zero).trans ?_
  rw [← EReal.coe_add, zero_add]
  congr 1
  by_cases hle : off κ ≤ R.val
  · simp only [if_pos hle]; rfl
  · simp [if_neg hle]

/-- The masked score: −∞ at an offset that leaves the sequence. -/
theorem score_read : val_main_v51_0 (F := Ideal) (arr q) (arr k) (ix4 0 h R κ)
    = if off κ ≤ R.val then ((score q k h R (back R κ) : ℝ) : EReal) else ⊥ := by
  rw [val_main_v51_0_apply, mask_read, rawScore_read]
  by_cases hle : off κ ≤ R.val
  · simp only [if_pos hle, select_one]
  · simp only [if_neg hle, select_zero]
    rw [val_main_call0_v2_apply, val_main_call0_v0_apply, val_main_cst_12_apply]
    exact const_bot

/-- The row maximum is a real number. -/
theorem rowMax_real : ∃ r : ℝ, val_main_v52 (F := Ideal) (arr q) (arr k) (ix3 0 h R) = (r : EReal) := by
  have e : val_main_v52 (F := Ideal) (arr q) (arr k) (ix3 0 h R)
      = (Finset.univ : Finset (Fin 387)).fold max (⊥ : EReal)
          (fun κ => if off κ ≤ R.val then ((score q k h R (back R κ) : ℝ) : EReal) else ⊥) := by
    have hred : S1x16x2048x387.Reduces [3] S1x16x2048 := by decide
    unfold val_main_v52
    refine (Host.reduce_eq_fold_single (max : EReal → EReal → EReal) _ _ _ hred _ _).trans ?_
    rw [val_main_cst_13_apply]
    refine congrArg₂ (fun b f => Finset.fold max b f Finset.univ) const_bot ?_
    funext κ
    refine Eq.trans (congrArg (val_main_v51_0 (F := Ideal) (arr q) (arr k)) ?_) (score_read q k h R κ)
    funext a; match a with | ⟨0, _⟩ => rfl | ⟨1, _⟩ => rfl | ⟨2, _⟩ => rfl | ⟨3, _⟩ => rfl
  rw [e]
  refine fold_max_real _ (fun κ => ?_) (⟨0, by omega⟩ : Fin 387) ?_
  · split_ifs
    · exact EReal.coe_lt_top _
    · exact bot_lt_top
  · have : off ⟨0, by omega⟩ = 0 := rfl
    rw [if_pos (by omega)]
    exact EReal.bot_lt_coe _

end Cert.Attn

end
-- ==== Proof.RefSoftmax.lean ====
/- The reference's softmax and output at real arguments: an offset's probability, and the sum of the gathered values. -/
module

public import proofs.«01_k».proof.Proof.Reference

@[expose] public section

set_option maxRecDepth 16384

noncomputable section

namespace Cert.Attn

open Idealize.ShloMosaic Idealize.ShloMosaic.ValueIdx
open Cert.ReferenceIdeal Cert.ReferenceIdeal.Gen Cert.ReferenceIdeal.Read

variable (q k v g : Arr) (h : Fin 16) (R C : Fin 2048) (κ : Fin 387) (d : Fin 64) (m : ℝ)

/-- The exponential of an offset's score over `m`, zero where it leaves the sequence. -/
def offExp : ℝ := if off κ ≤ R.val then Real.exp (score q k h R (back R κ) - m) else 0

/-- The probability of an offset. -/
def offProb : ℝ := if off κ ≤ R.val then Real.exp (score q k h R (back R κ)) / total q k h R else 0

/-- A function of the keys at an offset, zero where the offset leaves the sequence. -/
def offVal (f : Fin 2048 → ℝ) : ℝ := if off κ ≤ R.val then f (back R κ) else 0

theorem sum_offVal (f : Fin 2048 → ℝ) : ∑ κ, offVal R κ f = ∑ C, times R C * f C := by
  rw [← sum_offsets]
  refine Finset.sum_congr rfl fun κ _ => ?_
  unfold offVal back
  by_cases hle : off κ ≤ R.val
  · rw [if_pos hle, dif_pos hle]
  · rw [if_neg hle, dif_neg hle]

theorem sum_offExp : ∑ κ, offExp q k h R κ m = total q k h R * Real.exp (-m) := by
  rw [show (∑ κ, offExp q k h R κ m) = ∑ κ, offVal R κ (fun C => Real.exp (score q k h R C - m)) from rfl, sum_offVal]
  unfold total weight
  rw [Finset.sum_mul]
  refine Finset.sum_congr rfl fun C _ => ?_
  rw [sub_eq_add_neg, Real.exp_add, mul_assoc]

theorem sum_offExp_pos : 0 < ∑ κ, offExp q k h R κ m := by
  rw [sum_offExp]
  exact mul_pos (total_pos q k h R) (Real.exp_pos _)

/-- The shift cancels. -/
theorem offExp_div : offExp q k h R κ m / ∑ κ, offExp q k h R κ m = offProb q k h R κ := by
  rw [sum_offExp]
  unfold offExp offProb
  by_cases hle : off κ ≤ R.val
  · rw [if_pos hle, if_pos hle, sub_eq_add_neg, Real.exp_add,
      mul_div_mul_right _ _ (Real.exp_pos _).ne']
  · rw [if_neg hle, if_neg hle, zero_div]

/-- A mean under the offsets' probabilities is the mean under the keys'. -/
theorem sum_offProb (f : Fin 2048 → ℝ) : ∑ κ, offProb q k h R κ * offVal R κ f = ∑ C, prob q k h R C * f C := by
  have e : ∀ κ, offProb q k h R κ * offVal R κ f
      = offVal R κ (fun C => Real.exp (score q k h R C) / total q k h R * f C) := by
    intro κ
    unfold offProb offVal
    by_cases hle : off κ ≤ R.val
    · simp only [if_pos hle]
    · simp only [if_neg hle, zero_mul]
  rw [Finset.sum_congr rfl fun κ _ => e κ, sum_offVal]
  refine Finset.sum_congr rfl fun C _ => ?_
  unfold prob weight
  rw [← mul_assoc, mul_div_assoc]

section
variable (hm : val_main_v52 (F := Ideal) (arr q) (arr k) (ix3 0 h R) = (m : EReal))
include hm

/-- The row maximum laid over the offsets. -/
theorem shift_read : val_main_v70 (F := Ideal) (arr q) (arr k) (ix4 0 h R κ) = (m : EReal) := by
  rw [val_main_v70_apply, val_main_v69_apply]
  have e : idx_main_v69 (idx_main_v70 (ix4 (0 : Fin 1) h R κ)) = ix3 0 h R := by
    funext a; match a with | ⟨0, _⟩ => rfl | ⟨1, _⟩ => rfl | ⟨2, _⟩ => rfl
  rw [e, val_main_v59_apply, hm, val_main_v58_apply, val_main_cst_15_apply]
  show max (Ideal.ofBits .f32 0xFF800000#32) (m : EReal) = _
  rw [const_bot]
  exact max_eq_right bot_le

theorem exp_read : val_main_v72 (F := Ideal) (arr q) (arr k) (ix4 0 h R κ) = ((offExp q k h R κ m : ℝ) : EReal) := by
  rw [val_main_v72_apply, val_main_v71_apply, score_read, shift_read q k h R κ m hm]
  unfold offExp
  by_cases hle : off κ ≤ R.val
  · rw [if_pos hle, if_pos hle]
    show Ideal.exp (((score q k h R (back R κ) : ℝ) : EReal) - (m : EReal)) = _
    rw [← EReal.coe_sub, Ideal.exp_coe]
  · rw [if_neg hle, if_neg hle]
    show Ideal.exp ((⊥ : EReal) - (m : EReal)) = _
    rw [EReal.bot_sub, Ideal.exp_bot, EReal.coe_zero]

theorem denom_read : val_main_v73 (F := Ideal) (arr q) (arr k) (ix3 0 h R) = ((∑ κ, offExp q k h R κ m : ℝ) : EReal) := by
  rw [val_main_v73_apply, val_main_cst_21_apply]
  have e : ∀ κ : Fin 387, val_main_v72 (F := Ideal) (arr q) (arr k) (idx_main_v73 (ix3 0 h R) κ)
      = ((offExp q k h R κ m : ℝ) : EReal) := by
    intro κ
    have e4 : idx_main_v73 (ix3 (0 : Fin 1) h R) κ = ix4 0 h R κ := by
      funext a; match a with | ⟨0, _⟩ => rfl | ⟨1, _⟩ => rfl | ⟨2, _⟩ => rfl | ⟨3, _⟩ => rfl
    rw [e4, exp_read q k h R κ m hm]
  rw [Finset.sum_congr rfl fun κ _ => e κ, sum_coe]
  refine (congrArg (· + _) const_zero).trans ?_
  rw [← EReal.coe_add, zero_add]

theorem denom_col_read (z : Fin 1) : val_main_v74 (F := Ideal) (arr q) (arr k) (ix4 0 h R z)
    = ((∑ κ, offExp q k h R κ m : ℝ) : EReal) := by
  rw [val_main_v74_apply, ← denom_read q k h R m hm]
  refine congrArg (val_main_v73 (F := Ideal) (arr q) (arr k)) ?_
  funext a; match a with | ⟨0, _⟩ => rfl | ⟨1, _⟩ => rfl | ⟨2, _⟩ => rfl

end

/-- The probability of an offset, as the reference computes it. -/
theorem prob_read : val_main_v76 (F := Ideal) (arr q) (arr k) (ix4 0 h R κ) = ((offProb q k h R κ : ℝ) : EReal) := by
  obtain ⟨m, hm⟩ := rowMax_real q k h R
  rw [val_main_v76_apply, exp_read q k h R κ m hm, val_main_v75_apply]
  have e : idx_main_v75 (ix4 (0 : Fin 1) h R κ) = ix4 0 h R 0 := by
    funext a; match a with | ⟨0, _⟩ => rfl | ⟨1, _⟩ => rfl | ⟨2, _⟩ => rfl | ⟨3, _⟩ => rfl
  rw [e, denom_col_read q k h R m hm]
  show Ideal.div _ _ = _
  rw [div_coe_pos _ _ (sum_offExp_pos q k h R m), offExp_div]

/-- The probability laid over the lanes of a head. -/
theorem prob_spread : val_main_v81 (F := Ideal) (arr q) (arr k) (ix5 0 h R κ d) = ((offProb q k h R κ : ℝ) : EReal) := by
  rw [val_main_v81_apply, val_main_v80_apply, ← prob_read]
  refine congrArg (val_main_v76 (F := Ideal) (arr q) (arr k)) ?_
  funext a; match a with | ⟨0, _⟩ => rfl | ⟨1, _⟩ => rfl | ⟨2, _⟩ => rfl | ⟨3, _⟩ => rfl

/-- The output of the attention: the mean of the values. -/
def output (R : Fin 2048) (l : Fin 1024) : ℝ := ∑ C, prob q k (headOf l) R C * v C l

theorem output_heads_read : val_main_v83 (F := Ideal) (arr q) (arr k) (arr v) (ix4 0 h R d)
    = ((output q k v R (lane h d) : ℝ) : EReal) := by
  rw [val_main_v83_apply, val_main_cst_23_apply]
  have e : ∀ κ : Fin 387, val_main_v82 (F := Ideal) (arr q) (arr k) (arr v) (idx_main_v83 (ix4 0 h R d) κ)
      = ((offProb q k h R κ * offVal R κ (fun C => v C (lane h d)) : ℝ) : EReal) := by
    intro κ
    have e5 : idx_main_v83 (ix4 (0 : Fin 1) h R d) κ = ix5 0 h R κ d := by
      funext a; match a with | ⟨0, _⟩ => rfl | ⟨1, _⟩ => rfl | ⟨2, _⟩ => rfl | ⟨3, _⟩ => rfl | ⟨4, _⟩ => rfl
    rw [e5, val_main_v82_apply, prob_spread, values_gathered, EReal.coe_mul]
    rfl
  rw [Finset.sum_congr rfl fun κ _ => e κ, sum_coe]
  refine (congrArg (· + _) const_zero).trans ?_
  rw [← EReal.coe_add, zero_add, sum_offProb]
  unfold output
  rw [headOf_lane]

/-- Joining the heads again. -/
theorem join_index (R : Fin 2048) (l : Fin 1024) (i : S1x16x2048x64.Idx) (h0 : (i 0).val = 0)
    (h1 : (i 1).val = (R.val * 1024 + l.val) / 64 % 16) (h2 : (i 2).val = (R.val * 1024 + l.val) / 64 / 16 % 2048)
    (h3 : (i 3).val = (R.val * 1024 + l.val) % 64) : i = ix4 0 (headOf l) R (place l) := by
  funext a
  apply Fin.ext
  match a with
  | ⟨0, _⟩ => exact h0
  | ⟨1, _⟩ => exact h1.trans (by simp only [headOf]; omega)
  | ⟨2, _⟩ => exact h2.trans (by show _ = R.val; omega)
  | ⟨3, _⟩ => exact h3.trans (by simp only [place]; omega)

theorem output_read (l : Fin 1024) : val_main_v85 (F := Ideal) (arr q) (arr k) (arr v) (ix2 R l)
    = ((output q k v R l : ℝ) : EReal) := by
  rw [val_main_v85_apply, val_main_v84_apply]
  have e : idx_main_v84 (idx_main_v85 (ix2 R l)) = ix4 0 (headOf l) R (place l) := by
    refine join_index R l _ ?_ ?_ ?_ ?_
    · rfl
    · show ((R.val * 1024 + l.val) / 64) % 16 = _; omega
    · show ((R.val * 1024 + l.val) / 1024) % 2048 = _; omega
    · show (R.val * 1024 + l.val) % 64 = _; omega
  rw [e, output_heads_read, lane_headOf]

end Cert.Attn

end
-- ==== Proof.KernelReads.lean ====
/- The arrays handed to the launch, read at an index, at real arguments: the bias at a distance, the logarithm of every row's
   denominator, the output, and the queries, keys and values. -/
module

public import proofs.«01_k».proof.Proof.KernelHost
public import proofs.«01_k».proof.Proof.RefSoftmax
public import Idealize.ShloMosaic.Lib.Pointwise.Reshape

@[expose] public section

set_option maxRecDepth 16384

noncomputable section

namespace Cert.Attn

open Idealize.ShloMosaic hiding ix1 ix2 ix3 ix4 ix5
open Idealize.ShloMosaic.ValueIdx
open Cert.KernelIdeal Cert.KernelIdeal.Gen
open Cert.ReferenceIdeal.Read

/-! ## The bias -/

/-- The logarithm of the multiplicity at a distance, −∞ where it is zero. -/
def biasAt (δ : ℤ) : EReal := if mult δ = 0 then ⊥ else ((Real.log (mult δ) : ℝ) : EReal)

/-- The bits of the three patterns for a distance word. -/
def nearBit (w : BitVec 32) : BitVec 1 := IntOp.andi (IntOp.cmpi .sge w 0#32) (IntOp.cmpi .sle w 128#32)
def midBit (w : BitVec 32) : BitVec 1 :=
  IntOp.andi (IntOp.andi (IntOp.cmpi .sge w 0#32) (IntOp.cmpi .sle w 512#32)) (IntOp.cmpi .eq (IntOp.andi w 3#32) 0#32)
def farBit (w : BitVec 32) : BitVec 1 := IntOp.andi (IntOp.cmpi .sge w 0#32) (IntOp.cmpi .eq (IntOp.andi w 15#32) 0#32)

theorem near_of : ∀ D : Fin 2048, nearBit (BitVec.ofNat 32 D.val) = if D.val ≤ 128 then 1#1 else 0#1 := by decide +kernel
theorem mid_of : ∀ D : Fin 2048, midBit (BitVec.ofNat 32 D.val) = if D.val ≤ 512 ∧ D.val % 4 = 0 then 1#1 else 0#1 := by
  decide +kernel
theorem far_of : ∀ D : Fin 2048, farBit (BitVec.ofNat 32 D.val) = if D.val % 16 = 0 then 1#1 else 0#1 := by decide +kernel
theorem ahead_of : ∀ e : Fin 512, nearBit (BitVec.ofNat 32 (4294967295 - e.val)) = 0#1 ∧
    midBit (BitVec.ofNat 32 (4294967295 - e.val)) = 0#1 ∧ farBit (BitVec.ofNat 32 (4294967295 - e.val)) = 0#1 := by
  decide +kernel

/-- The distance word of a row of query tile `n` from a row of key tile 0. -/
theorem distWords_read (n : Fin 4) (r s : Fin 512) :
    distWords (ix3 n r s) = BitVec.ofNat 32 n.val * 512#32 + BitVec.ofNat 32 r.val - BitVec.ofNat 32 s.val := rfl

/-- The indicator of a bit. -/
def bitReal (b : BitVec 1) : ℝ := if b = 1#1 then 1 else 0

theorem indicator_read (b : IVec S4x512x512 1) (i : S4x512x512.Idx) : indicator b i = ((bitReal (b i) : ℝ) : EReal) := by
  show (if b i = 1#1 then Ideal.ofBits .f32 0x3F800000#32 else Ideal.ofBits .f32 0x00000000#32) = _
  unfold bitReal
  split_ifs
  · exact const_one
  · exact const_zero

theorem multTiles_read (n : Fin 4) (r s : Fin 512) :
    multTiles (ix3 n r s) = ((mult (512 * (n.val : ℤ) + r.val - s.val) : ℝ) : EReal) := by
  have hn := n.isLt
  have hr := r.isLt
  have hs := s.isLt
  have e : multTiles (ix3 n r s) = ((bitReal (nearBit (distWords (ix3 n r s))) + bitReal (midBit (distWords (ix3 n r s)))
      + bitReal (farBit (distWords (ix3 n r s))) : ℝ) : EReal) := by
    rw [EReal.coe_add, EReal.coe_add]
    show indicator nearBits _ + indicator midBits _ + indicator farBits _ = _
    rw [indicator_read, indicator_read, indicator_read]
    rfl
  rw [e, distWords_read]
  refine congrArg Real.toEReal ?_
  by_cases hle : s.val ≤ 512 * n.val + r.val
  · have ew : BitVec.ofNat 32 n.val * 512#32 + BitVec.ofNat 32 r.val - BitVec.ofNat 32 s.val
        = BitVec.ofNat 32 (512 * n.val + r.val - s.val) := by
      apply BitVec.eq_of_toNat_eq
      simp only [BitVec.toNat_sub, BitVec.toNat_add, BitVec.toNat_mul, BitVec.toNat_ofNat]
      omega
    have h1 := near_of ⟨512 * n.val + r.val - s.val, by omega⟩
    have h2 := mid_of ⟨512 * n.val + r.val - s.val, by omega⟩
    have h3 := far_of ⟨512 * n.val + r.val - s.val, by omega⟩
    dsimp only at h1 h2 h3
    rw [ew, h1, h2, h3]
    have one : ∀ (P : Prop) [Decidable P] (Q : Prop) [Decidable Q], (P ↔ Q) →
        bitReal (if P then 1#1 else 0#1) = if Q then (1 : ℝ) else 0 := by
      intro P _ Q _ hPQ
      unfold bitReal
      by_cases hP : P
      · rw [if_pos hP, if_pos rfl, if_pos (hPQ.1 hP)]
      · rw [if_neg hP, if_neg (by decide), if_neg (fun hQ => hP (hPQ.2 hQ))]
    unfold mult
    rw [one _ (0 ≤ 512 * (n.val : ℤ) + r.val - s.val ∧ 512 * (n.val : ℤ) + r.val - s.val ≤ 128) (by omega),
      one _ ((0 ≤ 512 * (n.val : ℤ) + r.val - s.val ∧ 512 * (n.val : ℤ) + r.val - s.val ≤ 512) ∧
        (512 * (n.val : ℤ) + r.val - s.val) % 4 = 0) (by omega),
      one _ (0 ≤ 512 * (n.val : ℤ) + r.val - s.val ∧ (512 * (n.val : ℤ) + r.val - s.val) % 16 = 0) (by omega)]
  · have ew : BitVec.ofNat 32 n.val * 512#32 + BitVec.ofNat 32 r.val - BitVec.ofNat 32 s.val
        = BitVec.ofNat 32 (4294967295 - (s.val - (512 * n.val + r.val) - 1)) := by
      apply BitVec.eq_of_toNat_eq
      simp only [BitVec.toNat_sub, BitVec.toNat_add, BitVec.toNat_mul, BitVec.toNat_ofNat]
      omega
    obtain ⟨h1, h2, h3⟩ := ahead_of ⟨s.val - (512 * n.val + r.val) - 1, by omega⟩
    dsimp only at h1 h2 h3
    rw [ew, h1, h2, h3, mult_neg (by omega)]
    unfold bitReal
    rw [if_neg (by decide)]
    norm_num

/-- A multiplicity that is not zero is at least one. -/
theorem one_le_mult (δ : ℤ) (h : mult δ ≠ 0) : 1 ≤ mult δ := by
  revert h
  unfold mult
  split_ifs <;> intro h <;> first | (norm_num; done) | exact (h (by norm_num)).elim

theorem biasTiles_read (n : Fin 4) (r s : Fin 512) : biasTiles (ix3 n r s) = biasAt (512 * (n.val : ℤ) + r.val - s.val) := by
  have e : biasTiles (ix3 n r s)
      = if Ideal.cmp .ogt (multTiles (ix3 n r s)) (Ideal.ofBits .f32 0x00000000#32) = 1#1
        then Ideal.log (max (multTiles (ix3 n r s)) (Ideal.ofBits .f32 0x3F800000#32)) else Ideal.ofBits .f32 0xFF800000#32 := rfl
  rw [e, multTiles_read, const_zero, const_one, const_bot]
  unfold biasAt
  generalize hδ : 512 * (n.val : ℤ) + r.val - s.val = δ
  by_cases h0 : mult δ = 0
  · rw [if_pos h0, h0, if_neg (by simp [Ideal.cmp])]
  · have h1 := one_le_mult _ h0
    rw [if_neg h0, if_pos ?_, max_eq_left (EReal.coe_le_coe_iff.2 h1), log_coe_pos _ (by linarith)]
    have : ((0 : ℝ) : EReal) < ((mult δ : ℝ) : EReal) := EReal.coe_lt_coe_iff.2 (by linarith)
    exact congrArg BitVec.ofBool (decide_eq_true this)

/-! ## The logarithm of the denominators -/

section
variable (q k v : Arr) (h : Fin 16) (R : Fin 2048)

/-- The row maximum with −∞ in it is the row maximum. -/
theorem rowMax_again : val_main_v59 (F := Ideal) (arr q) (arr k) = val_main_v52 (F := Ideal) (arr q) (arr k) := by
  funext i
  rw [val_main_v59_apply, val_main_v58_apply, val_main_cst_15_apply]
  show max (Ideal.ofBits .f32 0xFF800000#32) _ = _
  rw [const_bot]
  exact max_eq_right bot_le

theorem add_log {s : Shape} (x z : FVec Ideal s .f32) (i : s.Idx) : addf x (Host.log z) i = x i + Ideal.log (z i) := rfl

theorem lseRows_eq : lseRows (arr q) (arr k)
    = addf (val_main_v52 (F := Ideal) (arr q) (arr k)) (Host.log (val_main_v73 (F := Ideal) (arr q) (arr k))) := by
  have e : val_main_v73 (F := Ideal) (arr q) (arr k)
      = Host.reduceAdd
          (Host.exp (subf (val_main_v51_0 (F := Ideal) (arr q) (arr k))
            (broadcastInDim S1x16x2048x387 ![0, 1, 2, 3] bcast_S1x16x2048x1_S1x16x2048x387_0_1_2_3
              (broadcastInDim S1x16x2048x1 ![0, 1, 2] bcast_S1x16x2048_S1x16x2048x1_0_1_2
                (val_main_v59 (F := Ideal) (arr q) (arr k))))))
          (constant (F := Ideal) S_ .f32 0x00000000#32) reducesTo_S1x16x2048x387_S1x16x2048_d3 h_S_ := by
    unfold val_main_v73 val_main_v72 val_main_v71 val_main_v70 val_main_v69 val_main_cst_21
    rfl
  rw [e, rowMax_again]
  unfold lseRows
  rfl

theorem lseRows_read : lseRows (arr q) (arr k) (ix3 0 h R) = ((Real.log (total q k h R) : ℝ) : EReal) := by
  obtain ⟨m, hm⟩ := rowMax_real q k h R
  rw [lseRows_eq]
  refine (add_log (val_main_v52 (F := Ideal) (arr q) (arr k)) (val_main_v73 (F := Ideal) (arr q) (arr k)) (ix3 0 h R)).trans ?_
  refine (congrArg₂ (fun a b => a + Ideal.log b) hm (denom_read q k h R m hm)).trans ?_
  show (m : EReal) + Ideal.log ((∑ κ, offExp q k h R κ m : ℝ) : EReal) = _
  rw [log_coe_pos _ (sum_offExp_pos q k h R m), ← EReal.coe_add]
  refine congrArg Real.toEReal ?_
  rw [sum_offExp, Real.log_mul (total_pos q k h R).ne' (Real.exp_pos _).ne', Real.log_exp]
  ring

theorem lseLanes_read (l : Fin 1024) :
    lseLanes (arr q) (arr k) (ix2 R l) = ((Real.log (total q k (headOf l) R) : ℝ) : EReal) := by
  have hR := R.isLt
  have hl := l.isLt
  unfold lseLanes
  refine (shapeCast_apply _ _ (ix2 R l) (ix3 R (headOf l) (place l)) ?_).trans ?_
  · rw [show (S2048x16x64.rowMajor (ix3 R (headOf l) (place l))).val = R.val * 1024 + (headOf l).val * 64 + (place l).val from
      Idealize.ShloMosaic.rowMajor_val3 _ 1024 64 rfl rfl, show (S2048x1024.rowMajor (ix2 R l)).val = R.val * 1024 + l.val from
      Idealize.ShloMosaic.rowMajor_val2 _ 1024 rfl]
    simp only [headOf, place]; omega
  refine (broadcastInDim_apply _ _ _ (ix3 R (headOf l) (place l)) (ix2 R (headOf l)) (fun a => ?_)).trans ?_
  · match a with | ⟨0, _⟩ => rfl | ⟨1, _⟩ => rfl
  refine (transpose_apply _ _ _ (ix2 R (headOf l)) (ix2 (headOf l) R) (fun b => ?_)).trans ?_
  · match b with | ⟨0, _⟩ => rfl | ⟨1, _⟩ => rfl
  refine (shapeCast_apply _ _ (ix2 (headOf l) R) (ix3 0 (headOf l) R) ?_).trans ?_
  · rw [show (S1x16x2048.rowMajor (ix3 0 (headOf l) R)).val = 0 * 32768 + (headOf l).val * 2048 + R.val from
      Idealize.ShloMosaic.rowMajor_val3 _ 32768 2048 rfl rfl, show (S16x2048.rowMajor (ix2 (headOf l) R)).val = (headOf l).val * 2048 + R.val from
      Idealize.ShloMosaic.rowMajor_val2 _ 2048 rfl]
    omega
  exact lseRows_read q k (headOf l) R

/-! ## The queries, keys and values -/

theorem side_query (l : Fin 1024) (col : Fin 3072) (hc : col.val = l.val) :
    sideBySide (arr q) (arr k) (arr v) (ix2 R col) = ((q R l : ℝ) : EReal) := by
  refine (concatenate_apply_piece (t := S2048x3072) 1 _ _ (ix2 R col) 0 (Nat.lt_of_sub_pos (by exact Nat.zero_lt_succ _)) S2048x1024 _ rfl rfl 0 rfl (ix2 R l)
    (fun b hb => ?_) ?_).trans rfl
  · match b with | ⟨0, _⟩ => rfl | ⟨1, _⟩ => exact absurd rfl hb
  · show 0 + l.val = col.val; omega

theorem side_key (l : Fin 1024) (col : Fin 3072) (hc : col.val = 1024 + l.val) :
    sideBySide (arr q) (arr k) (arr v) (ix2 R col) = ((k R l : ℝ) : EReal) := by
  refine (concatenate_apply_piece (t := S2048x3072) 1 _ _ (ix2 R col) 1 (Nat.lt_of_sub_pos (by exact Nat.zero_lt_succ _)) S2048x1024 _ rfl rfl 1024 rfl (ix2 R l)
    (fun b hb => ?_) ?_).trans rfl
  · match b with | ⟨0, _⟩ => rfl | ⟨1, _⟩ => exact absurd rfl hb
  · show 1024 + l.val = col.val; omega

theorem side_value (l : Fin 1024) (col : Fin 3072) (hc : col.val = 2048 + l.val) :
    sideBySide (arr q) (arr k) (arr v) (ix2 R col) = ((v R l : ℝ) : EReal) := by
  refine (concatenate_apply_piece (t := S2048x3072) 1 _ _ (ix2 R col) 2 (Nat.lt_of_sub_pos (by exact Nat.zero_lt_succ _)) S2048x1024 _ rfl rfl 2048 rfl (ix2 R l)
    (fun b hb => ?_) ?_).trans rfl
  · match b with | ⟨0, _⟩ => rfl | ⟨1, _⟩ => exact absurd rfl hb
  · show 2048 + l.val = col.val; omega

end

end Cert.Attn

end
-- ==== Proof.TileOps.lean ====
/- The operations of the kernel's body on tiles of real numbers: the half-masks, the three products, the row sums and row
   maxima, the probabilities and the gradient at the scores. -/
module

public import proofs.«01_k».proof.Proof.KernelReads

@[expose] public section

set_option maxRecDepth 16384

noncomputable section

namespace Cert.Attn

open Idealize.ShloMosaic hiding ix1 ix2 ix3 ix4 ix5
open Idealize.ShloMosaic.ValueIdx
open Cert.KernelIdeal Cert.KernelIdeal.Gen

/-- A tile of 512 rows and 128 lanes (two heads), and one of 512 queries and 512 keys. -/
abbrev Tile := Fin 512 → Fin 128 → ℝ
abbrev Square := Fin 512 → Fin 512 → ℝ

/-- The array holds the tile's numbers. -/
def IsTile (x : S512x128.Idx → EReal) (a : Tile) : Prop := ∀ r e, x (ix2 r e) = ((a r e : ℝ) : EReal)
def IsSquare (x : S512x512.Idx → EReal) (a : Square) : Prop := ∀ r s, x (ix2 r s) = ((a r s : ℝ) : EReal)
def IsCol (x : S512x1.Idx → EReal) (a : Fin 512 → ℝ) : Prop := ∀ r z, x (ix2 r z) = ((a r : ℝ) : EReal)

/-- The tile with the lanes of the second, or of the first, head zeroed. -/
def first (a : Tile) : Tile := fun r e => if e.val < 64 then a r e else 0
def second (a : Tile) : Tile := fun r e => if e.val < 64 then 0 else a r e

/-! ## The mask -/

theorem laneMask : ∀ e : Fin 128, IntOp.cmpi .slt (BitVec.ofNat 32 e.val) 64#32 = if e.val < 64 then 1#1 else 0#1 := by decide +kernel

theorem mask_rows (r : Fin 512) (e : Fin 128) (x : IVec S1x128 1) (hx : x = k0_pay1) :
    broadcastTo S512x128 (shapeCast S1x128 x shapeCasts_S1x128_S1x128) broadcasts_S1x128_S512x128 (ix2 r e)
      = if e.val < 64 then 1#1 else 0#1 := by
  subst hx
  refine (broadcastTo_apply _ _ (ix2 r e) (ix2 0 e) (fun a => ?_)).trans ?_
  · match a with | ⟨0, _⟩ => rfl | ⟨1, _⟩ => rfl
  refine (shapeCast_apply _ _ (ix2 0 e) (ix2 0 e) rfl).trans ?_
  show IntOp.cmpi .slt (iota .tc S1x128 32 [1] iota_S1x128_d1_w32 (ix2 0 e)) 64#32 = _
  rw [iota_single_apply]
  exact laneMask e

theorem zero16 : Ideal.ofBits .bf16 0x0000#16 = ((0 : ℝ) : EReal) := by
  simp [Ideal.ofBits, Ideal.ieee]

theorem self_cast {α : Type} (x : S512x128.Idx → α) (h : S512x128.ShapeCasts S512x128) : shapeCast S512x128 x h = x := by
  funext i
  exact shapeCast_apply x h i i rfl

theorem select_first (m : IVec S512x128 1) (hm : ∀ r e, m (ix2 r e) = if e.val < 64 then 1#1 else 0#1) (x z : S512x128.Idx → EReal)
    (a : Tile) (hx : IsTile x a) (hz : ∀ i, z i = ((0 : ℝ) : EReal)) : IsTile (select m x z) (first a) := by
  intro r e
  show Scalar.select (m (ix2 r e)) (x (ix2 r e)) (z (ix2 r e)) = _
  rw [hm, hx, hz]
  unfold first
  by_cases he : e.val < 64
  · rw [if_pos he, if_pos he, select_one]
  · rw [if_neg he, if_neg he, select_zero]

theorem select_second (m : IVec S512x128 1) (hm : ∀ r e, m (ix2 r e) = if e.val < 64 then 1#1 else 0#1) (x z : S512x128.Idx → EReal)
    (a : Tile) (hx : IsTile x a) (hz : ∀ i, z i = ((0 : ℝ) : EReal)) : IsTile (select m z x) (second a) := by
  intro r e
  show Scalar.select (m (ix2 r e)) (z (ix2 r e)) (x (ix2 r e)) = _
  rw [hm, hx, hz]
  unfold second
  by_cases he : e.val < 64
  · rw [if_pos he, if_pos he, select_one]
  · rw [if_neg he, if_neg he, select_zero]

/-! ## The products -/

/-- Both operands along the lanes. -/
theorem dot_lanes (A B : FVec Ideal S512x128 .bf16) (a b : Tile) (hA : IsTile A a) (hB : IsTile B b) :
    IsSquare (matmul dot_S512x128_S512x128_S512x512_1_1_0_0_n_n none A B (constant S512x512 .f32 0x00000000#32))
      (fun r s => ∑ e, a r e * b s e) := by
  intro r s
  refine (Ideal.matmul_constant_zero_apply _ none A B (ix2 r s)).trans ?_
  rw [← Equiv.sum_comp (contrEquiv1 dot_S512x128_S512x128_S512x512_1_1_0_0_n_n 128 rfl rfl).symm, ← sum_coe]
  refine Finset.sum_congr rfl fun e _ => ?_
  have hk := contrEquiv1_symm_val dot_S512x128_S512x128_S512x512_1_1_0_0_n_n 128 rfl rfl e
  have el : dot_S512x128_S512x128_S512x512_1_1_0_0_n_n.lhsIdx (ix2 r s)
      ((contrEquiv1 dot_S512x128_S512x128_S512x512_1_1_0_0_n_n 128 rfl rfl).symm e) = ix2 r e := by
    funext a; apply Fin.ext
    match a with | ⟨0, _⟩ => rfl | ⟨1, _⟩ => exact hk
  have er : dot_S512x128_S512x128_S512x512_1_1_0_0_n_n.rhsIdx (ix2 r s)
      ((contrEquiv1 dot_S512x128_S512x128_S512x512_1_1_0_0_n_n 128 rfl rfl).symm e) = ix2 s e := by
    funext a; apply Fin.ext
    match a with | ⟨0, _⟩ => rfl | ⟨1, _⟩ => exact hk
  rw [el, er, hA, hB, EReal.coe_mul]

/-- Both operands along the queries. -/
theorem dot_queries (A : FVec Ideal S512x512 .bf16) (B : FVec Ideal S512x128 .bf16) (a : Square) (b : Tile) (hA : IsSquare A a)
    (hB : IsTile B b) :
    IsTile (matmul dot_S512x512_S512x128_S512x128_0_0_1_1_n_n none A B (constant S512x128 .f32 0x00000000#32))
      (fun s e => ∑ r, a r s * b r e) := by
  intro s e
  refine (Ideal.matmul_constant_zero_apply _ none A B (ix2 s e)).trans ?_
  rw [← Equiv.sum_comp (contrEquiv1 dot_S512x512_S512x128_S512x128_0_0_1_1_n_n 512 rfl rfl).symm, ← sum_coe]
  refine Finset.sum_congr rfl fun r _ => ?_
  have hk := contrEquiv1_symm_val dot_S512x512_S512x128_S512x128_0_0_1_1_n_n 512 rfl rfl r
  have el : dot_S512x512_S512x128_S512x128_0_0_1_1_n_n.lhsIdx (ix2 s e)
      ((contrEquiv1 dot_S512x512_S512x128_S512x128_0_0_1_1_n_n 512 rfl rfl).symm r) = ix2 r s := by
    funext a; apply Fin.ext
    match a with | ⟨0, _⟩ => exact hk | ⟨1, _⟩ => rfl
  have er : dot_S512x512_S512x128_S512x128_0_0_1_1_n_n.rhsIdx (ix2 s e)
      ((contrEquiv1 dot_S512x512_S512x128_S512x128_0_0_1_1_n_n 512 rfl rfl).symm r) = ix2 r e := by
    funext a; apply Fin.ext
    match a with | ⟨0, _⟩ => exact hk | ⟨1, _⟩ => rfl
  rw [el, er, hA, hB, EReal.coe_mul]

/-- The first operand's keys against the second's rows. -/
theorem dot_keys (A : FVec Ideal S512x512 .bf16) (B : FVec Ideal S512x128 .bf16) (a : Square) (b : Tile) (hA : IsSquare A a)
    (hB : IsTile B b) :
    IsTile (matmul dot_S512x512_S512x128_S512x128_1_0_0_1_n_n none A B (constant S512x128 .f32 0x00000000#32))
      (fun r e => ∑ s, a r s * b s e) := by
  intro r e
  refine (Ideal.matmul_constant_zero_apply _ none A B (ix2 r e)).trans ?_
  rw [← Equiv.sum_comp (contrEquiv1 dot_S512x512_S512x128_S512x128_1_0_0_1_n_n 512 rfl rfl).symm, ← sum_coe]
  refine Finset.sum_congr rfl fun s _ => ?_
  have hk := contrEquiv1_symm_val dot_S512x512_S512x128_S512x128_1_0_0_1_n_n 512 rfl rfl s
  have el : dot_S512x512_S512x128_S512x128_1_0_0_1_n_n.lhsIdx (ix2 r e)
      ((contrEquiv1 dot_S512x512_S512x128_S512x128_1_0_0_1_n_n 512 rfl rfl).symm s) = ix2 r s := by
    funext a; apply Fin.ext
    match a with | ⟨0, _⟩ => rfl | ⟨1, _⟩ => exact hk
  have er : dot_S512x512_S512x128_S512x128_1_0_0_1_n_n.rhsIdx (ix2 r e)
      ((contrEquiv1 dot_S512x512_S512x128_S512x128_1_0_0_1_n_n 512 rfl rfl).symm s) = ix2 s e := by
    funext a; apply Fin.ext
    match a with | ⟨0, _⟩ => exact hk | ⟨1, _⟩ => rfl
  rw [el, er, hA, hB, EReal.coe_mul]

/-! ## Row sums and row maxima -/

/-- A column of row values. -/
theorem column (x : S512.Idx → EReal) (a : Fin 512 → ℝ) (hx : ∀ r, x (ix1 r) = ((a r : ℝ) : EReal)) :
    IsCol (shapeCast S512x1 x shapeCasts_S512_S512x1) a := by
  intro r z
  have hz : z.val = 0 := Nat.lt_one_iff.1 z.isLt
  refine (shapeCast_apply x _ (ix2 r z) (ix1 r) ?_).trans (hx r)
  rw [show (S512.rowMajor (ix1 r)).val = r.val from rowMajor_val1 _, show (S512x1.rowMajor (ix2 r z)).val = r.val * 1 + z.val from
    rowMajor_val2 _ 1 rfl]
  omega

theorem column_rows (x : S512x1.Idx → EReal) (a : Fin 512 → ℝ) (hx : IsCol x a) (r s : Fin 512) :
    broadcastTo S512x512 x broadcasts_S512x1_S512x512 (ix2 r s) = ((a r : ℝ) : EReal) := by
  refine (broadcastTo_apply _ _ (ix2 r s) (ix2 r 0) (fun b => ?_)).trans (hx r 0)
  match b with | ⟨0, _⟩ => rfl | ⟨1, _⟩ => rfl

theorem lift_row (r : Fin 512) (e : Fin 128) : reduces_S512x128_S512.lift (ix1 r) e = ix2 r e := by
  funext a; match a with | ⟨0, _⟩ => rfl | ⟨1, _⟩ => rfl

theorem row_sum (x : FVec Ideal S512x128 .f32) (a : Tile) (hx : IsTile x a) (r : Fin 512) :
    multiReduction .add [1] S512 x 0x00000000#32 reduces_S512x128_S512 (.inl rfl) rfl (ix1 r) = ((∑ e, a r e : ℝ) : EReal) := by
  refine (Ideal.multiReduction_add_single x _ _ _ _ (ix1 r)).trans ?_
  rw [← sum_coe]
  exact Finset.sum_congr rfl fun e _ => (congrArg x (lift_row r e)).trans (hx r e)

/-- The largest of values each equal to `c` or −∞, one of them `c`. -/
theorem fold_max_const {n : ℕ} (f : Fin n → EReal) (c : EReal) (hf : ∀ e, f e = c ∨ f e = ⊥) (e : Fin n) (he : f e = c) :
    (Finset.univ : Finset (Fin n)).fold max ⊥ f = c := by
  apply le_antisymm
  · refine (Finset.fold_max_le _).2 ⟨bot_le, fun x _ => ?_⟩
    rcases hf x with h | h
    · exact h.le
    · rw [h]; exact bot_le
  · exact (Finset.le_fold_max _).2 (Or.inr ⟨e, Finset.mem_univ _, he.ge⟩)

theorem row_max (x : FVec Ideal S512x128 .f32) (r : Fin 512) (c : EReal) (hx : ∀ e, x (ix2 r e) = c ∨ x (ix2 r e) = ⊥)
    (e : Fin 128) (he : x (ix2 r e) = c) :
    multiReduction .maximumf [1] S512 x 0xFF800000#32 reduces_S512x128_S512 (.inl rfl) rfl (ix1 r) = c := by
  refine (Ideal.multiReduction_maximumf_single x _ _ _ _ (ix1 r)).trans ?_
  refine (congrArg (fun b => (Finset.univ : Finset (Fin 128)).fold max b (x ∘ reduces_S512x128_S512.lift (ix1 r))) const_bot).trans ?_
  refine fold_max_const _ c (fun e' => ?_) e ?_
  · rcases hx e' with h | h
    · exact Or.inl ((congrArg x (lift_row r e')).trans h)
    · exact Or.inr ((congrArg x (lift_row r e')).trans h)
  · exact (congrArg x (lift_row r e)).trans he

/-! ## The probability at a score -/

theorem exp_bias (x : ℝ) (δ : ℤ) (L : ℝ) (hL : 0 < L) :
    Ideal.exp ((x : EReal) + (biasAt δ - ((Real.log L : ℝ) : EReal))) = ((mult δ * Real.exp x / L : ℝ) : EReal) := by
  unfold biasAt
  by_cases h : mult δ = 0
  · rw [if_pos h, EReal.bot_sub, EReal.add_bot, Ideal.exp_bot, h, zero_mul, zero_div, EReal.coe_zero]
  · have hp : 0 < mult δ := lt_of_le_of_ne (mult_nonneg δ) (Ne.symm h)
    rw [if_neg h, ← EReal.coe_sub, ← EReal.coe_add, Ideal.exp_coe]
    refine congrArg Real.toEReal ?_
    rw [Real.exp_add, Real.exp_sub, Real.exp_log hp, Real.exp_log hL]
    ring

end Cert.Attn

end
-- ==== Proof.Payloads.lean ====
/- The values of the kernel's body, given real tiles: what one trip of its loop computes from the rows of one tile of queries
   and one tile of keys, two heads at a time. -/
module

public import proofs.«01_k».proof.Proof.TileOps

@[expose] public section

set_option maxRecDepth 16384

noncomputable section

namespace Cert.Attn

open Idealize.ShloMosaic hiding ix1 ix2 ix3 ix4 ix5
open Idealize.ShloMosaic.ValueIdx
open Cert.KernelIdeal Cert.KernelIdeal.Gen

local notation "𝓘" => Idealize.ShloMosaic.Ideal

/-- The sum of a tile's row. -/
def rowSum (a : Tile) : Fin 512 → ℝ := fun r => ∑ e, a r e

/-- The dot products of the rows of two tiles. -/
def dots (a b : Tile) : Square := fun r s => ∑ e, a r e * b s e

/-- The probabilities of a tile: place differences δ + r − s, scores `x`, totals `L`. -/
def probs (δ : ℤ) (x : Square) (L : Fin 512 → ℝ) : Square := fun r s => mult (δ + r.val - s.val) * Real.exp (x r s) / L r

/-- The gradient at the scores, from that at the probabilities. -/
def grads (p x : Square) (d : Fin 512 → ℝ) : Square := fun r s => p r s * (x r s - d r)

variable {q k v o g : Tile} {X2 X5 X6 : Vec 𝓘 S512x128 .bf16}

theorem mask_pay (x : IVec S1x128 1) (hx : x = k0_pay1) (h : S1x128.ShapeCasts S1x128) (h' : S1x128.Broadcasts S512x128)
    (r : Fin 512) (e : Fin 128) : broadcastTo S512x128 (shapeCast S1x128 x h) h' (ix2 r e) = if e.val < 64 then 1#1 else 0#1 :=
  mask_rows r e x hx

theorem zeros16 (i : S512x128.Idx) : broadcast S512x128 (Scalar.ofBits (F := 𝓘) .bf16 0x0000#16) i = ((0 : ℝ) : EReal) := zero16

theorem zeros32 (i : S512x128.Idx) : broadcast S512x128 (Scalar.ofBits (F := 𝓘) .f32 0x00000000#32) i = ((0 : ℝ) : EReal) := const_zero

/-! ## The operands -/

theorem pay3_tile (x : Vec 𝓘 S512x128 .bf16) (a : Tile) (h : IsTile x a) : IsTile (k0_pay3 x) a := fun r e =>
  (congrFun (self_cast x _) (ix2 r e)).trans (h r e)

theorem pay4_tile (x : Vec 𝓘 S512x128 .bf16) (a : Tile) (h : IsTile x a) : IsTile (k0_pay4 x) a := fun r e =>
  (congrFun (self_cast x _) (ix2 r e)).trans (h r e)

theorem pay11_tile (x : Vec 𝓘 S512x128 .bf16) (a : Tile) (h : IsTile x a) : IsTile (k0_pay11 x) a := fun r e =>
  (congrFun (self_cast x _) (ix2 r e)).trans (h r e)

theorem pay6_tile (x : Vec 𝓘 S512x128 .bf16) (a : Tile) (h : IsTile x a) : IsTile (k0_pay6 x) (first a) :=
  select_first _ (mask_pay _ rfl _ _) _ _ a (pay3_tile x a h) zeros16

theorem pay7_tile (x : Vec 𝓘 S512x128 .bf16) (a : Tile) (h : IsTile x a) : IsTile (k0_pay7 x) (second a) :=
  select_second _ (mask_pay _ rfl _ _) _ _ a (pay3_tile x a h) zeros16

theorem pay13_tile (m : IVec S1x128 1) (hm : m = k0_pay1) (x : Vec 𝓘 S512x128 .bf16) (a : Tile) (h : IsTile x a) :
    IsTile (k0_pay13 m x) (first a) := select_first _ (mask_pay _ hm _ _) _ _ a (pay11_tile x a h) zeros16

theorem pay14_tile (m : IVec S1x128 1) (hm : m = k0_pay1) (x : Vec 𝓘 S512x128 .bf16) (a : Tile) (h : IsTile x a) :
    IsTile (k0_pay14 m x) (second a) := select_second _ (mask_pay _ hm _ _) _ _ a (pay11_tile x a h) zeros16

theorem pay24_tile (m : IVec S512x128 1) (hm : ∀ r e, m (ix2 r e) = if e.val < 64 then 1#1 else 0#1) (x z : FVec 𝓘 S512x128 .bf16)
    (a : Tile) (h : IsTile x a) (hz : ∀ i, z i = ((0 : ℝ) : EReal)) : IsTile (k0_pay24 x z m) (first a) := select_first _ hm _ _ a h hz

theorem pay25_tile (m : IVec S1x128 1) (hm : m = k0_pay1) (x z : FVec 𝓘 S512x128 .bf16)
    (a : Tile) (h : IsTile x a) (hz : ∀ i, z i = ((0 : ℝ) : EReal)) : IsTile (k0_pay25 m x z) (second a) :=
  select_second _ (mask_pay _ hm _ _) _ _ a h hz

/-! ## The weighted means and the totals of the rows -/

theorem pay15_tile (x y : Vec 𝓘 S512x128 .f32) (a b : Tile) (hx : IsTile x a) (hy : IsTile y b) :
    IsTile (k0_pay15 x y) (fun r e => a r e * b r e) := by
  intro r e
  show (x (ix2 r e) : EReal) * shapeCast S512x128 y shapeCasts_S512x128_S512x128 (ix2 r e) = _
  rw [self_cast, hx, hy, EReal.coe_mul]

theorem pay16_col (x y : Vec 𝓘 S512x128 .f32) (a b : Tile) (hx : IsTile x a) (hy : IsTile y b) :
    IsCol (k0_pay16 x y) (rowSum fun r e => a r e * b r e) :=
  column _ _ (row_sum _ _ (pay15_tile x y a b hx hy))

theorem pay17_col (m : IVec S1x128 1) (hm : m = k0_pay1) (x y : Vec 𝓘 S512x128 .f32) (a b : Tile) (hx : IsTile x a)
    (hy : IsTile y b) : IsCol (k0_pay17 m x y) (rowSum (first fun r e => a r e * b r e)) :=
  column _ _ (row_sum _ _ (select_first _ (mask_pay _ hm _ _) _ _ _ (pay15_tile x y a b hx hy) zeros32))

theorem pay19_col (m : IVec S1x128 1) (hm : m = k0_pay1) (x : Vec 𝓘 S512x128 .f32) (L : Fin 512 → ℝ)
    (hx : ∀ r (e : Fin 128), e.val < 64 → x (ix2 r e) = ((L r : ℝ) : EReal)) : IsCol (k0_pay19 m x) L := by
  refine column _ _ fun r => row_max _ r _ (fun e => ?_) (⟨0, by decide⟩ : Fin 128) ?_
  · show Scalar.select (broadcastTo S512x128 (shapeCast S1x128 m shapeCasts_S1x128_S1x128) broadcasts_S1x128_S512x128 (ix2 r e))
      (shapeCast S512x128 x shapeCasts_S512x128_S512x128 (ix2 r e)) (Ideal.ofBits .f32 0xFF800000#32) = _ ∨ Scalar.select _ _ _ = _
    rw [mask_pay m hm, self_cast, const_bot]
    by_cases he : e.val < 64
    · rw [if_pos he, select_one]; exact Or.inl (hx r e he)
    · rw [if_neg he, select_zero]; exact Or.inr rfl
  · show Scalar.select (broadcastTo S512x128 (shapeCast S1x128 m shapeCasts_S1x128_S1x128) broadcasts_S1x128_S512x128 (ix2 r _))
      (shapeCast S512x128 x shapeCasts_S512x128_S512x128 (ix2 r _)) (Ideal.ofBits .f32 0xFF800000#32) = _
    rw [mask_pay m hm, self_cast, if_pos (by decide), select_one]
    exact hx r _ (by decide)

theorem pay20_col (m : IVec S1x128 1) (hm : m = k0_pay1) (x : Vec 𝓘 S512x128 .f32) (L : Fin 512 → ℝ)
    (hx : ∀ r (e : Fin 128), ¬ e.val < 64 → x (ix2 r e) = ((L r : ℝ) : EReal)) : IsCol (k0_pay20 m x) L := by
  refine column _ _ fun r => row_max _ r _ (fun e => ?_) (⟨64, by decide⟩ : Fin 128) ?_
  · show Scalar.select (broadcastTo S512x128 (shapeCast S1x128 m shapeCasts_S1x128_S1x128) broadcasts_S1x128_S512x128 (ix2 r e))
      (Ideal.ofBits .f32 0xFF800000#32) (shapeCast S512x128 x shapeCasts_S512x128_S512x128 (ix2 r e)) = _ ∨ Scalar.select _ _ _ = _
    rw [mask_pay m hm, self_cast, const_bot]
    by_cases he : e.val < 64
    · rw [if_pos he, select_one]; exact Or.inr rfl
    · rw [if_neg he, select_zero]; exact Or.inl (hx r e he)
  · show Scalar.select (broadcastTo S512x128 (shapeCast S1x128 m shapeCasts_S1x128_S1x128) broadcasts_S1x128_S512x128 (ix2 r _))
      (Ideal.ofBits .f32 0xFF800000#32) (shapeCast S512x128 x shapeCasts_S512x128_S512x128 (ix2 r _)) = _
    rw [mask_pay m hm, self_cast, if_neg (by decide), select_zero]
    exact hx r _ (by decide)

/-! ## The probabilities and the gradients at the scores -/

theorem bias_tile (b : Vec 𝓘 S1x512x512 .f32) (r s : Fin 512) : k0_pay26 b (ix2 r s) = b (ix3 0 r s) := by
  refine shapeCast_apply b _ (ix2 r s) (ix3 0 r s) ?_
  rw [show (S1x512x512.rowMajor (ix3 (0 : Fin 1) r s)).val = (0 : Fin 1).val * 262144 + r.val * 512 + s.val from
      rowMajor_val3 _ 262144 512 rfl rfl,
    show (S512x512.rowMajor (ix2 r s)).val = r.val * 512 + s.val from rowMajor_val2 _ 512 rfl]
  simp

/-- The bias tile at block distance δ. -/
def IsBias (b : Vec 𝓘 S1x512x512 .f32) (δ : ℤ) : Prop := ∀ r s : Fin 512, b (ix3 0 r s) = biasAt (δ + r.val - s.val)

/-- The totals are positive and the column holds their logarithms. -/
def IsLog (x : S512x1.Idx → EReal) (L : Fin 512 → ℝ) : Prop := (∀ r, 0 < L r) ∧ IsCol x fun r => Real.log (L r)

theorem pay27_square (K Q : FVec 𝓘 S512x128 .bf16) (l : FVec 𝓘 S512x1 .f32) (b : Vec 𝓘 S1x512x512 .f32) (k q : Tile)
    (L : Fin 512 → ℝ) (δ : ℤ) (hK : IsTile K k) (hQ : IsTile Q q) (hl : IsLog l L) (hb : IsBias b δ) :
    IsSquare (k0_pay27 K Q l b) (probs δ (dots q k) L) := by
  intro r s
  show Ideal.exp (matmul (F := 𝓘) dot_S512x128_S512x128_S512x512_1_1_0_0_n_n none Q K (constant S512x512 .f32 0x00000000#32) (ix2 r s)
    + (k0_pay26 b (ix2 r s) - broadcastTo S512x512 l broadcasts_S512x1_S512x512 (ix2 r s))) = _
  rw [dot_lanes Q K q k hQ hK r s, bias_tile, hb, column_rows l _ hl.2, exp_bias _ _ _ (hl.1 r)]
  rfl

theorem pay29_eq (K Q : FVec 𝓘 S512x128 .bf16) (l : FVec 𝓘 S512x1 .f32) (b : Vec 𝓘 S1x512x512 .f32) :
    k0_pay29 K Q l b = k0_pay27 K Q l b := rfl

theorem grad_square (p : FVec 𝓘 S512x512 .f32) (G W : FVec 𝓘 S512x128 .bf16) (d : FVec 𝓘 S512x1 .f32) (pr : Square) (g v : Tile)
    (D : Fin 512 → ℝ) (hp : IsSquare p pr) (hG : IsTile G g) (hW : IsTile W v) (hd : IsCol d D) :
    IsSquare (mulf p (subf (matmul (F := 𝓘) dot_S512x128_S512x128_S512x512_1_1_0_0_n_n none G W (constant S512x512 .f32 0x00000000#32))
      (broadcastTo S512x512 d broadcasts_S512x1_S512x512))) (grads pr (dots g v) D) := by
  intro r s
  show (p (ix2 r s) : EReal) * (matmul (F := 𝓘) dot_S512x128_S512x128_S512x512_1_1_0_0_n_n none G W (constant S512x512 .f32 0x00000000#32) (ix2 r s)
    - broadcastTo S512x512 d broadcasts_S512x1_S512x512 (ix2 r s)) = _
  rw [hp, dot_lanes G W g v hG hW r s, column_rows d _ hd, ← EReal.coe_sub, ← EReal.coe_mul]
  rfl

theorem pay28_square (K W Q G Z : FVec 𝓘 S512x128 .bf16) (d l : FVec 𝓘 S512x1 .f32) (m : IVec S512x128 1)
    (hm : ∀ r e, m (ix2 r e) = if e.val < 64 then 1#1 else 0#1) (b : Vec 𝓘 S1x512x512 .f32) (k v q g : Tile)
    (D L : Fin 512 → ℝ) (δ : ℤ) (hK : IsTile K k) (hW : IsTile W v) (hQ : IsTile Q q) (hG : IsTile G g)
    (hZ : ∀ i, Z i = ((0 : ℝ) : EReal)) (hd : IsCol d D) (hl : IsLog l L) (hb : IsBias b δ) :
    IsSquare (k0_pay28 K W Q d l G Z m b) (grads (probs δ (dots q k) L) (dots (first g) v) D) :=
  grad_square _ _ _ _ _ _ _ _ (pay27_square K Q l b k q L δ hK hQ hl hb) (pay24_tile m hm G Z g hG hZ) hW hd

theorem col_sub (x y : FVec 𝓘 S512x1 .f32) (a b : Fin 512 → ℝ) (hx : IsCol x a) (hy : IsCol y b) :
    IsCol (subf x y) (fun r => a r - b r) := fun r z => by
  show (x (ix2 r z) : EReal) - y (ix2 r z) = _
  rw [hx, hy, EReal.coe_sub]

theorem pay30_square (m : IVec S1x128 1) (hm : m = k0_pay1) (K W Q G Z : FVec 𝓘 S512x128 .bf16) (c d l : FVec 𝓘 S512x1 .f32)
    (b : Vec 𝓘 S1x512x512 .f32) (k v q g : Tile) (C D L : Fin 512 → ℝ) (δ : ℤ) (hK : IsTile K k) (hW : IsTile W v) (hQ : IsTile Q q)
    (hG : IsTile G g) (hZ : ∀ i, Z i = ((0 : ℝ) : EReal)) (hc : IsCol c C) (hd : IsCol d D) (hl : IsLog l L) (hb : IsBias b δ) :
    IsSquare (k0_pay30 m K W Q c d l G Z b) (grads (probs δ (dots q k) L) (dots (second g) v) fun r => C r - D r) :=
  grad_square _ _ _ _ _ _ _ _ (pay27_square K Q l b k q L δ hK hQ hl hb) (pay25_tile m hm G Z g hG hZ) hW (col_sub c d C D hc hd)

/-! ## The three gradients of a trip -/

theorem tile_add (x y : FVec 𝓘 S512x128 .f32) (a b : Tile) (hx : IsTile x a) (hy : IsTile y b) :
    IsTile (addf x y) (fun r e => a r e + b r e) := fun r e => by
  show (x (ix2 r e) : EReal) + y (ix2 r e) = _
  rw [hx, hy, EReal.coe_add]

/-- At the values: each head's probabilities against the output's gradient. -/
theorem pay31_tile (m : IVec S1x128 1) (hm : m = k0_pay1) (K : FVec 𝓘 S512x128 .bf16) (acc : FVec 𝓘 S512x128 .f32)
    (Q Q' : FVec 𝓘 S512x128 .bf16) (l l' : FVec 𝓘 S512x1 .f32) (G Z : FVec 𝓘 S512x128 .bf16) (m' : IVec S512x128 1)
    (hm' : ∀ r e, m' (ix2 r e) = if e.val < 64 then 1#1 else 0#1) (b : Vec 𝓘 S1x512x512 .f32) (k a q q' g : Tile)
    (L L' : Fin 512 → ℝ) (δ : ℤ) (hK : IsTile K k) (ha : IsTile acc a) (hQ : IsTile Q q) (hQ' : IsTile Q' q') (hG : IsTile G g)
    (hZ : ∀ i, Z i = ((0 : ℝ) : EReal)) (hl : IsLog l L) (hl' : IsLog l' L') (hb : IsBias b δ) :
    IsTile (k0_pay31 m K acc Q Q' l l' G Z m' b) (fun s e => a s e + (∑ r, probs δ (dots q k) L r s * first g r e)
      + ∑ r, probs δ (dots q' k) L' r s * second g r e) :=
  tile_add _ _ _ _ (tile_add _ _ _ _ ha (dot_queries _ _ _ _ (pay27_square K Q l b k q L δ hK hQ hl hb) (pay24_tile m' hm' G Z g hG hZ)))
    (dot_queries _ _ _ _ (pay27_square K Q' l' b k q' L' δ hK hQ' hl' hb) (pay25_tile m hm G Z g hG hZ))

/-- At the keys: each head's score gradients against the queries. -/
theorem pay32_tile (m : IVec S1x128 1) (hm : m = k0_pay1) (K W : FVec 𝓘 S512x128 .bf16) (acc : FVec 𝓘 S512x128 .f32)
    (Q Q' : FVec 𝓘 S512x128 .bf16) (c d l l' : FVec 𝓘 S512x1 .f32) (G Z : FVec 𝓘 S512x128 .bf16) (m' : IVec S512x128 1)
    (hm' : ∀ r e, m' (ix2 r e) = if e.val < 64 then 1#1 else 0#1) (b : Vec 𝓘 S1x512x512 .f32) (k v a q q' g : Tile)
    (C D L L' : Fin 512 → ℝ) (δ : ℤ) (hK : IsTile K k) (hW : IsTile W v) (ha : IsTile acc a) (hQ : IsTile Q q) (hQ' : IsTile Q' q')
    (hG : IsTile G g) (hZ : ∀ i, Z i = ((0 : ℝ) : EReal)) (hc : IsCol c C) (hd : IsCol d D) (hl : IsLog l L) (hl' : IsLog l' L')
    (hb : IsBias b δ) :
    IsTile (k0_pay32 m K W acc Q Q' c d l l' G Z m' b) (fun s e => a s e
      + (∑ r, grads (probs δ (dots q k) L) (dots (first g) v) D r s * q r e)
      + ∑ r, grads (probs δ (dots q' k) L') (dots (second g) v) (fun r => C r - D r) r s * q' r e) :=
  tile_add _ _ _ _ (tile_add _ _ _ _ ha (dot_queries _ _ _ _ (pay28_square K W Q G Z d l m' hm' b k v q g D L δ hK hW hQ hG hZ hd hl hb) hQ))
    (dot_queries _ _ _ _ (pay30_square m hm K W Q' G Z c d l' b k v q' g C D L' δ hK hW hQ' hG hZ hc hd hl' hb) hQ')

/-- At the queries: each head's score gradients against the keys. -/
theorem pay33_tile (m : IVec S1x128 1) (hm : m = k0_pay1) (K W K1 K2 : FVec 𝓘 S512x128 .bf16)
    (Q Q' : FVec 𝓘 S512x128 .bf16) (c d l l' : FVec 𝓘 S512x1 .f32) (G Z : FVec 𝓘 S512x128 .bf16) (m' : IVec S512x128 1)
    (hm' : ∀ r e, m' (ix2 r e) = if e.val < 64 then 1#1 else 0#1) (b : Vec 𝓘 S1x512x512 .f32) (k v k1 k2 q q' g : Tile)
    (C D L L' : Fin 512 → ℝ) (δ : ℤ) (hK : IsTile K k) (hW : IsTile W v) (h1 : IsTile K1 k1) (h2 : IsTile K2 k2) (hQ : IsTile Q q)
    (hQ' : IsTile Q' q') (hG : IsTile G g) (hZ : ∀ i, Z i = ((0 : ℝ) : EReal)) (hc : IsCol c C) (hd : IsCol d D) (hl : IsLog l L)
    (hl' : IsLog l' L') (hb : IsBias b δ) :
    IsTile (k0_pay33 m K W K1 K2 Q Q' c d l l' G Z m' b) (fun r e => 0
      + (∑ s, grads (probs δ (dots q k) L) (dots (first g) v) D r s * k1 s e)
      + ∑ s, grads (probs δ (dots q' k) L') (dots (second g) v) (fun r => C r - D r) r s * k2 s e) :=
  tile_add _ _ _ _ (tile_add _ _ _ _ (fun _ _ => zeros32 _)
      (dot_keys _ _ _ _ (pay28_square K W Q G Z d l m' hm' b k v q g D L δ hK hW hQ hG hZ hd hl hb) h1))
    (dot_keys _ _ _ _ (pay30_square m hm K W Q' G Z c d l' b k v q' g C D L' δ hK hW hQ' hG hZ hc hd hl' hb) h2)

end Cert.Attn

end
-- ==== Proof.TileMath.lean ====
/- The mathematics by tiles: 512 rows of one of the four blocks and the 128 lanes of one of the eight pairs of heads. What a
   trip adds is the tile's share of the gradients, and the shares of all tiles add up to the gradients. -/
module

public import proofs.«01_k».proof.Proof.Payloads
public import proofs.«01_k».proof.Proof.RefSoftmax

@[expose] public section

noncomputable section

namespace Cert.Attn

/-- Row `r` of block `b`, lane `e` of pair `p`, and the two heads of the pair. -/
def row (b : Fin 4) (r : Fin 512) : Fin 2048 := ⟨512 * b.val + r.val, by omega⟩
def col (p : Fin 8) (e : Fin 128) : Fin 1024 := ⟨128 * p.val + e.val, by omega⟩
def headA (p : Fin 8) : Fin 16 := ⟨2 * p.val, by omega⟩
def headB (p : Fin 8) : Fin 16 := ⟨2 * p.val + 1, by omega⟩

/-- A tile of an array. -/
def tile (x : Arr) (b : Fin 4) (p : Fin 8) : Tile := fun r e => x (row b r) (col p e)

theorem headOf_low (p : Fin 8) (e : Fin 128) (h : e.val < 64) : headOf (col p e) = headA p := by
  apply Fin.ext; simp only [headOf, col, headA]; omega

theorem headOf_high (p : Fin 8) (e : Fin 128) (h : ¬ e.val < 64) : headOf (col p e) = headB p := by
  apply Fin.ext; simp only [headOf, col, headB]; omega

/-- The rows by blocks. -/
theorem sum_rows (f : Fin 2048 → ℝ) : ∑ R, f R = ∑ b : Fin 4, ∑ r : Fin 512, f (row b r) := by
  rw [← Fintype.sum_prod_type' (f := fun (b : Fin 4) (r : Fin 512) => f (row b r))]
  rw [← Equiv.sum_comp (finProdFinEquiv (m := 4) (n := 512)) f]
  refine Finset.sum_congr rfl fun x _ => congrArg f ?_
  apply Fin.ext
  simp only [row, finProdFinEquiv_apply_val]
  omega

/-- The lanes of the first and of the second head. -/
theorem sum_lanes (f : Fin 128 → ℝ) : ∑ e, f e = (∑ d : Fin 64, f (Fin.castAdd 64 d)) + ∑ d : Fin 64, f (Fin.natAdd 64 d) :=
  Fin.sum_univ_add (a := 64) (b := 64) f

theorem col_low (p : Fin 8) (d : Fin 64) : col p (Fin.castAdd 64 d) = lane (headA p) d := by
  apply Fin.ext; simp only [col, lane, headA, Fin.val_castAdd]; omega

theorem col_high (p : Fin 8) (d : Fin 64) : col p (Fin.natAdd 64 d) = lane (headB p) d := by
  apply Fin.ext; simp only [col, lane, headB, Fin.val_natAdd]; omega

theorem sum_first (a : Tile) (r : Fin 512) (f : Fin 128 → ℝ) :
    ∑ e, first a r e * f e = ∑ d : Fin 64, a r (Fin.castAdd 64 d) * f (Fin.castAdd 64 d) := by
  rw [sum_lanes]
  have z : ∑ d : Fin 64, first a r (Fin.natAdd 64 d) * f (Fin.natAdd 64 d) = 0 := by
    refine Finset.sum_eq_zero fun d _ => ?_
    unfold first; rw [if_neg (by simp), zero_mul]
  rw [z, add_zero]
  refine Finset.sum_congr rfl fun d _ => ?_
  unfold first; rw [if_pos (by simp)]

theorem sum_second (a : Tile) (r : Fin 512) (f : Fin 128 → ℝ) :
    ∑ e, second a r e * f e = ∑ d : Fin 64, a r (Fin.natAdd 64 d) * f (Fin.natAdd 64 d) := by
  rw [sum_lanes]
  have z : ∑ d : Fin 64, second a r (Fin.castAdd 64 d) * f (Fin.castAdd 64 d) = 0 := by
    refine Finset.sum_eq_zero fun d _ => ?_
    unfold second; rw [if_pos (by simp), zero_mul]
  rw [z, zero_add]
  refine Finset.sum_congr rfl fun d _ => ?_
  unfold second; rw [if_neg (by simp)]

section
variable (q k v g : Arr) (i j : Fin 4) (p : Fin 8)

theorem score_low (r s : Fin 512) : dots (first (tile q i p)) (tile k j p) r s = score q k (headA p) (row i r) (row j s) := by
  unfold dots score
  rw [sum_first]
  exact Finset.sum_congr rfl fun d _ => by unfold tile; rw [col_low]

theorem score_high (r s : Fin 512) : dots (second (tile q i p)) (tile k j p) r s = score q k (headB p) (row i r) (row j s) := by
  unfold dots score
  rw [sum_second]
  exact Finset.sum_congr rfl fun d _ => by unfold tile; rw [col_high]

/-- The block distance. -/
def dist : ℤ := 512 * ((i.val : ℤ) - j.val)

theorem times_tile (r s : Fin 512) : times (row i r) (row j s) = mult (dist i j + r.val - s.val) := by
  unfold times dist row
  congr 1
  push_cast
  ring

def totalA (r : Fin 512) : ℝ := total q k (headA p) (row i r)
def totalB (r : Fin 512) : ℝ := total q k (headB p) (row i r)

theorem prob_low (r s : Fin 512) : probs (dist i j) (dots (first (tile q i p)) (tile k j p)) (totalA q k i p) r s
    = prob q k (headA p) (row i r) (row j s) := by
  unfold probs prob weight totalA
  rw [score_low, times_tile]

theorem prob_high (r s : Fin 512) : probs (dist i j) (dots (second (tile q i p)) (tile k j p)) (totalB q k i p) r s
    = prob q k (headB p) (row i r) (row j s) := by
  unfold probs prob weight totalB
  rw [score_high, times_tile]

/-- The output against its gradient is the mean of the probabilities' gradients. -/
theorem mean_output (h : Fin 16) (R : Fin 2048) :
    ∑ d : Fin 64, g R (lane h d) * output q k v R (lane h d) = meanGrad q k v g h R := by
  unfold meanGrad gradProb output
  simp only [headOf_lane, Finset.mul_sum]
  rw [Finset.sum_comm]
  exact Finset.sum_congr rfl fun C _ => Finset.sum_congr rfl fun d _ => by ring

theorem mean_low (r : Fin 512) :
    rowSum (first fun r e => tile g i p r e * tile (output q k v) i p r e) r = meanGrad q k v g (headA p) (row i r) := by
  rw [← mean_output]
  unfold rowSum
  have e := sum_first (fun r e => tile g i p r e * tile (output q k v) i p r e) r (fun _ => 1)
  simp only [mul_one] at e
  rw [e]
  exact Finset.sum_congr rfl fun d _ => by unfold tile; rw [col_low]

theorem mean_high (r : Fin 512) :
    rowSum (fun r e => tile g i p r e * tile (output q k v) i p r e) r
      - rowSum (first fun r e => tile g i p r e * tile (output q k v) i p r e) r = meanGrad q k v g (headB p) (row i r) := by
  rw [mean_low, ← mean_output, ← mean_output]
  unfold rowSum
  rw [sum_lanes]
  rw [sub_eq_iff_eq_add, add_comm]
  refine congrArg₂ (· + ·) (Finset.sum_congr rfl fun d _ => ?_) (Finset.sum_congr rfl fun d _ => ?_)
  · show tile g i p r _ * tile (output q k v) i p r _ = _
    unfold tile; rw [col_high]
  · show tile g i p r _ * tile (output q k v) i p r _ = _
    unfold tile; rw [col_low]

/-- The score gradients of the tile, in the two heads. -/
def scoresA : Square := grads (probs (dist i j) (dots (first (tile q i p)) (tile k j p)) (totalA q k i p))
  (dots (first (tile g i p)) (tile v j p)) (rowSum (first fun r e => tile g i p r e * tile (output q k v) i p r e))

def scoresB : Square := grads (probs (dist i j) (dots (second (tile q i p)) (tile k j p)) (totalB q k i p))
  (dots (second (tile g i p)) (tile v j p)) (fun r => rowSum (fun r e => tile g i p r e * tile (output q k v) i p r e) r
    - rowSum (first fun r e => tile g i p r e * tile (output q k v) i p r e) r)

theorem scores_low (r s : Fin 512) : scoresA q k v g i j p r s = gradScore q k v g (headA p) (row i r) (row j s) := by
  unfold scoresA grads gradScore
  rw [prob_low, mean_low, score_low]
  rfl

theorem scores_high (r s : Fin 512) : scoresB q k v g i j p r s = gradScore q k v g (headB p) (row i r) (row j s) := by
  unfold scoresB grads gradScore
  rw [prob_high, score_high]
  exact congrArg (fun d => prob q k (headB p) (row i r) (row j s) * (gradProb v g (headB p) (row i r) (row j s) - d))
    (mean_high q k v g i p r)

/-- The tile's shares: at the values and the keys of block `j`, and at the queries of block `i`. -/
def shareV (s : Fin 512) (e : Fin 128) : ℝ := ∑ r, prob q k (headOf (col p e)) (row i r) (row j s) * g (row i r) (col p e)
def shareK (s : Fin 512) (e : Fin 128) : ℝ := ∑ r, gradScore q k v g (headOf (col p e)) (row i r) (row j s) * q (row i r) (col p e)
def shareQ (r : Fin 512) (e : Fin 128) : ℝ := ∑ s, gradScore q k v g (headOf (col p e)) (row i r) (row j s) * k (row j s) (col p e)

theorem first_low (a : Tile) (r : Fin 512) (e : Fin 128) (h : e.val < 64) : first a r e = a r e := if_pos h
theorem first_high (a : Tile) (r : Fin 512) (e : Fin 128) (h : ¬ e.val < 64) : first a r e = 0 := if_neg h
theorem second_low (a : Tile) (r : Fin 512) (e : Fin 128) (h : e.val < 64) : second a r e = 0 := if_pos h
theorem second_high (a : Tile) (r : Fin 512) (e : Fin 128) (h : ¬ e.val < 64) : second a r e = a r e := if_neg h

/-- Two heads' sums, each over its own lanes, are one sum with the lane's own head. -/
theorem two_heads (x y : Fin 512 → ℝ) (z : Fin 16 → Fin 512 → ℝ) (a : Tile) (e : Fin 128) (hx : ∀ r, x r = z (headA p) r)
    (hy : ∀ r, y r = z (headB p) r) :
    (∑ r, x r * first a r e) + ∑ r, y r * second a r e = ∑ r, z (headOf (col p e)) r * a r e := by
  by_cases h : e.val < 64
  · simp only [first_low a _ e h, second_low a _ e h, mul_zero, Finset.sum_const_zero, add_zero, headOf_low p e h, hx]
  · simp only [first_high a _ e h, second_high a _ e h, mul_zero, Finset.sum_const_zero, zero_add, headOf_high p e h, hy]

theorem shareV_eq (s : Fin 512) (e : Fin 128) :
    (∑ r, probs (dist i j) (dots (first (tile q i p)) (tile k j p)) (totalA q k i p) r s * first (tile g i p) r e)
      + ∑ r, probs (dist i j) (dots (second (tile q i p)) (tile k j p)) (totalB q k i p) r s * second (tile g i p) r e
      = shareV q k g i j p s e :=
  two_heads p _ _ (fun h r => prob q k h (row i r) (row j s)) (tile g i p) e (fun r => prob_low q k i j p r s)
    (fun r => prob_high q k i j p r s)

theorem shareK_eq (s : Fin 512) (e : Fin 128) :
    (∑ r, scoresA q k v g i j p r s * first (tile q i p) r e) + ∑ r, scoresB q k v g i j p r s * second (tile q i p) r e
      = shareK q k v g i j p s e :=
  two_heads p _ _ (fun h r => gradScore q k v g h (row i r) (row j s)) (tile q i p) e (fun r => scores_low q k v g i j p r s)
    (fun r => scores_high q k v g i j p r s)

theorem shareQ_eq (r : Fin 512) (e : Fin 128) :
    (∑ s, scoresA q k v g i j p r s * first (tile k j p) s e) + ∑ s, scoresB q k v g i j p r s * second (tile k j p) s e
      = shareQ q k v g i j p r e :=
  two_heads p _ _ (fun h s => gradScore q k v g h (row i r) (row j s)) (tile k j p) e (fun s => scores_low q k v g i j p r s)
    (fun s => scores_high q k v g i j p r s)

/-! ## Keys after the query -/

theorem prob_zero (h : Fin 16) (R C : Fin 2048) (hRC : R < C) : prob q k h R C = 0 := by
  have hlt : R.val < C.val := hRC
  unfold prob weight times
  rw [mult_neg (by omega), zero_mul, zero_div]

theorem gradScore_zero (h : Fin 16) (R C : Fin 2048) (hRC : R < C) : gradScore q k v g h R C = 0 := by
  unfold gradScore; rw [prob_zero q k h R C hRC, zero_mul]

theorem row_lt (hij : i < j) (r s : Fin 512) : row i r < row j s := by
  have h : i.val < j.val := hij
  show 512 * i.val + r.val < 512 * j.val + s.val
  omega

theorem shareV_zero (hij : i < j) (s : Fin 512) (e : Fin 128) : shareV q k g i j p s e = 0 :=
  Finset.sum_eq_zero fun r _ => by rw [prob_zero q k _ _ _ (row_lt i j hij r s), zero_mul]

theorem shareK_zero (hij : i < j) (s : Fin 512) (e : Fin 128) : shareK q k v g i j p s e = 0 :=
  Finset.sum_eq_zero fun r _ => by rw [gradScore_zero q k v g _ _ _ (row_lt i j hij r s), zero_mul]

theorem shareQ_zero (hij : i < j) (r : Fin 512) (e : Fin 128) : shareQ q k v g i j p r e = 0 :=
  Finset.sum_eq_zero fun s _ => by rw [gradScore_zero q k v g _ _ _ (row_lt i j hij r s), zero_mul]

theorem sum_shareV (s : Fin 512) (e : Fin 128) : ∑ b, shareV q k g b j p s e = gradV q k g (row j s) (col p e) :=
  (sum_rows fun R => prob q k (headOf (col p e)) R (row j s) * g R (col p e)).symm

theorem sum_shareK (s : Fin 512) (e : Fin 128) : ∑ b, shareK q k v g b j p s e = gradK q k v g (row j s) (col p e) :=
  (sum_rows fun R => gradScore q k v g (headOf (col p e)) R (row j s) * q R (col p e)).symm

theorem sum_shareQ (r : Fin 512) (e : Fin 128) : ∑ b, shareQ q k v g i b p r e = gradQ q k v g (row i r) (col p e) :=
  (sum_rows fun C => gradScore q k v g (headOf (col p e)) (row i r) C * k C (col p e)).symm

/-! ## The running sums -/

/-- After `n` trips from block `j` on: the shares of the blocks before `j + n`. -/
def sumTo (f : Fin 4 → ℝ) (n : ℕ) : ℝ := ∑ b : Fin 4, if b.val < n then f b else 0

theorem sumTo_all (f : Fin 4 → ℝ) (n : ℕ) (hn : 4 ≤ n) : sumTo f n = ∑ b, f b :=
  Finset.sum_congr rfl fun b _ => if_pos (by omega)

theorem sumTo_succ (f : Fin 4 → ℝ) (b : Fin 4) : sumTo f (b.val + 1) = sumTo f b.val + f b := by
  unfold sumTo
  have e : ∀ a : Fin 4, (if a.val < b.val + 1 then f a else 0) = (if a.val < b.val then f a else 0) + if a = b then f b else 0 := by
    intro a
    rcases lt_trichotomy a.val b.val with h | h | h
    · rw [if_pos (by omega), if_pos h, if_neg (fun e => by subst e; omega), add_zero]
    · have : a = b := Fin.ext h
      subst this
      rw [if_pos (by omega), if_neg (by omega), if_pos rfl, zero_add]
    · rw [if_neg (by omega), if_neg (by omega), if_neg (fun e => by subst e; omega), add_zero]
  rw [Finset.sum_congr rfl fun a _ => e a, Finset.sum_add_distrib, Finset.sum_ite_eq' Finset.univ b, if_pos (Finset.mem_univ _)]

theorem sumTo_zero (f : Fin 4 → ℝ) (n : ℕ) (hz : ∀ b : Fin 4, b.val < n → f b = 0) : sumTo f n = 0 :=
  Finset.sum_eq_zero fun b _ => by
    by_cases h : b.val < n
    · rw [if_pos h, hz b h]
    · rw [if_neg h]

/-- The queries' sum while key block `j` is under way and `n` trips are done: rows before block `j + n` have the shares of the
    key blocks up to `j`, the others those before `j`. -/
def partQ (j n : ℕ) (r : Fin 512) (e : Fin 128) : ℝ :=
  sumTo (fun b => shareQ q k v g i b p r e) (if i.val < j + n then j + 1 else j)

theorem partQ_first (r : Fin 512) (e : Fin 128) : partQ q k v g i p 0 0 r e = 0 := by
  unfold partQ
  rw [if_neg (by omega)]
  exact sumTo_zero _ _ fun b hb => by omega

theorem partQ_next (n : ℕ) (hn : j.val + n = 4) (r : Fin 512) (e : Fin 128) :
    partQ q k v g i p (j.val + 1) 0 r e = partQ q k v g i p j.val n r e := by
  unfold partQ
  rw [if_pos (show i.val < j.val + n by omega)]
  by_cases h : i.val < j.val + 1
  · rw [if_pos (by omega)]
    by_cases hj : j.val + 1 < 4
    · rw [show j.val + 1 + 1 = (⟨j.val + 1, hj⟩ : Fin 4).val + 1 from rfl, sumTo_succ,
        shareQ_zero q k v g i ⟨j.val + 1, hj⟩ p (by show i.val < j.val + 1; omega), add_zero]
    · rw [sumTo_all _ _ (by omega), sumTo_all _ _ (by omega)]
  · rw [if_neg (by omega)]

/-- The trip's own rows gain the share; -/
theorem partQ_hit (n : ℕ) (hi : i.val = j.val + n) (r : Fin 512) (e : Fin 128) :
    partQ q k v g i p j.val (n + 1) r e = partQ q k v g i p j.val n r e + shareQ q k v g i j p r e := by
  unfold partQ
  rw [if_pos (by omega), if_neg (by omega), sumTo_succ]

/-- the other rows do not change. -/
theorem partQ_miss (n : ℕ) (hi : i.val ≠ j.val + n) (r : Fin 512) (e : Fin 128) :
    partQ q k v g i p j.val (n + 1) r e = partQ q k v g i p j.val n r e := by
  unfold partQ
  by_cases h : i.val < j.val + n
  · rw [if_pos (by omega), if_pos h]
  · rw [if_neg (by omega), if_neg h]

theorem partQ_last (r : Fin 512) (e : Fin 128) : partQ q k v g i p 3 1 r e = gradQ q k v g (row i r) (col p e) := by
  unfold partQ
  rw [if_pos (by omega), sumTo_all _ _ (by omega), sum_shareQ]

end

end Cert.Attn

end
-- ==== Proof.Trip.lean ====
/- One trip of the kernel's loop: the tile of queries of block `b` against the tile of keys of block `j`. Its results are the
   carried gradients at the keys and values plus the tile's shares, and the rows of block `b` of the gradient at the queries
   plus theirs. -/
module

public import proofs.«01_k».proof.Proof.TileMath
public import Idealize.ShloMosaic.Lib.WritesUnit
public import Idealize.ShloMosaic.Lib.Pipeline.ValueKit.Tiles

@[expose] public section

set_option maxRecDepth 16384

noncomputable section

namespace Cert.Attn

open Idealize.ShloMosaic hiding ix1 ix2 ix3 ix4 ix5
open Idealize.ShloMosaic.ValueIdx
open Idealize.ShloMosaic.TcCoe Idealize.ShloMosaic.Tactic
open Idealize.SL Idealize.SL.Sem
open Cert.KernelIdeal Cert.KernelIdeal.Gen

local notation "𝓘" => Idealize.ShloMosaic.Ideal

/-- What the windows of pair `p` hold: the pair's lanes of the queries, the outputs and their gradient, the logarithms of the
    totals, and the bias tiles. -/
structure Blocks (q k v g : Arr) (p : Fin 8) (x0 : Vec 𝓘 S2048x128 .bf16) (x3 x4 x5 : Vec 𝓘 S2048x128 .f32)
    (x6 : Vec 𝓘 S4x512x512 .f32) : Prop where
  query : ∀ R e, x0 (ix2 R e) = ((q R (col p e) : ℝ) : EReal)
  out : ∀ R e, x3 (ix2 R e) = ((output q k v R (col p e) : ℝ) : EReal)
  grad : ∀ R e, x4 (ix2 R e) = ((g R (col p e) : ℝ) : EReal)
  norm : ∀ R e, x5 (ix2 R e) = ((Real.log (total q k (headOf (col p e)) R) : ℝ) : EReal)
  bias : ∀ n r s, x6 (ix3 n r s) = biasAt (512 * (n.val : ℤ) + r.val - s.val)

/-- 512 rows loaded from a buffer of 2048. -/
theorem load_rows {e : EltTy} (a : Memref sig .tc .vmem S2048x128 e) (f : a.view.ty.Contents (Elt 𝓘)) (X : Vec 𝓘 S2048x128 e)
    (hX : a.view.read (Elt 𝓘) f = X) (off : Fin 2 → ℕ) (inb : ∀ d, off d + S512x128.size d ≤ S2048x128.size d) (b : Fin 4)
    (hoff : off = ![512 * b.val, 0]) (r : Fin 512) (l : Fin 128) :
    View.readAt (Elt 𝓘) a.view (Rect.unit (s := S2048x128) off S512x128.size inb).toLoadRect f (ix2 r l) = X (ix2 (row b r) l) := by
  subst hoff
  rw [View.readAt_eq_ld, hX]
  exact View.ld_unit_apply_of X _ _ inb (ix2 r l) (ix2 (row b r) l) fun d => by
    match d with | ⟨0, _⟩ => rfl | ⟨1, _⟩ => exact (Nat.zero_add _).symm

/-- One bias tile. -/
theorem load_bias (a : Memref sig .tc .vmem S4x512x512 .f32) (h : a.IsWhole) (X : Vec 𝓘 S4x512x512 .f32) (off : Fin 3 → ℕ)
    (inb : ∀ d, off d + S1x512x512.size d ≤ S4x512x512.size d) (n : Fin 4) (hoff : off = ![n.val, 0, 0]) (r s : Fin 512) :
    View.readAt (Elt 𝓘) a.view (Rect.unit (s := S4x512x512) off S1x512x512.size inb).toLoadRect (h.unread X) (ix3 0 r s) = X (ix3 n r s) := by
  subst hoff
  rw [View.readAt_eq_ld, h.read_unread]
  exact View.ld_unit_apply_of X _ _ inb (ix3 0 r s) (ix3 n r s) fun d => by
    match d with | ⟨0, _⟩ => rfl | ⟨1, _⟩ => exact (Nat.zero_add _).symm | ⟨2, _⟩ => exact (Nat.zero_add _).symm

/-! ## The offsets of a trip -/

theorem rowWord : ∀ j : Fin 4, ∀ n : Fin 4, j.val + n.val < 4 → (Scalar.indexCast (Scalar.muli (Scf.iv (BitVec.ofNat 32 j.val) 1#32 n.val) 512#32)).toNat
    = 512 * (j.val + n.val) := by decide +kernel

theorem biasWord : ∀ j : Fin 4, ∀ n : Fin 4, j.val + n.val < 4 → (Scalar.indexCast (Scalar.subi (Scf.iv (BitVec.ofNat 32 j.val) 1#32 n.val)
    (BitVec.ofNat 32 j.val))).toNat = n.val := by decide +kernel

theorem row_off (i : grid0.Coords) (j b : Fin 4) (n : ℕ) (hj : (i 1).val = j.val) (hb : b.val = j.val + n) :
    (![(Scalar.indexCast (Scalar.muli (Scf.iv (BitVec.ofNat 32 (i 1).val) 1#32 n) 512#32)).toNat, 0] : Fin 2 → ℕ) = ![512 * b.val, 0] := by
  rw [hj, rowWord j ⟨n, by omega⟩ (by show j.val + n < 4; omega), hb]

theorem bias_off (i : grid0.Coords) (j b : Fin 4) (n : ℕ) (hj : (i 1).val = j.val) (hb : b.val = j.val + n) :
    (![(Scalar.indexCast (Scalar.subi (Scf.iv (BitVec.ofNat 32 (i 1).val) 1#32 n) (BitVec.ofNat 32 (i 1).val))).toNat, 0, 0] : Fin 3 → ℕ)
      = ![(⟨n, by omega⟩ : Fin 4).val, 0, 0] := by
  rw [hj, biasWord j ⟨n, by omega⟩ (by show j.val + n < 4; omega)]

/-! ## The loaded tiles -/

section
variable {q k v g : Arr} {p : Fin 8} {x0 : Vec 𝓘 S2048x128 .bf16} {x3 x4 x5 : Vec 𝓘 S2048x128 .f32}
  {x6 : Vec 𝓘 S4x512x512 .f32} (B : Blocks q k v g p x0 x3 x4 x5 x6)

theorem IsTile.of_eq {x : S512x128.Idx → EReal} {a b : Tile} (h : IsTile x a) (e : ∀ r l, a r l = b r l) : IsTile x b :=
  fun r l => by rw [h r l, e r l]

include B in
theorem norm_low (b : Fin 4) (y : Vec 𝓘 S512x128 .f32) (hy : ∀ r l, y (ix2 r l) = x5 (ix2 (row b r) l)) :
    IsLog (k0_pay19 k0_pay1 y) (totalA q k b p) :=
  ⟨fun r => total_pos q k _ _, pay19_col _ rfl y _ fun r l hl => by rw [hy, B.norm, headOf_low p l hl]; rfl⟩

include B in
theorem norm_high (b : Fin 4) (y : Vec 𝓘 S512x128 .f32) (hy : ∀ r l, y (ix2 r l) = x5 (ix2 (row b r) l)) :
    IsLog (k0_pay20 k0_pay1 y) (totalB q k b p) :=
  ⟨fun r => total_pos q k _ _, pay20_col _ rfl y _ fun r l hl => by rw [hy, B.norm, headOf_high p l hl]; rfl⟩

end

theorem mask23 (r : Fin 512) (l : Fin 128) : k0_pay23 k0_pay1 (ix2 r l) = if l.val < 64 then 1#1 else 0#1 :=
  mask_pay _ rfl shapeCasts_S1x128_S1x128 broadcasts_S1x128_S512x128 r l

theorem zero22 (j : S512x128.Idx) : k0_pay22 (F := 𝓘) j = ((0 : ℝ) : EReal) := zeros16 j

/-! ## The trip -/

section
variable (c : Dev nD) (i : grid0.Coords) (arg2 : Memref sig .tc .vmem S2048x128 .bf16) (harg2 : arg2.IsWhole)
  (arg3 : Memref sig .tc .vmem S512x128 .bf16) (harg3 : arg3.IsWhole) (arg4 : Memref sig .tc .vmem S512x128 .bf16) (harg4 : arg4.IsWhole)
  (arg5 : Memref sig .tc .vmem S2048x128 .f32) (harg5 : arg5.IsWhole) (arg6 : Memref sig .tc .vmem S2048x128 .f32) (harg6 : arg6.IsWhole)
  (arg7 : Memref sig .tc .vmem S2048x128 .f32) (harg7 : arg7.IsWhole) (arg8 : Memref sig .tc .vmem S4x512x512 .f32) (harg8 : arg8.IsWhole)
  (arg9 : Memref sig .tc .vmem S2048x128 .f32) (harg9 : arg9.IsWhole) (arg10 : Memref sig .tc .vmem S512x128 .f32) (harg10 : arg10.IsWhole)
  (arg11 : Memref sig .tc .vmem S512x128 .f32) (harg11 : arg11.IsWhole)
  (x0 : Vec 𝓘 S2048x128 .bf16) (x3 x4 x5 : Vec 𝓘 S2048x128 .f32) (x6 : Vec 𝓘 S4x512x512 .f32)
  (v6 v8 : Vec 𝓘 S512x128 .bf16) (q k v g : Arr) (p : Fin 8) (B : Blocks q k v g p x0 x3 x4 x5 x6) (j b : Fin 4) (hj : (i 1).val = j.val)
  (h6 : IsTile v6 (tile k j p)) (h8 : IsTile v8 (tile v j p)) (n : Fin (k0_t1_loop i).trips) (hb : b.val = j.val + n.val)
  (acc : FVec 𝓘 S512x128 .f32 × FVec 𝓘 S512x128 .f32) (f : arg9.view.ty.Contents (Elt 𝓘))

include B hj h6 h8 hb

set_option maxHeartbeats 1000000 in
/-- The carried gradient at the keys gains the tile's share. -/
theorem trip_keys (a : Tile) (ha : IsTile acc.1 a) :
    IsTile (tripR_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) n acc f).1 (fun s l => a s l + shareK q k v g b j p s l) := by
  unfold tripR_k0_t1 trip_k0_t1; dsimp only; sl_unfold_words
  refine (pay32_tile k0_pay1 rfl _ _ _ _ _ _ _ _ _ _ _ _ mask23 _ (tile k j p) (tile v j p) a (first (tile q b p)) (second (tile q b p))
    (tile g b p) (rowSum fun r l => tile g b p r l * tile (output q k v) b p r l)
    (rowSum (first fun r l => tile g b p r l * tile (output q k v) b p r l)) (totalA q k b p) (totalB q k b p) (dist b j)
    (pay3_tile _ _ h6) (pay4_tile _ _ h8) ha (pay13_tile _ rfl _ _ ?q) (pay14_tile _ rfl _ _ ?q) ?g zero22
    (pay16_col _ _ _ _ ?g ?o) (pay17_col _ rfl _ _ _ _ ?g ?o) (norm_low B b _ ?l) (norm_high B b _ ?l) ?b).of_eq fun s l => ?e
  case e => rw [add_assoc]; exact congrArg (a s l + ·) (shareK_eq q k v g b j p s l)
  case q => exact fun r l => (load_rows arg2 _ _ (harg2.read_unread x0) _ _ b (row_off i j b n.val hj hb) r l).trans (B.query _ _)
  case g => exact fun r l => (load_rows arg6 _ _ (harg6.read_unread x4) _ _ b (row_off i j b n.val hj hb) r l).trans (B.grad _ _)
  case o => exact fun r l => (load_rows arg5 _ _ (harg5.read_unread x3) _ _ b (row_off i j b n.val hj hb) r l).trans (B.out _ _)
  case l => exact fun r l => load_rows arg7 _ _ (harg7.read_unread x5) _ _ b (row_off i j b n.val hj hb) r l
  case b =>
    intro r s
    refine (load_bias arg8 harg8 x6 _ _ ⟨n.val, by omega⟩ (bias_off i j b n.val hj hb) r s).trans ((B.bias _ _ _).trans ?_)
    unfold dist; rw [hb]; congr 3; push_cast; ring

set_option maxHeartbeats 1000000 in
/-- The carried gradient at the values gains the tile's share. -/
theorem trip_values (a : Tile) (ha : IsTile acc.2 a) :
    IsTile (tripR_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) n acc f).2 (fun s l => a s l + shareV q k g b j p s l) := by
  unfold tripR_k0_t1 trip_k0_t1; dsimp only; sl_unfold_words
  refine (pay31_tile k0_pay1 rfl _ _ _ _ _ _ _ _ _ mask23 _ (tile k j p) a (first (tile q b p)) (second (tile q b p))
    (tile g b p) (totalA q k b p) (totalB q k b p) (dist b j)
    (pay3_tile _ _ h6) ha (pay13_tile _ rfl _ _ ?q) (pay14_tile _ rfl _ _ ?q) ?g zero22
    (norm_low B b _ ?l) (norm_high B b _ ?l) ?b).of_eq fun s l => ?e
  case e => rw [add_assoc]; exact congrArg (a s l + ·) (shareV_eq q k g b j p s l)
  case q => exact fun r l => (load_rows arg2 _ _ (harg2.read_unread x0) _ _ b (row_off i j b n.val hj hb) r l).trans (B.query _ _)
  case g => exact fun r l => (load_rows arg6 _ _ (harg6.read_unread x4) _ _ b (row_off i j b n.val hj hb) r l).trans (B.grad _ _)
  case l => exact fun r l => load_rows arg7 _ _ (harg7.read_unread x5) _ _ b (row_off i j b n.val hj hb) r l
  case b =>
    intro r s
    refine (load_bias arg8 harg8 x6 _ _ ⟨n.val, by omega⟩ (bias_off i j b n.val hj hb) r s).trans ((B.bias _ _ _).trans ?_)
    unfold dist; rw [hb]; congr 3; push_cast; ring

set_option maxHeartbeats 1000000 in
/-- The gradient at the queries: the rows of block `b` gain the tile's share, the others stay. -/
theorem trip_queries (hf : ∀ (b' : Fin 4) (r : Fin 512) (l : Fin 128), arg9.view.read (Elt 𝓘) f (ix2 (row b' r) l)
      = ((partQ q k v g b' p j.val n.val r l : ℝ) : EReal)) (b' : Fin 4) (r : Fin 512) (l : Fin 128) :
    arg9.view.read (Elt 𝓘) (arg9.view.writes (Elt 𝓘) f
      (tripL_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) n acc f)) (ix2 (row b' r) l)
      = ((partQ q k v g b' p j.val (n.val + 1) r l : ℝ) : EReal) := by
  unfold tripL_k0_t1 trip_k0_t1; dsimp only; sl_unfold_words
  by_cases h : b' = b
  · subst h
    rw [partQ_hit q k v g b' j p n.val hb r l, EReal.coe_add, ← hf b' r l]
    refine (View.read_writes_cons_rows_of_mem arg9.view f _ _ [] (ix2 (row b' r) l) (ix2 r l) (row_off i j b' n.val hj hb)
      rfl rfl).trans ?_
    refine (congrArg₂ (· + ·) (congrFun (self_cast _ _) (ix2 r l)) (?s : _ = ((shareQ q k v g b' j p r l : ℝ) : EReal))).trans ?t
    case t =>
      exact congrArg (· + ((shareQ q k v g b' j p r l : ℝ) : EReal))
        (load_rows arg9 f _ rfl _ _ b' (row_off i j b' n.val hj hb) r l)
    case s =>
      refine ((pay33_tile k0_pay1 rfl _ _ _ _ _ _ _ _ _ _ _ _ _ mask23 _ (tile k j p) (tile v j p) (first (tile k j p)) (second (tile k j p))
        (first (tile q b' p)) (second (tile q b' p))
        (tile g b' p) (rowSum fun r l => tile g b' p r l * tile (output q k v) b' p r l)
        (rowSum (first fun r l => tile g b' p r l * tile (output q k v) b' p r l)) (totalA q k b' p) (totalB q k b' p) (dist b' j)
        (pay3_tile _ _ h6) (pay4_tile _ _ h8) (pay6_tile _ _ h6) (pay7_tile _ _ h6) (pay13_tile _ rfl _ _ ?q) (pay14_tile _ rfl _ _ ?q)
        ?g zero22 (pay16_col _ _ _ _ ?g ?o) (pay17_col _ rfl _ _ _ _ ?g ?o) (norm_low B b' _ ?l) (norm_high B b' _ ?l) ?b) r l).trans
        (congrArg Real.toEReal ?e)
      case e => dsimp only; rw [zero_add]; exact shareQ_eq q k v g b' j p r l
      case q => exact fun r l => (load_rows arg2 _ _ (harg2.read_unread x0) _ _ b' (row_off i j b' n.val hj hb) r l).trans (B.query _ _)
      case g => exact fun r l => (load_rows arg6 _ _ (harg6.read_unread x4) _ _ b' (row_off i j b' n.val hj hb) r l).trans (B.grad _ _)
      case o => exact fun r l => (load_rows arg5 _ _ (harg5.read_unread x3) _ _ b' (row_off i j b' n.val hj hb) r l).trans (B.out _ _)
      case l => exact fun r l => load_rows arg7 _ _ (harg7.read_unread x5) _ _ b' (row_off i j b' n.val hj hb) r l
      case b =>
        intro r s
        refine (load_bias arg8 harg8 x6 _ _ ⟨n.val, by omega⟩ (bias_off i j b' n.val hj hb) r s).trans ((B.bias _ _ _).trans ?_)
        unfold dist; rw [hb]; congr 3; push_cast; ring
  · have hn : b'.val ≠ j.val + n.val := fun e => h (Fin.ext (by omega))
    rw [partQ_miss q k v g b' j p n.val hn r l, ← hf b' r l]
    refine View.read_writes_cons_rows_of_not_mem arg9.view f _ _ [] (ix2 (row b' r) l) (row_off i j b n.val hj hb) (W := 512) rfl ?_
    show 512 * b'.val + r.val < 512 * b.val ∨ 512 * b.val + 512 ≤ 512 * b'.val + r.val
    omega

end

end Cert.Attn

end
-- ==== Proof.Block.lean ====
/- A grid point's whole loop: the blocks of queries from the key block `j` on, and what the point's three output buffers hold
   after it. -/
module

public import proofs.«01_k».proof.Proof.Trip
public import Idealize.ShloMosaic.Lib.WritesUnit

@[expose] public section

set_option maxRecDepth 16384

noncomputable section

namespace Cert.Attn

open Idealize.ShloMosaic hiding ix1 ix2 ix3 ix4 ix5
open Idealize.ShloMosaic.ValueIdx
open Idealize.ShloMosaic.TcCoe Idealize.ShloMosaic.Tactic
open Idealize.SL Idealize.SL.Sem
open Cert.KernelIdeal Cert.KernelIdeal.Gen

local notation "𝓘" => Idealize.ShloMosaic.Ideal

/-! ## The numbers of trips -/

theorem tripsOne_word : ∀ j : Fin 4, Scf.trips (BitVec.ofNat 32 j.val) (Scalar.addi (BitVec.ofNat 32 j.val)
    (Scalar.muli (Scalar.divsi (Scalar.subi 4#32 (BitVec.ofNat 32 j.val)) 1#32) 1#32)) 1#32 = 4 - j.val := by decide +kernel

theorem tripsTwo_word : ∀ j : Fin 4, Scf.trips (Scalar.addi (BitVec.ofNat 32 j.val)
    (Scalar.muli (Scalar.divsi (Scalar.subi 4#32 (BitVec.ofNat 32 j.val)) 1#32) 1#32))
    (Scalar.addi (BitVec.ofNat 32 j.val) (Scalar.subi 4#32 (BitVec.ofNat 32 j.val))) 1#32 = 0 := by decide +kernel

theorem tripsOne (i : grid0.Coords) : Scf.trips (BitVec.ofNat 32 (i 1).val) (Scalar.addi (BitVec.ofNat 32 (i 1).val)
    (Scalar.muli (Scalar.divsi (Scalar.subi 4#32 (BitVec.ofNat 32 (i 1).val)) 1#32) 1#32)) 1#32 = 4 - (i 1).val := tripsOne_word (i 1)

theorem tripsTwo (i : grid0.Coords) : Scf.trips (Scalar.addi (BitVec.ofNat 32 (i 1).val)
    (Scalar.muli (Scalar.divsi (Scalar.subi 4#32 (BitVec.ofNat 32 (i 1).val)) 1#32) 1#32))
    (Scalar.addi (BitVec.ofNat 32 (i 1).val) (Scalar.subi 4#32 (BitVec.ofNat 32 (i 1).val))) 1#32 = 0 := tripsTwo_word (i 1)

theorem loop_trips (i : grid0.Coords) : (k0_t1_loop i).trips = 4 - (i 1).val := tripsOne i

/-! ## The loop -/

section
variable (c : Dev nD) (i : grid0.Coords) (arg2 : Memref sig .tc .vmem S2048x128 .bf16) (harg2 : arg2.IsWhole)
  (arg3 : Memref sig .tc .vmem S512x128 .bf16) (harg3 : arg3.IsWhole) (arg4 : Memref sig .tc .vmem S512x128 .bf16) (harg4 : arg4.IsWhole)
  (arg5 : Memref sig .tc .vmem S2048x128 .f32) (harg5 : arg5.IsWhole) (arg6 : Memref sig .tc .vmem S2048x128 .f32) (harg6 : arg6.IsWhole)
  (arg7 : Memref sig .tc .vmem S2048x128 .f32) (harg7 : arg7.IsWhole) (arg8 : Memref sig .tc .vmem S4x512x512 .f32) (harg8 : arg8.IsWhole)
  (arg9 : Memref sig .tc .vmem S2048x128 .f32) (harg9 : arg9.IsWhole) (arg10 : Memref sig .tc .vmem S512x128 .f32) (harg10 : arg10.IsWhole)
  (arg11 : Memref sig .tc .vmem S512x128 .f32) (harg11 : arg11.IsWhole)
  (x0 : Vec 𝓘 S2048x128 .bf16) (x3 x4 x5 : Vec 𝓘 S2048x128 .f32) (x6 : Vec 𝓘 S4x512x512 .f32)
  (v6 v8 : Vec 𝓘 S512x128 .bf16) (q k v g : Arr) (p : Fin 8) (B : Blocks q k v g p x0 x3 x4 x5 x6) (j : Fin 4) (hj : (i 1).val = j.val)
  (h6 : IsTile v6 (tile k j p)) (h8 : IsTile v8 (tile v j p)) (G : arg9.view.ty.Contents (Elt 𝓘))
  (hG : ∀ (b : Fin 4) (r : Fin 512) (l : Fin 128), arg9.view.read (Elt 𝓘) G (ix2 (row b r) l)
      = ((partQ q k v g b p j.val 0 r l : ℝ) : EReal))

include B hj h6 h8 hG

/-- Before trip `n`: the carried sums run over the blocks before `j + n`, and the queries' buffer holds `partQ`. -/
theorem loop_state (n : ℕ) (hn : j.val + n ≤ 4) :
    IsTile (st_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) n).1.1 (fun s l => sumTo (fun b => shareK q k v g b j p s l) (j.val + n))
    ∧ IsTile (st_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) n).1.2 (fun s l => sumTo (fun b => shareV q k g b j p s l) (j.val + n))
    ∧ ∀ (b : Fin 4) (r : Fin 512) (l : Fin 128), arg9.view.read (Elt 𝓘) (arg9.view.writes (Elt 𝓘) G (st_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) n).2) (ix2 (row b r) l)
      = ((partQ q k v g b p j.val n r l : ℝ) : EReal) := by
  induction n with
  | zero =>
    refine ⟨fun s l => ?_, fun s l => ?_, hG⟩
    · exact (zeros32 (ix2 s l)).trans (congrArg Real.toEReal (sumTo_zero _ _ fun b hb => shareK_zero q k v g b j p hb s l).symm)
    · exact (zeros32 (ix2 s l)).trans (congrArg Real.toEReal (sumTo_zero _ _ fun b hb => shareV_zero q k g b j p hb s l).symm)
  | succ n ih =>
    obtain ⟨hk, hv, hq⟩ := ih (by omega)
    have hlt : n < (k0_t1_loop i).trips := by rw [loop_trips, hj]; omega
    have hb : (⟨j.val + n, by omega⟩ : Fin 4).val = j.val + n := rfl
    rw [st_k0_t1_succ (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) ⟨n, hlt⟩]
    refine ⟨?_, ?_, fun b r l => ?_⟩
    · refine (trip_keys c i arg2 harg2 arg3 harg3 arg4 harg4 arg5 harg5 arg6 harg6 arg7 harg7 arg8 harg8 arg9 harg9 arg10 harg10 arg11 harg11 x0 x3 x4 x5 x6 v6 v8 q k v g p B j ⟨j.val + n, by omega⟩ hj h6 h8 ⟨n, hlt⟩ hb _ _ _ hk).of_eq fun s l => ?_
      exact (sumTo_succ (fun b => shareK q k v g b j p s l) ⟨j.val + n, by omega⟩).symm
    · refine (trip_values c i arg2 harg2 arg3 harg3 arg4 harg4 arg5 harg5 arg6 harg6 arg7 harg7 arg8 harg8 arg9 harg9 arg10 harg10 arg11 harg11 x0 x3 x4 x5 x6 v6 v8 q k v g p B j ⟨j.val + n, by omega⟩ hj h6 h8 ⟨n, hlt⟩ hb _ _ _ hv).of_eq fun s l => ?_
      exact (sumTo_succ (fun b => shareV q k g b j p s l) ⟨j.val + n, by omega⟩).symm
    · rw [View.writes_append]
      exact trip_queries c i arg2 harg2 arg3 harg3 arg4 harg4 arg5 harg5 arg6 harg6 arg7 harg7 arg8 harg8 arg9 harg9 arg10 harg10 arg11 harg11 x0 x3 x4 x5 x6 v6 v8 q k v g p B j ⟨j.val + n, by omega⟩ hj h6 h8 ⟨n, hlt⟩ hb _ _ hq b r l

/-- After the last trip. -/
theorem loop_end :
    IsTile (st_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) (4 - (i 1).val)).1.1 (fun s l => gradK q k v g (row j s) (col p l))
    ∧ IsTile (st_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) (4 - (i 1).val)).1.2 (fun s l => gradV q k g (row j s) (col p l))
    ∧ ∀ (b : Fin 4) (r : Fin 512) (l : Fin 128), arg9.view.read (Elt 𝓘) (arg9.view.writes (Elt 𝓘) G (st_k0_t1 (F := 𝓘) Variants.none c none i arg2 harg2 arg3 harg3 arg4 harg4 arg5 harg5 arg6 harg6 arg7 harg7 arg8 harg8 arg9 harg9 arg10 harg10 arg11 harg11 (BitVec.ofNat 32 (i 1).val) v6 v8 (harg2.unread x0) (harg5.unread x3) (harg6.unread x4) (harg7.unread x5) (harg8.unread x6) G (k0_pay8, k0_pay8) (4 - (i 1).val)).2) (ix2 (row b r) l)
      = ((partQ q k v g b p j.val (4 - j.val) r l : ℝ) : EReal) := by
  rw [hj]
  obtain ⟨hk, hv, hq⟩ := loop_state c i arg2 harg2 arg3 harg3 arg4 harg4 arg5 harg5 arg6 harg6 arg7 harg7 arg8 harg8 arg9 harg9 arg10 harg10 arg11 harg11 x0 x3 x4 x5 x6 v6 v8 q k v g p B j hj h6 h8 G hG (4 - j.val) (by omega)
  rw [hj] at hk hv hq
  refine ⟨hk.of_eq fun s l => ?_, hv.of_eq fun s l => ?_, hq⟩
  · rw [sumTo_all _ _ (by omega), sum_shareK]
  · rw [sumTo_all _ _ (by omega), sum_shareV]

end

/-! ## The output buffers -/

theorem zero_off : (![0, 0] : Fin 2 → ℕ) = fun _ => 0 := by
  funext a; match a with | ⟨0, _⟩ => rfl | ⟨1, _⟩ => rfl

/-- The whole of a block, loaded. -/
theorem load_whole (a : Memref sig .tc .vmem S512x128 .bf16) (h : a.IsWhole) (X : Vec 𝓘 S512x128 .bf16) (t : Tile) (hX : IsTile X t)
    (inb : ∀ d, (![0, 0] : Fin 2 → ℕ) d + (![512, 128] : Fin 2 → ℕ) d ≤ S512x128.size d) :
    IsTile (View.readAt (Elt 𝓘) a.view (Rect.unit (s := S512x128) ![0, 0] ![512, 128] inb).toLoadRect (h.unread X)) t := by
  have e : View.readAt (Elt 𝓘) a.view (Rect.unit (s := S512x128) ![0, 0] ![512, 128] inb).toLoadRect (h.unread X) = X := by
    rw [View.readAt_eq_ld, h.read_unread]
    exact View.ld_unit_zero zero_off inb X
  intro r l
  exact (congrFun e (ix2 r l)).trans (hX r l)

/-- A store of the whole block. -/
theorem store_whole {κ : Kind} {sp : Space} (a : View sig κ sp S512x128 .f32) (f : a.ty.Contents (Elt 𝓘)) (w : Vec 𝓘 S512x128 .f32)
    (inb : ∀ d, (![0, 0] : Fin 2 → ℕ) d + (![512, 128] : Fin 2 → ℕ) d ≤ S512x128.size d) :
    a.read (Elt 𝓘) (a.writes (Elt 𝓘) f [⟨Rect.unit (s := S512x128) ![0, 0] ![512, 128] inb, w⟩]) = w :=
  funext fun y => View.read_writes_cons_unit_of_mem a f inb w [] y y zero_off fun d => (Nat.zero_add _).symm

/-- Zeros stored over the queries' buffer. -/
theorem zero_start (arg9 : Memref sig .tc .vmem S2048x128 .f32) (q k v g : Arr) (p : Fin 8) (j : Fin 4) (h0 : j.val = 0)
    (b : Fin 4) (r : Fin 512) (l : Fin 128) :
    arg9.view.read (Elt 𝓘) (arg9.view.writes (Elt 𝓘) arg9.view.junk
      [⟨Rect.unit (s := S2048x128) ![0, 0] ![2048, 128] inb_S2048x128_S2048x128_0_0, k0_pay2 (F := 𝓘)⟩]) (ix2 (row b r) l)
      = ((partQ q k v g b p j.val 0 r l : ℝ) : EReal) := by
  rw [h0, partQ_first]
  refine (View.read_writes_cons_unit_of_mem (Val := Elt 𝓘) (e := .f32) arg9.view arg9.view.junk inb_S2048x128_S2048x128_0_0 (k0_pay2 (F := 𝓘)) [] (ix2 (row b r) l)
    (ix2 (row b r) l) zero_off fun d => (Nat.zero_add _).symm).trans ?_
  exact const_zero

section
variable (c : Dev nD) (i : grid0.Coords) (arg2 : Memref sig .tc .vmem S2048x128 .bf16) (harg2 : arg2.IsWhole)
  (arg3 : Memref sig .tc .vmem S512x128 .bf16) (harg3 : arg3.IsWhole) (arg4 : Memref sig .tc .vmem S512x128 .bf16) (harg4 : arg4.IsWhole)
  (arg5 : Memref sig .tc .vmem S2048x128 .f32) (harg5 : arg5.IsWhole) (arg6 : Memref sig .tc .vmem S2048x128 .f32) (harg6 : arg6.IsWhole)
  (arg7 : Memref sig .tc .vmem S2048x128 .f32) (harg7 : arg7.IsWhole) (arg8 : Memref sig .tc .vmem S4x512x512 .f32) (harg8 : arg8.IsWhole)
  (arg9 : Memref sig .tc .vmem S2048x128 .f32) (harg9 : arg9.IsWhole) (arg10 : Memref sig .tc .vmem S512x128 .f32) (harg10 : arg10.IsWhole)
  (arg11 : Memref sig .tc .vmem S512x128 .f32) (harg11 : arg11.IsWhole)
  (x0 : Vec 𝓘 S2048x128 .bf16) (x3 x4 x5 : Vec 𝓘 S2048x128 .f32) (x6 : Vec 𝓘 S4x512x512 .f32)
  (x1 x2 : Vec 𝓘 S512x128 .bf16) (q k v g : Arr) (p : Fin 8) (B : Blocks q k v g p x0 x3 x4 x5 x6) (j : Fin 4) (hj : (i 1).val = j.val)
  (h1 : IsTile x1 (tile k j p)) (h2 : IsTile x2 (tile v j p))

include B hj h1 h2

theorem out_A_8 (hc : cond0_0 i) (h0 : j.val = 0) :
    IsTile (out0_A_8 (F := 𝓘) c i arg2 harg2 arg3 harg3 arg4 harg4 arg5 harg5 arg6 harg6 arg7 harg7 arg8 harg8 arg9 harg9 arg10 harg10 arg11 harg11 hc x0 x1 x2 x3 x4 x5 x6) (fun s l => gradK q k v g (row j s) (col p l)) := by
  unfold out0_A_8 kernelRun0_A; dsimp only; sl_unfold_words
  simp only [tripsTwo, tripsOne, st_k0_t2.eq_1, List.nil_append]
  rw [store_whole]
  exact (loop_end c i arg2 harg2 arg3 harg3 arg4 harg4 arg5 harg5 arg6 harg6 arg7 harg7 arg8 harg8 arg9 harg9 arg10 harg10 arg11 harg11 x0 x3 x4 x5 x6 _ _ q k v g p B j hj (load_whole arg3 harg3 x1 _ h1 _) (load_whole arg4 harg4 x2 _ h2 _) _
    (zero_start arg9 q k v g p j h0)).1

theorem out_A_9 (hc : cond0_0 i) (h0 : j.val = 0) :
    IsTile (out0_A_9 (F := 𝓘) c i arg2 harg2 arg3 harg3 arg4 harg4 arg5 harg5 arg6 harg6 arg7 harg7 arg8 harg8 arg9 harg9 arg10 harg10 arg11 harg11 hc x0 x1 x2 x3 x4 x5 x6) (fun s l => gradV q k g (row j s) (col p l)) := by
  unfold out0_A_9 kernelRun0_A; dsimp only; sl_unfold_words
  simp only [tripsTwo, tripsOne, st_k0_t2.eq_1, List.nil_append]
  rw [store_whole]
  exact (loop_end c i arg2 harg2 arg3 harg3 arg4 harg4 arg5 harg5 arg6 harg6 arg7 harg7 arg8 harg8 arg9 harg9 arg10 harg10 arg11 harg11 x0 x3 x4 x5 x6 _ _ q k v g p B j hj (load_whole arg3 harg3 x1 _ h1 _) (load_whole arg4 harg4 x2 _ h2 _) _
    (zero_start arg9 q k v g p j h0)).2.1

theorem out_A_7 (hc : cond0_0 i) (h0 : j.val = 0) (b : Fin 4) (r : Fin 512) (l : Fin 128) :
    out0_A_7 (F := 𝓘) c i arg2 harg2 arg3 harg3 arg4 harg4 arg5 harg5 arg6 harg6 arg7 harg7 arg8 harg8 arg9 harg9 arg10 harg10 arg11 harg11 hc x0 x1 x2 x3 x4 x5 x6 (ix2 (row b r) l)
      = ((partQ q k v g b p j.val (4 - j.val) r l : ℝ) : EReal) := by
  refine (congrFun (View.read_writes_of_cover arg9.view arg9.view.junk VO0_7 VO0_7.junk _
    (cover0_A_7 c i arg2 harg2 arg3 harg3 arg4 harg4 arg5 harg5 arg6 harg6 arg7 harg7 arg8 harg8 arg9 harg9 arg10 harg10 arg11 harg11 hc x0 x1 x2 x3 x4 x5 x6)).symm (ix2 (row b r) l)).trans ?_
  unfold kernelRun0_A; dsimp only; sl_unfold_words
  simp only [tripsTwo, tripsOne, st_k0_t2.eq_1, List.nil_append]
  rw [View.writes_append]
  exact (loop_end c i arg2 harg2 arg3 harg3 arg4 harg4 arg5 harg5 arg6 harg6 arg7 harg7 arg8 harg8 arg9 harg9 arg10 harg10 arg11 harg11 x0 x3 x4 x5 x6 _ _ q k v g p B j hj (load_whole arg3 harg3 x1 _ h1 _) (load_whole arg4 harg4 x2 _ h2 _) _
    (zero_start arg9 q k v g p j h0)).2.2 b r l

theorem out_B_8 (hc : ¬cond0_0 i) (xo : Vec 𝓘 S2048x128 .f32)
    (ho : ∀ (b : Fin 4) (r : Fin 512) (l : Fin 128), xo (ix2 (row b r) l) = ((partQ q k v g b p j.val 0 r l : ℝ) : EReal)) :
    IsTile (out0_B_8 (F := 𝓘) c i arg2 harg2 arg3 harg3 arg4 harg4 arg5 harg5 arg6 harg6 arg7 harg7 arg8 harg8 arg9 harg9 arg10 harg10 arg11 harg11 hc x0 x1 x2 x3 x4 x5 x6 xo) (fun s l => gradK q k v g (row j s) (col p l)) := by
  unfold out0_B_8 kernelRun0_B; dsimp only; sl_unfold_words
  simp only [tripsTwo, tripsOne, st_k0_t2.eq_1, List.nil_append]
  rw [store_whole]
  exact (loop_end c i arg2 harg2 arg3 harg3 arg4 harg4 arg5 harg5 arg6 harg6 arg7 harg7 arg8 harg8 arg9 harg9 arg10 harg10 arg11 harg11 x0 x3 x4 x5 x6 _ _ q k v g p B j hj (load_whole arg3 harg3 x1 _ h1 _) (load_whole arg4 harg4 x2 _ h2 _) _
    (fun b r l => (congrFun (harg9.read_unread xo) _).trans (ho b r l))).1

theorem out_B_9 (hc : ¬cond0_0 i) (xo : Vec 𝓘 S2048x128 .f32)
    (ho : ∀ (b : Fin 4) (r : Fin 512) (l : Fin 128), xo (ix2 (row b r) l) = ((partQ q k v g b p j.val 0 r l : ℝ) : EReal)) :
    IsTile (out0_B_9 (F := 𝓘) c i arg2 harg2 arg3 harg3 arg4 harg4 arg5 harg5 arg6 harg6 arg7 harg7 arg8 harg8 arg9 harg9 arg10 harg10 arg11 harg11 hc x0 x1 x2 x3 x4 x5 x6 xo) (fun s l => gradV q k g (row j s) (col p l)) := by
  unfold out0_B_9 kernelRun0_B; dsimp only; sl_unfold_words
  simp only [tripsTwo, tripsOne, st_k0_t2.eq_1, List.nil_append]
  rw [store_whole]
  exact (loop_end c i arg2 harg2 arg3 harg3 arg4 harg4 arg5 harg5 arg6 harg6 arg7 harg7 arg8 harg8 arg9 harg9 arg10 harg10 arg11 harg11 x0 x3 x4 x5 x6 _ _ q k v g p B j hj (load_whole arg3 harg3 x1 _ h1 _) (load_whole arg4 harg4 x2 _ h2 _) _
    (fun b r l => (congrFun (harg9.read_unread xo) _).trans (ho b r l))).2.1

theorem out_B_7 (hc : ¬cond0_0 i) (xo : Vec 𝓘 S2048x128 .f32)
    (ho : ∀ (b : Fin 4) (r : Fin 512) (l : Fin 128), xo (ix2 (row b r) l) = ((partQ q k v g b p j.val 0 r l : ℝ) : EReal)) (b : Fin 4) (r : Fin 512) (l : Fin 128) :
    out0_B_7 (F := 𝓘) c i arg2 harg2 arg3 harg3 arg4 harg4 arg5 harg5 arg6 harg6 arg7 harg7 arg8 harg8 arg9 harg9 arg10 harg10 arg11 harg11 hc x0 x1 x2 x3 x4 x5 x6 xo (ix2 (row b r) l)
      = ((partQ q k v g b p j.val (4 - j.val) r l : ℝ) : EReal) := by
  unfold out0_B_7 kernelRun0_B; dsimp only; sl_unfold_words
  simp only [tripsTwo, tripsOne, st_k0_t2.eq_1, List.nil_append]
  exact (loop_end c i arg2 harg2 arg3 harg3 arg4 harg4 arg5 harg5 arg6 harg6 arg7 harg7 arg8 harg8 arg9 harg9 arg10 harg10 arg11 harg11 x0 x3 x4 x5 x6 _ _ q k v g p B j hj (load_whole arg3 harg3 x1 _ h1 _) (load_whole arg4 harg4 x2 _ h2 _) _
    (fun b r l => (congrFun (harg9.read_unread xo) _).trans (ho b r l))).2.2 b r l

end

end Cert.Attn

end
-- ==== Proof.Places.lean ====
/- The blocks the windows read at a grid point, as parts of the four arguments and of what is computed from them. -/
module

public import proofs.«01_k».proof.Proof.Block
public import proofs.«01_k».proof.Proof.KernelReads
public import Idealize.ShloMosaic.Lib.Pipeline.Value

@[expose] public section

set_option maxRecDepth 16384

noncomputable section

namespace Cert.Attn

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.KernelIdeal Cert.KernelIdeal.Gen

local notation "𝓘" => Idealize.ShloMosaic.Ideal

/-- The pair of heads and the key block of a grid point. -/
def pairOf (t : Fin cfg0.N) : Fin 8 := ⟨t.val / 4, by have := t.isLt; have : cfg0.N = 32 := N_0; omega⟩
def keyOf (t : Fin cfg0.N) : Fin 4 := ⟨t.val % 4, by omega⟩

theorem coord_key : ∀ t : Fin cfg0.N, (grid0.coords t 1).val = t.val % 4 :=
  (by decide +kernel : ∀ t : Fin grid0.N, (grid0.coords t 1).val = t.val % 4)

/-! ## Where the windows' blocks lie -/

theorem where_0 : ∀ t : Fin cfg0.N, win0_0.index t 0 = 0 ∧ win0_0.index t 1 = t.val / 4 :=
  (by decide +kernel : ∀ t : Fin grid0.N, win0_0.index t 0 = 0 ∧ win0_0.index t 1 = t.val / 4)
theorem where_1 : ∀ t : Fin cfg0.N, win0_1.index t 0 = t.val % 4 ∧ win0_1.index t 1 = 8 + t.val / 4 :=
  (by decide +kernel : ∀ t : Fin grid0.N, win0_1.index t 0 = t.val % 4 ∧ win0_1.index t 1 = 8 + t.val / 4)
theorem where_2 : ∀ t : Fin cfg0.N, win0_2.index t 0 = t.val % 4 ∧ win0_2.index t 1 = 16 + t.val / 4 :=
  (by decide +kernel : ∀ t : Fin grid0.N, win0_2.index t 0 = t.val % 4 ∧ win0_2.index t 1 = 16 + t.val / 4)
theorem where_3 : ∀ t : Fin cfg0.N, win0_3.index t 0 = 0 ∧ win0_3.index t 1 = t.val / 4 :=
  (by decide +kernel : ∀ t : Fin grid0.N, win0_3.index t 0 = 0 ∧ win0_3.index t 1 = t.val / 4)
theorem where_4 : ∀ t : Fin cfg0.N, win0_4.index t 0 = 0 ∧ win0_4.index t 1 = t.val / 4 :=
  (by decide +kernel : ∀ t : Fin grid0.N, win0_4.index t 0 = 0 ∧ win0_4.index t 1 = t.val / 4)
theorem where_5 : ∀ t : Fin cfg0.N, win0_5.index t 0 = 0 ∧ win0_5.index t 1 = t.val / 4 :=
  (by decide +kernel : ∀ t : Fin grid0.N, win0_5.index t 0 = 0 ∧ win0_5.index t 1 = t.val / 4)
theorem where_7 : ∀ t : Fin cfg0.N, win0_7.index t 0 = 0 ∧ win0_7.index t 1 = t.val / 4 :=
  (by decide +kernel : ∀ t : Fin grid0.N, win0_7.index t 0 = 0 ∧ win0_7.index t 1 = t.val / 4)
theorem where_8 : ∀ t : Fin cfg0.N, win0_8.index t 0 = t.val % 4 ∧ win0_8.index t 1 = t.val / 4 :=
  (by decide +kernel : ∀ t : Fin grid0.N, win0_8.index t 0 = t.val % 4 ∧ win0_8.index t 1 = t.val / 4)
theorem where_9 : ∀ t : Fin cfg0.N, win0_9.index t 0 = t.val % 4 ∧ win0_9.index t 1 = t.val / 4 :=
  (by decide +kernel : ∀ t : Fin grid0.N, win0_9.index t 0 = t.val % 4 ∧ win0_9.index t 1 = t.val / 4)
theorem where_6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

section
variable (m : (ℓ : Loc nD τ sig) → Buf (Elt 𝓘) ℓ) (c : Dev nD) (t : Fin cfg0.N)

theorem window_0 (X : Buf (Elt 𝓘) ((c : Thread nD τ).loc main_v82)) (r : Fin 2048) (e : Fin 128) :
    ((cfg0.win 0).blk t).view.read (Elt 𝓘) X (ix2 r e : S2048x128.Idx) = X (ix2 (r) ((⟨0 + (col (pairOf t) e).val, by have := (col (pairOf t) e).isLt; omega⟩ : Fin 3072))) := by
  obtain ⟨h0, h1⟩ := where_0 t
  rw [View.read_apply]
  show X _ = X _
  refine congrArg X (funext fun a => Fin.ext ?_)
  match a with
  | ⟨0, _⟩ =>
    show win0_0.index t 0 * 2048 + 1 * r.val = r.val
    rw [h0]; omega
  | ⟨1, _⟩ =>
    show win0_0.index t 1 * 128 + 1 * e.val = 0 + (128 * (t.val / 4) + e.val)
    rw [h1]; omega

theorem block_0 (r : Fin 2048) (e : Fin 128) : (iblk m c 0 t : Vec 𝓘 S2048x128 .bf16) (ix2 r e)
    = V m c main_v82 (ix2 (r) ((⟨0 + (col (pairOf t) e).val, by have := (col (pairOf t) e).isLt; omega⟩ : Fin 3072))) :=
  window_0 c t (V m c main_v82) r e

theorem window_1 (X : Buf (Elt 𝓘) ((c : Thread nD τ).loc main_v82)) (r : Fin 512) (e : Fin 128) :
    ((cfg0.win 1).blk t).view.read (Elt 𝓘) X (ix2 r e : S512x128.Idx) = X (ix2 (row (keyOf t) r) ((⟨1024 + (col (pairOf t) e).val, by have := (col (pairOf t) e).isLt; omega⟩ : Fin 3072))) := by
  obtain ⟨h0, h1⟩ := where_1 t
  rw [View.read_apply]
  show X _ = X _
  refine congrArg X (funext fun a => Fin.ext ?_)
  match a with
  | ⟨0, _⟩ =>
    show win0_1.index t 0 * 512 + 1 * r.val = 512 * (t.val % 4) + r.val
    rw [h0]; omega
  | ⟨1, _⟩ =>
    show win0_1.index t 1 * 128 + 1 * e.val = 1024 + (128 * (t.val / 4) + e.val)
    rw [h1]; omega

theorem block_1 (r : Fin 512) (e : Fin 128) : (iblk m c 1 t : Vec 𝓘 S512x128 .bf16) (ix2 r e)
    = V m c main_v82 (ix2 (row (keyOf t) r) ((⟨1024 + (col (pairOf t) e).val, by have := (col (pairOf t) e).isLt; omega⟩ : Fin 3072))) :=
  window_1 c t (V m c main_v82) r e

theorem window_2 (X : Buf (Elt 𝓘) ((c : Thread nD τ).loc main_v82)) (r : Fin 512) (e : Fin 128) :
    ((cfg0.win 2).blk t).view.read (Elt 𝓘) X (ix2 r e : S512x128.Idx) = X (ix2 (row (keyOf t) r) ((⟨2048 + (col (pairOf t) e).val, by have := (col (pairOf t) e).isLt; omega⟩ : Fin 3072))) := by
  obtain ⟨h0, h1⟩ := where_2 t
  rw [View.read_apply]
  show X _ = X _
  refine congrArg X (funext fun a => Fin.ext ?_)
  match a with
  | ⟨0, _⟩ =>
    show win0_2.index t 0 * 512 + 1 * r.val = 512 * (t.val % 4) + r.val
    rw [h0]; omega
  | ⟨1, _⟩ =>
    show win0_2.index t 1 * 128 + 1 * e.val = 2048 + (128 * (t.val / 4) + e.val)
    rw [h1]; omega

theorem block_2 (r : Fin 512) (e : Fin 128) : (iblk m c 2 t : Vec 𝓘 S512x128 .bf16) (ix2 r e)
    = V m c main_v82 (ix2 (row (keyOf t) r) ((⟨2048 + (col (pairOf t) e).val, by have := (col (pairOf t) e).isLt; omega⟩ : Fin 3072))) :=
  window_2 c t (V m c main_v82) r e

theorem window_3 (X : Buf (Elt 𝓘) ((c : Thread nD τ).loc main_v66)) (r : Fin 2048) (e : Fin 128) :
    ((cfg0.win 3).blk t).view.read (Elt 𝓘) X (ix2 r e : S2048x128.Idx) = X (ix2 (r) (col (pairOf t) e)) := by
  obtain ⟨h0, h1⟩ := where_3 t
  rw [View.read_apply]
  show X _ = X _
  refine congrArg X (funext fun a => Fin.ext ?_)
  match a with
  | ⟨0, _⟩ =>
    show win0_3.index t 0 * 2048 + 1 * r.val = r.val
    rw [h0]; omega
  | ⟨1, _⟩ =>
    show win0_3.index t 1 * 128 + 1 * e.val = 128 * (t.val / 4) + e.val
    rw [h1]; omega

theorem block_3 (r : Fin 2048) (e : Fin 128) : (iblk m c 3 t : Vec 𝓘 S2048x128 .f32) (ix2 r e)
    = V m c main_v66 (ix2 (r) (col (pairOf t) e)) :=
  window_3 c t (V m c main_v66) r e

theorem window_4 (X : Buf (Elt 𝓘) ((c : Thread nD τ).loc main_arg3)) (r : Fin 2048) (e : Fin 128) :
    ((cfg0.win 4).blk t).view.read (Elt 𝓘) X (ix2 r e : S2048x128.Idx) = X (ix2 (r) (col (pairOf t) e)) := by
  obtain ⟨h0, h1⟩ := where_4 t
  rw [View.read_apply]
  show X _ = X _
  refine congrArg X (funext fun a => Fin.ext ?_)
  match a with
  | ⟨0, _⟩ =>
    show win0_4.index t 0 * 2048 + 1 * r.val = r.val
    rw [h0]; omega
  | ⟨1, _⟩ =>
    show win0_4.index t 1 * 128 + 1 * e.val = 128 * (t.val / 4) + e.val
    rw [h1]; omega

theorem block_4 (r : Fin 2048) (e : Fin 128) : (iblk m c 4 t : Vec 𝓘 S2048x128 .f32) (ix2 r e)
    = V m c main_arg3 (ix2 (r) (col (pairOf t) e)) :=
  window_4 c t (V m c main_arg3) r e

theorem window_5 (X : Buf (Elt 𝓘) ((c : Thread nD τ).loc main_v78)) (r : Fin 2048) (e : Fin 128) :
    ((cfg0.win 5).blk t).view.read (Elt 𝓘) X (ix2 r e : S2048x128.Idx) = X (ix2 (r) (col (pairOf t) e)) := by
  obtain ⟨h0, h1⟩ := where_5 t
  rw [View.read_apply]
  show X _ = X _
  refine congrArg X (funext fun a => Fin.ext ?_)
  match a with
  | ⟨0, _⟩ =>
    show win0_5.index t 0 * 2048 + 1 * r.val = r.val
    rw [h0]; omega
  | ⟨1, _⟩ =>
    show win0_5.index t 1 * 128 + 1 * e.val = 128 * (t.val / 4) + e.val
    rw [h1]; omega

theorem block_5 (r : Fin 2048) (e : Fin 128) : (iblk m c 5 t : Vec 𝓘 S2048x128 .f32) (ix2 r e)
    = V m c main_v78 (ix2 (r) (col (pairOf t) e)) :=
  window_5 c t (V m c main_v78) r e

theorem window_6 (X : Buf (Elt 𝓘) ((c : Thread nD τ).loc main_v125)) (n : Fin 4) (r s : Fin 512) :
    ((cfg0.win 6).blk t).view.read (Elt 𝓘) X (ix3 n r s : S4x512x512.Idx) = X (ix3 n r s) := by
  obtain ⟨h0, h1, h2⟩ := where_6 t
  rw [View.read_apply]
  show X _ = X _
  refine congrArg X (funext fun a => Fin.ext ?_)
  match a with
  | ⟨0, _⟩ => show win0_6.index t 0 * 4 + 1 * n.val = n.val; rw [h0]; omega
  | ⟨1, _⟩ => show win0_6.index t 1 * 512 + 1 * r.val = r.val; rw [h1]; omega
  | ⟨2, _⟩ => show win0_6.index t 2 * 512 + 1 * s.val = s.val; rw [h2]; omega

theorem block_6 (n : Fin 4) (r s : Fin 512) : (iblk m c 6 t : Vec 𝓘 S4x512x512 .f32) (ix3 n r s) = V m c main_v125 (ix3 n r s) :=
  window_6 c t (V m c main_v125) n r s

variable (q k v g : Arr) (hq : argQ m c = arr q) (hk : argK m c = arr k) (hv : argV m c = arr v) (hg : argG m c = arr g)

include hq hk hv hg

/-- The buffers of a grid point hold what a trip reads. -/
theorem point_blocks : Blocks q k v g (pairOf t) (iblk m c 0 t) (iblk m c 3 t) (iblk m c 4 t) (iblk m c 5 t) (iblk m c 6 t) where
  query R e := by
    rw [block_0, V_qkv, hq, hk, hv]
    exact side_query q k v R (col (pairOf t) e) _ (Nat.zero_add _)
  out R e := by
    rw [block_3, V_out, hq, hk, hv]
    exact output_read q k v R (col (pairOf t) e)
  grad R e := by
    rw [block_4, V_grad, hg]; rfl
  norm R e := by
    rw [block_5, V_lse, hq, hk]
    exact lseLanes_read q k R (col (pairOf t) e)
  bias n r s := by
    rw [block_6, V_bias]
    exact biasTiles_read n r s

theorem point_keys : IsTile (iblk m c 1 t : Vec 𝓘 S512x128 .bf16) (tile k (keyOf t) (pairOf t)) := fun r e => by
  rw [block_1, V_qkv, hq, hk, hv]
  exact side_key q k v (row (keyOf t) r) (col (pairOf t) e) _ rfl

theorem point_values : IsTile (iblk m c 2 t : Vec 𝓘 S512x128 .bf16) (tile v (keyOf t) (pairOf t)) := fun r e => by
  rw [block_2, V_qkv, hq, hk, hv]
  exact side_value q k v (row (keyOf t) r) (col (pairOf t) e) _ rfl

/-! ## What the points leave -/

end

end Cert.Attn

end
-- ==== Proof.Array.lean ====
/- The three gradient arrays after the launch: what every grid point leaves, and the arrays the
   points write back. -/
module

public import proofs.«01_k».proof.Proof.Places
public import Idealize.ShloMosaic.Lib.Pipeline.Value

@[expose] public section

set_option maxRecDepth 16384

noncomputable section

namespace Cert.Attn

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.KernelIdeal Cert.KernelIdeal.Gen

local notation "𝓘" => Idealize.ShloMosaic.Ideal

section
variable (m : (ℓ : Loc nD τ sig) → Buf (Elt 𝓘) ℓ) (c : Dev nD) (t : Fin cfg0.N)
variable (q k v g : Arr) (hq : argQ m c = arr q) (hk : argK m c = arr k) (hv : argV m c = arr v) (hg : argG m c = arr g)

include hq hk hv hg

theorem point_A_queries (h0 : t.val % 4 = 0) (b : Fin 4) (r : Fin 512) (l : Fin 128) : (outsAt0 m c t.val t.isLt).1 (ix2 (row b r) l)
    = ((partQ q k v g b (pairOf t) (keyOf t).val (4 - (keyOf t).val) r l : ℝ) : EReal) :=
  (congrFun (congrArg Prod.fst (outsAt0_A m c t h0)) (ix2 (row b r) l)).trans
    (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 4 t) (iblk m c 5 t) (iblk m c 6 t) (iblk m c 1 t) (iblk m c 2 t) q k v g (pairOf t)
            (point_blocks m c t q k v g hq hk hv hg) (keyOf t) (coord_key t) (point_keys m c t q k v g hq hk hv hg)
            (point_values m c t q k v g hq hk hv hg) ((hcond0_0 t).mpr h0) h0 b r l)

theorem point_A_keys (h0 : t.val % 4 = 0) : IsTile (outsAt0 m c t.val t.isLt).2.1 (fun s l => gradK q k v g (row (keyOf t) s) (col (pairOf t) l)) := fun s l =>
  (congrFun (congrArg (fun x => x.2.1) (outsAt0_A m c t h0)) (ix2 s l)).trans
    (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 4 t) (iblk m c 5 t) (iblk m c 6 t) (iblk m c 1 t) (iblk m c 2 t) q k v g (pairOf t)
            (point_blocks m c t q k v g hq hk hv hg) (keyOf t) (coord_key t) (point_keys m c t q k v g hq hk hv hg)
            (point_values m c t q k v g hq hk hv hg) ((hcond0_0 t).mpr h0) h0 s l)

theorem point_A_values (h0 : t.val % 4 = 0) : IsTile (outsAt0 m c t.val t.isLt).2.2 (fun s l => gradV q k g (row (keyOf t) s) (col (pairOf t) l)) := fun s l =>
  (congrFun (congrArg (fun x => x.2.2) (outsAt0_A m c t h0)) (ix2 s l)).trans
    (out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 4 t) (iblk m c 5 t) (iblk m c 6 t) (iblk m c 1 t) (iblk m c 2 t) q k v g (pairOf t)
            (point_blocks m c t q k v g hq hk hv hg) (keyOf t) (coord_key t) (point_keys m c t q k v g hq hk hv hg)
            (point_values m c t q k v g hq hk hv hg) ((hcond0_0 t).mpr h0) h0 s l)

theorem point_B_queries (h0 : ¬t.val % 4 = 0)
    (ho : ∀ (b : Fin 4) (r : Fin 512) (l : Fin 128), (outsAt0 m c (t.val - 1) (lt_of_le_of_lt (Nat.sub_le _ _) t.isLt)).1 (ix2 (row b r) l)
      = ((partQ q k v g b (pairOf t) (keyOf t).val 0 r l : ℝ) : EReal)) (b : Fin 4) (r : Fin 512) (l : Fin 128) : (outsAt0 m c t.val t.isLt).1 (ix2 (row b r) l)
    = ((partQ q k v g b (pairOf t) (keyOf t).val (4 - (keyOf t).val) r l : ℝ) : EReal) :=
  (congrFun (congrArg Prod.fst (outsAt0_B m c t h0)) (ix2 (row b r) l)).trans
    (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 4 t) (iblk m c 5 t) (iblk m c 6 t) (iblk m c 1 t) (iblk m c 2 t) q k v g (pairOf t)
            (point_blocks m c t q k v g hq hk hv hg) (keyOf t) (coord_key t) (point_keys m c t q k v g hq hk hv hg)
            (point_values m c t q k v g hq hk hv hg) (fun h => h0 ((hcond0_0 t).mp h)) _ ho b r l)

theorem point_B_keys (h0 : ¬t.val % 4 = 0)
    (ho : ∀ (b : Fin 4) (r : Fin 512) (l : Fin 128), (outsAt0 m c (t.val - 1) (lt_of_le_of_lt (Nat.sub_le _ _) t.isLt)).1 (ix2 (row b r) l)
      = ((partQ q k v g b (pairOf t) (keyOf t).val 0 r l : ℝ) : EReal)) : IsTile (outsAt0 m c t.val t.isLt).2.1 (fun s l => gradK q k v g (row (keyOf t) s) (col (pairOf t) l)) := fun s l =>
  (congrFun (congrArg (fun x => x.2.1) (outsAt0_B m c t h0)) (ix2 s l)).trans
    (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 4 t) (iblk m c 5 t) (iblk m c 6 t) (iblk m c 1 t) (iblk m c 2 t) q k v g (pairOf t)
            (point_blocks m c t q k v g hq hk hv hg) (keyOf t) (coord_key t) (point_keys m c t q k v g hq hk hv hg)
            (point_values m c t q k v g hq hk hv hg) (fun h => h0 ((hcond0_0 t).mp h)) _ ho s l)

theorem point_B_values (h0 : ¬t.val % 4 = 0)
    (ho : ∀ (b : Fin 4) (r : Fin 512) (l : Fin 128), (outsAt0 m c (t.val - 1) (lt_of_le_of_lt (Nat.sub_le _ _) t.isLt)).1 (ix2 (row b r) l)
      = ((partQ q k v g b (pairOf t) (keyOf t).val 0 r l : ℝ) : EReal)) : IsTile (outsAt0 m c t.val t.isLt).2.2 (fun s l => gradV q k g (row (keyOf t) s) (col (pairOf t) l)) := fun s l =>
  (congrFun (congrArg (fun x => x.2.2) (outsAt0_B m c t h0)) (ix2 s l)).trans
    (out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 3 t) (iblk m c 4 t) (iblk m c 5 t) (iblk m c 6 t) (iblk m c 1 t) (iblk m c 2 t) q k v g (pairOf t)
            (point_blocks m c t q k v g hq hk hv hg) (keyOf t) (coord_key t) (point_keys m c t q k v g hq hk hv hg)
            (point_values m c t q k v g hq hk hv hg) (fun h => h0 ((hcond0_0 t).mp h)) _ ho s l)

/-- The queries' buffer after a point: the sums over the key blocks so far. -/
theorem left_queries (n : ℕ) : ∀ (t : Fin cfg0.N) (_ : t.val = n) (b : Fin 4) (r : Fin 512) (l : Fin 128),
    (outsAt0 m c t.val t.isLt).1 (ix2 (row b r) l)
      = ((partQ q k v g b (pairOf t) (keyOf t).val (4 - (keyOf t).val) r l : ℝ) : EReal) := by
  induction n with
  | zero => exact fun t ht => point_A_queries m c t q k v g hq hk hv hg (by omega)
  | succ n ih =>
    intro t ht
    by_cases h0 : t.val % 4 = 0
    · exact point_A_queries m c t q k v g hq hk hv hg h0
    · refine point_B_queries m c t q k v g hq hk hv hg h0 fun b r l => ?_
      have hn : t.val - 1 < cfg0.N := lt_of_le_of_lt (Nat.sub_le _ _) t.isLt
      have e5 : pairOf ⟨t.val - 1, hn⟩ = pairOf t := Fin.ext (by show (t.val - 1) / 4 = t.val / 4; omega)
      have e6 : (keyOf t).val = (keyOf ⟨t.val - 1, hn⟩).val + 1 := by show t.val % 4 = (t.val - 1) % 4 + 1; omega
      have e7 : (keyOf ⟨t.val - 1, hn⟩).val ≤ 4 := by show (t.val - 1) % 4 ≤ 4; omega
      refine (ih ⟨t.val - 1, hn⟩ (by show t.val - 1 = n; omega) b r l).trans (congrArg Real.toEReal ?_)
      rw [e5, e6, partQ_next q k v g b (keyOf ⟨t.val - 1, hn⟩) (pairOf t) (4 - (keyOf ⟨t.val - 1, hn⟩).val) (by omega)]

theorem before_queries (h0 : ¬t.val % 4 = 0) (b : Fin 4) (r : Fin 512) (l : Fin 128) :
    (outsAt0 m c (t.val - 1) (lt_of_le_of_lt (Nat.sub_le _ _) t.isLt)).1 (ix2 (row b r) l)
      = ((partQ q k v g b (pairOf t) (keyOf t).val 0 r l : ℝ) : EReal) := by
  have hn : t.val - 1 < cfg0.N := lt_of_le_of_lt (Nat.sub_le _ _) t.isLt
  have e5 : pairOf ⟨t.val - 1, hn⟩ = pairOf t := Fin.ext (by show (t.val - 1) / 4 = t.val / 4; omega)
  have e6 : (keyOf t).val = (keyOf ⟨t.val - 1, hn⟩).val + 1 := by show t.val % 4 = (t.val - 1) % 4 + 1; omega
  have e7 : (keyOf ⟨t.val - 1, hn⟩).val ≤ 4 := by show (t.val - 1) % 4 ≤ 4; omega
  refine (left_queries m c q k v g hq hk hv hg _ ⟨t.val - 1, hn⟩ rfl b r l).trans (congrArg Real.toEReal ?_)
  rw [e5, e6, partQ_next q k v g b (keyOf ⟨t.val - 1, hn⟩) (pairOf t) (4 - (keyOf ⟨t.val - 1, hn⟩).val) (by omega)]

theorem left_keys : IsTile (outsAt0 m c t.val t.isLt).2.1 (fun s l => gradK q k v g (row (keyOf t) s) (col (pairOf t) l)) := by
  by_cases h0 : t.val % 4 = 0
  · exact point_A_keys m c t q k v g hq hk hv hg h0
  · exact point_B_keys m c t q k v g hq hk hv hg h0 (before_queries m c t q k v g hq hk hv hg h0)

theorem left_values : IsTile (outsAt0 m c t.val t.isLt).2.2 (fun s l => gradV q k g (row (keyOf t) s) (col (pairOf t) l)) := by
  by_cases h0 : t.val % 4 = 0
  · exact point_A_values m c t q k v g hq hk hv hg h0
  · exact point_B_values m c t q k v g hq hk hv hg h0 (before_queries m c t q k v g hq hk hv hg h0)

/-! ## The arrays -/

theorem written_queries (hf : (cfg0.win 7).flush t = true) :
    (dats m 0 c).flushed 7 t = ((cfg0.win 7).blk t).view.read (Elt 𝓘) (arr (gradQ q k v g) : Buf (Elt 𝓘) ((c : Thread nD τ).loc main_v126_0)) := by
  obtain ⟨h0, h1⟩ := where_7 t
  rw [Cert.KernelIdeal.Value.flushed7 m c t]
  funext y
  rw [View.read_apply]
  obtain ⟨r, e, rfl⟩ : ∃ (r : Fin 2048) (e : Fin 128), y = ix2 r e := ⟨y 0, y 1, (ix2_eta y).symm⟩
  have h3 : t.val % 4 = 3 := (flush0_7 t).mp hf
  obtain ⟨b, s, rfl⟩ : ∃ (b : Fin 4) (s : Fin 512), r = row b s :=
    ⟨⟨r.val / 512, by omega⟩, ⟨r.val % 512, by omega⟩, Fin.ext (by show r.val = 512 * (r.val / 512) + r.val % 512; omega)⟩
  refine (left_queries m c q k v g hq hk hv hg t.val t rfl b s e).trans ?_
  rw [show (keyOf t).val = 3 from h3]
  refine (congrArg Real.toEReal (partQ_last q k v g b (pairOf t) s e)).trans ?_
  show _ = arr (gradQ q k v g) _
  refine (congrArg (arr (gradQ q k v g)) (a₁ := ix2 (row b s) (col (pairOf t) e)) (funext fun a => Fin.ext ?_))
  match a with
  | ⟨0, _⟩ => show (row b s).val = win0_7.index t 0 * 2048 + 1 * (row b s).val; rw [h0]; omega
  | ⟨1, _⟩ => show 128 * (t.val / 4) + e.val = win0_7.index t 1 * 128 + 1 * e.val; rw [h1]; omega

/-- The gradient of the queries. -/
theorem array_queries : (dats m 0 c).arrAt 7 cfg0.N = (arr (gradQ q k v g) : Buf (Elt 𝓘) ((c : Thread nD τ).loc main_v126_0)) :=
  (dats m 0 c).arrAt_eq_of_cover 7 _ (fun t hf => written_queries m c t q k v g hq hk hv hg hf) fun i => by
    have hi0 : (i 0 : Nat) < 2048 := (i 0).isLt
    have hi1 : (i 1 : Nat) < 1024 := (i 1).isLt
    obtain ⟨t, hv'⟩ : ∃ t : Fin cfg0.N, t.val = 4 * ((i 1).val / 128) + 3 := ⟨⟨4 * ((i 1).val / 128) + 3, by rw [show cfg0.N = 32 from N_0]; omega⟩, rfl⟩
    obtain ⟨h0, h1⟩ := where_7 t
    refine ⟨t, (flush0_7 t).mpr (by rw [hv']; omega), ?_⟩
    show i ∈ ((View.whole main_v126_0).slice (win0_7.rect t)).set
    rw [View.set_slice_whole, Rect.mem_set_unit]
    intro a
    match a with
    | ⟨0, _⟩ =>
      show win0_7.index t 0 * 2048 ≤ (i 0 : Nat) ∧ (i 0 : Nat) < win0_7.index t 0 * 2048 + 2048
      rw [h0]; omega
    | ⟨1, _⟩ =>
      show win0_7.index t 1 * 128 ≤ (i 1 : Nat) ∧ (i 1 : Nat) < win0_7.index t 1 * 128 + 128
      rw [h1]; omega

theorem written_keys (hf : (cfg0.win 8).flush t = true) :
    (dats m 0 c).flushed 8 t = ((cfg0.win 8).blk t).view.read (Elt 𝓘) (arr (gradK q k v g) : Buf (Elt 𝓘) ((c : Thread nD τ).loc main_v126_1)) := by
  obtain ⟨h0, h1⟩ := where_8 t
  rw [Cert.KernelIdeal.Value.flushed8 m c t]
  funext y
  rw [View.read_apply]
  obtain ⟨r, e, rfl⟩ : ∃ (r : Fin 512) (e : Fin 128), y = ix2 r e := ⟨y 0, y 1, (ix2_eta y).symm⟩
  refine (left_keys m c t q k v g hq hk hv hg r e).trans ?_
  show _ = arr (gradK q k v g) _
  refine (congrArg (arr (gradK q k v g)) (a₁ := ix2 (row (keyOf t) r) (col (pairOf t) e)) (funext fun a => Fin.ext ?_))
  match a with
  | ⟨0, _⟩ => show 512 * (t.val % 4) + r.val = win0_8.index t 0 * 512 + 1 * r.val; rw [h0]; omega
  | ⟨1, _⟩ => show 128 * (t.val / 4) + e.val = win0_8.index t 1 * 128 + 1 * e.val; rw [h1]; omega

/-- The gradient of the keys. -/
theorem array_keys : (dats m 0 c).arrAt 8 cfg0.N = (arr (gradK q k v g) : Buf (Elt 𝓘) ((c : Thread nD τ).loc main_v126_1)) :=
  (dats m 0 c).arrAt_eq_of_cover 8 _ (fun t hf => written_keys m c t q k v g hq hk hv hg hf) fun i => by
    have hi0 : (i 0 : Nat) < 2048 := (i 0).isLt
    have hi1 : (i 1 : Nat) < 1024 := (i 1).isLt
    obtain ⟨t, hv'⟩ : ∃ t : Fin cfg0.N, t.val = 4 * ((i 1).val / 128) + (i 0).val / 512 := ⟨⟨4 * ((i 1).val / 128) + (i 0).val / 512, by rw [show cfg0.N = 32 from N_0]; omega⟩, rfl⟩
    obtain ⟨h0, h1⟩ := where_8 t
    refine ⟨t, flush0_8 t, ?_⟩
    show i ∈ ((View.whole main_v126_1).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [h0]; omega
    | ⟨1, _⟩ =>
      show win0_8.index t 1 * 128 ≤ (i 1 : Nat) ∧ (i 1 : Nat) < win0_8.index t 1 * 128 + 128
      rw [h1]; omega

theorem written_values (hf : (cfg0.win 9).flush t = true) :
    (dats m 0 c).flushed 9 t = ((cfg0.win 9).blk t).view.read (Elt 𝓘) (arr (gradV q k g) : Buf (Elt 𝓘) ((c : Thread nD τ).loc main_v126_2)) := by
  obtain ⟨h0, h1⟩ := where_9 t
  rw [Cert.KernelIdeal.Value.flushed9 m c t]
  funext y
  rw [View.read_apply]
  obtain ⟨r, e, rfl⟩ : ∃ (r : Fin 512) (e : Fin 128), y = ix2 r e := ⟨y 0, y 1, (ix2_eta y).symm⟩
  refine (left_values m c t q k v g hq hk hv hg r e).trans ?_
  show _ = arr (gradV q k g) _
  refine (congrArg (arr (gradV q k g)) (a₁ := ix2 (row (keyOf t) r) (col (pairOf t) e)) (funext fun a => Fin.ext ?_))
  match a with
  | ⟨0, _⟩ => show 512 * (t.val % 4) + r.val = win0_9.index t 0 * 512 + 1 * r.val; rw [h0]; omega
  | ⟨1, _⟩ => show 128 * (t.val / 4) + e.val = win0_9.index t 1 * 128 + 1 * e.val; rw [h1]; omega

/-- The gradient of the values. -/
theorem array_values : (dats m 0 c).arrAt 9 cfg0.N = (arr (gradV q k g) : Buf (Elt 𝓘) ((c : Thread nD τ).loc main_v126_2)) :=
  (dats m 0 c).arrAt_eq_of_cover 9 _ (fun t hf => written_values m c t q k v g hq hk hv hg hf) fun i => by
    have hi0 : (i 0 : Nat) < 2048 := (i 0).isLt
    have hi1 : (i 1 : Nat) < 1024 := (i 1).isLt
    obtain ⟨t, hv'⟩ : ∃ t : Fin cfg0.N, t.val = 4 * ((i 1).val / 128) + (i 0).val / 512 := ⟨⟨4 * ((i 1).val / 128) + (i 0).val / 512, by rw [show cfg0.N = 32 from N_0]; omega⟩, rfl⟩
    obtain ⟨h0, h1⟩ := where_9 t
    refine ⟨t, flush0_9 t, ?_⟩
    show i ∈ ((View.whole main_v126_2).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [h0]; omega
    | ⟨1, _⟩ =>
      show win0_9.index t 1 * 128 ≤ (i 1 : Nat) ∧ (i 1 : Nat) < win0_9.index t 1 * 128 + 128
      rw [h1]; omega

end

end Cert.Attn

end
-- ==== Proof.Finite.lean ====
/- The precondition, that every argument is finite everywhere, and what it says at the extended reals: the arguments are arrays
   of real numbers. -/
module

public import proofs.«01_k».proof.Defs
public import proofs.«01_k».proof.Proof.Reference

@[expose] public section

set_option maxRecDepth 16384

noncomputable section

namespace Cert.Attn

open Idealize.ShloMosaic Idealize.ShloMosaic.ValueIdx
open Cert.ReferenceIdeal

local notation "𝓘" => Idealize.ShloMosaic.Ideal

/-- The side conditions of the precondition's operations. -/
theorem finite_facts : Cert.Pre_finite.Facts := ⟨by decide⟩

theorem both_ones : ∀ a b : BitVec 1, a &&& b = 1#1 → a = 1#1 ∧ b = 1#1 := by decide

/-- A value whose absolute value lies below +∞ is real. -/
theorem real_of_abs_lt (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  have hlt : max x (-x) < ⊤ := by
    by_contra hn
    have e : Ideal.cmp .olt (max x (-x)) ⊤ = BitVec.ofBool (decide (max x (-x) < ⊤)) := rfl
    rw [htop, e, decide_eq_false hn] at h
    exact absurd h (by decide)
  refine (EReal.coe_toReal (fun e => ?_) (fun e => ?_)).symm
  · subst e; exact absurd hlt (by simp)
  · subst e; exact absurd hlt (by simp)

/-- The reals an array holds. -/
def reals (x : S2048x1024.Idx → EReal) : Arr := fun R l => (x (ix2 R l)).toReal

theorem arr_reals (x : S2048x1024.Idx → EReal)
    (h : ∀ i, Ideal.cmp .olt (max (x i) (-(x i))) (Ideal.ofBits .f32 0x7F800000#32) = 1#1) : x = arr (reals x) := by
  funext i
  have e : i = ix2 (i 0) (i 1) := by
    funext a; match a with | ⟨0, _⟩ => rfl | ⟨1, _⟩ => rfl
  rw [e]
  exact real_of_abs_lt _ (h _)

theorem finite_reals (hF : Cert.Pre_finite.Facts) (a b x y : FVec 𝓘 Cert.Pre_finite.S2048x1024 .f32)
    (h : Cert.Pre_finite.fn (F := 𝓘) a b x y = fun _ => 1#1) :
    a = arr (reals a) ∧ b = arr (reals b) ∧ x = arr (reals x) ∧ y = arr (reals y) := by
  have hi : ∀ i, ((Ideal.cmp .olt (max (a i) (-(a i))) (Ideal.ofBits .f32 0x7F800000#32)
      &&& Ideal.cmp .olt (max (b i) (-(b i))) (Ideal.ofBits .f32 0x7F800000#32))
      &&& Ideal.cmp .olt (max (x i) (-(x i))) (Ideal.ofBits .f32 0x7F800000#32))
      &&& Ideal.cmp .olt (max (y i) (-(y i))) (Ideal.ofBits .f32 0x7F800000#32) = 1#1 := fun i => congrFun h i
  refine ⟨arr_reals a fun i => ?_, arr_reals b fun i => ?_, arr_reals x fun i => ?_, arr_reals y fun i => ?_⟩
  · exact (both_ones _ _ (both_ones _ _ (both_ones _ _ (hi i)).1).1).1
  · exact (both_ones _ _ (both_ones _ _ (both_ones _ _ (hi i)).1).1).2
  · exact (both_ones _ _ (both_ones _ _ (hi i)).1).2
  · exact (both_ones _ _ (hi i)).2

end Cert.Attn

end
-- ==== Proof.RefBackward.lean ====
/- The reference's gradients at real arguments: the gradient at an offset's score, and from it those of the queries, keys and
   values. -/
module

public import proofs.«01_k».proof.Proof.RefSoftmax

@[expose] public section

set_option maxRecDepth 16384

noncomputable section

namespace Cert.Attn

open Idealize.ShloMosaic Idealize.ShloMosaic.ValueIdx
open Cert.ReferenceIdeal Cert.ReferenceIdeal.Gen Cert.ReferenceIdeal.Read

variable (q k v g : Arr) (h : Fin 16) (R C : Fin 2048) (κ : Fin 387) (d : Fin 64) (m : ℝ)

/-- The incoming gradient laid over the offsets. -/
theorem grad_spread : val_main_v88 (F := Ideal) (arr g) (ix5 0 h R κ d) = ((g R (lane h d) : ℝ) : EReal) := by
  rw [val_main_v88_apply, ← grad_read]
  refine congrArg (val_main_v87 (F := Ideal) (arr g)) ?_
  funext a; match a with | ⟨0, _⟩ => rfl | ⟨1, _⟩ => rfl | ⟨2, _⟩ => rfl | ⟨3, _⟩ => rfl

/-- The gradient reaching the probability of an offset. -/
theorem gradProb_read : val_main_v92 (F := Ideal) (arr v) (arr g) (ix4 0 h R κ)
    = ((offVal R κ (fun C => gradProb v g h R C) : ℝ) : EReal) := by
  rw [val_main_v92_apply, val_main_cst_24_apply]
  have e : ∀ d : Fin 64, val_main_v91 (F := Ideal) (arr v) (arr g) (idx_main_v92 (ix4 0 h R κ) d)
      = ((g R (lane h d) * (if off κ ≤ R.val then v (back R κ) (lane h d) else 0) : ℝ) : EReal) := by
    intro d
    have e5 : idx_main_v92 (ix4 (0 : Fin 1) h R κ) d = ix5 0 h R κ d := by
      funext a; match a with | ⟨0, _⟩ => rfl | ⟨1, _⟩ => rfl | ⟨2, _⟩ => rfl | ⟨3, _⟩ => rfl | ⟨4, _⟩ => rfl
    rw [e5, val_main_v91_apply, grad_spread, values_gathered, EReal.coe_mul]
    rfl
  rw [Finset.sum_congr rfl fun d _ => e d, sum_coe]
  refine (congrArg (· + _) const_zero).trans ?_
  rw [← EReal.coe_add, zero_add]
  refine congrArg Real.toEReal ?_
  unfold offVal
  by_cases hle : off κ ≤ R.val
  · simp only [if_pos hle]; rfl
  · simp [if_neg hle]

/-- A host sum whose fibre at an index is one element is the initial value plus that element. -/
theorem reduce_one {s t : Shape} {axes : List (Fin s.rank)} (hr : s.ReducesTo axes t) (x : s.Idx → EReal) (a : EReal) (j : t.Idx)
    (i : s.Idx) (hi : ∀ i', hr.drop i' = j ↔ i' = i) : Ideal.hostReduceAdd hr x a j = a + x i := by
  unfold Ideal.hostReduceAdd
  rw [Finset.filter_congr fun i' _ => hi i', Finset.sum_filter, Finset.sum_ite_eq' Finset.univ i, if_pos (Finset.mem_univ _)]

theorem gradProb_sum_read : val_main_v94 (F := Ideal) (arr v) (arr g) (ix3 h R κ)
    = ((offVal R κ (fun C => gradProb v g h R C) : ℝ) : EReal) := by
  unfold val_main_v94
  refine (reduce_one reducesTo_S1x16x2048x387x1_S16x2048x387_d0_4 _ _ (ix3 h R κ) (ix5 0 h R κ 0) (fun i' => ⟨fun H => ?_, ?_⟩)).trans ?_
  · funext a
    apply Fin.ext
    match a with
    | ⟨0, _⟩ => have h0 : (i' 0).val < 1 := (i' 0).isLt; exact Nat.lt_one_iff.1 h0
    | ⟨1, _⟩ => exact congrArg Fin.val (congrFun H 0)
    | ⟨2, _⟩ => exact congrArg Fin.val (congrFun H 1)
    | ⟨3, _⟩ => exact congrArg Fin.val (congrFun H 2)
    | ⟨4, _⟩ => have h4 : (i' 4).val < 1 := (i' 4).isLt; exact Nat.lt_one_iff.1 h4
  · rintro rfl
    funext a; match a with | ⟨0, _⟩ => rfl | ⟨1, _⟩ => rfl | ⟨2, _⟩ => rfl
  · rw [val_main_v93_apply]
    have e : idx_main_v93 (ix5 (0 : Fin 1) h R κ (0 : Fin 1)) = ix4 0 h R κ := by
      funext a
      apply Fin.ext
      have h1 := h.isLt; have h2 := R.isLt; have h3 := κ.isLt
      match a with
      | ⟨0, _⟩ => rfl
      | ⟨1, _⟩ => show ((((0 * 16 + h.val) * 2048 + R.val) * 387 + κ.val) * 1 + 0) / 792576 % 16 = h.val; omega
      | ⟨2, _⟩ => show ((((0 * 16 + h.val) * 2048 + R.val) * 387 + κ.val) * 1 + 0) / 387 % 2048 = R.val; omega
      | ⟨3, _⟩ => show ((((0 * 16 + h.val) * 2048 + R.val) * 387 + κ.val) * 1 + 0) % 387 = κ.val; omega
    rw [e, gradProb_read]
    refine (congrArg (· + _) const_zero).trans ?_
    rw [← EReal.coe_add, zero_add]

/-- The same, with its unit axis back. -/
theorem gradProb_back_read : val_main_v95 (F := Ideal) (arr v) (arr g) (ix4 0 h R κ)
    = ((offVal R κ (fun C => gradProb v g h R C) : ℝ) : EReal) := by
  rw [val_main_v95_apply, ← gradProb_sum_read]
  refine congrArg (val_main_v94 (F := Ideal) (arr v) (arr g)) ?_
  funext a; match a with | ⟨0, _⟩ => rfl | ⟨1, _⟩ => rfl | ⟨2, _⟩ => rfl

/-- The gradient at an offset's score: its probability times the gradient's distance from the mean. -/
def offGrad : ℝ := offProb q k h R κ * (offVal R κ (fun C => gradProb v g h R C) - meanGrad q k v g h R)

section
variable (hm : val_main_v52 (F := Ideal) (arr q) (arr k) (ix3 0 h R) = (m : EReal))
include hm

theorem recip_read : val_main_v96 (F := Ideal) (arr q) (arr k) (ix4 0 h R κ)
    = ((1 / ((∑ κ, offExp q k h R κ m) * ∑ κ, offExp q k h R κ m) : ℝ) : EReal) := by
  rw [val_main_v96_apply]
  have e : idx_main_v96 (ix4 (0 : Fin 1) h R κ) = ix4 0 h R 0 := by
    funext a; match a with | ⟨0, _⟩ => rfl | ⟨1, _⟩ => rfl | ⟨2, _⟩ => rfl | ⟨3, _⟩ => rfl
  rw [e, val_main_v79_apply, val_main_v77_apply, denom_col_read q k h R m hm, val_main_v78_apply, val_main_cst_22_apply]
  show Ideal.div (Ideal.ofBits .f32 0x3F800000#32)
    (((∑ κ, offExp q k h R κ m : ℝ) : EReal) * ((∑ κ, offExp q k h R κ m : ℝ) : EReal)) = _
  rw [const_one, ← EReal.coe_mul, div_coe_pos _ _ (mul_pos (sum_offExp_pos q k h R m) (sum_offExp_pos q k h R m))]

/-- The mean the reference subtracts, before its division by the denominator. -/
theorem mean_read : val_main_v99 (F := Ideal) (arr q) (arr k) (arr v) (arr g) (ix3 0 h R)
    = ((meanGrad q k v g h R / (∑ κ, offExp q k h R κ m) : ℝ) : EReal) := by
  rw [val_main_v99_apply, val_main_cst_26_apply]
  have e : ∀ κ : Fin 387, val_main_v98 (F := Ideal) (arr q) (arr k) (arr v) (arr g) (idx_main_v99 (ix3 0 h R) κ)
      = ((offVal R κ (fun C => gradProb v g h R C) * (1 / ((∑ κ, offExp q k h R κ m) * ∑ κ, offExp q k h R κ m))
          * offExp q k h R κ m : ℝ) : EReal) := by
    intro κ
    have e4 : idx_main_v99 (ix3 (0 : Fin 1) h R) κ = ix4 0 h R κ := by
      funext a; match a with | ⟨0, _⟩ => rfl | ⟨1, _⟩ => rfl | ⟨2, _⟩ => rfl | ⟨3, _⟩ => rfl
    rw [e4, val_main_v98_apply, val_main_v97_apply, gradProb_back_read, recip_read q k h R κ m hm, exp_read q k h R κ m hm,
      EReal.coe_mul, EReal.coe_mul]
    rfl
  rw [Finset.sum_congr rfl fun κ _ => e κ, sum_coe]
  refine (congrArg (· + _) const_zero).trans ?_
  rw [← EReal.coe_add, zero_add]
  refine congrArg Real.toEReal ?_
  rw [show meanGrad q k v g h R = ∑ C, prob q k h R C * gradProb v g h R C from rfl, ← sum_offProb, Finset.sum_div]
  refine Finset.sum_congr rfl fun κ _ => ?_
  rw [← offExp_div q k h R κ m]
  have := (sum_offExp_pos q k h R m).ne'
  field_simp

theorem meanNeg_read (z : Fin 1) : val_main_v101 (F := Ideal) (arr q) (arr k) (arr v) (arr g) (ix4 0 h R z)
    = ((-(meanGrad q k v g h R / (∑ κ, offExp q k h R κ m)) : ℝ) : EReal) := by
  rw [val_main_v101_apply, val_main_v100_apply]
  have e : idx_main_v100 (ix4 (0 : Fin 1) h R z) = ix3 0 h R := by
    have hz : z.val = 0 := Nat.lt_one_iff.1 z.isLt
    funext a
    apply Fin.ext
    have h1 := h.isLt; have h2 := R.isLt
    match a with
    | ⟨0, _⟩ => rfl
    | ⟨1, _⟩ => show (((0 * 16 + h.val) * 2048 + R.val) * 1 + z.val) / 2048 % 16 = h.val; omega
    | ⟨2, _⟩ => show (((0 * 16 + h.val) * 2048 + R.val) * 1 + z.val) % 2048 = R.val; omega
  rw [e, mean_read q k v g h R m hm, EReal.coe_neg]
  rfl

theorem meanNeg_sum_read : val_main_v104 (F := Ideal) (arr q) (arr k) (arr v) (arr g) (ix2 h R)
    = ((-(meanGrad q k v g h R / (∑ κ, offExp q k h R κ m)) : ℝ) : EReal) := by
  unfold val_main_v104
  refine (reduce_one reducesTo_S1x16x2048x1_S16x2048_d0_3 _ _ (ix2 h R) (ix4 0 h R 0) (fun i' => ⟨fun H => ?_, ?_⟩)).trans ?_
  · funext a
    apply Fin.ext
    match a with
    | ⟨0, _⟩ => have h0 : (i' 0).val < 1 := (i' 0).isLt; exact Nat.lt_one_iff.1 h0
    | ⟨1, _⟩ => exact congrArg Fin.val (congrFun H 0)
    | ⟨2, _⟩ => exact congrArg Fin.val (congrFun H 1)
    | ⟨3, _⟩ => have h4 : (i' 3).val < 1 := (i' 3).isLt; exact Nat.lt_one_iff.1 h4
  · rintro rfl
    funext a; match a with | ⟨0, _⟩ => rfl | ⟨1, _⟩ => rfl
  · rw [meanNeg_read q k v g h R m hm]
    refine (congrArg (· + _) const_zero).trans ?_
    rw [← EReal.coe_add, zero_add]

theorem offGrad_raw_read : val_main_v108 (F := Ideal) (arr q) (arr k) (arr v) (arr g) (ix4 0 h R κ)
    = ((offGrad q k v g h R κ : ℝ) : EReal) := by
  have e1 : idx_main_v105 (idx_main_v106 (ix4 (0 : Fin 1) h R κ)) = ix2 h R := by
    funext a; match a with | ⟨0, _⟩ => rfl | ⟨1, _⟩ => rfl
  have e2 : idx_main_v102 (ix4 (0 : Fin 1) h R κ) = ix4 0 h R 0 := by
    funext a; match a with | ⟨0, _⟩ => rfl | ⟨1, _⟩ => rfl | ⟨2, _⟩ => rfl | ⟨3, _⟩ => rfl
  rw [val_main_v108_apply, val_main_v107_apply, val_main_v106_apply, val_main_v105_apply, e1, meanNeg_sum_read q k v g h R m hm,
    val_main_v103_apply, val_main_v102_apply, e2, denom_col_read q k h R m hm, gradProb_back_read, exp_read q k h R κ m hm]
  show (Ideal.div ((offVal R κ (fun C => gradProb v g h R C) : ℝ) : EReal) ((∑ κ, offExp q k h R κ m : ℝ) : EReal)
    + ((-(meanGrad q k v g h R / (∑ κ, offExp q k h R κ m)) : ℝ) : EReal)) * ((offExp q k h R κ m : ℝ) : EReal) = _
  rw [div_coe_pos _ _ (sum_offExp_pos q k h R m), ← EReal.coe_add, ← EReal.coe_mul]
  refine congrArg Real.toEReal ?_
  unfold offGrad
  rw [← offExp_div q k h R κ m]
  have := (sum_offExp_pos q k h R m).ne'
  field_simp
  ring

end

/-- The gradient at an offset's score, as the reference computes it. -/
theorem offGrad_read : val_main_v109 (F := Ideal) (arr q) (arr k) (arr v) (arr g) (ix4 0 h R κ)
    = ((offGrad q k v g h R κ : ℝ) : EReal) := by
  obtain ⟨m, hm⟩ := rowMax_real q k h R
  rw [val_main_v109_apply, mask_read, offGrad_raw_read q k v g h R κ m hm]
  by_cases hle : off κ ≤ R.val
  · rw [if_pos hle, select_one]
  · rw [if_neg hle, select_zero, val_main_call1_v0_apply, val_main_call1_cst_apply]
    refine const_zero.trans ?_
    refine congrArg Real.toEReal ?_
    unfold offGrad offProb
    rw [if_neg hle, zero_mul]

theorem offGrad_spread : val_main_v110 (F := Ideal) (arr q) (arr k) (arr v) (arr g) (ix5 0 h R κ d)
    = ((offGrad q k v g h R κ : ℝ) : EReal) := by
  rw [val_main_v110_apply, ← offGrad_read]
  refine congrArg (val_main_v109 (F := Ideal) (arr q) (arr k) (arr v) (arr g)) ?_
  funext a; match a with | ⟨0, _⟩ => rfl | ⟨1, _⟩ => rfl | ⟨2, _⟩ => rfl | ⟨3, _⟩ => rfl

/-- At an offset that stays in the sequence the two gradients agree up to the multiplicity. -/
theorem times_offGrad (hle : off κ ≤ R.val) : offGrad q k v g h R κ
    = Real.exp (score q k h R (back R κ)) / total q k h R * (gradProb v g h R (back R κ) - meanGrad q k v g h R) := by
  unfold offGrad offProb offVal
  rw [if_pos hle, if_pos hle]

theorem times_gradScore : times R C * (Real.exp (score q k h R C) / total q k h R * (gradProb v g h R C - meanGrad q k v g h R))
    = gradScore q k v g h R C := by
  unfold gradScore prob weight
  ring

/-! ## The gradient of the queries -/

theorem gradQ_heads_read : val_main_v114 (F := Ideal) (arr q) (arr k) (arr v) (arr g) (ix4 0 h R d)
    = ((gradQ q k v g R (lane h d) : ℝ) : EReal) := by
  rw [val_main_v114_apply, val_main_cst_28_apply]
  have e : ∀ κ : Fin 387, val_main_v113 (F := Ideal) (arr q) (arr k) (arr v) (arr g) (idx_main_v114 (ix4 0 h R d) κ)
      = ((offGrad q k v g h R κ * (if off κ ≤ R.val then k (back R κ) (lane h d) else 0) : ℝ) : EReal) := by
    intro κ
    have e5 : idx_main_v114 (ix4 (0 : Fin 1) h R d) κ = ix5 0 h R κ d := by
      funext a; match a with | ⟨0, _⟩ => rfl | ⟨1, _⟩ => rfl | ⟨2, _⟩ => rfl | ⟨3, _⟩ => rfl | ⟨4, _⟩ => rfl
    rw [e5, val_main_v113_apply, offGrad_spread, keys_gathered, EReal.coe_mul]
    rfl
  rw [Finset.sum_congr rfl fun κ _ => e κ, sum_coe]
  refine (congrArg (· + _) const_zero).trans ?_
  rw [← EReal.coe_add, zero_add]
  refine congrArg Real.toEReal ?_
  have e' : ∀ κ, offGrad q k v g h R κ * (if off κ ≤ R.val then k (back R κ) (lane h d) else 0)
      = offVal R κ (fun C => Real.exp (score q k h R C) / total q k h R * (gradProb v g h R C - meanGrad q k v g h R)
          * k C (lane h d)) := by
    intro κ
    unfold offVal
    by_cases hle : off κ ≤ R.val
    · rw [if_pos hle, if_pos hle, times_offGrad q k v g h R κ hle]
    · rw [if_neg hle, if_neg hle, mul_zero]
  rw [Finset.sum_congr rfl fun κ _ => e' κ, sum_offVal]
  unfold gradQ
  rw [headOf_lane]
  refine Finset.sum_congr rfl fun C _ => ?_
  rw [← times_gradScore]
  ring

theorem gradQ_sum_read : val_main_v116 (F := Ideal) (arr q) (arr k) (arr v) (arr g) (ix3 h R d)
    = ((gradQ q k v g R (lane h d) : ℝ) : EReal) := by
  unfold val_main_v116
  refine (reduce_one reducesTo_S1x16x2048x1x64_S16x2048x64_d0_3 _ _ (ix3 h R d) (ix5 0 h R 0 d) (fun i' => ⟨fun H => ?_, ?_⟩)).trans ?_
  · funext a
    apply Fin.ext
    match a with
    | ⟨0, _⟩ => have h0 : (i' 0).val < 1 := (i' 0).isLt; exact Nat.lt_one_iff.1 h0
    | ⟨1, _⟩ => exact congrArg Fin.val (congrFun H 0)
    | ⟨2, _⟩ => exact congrArg Fin.val (congrFun H 1)
    | ⟨3, _⟩ => have h4 : (i' 3).val < 1 := (i' 3).isLt; exact Nat.lt_one_iff.1 h4
    | ⟨4, _⟩ => exact congrArg Fin.val (congrFun H 2)
  · rintro rfl
    funext a; match a with | ⟨0, _⟩ => rfl | ⟨1, _⟩ => rfl | ⟨2, _⟩ => rfl
  · rw [val_main_v115_apply]
    have e : idx_main_v115 (ix5 (0 : Fin 1) h R (0 : Fin 1) d) = ix4 0 h R d := by
      funext a
      apply Fin.ext
      have h1 := h.isLt; have h2 := R.isLt; have h3 := d.isLt
      match a with
      | ⟨0, _⟩ => rfl
      | ⟨1, _⟩ => show ((((0 * 16 + h.val) * 2048 + R.val) * 1 + 0) * 64 + d.val) / 131072 % 16 = h.val; omega
      | ⟨2, _⟩ => show ((((0 * 16 + h.val) * 2048 + R.val) * 1 + 0) * 64 + d.val) / 64 % 2048 = R.val; omega
      | ⟨3, _⟩ => show ((((0 * 16 + h.val) * 2048 + R.val) * 1 + 0) * 64 + d.val) % 64 = d.val; omega
    rw [e, gradQ_heads_read]
    refine (congrArg (· + _) const_zero).trans ?_
    rw [← EReal.coe_add, zero_add]

/-- The reference's first result. -/
theorem gradQ_read (l : Fin 1024) : val_main_v131 (F := Ideal) (arr q) (arr k) (arr v) (arr g) (ix2 R l)
    = ((gradQ q k v g R l : ℝ) : EReal) := by
  rw [val_main_v131_apply, val_main_v128_apply]
  have e : idx_main_v128 (idx_main_v131 (ix2 R l)) = ix4 0 (headOf l) R (place l) := by
    refine join_index R l _ ?_ ?_ ?_ ?_
    · rfl
    · show ((R.val * 1024 + l.val) / 64) % 16 = _; omega
    · show ((R.val * 1024 + l.val) / 1024) % 2048 = _; omega
    · show (R.val * 1024 + l.val) % 64 = _; omega
  rw [e, val_main_v117_apply]
  have e3 : idx_main_v117 (ix4 (0 : Fin 1) (headOf l) R (place l)) = ix3 (headOf l) R (place l) := by
    funext a; match a with | ⟨0, _⟩ => rfl | ⟨1, _⟩ => rfl | ⟨2, _⟩ => rfl
  rw [e3, gradQ_sum_read, lane_headOf]

/-! ## The gradients of the keys and the values: the scattered sums -/

/-- A scattered sum over zeros, read at the row of key `C`. -/
theorem scattered (z : S1x16x4096x64.Idx → EReal) (hz : ∀ i, z i = ((0 : ℝ) : EReal)) (idx : IVec S2048x387x1 32)
    (hi : ∀ R κ, idx (ix3 R κ 0) = BitVec.ofNat 32 (R.val + 2048 - off κ)) (u : S1x16x2048x387x64.Idx → EReal)
    (w : Fin 2048 → Fin 387 → ℝ) (f : Fin 2048 → ℝ) (hu : ∀ R κ, u (ix5 0 h R κ d) = ((w R κ : ℝ) : EReal))
    (hw : ∀ R κ, off κ + C.val = R.val → w R κ = f R) :
    Host.scatterAdd (F := Ideal) (φ := .f32) scatter_S1x16x4096x64_S2048x387x1_S1x16x2048x387x64_014_2_2_2 z idx u
        (ix4 0 h ⟨C.val + 2048, by omega⟩ d)
      = ((∑ R, times R C * f R : ℝ) : EReal) := by
  rw [scatter_read, hz, ← sum_arrivals C f]
  have e : ∀ R κ, (if (idx (ix3 R κ 0)).toInt = ((⟨C.val + 2048, by omega⟩ : Fin 4096).val : ℤ) then u (ix5 0 h R κ d) else 0)
      = (((if off κ + C.val = R.val then f R else 0 : ℝ)) : EReal) := by
    intro R κ
    have h1 := off_le κ
    have h2 := R.isLt
    rw [hi, toInt_small _ (by omega)]
    by_cases hc : off κ + C.val = R.val
    · rw [if_pos (by show ((R.val + 2048 - off κ : ℕ) : ℤ) = ((C.val + 2048 : ℕ) : ℤ); omega), if_pos hc, hu, hw R κ hc]
    · rw [if_neg (by show ¬((R.val + 2048 - off κ : ℕ) : ℤ) = ((C.val + 2048 : ℕ) : ℤ); omega), if_neg hc, EReal.coe_zero]
  rw [Finset.sum_congr rfl fun R _ => (Finset.sum_congr rfl fun κ _ => e R κ).trans (sum_coe _ _), sum_coe, ← EReal.coe_add, zero_add]

theorem back_of (hc : off κ + C.val = R.val) : back R κ = C := Fin.ext (by show R.val - off κ = C.val; omega)

theorem gradV_heads_read : val_main_v119 (F := Ideal) (arr q) (arr k) (arr g) (ix4 0 h ⟨C.val + 2048, by omega⟩ d)
    = ((gradV q k g C (lane h d) : ℝ) : EReal) := by
  unfold val_main_v119
  refine (scattered h C d _ (fun i => ?_) _ (fun R κ => valueRow_read R κ) _
    (fun R κ => offProb q k h R κ * g R (lane h d)) (fun R => Real.exp (score q k h R C) / total q k h R * g R (lane h d))
    (fun R κ => ?_) (fun R κ hc => ?_)).trans ?_
  · rw [val_main_v118_apply, val_main_cst_30_apply]; exact const_zero
  · rw [val_main_v90_apply, grad_spread, val_main_v89_apply, val_main_v80_apply]
    have e4 : idx_main_v80 (idx_main_v89 (ix5 (0 : Fin 1) h R κ d)) = ix4 0 h R κ := by
      funext a; match a with | ⟨0, _⟩ => rfl | ⟨1, _⟩ => rfl | ⟨2, _⟩ => rfl | ⟨3, _⟩ => rfl
    rw [e4, prob_read, EReal.coe_mul]
    rfl
  · show offProb q k h R κ * g R (lane h d) = _
    unfold offProb
    rw [if_pos (by omega), back_of R C κ hc]
  · congr 1
    unfold gradV
    rw [headOf_lane]
    refine Finset.sum_congr rfl fun R _ => ?_
    unfold prob weight
    ring

theorem gradK_heads_read : val_main_v121 (F := Ideal) (arr q) (arr k) (arr v) (arr g) (ix4 0 h ⟨C.val + 2048, by omega⟩ d)
    = ((gradK q k v g C (lane h d) : ℝ) : EReal) := by
  unfold val_main_v121
  refine (scattered h C d _ (fun i => ?_) _ (fun R κ => keyRow_read R κ) _
    (fun R κ => q R (lane h d) * offGrad q k v g h R κ)
    (fun R => Real.exp (score q k h R C) / total q k h R * (gradProb v g h R C - meanGrad q k v g h R) * q R (lane h d))
    (fun R κ => ?_) (fun R κ hc => ?_)).trans ?_
  · rw [val_main_v120_apply, val_main_cst_31_apply]; exact const_zero
  · rw [val_main_v112_apply, offGrad_spread, val_main_v111_apply, val_main_v45_apply]
    have e4 : idx_main_v45 (idx_main_v111 (ix5 (0 : Fin 1) h R κ d)) = ix4 0 h R d := by
      funext a; match a with | ⟨0, _⟩ => rfl | ⟨1, _⟩ => rfl | ⟨2, _⟩ => rfl | ⟨3, _⟩ => rfl
    rw [e4, query_read, EReal.coe_mul]
    rfl
  · show q R (lane h d) * offGrad q k v g h R κ = _
    rw [times_offGrad q k v g h R κ (by omega), back_of R C κ hc, mul_comm]
  · congr 1
    unfold gradK
    rw [headOf_lane]
    refine Finset.sum_congr rfl fun R _ => ?_
    rw [← times_gradScore]
    ring

/-- The reference's third result. -/
theorem gradV_read (l : Fin 1024) : val_main_v129 (F := Ideal) (arr q) (arr k) (arr g) (ix2 C l)
    = ((gradV q k g C l : ℝ) : EReal) := by
  rw [val_main_v129_apply, val_main_v124_apply]
  have e : idx_main_v124 (idx_main_v129 (ix2 C l)) = ix4 0 (headOf l) C (place l) := by
    refine join_index C l _ ?_ ?_ ?_ ?_
    · rfl
    · show ((C.val * 1024 + l.val) / 64) % 16 = _; omega
    · show ((C.val * 1024 + l.val) / 1024) % 2048 = _; omega
    · show (C.val * 1024 + l.val) % 64 = _; omega
  rw [e, val_main_v123_apply]
  have e4 : idx_main_v123 (ix4 (0 : Fin 1) (headOf l) C (place l)) = ix4 0 (headOf l) ⟨C.val + 2048, by omega⟩ (place l) := by
    funext a
    apply Fin.ext
    match a with
    | ⟨0, _⟩ => rfl
    | ⟨1, _⟩ => first | rfl | exact Nat.add_zero _ | exact Nat.zero_add _
    | ⟨2, _⟩ => first | rfl | exact Nat.add_comm _ _
    | ⟨3, _⟩ => first | rfl | exact Nat.add_zero _ | exact Nat.zero_add _
  rw [e4, gradV_heads_read, lane_headOf]

/-- The reference's second result. -/
theorem gradK_read (l : Fin 1024) : val_main_v130 (F := Ideal) (arr q) (arr k) (arr v) (arr g) (ix2 C l)
    = ((gradK q k v g C l : ℝ) : EReal) := by
  rw [val_main_v130_apply, val_main_v127_apply]
  have e : idx_main_v127 (idx_main_v130 (ix2 C l)) = ix4 0 (headOf l) C (place l) := by
    refine join_index C l _ ?_ ?_ ?_ ?_
    · rfl
    · show ((C.val * 1024 + l.val) / 64) % 16 = _; omega
    · show ((C.val * 1024 + l.val) / 1024) % 2048 = _; omega
    · show (C.val * 1024 + l.val) % 64 = _; omega
  rw [e, val_main_v126_apply]
  have e4 : idx_main_v126 (ix4 (0 : Fin 1) (headOf l) C (place l)) = ix4 0 (headOf l) ⟨C.val + 2048, by omega⟩ (place l) := by
    funext a
    apply Fin.ext
    match a with
    | ⟨0, _⟩ => rfl
    | ⟨1, _⟩ => first | rfl | exact Nat.add_zero _ | exact Nat.zero_add _
    | ⟨2, _⟩ => first | rfl | exact Nat.add_comm _ _
    | ⟨3, _⟩ => first | rfl | exact Nat.add_zero _ | exact Nat.zero_add _
  rw [e4, gradK_heads_read, lane_headOf]

end Cert.Attn

end
-- ==== Proof.Equation.lean ====
/- The kernel's three results and the reference's are the same arrays. -/
module

public import proofs.«01_k».proof.Proof.Array
public import proofs.«01_k».proof.Proof.Finite
public import proofs.«01_k».proof.Proof.RefBackward
public import proofs.«01_k».proof.Proof.Gen.ReferenceIdeal.Run

@[expose] public section

set_option maxRecDepth 16384

noncomputable section

namespace Cert.Attn

open Idealize.ShloMosaic hiding ix1 ix2 ix3 ix4 ix5
open Idealize.ShloMosaic.ValueIdx
open Idealize.ShloMosaic.TcCoe
open Idealize.SL Idealize.SL.Sem
open Cert.ReferenceIdeal.Read

local notation "𝓘" => Idealize.ShloMosaic.Ideal

/-! ## The reference's results as arrays -/

section
variable (q k v g : Arr) (a b x y : FVec 𝓘 Cert.ReferenceIdeal.S2048x1024 .f32)
  (hq : a = arr q) (hk : b = arr k) (hv : x = arr v) (hg : y = arr g)

include hq hk hv hg in
theorem result_queries : val_main_v131 (F := 𝓘) a b x y = arr (gradQ q k v g) := by
  subst_vars
  funext i
  rw [← ix2_eta i]
  exact gradQ_read q k v g (i 0) (i 1)

include hq hk hv hg in
theorem result_keys : val_main_v130 (F := 𝓘) a b x y = arr (gradK q k v g) := by
  subst_vars
  funext i
  rw [← ix2_eta i]
  exact gradK_read q k v g (i 0) (i 1)

include hq hk hg in
theorem result_values : val_main_v129 (F := 𝓘) a b y = arr (gradV q k g) := by
  subst_vars
  funext i
  rw [← ix2_eta i]
  exact gradV_read q k g (i 0) (i 1)

end

/-! ## The equation -/

theorem equal_gradients : Cert.algebraic_KernelIdeal_ReferenceIdeal_pre_finite (hKernelIdeal := Cert.KernelIdeal.Gen.facts)
    (hReferenceIdeal := Cert.ReferenceIdeal.Gen.facts) (hPre_finite := finite_facts) := by
  intro m ρ m' ρ' hpre hag
  have hr := fun c => finite_reals finite_facts _ _ _ _ (hpre c)
  refine ⟨fun c => arr (gradQ (reals (argQ m c)) (reals (argK m c)) (reals (argV m c)) (reals (argG m c))),
    fun c => arr (gradK (reals (argQ m c)) (reals (argK m c)) (reals (argV m c)) (reals (argG m c))),
    fun c => arr (gradV (reals (argQ m c)) (reals (argK m c)) (reals (argG m c))), ?_, ?_⟩
  · refine (θ_run Cert.KernelIdeal.defs _ _).mono (fun r h c => ?_) (Cert.KernelIdeal.Value.run_blocks m ρ)
    obtain ⟨hq, hk, hv, hg⟩ := hr c
    obtain ⟨h7, h8, h9, h⟩ := h c
    exact ⟨h7.trans (array_queries m c _ _ _ _ hq hk hv hg), h8.trans (array_keys m c _ _ _ _ hq hk hv hg),
      h9.trans (array_values m c _ _ _ _ hq hk hv hg), h⟩
  · refine (θ_run Cert.ReferenceIdeal.defs _ _).mono (fun r h c => ?_) (Cert.ReferenceIdeal.Value.run m' ρ')
    obtain ⟨hq, hk, hv, hg⟩ := hr c
    obtain ⟨aq, ak, av, ag⟩ := hag c
    obtain ⟨h131, h130, h129, h⟩ := h c
    refine ⟨h131.trans ((val_main_v131_eq m' c).trans ?_), h130.trans ((val_main_v130_eq m' c).trans ?_),
      h129.trans ((val_main_v129_eq m' c).trans ?_), h⟩
    · exact result_queries _ _ _ _ _ _ _ _ (aq.trans hq) (ak.trans hk) (av.trans hv) (ag.trans hg)
    · exact result_keys _ _ _ _ _ _ _ _ (aq.trans hq) (ak.trans hk) (av.trans hv) (ag.trans hg)
    · exact result_values _ _ _ _ _ _ (aq.trans hq) (ak.trans hk) (ag.trans hg)

end Cert.Attn

end
-- ==== Proof.Tiles.lean ====
/- What the tiled products share, whatever their shapes: a product of two blocks read at an index, a whole block loaded
   or stored, and a long sum cut into equal runs. -/
module

public import Idealize.ShloMosaic.Lib.Pipeline.Value
public import Idealize.ShloMosaic.Lib.ValueIdx
public import Idealize.ShloMosaic.Lib.WritesUnit
public import Idealize.ShloMosaic.PureOps.Ideal.Laws

@[expose] public section

noncomputable section

namespace Cert.Tiles

open Idealize.ShloMosaic
open Idealize.ShloMosaic.ValueIdx
open Idealize.ShloMosaic.TcCoe

local notation "𝓘" => Idealize.ShloMosaic.Ideal

theorem off2 : (![0, 0] : Fin 2 → ℕ) = fun _ => 0 := by
  funext a; match a with | ⟨0, _⟩ => rfl | ⟨1, _⟩ => rfl

theorem off3 : (![0, 0, 0] : Fin 3 → ℕ) = fun _ => 0 := by
  funext a; match a with | ⟨0, _⟩ => rfl | ⟨1, _⟩ => rfl | ⟨2, _⟩ => rfl

/-- A product of two blocks over one axis of extent `n`, at an index: the caller names where each operand is read. -/
theorem product_at {sa sb so : Shape} (d : DotDims sa sb so) (n : ℕ) (hr : d.contr.rank = 1)
    (hs : d.contr.size ⟨0, by omega⟩ = n) (A : FVec 𝓘 sa .bf16) (B : FVec 𝓘 sb .bf16) (i : so.Idx) (l : Fin n → sa.Idx)
    (r : Fin n → sb.Idx) (hl : ∀ k, d.lhsIdx i ((contrEquiv1 d n hr hs).symm k) = l k)
    (hr' : ∀ k, d.rhsIdx i ((contrEquiv1 d n hr hs).symm k) = r k) :
    (matmul d none A B (constant so .f32 0x00000000#32) : FVec 𝓘 so .f32) i = ∑ k : Fin n, A (l k) * B (r k) := by
  refine (Ideal.matmul_constant_zero_apply d none A B i).trans ?_
  rw [← Equiv.sum_comp (contrEquiv1 d n hr hs).symm]
  exact Finset.sum_congr rfl fun k _ => by rw [hl, hr']

/-- A whole block, loaded. -/
theorem load_all {sig : RefSig} {S : Shape} {e : EltTy} (a : Memref sig .tc .vmem S e) (h : a.IsWhole) (X : Vec 𝓘 S e)
    (off : Fin S.rank → ℕ) (h0 : off = fun _ => 0) (inb : ∀ d, off d + S.size d ≤ S.size d) :
    View.readAt (Elt 𝓘) a.view (Rect.unit (s := S) off S.size inb).toLoadRect (h.unread X) = X := by
  rw [View.readAt_eq_ld, h.read_unread]
  exact View.ld_unit_zero h0 inb X

/-- A whole block, stored. -/
theorem store_all {sig : RefSig} {κ : Kind} {sp : Space} {S : Shape} {e : EltTy} (a : View sig κ sp S e)
    (f : a.ty.Contents (Elt 𝓘)) (w : Vec 𝓘 S e) (off : Fin S.rank → ℕ) (h0 : off = fun _ => 0)
    (inb : ∀ d, off d + S.size d ≤ S.size d) (L : List (View.Piece (Elt 𝓘) S e)) :
    a.read (Elt 𝓘) (a.writes (Elt 𝓘) f (⟨Rect.unit (s := S) off S.size inb, w⟩ :: L)) = w :=
  funext fun y => View.read_writes_cons_unit_of_mem a f inb w L y y h0 fun d => (Nat.zero_add _).symm

/-- A whole block, loaded after it was stored. -/
theorem load_stored {sig : RefSig} {κ : Kind} {sp : Space} {S : Shape} {e : EltTy} (a : View sig κ sp S e) (w : Vec 𝓘 S e)
    (off : Fin S.rank → ℕ) (h0 : off = fun _ => 0) (inb inb' : ∀ d, off d + S.size d ≤ S.size d) (L : List (View.Piece (Elt 𝓘) S e)) :
    a.readCov (⟨Rect.unit (s := S) off S.size inb', w⟩ :: L) (Rect.unit (s := S) off S.size inb).toLoadRect = w := by
  unfold View.readCov
  rw [View.readAt_eq_ld, store_all a _ w off h0 inb' L]
  exact View.ld_unit_zero h0 inb w

/-! ## Blocks stacked along a leading axis -/

section
variable {α : Type}

/-- A run of columns of a matrix, stored as a block with a leading unit axis. -/
theorem columns_stacked {R W C : ℕ} (o : ℕ) (P : (⟨2, ![R, W]⟩ : Shape).Idx → α)
    (hs : (⟨2, ![R, W]⟩ : Shape).Slices ![0, o] ⟨2, ![R, C]⟩) (hc : (⟨2, ![R, C]⟩ : Shape).ShapeCasts ⟨3, ![1, R, C]⟩) (r : Fin R)
    (e : Fin C) (he : o + e.val < W) :
    shapeCast ⟨3, ![1, R, C]⟩ (extractStridedSlice ⟨2, ![R, C]⟩ ![0, o] P hs) hc (ix3 (0 : Fin 1) r e) = P (ix2 r ⟨o + e.val, he⟩) := by
  refine (shapeCast_addUnit_apply ![R, C] _ hc (ix3 (0 : Fin 1) r e)).trans ?_
  refine extractStridedSlice_apply ![0, o] P hs _ (ix2 r ⟨o + e.val, he⟩) fun a => ?_
  match a with
  | ⟨0, _⟩ => exact (Nat.zero_add _).symm
  | ⟨1, _⟩ => rfl

/-- A block with a leading unit axis, the axis dropped. -/
theorem unstacked {R C : ℕ} (v : (⟨3, ![1, R, C]⟩ : Shape).Idx → α) (h : (⟨3, ![1, R, C]⟩ : Shape).ShapeCasts ⟨2, ![R, C]⟩) (r : Fin R)
    (e : Fin C) : shapeCast ⟨2, ![R, C]⟩ v h (ix2 r e) = v (ix3 (0 : Fin 1) r e) :=
  (shapeCast_dropUnit_apply ![R, C] v h (ix2 r e)).trans (congrArg v (funext fun a => by
    match a with | ⟨0, _⟩ => rfl | ⟨1, _⟩ => rfl | ⟨2, _⟩ => rfl))

/-- A matrix, stored as a block with a leading unit axis. -/
theorem stacked {R C : ℕ} (v : (⟨2, ![R, C]⟩ : Shape).Idx → α) (h : (⟨2, ![R, C]⟩ : Shape).ShapeCasts ⟨3, ![1, R, C]⟩) (r : Fin R)
    (e : Fin C) : shapeCast ⟨3, ![1, R, C]⟩ v h (ix3 (0 : Fin 1) r e) = v (ix2 r e) :=
  (shapeCast_addUnit_apply ![R, C] v h (ix3 (0 : Fin 1) r e)).trans (congrArg v (funext fun a => by
    match a with | ⟨0, _⟩ => rfl | ⟨1, _⟩ => rfl))

/-- Two blocks side by side: a column of the pair is a column of the first or of the second. -/
theorem pair_columns {R W C : ℕ} (v0 v1 : (⟨2, ![R, C]⟩ : Shape).Idx → α)
    (h : Shape.Concatenates [(⟨2, ![R, C]⟩ : Shape), ⟨2, ![R, C]⟩] ⟨2, ![R, W]⟩ 1) (X : Fin 2 → Fin R → Fin C → α)
    (hv0 : ∀ r e, v0 (ix2 r e) = X 0 r e) (hv1 : ∀ r e, v1 (ix2 r e) = X 1 r e) (r : Fin R) (w : Fin W) (b : Fin 2) (e : Fin C)
    (hw : w.val = b.val * C + e.val) :
    concatenate ⟨2, ![R, W]⟩ 1 [⟨⟨2, ![R, C]⟩, v0⟩, ⟨⟨2, ![R, C]⟩, v1⟩] h (ix2 r w) = X b r e := by
  match b, hw with
  | ⟨0, _⟩, hw =>
    refine (concatenate_pair_apply_left 1 v0 v1 h (ix2 r w) rfl (ix2 r e) fun a => ?_).trans (hv0 r e)
    match a with
    | ⟨0, _⟩ => rfl
    | ⟨1, _⟩ => show e.val = w.val; rw [hw, Nat.zero_mul, Nat.zero_add]
  | ⟨1, _⟩, hw =>
    refine (concatenate_pair_apply_right 1 v0 v1 h (ix2 r w) rfl rfl (ix2 r e) (fun a ha => ?_) ?_).trans (hv1 r e)
    · match a with
      | ⟨0, _⟩ => rfl
      | ⟨1, _⟩ => exact absurd rfl ha
    · show e.val + C = w.val
      rw [hw, Nat.one_mul, Nat.add_comm]

end

/-- One of the stacked blocks, loaded. -/
theorem load_part {sig : RefSig} {N R C : ℕ} {e : EltTy} (a : Memref sig .tc .vmem ⟨3, ![N, R, C]⟩ e) (h : a.IsWhole)
    (X : Vec 𝓘 ⟨3, ![N, R, C]⟩ e) (b : Fin N) (off : Fin 3 → ℕ) (h0 : off = ![b.val, 0, 0])
    (inb : ∀ d, off d + (⟨3, ![1, R, C]⟩ : Shape).size d ≤ (⟨3, ![N, R, C]⟩ : Shape).size d) (r : Fin R) (x : Fin C) :
    (View.readAt (Elt 𝓘) a.view (Rect.unit (s := ⟨3, ![N, R, C]⟩) off (⟨3, ![1, R, C]⟩ : Shape).size inb).toLoadRect (h.unread X)
      : Vec 𝓘 ⟨3, ![1, R, C]⟩ e) (ix3 (0 : Fin 1) r x) = X (ix3 b r x) := by
  subst h0
  rw [View.readAt_eq_ld, h.read_unread]
  refine congrArg X (funext fun d => Fin.ext ?_)
  match d with
  | ⟨0, _⟩ => show b.val + 1 * 0 = b.val; omega
  | ⟨1, _⟩ => show 0 + 1 * r.val = r.val; omega
  | ⟨2, _⟩ => show 0 + 1 * x.val = x.val; omega

/-- Two blocks stored one over the other: each is read where it lies. -/
theorem store_pair {sig : RefSig} {κ : Kind} {sp : Space} {R C : ℕ} {e : EltTy} (a : View sig κ sp ⟨3, ![2, R, C]⟩ e)
    (f : a.ty.Contents (Elt 𝓘)) (w0 w1 : Vec 𝓘 ⟨3, ![1, R, C]⟩ e)
    (inb0 : ∀ d, (![0, 0, 0] : Fin 3 → ℕ) d + (⟨3, ![1, R, C]⟩ : Shape).size d ≤ (⟨3, ![2, R, C]⟩ : Shape).size d)
    (inb1 : ∀ d, (![1, 0, 0] : Fin 3 → ℕ) d + (⟨3, ![1, R, C]⟩ : Shape).size d ≤ (⟨3, ![2, R, C]⟩ : Shape).size d)
    (b : Fin 2) (r : Fin R) (x : Fin C) (v : Elt 𝓘 e) (hv0 : b.val = 0 → w0 (ix3 (0 : Fin 1) r x) = v)
    (hv1 : b.val = 1 → w1 (ix3 (0 : Fin 1) r x) = v) :
    a.read (Elt 𝓘) (a.writes (Elt 𝓘) f
      [⟨Rect.unit (s := ⟨3, ![2, R, C]⟩) ![1, 0, 0] (⟨3, ![1, R, C]⟩ : Shape).size inb1, w1⟩,
        ⟨Rect.unit (s := ⟨3, ![2, R, C]⟩) ![0, 0, 0] (⟨3, ![1, R, C]⟩ : Shape).size inb0, w0⟩]) (ix3 b r x) = v := by
  match b, hv0, hv1 with
  | ⟨0, _⟩, hv0, _ =>
    refine (View.read_writes_cons_unit_of_not_mem a f inb1 w1 _ _ rfl 0 (Or.inl Nat.zero_lt_one)).trans ?_
    refine (View.read_writes_cons_unit_of_mem a f inb0 w0 [] _ (ix3 (0 : Fin 1) r x) rfl fun d => ?_).trans (hv0 rfl)
    match d with
    | ⟨0, _⟩ => rfl
    | ⟨1, _⟩ => exact (Nat.zero_add _).symm
    | ⟨2, _⟩ => exact (Nat.zero_add _).symm
  | ⟨1, _⟩, _, hv1 =>
    refine (View.read_writes_cons_unit_of_mem a f inb1 w1 _ _ (ix3 (0 : Fin 1) r x) rfl fun d => ?_).trans (hv1 rfl)
    match d with
    | ⟨0, _⟩ => rfl
    | ⟨1, _⟩ => exact (Nat.zero_add _).symm
    | ⟨2, _⟩ => exact (Nat.zero_add _).symm

/-! ## A long sum in runs -/

/-- A sum over `4 * n` places as four runs of `n`. -/
theorem sum_runs (n : ℕ) (f : Fin (4 * n) → EReal) :
    ∑ k, f k = ∑ j : Fin 4, ∑ k : Fin n, f ⟨j.val * n + k.val, by
      have := j.isLt; have := k.isLt; have : (j.val + 1) * n ≤ 4 * n := Nat.mul_le_mul_right n (by omega)
      have : (j.val + 1) * n = j.val * n + n := Nat.succ_mul _ _; omega⟩ := by
  rw [← Equiv.sum_comp (finProdFinEquiv (m := 4) (n := n)), Fintype.sum_prod_type]
  exact Finset.sum_congr rfl fun j _ => Finset.sum_congr rfl fun k _ => congrArg f (Fin.ext (by
    show k.val + n * j.val = j.val * n + k.val
    rw [Nat.mul_comm, Nat.add_comm]))

end Cert.Tiles

end
-- ==== Proof.Product2.lean ====
/- The even layer's gradient of its input weight: the product over the rows of the layer's input and the gradient of
   its projections, the columns in eight blocks, two a grid point; and the reference's. -/
module

public import proofs.«01_k».proof.Defs
public import proofs.«01_k».proof.Proof.Tiles
public import proofs.«01_k».proof.Proof.Gen.Kernel2Ideal.Value
public import proofs.«01_k».proof.Proof.Gen.Reference2Ideal.Read
public import proofs.«01_k».proof.Proof.Gen.Reference2Ideal
public import Idealize.ShloMosaic.Lib.StableHlo.ReadAt

@[expose] public section

set_option maxRecDepth 16384

noncomputable section

namespace Cert.Product2

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel2Ideal Cert.Kernel2Ideal.Gen
open Cert.Reference2Ideal.Read

local notation "𝓘" => Idealize.ShloMosaic.Ideal

/-- The whole product, its columns in eight blocks. -/
def product (X : FVec 𝓘 S2048x1024 .f32) (Y : FVec 𝓘 S2048x5120 .f32) : FVec 𝓘 S8x1024x640 .bf16 :=
  fun i => ∑ k : Fin 2048, X (ix2 k (i 1)) * Y (ix2 k ⟨(i 0).val * 640 + (i 2).val, by
    have h0 : (i 0).val < 8 := (i 0).isLt
    have h2 : (i 2).val < 640 := (i 2).isLt
    omega⟩)

/-! ## One grid point -/

/-- The product of two blocks. -/
theorem dot_at (A : FVec 𝓘 S2048x1024 .bf16) (B : FVec 𝓘 S2048x1280 .bf16) (r : Fin 1024) (e : Fin 1280) :
    (matmul dot_S2048x1024_S2048x1280_S1024x1280_0_0_1_1_n_n none A B (constant S1024x1280 .f32 0x00000000#32) : FVec 𝓘 S1024x1280 .f32) (ix2 r e)
      = ∑ k : Fin 2048, A (ix2 k r) * B (ix2 k e) :=
  product_at _ 2048 rfl rfl A B (ix2 r e) (fun k => ix2 k r) (fun k => ix2 k e)
    (fun k => funext fun a => Fin.ext (by
      have hk := contrEquiv1_symm_val dot_S2048x1024_S2048x1280_S1024x1280_0_0_1_1_n_n 2048 rfl rfl k
      match a with | ⟨0, _⟩ => exact hk | ⟨1, _⟩ => rfl))
    (fun k => funext fun a => Fin.ext (by
      have hk := contrEquiv1_symm_val dot_S2048x1024_S2048x1280_S1024x1280_0_0_1_1_n_n 2048 rfl rfl k
      match a with | ⟨0, _⟩ => exact hk | ⟨1, _⟩ => rfl))

section
variable (c : Dev nD) (i : grid0.Coords) (arg3 : Memref sig .tc .vmem S2048x1024 .bf16) (harg3 : arg3.IsWhole)
  (arg4 : Memref sig .tc .vmem S2048x1280 .bf16) (harg4 : arg4.IsWhole) (arg5 : Memref sig .tc .vmem S2x1024x640 .bf16) (harg5 : arg5.IsWhole)
  (arg6 : Memref sig .tc .vmem S8x128 .f32) (harg6 : arg6.IsWhole) (x0 : Vec 𝓘 S2048x1024 .bf16) (x1 : Vec 𝓘 S2048x1280 .bf16)

theorem out_at (b : Fin 2) (r : Fin 1024) (e : Fin 640) :
    out0_A_2 (F := 𝓘) c i arg3 harg3 arg4 harg4 arg5 harg5 arg6 harg6 x0 x1 (ix3 b r e)
      = ∑ k : Fin 2048, x0 (ix2 k r) * x1 (ix2 k ⟨b.val * 640 + e.val, by have := b.isLt; have := e.isLt; omega⟩) := by
  unfold out0_A_2 kernelRun0_A; dsimp only; sl_unfold_words
  simp only [load_all (S := S2048x1024) arg3 harg3 x0 _ off2, load_all (S := S2048x1280) arg4 harg4 x1 _ off2, k0_pay2, k0_pay3, k0_pay1, shapeCast_self]
  refine store_pair _ _ _ _ _ _ b r e _ (fun hb => ?_) (fun hb => ?_)
  · have he : 0 + e.val < 1280 := by have := e.isLt; omega
    refine (columns_stacked 0 (matmul dot_S2048x1024_S2048x1280_S1024x1280_0_0_1_1_n_n none x0 x1 (constant S1024x1280 .f32 0x00000000#32) : FVec 𝓘 S1024x1280 .f32) slices_S1024x1280_o0_0_S1024x640 shapeCasts_S1024x640_S1x1024x640 r e he).trans ((dot_at x0 x1 r _).trans (Finset.sum_congr rfl fun k _ => ?_))
    refine congrArg (fun z => x0 (ix2 k r) * x1 (ix2 k z)) (Fin.ext ?_)
    show 0 + e.val = b.val * 640 + e.val
    omega
  · have he : 640 + e.val < 1280 := by have := e.isLt; omega
    refine (columns_stacked 640 (matmul dot_S2048x1024_S2048x1280_S1024x1280_0_0_1_1_n_n none x0 x1 (constant S1024x1280 .f32 0x00000000#32) : FVec 𝓘 S1024x1280 .f32) slices_S1024x1280_o0_640_S1024x640 shapeCasts_S1024x640_S1x1024x640 r e he).trans ((dot_at x0 x1 r _).trans (Finset.sum_congr rfl fun k _ => ?_))
    refine congrArg (fun z => x0 (ix2 k r) * x1 (ix2 k z)) (Fin.ext ?_)
    show 640 + e.val = b.val * 640 + e.val
    omega

end

/-! ## The blocks of the arrays -/

theorem where_0 : ∀ t : Fin cfg0.N, win0_0.index t 0 = 0 ∧ win0_0.index t 1 = 0 :=
  (by decide +kernel : ∀ t : Fin grid0.N, win0_0.index t 0 = 0 ∧ win0_0.index t 1 = 0)
theorem where_1 : ∀ t : Fin cfg0.N, win0_1.index t 0 = 0 ∧ win0_1.index t 1 = t.val :=
  (by decide +kernel : ∀ t : Fin grid0.N, win0_1.index t 0 = 0 ∧ win0_1.index t 1 = t.val)
theorem where_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 1024) (u : S2048x1024.Idx)
    (h0 : (u 0).val = r.val) (h1 : (u 1).val = e.val) :
    ((cfg0.win 0).blk t).view.read (Elt 𝓘) X (ix2 r e : S2048x1024.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v1)) (r : Fin 2048) (e : Fin 1280) (u : S2048x5120.Idx)
    (h0 : (u 0).val = r.val) (h1 : (u 1).val = t.val * 1280 + e.val) :
    ((cfg0.win 1).blk t).view.read (Elt 𝓘) X (ix2 r e : S2048x1280.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 1280 + 1 * e.val = (u 1).val; rw [w1, h1]; omega

/-! ## What the launch is handed -/

/-- The two arguments. -/
def left : FVec 𝓘 S2048x1024 .f32 := m ((c : Thread nD τ).loc main_arg0)
def right : FVec 𝓘 S2048x5120 .f32 := m ((c : Thread nD τ).loc main_arg1)

theorem V_left (u : S2048x1024.Idx) : V m c main_v0 u = left m c u := by
  have h : V m c main_v0 = truncf .bf16 (left m c) bitsLt_bf16_f32 := by unfold V; after_reads_simp; rfl
  rw [h]; rfl
theorem V_right (u : S2048x5120.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1, w2⟩ := where_2 t
  rw [Cert.Kernel2Ideal.Value.flushed2_A m c t]
  funext y
  rw [View.read_apply]
  obtain ⟨b, r, e, rfl⟩ : ∃ (b : Fin 2) (r : Fin 1024) (e : Fin 640), y = ix3 b r e := ⟨y 0, y 1, y 2, (ix3_eta y).symm⟩
  refine (out_at c _ _ _ _ _ _ _ _ _ _ _ b r e).trans ?_
  show _ = product (left m c) (right m c) _
  refine Finset.sum_congr rfl fun k _ => congrArg₂ (fun (a b : EReal) => a * b) ?_ ?_
  · refine (window_0 c t (V m c main_v0) k r _ ?_ ?_).trans (V_left m c _)
    · rfl
    · show win0_2.index t 1 * 1024 + 1 * r.val = r.val
      rw [w1]; omega
  · refine (window_1 c t (V m c main_v1) k _ _ ?_ ?_).trans (V_right m c _)
    · rfl
    · show (win0_2.index t 0 * 2 + 1 * b.val) * 640 + (win0_2.index t 2 * 640 + 1 * e.val) = t.val * 1280 + (b.val * 640 + e.val)
      rw [w0, w2]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 8 := (i 0).isLt
    have hi1 : (i 1 : Nat) < 1024 := (i 1).isLt
    have hi2 : (i 2 : Nat) < 640 := (i 2).isLt
    obtain ⟨t, ht⟩ : ∃ t : Fin cfg0.N, t.val = (i 0).val / 2 := ⟨⟨(i 0).val / 2, by rw [show cfg0.N = 4 from N_0]; omega⟩, rfl⟩
    obtain ⟨w0, w1, w2⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 2 ≤ (i 0 : Nat) ∧ (i 0 : Nat) < win0_2.index t 0 * 2 + 2
      rw [w0]; omega
    | ⟨1, _⟩ =>
      show win0_2.index t 1 * 1024 ≤ (i 1 : Nat) ∧ (i 1 : Nat) < win0_2.index t 1 * 1024 + 1024
      rw [w1]; omega
    | ⟨2, _⟩ =>
      show win0_2.index t 2 * 640 ≤ (i 2 : Nat) ∧ (i 2 : Nat) < win0_2.index t 2 * 640 + 640
      rw [w2]; omega

end

/-! ## The reference -/

theorem reference (X : FVec 𝓘 S2048x1024 .f32) (Y : FVec 𝓘 S2048x5120 .f32) : val_main_v6 (F := 𝓘) X Y = product X Y := by
  funext i
  have h0 : (i 0).val < 8 := (i 0).isLt
  have h1 : (i 1).val < 1024 := (i 1).isLt
  have h2 : (i 2).val < 640 := (i 2).isLt
  rw [val_main_v6_apply, val_main_v5_apply, val_main_v4_apply, val_main_v3_apply]
  refine (val_main_v2_apply X Y _).trans (Finset.sum_congr rfl fun k _ => (mul_comm _ _).trans ?_)
  refine congrArg₂ (fun (a b : EReal) => a * b) (congrArg X (funext fun a => Fin.ext ?_)) (congrArg Y (funext fun a => Fin.ext ?_))
  · match a with
    | ⟨0, _⟩ => rfl
    | ⟨1, _⟩ =>
      show (((i 1).val * 8 + (i 0).val) * 640 + (i 2).val) / 5120 = (i 1).val
      omega
  · match a with
    | ⟨0, _⟩ => rfl
    | ⟨1, _⟩ =>
      show (((i 1).val * 8 + (i 0).val) * 640 + (i 2).val) % 5120 = (i 0).val * 640 + (i 2).val
      omega

theorem reference_frame : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run m g)

/-! ## The equation -/

theorem equal : Cert.algebraic_Kernel2Ideal_Reference2Ideal (hKernel2Ideal := Cert.Kernel2Ideal.Gen.facts)
    (hReference2Ideal := Cert.Reference2Ideal.Gen.facts) := by
  intro m ρ m' ρ' _ hag
  refine ⟨fun c => product (left m c) (right m c), ?_, ?_⟩
  · refine (θ_run Cert.Kernel2Ideal.defs _ _).mono (fun r h c => ?_) (Cert.Kernel2Ideal.Value.run_blocks m ρ)
    exact ⟨(h c).1.trans (array m c), (h c).2⟩
  · refine (θ_run Cert.Reference2Ideal.defs _ _).mono (fun r h c => ?_) (Cert.Reference2Ideal.Value.run m' ρ')
    obtain ⟨a0, a1⟩ := hag c
    refine ⟨(h c).1.trans ((val_main_v6_eq _ _).trans ?_), (h c).2⟩
    rw [reference, a0, a1]; rfl

end Cert.Product2

end
-- ==== Proof.Product3.lean ====
/- The even layer's gradient of its input: the gradient of its projections times the input weight transposed, the sum
   over the columns in four runs, a run a grid point; and the reference's. -/
module

public import proofs.«01_k».proof.Defs
public import proofs.«01_k».proof.Proof.Tiles
public import proofs.«01_k».proof.Proof.Gen.Kernel3Ideal.Value
public import proofs.«01_k».proof.Proof.Gen.Reference3Ideal.Read
public import proofs.«01_k».proof.Proof.Gen.Reference3Ideal
public import Idealize.ShloMosaic.Lib.StableHlo.ReadAt

@[expose] public section

set_option maxRecDepth 16384

noncomputable section

namespace Cert.Product3

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel3Ideal Cert.Kernel3Ideal.Gen
open Cert.Reference3Ideal.Read

local notation "𝓘" => Idealize.ShloMosaic.Ideal

/-- The whole product. -/
def product (X : FVec 𝓘 S2048x5120 .f32) (Y : FVec 𝓘 S1024x5120 .f32) : FVec 𝓘 S2048x1024 .f32 :=
  fun i => ∑ k : Fin 5120, X (ix2 (i 0) k) * Y (ix2 (i 1) k)

/-- One of its four runs. -/
def part (X : FVec 𝓘 S2048x5120 .f32) (Y : FVec 𝓘 S1024x5120 .f32) (i : S2048x1024.Idx) (j : Fin 4) : EReal :=
  ∑ k : Fin 1280, X (ix2 (i 0) ⟨j.val * 1280 + k.val, by have := j.isLt; have := k.isLt; omega⟩)
    * Y (ix2 (i 1) ⟨j.val * 1280 + k.val, by have := j.isLt; have := k.isLt; omega⟩)

theorem product_parts (X : FVec 𝓘 S2048x5120 .f32) (Y : FVec 𝓘 S1024x5120 .f32) (i : S2048x1024.Idx) :
    product X Y i = part X Y i 0 + part X Y i 1 + part X Y i 2 + part X Y i 3 :=
  (sum_runs 1280 fun k => X (ix2 (i 0) k) * Y (ix2 (i 1) k)).trans (Fin.sum_univ_four _)

/-! ## One grid point -/

/-- The product of two blocks. -/
theorem dot_at (A : FVec 𝓘 S1024x1280 .bf16) (B : FVec 𝓘 S1024x1280 .bf16) (r : Fin 1024) (e : Fin 1024) :
    (matmul dot_S1024x1280_S1024x1280_S1024x1024_1_1_0_0_n_n none A B (constant S1024x1024 .f32 0x00000000#32) : FVec 𝓘 S1024x1024 .f32) (ix2 r e)
      = ∑ k : Fin 1280, A (ix2 r k) * B (ix2 e k) :=
  product_at _ 1280 rfl rfl A B (ix2 r e) (fun k => ix2 r k) (fun k => ix2 e k)
    (fun k => funext fun a => Fin.ext (by
      have hk := contrEquiv1_symm_val dot_S1024x1280_S1024x1280_S1024x1024_1_1_0_0_n_n 1280 rfl rfl k
      match a with | ⟨0, _⟩ => rfl | ⟨1, _⟩ => exact hk))
    (fun k => funext fun a => Fin.ext (by
      have hk := contrEquiv1_symm_val dot_S1024x1280_S1024x1280_S1024x1024_1_1_0_0_n_n 1280 rfl rfl k
      match a with | ⟨0, _⟩ => rfl | ⟨1, _⟩ => exact hk))

/-- The two blocks of columns a grid point is handed, side by side. -/
theorem pair_at (v0 v1 : FVec 𝓘 S1x1024x640 .bf16) (X : FVec 𝓘 S2x1024x640 .bf16) (h0 : ∀ r e, v0 (ix3 (0 : Fin 1) r e) = X (ix3 (0 : Fin 2) r e))
    (h1 : ∀ r e, v1 (ix3 (0 : Fin 1) r e) = X (ix3 (1 : Fin 2) r e)) (r : Fin 1024) (w : Fin 1280) (b : Fin 2) (e : Fin 640)
    (hw : w.val = b.val * 640 + e.val) :
    concatenate S1024x1280 1 [⟨S1024x640, shapeCast S1024x640 v0 shapeCasts_S1x1024x640_S1024x640⟩, ⟨S1024x640, shapeCast S1024x640 v1 shapeCasts_S1x1024x640_S1024x640⟩]
      concatenates_S1024x640_S1024x640_S1024x1280_d1 (ix2 r w) = X (ix3 b r e) :=
  pair_columns _ _ _ (fun b r e => X (ix3 b r e)) (fun r e => (unstacked v0 _ r e).trans (h0 r e))
    (fun r e => (unstacked v1 _ r e).trans (h1 r e)) r w b e hw

/-- The product of a point's blocks: the second block's columns lie in two pieces. -/
def tile (x0 : Vec 𝓘 S1024x1280 .bf16) (x1 : Vec 𝓘 S2x1024x640 .bf16) (r e : Fin 1024) : EReal :=
  ∑ k : Fin 1280, x0 (ix2 r k) * x1 (ix3 (⟨k.val / 640, by have := k.isLt; omega⟩ : Fin 2) e (⟨k.val % 640, by omega⟩ : Fin 640))

theorem tile_at (x0 : Vec 𝓘 S1024x1280 .bf16) (x1 : Vec 𝓘 S2x1024x640 .bf16) (v0 v1 : FVec 𝓘 S1x1024x640 .bf16)
    (h0 : ∀ r e, v0 (ix3 (0 : Fin 1) r e) = x1 (ix3 (0 : Fin 2) r e)) (h1 : ∀ r e, v1 (ix3 (0 : Fin 1) r e) = x1 (ix3 (1 : Fin 2) r e))
    (r e : Fin 1024) : (k0_pay1 (F := 𝓘) v0 v1 x0 : FVec 𝓘 S1024x1024 .f32) (ix2 r e) = tile x0 x1 r e := by
  simp only [k0_pay1, shapeCast_self]
  refine (dot_at x0 _ r e).trans (Finset.sum_congr rfl fun k _ => congrArg (fun z => x0 (ix2 r k) * z) ?_)
  refine pair_at v0 v1 x1 h0 h1 e k _ _ ?_
  show k.val = k.val / 640 * 640 + k.val % 640
  omega

section
variable (c : Dev nD) (i : grid0.Coords) (arg3 : Memref sig .tc .vmem S1024x1280 .bf16) (harg3 : arg3.IsWhole)
  (arg4 : Memref sig .tc .vmem S2x1024x640 .bf16) (harg4 : arg4.IsWhole) (arg5 : Memref sig .tc .vmem S1024x1024 .f32) (harg5 : arg5.IsWhole)
  (arg6 : Memref sig .tc .vmem S1024x1024 .f32) (harg6 : arg6.IsWhole) (x0 : Vec 𝓘 S1024x1280 .bf16) (x1 : Vec 𝓘 S2x1024x640 .bf16)

theorem first_at (h0 : cond0_0 i) (h1 : ¬cond0_1 i) (h2 : ¬cond0_2 i) (r e : Fin 1024) :
    sout0_A_0 (F := 𝓘) c i arg3 harg3 arg4 harg4 arg5 harg5 arg6 harg6 h0 h1 h2 x0 x1 (ix2 r e) = tile x0 x1 r e := by
  unfold sout0_A_0 kernelRun0_A; dsimp only; sl_unfold_words
  rw [store_all _ _ _ _ off2]
  simp only [load_all (S := S1024x1280) arg3 harg3 x0 _ off2, k0_pay2, shapeCast_self]
  exact tile_at x0 x1 _ _ (fun r e => load_part arg4 harg4 x1 0 _ rfl inb_S2x1024x640_S1x1024x640_0_0_0 r e)
    (fun r e => load_part arg4 harg4 x1 1 _ rfl inb_S2x1024x640_S1x1024x640_1_0_0 r e) r e

theorem next_at (h0 : ¬cond0_0 i) (h1 : cond0_1 i) (h2 : ¬cond0_2 i) (acc : Vec 𝓘 S1024x1024 .f32) (r e : Fin 1024) :
    sout0_B_0 (F := 𝓘) c i arg3 harg3 arg4 harg4 arg5 harg5 arg6 harg6 h0 h1 h2 x0 x1 acc (ix2 r e) = acc (ix2 r e) + tile x0 x1 r e := by
  unfold sout0_B_0 kernelRun0_B; dsimp only; sl_unfold_words
  rw [store_all _ _ _ _ off2]
  simp only [load_all (S := S1024x1280) arg3 harg3 x0 _ off2, load_all (S := S1024x1024) arg6 harg6 acc _ off2, k0_pay3, shapeCast_self]
  exact congrArg (fun z => acc (ix2 r e) + z) (tile_at x0 x1 _ _ (fun r e => load_part arg4 harg4 x1 0 _ rfl inb_S2x1024x640_S1x1024x640_0_0_0 r e)
    (fun r e => load_part arg4 harg4 x1 1 _ rfl inb_S2x1024x640_S1x1024x640_1_0_0 r e) r e)

theorem last_at (h0 : ¬cond0_0 i) (h1 : ¬cond0_1 i) (h2 : cond0_2 i) (acc : Vec 𝓘 S1024x1024 .f32) (r e : Fin 1024) :
    out0_C_2 (F := 𝓘) c i arg3 harg3 arg4 harg4 arg5 harg5 arg6 harg6 h0 h1 h2 x0 x1 acc (ix2 r e) = acc (ix2 r e) + tile x0 x1 r e := by
  unfold out0_C_2 kernelRun0_C; dsimp only; sl_unfold_words
  rw [store_all _ _ _ _ off2]
  simp only [load_all (S := S1024x1280) arg3 harg3 x0 _ off2, load_all (S := S1024x1024) arg6 harg6 acc _ off2, k0_pay4, shapeCast_self]
  exact congrArg (fun z => acc (ix2 r e) + z) (tile_at x0 x1 _ _ (fun r e => load_part arg4 harg4 x1 0 _ rfl inb_S2x1024x640_S1x1024x640_0_0_0 r e)
    (fun r e => load_part arg4 harg4 x1 1 _ rfl inb_S2x1024x640_S1x1024x640_1_0_0 r e) r e)

end

/-! ## The blocks of the arrays -/

theorem where_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem where_1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem where_2 : ∀ t : Fin cfg0.N, win0_2.index t 0 = t.val / 4 ∧ win0_2.index t 1 = 0 :=
  (by decide +kernel : ∀ t : Fin grid0.N, win0_2.index t 0 = t.val / 4 ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 1280) (u : S2048x5120.Idx)
    (h0 : (u 0).val = (t.val / 4) * 1024 + r.val) (h1 : (u 1).val = (t.val % 4) * 1280 + e.val) :
    ((cfg0.win 0).blk t).view.read (Elt 𝓘) X (ix2 r e : S1024x1280.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 1280 + 1 * e.val = (u 1).val; rw [w1, h1]; omega

theorem window_1 (X : Buf (Elt 𝓘) ((c : Thread nD τ).loc main_v3)) (b : Fin 2) (r : Fin 1024) (e : Fin 640) (u : S8x1024x640.Idx)
    (h0 : (u 0).val = (t.val % 4) * 2 + b.val) (h1 : (u 1).val = r.val) (h2 : (u 2).val = e.val) :
    ((cfg0.win 1).blk t).view.read (Elt 𝓘) X (ix3 b r e : S2x1024x640.Idx) = X u := by
  obtain ⟨w0, w1, w2⟩ := where_1 t
  rw [View.read_apply]
  show X _ = X _
  refine congrArg X (funext fun a => Fin.ext ?_)
  match a with
  | ⟨0, _⟩ => show win0_1.index t 0 * 2 + 1 * b.val = (u 0).val; rw [w0, h0]; omega
  | ⟨1, _⟩ => show win0_1.index t 1 * 1024 + 1 * r.val = (u 1).val; rw [w1, h1]; omega
  | ⟨2, _⟩ => show win0_1.index t 2 * 640 + 1 * e.val = (u 2).val; rw [w2, h2]; omega

/-! ## What the launch is handed -/

/-- The two arguments. -/
def left : FVec 𝓘 S2048x5120 .f32 := m ((c : Thread nD τ).loc main_arg0)
def right : FVec 𝓘 S1024x5120 .f32 := m ((c : Thread nD τ).loc main_arg1)

theorem V_left (u : S2048x5120.Idx) : V m c main_v0 u = left m c u := by
  have h : V m c main_v0 = truncf .bf16 (left m c) bitsLt_bf16_f32 := by unfold V; after_reads_simp; rfl
  rw [h]; rfl

/-- The right argument's columns are handed over in eight blocks. -/
theorem V_right (d : Fin 8) (r : Fin 1024) (e : Fin 640) (u : S1024x5120.Idx) (h0 : (u 0).val = r.val) (h1 : (u 1).val = d.val * 640 + e.val) :
    V m c main_v3 (ix3 d r e : S8x1024x640.Idx) = right m c u := by
  have h : V m c main_v3 = transpose S8x1024x640 [1, 0, 2] (shapeCast S1024x8x640 (truncf .bf16 (right m c) bitsLt_bf16_f32 : FVec 𝓘 S1024x5120 .bf16)
      shapeCasts_S1024x5120_S1024x8x640) transposes_S1024x8x640_S8x1024x640_1_0_2 := by unfold V; after_reads_simp; rfl
  rw [h]
  refine (transpose_apply [1, 0, 2] _ transposes_S1024x8x640_S8x1024x640_1_0_2 (ix3 d r e) (ix3 r d e) fun a => ?_).trans ?_
  · match a with | ⟨0, _⟩ => rfl | ⟨1, _⟩ => rfl | ⟨2, _⟩ => rfl
  refine shapeCast_apply _ shapeCasts_S1024x5120_S1024x8x640 (ix3 r d e) u ?_
  rewrite [Shape.rowMajor_val_two, Shape.rowMajor_val_three]
  show (u 0).val * 5120 + (u 1).val = (r.val * 8 + d.val) * 640 + e.val
  rw [h0, h1]; omega

/-! ## The four points of a block -/

/-- What a point multiplies is one run of the whole sum. -/
theorem point_tile (r e : Fin 1024) (i : S2048x1024.Idx) (j : Fin 4) (hi0 : (i 0).val = t.val / 4 * 1024 + r.val)
    (hi1 : (i 1).val = e.val) (hj : j.val = t.val % 4) :
    tile (iblk m c 0 t) (iblk m c 1 t) r e = part (left m c) (right m c) i j := by
  refine Finset.sum_congr rfl fun k _ => congrArg₂ (fun (a b : EReal) => a * b) ?_ ?_
  · refine (window_0 c t (V m c main_v0) r k _ hi0 ?_).trans (V_left m c _)
    show j.val * 1280 + k.val = t.val % 4 * 1280 + k.val
    rw [hj]
  · have hk := k.isLt
    obtain ⟨d, hd⟩ : ∃ d : Fin 8, d.val = t.val % 4 * 2 + k.val / 640 := ⟨⟨t.val % 4 * 2 + k.val / 640, by omega⟩, rfl⟩
    refine (window_1 c t (V m c main_v3) _ e _ (ix3 d e ⟨k.val % 640, by omega⟩) hd rfl rfl).trans (V_right m c d e _ _ hi1 ?_)
    show j.val * 1280 + k.val = d.val * 640 + k.val % 640
    rw [hj, hd]; omega

theorem after_first (h : t.val % 4 = 0) (r e : Fin 1024) (i : S2048x1024.Idx) (hi0 : (i 0).val = t.val / 4 * 1024 + r.val)
    (hi1 : (i 1).val = e.val) : (outsAt0 m c t.val t.isLt).2 (ix2 r e) = part (left m c) (right m c) i 0 := by
  rw [outsAt0_A m c t h (by omega) (by omega)]
  dsimp only
  refine (first_at c (grid0.coords t) (ms0_0 t) (hs0_0 t) (ms0_1 t) (hs0_1 t) (ms0_2 t) (hs0_2 t) scM0_0 (Memref.isWhole_whole _) (iblk m c 0 t) (iblk m c 1 t) _ _ _ r e).trans ?_
  exact point_tile m c t r e i 0 hi0 hi1 h.symm

theorem after_next (h : 1 ≤ t.val % 4 ∧ t.val % 4 ≤ 2) (r e : Fin 1024) (i : S2048x1024.Idx) (hi0 : (i 0).val = t.val / 4 * 1024 + r.val)
    (hi1 : (i 1).val = e.val) (j : Fin 4) (hj : j.val = t.val % 4) : (outsAt0 m c t.val t.isLt).2 (ix2 r e)
      = (outsAt0 m c (t.val - 1) (Nat.lt_of_le_of_lt (Nat.sub_le _ _) t.isLt)).2 (ix2 r e) + part (left m c) (right m c) i j := by
  rw [outsAt0_B m c t (by omega) h (by omega)]
  dsimp only
  refine (next_at c (grid0.coords t) (ms0_0 t) (hs0_0 t) (ms0_1 t) (hs0_1 t) (ms0_2 t) (hs0_2 t) scM0_0 (Memref.isWhole_whole _) (iblk m c 0 t) (iblk m c 1 t) _ _ _ _ r e).trans ?_
  rw [point_tile m c t r e i j hi0 hi1 hj]

theorem after_last (h : t.val % 4 = 3) (r e : Fin 1024) (i : S2048x1024.Idx) (hi0 : (i 0).val = t.val / 4 * 1024 + r.val)
    (hi1 : (i 1).val = e.val) : (outsAt0 m c t.val t.isLt).1 (ix2 r e)
      = (outsAt0 m c (t.val - 1) (Nat.lt_of_le_of_lt (Nat.sub_le _ _) t.isLt)).2 (ix2 r e) + part (left m c) (right m c) i 3 := by
  rw [outsAt0_C m c t (by omega) (by omega) h]
  dsimp only
  refine (last_at c (grid0.coords t) (ms0_0 t) (hs0_0 t) (ms0_1 t) (hs0_1 t) (ms0_2 t) (hs0_2 t) scM0_0 (Memref.isWhole_whole _) (iblk m c 0 t) (iblk m c 1 t) _ _ _ _ r e).trans ?_
  rw [point_tile m c t r e i 3 hi0 hi1 h.symm]

theorem left_at (h : t.val % 4 = 3) (r e : Fin 1024) (i : S2048x1024.Idx) (hi0 : (i 0).val = t.val / 4 * 1024 + r.val)
    (hi1 : (i 1).val = e.val) : (outsAt0 m c t.val t.isLt).1 (ix2 r e) = product (left m c) (right m c) i := by
  have ht := t.isLt
  have e2 := after_next m c ⟨t.val - 1, by omega⟩ (by show 1 ≤ (t.val - 1) % 4 ∧ (t.val - 1) % 4 ≤ 2; omega) r e i
    (by show _ = (t.val - 1) / 4 * 1024 + r.val; rw [hi0]; omega) hi1 2 (by show 2 = (t.val - 1) % 4; omega)
  have e1 := after_next m c ⟨t.val - 1 - 1, by omega⟩ (by show 1 ≤ (t.val - 1 - 1) % 4 ∧ (t.val - 1 - 1) % 4 ≤ 2; omega) r e i
    (by show _ = (t.val - 1 - 1) / 4 * 1024 + r.val; rw [hi0]; omega) hi1 1 (by show 1 = (t.val - 1 - 1) % 4; omega)
  have e0 := after_first m c ⟨t.val - 1 - 1 - 1, by omega⟩ (by show (t.val - 1 - 1 - 1) % 4 = 0; omega) r e i
    (by show _ = (t.val - 1 - 1 - 1) / 4 * 1024 + r.val; rw [hi0]; omega) hi1
  rw [product_parts]
  refine (after_last m c t h r e i hi0 hi1).trans (congrArg (fun z => z + part (left m c) (right m c) i 3) ?_)
  refine e2.trans (congrArg (fun z => z + part (left m c) (right m c) i 2) ?_)
  exact e1.trans (congrArg (fun z => z + part (left m c) (right m c) i 1) e0)

/-! ## The array after the launch -/

theorem written (hf : (cfg0.win 2).flush t = true) : (dats m 0 c).flushed 2 t
    = ((cfg0.win 2).blk t).view.read (Elt 𝓘) (product (left m c) (right m c) : Buf (Elt 𝓘) ((c : Thread nD τ).loc main_v4)) := by
  obtain ⟨w0, w1⟩ := where_2 t
  rw [Cert.Kernel3Ideal.Value.flushed2 m c t]
  funext y
  rw [View.read_apply]
  obtain ⟨r, e, rfl⟩ : ∃ (r e : Fin 1024), y = ix2 r e := ⟨y 0, y 1, (ix2_eta y).symm⟩
  refine left_at m c t ((flush0_2 t).mp hf) r e _ ?_ ?_
  · show win0_2.index t 0 * 1024 + 1 * r.val = t.val / 4 * 1024 + r.val
    rw [w0]; omega
  · show win0_2.index t 1 * 1024 + 1 * e.val = e.val
    rw [w1]; omega

theorem array : (dats m 0 c).arrAt 2 cfg0.N = (product (left m c) (right m c) : Buf (Elt 𝓘) ((c : Thread nD τ).loc main_v4)) :=
  (dats m 0 c).arrAt_eq_of_cover 2 _ (fun t hf => written m c t hf) fun i => by
    have hi0 : (i 0 : Nat) < 2048 := (i 0).isLt
    have hi1 : (i 1 : Nat) < 1024 := (i 1).isLt
    obtain ⟨t, ht⟩ : ∃ t : Fin cfg0.N, t.val = (i 0).val / 1024 * 4 + 3 := ⟨⟨(i 0).val / 1024 * 4 + 3, by rw [show cfg0.N = 8 from N_0]; omega⟩, rfl⟩
    obtain ⟨w0, w1⟩ := where_2 t
    refine ⟨t, (flush0_2 t).mpr (by rw [ht]; omega), ?_⟩
    show i ∈ ((View.whole main_v4).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x5120 .f32) (Y : FVec 𝓘 S1024x5120 .f32) : val_main_v2 (F := 𝓘) X Y = product X Y := by
  funext i
  refine (val_main_v2_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run m g)

/-! ## The equation -/

theorem equal : Cert.algebraic_Kernel3Ideal_Reference3Ideal (hKernel3Ideal := Cert.Kernel3Ideal.Gen.facts)
    (hReference3Ideal := Cert.Reference3Ideal.Gen.facts) := by
  intro m ρ m' ρ' _ hag
  refine ⟨fun c => product (left m c) (right m c), ?_, ?_⟩
  · refine (θ_run Cert.Kernel3Ideal.defs _ _).mono (fun r h c => ?_) (Cert.Kernel3Ideal.Value.run_blocks m ρ)
    exact ⟨(h c).1.trans (array m c), (h c).2⟩
  · refine (θ_run Cert.Reference3Ideal.defs _ _).mono (fun r h c => ?_) (Cert.Reference3Ideal.Value.run m' ρ')
    obtain ⟨a0, a1⟩ := hag c
    refine ⟨(h c).1.trans ((val_main_v2_eq _ _).trans ?_), (h c).2⟩
    rw [reference, a0, a1]; rfl

end Cert.Product3

end
-- ==== Proof.Product4.lean ====
/- The odd layer's gradient of its input weight: the product over the rows of the layer's input and the gradient of
   its projections, the columns in eight blocks, two a grid point; and the reference's. -/
module

public import proofs.«01_k».proof.Defs
public import proofs.«01_k».proof.Proof.Tiles
public import proofs.«01_k».proof.Proof.Gen.Kernel4Ideal.Value
public import proofs.«01_k».proof.Proof.Gen.Reference4Ideal.Read
public import proofs.«01_k».proof.Proof.Gen.Reference4Ideal
public import Idealize.ShloMosaic.Lib.StableHlo.ReadAt

@[expose] public section

set_option maxRecDepth 16384

noncomputable section

namespace Cert.Product4

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel4Ideal Cert.Kernel4Ideal.Gen
open Cert.Reference4Ideal.Read

local notation "𝓘" => Idealize.ShloMosaic.Ideal

/-- The whole product, its columns in eight blocks. -/
def product (X : FVec 𝓘 S2048x1024 .f32) (Y : FVec 𝓘 S2048x4096 .f32) : FVec 𝓘 S8x1024x512 .bf16 :=
  fun i => ∑ k : Fin 2048, X (ix2 k (i 1)) * Y (ix2 k ⟨(i 0).val * 512 + (i 2).val, by
    have h0 : (i 0).val < 8 := (i 0).isLt
    have h2 : (i 2).val < 512 := (i 2).isLt
    omega⟩)

/-! ## One grid point -/

/-- The product of two blocks. -/
theorem dot_at (A : FVec 𝓘 S2048x1024 .bf16) (B : FVec 𝓘 S2048x1024 .bf16) (r : Fin 1024) (e : Fin 1024) :
    (matmul dot_S2048x1024_S2048x1024_S1024x1024_0_0_1_1_n_n none A B (constant S1024x1024 .f32 0x00000000#32) : FVec 𝓘 S1024x1024 .f32) (ix2 r e)
      = ∑ k : Fin 2048, A (ix2 k r) * B (ix2 k e) :=
  product_at _ 2048 rfl rfl A B (ix2 r e) (fun k => ix2 k r) (fun k => ix2 k e)
    (fun k => funext fun a => Fin.ext (by
      have hk := contrEquiv1_symm_val dot_S2048x1024_S2048x1024_S1024x1024_0_0_1_1_n_n 2048 rfl rfl k
      match a with | ⟨0, _⟩ => exact hk | ⟨1, _⟩ => rfl))
    (fun k => funext fun a => Fin.ext (by
      have hk := contrEquiv1_symm_val dot_S2048x1024_S2048x1024_S1024x1024_0_0_1_1_n_n 2048 rfl rfl k
      match a with | ⟨0, _⟩ => exact hk | ⟨1, _⟩ => rfl))

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S2x1024x512 .bf16) (harg5 : arg5.IsWhole)
  (arg6 : Memref sig .tc .vmem S8x128 .f32) (harg6 : arg6.IsWhole) (x0 : Vec 𝓘 S2048x1024 .bf16) (x1 : Vec 𝓘 S2048x1024 .bf16)

theorem out_at (b : Fin 2) (r : Fin 1024) (e : Fin 512) :
    out0_A_2 (F := 𝓘) c i arg3 harg3 arg4 harg4 arg5 harg5 arg6 harg6 x0 x1 (ix3 b r e)
      = ∑ k : Fin 2048, x0 (ix2 k r) * x1 (ix2 k ⟨b.val * 512 + e.val, by have := b.isLt; have := e.isLt; omega⟩) := by
  unfold out0_A_2 kernelRun0_A; dsimp only; sl_unfold_words
  simp only [load_all (S := S2048x1024) arg3 harg3 x0 _ off2, load_all (S := S2048x1024) arg4 harg4 x1 _ off2, k0_pay2, k0_pay3, k0_pay1, shapeCast_self]
  refine store_pair _ _ _ _ _ _ b r e _ (fun hb => ?_) (fun hb => ?_)
  · have he : 0 + e.val < 1024 := by have := e.isLt; omega
    refine (columns_stacked 0 (matmul dot_S2048x1024_S2048x1024_S1024x1024_0_0_1_1_n_n none x0 x1 (constant S1024x1024 .f32 0x00000000#32) : FVec 𝓘 S1024x1024 .f32) slices_S1024x1024_o0_0_S1024x512 shapeCasts_S1024x512_S1x1024x512 r e he).trans ((dot_at x0 x1 r _).trans (Finset.sum_congr rfl fun k _ => ?_))
    refine congrArg (fun z => x0 (ix2 k r) * x1 (ix2 k z)) (Fin.ext ?_)
    show 0 + e.val = b.val * 512 + e.val
    omega
  · have he : 512 + e.val < 1024 := by have := e.isLt; omega
    refine (columns_stacked 512 (matmul dot_S2048x1024_S2048x1024_S1024x1024_0_0_1_1_n_n none x0 x1 (constant S1024x1024 .f32 0x00000000#32) : FVec 𝓘 S1024x1024 .f32) slices_S1024x1024_o0_512_S1024x512 shapeCasts_S1024x512_S1x1024x512 r e he).trans ((dot_at x0 x1 r _).trans (Finset.sum_congr rfl fun k _ => ?_))
    refine congrArg (fun z => x0 (ix2 k r) * x1 (ix2 k z)) (Fin.ext ?_)
    show 512 + e.val = b.val * 512 + e.val
    omega

end

/-! ## The blocks of the arrays -/

theorem where_0 : ∀ t : Fin cfg0.N, win0_0.index t 0 = 0 ∧ win0_0.index t 1 = 0 :=
  (by decide +kernel : ∀ t : Fin grid0.N, win0_0.index t 0 = 0 ∧ win0_0.index t 1 = 0)
theorem where_1 : ∀ t : Fin cfg0.N, win0_1.index t 0 = 0 ∧ win0_1.index t 1 = t.val :=
  (by decide +kernel : ∀ t : Fin grid0.N, win0_1.index t 0 = 0 ∧ win0_1.index t 1 = t.val)
theorem where_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 1024) (u : S2048x1024.Idx)
    (h0 : (u 0).val = r.val) (h1 : (u 1).val = e.val) :
    ((cfg0.win 0).blk t).view.read (Elt 𝓘) X (ix2 r e : S2048x1024.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v1)) (r : Fin 2048) (e : Fin 1024) (u : S2048x4096.Idx)
    (h0 : (u 0).val = r.val) (h1 : (u 1).val = t.val * 1024 + e.val) :
    ((cfg0.win 1).blk t).view.read (Elt 𝓘) X (ix2 r e : S2048x1024.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x1024 .f32 := m ((c : Thread nD τ).loc main_arg0)
def right : FVec 𝓘 S2048x4096 .f32 := m ((c : Thread nD τ).loc main_arg1)

theorem V_left (u : S2048x1024.Idx) : V m c main_v0 u = left m c u := by
  have h : V m c main_v0 = truncf .bf16 (left m c) bitsLt_bf16_f32 := by unfold V; after_reads_simp; rfl
  rw [h]; rfl
theorem V_right (u : S2048x4096.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1, w2⟩ := where_2 t
  rw [Cert.Kernel4Ideal.Value.flushed2_A m c t]
  funext y
  rw [View.read_apply]
  obtain ⟨b, r, e, rfl⟩ : ∃ (b : Fin 2) (r : Fin 1024) (e : Fin 512), y = ix3 b r e := ⟨y 0, y 1, y 2, (ix3_eta y).symm⟩
  refine (out_at c _ _ _ _ _ _ _ _ _ _ _ b r e).trans ?_
  show _ = product (left m c) (right m c) _
  refine Finset.sum_congr rfl fun k _ => congrArg₂ (fun (a b : EReal) => a * b) ?_ ?_
  · refine (window_0 c t (V m c main_v0) k r _ ?_ ?_).trans (V_left m c _)
    · rfl
    · show win0_2.index t 1 * 1024 + 1 * r.val = r.val
      rw [w1]; omega
  · refine (window_1 c t (V m c main_v1) k _ _ ?_ ?_).trans (V_right m c _)
    · rfl
    · show (win0_2.index t 0 * 2 + 1 * b.val) * 512 + (win0_2.index t 2 * 512 + 1 * e.val) = t.val * 1024 + (b.val * 512 + e.val)
      rw [w0, w2]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 8 := (i 0).isLt
    have hi1 : (i 1 : Nat) < 1024 := (i 1).isLt
    have hi2 : (i 2 : Nat) < 512 := (i 2).isLt
    obtain ⟨t, ht⟩ : ∃ t : Fin cfg0.N, t.val = (i 0).val / 2 := ⟨⟨(i 0).val / 2, by rw [show cfg0.N = 4 from N_0]; omega⟩, rfl⟩
    obtain ⟨w0, w1, w2⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 2 ≤ (i 0 : Nat) ∧ (i 0 : Nat) < win0_2.index t 0 * 2 + 2
      rw [w0]; omega
    | ⟨1, _⟩ =>
      show win0_2.index t 1 * 1024 ≤ (i 1 : Nat) ∧ (i 1 : Nat) < win0_2.index t 1 * 1024 + 1024
      rw [w1]; omega
    | ⟨2, _⟩ =>
      show win0_2.index t 2 * 512 ≤ (i 2 : Nat) ∧ (i 2 : Nat) < win0_2.index t 2 * 512 + 512
      rw [w2]; omega

end

/-! ## The reference -/

theorem reference (X : FVec 𝓘 S2048x1024 .f32) (Y : FVec 𝓘 S2048x4096 .f32) : val_main_v6 (F := 𝓘) X Y = product X Y := by
  funext i
  have h0 : (i 0).val < 8 := (i 0).isLt
  have h1 : (i 1).val < 1024 := (i 1).isLt
  have h2 : (i 2).val < 512 := (i 2).isLt
  rw [val_main_v6_apply, val_main_v5_apply, val_main_v4_apply, val_main_v3_apply]
  refine (val_main_v2_apply X Y _).trans (Finset.sum_congr rfl fun k _ => (mul_comm _ _).trans ?_)
  refine congrArg₂ (fun (a b : EReal) => a * b) (congrArg X (funext fun a => Fin.ext ?_)) (congrArg Y (funext fun a => Fin.ext ?_))
  · match a with
    | ⟨0, _⟩ => rfl
    | ⟨1, _⟩ =>
      show (((i 1).val * 8 + (i 0).val) * 512 + (i 2).val) / 4096 = (i 1).val
      omega
  · match a with
    | ⟨0, _⟩ => rfl
    | ⟨1, _⟩ =>
      show (((i 1).val * 8 + (i 0).val) * 512 + (i 2).val) % 4096 = (i 0).val * 512 + (i 2).val
      omega

theorem reference_frame : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Value.run m g)

/-! ## The equation -/

theorem equal : Cert.algebraic_Kernel4Ideal_Reference4Ideal (hKernel4Ideal := Cert.Kernel4Ideal.Gen.facts)
    (hReference4Ideal := Cert.Reference4Ideal.Gen.facts) := by
  intro m ρ m' ρ' _ hag
  refine ⟨fun c => product (left m c) (right m c), ?_, ?_⟩
  · refine (θ_run Cert.Kernel4Ideal.defs _ _).mono (fun r h c => ?_) (Cert.Kernel4Ideal.Value.run_blocks m ρ)
    exact ⟨(h c).1.trans (array m c), (h c).2⟩
  · refine (θ_run Cert.Reference4Ideal.defs _ _).mono (fun r h c => ?_) (Cert.Reference4Ideal.Value.run m' ρ')
    obtain ⟨a0, a1⟩ := hag c
    refine ⟨(h c).1.trans ((val_main_v6_eq _ _).trans ?_), (h c).2⟩
    rw [reference, a0, a1]; rfl

end Cert.Product4

end
-- ==== Proof.Product5.lean ====
/- The odd layer's gradient of its input: the gradient of its projections times the input weight transposed, the sum
   over the columns in four runs, a run a grid point; and the reference's. -/
module

public import proofs.«01_k».proof.Defs
public import proofs.«01_k».proof.Proof.Tiles
public import proofs.«01_k».proof.Proof.Gen.Kernel5Ideal.Value
public import proofs.«01_k».proof.Proof.Gen.Reference5Ideal.Read
public import proofs.«01_k».proof.Proof.Gen.Reference5Ideal
public import Idealize.ShloMosaic.Lib.StableHlo.ReadAt

@[expose] public section

set_option maxRecDepth 16384

noncomputable section

namespace Cert.Product5

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel5Ideal Cert.Kernel5Ideal.Gen
open Cert.Reference5Ideal.Read

local notation "𝓘" => Idealize.ShloMosaic.Ideal

/-- The whole product. -/
def product (X : FVec 𝓘 S2048x4096 .f32) (Y : FVec 𝓘 S1024x4096 .f32) : FVec 𝓘 S2048x1024 .f32 :=
  fun i => ∑ k : Fin 4096, X (ix2 (i 0) k) * Y (ix2 (i 1) k)

/-- One of its four runs. -/
def part (X : FVec 𝓘 S2048x4096 .f32) (Y : FVec 𝓘 S1024x4096 .f32) (i : S2048x1024.Idx) (j : Fin 4) : EReal :=
  ∑ k : Fin 1024, X (ix2 (i 0) ⟨j.val * 1024 + k.val, by have := j.isLt; have := k.isLt; omega⟩)
    * Y (ix2 (i 1) ⟨j.val * 1024 + k.val, by have := j.isLt; have := k.isLt; omega⟩)

theorem product_parts (X : FVec 𝓘 S2048x4096 .f32) (Y : FVec 𝓘 S1024x4096 .f32) (i : S2048x1024.Idx) :
    product X Y i = part X Y i 0 + part X Y i 1 + part X Y i 2 + part X Y i 3 :=
  (sum_runs 1024 fun k => X (ix2 (i 0) k) * Y (ix2 (i 1) k)).trans (Fin.sum_univ_four _)

/-! ## One grid point -/

/-- The product of two blocks. -/
theorem dot_at (A : FVec 𝓘 S1024x1024 .bf16) (B : FVec 𝓘 S1024x1024 .bf16) (r : Fin 1024) (e : Fin 1024) :
    (matmul dot_S1024x1024_S1024x1024_S1024x1024_1_1_0_0_n_n none A B (constant S1024x1024 .f32 0x00000000#32) : FVec 𝓘 S1024x1024 .f32) (ix2 r e)
      = ∑ k : Fin 1024, A (ix2 r k) * B (ix2 e k) :=
  product_at _ 1024 rfl rfl A B (ix2 r e) (fun k => ix2 r k) (fun k => ix2 e k)
    (fun k => funext fun a => Fin.ext (by
      have hk := contrEquiv1_symm_val dot_S1024x1024_S1024x1024_S1024x1024_1_1_0_0_n_n 1024 rfl rfl k
      match a with | ⟨0, _⟩ => rfl | ⟨1, _⟩ => exact hk))
    (fun k => funext fun a => Fin.ext (by
      have hk := contrEquiv1_symm_val dot_S1024x1024_S1024x1024_S1024x1024_1_1_0_0_n_n 1024 rfl rfl k
      match a with | ⟨0, _⟩ => rfl | ⟨1, _⟩ => exact hk))

/-- The two blocks of columns a grid point is handed, side by side. -/
theorem pair_at (v0 v1 : FVec 𝓘 S1x1024x512 .bf16) (X : FVec 𝓘 S2x1024x512 .bf16) (h0 : ∀ r e, v0 (ix3 (0 : Fin 1) r e) = X (ix3 (0 : Fin 2) r e))
    (h1 : ∀ r e, v1 (ix3 (0 : Fin 1) r e) = X (ix3 (1 : Fin 2) r e)) (r : Fin 1024) (w : Fin 1024) (b : Fin 2) (e : Fin 512)
    (hw : w.val = b.val * 512 + e.val) :
    concatenate S1024x1024 1 [⟨S1024x512, shapeCast S1024x512 v0 shapeCasts_S1x1024x512_S1024x512⟩, ⟨S1024x512, shapeCast S1024x512 v1 shapeCasts_S1x1024x512_S1024x512⟩]
      concatenates_S1024x512_S1024x512_S1024x1024_d1 (ix2 r w) = X (ix3 b r e) :=
  pair_columns _ _ _ (fun b r e => X (ix3 b r e)) (fun r e => (unstacked v0 _ r e).trans (h0 r e))
    (fun r e => (unstacked v1 _ r e).trans (h1 r e)) r w b e hw

/-- The product of a point's blocks: the second block's columns lie in two pieces. -/
def tile (x0 : Vec 𝓘 S1024x1024 .bf16) (x1 : Vec 𝓘 S2x1024x512 .bf16) (r e : Fin 1024) : EReal :=
  ∑ k : Fin 1024, x0 (ix2 r k) * x1 (ix3 (⟨k.val / 512, by have := k.isLt; omega⟩ : Fin 2) e (⟨k.val % 512, by omega⟩ : Fin 512))

theorem tile_at (x0 : Vec 𝓘 S1024x1024 .bf16) (x1 : Vec 𝓘 S2x1024x512 .bf16) (v0 v1 : FVec 𝓘 S1x1024x512 .bf16)
    (h0 : ∀ r e, v0 (ix3 (0 : Fin 1) r e) = x1 (ix3 (0 : Fin 2) r e)) (h1 : ∀ r e, v1 (ix3 (0 : Fin 1) r e) = x1 (ix3 (1 : Fin 2) r e))
    (r e : Fin 1024) : (k0_pay1 (F := 𝓘) v0 v1 x0 : FVec 𝓘 S1024x1024 .f32) (ix2 r e) = tile x0 x1 r e := by
  simp only [k0_pay1, shapeCast_self]
  refine (dot_at x0 _ r e).trans (Finset.sum_congr rfl fun k _ => congrArg (fun z => x0 (ix2 r k) * z) ?_)
  refine pair_at v0 v1 x1 h0 h1 e k _ _ ?_
  show k.val = k.val / 512 * 512 + k.val % 512
  omega

section
variable (c : Dev nD) (i : grid0.Coords) (arg3 : Memref sig .tc .vmem S1024x1024 .bf16) (harg3 : arg3.IsWhole)
  (arg4 : Memref sig .tc .vmem S2x1024x512 .bf16) (harg4 : arg4.IsWhole) (arg5 : Memref sig .tc .vmem S1024x1024 .f32) (harg5 : arg5.IsWhole)
  (arg6 : Memref sig .tc .vmem S1024x1024 .f32) (harg6 : arg6.IsWhole) (x0 : Vec 𝓘 S1024x1024 .bf16) (x1 : Vec 𝓘 S2x1024x512 .bf16)

theorem first_at (h0 : cond0_0 i) (h1 : ¬cond0_1 i) (h2 : ¬cond0_2 i) (r e : Fin 1024) :
    sout0_A_0 (F := 𝓘) c i arg3 harg3 arg4 harg4 arg5 harg5 arg6 harg6 h0 h1 h2 x0 x1 (ix2 r e) = tile x0 x1 r e := by
  unfold sout0_A_0 kernelRun0_A; dsimp only; sl_unfold_words
  rw [store_all _ _ _ _ off2]
  simp only [load_all (S := S1024x1024) arg3 harg3 x0 _ off2, k0_pay2, shapeCast_self]
  exact tile_at x0 x1 _ _ (fun r e => load_part arg4 harg4 x1 0 _ rfl inb_S2x1024x512_S1x1024x512_0_0_0 r e)
    (fun r e => load_part arg4 harg4 x1 1 _ rfl inb_S2x1024x512_S1x1024x512_1_0_0 r e) r e

theorem next_at (h0 : ¬cond0_0 i) (h1 : cond0_1 i) (h2 : ¬cond0_2 i) (acc : Vec 𝓘 S1024x1024 .f32) (r e : Fin 1024) :
    sout0_B_0 (F := 𝓘) c i arg3 harg3 arg4 harg4 arg5 harg5 arg6 harg6 h0 h1 h2 x0 x1 acc (ix2 r e) = acc (ix2 r e) + tile x0 x1 r e := by
  unfold sout0_B_0 kernelRun0_B; dsimp only; sl_unfold_words
  rw [store_all _ _ _ _ off2]
  simp only [load_all (S := S1024x1024) arg3 harg3 x0 _ off2, load_all (S := S1024x1024) arg6 harg6 acc _ off2, k0_pay3, shapeCast_self]
  exact congrArg (fun z => acc (ix2 r e) + z) (tile_at x0 x1 _ _ (fun r e => load_part arg4 harg4 x1 0 _ rfl inb_S2x1024x512_S1x1024x512_0_0_0 r e)
    (fun r e => load_part arg4 harg4 x1 1 _ rfl inb_S2x1024x512_S1x1024x512_1_0_0 r e) r e)

theorem last_at (h0 : ¬cond0_0 i) (h1 : ¬cond0_1 i) (h2 : cond0_2 i) (acc : Vec 𝓘 S1024x1024 .f32) (r e : Fin 1024) :
    out0_C_2 (F := 𝓘) c i arg3 harg3 arg4 harg4 arg5 harg5 arg6 harg6 h0 h1 h2 x0 x1 acc (ix2 r e) = acc (ix2 r e) + tile x0 x1 r e := by
  unfold out0_C_2 kernelRun0_C; dsimp only; sl_unfold_words
  rw [store_all _ _ _ _ off2]
  simp only [load_all (S := S1024x1024) arg3 harg3 x0 _ off2, load_all (S := S1024x1024) arg6 harg6 acc _ off2, k0_pay4, shapeCast_self]
  exact congrArg (fun z => acc (ix2 r e) + z) (tile_at x0 x1 _ _ (fun r e => load_part arg4 harg4 x1 0 _ rfl inb_S2x1024x512_S1x1024x512_0_0_0 r e)
    (fun r e => load_part arg4 harg4 x1 1 _ rfl inb_S2x1024x512_S1x1024x512_1_0_0 r e) r e)

end

/-! ## The blocks of the arrays -/

theorem where_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem where_1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem where_2 : ∀ t : Fin cfg0.N, win0_2.index t 0 = t.val / 4 ∧ win0_2.index t 1 = 0 :=
  (by decide +kernel : ∀ t : Fin grid0.N, win0_2.index t 0 = t.val / 4 ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 1024) (u : S2048x4096.Idx)
    (h0 : (u 0).val = (t.val / 4) * 1024 + r.val) (h1 : (u 1).val = (t.val % 4) * 1024 + e.val) :
    ((cfg0.win 0).blk t).view.read (Elt 𝓘) X (ix2 r e : S1024x1024.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v3)) (b : Fin 2) (r : Fin 1024) (e : Fin 512) (u : S8x1024x512.Idx)
    (h0 : (u 0).val = (t.val % 4) * 2 + b.val) (h1 : (u 1).val = r.val) (h2 : (u 2).val = e.val) :
    ((cfg0.win 1).blk t).view.read (Elt 𝓘) X (ix3 b r e : S2x1024x512.Idx) = X u := by
  obtain ⟨w0, w1, w2⟩ := where_1 t
  rw [View.read_apply]
  show X _ = X _
  refine congrArg X (funext fun a => Fin.ext ?_)
  match a with
  | ⟨0, _⟩ => show win0_1.index t 0 * 2 + 1 * b.val = (u 0).val; rw [w0, h0]; omega
  | ⟨1, _⟩ => show win0_1.index t 1 * 1024 + 1 * r.val = (u 1).val; rw [w1, h1]; omega
  | ⟨2, _⟩ => show win0_1.index t 2 * 512 + 1 * e.val = (u 2).val; rw [w2, h2]; omega

/-! ## What the launch is handed -/

/-- The two arguments. -/
def left : FVec 𝓘 S2048x4096 .f32 := m ((c : Thread nD τ).loc main_arg0)
def right : FVec 𝓘 S1024x4096 .f32 := m ((c : Thread nD τ).loc main_arg1)

theorem V_left (u : S2048x4096.Idx) : V m c main_v0 u = left m c u := by
  have h : V m c main_v0 = truncf .bf16 (left m c) bitsLt_bf16_f32 := by unfold V; after_reads_simp; rfl
  rw [h]; rfl

/-- The right argument's columns are handed over in eight blocks. -/
theorem V_right (d : Fin 8) (r : Fin 1024) (e : Fin 512) (u : S1024x4096.Idx) (h0 : (u 0).val = r.val) (h1 : (u 1).val = d.val * 512 + e.val) :
    V m c main_v3 (ix3 d r e : S8x1024x512.Idx) = right m c u := by
  have h : V m c main_v3 = transpose S8x1024x512 [1, 0, 2] (shapeCast S1024x8x512 (truncf .bf16 (right m c) bitsLt_bf16_f32 : FVec 𝓘 S1024x4096 .bf16)
      shapeCasts_S1024x4096_S1024x8x512) transposes_S1024x8x512_S8x1024x512_1_0_2 := by unfold V; after_reads_simp; rfl
  rw [h]
  refine (transpose_apply [1, 0, 2] _ transposes_S1024x8x512_S8x1024x512_1_0_2 (ix3 d r e) (ix3 r d e) fun a => ?_).trans ?_
  · match a with | ⟨0, _⟩ => rfl | ⟨1, _⟩ => rfl | ⟨2, _⟩ => rfl
  refine shapeCast_apply _ shapeCasts_S1024x4096_S1024x8x512 (ix3 r d e) u ?_
  rewrite [Shape.rowMajor_val_two, Shape.rowMajor_val_three]
  show (u 0).val * 4096 + (u 1).val = (r.val * 8 + d.val) * 512 + e.val
  rw [h0, h1]; omega

/-! ## The four points of a block -/

/-- What a point multiplies is one run of the whole sum. -/
theorem point_tile (r e : Fin 1024) (i : S2048x1024.Idx) (j : Fin 4) (hi0 : (i 0).val = t.val / 4 * 1024 + r.val)
    (hi1 : (i 1).val = e.val) (hj : j.val = t.val % 4) :
    tile (iblk m c 0 t) (iblk m c 1 t) r e = part (left m c) (right m c) i j := by
  refine Finset.sum_congr rfl fun k _ => congrArg₂ (fun (a b : EReal) => a * b) ?_ ?_
  · refine (window_0 c t (V m c main_v0) r k _ hi0 ?_).trans (V_left m c _)
    show j.val * 1024 + k.val = t.val % 4 * 1024 + k.val
    rw [hj]
  · have hk := k.isLt
    obtain ⟨d, hd⟩ : ∃ d : Fin 8, d.val = t.val % 4 * 2 + k.val / 512 := ⟨⟨t.val % 4 * 2 + k.val / 512, by omega⟩, rfl⟩
    refine (window_1 c t (V m c main_v3) _ e _ (ix3 d e ⟨k.val % 512, by omega⟩) hd rfl rfl).trans (V_right m c d e _ _ hi1 ?_)
    show j.val * 1024 + k.val = d.val * 512 + k.val % 512
    rw [hj, hd]; omega

theorem after_first (h : t.val % 4 = 0) (r e : Fin 1024) (i : S2048x1024.Idx) (hi0 : (i 0).val = t.val / 4 * 1024 + r.val)
    (hi1 : (i 1).val = e.val) : (outsAt0 m c t.val t.isLt).2 (ix2 r e) = part (left m c) (right m c) i 0 := by
  rw [outsAt0_A m c t h (by omega) (by omega)]
  dsimp only
  refine (first_at c (grid0.coords t) (ms0_0 t) (hs0_0 t) (ms0_1 t) (hs0_1 t) (ms0_2 t) (hs0_2 t) scM0_0 (Memref.isWhole_whole _) (iblk m c 0 t) (iblk m c 1 t) _ _ _ r e).trans ?_
  exact point_tile m c t r e i 0 hi0 hi1 h.symm

theorem after_next (h : 1 ≤ t.val % 4 ∧ t.val % 4 ≤ 2) (r e : Fin 1024) (i : S2048x1024.Idx) (hi0 : (i 0).val = t.val / 4 * 1024 + r.val)
    (hi1 : (i 1).val = e.val) (j : Fin 4) (hj : j.val = t.val % 4) : (outsAt0 m c t.val t.isLt).2 (ix2 r e)
      = (outsAt0 m c (t.val - 1) (Nat.lt_of_le_of_lt (Nat.sub_le _ _) t.isLt)).2 (ix2 r e) + part (left m c) (right m c) i j := by
  rw [outsAt0_B m c t (by omega) h (by omega)]
  dsimp only
  refine (next_at c (grid0.coords t) (ms0_0 t) (hs0_0 t) (ms0_1 t) (hs0_1 t) (ms0_2 t) (hs0_2 t) scM0_0 (Memref.isWhole_whole _) (iblk m c 0 t) (iblk m c 1 t) _ _ _ _ r e).trans ?_
  rw [point_tile m c t r e i j hi0 hi1 hj]

theorem after_last (h : t.val % 4 = 3) (r e : Fin 1024) (i : S2048x1024.Idx) (hi0 : (i 0).val = t.val / 4 * 1024 + r.val)
    (hi1 : (i 1).val = e.val) : (outsAt0 m c t.val t.isLt).1 (ix2 r e)
      = (outsAt0 m c (t.val - 1) (Nat.lt_of_le_of_lt (Nat.sub_le _ _) t.isLt)).2 (ix2 r e) + part (left m c) (right m c) i 3 := by
  rw [outsAt0_C m c t (by omega) (by omega) h]
  dsimp only
  refine (last_at c (grid0.coords t) (ms0_0 t) (hs0_0 t) (ms0_1 t) (hs0_1 t) (ms0_2 t) (hs0_2 t) scM0_0 (Memref.isWhole_whole _) (iblk m c 0 t) (iblk m c 1 t) _ _ _ _ r e).trans ?_
  rw [point_tile m c t r e i 3 hi0 hi1 h.symm]

theorem left_at (h : t.val % 4 = 3) (r e : Fin 1024) (i : S2048x1024.Idx) (hi0 : (i 0).val = t.val / 4 * 1024 + r.val)
    (hi1 : (i 1).val = e.val) : (outsAt0 m c t.val t.isLt).1 (ix2 r e) = product (left m c) (right m c) i := by
  have ht := t.isLt
  have e2 := after_next m c ⟨t.val - 1, by omega⟩ (by show 1 ≤ (t.val - 1) % 4 ∧ (t.val - 1) % 4 ≤ 2; omega) r e i
    (by show _ = (t.val - 1) / 4 * 1024 + r.val; rw [hi0]; omega) hi1 2 (by show 2 = (t.val - 1) % 4; omega)
  have e1 := after_next m c ⟨t.val - 1 - 1, by omega⟩ (by show 1 ≤ (t.val - 1 - 1) % 4 ∧ (t.val - 1 - 1) % 4 ≤ 2; omega) r e i
    (by show _ = (t.val - 1 - 1) / 4 * 1024 + r.val; rw [hi0]; omega) hi1 1 (by show 1 = (t.val - 1 - 1) % 4; omega)
  have e0 := after_first m c ⟨t.val - 1 - 1 - 1, by omega⟩ (by show (t.val - 1 - 1 - 1) % 4 = 0; omega) r e i
    (by show _ = (t.val - 1 - 1 - 1) / 4 * 1024 + r.val; rw [hi0]; omega) hi1
  rw [product_parts]
  refine (after_last m c t h r e i hi0 hi1).trans (congrArg (fun z => z + part (left m c) (right m c) i 3) ?_)
  refine e2.trans (congrArg (fun z => z + part (left m c) (right m c) i 2) ?_)
  exact e1.trans (congrArg (fun z => z + part (left m c) (right m c) i 1) e0)

/-! ## The array after the launch -/

theorem written (hf : (cfg0.win 2).flush t = true) : (dats m 0 c).flushed 2 t
    = ((cfg0.win 2).blk t).view.read (Elt 𝓘) (product (left m c) (right m c) : Buf (Elt 𝓘) ((c : Thread nD τ).loc main_v4)) := by
  obtain ⟨w0, w1⟩ := where_2 t
  rw [Cert.Kernel5Ideal.Value.flushed2 m c t]
  funext y
  rw [View.read_apply]
  obtain ⟨r, e, rfl⟩ : ∃ (r e : Fin 1024), y = ix2 r e := ⟨y 0, y 1, (ix2_eta y).symm⟩
  refine left_at m c t ((flush0_2 t).mp hf) r e _ ?_ ?_
  · show win0_2.index t 0 * 1024 + 1 * r.val = t.val / 4 * 1024 + r.val
    rw [w0]; omega
  · show win0_2.index t 1 * 1024 + 1 * e.val = e.val
    rw [w1]; omega

theorem array : (dats m 0 c).arrAt 2 cfg0.N = (product (left m c) (right m c) : Buf (Elt 𝓘) ((c : Thread nD τ).loc main_v4)) :=
  (dats m 0 c).arrAt_eq_of_cover 2 _ (fun t hf => written m c t hf) fun i => by
    have hi0 : (i 0 : Nat) < 2048 := (i 0).isLt
    have hi1 : (i 1 : Nat) < 1024 := (i 1).isLt
    obtain ⟨t, ht⟩ : ∃ t : Fin cfg0.N, t.val = (i 0).val / 1024 * 4 + 3 := ⟨⟨(i 0).val / 1024 * 4 + 3, by rw [show cfg0.N = 8 from N_0]; omega⟩, rfl⟩
    obtain ⟨w0, w1⟩ := where_2 t
    refine ⟨t, (flush0_2 t).mpr (by rw [ht]; omega), ?_⟩
    show i ∈ ((View.whole main_v4).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x4096 .f32) (Y : FVec 𝓘 S1024x4096 .f32) : val_main_v2 (F := 𝓘) X Y = product X Y := by
  funext i
  refine (val_main_v2_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run m g)

/-! ## The equation -/

theorem equal : Cert.algebraic_Kernel5Ideal_Reference5Ideal (hKernel5Ideal := Cert.Kernel5Ideal.Gen.facts)
    (hReference5Ideal := Cert.Reference5Ideal.Gen.facts) := by
  intro m ρ m' ρ' _ hag
  refine ⟨fun c => product (left m c) (right m c), ?_, ?_⟩
  · refine (θ_run Cert.Kernel5Ideal.defs _ _).mono (fun r h c => ?_) (Cert.Kernel5Ideal.Value.run_blocks m ρ)
    exact ⟨(h c).1.trans (array m c), (h c).2⟩
  · refine (θ_run Cert.Reference5Ideal.defs _ _).mono (fun r h c => ?_) (Cert.Reference5Ideal.Value.run m' ρ')
    obtain ⟨a0, a1⟩ := hag c
    refine ⟨(h c).1.trans ((val_main_v2_eq _ _).trans ?_), (h c).2⟩
    rw [reference, a0, a1]; rfl

end Cert.Product5

end
-- ==== Proof.Product6.lean ====
/- The even layer's projections: the layer's input times the input weight, whose columns are handed over in eight
   blocks, two a grid point; and the reference's. -/
module

public import proofs.«01_k».proof.Defs
public import proofs.«01_k».proof.Proof.Tiles
public import proofs.«01_k».proof.Proof.Gen.Kernel6Ideal.Value
public import proofs.«01_k».proof.Proof.Gen.Reference6Ideal.Read
public import proofs.«01_k».proof.Proof.Gen.Reference6Ideal
public import Idealize.ShloMosaic.Lib.StableHlo.ReadAt

@[expose] public section

set_option maxRecDepth 16384

noncomputable section

namespace Cert.Product6

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel6Ideal Cert.Kernel6Ideal.Gen
open Cert.Reference6Ideal.Read

local notation "𝓘" => Idealize.ShloMosaic.Ideal

/-- The whole product. -/
def product (X : FVec 𝓘 S2048x1024 .f32) (Y : FVec 𝓘 S1024x5120 .f32) : FVec 𝓘 S2048x5120 .f32 :=
  fun i => ∑ k : Fin 1024, X (ix2 (i 0) k) * Y (ix2 k (i 1))

/-! ## One grid point -/

/-- The product of two blocks. -/
theorem dot_at (A : FVec 𝓘 S1024x1024 .bf16) (B : FVec 𝓘 S1024x1280 .bf16) (r : Fin 1024) (e : Fin 1280) :
    (matmul dot_S1024x1024_S1024x1280_S1024x1280_1_0_0_1_n_n none A B (constant S1024x1280 .f32 0x00000000#32) : FVec 𝓘 S1024x1280 .f32) (ix2 r e)
      = ∑ k : Fin 1024, A (ix2 r k) * B (ix2 k e) :=
  product_at _ 1024 rfl rfl A B (ix2 r e) (fun k => ix2 r k) (fun k => ix2 k e)
    (fun k => funext fun a => Fin.ext (by
      have hk := contrEquiv1_symm_val dot_S1024x1024_S1024x1280_S1024x1280_1_0_0_1_n_n 1024 rfl rfl k
      match a with | ⟨0, _⟩ => rfl | ⟨1, _⟩ => exact hk))
    (fun k => funext fun a => Fin.ext (by
      have hk := contrEquiv1_symm_val dot_S1024x1024_S1024x1280_S1024x1280_1_0_0_1_n_n 1024 rfl rfl k
      match a with | ⟨0, _⟩ => exact hk | ⟨1, _⟩ => rfl))

/-- The two blocks of columns a grid point is handed, side by side. -/
theorem pair_at (v0 v1 : FVec 𝓘 S1x1024x640 .bf16) (X : FVec 𝓘 S2x1024x640 .bf16) (h0 : ∀ r e, v0 (ix3 (0 : Fin 1) r e) = X (ix3 (0 : Fin 2) r e))
    (h1 : ∀ r e, v1 (ix3 (0 : Fin 1) r e) = X (ix3 (1 : Fin 2) r e)) (r : Fin 1024) (w : Fin 1280) (b : Fin 2) (e : Fin 640)
    (hw : w.val = b.val * 640 + e.val) :
    concatenate S1024x1280 1 [⟨S1024x640, shapeCast S1024x640 v0 shapeCasts_S1x1024x640_S1024x640⟩, ⟨S1024x640, shapeCast S1024x640 v1 shapeCasts_S1x1024x640_S1024x640⟩]
      concatenates_S1024x640_S1024x640_S1024x1280_d1 (ix2 r w) = X (ix3 b r e) :=
  pair_columns _ _ _ (fun b r e => X (ix3 b r e)) (fun r e => (unstacked v0 _ r e).trans (h0 r e))
    (fun r e => (unstacked v1 _ r e).trans (h1 r e)) r w b e hw

section
variable (c : Dev nD) (i : grid0.Coords) (arg3 : Memref sig .tc .vmem S1024x1024 .bf16) (harg3 : arg3.IsWhole)
  (arg4 : Memref sig .tc .vmem S2x1024x640 .bf16) (harg4 : arg4.IsWhole) (arg5 : Memref sig .tc .vmem S1024x1280 .f32) (harg5 : arg5.IsWhole)
  (arg6 : Memref sig .tc .vmem S8x128 .f32) (harg6 : arg6.IsWhole) (x0 : Vec 𝓘 S1024x1024 .bf16) (x1 : Vec 𝓘 S2x1024x640 .bf16)

theorem out_at (r : Fin 1024) (w : Fin 1280) (b : Fin 2) (e : Fin 640) (hw : w.val = b.val * 640 + e.val) :
    out0_A_2 (F := 𝓘) c i arg3 harg3 arg4 harg4 arg5 harg5 arg6 harg6 x0 x1 (ix2 r w)
      = ∑ k : Fin 1024, x0 (ix2 r k) * x1 (ix3 b k e) := by
  unfold out0_A_2 kernelRun0_A; dsimp only; sl_unfold_words
  rw [store_all _ _ _ _ off2]
  simp only [load_all (S := S1024x1024) arg3 harg3 x0 _ off2, k0_pay1, shapeCast_self]
  refine (dot_at x0 _ r w).trans (Finset.sum_congr rfl fun k _ => congrArg (fun z => x0 (ix2 r k) * z) ?_)
  exact pair_at _ _ x1 (fun r e => load_part arg4 harg4 x1 0 _ rfl inb_S2x1024x640_S1x1024x640_0_0_0 r e)
    (fun r e => load_part arg4 harg4 x1 1 _ rfl inb_S2x1024x640_S1x1024x640_1_0_0 r e) k w b e hw

end

/-! ## The blocks of the arrays -/

theorem where_0 : ∀ t : Fin cfg0.N, win0_0.index t 0 = t.val / 4 ∧ win0_0.index t 1 = 0 :=
  (by decide +kernel : ∀ t : Fin grid0.N, win0_0.index t 0 = t.val / 4 ∧ win0_0.index t 1 = 0)
theorem where_1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem where_2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 1024) (u : S2048x1024.Idx)
    (h0 : (u 0).val = (t.val / 4) * 1024 + r.val) (h1 : (u 1).val = e.val) :
    ((cfg0.win 0).blk t).view.read (Elt 𝓘) X (ix2 r e : S1024x1024.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v3)) (b : Fin 2) (r : Fin 1024) (e : Fin 640) (u : S8x1024x640.Idx)
    (h0 : (u 0).val = (t.val % 4) * 2 + b.val) (h1 : (u 1).val = r.val) (h2 : (u 2).val = e.val) :
    ((cfg0.win 1).blk t).view.read (Elt 𝓘) X (ix3 b r e : S2x1024x640.Idx) = X u := by
  obtain ⟨w0, w1, w2⟩ := where_1 t
  rw [View.read_apply]
  show X _ = X _
  refine congrArg X (funext fun a => Fin.ext ?_)
  match a with
  | ⟨0, _⟩ => show win0_1.index t 0 * 2 + 1 * b.val = (u 0).val; rw [w0, h0]; omega
  | ⟨1, _⟩ => show win0_1.index t 1 * 1024 + 1 * r.val = (u 1).val; rw [w1, h1]; omega
  | ⟨2, _⟩ => show win0_1.index t 2 * 640 + 1 * e.val = (u 2).val; rw [w2, h2]; omega

/-! ## What the launch is handed -/

/-- The two arguments. -/
def left : FVec 𝓘 S2048x1024 .f32 := m ((c : Thread nD τ).loc main_arg0)
def right : FVec 𝓘 S1024x5120 .f32 := m ((c : Thread nD τ).loc main_arg1)

theorem V_left (u : S2048x1024.Idx) : V m c main_v0 u = left m c u := by
  have h : V m c main_v0 = truncf .bf16 (left m c) bitsLt_bf16_f32 := by unfold V; after_reads_simp; rfl
  rw [h]; rfl

/-- The right argument's columns are handed over in eight blocks. -/
theorem V_right (d : Fin 8) (r : Fin 1024) (e : Fin 640) (u : S1024x5120.Idx) (h0 : (u 0).val = r.val) (h1 : (u 1).val = d.val * 640 + e.val) :
    V m c main_v3 (ix3 d r e : S8x1024x640.Idx) = right m c u := by
  have h : V m c main_v3 = transpose S8x1024x640 [1, 0, 2] (shapeCast S1024x8x640 (truncf .bf16 (right m c) bitsLt_bf16_f32 : FVec 𝓘 S1024x5120 .bf16)
      shapeCasts_S1024x5120_S1024x8x640) transposes_S1024x8x640_S8x1024x640_1_0_2 := by unfold V; after_reads_simp; rfl
  rw [h]
  refine (transpose_apply [1, 0, 2] _ transposes_S1024x8x640_S8x1024x640_1_0_2 (ix3 d r e) (ix3 r d e) fun a => ?_).trans ?_
  · match a with | ⟨0, _⟩ => rfl | ⟨1, _⟩ => rfl | ⟨2, _⟩ => rfl
  refine shapeCast_apply _ shapeCasts_S1024x5120_S1024x8x640 (ix3 r d e) u ?_
  rewrite [Shape.rowMajor_val_two, Shape.rowMajor_val_three]
  show (u 0).val * 5120 + (u 1).val = (r.val * 8 + d.val) * 640 + e.val
  rw [h0, h1]; omega

/-! ## The array after the launch -/

theorem written : (dats m 0 c).flushed 2 t
    = ((cfg0.win 2).blk t).view.read (Elt 𝓘) (product (left m c) (right m c) : Buf (Elt 𝓘) ((c : Thread nD τ).loc main_v4)) := by
  obtain ⟨w0, w1⟩ := where_2 t
  have ht : t.val < 8 := lt_of_lt_of_eq t.isLt N_0
  rw [Cert.Kernel6Ideal.Value.flushed2_A m c t]
  funext y
  rw [View.read_apply]
  obtain ⟨r, w, rfl⟩ : ∃ (r : Fin 1024) (w : Fin 1280), y = ix2 r w := ⟨y 0, y 1, (ix2_eta y).symm⟩
  have hw := w.isLt
  obtain ⟨b, hb⟩ : ∃ b : Fin 2, b.val = w.val / 640 := ⟨⟨w.val / 640, by omega⟩, rfl⟩
  obtain ⟨e, he⟩ : ∃ e : Fin 640, e.val = w.val % 640 := ⟨⟨w.val % 640, by omega⟩, rfl⟩
  obtain ⟨d, hd⟩ : ∃ d : Fin 8, d.val = (t.val % 4) * 2 + b.val := ⟨⟨(t.val % 4) * 2 + b.val, by omega⟩, rfl⟩
  refine (out_at c _ _ _ _ _ _ _ _ _ _ _ r w b e (by omega)).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 1024 + 1 * r.val = (t.val / 4) * 1024 + r.val
      rw [w0]; omega
    · rfl
  · refine (window_1 c t (V m c main_v3) b k e (ix3 d k e) hd ?_ ?_).trans (V_right m c d k e _ ?_ ?_)
    · rfl
    · rfl
    · rfl
    · show win0_2.index t 1 * 1280 + 1 * w.val = d.val * 640 + e.val
      rw [w1]; omega

theorem array : (dats m 0 c).arrAt 2 cfg0.N = (product (left m c) (right m c) : Buf (Elt 𝓘) ((c : Thread nD τ).loc main_v4)) :=
  (dats m 0 c).arrAt_eq_of_cover 2 _ (fun t _ => written m c t) fun i => by
    have hi0 : (i 0 : Nat) < 2048 := (i 0).isLt
    have hi1 : (i 1 : Nat) < 5120 := (i 1).isLt
    obtain ⟨t, ht⟩ : ∃ t : Fin cfg0.N, t.val = (i 0).val / 1024 * 4 + (i 1).val / 1280 := ⟨⟨(i 0).val / 1024 * 4 + (i 1).val / 1280, by rw [show cfg0.N = 8 from N_0]; omega⟩, rfl⟩
    obtain ⟨w0, w1⟩ := where_2 t
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1280 ≤ (i 1 : Nat) ∧ (i 1 : Nat) < win0_2.index t 1 * 1280 + 1280
      rw [w1]; omega

end

/-! ## The reference -/

theorem reference (X : FVec 𝓘 S2048x1024 .f32) (Y : FVec 𝓘 S1024x5120 .f32) : val_main_v0 (F := 𝓘) X Y = product X Y := by
  funext i
  refine (val_main_v0_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference6Ideal (hReference6Ideal := Cert.Reference6Ideal.Gen.facts) := by
  intro m g _
  exact (θ_run Cert.Reference6Ideal.defs _ _).mono (fun r h => ⟨fun c => (h c).2, sem_eq_zero_of_no_sems (by decide) r.2⟩)
    (Cert.Reference6Ideal.Value.run m g)

/-! ## The equation -/

theorem equal : Cert.algebraic_Kernel6Ideal_Reference6Ideal (hKernel6Ideal := Cert.Kernel6Ideal.Gen.facts)
    (hReference6Ideal := Cert.Reference6Ideal.Gen.facts) := by
  intro m ρ m' ρ' _ hag
  refine ⟨fun c => product (left m c) (right m c), ?_, ?_⟩
  · refine (θ_run Cert.Kernel6Ideal.defs _ _).mono (fun r h c => ?_) (Cert.Kernel6Ideal.Value.run_blocks m ρ)
    exact ⟨(h c).1.trans (array m c), (h c).2⟩
  · refine (θ_run Cert.Reference6Ideal.defs _ _).mono (fun r h c => ?_) (Cert.Reference6Ideal.Value.run m' ρ')
    obtain ⟨a0, a1⟩ := hag c
    refine ⟨(h c).1.trans ((val_main_v0_eq _ _).trans ?_), (h c).2⟩
    rw [reference, a0, a1]; rfl

end Cert.Product6

end
-- ==== Proof.Product7.lean ====
/- The odd layer's projections: the layer's input times the input weight, whose columns are handed over in eight
   blocks, two a grid point; and the reference's. -/
module

public import proofs.«01_k».proof.Defs
public import proofs.«01_k».proof.Proof.Tiles
public import proofs.«01_k».proof.Proof.Gen.Kernel7Ideal.Value
public import proofs.«01_k».proof.Proof.Gen.Reference7Ideal.Read
public import proofs.«01_k».proof.Proof.Gen.Reference7Ideal
public import Idealize.ShloMosaic.Lib.StableHlo.ReadAt

@[expose] public section

set_option maxRecDepth 16384

noncomputable section

namespace Cert.Product7

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel7Ideal Cert.Kernel7Ideal.Gen
open Cert.Reference7Ideal.Read

local notation "𝓘" => Idealize.ShloMosaic.Ideal

/-- The whole product. -/
def product (X : FVec 𝓘 S2048x1024 .f32) (Y : FVec 𝓘 S1024x4096 .f32) : FVec 𝓘 S2048x4096 .f32 :=
  fun i => ∑ k : Fin 1024, X (ix2 (i 0) k) * Y (ix2 k (i 1))

/-! ## One grid point -/

/-- The product of two blocks. -/
theorem dot_at (A : FVec 𝓘 S2048x1024 .bf16) (B : FVec 𝓘 S1024x1024 .bf16) (r : Fin 2048) (e : Fin 1024) :
    (matmul dot_S2048x1024_S1024x1024_S2048x1024_1_0_0_1_n_n none A B (constant S2048x1024 .f32 0x00000000#32) : FVec 𝓘 S2048x1024 .f32) (ix2 r e)
      = ∑ k : Fin 1024, A (ix2 r k) * B (ix2 k e) :=
  product_at _ 1024 rfl rfl A B (ix2 r e) (fun k => ix2 r k) (fun k => ix2 k e)
    (fun k => funext fun a => Fin.ext (by
      have hk := contrEquiv1_symm_val dot_S2048x1024_S1024x1024_S2048x1024_1_0_0_1_n_n 1024 rfl rfl k
      match a with | ⟨0, _⟩ => rfl | ⟨1, _⟩ => exact hk))
    (fun k => funext fun a => Fin.ext (by
      have hk := contrEquiv1_symm_val dot_S2048x1024_S1024x1024_S2048x1024_1_0_0_1_n_n 1024 rfl rfl k
      match a with | ⟨0, _⟩ => exact hk | ⟨1, _⟩ => rfl))

/-- The two blocks of columns a grid point is handed, side by side. -/
theorem pair_at (v0 v1 : FVec 𝓘 S1x1024x512 .bf16) (X : FVec 𝓘 S2x1024x512 .bf16) (h0 : ∀ r e, v0 (ix3 (0 : Fin 1) r e) = X (ix3 (0 : Fin 2) r e))
    (h1 : ∀ r e, v1 (ix3 (0 : Fin 1) r e) = X (ix3 (1 : Fin 2) r e)) (r : Fin 1024) (w : Fin 1024) (b : Fin 2) (e : Fin 512)
    (hw : w.val = b.val * 512 + e.val) :
    concatenate S1024x1024 1 [⟨S1024x512, shapeCast S1024x512 v0 shapeCasts_S1x1024x512_S1024x512⟩, ⟨S1024x512, shapeCast S1024x512 v1 shapeCasts_S1x1024x512_S1024x512⟩]
      concatenates_S1024x512_S1024x512_S1024x1024_d1 (ix2 r w) = X (ix3 b r e) :=
  pair_columns _ _ _ (fun b r e => X (ix3 b r e)) (fun r e => (unstacked v0 _ r e).trans (h0 r e))
    (fun r e => (unstacked v1 _ r e).trans (h1 r e)) r w b e hw

section
variable (c : Dev nD) (i : grid0.Coords) (arg3 : Memref sig .tc .vmem S2048x1024 .bf16) (harg3 : arg3.IsWhole)
  (arg4 : Memref sig .tc .vmem S2x1024x512 .bf16) (harg4 : arg4.IsWhole) (arg5 : Memref sig .tc .vmem S2048x1024 .f32) (harg5 : arg5.IsWhole)
  (arg6 : Memref sig .tc .vmem S8x128 .f32) (harg6 : arg6.IsWhole) (x0 : Vec 𝓘 S2048x1024 .bf16) (x1 : Vec 𝓘 S2x1024x512 .bf16)

theorem out_at (r : Fin 2048) (w : Fin 1024) (b : Fin 2) (e : Fin 512) (hw : w.val = b.val * 512 + e.val) :
    out0_A_2 (F := 𝓘) c i arg3 harg3 arg4 harg4 arg5 harg5 arg6 harg6 x0 x1 (ix2 r w)
      = ∑ k : Fin 1024, x0 (ix2 r k) * x1 (ix3 b k e) := by
  unfold out0_A_2 kernelRun0_A; dsimp only; sl_unfold_words
  rw [store_all _ _ _ _ off2]
  simp only [load_all (S := S2048x1024) arg3 harg3 x0 _ off2, k0_pay1, shapeCast_self]
  refine (dot_at x0 _ r w).trans (Finset.sum_congr rfl fun k _ => congrArg (fun z => x0 (ix2 r k) * z) ?_)
  exact pair_at _ _ x1 (fun r e => load_part arg4 harg4 x1 0 _ rfl inb_S2x1024x512_S1x1024x512_0_0_0 r e)
    (fun r e => load_part arg4 harg4 x1 1 _ rfl inb_S2x1024x512_S1x1024x512_1_0_0 r e) k w b e hw

end

/-! ## The blocks of the arrays -/

theorem where_0 : ∀ t : Fin cfg0.N, win0_0.index t 0 = 0 ∧ win0_0.index t 1 = 0 :=
  (by decide +kernel : ∀ t : Fin grid0.N, win0_0.index t 0 = 0 ∧ win0_0.index t 1 = 0)
theorem where_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem where_2 : ∀ t : Fin cfg0.N, win0_2.index t 0 = 0 ∧ win0_2.index t 1 = t.val :=
  (by decide +kernel : ∀ t : Fin grid0.N, win0_2.index t 0 = 0 ∧ win0_2.index t 1 = t.val)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 1024) (u : S2048x1024.Idx)
    (h0 : (u 0).val = r.val) (h1 : (u 1).val = e.val) :
    ((cfg0.win 0).blk t).view.read (Elt 𝓘) X (ix2 r e : S2048x1024.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v3)) (b : Fin 2) (r : Fin 1024) (e : Fin 512) (u : S8x1024x512.Idx)
    (h0 : (u 0).val = t.val * 2 + b.val) (h1 : (u 1).val = r.val) (h2 : (u 2).val = e.val) :
    ((cfg0.win 1).blk t).view.read (Elt 𝓘) X (ix3 b r e : S2x1024x512.Idx) = X u := by
  obtain ⟨w0, w1, w2⟩ := where_1 t
  rw [View.read_apply]
  show X _ = X _
  refine congrArg X (funext fun a => Fin.ext ?_)
  match a with
  | ⟨0, _⟩ => show win0_1.index t 0 * 2 + 1 * b.val = (u 0).val; rw [w0, h0]; omega
  | ⟨1, _⟩ => show win0_1.index t 1 * 1024 + 1 * r.val = (u 1).val; rw [w1, h1]; omega
  | ⟨2, _⟩ => show win0_1.index t 2 * 512 + 1 * e.val = (u 2).val; rw [w2, h2]; omega

/-! ## What the launch is handed -/

/-- The two arguments. -/
def left : FVec 𝓘 S2048x1024 .f32 := m ((c : Thread nD τ).loc main_arg0)
def right : FVec 𝓘 S1024x4096 .f32 := m ((c : Thread nD τ).loc main_arg1)

theorem V_left (u : S2048x1024.Idx) : V m c main_v0 u = left m c u := by
  have h : V m c main_v0 = truncf .bf16 (left m c) bitsLt_bf16_f32 := by unfold V; after_reads_simp; rfl
  rw [h]; rfl

/-- The right argument's columns are handed over in eight blocks. -/
theorem V_right (d : Fin 8) (r : Fin 1024) (e : Fin 512) (u : S1024x4096.Idx) (h0 : (u 0).val = r.val) (h1 : (u 1).val = d.val * 512 + e.val) :
    V m c main_v3 (ix3 d r e : S8x1024x512.Idx) = right m c u := by
  have h : V m c main_v3 = transpose S8x1024x512 [1, 0, 2] (shapeCast S1024x8x512 (truncf .bf16 (right m c) bitsLt_bf16_f32 : FVec 𝓘 S1024x4096 .bf16)
      shapeCasts_S1024x4096_S1024x8x512) transposes_S1024x8x512_S8x1024x512_1_0_2 := by unfold V; after_reads_simp; rfl
  rw [h]
  refine (transpose_apply [1, 0, 2] _ transposes_S1024x8x512_S8x1024x512_1_0_2 (ix3 d r e) (ix3 r d e) fun a => ?_).trans ?_
  · match a with | ⟨0, _⟩ => rfl | ⟨1, _⟩ => rfl | ⟨2, _⟩ => rfl
  refine shapeCast_apply _ shapeCasts_S1024x4096_S1024x8x512 (ix3 r d e) u ?_
  rewrite [Shape.rowMajor_val_two, Shape.rowMajor_val_three]
  show (u 0).val * 4096 + (u 1).val = (r.val * 8 + d.val) * 512 + e.val
  rw [h0, h1]; omega

/-! ## The array after the launch -/

theorem written : (dats m 0 c).flushed 2 t
    = ((cfg0.win 2).blk t).view.read (Elt 𝓘) (product (left m c) (right m c) : Buf (Elt 𝓘) ((c : Thread nD τ).loc main_v4)) := by
  obtain ⟨w0, w1⟩ := where_2 t
  have ht : t.val < 4 := lt_of_lt_of_eq t.isLt N_0
  rw [Cert.Kernel7Ideal.Value.flushed2_A m c t]
  funext y
  rw [View.read_apply]
  obtain ⟨r, w, rfl⟩ : ∃ (r : Fin 2048) (w : Fin 1024), y = ix2 r w := ⟨y 0, y 1, (ix2_eta y).symm⟩
  have hw := w.isLt
  obtain ⟨b, hb⟩ : ∃ b : Fin 2, b.val = w.val / 512 := ⟨⟨w.val / 512, by omega⟩, rfl⟩
  obtain ⟨e, he⟩ : ∃ e : Fin 512, e.val = w.val % 512 := ⟨⟨w.val % 512, by omega⟩, rfl⟩
  obtain ⟨d, hd⟩ : ∃ d : Fin 8, d.val = t.val * 2 + b.val := ⟨⟨t.val * 2 + b.val, by omega⟩, rfl⟩
  refine (out_at c _ _ _ _ _ _ _ _ _ _ _ r w b e (by omega)).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 2048 + 1 * r.val = r.val
      rw [w0]; omega
    · rfl
  · refine (window_1 c t (V m c main_v3) b k e (ix3 d k e) hd ?_ ?_).trans (V_right m c d k e _ ?_ ?_)
    · rfl
    · rfl
    · rfl
    · show win0_2.index t 1 * 1024 + 1 * w.val = d.val * 512 + e.val
      rw [w1]; omega

theorem array : (dats m 0 c).arrAt 2 cfg0.N = (product (left m c) (right m c) : Buf (Elt 𝓘) ((c : Thread nD τ).loc main_v4)) :=
  (dats m 0 c).arrAt_eq_of_cover 2 _ (fun t _ => written m c t) fun i => by
    have hi0 : (i 0 : Nat) < 2048 := (i 0).isLt
    have hi1 : (i 1 : Nat) < 4096 := (i 1).isLt
    obtain ⟨t, ht⟩ : ∃ t : Fin cfg0.N, t.val = (i 1).val / 1024 := ⟨⟨(i 1).val / 1024, by rw [show cfg0.N = 4 from N_0]; omega⟩, rfl⟩
    obtain ⟨w0, w1⟩ := where_2 t
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x1024 .f32) (Y : FVec 𝓘 S1024x4096 .f32) : val_main_v0 (F := 𝓘) X Y = product X Y := by
  funext i
  refine (val_main_v0_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference7Ideal (hReference7Ideal := Cert.Reference7Ideal.Gen.facts) := by
  intro m g _
  exact (θ_run Cert.Reference7Ideal.defs _ _).mono (fun r h => ⟨fun c => (h c).2, sem_eq_zero_of_no_sems (by decide) r.2⟩)
    (Cert.Reference7Ideal.Value.run m g)

/-! ## The equation -/

theorem equal : Cert.algebraic_Kernel7Ideal_Reference7Ideal (hKernel7Ideal := Cert.Kernel7Ideal.Gen.facts)
    (hReference7Ideal := Cert.Reference7Ideal.Gen.facts) := by
  intro m ρ m' ρ' _ hag
  refine ⟨fun c => product (left m c) (right m c), ?_, ?_⟩
  · refine (θ_run Cert.Kernel7Ideal.defs _ _).mono (fun r h c => ?_) (Cert.Kernel7Ideal.Value.run_blocks m ρ)
    exact ⟨(h c).1.trans (array m c), (h c).2⟩
  · refine (θ_run Cert.Reference7Ideal.defs _ _).mono (fun r h c => ?_) (Cert.Reference7Ideal.Value.run m' ρ')
    obtain ⟨a0, a1⟩ := hag c
    refine ⟨(h c).1.trans ((val_main_v0_eq _ _).trans ?_), (h c).2⟩
    rw [reference, a0, a1]; rfl

end Cert.Product7

end
-- ==== Proof.Product8.lean ====
/- The even layer's gradient of its output weight: the product over the rows of the layer's inner values and the
   gradient of its output, in blocks of 768 rows, and the reference's. -/
module

public import proofs.«01_k».proof.Defs
public import proofs.«01_k».proof.Proof.Tiles
public import proofs.«01_k».proof.Proof.Gen.Kernel8Ideal.Value
public import proofs.«01_k».proof.Proof.Gen.Reference8Ideal.Read
public import proofs.«01_k».proof.Proof.Gen.Reference8Ideal
public import Idealize.ShloMosaic.Lib.StableHlo.ReadAt

@[expose] public section

set_option maxRecDepth 16384

noncomputable section

namespace Cert.Product8

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel8Ideal Cert.Kernel8Ideal.Gen
open Cert.Reference8Ideal.Read

local notation "𝓘" => Idealize.ShloMosaic.Ideal

/-- The whole product. -/
def product (X : FVec 𝓘 S2048x1536 .f32) (Y : FVec 𝓘 S2048x1024 .f32) : FVec 𝓘 S1536x1024 .bf16 :=
  fun i => ∑ k : Fin 2048, X (ix2 k (i 0)) * Y (ix2 k (i 1))

/-! ## One grid point -/

/-- The product of two blocks. -/
theorem dot_at (A : FVec 𝓘 S2048x768 .bf16) (B : FVec 𝓘 S2048x1024 .bf16) (r : Fin 768) (e : Fin 1024) :
    (matmul dot_S2048x768_S2048x1024_S768x1024_0_0_1_1_n_n none A B (constant S768x1024 .f32 0x00000000#32) : FVec 𝓘 S768x1024 .f32) (ix2 r e)
      = ∑ k : Fin 2048, A (ix2 k r) * B (ix2 k e) :=
  product_at _ 2048 rfl rfl A B (ix2 r e) (fun k => ix2 k r) (fun k => ix2 k e)
    (fun k => funext fun a => Fin.ext (by
      have hk := contrEquiv1_symm_val dot_S2048x768_S2048x1024_S768x1024_0_0_1_1_n_n 2048 rfl rfl k
      match a with | ⟨0, _⟩ => exact hk | ⟨1, _⟩ => rfl))
    (fun k => funext fun a => Fin.ext (by
      have hk := contrEquiv1_symm_val dot_S2048x768_S2048x1024_S768x1024_0_0_1_1_n_n 2048 rfl rfl k
      match a with | ⟨0, _⟩ => exact hk | ⟨1, _⟩ => rfl))

section
variable (c : Dev nD) (i : grid0.Coords) (arg3 : Memref sig .tc .vmem S2048x768 .bf16) (harg3 : arg3.IsWhole)
  (arg4 : Memref sig .tc .vmem S2048x1024 .bf16) (harg4 : arg4.IsWhole) (arg5 : Memref sig .tc .vmem S768x1024 .bf16) (harg5 : arg5.IsWhole)
  (arg6 : Memref sig .tc .vmem S8x128 .f32) (harg6 : arg6.IsWhole) (x0 : Vec 𝓘 S2048x768 .bf16) (x1 : Vec 𝓘 S2048x1024 .bf16)

theorem out_at (r : Fin 768) (e : Fin 1024) :
    out0_A_2 (F := 𝓘) c i arg3 harg3 arg4 harg4 arg5 harg5 arg6 harg6 x0 x1 (ix2 r e) = ∑ k : Fin 2048, x0 (ix2 k r) * x1 (ix2 k e) := by
  unfold out0_A_2 kernelRun0_A; dsimp only; sl_unfold_words
  rw [store_all _ _ _ _ off2]
  simp only [load_all (S := S2048x768) arg3 harg3 x0 _ off2, load_all (S := S2048x1024) arg4 harg4 x1 _ off2, k0_pay1, shapeCast_self]
  exact dot_at x0 x1 r e

end

/-! ## The blocks of the arrays -/

theorem where_0 : ∀ t : Fin cfg0.N, win0_0.index t 0 = 0 ∧ win0_0.index t 1 = t.val :=
  (by decide +kernel : ∀ t : Fin grid0.N, win0_0.index t 0 = 0 ∧ win0_0.index t 1 = t.val)
theorem where_1 : ∀ t : Fin cfg0.N, win0_1.index t 0 = 0 ∧ win0_1.index t 1 = 0 :=
  (by decide +kernel : ∀ t : Fin grid0.N, win0_1.index t 0 = 0 ∧ win0_1.index t 1 = 0)
theorem where_2 : ∀ t : Fin cfg0.N, win0_2.index t 0 = t.val ∧ win0_2.index t 1 = 0 :=
  (by decide +kernel : ∀ t : Fin grid0.N, win0_2.index t 0 = t.val ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 768) (u : S2048x1536.Idx)
    (h0 : (u 0).val = r.val) (h1 : (u 1).val = t.val * 768 + e.val) :
    ((cfg0.win 0).blk t).view.read (Elt 𝓘) X (ix2 r e : S2048x768.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 768 + 1 * e.val = (u 1).val; rw [w1, h1]; omega

theorem window_1 (X : Buf (Elt 𝓘) ((c : Thread nD τ).loc main_v1)) (r : Fin 2048) (e : Fin 1024) (u : S2048x1024.Idx)
    (h0 : (u 0).val = r.val) (h1 : (u 1).val = e.val) :
    ((cfg0.win 1).blk t).view.read (Elt 𝓘) X (ix2 r e : S2048x1024.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x1536 .f32 := m ((c : Thread nD τ).loc main_arg0)
def right : FVec 𝓘 S2048x1024 .f32 := m ((c : Thread nD τ).loc main_arg1)

theorem V_left (u : S2048x1536.Idx) : V m c main_v0 u = left m c u := by
  have h : V m c main_v0 = truncf .bf16 (left m c) bitsLt_bf16_f32 := by unfold V; after_reads_simp; rfl
  rw [h]; rfl
theorem V_right (u : S2048x1024.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel8Ideal.Value.flushed2_A m c t]
  funext y
  rw [View.read_apply]
  obtain ⟨r, e, rfl⟩ : ∃ (r : Fin 768) (e : Fin 1024), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) k r _ ?_ ?_).trans (V_left m c _)
    · rfl
    · show win0_2.index t 0 * 768 + 1 * r.val = t.val * 768 + r.val
      rw [w0]; omega
  · refine (window_1 c t (V m c main_v1) k e _ ?_ ?_).trans (V_right m c _)
    · rfl
    · show win0_2.index t 1 * 1024 + 1 * e.val = e.val
      rw [w1]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 1536 := (i 0).isLt
    have hi1 : (i 1 : Nat) < 1024 := (i 1).isLt
    obtain ⟨t, ht⟩ : ∃ t : Fin cfg0.N, t.val = (i 0).val / 768 := ⟨⟨(i 0).val / 768, by rw [show cfg0.N = 2 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 768 ≤ (i 0 : Nat) ∧ (i 0 : Nat) < win0_2.index t 0 * 768 + 768
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x1536 .f32) (Y : FVec 𝓘 S2048x1024 .f32) : val_main_v4 (F := 𝓘) X Y = product X Y := by
  funext i
  rw [val_main_v4_apply, val_main_v3_apply]
  refine (val_main_v2_apply X Y _).trans (Finset.sum_congr rfl fun k _ => (mul_comm _ _).trans ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference8Ideal (hReference8Ideal := Cert.Reference8Ideal.Gen.facts) := by
  intro m g _
  exact (θ_run Cert.Reference8Ideal.defs _ _).mono (fun r h => ⟨fun c => (h c).2, sem_eq_zero_of_no_sems (by decide) r.2⟩)
    (Cert.Reference8Ideal.Value.run m g)

/-! ## The equation -/

theorem equal : Cert.algebraic_Kernel8Ideal_Reference8Ideal (hKernel8Ideal := Cert.Kernel8Ideal.Gen.facts)
    (hReference8Ideal := Cert.Reference8Ideal.Gen.facts) := by
  intro m ρ m' ρ' _ hag
  refine ⟨fun c => product (left m c) (right m c), ?_, ?_⟩
  · refine (θ_run Cert.Kernel8Ideal.defs _ _).mono (fun r h c => ?_) (Cert.Kernel8Ideal.Value.run_blocks m ρ)
    exact ⟨(h c).1.trans (array m c), (h c).2⟩
  · refine (θ_run Cert.Reference8Ideal.defs _ _).mono (fun r h c => ?_) (Cert.Reference8Ideal.Value.run m' ρ')
    obtain ⟨a0, a1⟩ := hag c
    refine ⟨(h c).1.trans ((val_main_v4_eq _ _).trans ?_), (h c).2⟩
    rw [reference, a0, a1]; rfl

end Cert.Product8

end
-- ==== Proof.Product9.lean ====
/- The even layer's gradient of its inner values: the gradient of its output times the output weight transposed, in
   blocks of 1024 by 768, and the reference's. -/
module

public import proofs.«01_k».proof.Defs
public import proofs.«01_k».proof.Proof.Tiles
public import proofs.«01_k».proof.Proof.Gen.Kernel9Ideal.Value
public import proofs.«01_k».proof.Proof.Gen.Reference9Ideal.Read
public import proofs.«01_k».proof.Proof.Gen.Reference9Ideal
public import Idealize.ShloMosaic.Lib.StableHlo.ReadAt

@[expose] public section

set_option maxRecDepth 16384

noncomputable section

namespace Cert.Product9

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel9Ideal Cert.Kernel9Ideal.Gen
open Cert.Reference9Ideal.Read

local notation "𝓘" => Idealize.ShloMosaic.Ideal

/-- The whole product. -/
def product (X : FVec 𝓘 S2048x1024 .f32) (Y : FVec 𝓘 S1536x1024 .f32) : FVec 𝓘 S2048x1536 .f32 :=
  fun i => ∑ k : Fin 1024, X (ix2 (i 0) k) * Y (ix2 (i 1) k)

/-! ## One grid point -/

/-- The product of two blocks. -/
theorem dot_at (A : FVec 𝓘 S1024x1024 .bf16) (B : FVec 𝓘 S768x1024 .bf16) (r : Fin 1024) (e : Fin 768) :
    (matmul dot_S1024x1024_S768x1024_S1024x768_1_1_0_0_n_n none A B (constant S1024x768 .f32 0x00000000#32) : FVec 𝓘 S1024x768 .f32) (ix2 r e)
      = ∑ k : Fin 1024, A (ix2 r k) * B (ix2 e k) :=
  product_at _ 1024 rfl rfl A B (ix2 r e) (fun k => ix2 r k) (fun k => ix2 e k)
    (fun k => funext fun a => Fin.ext (by
      have hk := contrEquiv1_symm_val dot_S1024x1024_S768x1024_S1024x768_1_1_0_0_n_n 1024 rfl rfl k
      match a with | ⟨0, _⟩ => rfl | ⟨1, _⟩ => exact hk))
    (fun k => funext fun a => Fin.ext (by
      have hk := contrEquiv1_symm_val dot_S1024x1024_S768x1024_S1024x768_1_1_0_0_n_n 1024 rfl rfl k
      match a with | ⟨0, _⟩ => rfl | ⟨1, _⟩ => exact hk))

section
variable (c : Dev nD) (i : grid0.Coords) (arg3 : Memref sig .tc .vmem S1024x1024 .bf16) (harg3 : arg3.IsWhole)
  (arg4 : Memref sig .tc .vmem S768x1024 .bf16) (harg4 : arg4.IsWhole) (arg5 : Memref sig .tc .vmem S1024x768 .f32) (harg5 : arg5.IsWhole)
  (arg6 : Memref sig .tc .vmem S8x128 .f32) (harg6 : arg6.IsWhole) (x0 : Vec 𝓘 S1024x1024 .bf16) (x1 : Vec 𝓘 S768x1024 .bf16)

theorem out_at (r : Fin 1024) (e : Fin 768) :
    out0_A_2 (F := 𝓘) c i arg3 harg3 arg4 harg4 arg5 harg5 arg6 harg6 x0 x1 (ix2 r e) = ∑ k : Fin 1024, x0 (ix2 r k) * x1 (ix2 e k) := by
  unfold out0_A_2 kernelRun0_A; dsimp only; sl_unfold_words
  rw [store_all _ _ _ _ off2]
  simp only [load_all (S := S1024x1024) arg3 harg3 x0 _ off2, load_all (S := S768x1024) arg4 harg4 x1 _ off2, k0_pay1, shapeCast_self]
  exact dot_at x0 x1 r e

end

/-! ## The blocks of the arrays -/

theorem where_0 : ∀ t : Fin cfg0.N, win0_0.index t 0 = t.val / 2 ∧ win0_0.index t 1 = 0 :=
  (by decide +kernel : ∀ t : Fin grid0.N, win0_0.index t 0 = t.val / 2 ∧ win0_0.index t 1 = 0)
theorem where_1 : ∀ t : Fin cfg0.N, win0_1.index t 0 = t.val % 2 ∧ win0_1.index t 1 = 0 :=
  (by decide +kernel : ∀ t : Fin grid0.N, win0_1.index t 0 = t.val % 2 ∧ win0_1.index t 1 = 0)
theorem where_2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 1024) (u : S2048x1024.Idx)
    (h0 : (u 0).val = (t.val / 2) * 1024 + r.val) (h1 : (u 1).val = e.val) :
    ((cfg0.win 0).blk t).view.read (Elt 𝓘) X (ix2 r e : S1024x1024.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v1)) (r : Fin 768) (e : Fin 1024) (u : S1536x1024.Idx)
    (h0 : (u 0).val = (t.val % 2) * 768 + r.val) (h1 : (u 1).val = e.val) :
    ((cfg0.win 1).blk t).view.read (Elt 𝓘) X (ix2 r e : S768x1024.Idx) = X u := by
  obtain ⟨w0, w1⟩ := where_1 t
  rw [View.read_apply]
  show X _ = X _
  refine congrArg X (funext fun a => Fin.ext ?_)
  match a with
  | ⟨0, _⟩ => show win0_1.index t 0 * 768 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x1024 .f32 := m ((c : Thread nD τ).loc main_arg0)
def right : FVec 𝓘 S1536x1024 .f32 := m ((c : Thread nD τ).loc main_arg1)

theorem V_left (u : S2048x1024.Idx) : V m c main_v0 u = left m c u := by
  have h : V m c main_v0 = truncf .bf16 (left m c) bitsLt_bf16_f32 := by unfold V; after_reads_simp; rfl
  rw [h]; rfl
theorem V_right (u : S1536x1024.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel9Ideal.Value.flushed2_A m c t]
  funext y
  rw [View.read_apply]
  obtain ⟨r, e, rfl⟩ : ∃ (r : Fin 1024) (e : Fin 768), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 1024 + 1 * r.val = (t.val / 2) * 1024 + r.val
      rw [w0]; omega
    · rfl
  · refine (window_1 c t (V m c main_v1) e k _ ?_ ?_).trans (V_right m c _)
    · show win0_2.index t 1 * 768 + 1 * e.val = (t.val % 2) * 768 + e.val
      rw [w1]; omega
    · rfl

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 1536 := (i 1).isLt
    obtain ⟨t, ht⟩ : ∃ t : Fin cfg0.N, t.val = (i 0).val / 1024 * 2 + (i 1).val / 768 := ⟨⟨(i 0).val / 1024 * 2 + (i 1).val / 768, by rw [show cfg0.N = 4 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 768 ≤ (i 1 : Nat) ∧ (i 1 : Nat) < win0_2.index t 1 * 768 + 768
      rw [w1]; omega

end

/-! ## The reference -/

theorem reference (X : FVec 𝓘 S2048x1024 .f32) (Y : FVec 𝓘 S1536x1024 .f32) : val_main_v2 (F := 𝓘) X Y = product X Y := by
  funext i
  refine (val_main_v2_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference9Ideal (hReference9Ideal := Cert.Reference9Ideal.Gen.facts) := by
  intro m g _
  exact (θ_run Cert.Reference9Ideal.defs _ _).mono (fun r h => ⟨fun c => (h c).2, sem_eq_zero_of_no_sems (by decide) r.2⟩)
    (Cert.Reference9Ideal.Value.run m g)

/-! ## The equation -/

theorem equal : Cert.algebraic_Kernel9Ideal_Reference9Ideal (hKernel9Ideal := Cert.Kernel9Ideal.Gen.facts)
    (hReference9Ideal := Cert.Reference9Ideal.Gen.facts) := by
  intro m ρ m' ρ' _ hag
  refine ⟨fun c => product (left m c) (right m c), ?_, ?_⟩
  · refine (θ_run Cert.Kernel9Ideal.defs _ _).mono (fun r h c => ?_) (Cert.Kernel9Ideal.Value.run_blocks m ρ)
    exact ⟨(h c).1.trans (array m c), (h c).2⟩
  · refine (θ_run Cert.Reference9Ideal.defs _ _).mono (fun r h c => ?_) (Cert.Reference9Ideal.Value.run m' ρ')
    obtain ⟨a0, a1⟩ := hag c
    refine ⟨(h c).1.trans ((val_main_v2_eq _ _).trans ?_), (h c).2⟩
    rw [reference, a0, a1]; rfl

end Cert.Product9

end
-- ==== Proof.Product10.lean ====
/- The odd layer's gradient of its output weight: the product over the rows of the layer's inner values and the
   gradient of its output, in blocks of 1024 rows, and the reference's. -/
module

public import proofs.«01_k».proof.Defs
public import proofs.«01_k».proof.Proof.Tiles
public import proofs.«01_k».proof.Proof.Gen.Kernel10Ideal.Value
public import proofs.«01_k».proof.Proof.Gen.Reference10Ideal.Read
public import proofs.«01_k».proof.Proof.Gen.Reference10Ideal
public import Idealize.ShloMosaic.Lib.StableHlo.ReadAt

@[expose] public section

set_option maxRecDepth 16384

noncomputable section

namespace Cert.Product10

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel10Ideal Cert.Kernel10Ideal.Gen
open Cert.Reference10Ideal.Read

local notation "𝓘" => Idealize.ShloMosaic.Ideal

/-- The whole product. -/
def product (X : FVec 𝓘 S2048x2048 .f32) (Y : FVec 𝓘 S2048x1024 .f32) : FVec 𝓘 S2048x1024 .bf16 :=
  fun i => ∑ k : Fin 2048, X (ix2 k (i 0)) * Y (ix2 k (i 1))

/-! ## One grid point -/

/-- The product of two blocks. -/
theorem dot_at (A : FVec 𝓘 S2048x1024 .bf16) (B : FVec 𝓘 S2048x1024 .bf16) (r : Fin 1024) (e : Fin 1024) :
    (matmul dot_S2048x1024_S2048x1024_S1024x1024_0_0_1_1_n_n none A B (constant S1024x1024 .f32 0x00000000#32) : FVec 𝓘 S1024x1024 .f32) (ix2 r e)
      = ∑ k : Fin 2048, A (ix2 k r) * B (ix2 k e) :=
  product_at _ 2048 rfl rfl A B (ix2 r e) (fun k => ix2 k r) (fun k => ix2 k e)
    (fun k => funext fun a => Fin.ext (by
      have hk := contrEquiv1_symm_val dot_S2048x1024_S2048x1024_S1024x1024_0_0_1_1_n_n 2048 rfl rfl k
      match a with | ⟨0, _⟩ => exact hk | ⟨1, _⟩ => rfl))
    (fun k => funext fun a => Fin.ext (by
      have hk := contrEquiv1_symm_val dot_S2048x1024_S2048x1024_S1024x1024_0_0_1_1_n_n 2048 rfl rfl k
      match a with | ⟨0, _⟩ => exact hk | ⟨1, _⟩ => rfl))

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S8x128 .f32) (harg6 : arg6.IsWhole) (x0 : Vec 𝓘 S2048x1024 .bf16) (x1 : Vec 𝓘 S2048x1024 .bf16)

theorem out_at (r : Fin 1024) (e : Fin 1024) :
    out0_A_2 (F := 𝓘) c i arg3 harg3 arg4 harg4 arg5 harg5 arg6 harg6 x0 x1 (ix2 r e) = ∑ k : Fin 2048, x0 (ix2 k r) * x1 (ix2 k e) := by
  unfold out0_A_2 kernelRun0_A; dsimp only; sl_unfold_words
  rw [store_all _ _ _ _ off2]
  simp only [load_all (S := S2048x1024) arg3 harg3 x0 _ off2, load_all (S := S2048x1024) arg4 harg4 x1 _ off2, k0_pay1, shapeCast_self]
  exact dot_at x0 x1 r e

end

/-! ## The blocks of the arrays -/

theorem where_0 : ∀ t : Fin cfg0.N, win0_0.index t 0 = 0 ∧ win0_0.index t 1 = t.val :=
  (by decide +kernel : ∀ t : Fin grid0.N, win0_0.index t 0 = 0 ∧ win0_0.index t 1 = t.val)
theorem where_1 : ∀ t : Fin cfg0.N, win0_1.index t 0 = 0 ∧ win0_1.index t 1 = 0 :=
  (by decide +kernel : ∀ t : Fin grid0.N, win0_1.index t 0 = 0 ∧ win0_1.index t 1 = 0)
theorem where_2 : ∀ t : Fin cfg0.N, win0_2.index t 0 = t.val ∧ win0_2.index t 1 = 0 :=
  (by decide +kernel : ∀ t : Fin grid0.N, win0_2.index t 0 = t.val ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 1024) (u : S2048x2048.Idx)
    (h0 : (u 0).val = r.val) (h1 : (u 1).val = t.val * 1024 + e.val) :
    ((cfg0.win 0).blk t).view.read (Elt 𝓘) X (ix2 r e : S2048x1024.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v1)) (r : Fin 2048) (e : Fin 1024) (u : S2048x1024.Idx)
    (h0 : (u 0).val = r.val) (h1 : (u 1).val = e.val) :
    ((cfg0.win 1).blk t).view.read (Elt 𝓘) X (ix2 r e : S2048x1024.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x2048 .f32 := m ((c : Thread nD τ).loc main_arg0)
def right : FVec 𝓘 S2048x1024 .f32 := m ((c : Thread nD τ).loc main_arg1)

theorem V_left (u : S2048x2048.Idx) : V m c main_v0 u = left m c u := by
  have h : V m c main_v0 = truncf .bf16 (left m c) bitsLt_bf16_f32 := by unfold V; after_reads_simp; rfl
  rw [h]; rfl
theorem V_right (u : S2048x1024.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel10Ideal.Value.flushed2_A m c t]
  funext y
  rw [View.read_apply]
  obtain ⟨r, e, rfl⟩ : ∃ (r : Fin 1024) (e : Fin 1024), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) k r _ ?_ ?_).trans (V_left m c _)
    · rfl
    · show win0_2.index t 0 * 1024 + 1 * r.val = t.val * 1024 + r.val
      rw [w0]; omega
  · refine (window_1 c t (V m c main_v1) k e _ ?_ ?_).trans (V_right m c _)
    · rfl
    · show win0_2.index t 1 * 1024 + 1 * e.val = e.val
      rw [w1]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 1024 := (i 1).isLt
    obtain ⟨t, ht⟩ : ∃ t : Fin cfg0.N, t.val = (i 0).val / 1024 := ⟨⟨(i 0).val / 1024, by rw [show cfg0.N = 2 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x2048 .f32) (Y : FVec 𝓘 S2048x1024 .f32) : val_main_v4 (F := 𝓘) X Y = product X Y := by
  funext i
  rw [val_main_v4_apply, val_main_v3_apply]
  refine (val_main_v2_apply X Y _).trans (Finset.sum_congr rfl fun k _ => (mul_comm _ _).trans ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference10Ideal (hReference10Ideal := Cert.Reference10Ideal.Gen.facts) := by
  intro m g _
  exact (θ_run Cert.Reference10Ideal.defs _ _).mono (fun r h => ⟨fun c => (h c).2, sem_eq_zero_of_no_sems (by decide) r.2⟩)
    (Cert.Reference10Ideal.Value.run m g)

/-! ## The equation -/

theorem equal : Cert.algebraic_Kernel10Ideal_Reference10Ideal (hKernel10Ideal := Cert.Kernel10Ideal.Gen.facts)
    (hReference10Ideal := Cert.Reference10Ideal.Gen.facts) := by
  intro m ρ m' ρ' _ hag
  refine ⟨fun c => product (left m c) (right m c), ?_, ?_⟩
  · refine (θ_run Cert.Kernel10Ideal.defs _ _).mono (fun r h c => ?_) (Cert.Kernel10Ideal.Value.run_blocks m ρ)
    exact ⟨(h c).1.trans (array m c), (h c).2⟩
  · refine (θ_run Cert.Reference10Ideal.defs _ _).mono (fun r h c => ?_) (Cert.Reference10Ideal.Value.run m' ρ')
    obtain ⟨a0, a1⟩ := hag c
    refine ⟨(h c).1.trans ((val_main_v4_eq _ _).trans ?_), (h c).2⟩
    rw [reference, a0, a1]; rfl

end Cert.Product10

end
-- ==== Proof.Product11.lean ====
/- The odd layer's gradient of its inner values: the gradient of its output times the output weight transposed, in
   blocks of 1024 by 1024, and the reference's. -/
module

public import proofs.«01_k».proof.Defs
public import proofs.«01_k».proof.Proof.Tiles
public import proofs.«01_k».proof.Proof.Gen.Kernel11Ideal.Value
public import proofs.«01_k».proof.Proof.Gen.Reference11Ideal.Read
public import proofs.«01_k».proof.Proof.Gen.Reference11Ideal
public import Idealize.ShloMosaic.Lib.StableHlo.ReadAt

@[expose] public section

set_option maxRecDepth 16384

noncomputable section

namespace Cert.Product11

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel11Ideal Cert.Kernel11Ideal.Gen
open Cert.Reference11Ideal.Read

local notation "𝓘" => Idealize.ShloMosaic.Ideal

/-- The whole product. -/
def product (X : FVec 𝓘 S2048x1024 .f32) (Y : FVec 𝓘 S2048x1024 .f32) : FVec 𝓘 S2048x2048 .f32 :=
  fun i => ∑ k : Fin 1024, X (ix2 (i 0) k) * Y (ix2 (i 1) k)

/-! ## One grid point -/

/-- The product of two blocks. -/
theorem dot_at (A : FVec 𝓘 S1024x1024 .bf16) (B : FVec 𝓘 S1024x1024 .bf16) (r : Fin 1024) (e : Fin 1024) :
    (matmul dot_S1024x1024_S1024x1024_S1024x1024_1_1_0_0_n_n none A B (constant S1024x1024 .f32 0x00000000#32) : FVec 𝓘 S1024x1024 .f32) (ix2 r e)
      = ∑ k : Fin 1024, A (ix2 r k) * B (ix2 e k) :=
  product_at _ 1024 rfl rfl A B (ix2 r e) (fun k => ix2 r k) (fun k => ix2 e k)
    (fun k => funext fun a => Fin.ext (by
      have hk := contrEquiv1_symm_val dot_S1024x1024_S1024x1024_S1024x1024_1_1_0_0_n_n 1024 rfl rfl k
      match a with | ⟨0, _⟩ => rfl | ⟨1, _⟩ => exact hk))
    (fun k => funext fun a => Fin.ext (by
      have hk := contrEquiv1_symm_val dot_S1024x1024_S1024x1024_S1024x1024_1_1_0_0_n_n 1024 rfl rfl k
      match a with | ⟨0, _⟩ => rfl | ⟨1, _⟩ => exact hk))

section
variable (c : Dev nD) (i : grid0.Coords) (arg3 : Memref sig .tc .vmem S1024x1024 .bf16) (harg3 : arg3.IsWhole)
  (arg4 : Memref sig .tc .vmem S1024x1024 .bf16) (harg4 : arg4.IsWhole) (arg5 : Memref sig .tc .vmem S1024x1024 .f32) (harg5 : arg5.IsWhole)
  (arg6 : Memref sig .tc .vmem S8x128 .f32) (harg6 : arg6.IsWhole) (x0 : Vec 𝓘 S1024x1024 .bf16) (x1 : Vec 𝓘 S1024x1024 .bf16)

theorem out_at (r : Fin 1024) (e : Fin 1024) :
    out0_A_2 (F := 𝓘) c i arg3 harg3 arg4 harg4 arg5 harg5 arg6 harg6 x0 x1 (ix2 r e) = ∑ k : Fin 1024, x0 (ix2 r k) * x1 (ix2 e k) := by
  unfold out0_A_2 kernelRun0_A; dsimp only; sl_unfold_words
  rw [store_all _ _ _ _ off2]
  simp only [load_all (S := S1024x1024) arg3 harg3 x0 _ off2, load_all (S := S1024x1024) arg4 harg4 x1 _ off2, k0_pay1, shapeCast_self]
  exact dot_at x0 x1 r e

end

/-! ## The blocks of the arrays -/

theorem where_0 : ∀ t : Fin cfg0.N, win0_0.index t 0 = t.val / 2 ∧ win0_0.index t 1 = 0 :=
  (by decide +kernel : ∀ t : Fin grid0.N, win0_0.index t 0 = t.val / 2 ∧ win0_0.index t 1 = 0)
theorem where_1 : ∀ t : Fin cfg0.N, win0_1.index t 0 = t.val % 2 ∧ win0_1.index t 1 = 0 :=
  (by decide +kernel : ∀ t : Fin grid0.N, win0_1.index t 0 = t.val % 2 ∧ win0_1.index t 1 = 0)
theorem where_2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 1024) (u : S2048x1024.Idx)
    (h0 : (u 0).val = (t.val / 2) * 1024 + r.val) (h1 : (u 1).val = e.val) :
    ((cfg0.win 0).blk t).view.read (Elt 𝓘) X (ix2 r e : S1024x1024.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 1024 + 1 * e.val = (u 1).val; rw [w1, h1]; omega

theorem window_1 (X : Buf (Elt 𝓘) ((c : Thread nD τ).loc main_v1)) (r : Fin 1024) (e : Fin 1024) (u : S2048x1024.Idx)
    (h0 : (u 0).val = (t.val % 2) * 1024 + r.val) (h1 : (u 1).val = e.val) :
    ((cfg0.win 1).blk t).view.read (Elt 𝓘) X (ix2 r e : S1024x1024.Idx) = X u := by
  obtain ⟨w0, w1⟩ := where_1 t
  rw [View.read_apply]
  show X _ = X _
  refine congrArg X (funext fun a => Fin.ext ?_)
  match a with
  | ⟨0, _⟩ => show win0_1.index t 0 * 1024 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x1024 .f32 := m ((c : Thread nD τ).loc main_arg0)
def right : FVec 𝓘 S2048x1024 .f32 := m ((c : Thread nD τ).loc main_arg1)

theorem V_left (u : S2048x1024.Idx) : V m c main_v0 u = left m c u := by
  have h : V m c main_v0 = truncf .bf16 (left m c) bitsLt_bf16_f32 := by unfold V; after_reads_simp; rfl
  rw [h]; rfl
theorem V_right (u : S2048x1024.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel11Ideal.Value.flushed2_A m c t]
  funext y
  rw [View.read_apply]
  obtain ⟨r, e, rfl⟩ : ∃ (r : Fin 1024) (e : Fin 1024), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 1024 + 1 * r.val = (t.val / 2) * 1024 + r.val
      rw [w0]; omega
    · rfl
  · refine (window_1 c t (V m c main_v1) e k _ ?_ ?_).trans (V_right m c _)
    · show win0_2.index t 1 * 1024 + 1 * e.val = (t.val % 2) * 1024 + e.val
      rw [w1]; omega
    · rfl

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 2048 := (i 1).isLt
    obtain ⟨t, ht⟩ : ∃ t : Fin cfg0.N, t.val = (i 0).val / 1024 * 2 + (i 1).val / 1024 := ⟨⟨(i 0).val / 1024 * 2 + (i 1).val / 1024, by rw [show cfg0.N = 4 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x1024 .f32) (Y : FVec 𝓘 S2048x1024 .f32) : val_main_v2 (F := 𝓘) X Y = product X Y := by
  funext i
  refine (val_main_v2_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference11Ideal (hReference11Ideal := Cert.Reference11Ideal.Gen.facts) := by
  intro m g _
  exact (θ_run Cert.Reference11Ideal.defs _ _).mono (fun r h => ⟨fun c => (h c).2, sem_eq_zero_of_no_sems (by decide) r.2⟩)
    (Cert.Reference11Ideal.Value.run m g)

/-! ## The equation -/

theorem equal : Cert.algebraic_Kernel11Ideal_Reference11Ideal (hKernel11Ideal := Cert.Kernel11Ideal.Gen.facts)
    (hReference11Ideal := Cert.Reference11Ideal.Gen.facts) := by
  intro m ρ m' ρ' _ hag
  refine ⟨fun c => product (left m c) (right m c), ?_, ?_⟩
  · refine (θ_run Cert.Kernel11Ideal.defs _ _).mono (fun r h c => ?_) (Cert.Kernel11Ideal.Value.run_blocks m ρ)
    exact ⟨(h c).1.trans (array m c), (h c).2⟩
  · refine (θ_run Cert.Reference11Ideal.defs _ _).mono (fun r h c => ?_) (Cert.Reference11Ideal.Value.run m' ρ')
    obtain ⟨a0, a1⟩ := hag c
    refine ⟨(h c).1.trans ((val_main_v2_eq _ _).trans ?_), (h c).2⟩
    rw [reference, a0, a1]; rfl

end Cert.Product11

end
-- ==== Proof.Product12.lean ====
/- The even layer's output product: its inner values times the output weight, in blocks of 1024 rows, and the
   reference's. -/
module

public import proofs.«01_k».proof.Defs
public import proofs.«01_k».proof.Proof.Tiles
public import proofs.«01_k».proof.Proof.Gen.Kernel12Ideal.Value
public import proofs.«01_k».proof.Proof.Gen.Reference12Ideal.Read
public import proofs.«01_k».proof.Proof.Gen.Reference12Ideal
public import Idealize.ShloMosaic.Lib.StableHlo.ReadAt

@[expose] public section

set_option maxRecDepth 16384

noncomputable section

namespace Cert.Product12

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel12Ideal Cert.Kernel12Ideal.Gen
open Cert.Reference12Ideal.Read

local notation "𝓘" => Idealize.ShloMosaic.Ideal

/-- The whole product. -/
def product (X : FVec 𝓘 S2048x1536 .f32) (Y : FVec 𝓘 S1536x1024 .f32) : FVec 𝓘 S2048x1024 .f32 :=
  fun i => ∑ k : Fin 1536, X (ix2 (i 0) k) * Y (ix2 k (i 1))

/-! ## One grid point -/

/-- The product of two blocks. -/
theorem dot_at (A : FVec 𝓘 S1024x1536 .bf16) (B : FVec 𝓘 S1536x1024 .bf16) (r : Fin 1024) (e : Fin 1024) :
    (matmul dot_S1024x1536_S1536x1024_S1024x1024_1_0_0_1_n_n none A B (constant S1024x1024 .f32 0x00000000#32) : FVec 𝓘 S1024x1024 .f32) (ix2 r e)
      = ∑ k : Fin 1536, A (ix2 r k) * B (ix2 k e) :=
  product_at _ 1536 rfl rfl A B (ix2 r e) (fun k => ix2 r k) (fun k => ix2 k e)
    (fun k => funext fun a => Fin.ext (by
      have hk := contrEquiv1_symm_val dot_S1024x1536_S1536x1024_S1024x1024_1_0_0_1_n_n 1536 rfl rfl k
      match a with | ⟨0, _⟩ => rfl | ⟨1, _⟩ => exact hk))
    (fun k => funext fun a => Fin.ext (by
      have hk := contrEquiv1_symm_val dot_S1024x1536_S1536x1024_S1024x1024_1_0_0_1_n_n 1536 rfl rfl k
      match a with | ⟨0, _⟩ => exact hk | ⟨1, _⟩ => rfl))

section
variable (c : Dev nD) (i : grid0.Coords) (arg3 : Memref sig .tc .vmem S1024x1536 .bf16) (harg3 : arg3.IsWhole)
  (arg4 : Memref sig .tc .vmem S1536x1024 .bf16) (harg4 : arg4.IsWhole) (arg5 : Memref sig .tc .vmem S1024x1024 .f32) (harg5 : arg5.IsWhole)
  (arg6 : Memref sig .tc .vmem S8x128 .f32) (harg6 : arg6.IsWhole) (x0 : Vec 𝓘 S1024x1536 .bf16) (x1 : Vec 𝓘 S1536x1024 .bf16)

theorem out_at (r : Fin 1024) (e : Fin 1024) :
    out0_A_2 (F := 𝓘) c i arg3 harg3 arg4 harg4 arg5 harg5 arg6 harg6 x0 x1 (ix2 r e) = ∑ k : Fin 1536, x0 (ix2 r k) * x1 (ix2 k e) := by
  unfold out0_A_2 kernelRun0_A; dsimp only; sl_unfold_words
  rw [store_all _ _ _ _ off2]
  simp only [load_all (S := S1024x1536) arg3 harg3 x0 _ off2, load_all (S := S1536x1024) arg4 harg4 x1 _ off2, k0_pay1, shapeCast_self]
  exact dot_at x0 x1 r e

end

/-! ## The blocks of the arrays -/

theorem where_0 : ∀ t : Fin cfg0.N, win0_0.index t 0 = t.val ∧ win0_0.index t 1 = 0 :=
  (by decide +kernel : ∀ t : Fin grid0.N, win0_0.index t 0 = t.val ∧ win0_0.index t 1 = 0)
theorem where_1 : ∀ t : Fin cfg0.N, win0_1.index t 0 = 0 ∧ win0_1.index t 1 = 0 :=
  (by decide +kernel : ∀ t : Fin grid0.N, win0_1.index t 0 = 0 ∧ win0_1.index t 1 = 0)
theorem where_2 : ∀ t : Fin cfg0.N, win0_2.index t 0 = t.val ∧ win0_2.index t 1 = 0 :=
  (by decide +kernel : ∀ t : Fin grid0.N, win0_2.index t 0 = t.val ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 1536) (u : S2048x1536.Idx)
    (h0 : (u 0).val = t.val * 1024 + r.val) (h1 : (u 1).val = e.val) :
    ((cfg0.win 0).blk t).view.read (Elt 𝓘) X (ix2 r e : S1024x1536.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 1536 + 1 * e.val = (u 1).val; rw [w1, h1]; omega

theorem window_1 (X : Buf (Elt 𝓘) ((c : Thread nD τ).loc main_v1)) (r : Fin 1536) (e : Fin 1024) (u : S1536x1024.Idx)
    (h0 : (u 0).val = r.val) (h1 : (u 1).val = e.val) :
    ((cfg0.win 1).blk t).view.read (Elt 𝓘) X (ix2 r e : S1536x1024.Idx) = X u := by
  obtain ⟨w0, w1⟩ := where_1 t
  rw [View.read_apply]
  show X _ = X _
  refine congrArg X (funext fun a => Fin.ext ?_)
  match a with
  | ⟨0, _⟩ => show win0_1.index t 0 * 1536 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x1536 .f32 := m ((c : Thread nD τ).loc main_arg0)
def right : FVec 𝓘 S1536x1024 .f32 := m ((c : Thread nD τ).loc main_arg1)

theorem V_left (u : S2048x1536.Idx) : V m c main_v0 u = left m c u := by
  have h : V m c main_v0 = truncf .bf16 (left m c) bitsLt_bf16_f32 := by unfold V; after_reads_simp; rfl
  rw [h]; rfl
theorem V_right (u : S1536x1024.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel12Ideal.Value.flushed2_A m c t]
  funext y
  rw [View.read_apply]
  obtain ⟨r, e, rfl⟩ : ∃ (r : Fin 1024) (e : Fin 1024), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 1024 + 1 * r.val = t.val * 1024 + r.val
      rw [w0]; omega
    · rfl
  · refine (window_1 c t (V m c main_v1) k e _ ?_ ?_).trans (V_right m c _)
    · rfl
    · show win0_2.index t 1 * 1024 + 1 * e.val = e.val
      rw [w1]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 1024 := (i 1).isLt
    obtain ⟨t, ht⟩ : ∃ t : Fin cfg0.N, t.val = (i 0).val / 1024 := ⟨⟨(i 0).val / 1024, by rw [show cfg0.N = 2 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x1536 .f32) (Y : FVec 𝓘 S1536x1024 .f32) : val_main_v0 (F := 𝓘) X Y = product X Y := by
  funext i
  refine (val_main_v0_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference12Ideal (hReference12Ideal := Cert.Reference12Ideal.Gen.facts) := by
  intro m g _
  exact (θ_run Cert.Reference12Ideal.defs _ _).mono (fun r h => ⟨fun c => (h c).2, sem_eq_zero_of_no_sems (by decide) r.2⟩)
    (Cert.Reference12Ideal.Value.run m g)

/-! ## The equation -/

theorem equal : Cert.algebraic_Kernel12Ideal_Reference12Ideal (hKernel12Ideal := Cert.Kernel12Ideal.Gen.facts)
    (hReference12Ideal := Cert.Reference12Ideal.Gen.facts) := by
  intro m ρ m' ρ' _ hag
  refine ⟨fun c => product (left m c) (right m c), ?_, ?_⟩
  · refine (θ_run Cert.Kernel12Ideal.defs _ _).mono (fun r h c => ?_) (Cert.Kernel12Ideal.Value.run_blocks m ρ)
    exact ⟨(h c).1.trans (array m c), (h c).2⟩
  · refine (θ_run Cert.Reference12Ideal.defs _ _).mono (fun r h c => ?_) (Cert.Reference12Ideal.Value.run m' ρ')
    obtain ⟨a0, a1⟩ := hag c
    refine ⟨(h c).1.trans ((val_main_v0_eq _ _).trans ?_), (h c).2⟩
    rw [reference, a0, a1]; rfl

end Cert.Product12

end
-- ==== Proof.Product13.lean ====
/- The odd layer's output product: its inner values times the output weight, in blocks of 1024 rows, and the
   reference's. -/
module

public import proofs.«01_k».proof.Defs
public import proofs.«01_k».proof.Proof.Tiles
public import proofs.«01_k».proof.Proof.Gen.Kernel13Ideal.Value
public import proofs.«01_k».proof.Proof.Gen.Reference13Ideal.Read
public import proofs.«01_k».proof.Proof.Gen.Reference13Ideal
public import Idealize.ShloMosaic.Lib.StableHlo.ReadAt

@[expose] public section

set_option maxRecDepth 16384

noncomputable section

namespace Cert.Product13

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel13Ideal Cert.Kernel13Ideal.Gen
open Cert.Reference13Ideal.Read

local notation "𝓘" => Idealize.ShloMosaic.Ideal

/-- The whole product. -/
def product (X : FVec 𝓘 S2048x2048 .f32) (Y : FVec 𝓘 S2048x1024 .f32) : FVec 𝓘 S2048x1024 .f32 :=
  fun i => ∑ k : Fin 2048, X (ix2 (i 0) k) * Y (ix2 k (i 1))

/-! ## One grid point -/

/-- The product of two blocks. -/
theorem dot_at (A : FVec 𝓘 S1024x2048 .bf16) (B : FVec 𝓘 S2048x1024 .bf16) (r : Fin 1024) (e : Fin 1024) :
    (matmul dot_S1024x2048_S2048x1024_S1024x1024_1_0_0_1_n_n none A B (constant S1024x1024 .f32 0x00000000#32) : FVec 𝓘 S1024x1024 .f32) (ix2 r e)
      = ∑ k : Fin 2048, A (ix2 r k) * B (ix2 k e) :=
  product_at _ 2048 rfl rfl A B (ix2 r e) (fun k => ix2 r k) (fun k => ix2 k e)
    (fun k => funext fun a => Fin.ext (by
      have hk := contrEquiv1_symm_val dot_S1024x2048_S2048x1024_S1024x1024_1_0_0_1_n_n 2048 rfl rfl k
      match a with | ⟨0, _⟩ => rfl | ⟨1, _⟩ => exact hk))
    (fun k => funext fun a => Fin.ext (by
      have hk := contrEquiv1_symm_val dot_S1024x2048_S2048x1024_S1024x1024_1_0_0_1_n_n 2048 rfl rfl k
      match a with | ⟨0, _⟩ => exact hk | ⟨1, _⟩ => rfl))

section
variable (c : Dev nD) (i : grid0.Coords) (arg3 : Memref sig .tc .vmem S1024x2048 .bf16) (harg3 : arg3.IsWhole)
  (arg4 : Memref sig .tc .vmem S2048x1024 .bf16) (harg4 : arg4.IsWhole) (arg5 : Memref sig .tc .vmem S1024x1024 .f32) (harg5 : arg5.IsWhole)
  (arg6 : Memref sig .tc .vmem S8x128 .f32) (harg6 : arg6.IsWhole) (x0 : Vec 𝓘 S1024x2048 .bf16) (x1 : Vec 𝓘 S2048x1024 .bf16)

theorem out_at (r : Fin 1024) (e : Fin 1024) :
    out0_A_2 (F := 𝓘) c i arg3 harg3 arg4 harg4 arg5 harg5 arg6 harg6 x0 x1 (ix2 r e) = ∑ k : Fin 2048, x0 (ix2 r k) * x1 (ix2 k e) := by
  unfold out0_A_2 kernelRun0_A; dsimp only; sl_unfold_words
  rw [store_all _ _ _ _ off2]
  simp only [load_all (S := S1024x2048) arg3 harg3 x0 _ off2, load_all (S := S2048x1024) arg4 harg4 x1 _ off2, k0_pay1, shapeCast_self]
  exact dot_at x0 x1 r e

end

/-! ## The blocks of the arrays -/

theorem where_0 : ∀ t : Fin cfg0.N, win0_0.index t 0 = t.val ∧ win0_0.index t 1 = 0 :=
  (by decide +kernel : ∀ t : Fin grid0.N, win0_0.index t 0 = t.val ∧ win0_0.index t 1 = 0)
theorem where_1 : ∀ t : Fin cfg0.N, win0_1.index t 0 = 0 ∧ win0_1.index t 1 = 0 :=
  (by decide +kernel : ∀ t : Fin grid0.N, win0_1.index t 0 = 0 ∧ win0_1.index t 1 = 0)
theorem where_2 : ∀ t : Fin cfg0.N, win0_2.index t 0 = t.val ∧ win0_2.index t 1 = 0 :=
  (by decide +kernel : ∀ t : Fin grid0.N, win0_2.index t 0 = t.val ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 1024) (e : Fin 2048) (u : S2048x2048.Idx)
    (h0 : (u 0).val = t.val * 1024 + r.val) (h1 : (u 1).val = e.val) :
    ((cfg0.win 0).blk t).view.read (Elt 𝓘) X (ix2 r e : S1024x2048.Idx) = X u := by
  obtain ⟨w0, w1⟩ := where_0 t
  rw [View.read_apply]
  show X _ = X _
  refine congrArg X (funext fun a => Fin.ext ?_)
  match a with
  | ⟨0, _⟩ => show win0_0.index t 0 * 1024 + 1 * r.val = (u 0).val; rw [w0, h0]; omega
  | ⟨1, _⟩ => show win0_0.index t 1 * 2048 + 1 * e.val = (u 1).val; rw [w1, h1]; omega

theorem window_1 (X : Buf (Elt 𝓘) ((c : Thread nD τ).loc main_v1)) (r : Fin 2048) (e : Fin 1024) (u : S2048x1024.Idx)
    (h0 : (u 0).val = r.val) (h1 : (u 1).val = e.val) :
    ((cfg0.win 1).blk t).view.read (Elt 𝓘) X (ix2 r e : S2048x1024.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 1024 + 1 * e.val = (u 1).val; rw [w1, h1]; omega

/-! ## What the launch is handed -/

/-- The two arguments. -/
def left : FVec 𝓘 S2048x2048 .f32 := m ((c : Thread nD τ).loc main_arg0)
def right : FVec 𝓘 S2048x1024 .f32 := m ((c : Thread nD τ).loc main_arg1)

theorem V_left (u : S2048x2048.Idx) : V m c main_v0 u = left m c u := by
  have h : V m c main_v0 = truncf .bf16 (left m c) bitsLt_bf16_f32 := by unfold V; after_reads_simp; rfl
  rw [h]; rfl
theorem V_right (u : S2048x1024.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel13Ideal.Value.flushed2_A m c t]
  funext y
  rw [View.read_apply]
  obtain ⟨r, e, rfl⟩ : ∃ (r : Fin 1024) (e : Fin 1024), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 1024 + 1 * r.val = t.val * 1024 + r.val
      rw [w0]; omega
    · rfl
  · refine (window_1 c t (V m c main_v1) k e _ ?_ ?_).trans (V_right m c _)
    · rfl
    · show win0_2.index t 1 * 1024 + 1 * e.val = e.val
      rw [w1]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 1024 := (i 1).isLt
    obtain ⟨t, ht⟩ : ∃ t : Fin cfg0.N, t.val = (i 0).val / 1024 := ⟨⟨(i 0).val / 1024, by rw [show cfg0.N = 2 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [w0]; omega
    | ⟨1, _⟩ =>
      show win0_2.index t 1 * 1024 ≤ (i 1 : Nat) ∧ (i 1 : Nat) < win0_2.index t 1 * 1024 + 1024
      rw [w1]; omega

end

/-! ## The reference -/

theorem reference (X : FVec 𝓘 S2048x2048 .f32) (Y : FVec 𝓘 S2048x1024 .f32) : val_main_v0 (F := 𝓘) X Y = product X Y := by
  funext i
  refine (val_main_v0_apply X Y _).trans (Finset.sum_congr rfl fun k _ => ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference13Ideal (hReference13Ideal := Cert.Reference13Ideal.Gen.facts) := by
  intro m g _
  exact (θ_run Cert.Reference13Ideal.defs _ _).mono (fun r h => ⟨fun c => (h c).2, sem_eq_zero_of_no_sems (by decide) r.2⟩)
    (Cert.Reference13Ideal.Value.run m g)

/-! ## The equation -/

theorem equal : Cert.algebraic_Kernel13Ideal_Reference13Ideal (hKernel13Ideal := Cert.Kernel13Ideal.Gen.facts)
    (hReference13Ideal := Cert.Reference13Ideal.Gen.facts) := by
  intro m ρ m' ρ' _ hag
  refine ⟨fun c => product (left m c) (right m c), ?_, ?_⟩
  · refine (θ_run Cert.Kernel13Ideal.defs _ _).mono (fun r h c => ?_) (Cert.Kernel13Ideal.Value.run_blocks m ρ)
    exact ⟨(h c).1.trans (array m c), (h c).2⟩
  · refine (θ_run Cert.Reference13Ideal.defs _ _).mono (fun r h c => ?_) (Cert.Reference13Ideal.Value.run m' ρ')
    obtain ⟨a0, a1⟩ := hag c
    refine ⟨(h c).1.trans ((val_main_v0_eq _ _).trans ?_), (h c).2⟩
    rw [reference, a0, a1]; rfl

end Cert.Product13

end
-- ==== Proof.Product14.lean ====
/- The gradient of the odd layer's group matrices: within each of four groups, the product over the rows of the pooled
   values and the gradient of the mixed values; and the reference's. -/
module

public import proofs.«01_k».proof.Defs
public import proofs.«01_k».proof.Proof.Tiles
public import proofs.«01_k».proof.Proof.Gen.Kernel14Ideal.Value
public import proofs.«01_k».proof.Proof.Gen.Reference14Ideal.Read
public import proofs.«01_k».proof.Proof.Gen.Reference14Ideal
public import Idealize.ShloMosaic.Lib.StableHlo.ReadAt

@[expose] public section

set_option maxRecDepth 16384

noncomputable section

namespace Cert.Product14

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel14Ideal Cert.Kernel14Ideal.Gen
open Cert.Reference14Ideal.Read

local notation "𝓘" => Idealize.ShloMosaic.Ideal

/-- The whole product, group by group. -/
def product (X Y : FVec 𝓘 S2048x2048 .f32) : FVec 𝓘 S4x512x512 .bf16 :=
  fun i => ∑ k : Fin 2048, X (ix2 k ⟨(i 0).val * 512 + (i 1).val, by
      have h0 : (i 0).val < 4 := (i 0).isLt
      have h1 : (i 1).val < 512 := (i 1).isLt
      omega⟩)
    * Y (ix2 k ⟨(i 0).val * 512 + (i 2).val, by
      have h0 : (i 0).val < 4 := (i 0).isLt
      have h2 : (i 2).val < 512 := (i 2).isLt
      omega⟩)

/-! ## One grid point -/

/-- The product of two blocks. -/
theorem dot_at (A : FVec 𝓘 S2048x512 .bf16) (B : FVec 𝓘 S2048x512 .bf16) (r : Fin 512) (e : Fin 512) :
    (matmul dot_S2048x512_S2048x512_S512x512_0_0_1_1_n_n none A B (constant S512x512 .f32 0x00000000#32) : FVec 𝓘 S512x512 .f32) (ix2 r e)
      = ∑ k : Fin 2048, A (ix2 k r) * B (ix2 k e) :=
  product_at _ 2048 rfl rfl A B (ix2 r e) (fun k => ix2 k r) (fun k => ix2 k e)
    (fun k => funext fun a => Fin.ext (by
      have hk := contrEquiv1_symm_val dot_S2048x512_S2048x512_S512x512_0_0_1_1_n_n 2048 rfl rfl k
      match a with | ⟨0, _⟩ => exact hk | ⟨1, _⟩ => rfl))
    (fun k => funext fun a => Fin.ext (by
      have hk := contrEquiv1_symm_val dot_S2048x512_S2048x512_S512x512_0_0_1_1_n_n 2048 rfl rfl k
      match a with | ⟨0, _⟩ => exact hk | ⟨1, _⟩ => rfl))

section
variable (c : Dev nD) (i : grid0.Coords) (arg2 : Memref sig .tc .vmem S2048x512 .bf16) (harg2 : arg2.IsWhole)
  (arg3 : Memref sig .tc .vmem S2048x512 .bf16) (harg3 : arg3.IsWhole) (arg4 : Memref sig .tc .vmem S1x512x512 .bf16) (harg4 : arg4.IsWhole)
  (arg5 : Memref sig .tc .vmem S512x512 .f32) (harg5 : arg5.IsWhole) (hc0 : cond0_0 i) (hc1 : cond0_1 i)
  (x0 x1 : Vec 𝓘 S2048x512 .bf16)

/-- The sum starts from a block of zeros. -/
theorem out_at (r e : Fin 512) :
    out0_A_2 (F := 𝓘) c i arg2 harg2 arg3 harg3 arg4 harg4 arg5 harg5 hc0 hc1 x0 x1 (ix3 (0 : Fin 1) r e)
      = ∑ k : Fin 2048, x0 (ix2 k r) * x1 (ix2 k e) := by
  unfold out0_A_2 kernelRun0_A; dsimp only; sl_unfold_words
  rw [store_all _ _ _ _ off3]
  simp only [load_all (S := S2048x512) arg2 harg2 x0 _ off2, load_all (S := S2048x512) arg3 harg3 x1 _ off2,
    load_stored (S := S512x512) arg5.view _ _ off2, k0_pay1, k0_pay2, k0_pay3, shapeCast_self]
  refine (stacked _ shapeCasts_S512x512_S1x512x512 r e).trans ?_
  show Ideal.ofBits .f32 0x00000000#32 + (matmul dot_S2048x512_S2048x512_S512x512_0_0_1_1_n_n none x0 x1 (constant S512x512 .f32 0x00000000#32) : FVec 𝓘 S512x512 .f32) (ix2 r e) = _
  rw [Ideal.ofBits_zero_f32, zero_add]
  exact dot_at x0 x1 r e

end

/-! ## The blocks of the arrays -/

theorem where_0 : ∀ t : Fin cfg0.N, win0_0.index t 0 = 0 ∧ win0_0.index t 1 = t.val :=
  (by decide +kernel : ∀ t : Fin grid0.N, win0_0.index t 0 = 0 ∧ win0_0.index t 1 = t.val)
theorem where_1 : ∀ t : Fin cfg0.N, win0_1.index t 0 = 0 ∧ win0_1.index t 1 = t.val :=
  (by decide +kernel : ∀ t : Fin grid0.N, win0_1.index t 0 = 0 ∧ win0_1.index t 1 = t.val)
theorem where_2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 512) (u : S2048x2048.Idx)
    (h0 : (u 0).val = r.val) (h1 : (u 1).val = t.val * 512 + e.val) :
    ((cfg0.win 0).blk t).view.read (Elt 𝓘) X (ix2 r e : S2048x512.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 512 + 1 * e.val = (u 1).val; rw [w1, h1]; omega

theorem window_1 (X : Buf (Elt 𝓘) ((c : Thread nD τ).loc main_v1)) (r : Fin 2048) (e : Fin 512) (u : S2048x2048.Idx)
    (h0 : (u 0).val = r.val) (h1 : (u 1).val = t.val * 512 + e.val) :
    ((cfg0.win 1).blk t).view.read (Elt 𝓘) X (ix2 r e : S2048x512.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 512 + 1 * e.val = (u 1).val; rw [w1, h1]; omega

/-! ## What the launch is handed -/

/-- The two arguments. -/
def left : FVec 𝓘 S2048x2048 .f32 := m ((c : Thread nD τ).loc main_arg0)
def right : FVec 𝓘 S2048x2048 .f32 := m ((c : Thread nD τ).loc main_arg1)

theorem V_left (u : S2048x2048.Idx) : V m c main_v0 u = left m c u := by
  have h : V m c main_v0 = truncf .bf16 (left m c) bitsLt_bf16_f32 := by unfold V; after_reads_simp; rfl
  rw [h]; rfl
theorem V_right (u : S2048x2048.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1, w2⟩ := where_2 t
  rw [Cert.Kernel14Ideal.Value.flushed2_A m c t]
  funext y
  rw [View.read_apply]
  obtain ⟨b, r, e, rfl⟩ : ∃ (b : Fin 1) (r e : Fin 512), y = ix3 b r e := ⟨y 0, y 1, y 2, (ix3_eta y).symm⟩
  obtain rfl : b = 0 := Subsingleton.elim _ _
  refine (out_at c _ _ _ _ _ _ _ _ _ _ _ _ _ r e).trans ?_
  show _ = product (left m c) (right m c) _
  refine Finset.sum_congr rfl fun k _ => congrArg₂ (fun (a b : EReal) => a * b) ?_ ?_
  · refine (window_0 c t (V m c main_v0) k r _ ?_ ?_).trans (V_left m c _)
    · rfl
    · show (win0_2.index t 0 * 1 + 1 * 0) * 512 + (win0_2.index t 1 * 512 + 1 * r.val) = t.val * 512 + r.val
      rw [w0, w1]; omega
  · refine (window_1 c t (V m c main_v1) k e _ ?_ ?_).trans (V_right m c _)
    · rfl
    · show (win0_2.index t 0 * 1 + 1 * 0) * 512 + (win0_2.index t 2 * 512 + 1 * e.val) = t.val * 512 + e.val
      rw [w0, w2]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 4 := (i 0).isLt
    have hi1 : (i 1 : Nat) < 512 := (i 1).isLt
    have hi2 : (i 2 : Nat) < 512 := (i 2).isLt
    obtain ⟨t, ht⟩ : ∃ t : Fin cfg0.N, t.val = (i 0).val := ⟨⟨(i 0).val, by rw [show cfg0.N = 4 from N_0]; omega⟩, rfl⟩
    obtain ⟨w0, w1, w2⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [w0]; omega
    | ⟨1, _⟩ =>
      show win0_2.index t 1 * 512 ≤ (i 1 : Nat) ∧ (i 1 : Nat) < win0_2.index t 1 * 512 + 512
      rw [w1]; omega
    | ⟨2, _⟩ =>
      show win0_2.index t 2 * 512 ≤ (i 2 : Nat) ∧ (i 2 : Nat) < win0_2.index t 2 * 512 + 512
      rw [w2]; omega

end

/-! ## The reference -/

theorem reference (X Y : FVec 𝓘 S2048x2048 .f32) : val_main_v9 (F := 𝓘) X Y = product X Y := by
  funext i
  have h0 : (i 0).val < 4 := (i 0).isLt
  have h1 : (i 1).val < 512 := (i 1).isLt
  have h2 : (i 2).val < 512 := (i 2).isLt
  rw [val_main_v9_apply, val_main_v8_apply]
  refine (val_main_v7_apply X Y _).trans (Finset.sum_congr rfl fun k _ => (mul_comm _ _).trans ?_)
  have hk := k.isLt
  rw [val_main_v6_apply, val_main_v5_apply, val_main_v1_apply]
  refine congrArg₂ (fun (a b : EReal) => a * b) (congrArg X (funext fun a => Fin.ext ?_)) (congrArg Y (funext fun a => Fin.ext ?_))
  · match a with
    | ⟨0, _⟩ => show ((k.val * 4 + (i 0).val) * 512 + (i 1).val) / 2048 = k.val; omega
    | ⟨1, _⟩ => show ((k.val * 4 + (i 0).val) * 512 + (i 1).val) % 2048 = (i 0).val * 512 + (i 1).val; omega
  · match a with
    | ⟨0, _⟩ => show ((k.val * 4 + (i 0).val) * 512 + (i 2).val) / 2048 = k.val; omega
    | ⟨1, _⟩ => show ((k.val * 4 + (i 0).val) * 512 + (i 2).val) % 2048 = (i 0).val * 512 + (i 2).val; omega

theorem reference_frame : Cert.quiescent_Reference14Ideal (hReference14Ideal := Cert.Reference14Ideal.Gen.facts) := by
  intro m g _
  exact (θ_run Cert.Reference14Ideal.defs _ _).mono (fun r h => ⟨fun c => (h c).2, sem_eq_zero_of_no_sems (by decide) r.2⟩)
    (Cert.Reference14Ideal.Value.run m g)

/-! ## The equation -/

theorem equal : Cert.algebraic_Kernel14Ideal_Reference14Ideal (hKernel14Ideal := Cert.Kernel14Ideal.Gen.facts)
    (hReference14Ideal := Cert.Reference14Ideal.Gen.facts) := by
  intro m ρ m' ρ' _ hag
  refine ⟨fun c => product (left m c) (right m c), ?_, ?_⟩
  · refine (θ_run Cert.Kernel14Ideal.defs _ _).mono (fun r h c => ?_) (Cert.Kernel14Ideal.Value.run_blocks m ρ)
    exact ⟨(h c).1.trans (array m c), (h c).2⟩
  · refine (θ_run Cert.Reference14Ideal.defs _ _).mono (fun r h c => ?_) (Cert.Reference14Ideal.Value.run m' ρ')
    obtain ⟨a0, a1⟩ := hag c
    refine ⟨(h c).1.trans ((val_main_v9_eq _ _).trans ?_), (h c).2⟩
    rw [reference, a0, a1]; rfl

end Cert.Product14

end
-- ==== Proof.Product15.lean ====
/- The gradient of the odd layer's pooled values: within each of four groups, the gradient of the mixed values times the
   group's matrix transposed; and the reference's. -/
module

public import proofs.«01_k».proof.Defs
public import proofs.«01_k».proof.Proof.Tiles
public import proofs.«01_k».proof.Proof.Gen.Kernel15Ideal.Value
public import proofs.«01_k».proof.Proof.Gen.Reference15Ideal.Read
public import proofs.«01_k».proof.Proof.Gen.Reference15Ideal
public import Idealize.ShloMosaic.Lib.StableHlo.ReadAt

@[expose] public section

set_option maxRecDepth 16384

noncomputable section

namespace Cert.Product15

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel15Ideal Cert.Kernel15Ideal.Gen
open Cert.Reference15Ideal.Read

local notation "𝓘" => Idealize.ShloMosaic.Ideal

/-- The whole product, group by group. -/
def product (X : FVec 𝓘 S2048x2048 .f32) (Y : FVec 𝓘 S4x512x512 .f32) : FVec 𝓘 S2048x2048 .f32 :=
  fun i => ∑ k : Fin 512, X (ix2 (i 0) ⟨(i 1).val / 512 * 512 + k.val, by
      have h : (i 1).val < 2048 := (i 1).isLt
      have := k.isLt
      omega⟩)
    * Y (ix3 (⟨(i 1).val / 512, by have h : (i 1).val < 2048 := (i 1).isLt; omega⟩ : Fin 4) (⟨(i 1).val % 512, by omega⟩ : Fin 512) k)

/-! ## One grid point -/

/-- The product of two blocks. -/
theorem dot_at (A : FVec 𝓘 S2048x512 .bf16) (B : FVec 𝓘 S512x512 .bf16) (r : Fin 2048) (e : Fin 512) :
    (matmul dot_S2048x512_S512x512_S2048x512_1_1_0_0_n_n none A B (constant S2048x512 .f32 0x00000000#32) : FVec 𝓘 S2048x512 .f32) (ix2 r e)
      = ∑ k : Fin 512, A (ix2 r k) * B (ix2 e k) :=
  product_at _ 512 rfl rfl A B (ix2 r e) (fun k => ix2 r k) (fun k => ix2 e k)
    (fun k => funext fun a => Fin.ext (by
      have hk := contrEquiv1_symm_val dot_S2048x512_S512x512_S2048x512_1_1_0_0_n_n 512 rfl rfl k
      match a with | ⟨0, _⟩ => rfl | ⟨1, _⟩ => exact hk))
    (fun k => funext fun a => Fin.ext (by
      have hk := contrEquiv1_symm_val dot_S2048x512_S512x512_S2048x512_1_1_0_0_n_n 512 rfl rfl k
      match a with | ⟨0, _⟩ => rfl | ⟨1, _⟩ => exact hk))

theorem out_at (x0 : Vec 𝓘 S2048x512 .bf16) (x1 : Vec 𝓘 S1x512x512 .bf16) (r : Fin 2048) (e : Fin 512) :
    out0_2 (F := 𝓘) x0 x1 (ix2 r e) = ∑ k : Fin 512, x0 (ix2 r k) * x1 (ix3 (0 : Fin 1) e k) := by
  unfold out0_2
  rw [View.canon_cons_unit_zero off2, View.ld_unit_zero off2, View.ld_unit_zero off3]
  simp only [k0_pay1, shapeCast_self]
  exact (dot_at x0 _ r e).trans (Finset.sum_congr rfl fun k _ => congrArg (fun z => x0 (ix2 r k) * z)
    (unstacked x1 shapeCasts_S1x512x512_S512x512 e k))

/-! ## The blocks of the arrays -/

theorem where_0 : ∀ t : Fin cfg0.N, win0_0.index t 0 = 0 ∧ win0_0.index t 1 = t.val :=
  (by decide +kernel : ∀ t : Fin grid0.N, win0_0.index t 0 = 0 ∧ win0_0.index t 1 = t.val)
theorem where_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem where_2 : ∀ t : Fin cfg0.N, win0_2.index t 0 = 0 ∧ win0_2.index t 1 = t.val :=
  (by decide +kernel : ∀ t : Fin grid0.N, win0_2.index t 0 = 0 ∧ win0_2.index t 1 = t.val)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 512) (u : S2048x2048.Idx)
    (h0 : (u 0).val = r.val) (h1 : (u 1).val = t.val * 512 + e.val) :
    ((cfg0.win 0).blk t).view.read (Elt 𝓘) X (ix2 r e : S2048x512.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 512 + 1 * e.val = (u 1).val; rw [w1, h1]; omega

theorem window_1 (X : Buf (Elt 𝓘) ((c : Thread nD τ).loc main_v1)) (b : Fin 1) (r : Fin 512) (e : Fin 512) (u : S4x512x512.Idx)
    (h0 : (u 0).val = t.val * 1 + b.val) (h1 : (u 1).val = r.val) (h2 : (u 2).val = e.val) :
    ((cfg0.win 1).blk t).view.read (Elt 𝓘) X (ix3 b r e : S1x512x512.Idx) = X u := by
  obtain ⟨w0, w1, w2⟩ := where_1 t
  rw [View.read_apply]
  show X _ = X _
  refine congrArg X (funext fun a => Fin.ext ?_)
  match a with
  | ⟨0, _⟩ => show win0_1.index t 0 * 1 + 1 * b.val = (u 0).val; rw [w0, h0]; omega
  | ⟨1, _⟩ => show win0_1.index t 1 * 512 + 1 * r.val = (u 1).val; rw [w1, h1]; omega
  | ⟨2, _⟩ => show win0_1.index t 2 * 512 + 1 * e.val = (u 2).val; rw [w2, h2]; omega

/-! ## What the launch is handed -/

/-- The two arguments. -/
def left : FVec 𝓘 S2048x2048 .f32 := m ((c : Thread nD τ).loc main_arg0)
def right : FVec 𝓘 S4x512x512 .f32 := m ((c : Thread nD τ).loc main_arg1)

theorem V_left (u : S2048x2048.Idx) : V m c main_v0 u = left m c u := by
  have h : V m c main_v0 = truncf .bf16 (left m c) bitsLt_bf16_f32 := by unfold V; after_reads_simp; rfl
  rw [h]; rfl
theorem V_right (u : S4x512x512.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel15Ideal.Value.flushed2 m c t]
  funext y
  rw [View.read_apply]
  obtain ⟨r, e, rfl⟩ : ∃ (r : Fin 2048) (e : Fin 512), y = ix2 r e := ⟨y 0, y 1, (ix2_eta y).symm⟩
  have he := e.isLt
  refine (out_at _ _ r e).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 2048 + 1 * r.val = r.val
      rw [w0]; omega
    · show (win0_2.index t 1 * 512 + 1 * e.val) / 512 * 512 + k.val = t.val * 512 + k.val
      rw [w1]; omega
  · refine (window_1 c t (V m c main_v1) (0 : Fin 1) e k _ ?_ ?_ ?_).trans (V_right m c _)
    · show (win0_2.index t 1 * 512 + 1 * e.val) / 512 = t.val * 1 + 0
      rw [w1]; omega
    · show (win0_2.index t 1 * 512 + 1 * e.val) % 512 = e.val; rw [w1]; omega
    · rfl

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 2048 := (i 1).isLt
    obtain ⟨t, ht⟩ : ∃ t : Fin cfg0.N, t.val = (i 1).val / 512 := ⟨⟨(i 1).val / 512, by rw [show cfg0.N = 4 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [w0]; omega
    | ⟨1, _⟩ =>
      show win0_2.index t 1 * 512 ≤ (i 1 : Nat) ∧ (i 1 : Nat) < win0_2.index t 1 * 512 + 512
      rw [w1]; omega

end

/-! ## The reference -/

theorem reference (X : FVec 𝓘 S2048x2048 .f32) (Y : FVec 𝓘 S4x512x512 .f32) : val_main_v9 (F := 𝓘) X Y = product X Y := by
  funext i
  have h0 : (i 0).val < 2048 := (i 0).isLt
  have h1 : (i 1).val < 2048 := (i 1).isLt
  rw [val_main_v9_apply, val_main_v8_apply]
  refine (val_main_v7_apply X Y _).trans (Finset.sum_congr rfl fun k _ => ?_)
  have hk := k.isLt
  rw [val_main_v6_apply, val_main_v5_apply]
  refine congrArg₂ (fun (a b : EReal) => a * b) (congrArg X (funext fun a => Fin.ext ?_)) (congrArg Y (funext fun a => Fin.ext ?_))
  · match a with
    | ⟨0, _⟩ => show ((((i 0).val * 2048 + (i 1).val) / 2048 * 4 + ((i 0).val * 2048 + (i 1).val) / 512 % 4) * 512 + k.val) / 2048 = (i 0).val; omega
    | ⟨1, _⟩ => show ((((i 0).val * 2048 + (i 1).val) / 2048 * 4 + ((i 0).val * 2048 + (i 1).val) / 512 % 4) * 512 + k.val) % 2048 = (i 1).val / 512 * 512 + k.val; omega
  · match a with
    | ⟨0, _⟩ => show ((i 0).val * 2048 + (i 1).val) / 512 % 4 = (i 1).val / 512; omega
    | ⟨1, _⟩ => show ((i 0).val * 2048 + (i 1).val) % 512 = (i 1).val % 512; omega
    | ⟨2, _⟩ => rfl

theorem reference_frame : Cert.quiescent_Reference15Ideal (hReference15Ideal := Cert.Reference15Ideal.Gen.facts) := by
  intro m g _
  exact (θ_run Cert.Reference15Ideal.defs _ _).mono (fun r h => ⟨fun c => (h c).2, sem_eq_zero_of_no_sems (by decide) r.2⟩)
    (Cert.Reference15Ideal.Value.run m g)

/-! ## The equation -/

theorem equal : Cert.algebraic_Kernel15Ideal_Reference15Ideal (hKernel15Ideal := Cert.Kernel15Ideal.Gen.facts)
    (hReference15Ideal := Cert.Reference15Ideal.Gen.facts) := by
  intro m ρ m' ρ' _ hag
  refine ⟨fun c => product (left m c) (right m c), ?_, ?_⟩
  · refine (θ_run Cert.Kernel15Ideal.defs _ _).mono (fun r h c => ?_) (Cert.Kernel15Ideal.Value.run_blocks m ρ)
    exact ⟨(h c).1.trans (array m c), (h c).2⟩
  · refine (θ_run Cert.Reference15Ideal.defs _ _).mono (fun r h c => ?_) (Cert.Reference15Ideal.Value.run m' ρ')
    obtain ⟨a0, a1⟩ := hag c
    refine ⟨(h c).1.trans ((val_main_v9_eq _ _).trans ?_), (h c).2⟩
    rw [reference, a0, a1]; rfl

end Cert.Product15

end
-- ==== Proof.Product16.lean ====
/- The odd layer's mixing of its pooled values: within each of four groups, the values times the group's matrix; and the
   reference's. -/
module

public import proofs.«01_k».proof.Defs
public import proofs.«01_k».proof.Proof.Tiles
public import proofs.«01_k».proof.Proof.Gen.Kernel16Ideal.Value
public import proofs.«01_k».proof.Proof.Gen.Reference16Ideal.Read
public import proofs.«01_k».proof.Proof.Gen.Reference16Ideal
public import Idealize.ShloMosaic.Lib.StableHlo.ReadAt

@[expose] public section

set_option maxRecDepth 16384

noncomputable section

namespace Cert.Product16

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel16Ideal Cert.Kernel16Ideal.Gen
open Cert.Reference16Ideal.Read

local notation "𝓘" => Idealize.ShloMosaic.Ideal

/-- The whole product, group by group. -/
def product (X : FVec 𝓘 S2048x2048 .f32) (Y : FVec 𝓘 S4x512x512 .f32) : FVec 𝓘 S2048x2048 .f32 :=
  fun i => ∑ k : Fin 512, X (ix2 (i 0) ⟨(i 1).val / 512 * 512 + k.val, by
      have h : (i 1).val < 2048 := (i 1).isLt
      have := k.isLt
      omega⟩)
    * Y (ix3 (⟨(i 1).val / 512, by have h : (i 1).val < 2048 := (i 1).isLt; omega⟩ : Fin 4) k (⟨(i 1).val % 512, by omega⟩ : Fin 512))

/-! ## One grid point -/

/-- The product of two blocks. -/
theorem dot_at (A : FVec 𝓘 S2048x512 .bf16) (B : FVec 𝓘 S512x512 .bf16) (r : Fin 2048) (e : Fin 512) :
    (matmul dot_S2048x512_S512x512_S2048x512_1_0_0_1_n_n none A B (constant S2048x512 .f32 0x00000000#32) : FVec 𝓘 S2048x512 .f32) (ix2 r e)
      = ∑ k : Fin 512, A (ix2 r k) * B (ix2 k e) :=
  product_at _ 512 rfl rfl A B (ix2 r e) (fun k => ix2 r k) (fun k => ix2 k e)
    (fun k => funext fun a => Fin.ext (by
      have hk := contrEquiv1_symm_val dot_S2048x512_S512x512_S2048x512_1_0_0_1_n_n 512 rfl rfl k
      match a with | ⟨0, _⟩ => rfl | ⟨1, _⟩ => exact hk))
    (fun k => funext fun a => Fin.ext (by
      have hk := contrEquiv1_symm_val dot_S2048x512_S512x512_S2048x512_1_0_0_1_n_n 512 rfl rfl k
      match a with | ⟨0, _⟩ => exact hk | ⟨1, _⟩ => rfl))

theorem out_at (x0 : Vec 𝓘 S2048x512 .bf16) (x1 : Vec 𝓘 S1x512x512 .bf16) (r : Fin 2048) (e : Fin 512) :
    out0_2 (F := 𝓘) x0 x1 (ix2 r e) = ∑ k : Fin 512, x0 (ix2 r k) * x1 (ix3 (0 : Fin 1) k e) := by
  unfold out0_2
  rw [View.canon_cons_unit_zero off2, View.ld_unit_zero off2, View.ld_unit_zero off3]
  simp only [k0_pay1, shapeCast_self]
  exact (dot_at x0 _ r e).trans (Finset.sum_congr rfl fun k _ => congrArg (fun z => x0 (ix2 r k) * z)
    (unstacked x1 shapeCasts_S1x512x512_S512x512 k e))

/-! ## The blocks of the arrays -/

theorem where_0 : ∀ t : Fin cfg0.N, win0_0.index t 0 = 0 ∧ win0_0.index t 1 = t.val :=
  (by decide +kernel : ∀ t : Fin grid0.N, win0_0.index t 0 = 0 ∧ win0_0.index t 1 = t.val)
theorem where_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem where_2 : ∀ t : Fin cfg0.N, win0_2.index t 0 = 0 ∧ win0_2.index t 1 = t.val :=
  (by decide +kernel : ∀ t : Fin grid0.N, win0_2.index t 0 = 0 ∧ win0_2.index t 1 = t.val)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 512) (u : S2048x2048.Idx)
    (h0 : (u 0).val = r.val) (h1 : (u 1).val = t.val * 512 + e.val) :
    ((cfg0.win 0).blk t).view.read (Elt 𝓘) X (ix2 r e : S2048x512.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 512 + 1 * e.val = (u 1).val; rw [w1, h1]; omega

theorem window_1 (X : Buf (Elt 𝓘) ((c : Thread nD τ).loc main_v1)) (b : Fin 1) (r : Fin 512) (e : Fin 512) (u : S4x512x512.Idx)
    (h0 : (u 0).val = t.val * 1 + b.val) (h1 : (u 1).val = r.val) (h2 : (u 2).val = e.val) :
    ((cfg0.win 1).blk t).view.read (Elt 𝓘) X (ix3 b r e : S1x512x512.Idx) = X u := by
  obtain ⟨w0, w1, w2⟩ := where_1 t
  rw [View.read_apply]
  show X _ = X _
  refine congrArg X (funext fun a => Fin.ext ?_)
  match a with
  | ⟨0, _⟩ => show win0_1.index t 0 * 1 + 1 * b.val = (u 0).val; rw [w0, h0]; omega
  | ⟨1, _⟩ => show win0_1.index t 1 * 512 + 1 * r.val = (u 1).val; rw [w1, h1]; omega
  | ⟨2, _⟩ => show win0_1.index t 2 * 512 + 1 * e.val = (u 2).val; rw [w2, h2]; omega

/-! ## What the launch is handed -/

/-- The two arguments. -/
def left : FVec 𝓘 S2048x2048 .f32 := m ((c : Thread nD τ).loc main_arg0)
def right : FVec 𝓘 S4x512x512 .f32 := m ((c : Thread nD τ).loc main_arg1)

theorem V_left (u : S2048x2048.Idx) : V m c main_v0 u = left m c u := by
  have h : V m c main_v0 = truncf .bf16 (left m c) bitsLt_bf16_f32 := by unfold V; after_reads_simp; rfl
  rw [h]; rfl
theorem V_right (u : S4x512x512.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel16Ideal.Value.flushed2 m c t]
  funext y
  rw [View.read_apply]
  obtain ⟨r, e, rfl⟩ : ∃ (r : Fin 2048) (e : Fin 512), y = ix2 r e := ⟨y 0, y 1, (ix2_eta y).symm⟩
  have he := e.isLt
  refine (out_at _ _ r e).trans ?_
  show _ = product (left m c) (right m c) _
  refine Finset.sum_congr rfl fun k _ => congrArg₂ (fun (a b : EReal) => a * b) ?_ ?_
  · refine (window_0 c t (V m c main_v0) r k _ ?_ ?_).trans (V_left m c _)
    · show win0_2.index t 0 * 2048 + 1 * r.val = r.val
      rw [w0]; omega
    · show (win0_2.index t 1 * 512 + 1 * e.val) / 512 * 512 + k.val = t.val * 512 + k.val
      rw [w1]; omega
  · refine (window_1 c t (V m c main_v1) (0 : Fin 1) k e _ ?_ ?_ ?_).trans (V_right m c _)
    · show (win0_2.index t 1 * 512 + 1 * e.val) / 512 = t.val * 1 + 0
      rw [w1]; omega
    · rfl
    · show (win0_2.index t 1 * 512 + 1 * e.val) % 512 = e.val; rw [w1]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 2048 := (i 0).isLt
    have hi1 : (i 1 : Nat) < 2048 := (i 1).isLt
    obtain ⟨t, ht⟩ : ∃ t : Fin cfg0.N, t.val = (i 1).val / 512 := ⟨⟨(i 1).val / 512, by rw [show cfg0.N = 4 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [w0]; omega
    | ⟨1, _⟩ =>
      show win0_2.index t 1 * 512 ≤ (i 1 : Nat) ∧ (i 1 : Nat) < win0_2.index t 1 * 512 + 512
      rw [w1]; omega

end

/-! ## The reference -/

theorem reference (X : FVec 𝓘 S2048x2048 .f32) (Y : FVec 𝓘 S4x512x512 .f32) : val_main_v3 (F := 𝓘) X Y = product X Y := by
  funext i
  have h0 : (i 0).val < 2048 := (i 0).isLt
  have h1 : (i 1).val < 2048 := (i 1).isLt
  rw [val_main_v3_apply, val_main_v2_apply]
  refine (val_main_v1_apply X Y _).trans (Finset.sum_congr rfl fun k _ => (mul_comm _ _).trans ?_)
  have hk := k.isLt
  rw [val_main_v0_apply]
  refine congrArg₂ (fun (a b : EReal) => a * b) (congrArg X (funext fun a => Fin.ext ?_)) (congrArg Y (funext fun a => Fin.ext ?_))
  · match a with
    | ⟨0, _⟩ => show ((((i 0).val * 2048 + (i 1).val) / 2048 * 4 + ((i 0).val * 2048 + (i 1).val) / 512 % 4) * 512 + k.val) / 2048 = (i 0).val; omega
    | ⟨1, _⟩ => show ((((i 0).val * 2048 + (i 1).val) / 2048 * 4 + ((i 0).val * 2048 + (i 1).val) / 512 % 4) * 512 + k.val) % 2048 = (i 1).val / 512 * 512 + k.val; omega
  · match a with
    | ⟨0, _⟩ => show ((i 0).val * 2048 + (i 1).val) / 512 % 4 = (i 1).val / 512; omega
    | ⟨1, _⟩ => rfl
    | ⟨2, _⟩ => show ((i 0).val * 2048 + (i 1).val) % 512 = (i 1).val % 512; omega

theorem reference_frame : Cert.quiescent_Reference16Ideal (hReference16Ideal := Cert.Reference16Ideal.Gen.facts) := by
  intro m g _
  exact (θ_run Cert.Reference16Ideal.defs _ _).mono (fun r h => ⟨fun c => (h c).2, sem_eq_zero_of_no_sems (by decide) r.2⟩)
    (Cert.Reference16Ideal.Value.run m g)

/-! ## The equation -/

theorem equal : Cert.algebraic_Kernel16Ideal_Reference16Ideal (hKernel16Ideal := Cert.Kernel16Ideal.Gen.facts)
    (hReference16Ideal := Cert.Reference16Ideal.Gen.facts) := by
  intro m ρ m' ρ' _ hag
  refine ⟨fun c => product (left m c) (right m c), ?_, ?_⟩
  · refine (θ_run Cert.Kernel16Ideal.defs _ _).mono (fun r h c => ?_) (Cert.Kernel16Ideal.Value.run_blocks m ρ)
    exact ⟨(h c).1.trans (array m c), (h c).2⟩
  · refine (θ_run Cert.Reference16Ideal.defs _ _).mono (fun r h c => ?_) (Cert.Reference16Ideal.Value.run m' ρ')
    obtain ⟨a0, a1⟩ := hag c
    refine ⟨(h c).1.trans ((val_main_v3_eq _ _).trans ?_), (h c).2⟩
    rw [reference, a0, a1]; rfl

end Cert.Product16

end
-- ==== Proof.Product17.lean ====
/- The gate's gradient of its weight: the product over the rows of the gate's inputs and the gradient of its linear part,
   in one block, and the reference's. -/
module

public import proofs.«01_k».proof.Defs
public import proofs.«01_k».proof.Proof.Tiles
public import proofs.«01_k».proof.Proof.Gen.Kernel17Ideal.Value
public import proofs.«01_k».proof.Proof.Gen.Reference17Ideal.Read
public import proofs.«01_k».proof.Proof.Gen.Reference17Ideal
public import Idealize.ShloMosaic.Lib.StableHlo.ReadAt

@[expose] public section

set_option maxRecDepth 16384

noncomputable section

namespace Cert.Product17

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles
open Cert.Kernel17Ideal Cert.Kernel17Ideal.Gen
open Cert.Reference17Ideal.Read

local notation "𝓘" => Idealize.ShloMosaic.Ideal

/-- The whole product. -/
def product (X : FVec 𝓘 S2048x512 .f32) (Y : FVec 𝓘 S2048x512 .f32) : FVec 𝓘 S512x512 .bf16 :=
  fun i => ∑ k : Fin 2048, X (ix2 k (i 0)) * Y (ix2 k (i 1))

/-! ## One grid point -/

/-- The product of two blocks. -/
theorem dot_at (A : FVec 𝓘 S2048x512 .bf16) (B : FVec 𝓘 S2048x512 .bf16) (r : Fin 512) (e : Fin 512) :
    (matmul dot_S2048x512_S2048x512_S512x512_0_0_1_1_n_n none A B (constant S512x512 .f32 0x00000000#32) : FVec 𝓘 S512x512 .f32) (ix2 r e)
      = ∑ k : Fin 2048, A (ix2 k r) * B (ix2 k e) :=
  product_at _ 2048 rfl rfl A B (ix2 r e) (fun k => ix2 k r) (fun k => ix2 k e)
    (fun k => funext fun a => Fin.ext (by
      have hk := contrEquiv1_symm_val dot_S2048x512_S2048x512_S512x512_0_0_1_1_n_n 2048 rfl rfl k
      match a with | ⟨0, _⟩ => exact hk | ⟨1, _⟩ => rfl))
    (fun k => funext fun a => Fin.ext (by
      have hk := contrEquiv1_symm_val dot_S2048x512_S2048x512_S512x512_0_0_1_1_n_n 2048 rfl rfl k
      match a with | ⟨0, _⟩ => exact hk | ⟨1, _⟩ => rfl))

section
variable (c : Dev nD) (i : grid0.Coords) (arg3 : Memref sig .tc .vmem S2048x512 .bf16) (harg3 : arg3.IsWhole)
  (arg4 : Memref sig .tc .vmem S2048x512 .bf16) (harg4 : arg4.IsWhole) (arg5 : Memref sig .tc .vmem S512x512 .bf16) (harg5 : arg5.IsWhole)
  (arg6 : Memref sig .tc .vmem S8x128 .f32) (harg6 : arg6.IsWhole) (x0 : Vec 𝓘 S2048x512 .bf16) (x1 : Vec 𝓘 S2048x512 .bf16)

theorem out_at (r : Fin 512) (e : Fin 512) :
    out0_A_2 (F := 𝓘) c i arg3 harg3 arg4 harg4 arg5 harg5 arg6 harg6 x0 x1 (ix2 r e) = ∑ k : Fin 2048, x0 (ix2 k r) * x1 (ix2 k e) := by
  unfold out0_A_2 kernelRun0_A; dsimp only; sl_unfold_words
  rw [store_all _ _ _ _ off2]
  simp only [load_all (S := S2048x512) arg3 harg3 x0 _ off2, load_all (S := S2048x512) arg4 harg4 x1 _ off2, k0_pay1, shapeCast_self]
  exact dot_at x0 x1 r e

end

/-! ## The blocks of the arrays -/

theorem where_0 : ∀ t : Fin cfg0.N, win0_0.index t 0 = 0 ∧ win0_0.index t 1 = 0 :=
  (by decide +kernel : ∀ t : Fin grid0.N, win0_0.index t 0 = 0 ∧ win0_0.index t 1 = 0)
theorem where_1 : ∀ t : Fin cfg0.N, win0_1.index t 0 = 0 ∧ win0_1.index t 1 = 0 :=
  (by decide +kernel : ∀ t : Fin grid0.N, win0_1.index t 0 = 0 ∧ win0_1.index t 1 = 0)
theorem where_2 : ∀ t : Fin cfg0.N, win0_2.index t 0 = 0 ∧ win0_2.index t 1 = 0 :=
  (by decide +kernel : ∀ t : Fin grid0.N, win0_2.index t 0 = 0 ∧ win0_2.index t 1 = 0)

section
variable (m : (ℓ : Loc nD τ sig) → Buf (Elt 𝓘) ℓ) (c : Dev nD) (t : Fin cfg0.N)

theorem window_0 (X : Buf (Elt 𝓘) ((c : Thread nD τ).loc main_v0)) (r : Fin 2048) (e : Fin 512) (u : S2048x512.Idx)
    (h0 : (u 0).val = r.val) (h1 : (u 1).val = e.val) :
    ((cfg0.win 0).blk t).view.read (Elt 𝓘) X (ix2 r e : S2048x512.Idx) = X u := by
  obtain ⟨w0, w1⟩ := where_0 t
  rw [View.read_apply]
  show X _ = X _
  refine congrArg X (funext fun a => Fin.ext ?_)
  match a with
  | ⟨0, _⟩ => show win0_0.index t 0 * 2048 + 1 * r.val = (u 0).val; rw [w0, h0]; omega
  | ⟨1, _⟩ => show win0_0.index t 1 * 512 + 1 * e.val = (u 1).val; rw [w1, h1]; omega

theorem window_1 (X : Buf (Elt 𝓘) ((c : Thread nD τ).loc main_v1)) (r : Fin 2048) (e : Fin 512) (u : S2048x512.Idx)
    (h0 : (u 0).val = r.val) (h1 : (u 1).val = e.val) :
    ((cfg0.win 1).blk t).view.read (Elt 𝓘) X (ix2 r e : S2048x512.Idx) = X u := by
  obtain ⟨w0, w1⟩ := where_1 t
  rw [View.read_apply]
  show X _ = X _
  refine congrArg X (funext fun a => Fin.ext ?_)
  match a with
  | ⟨0, _⟩ => show win0_1.index t 0 * 2048 + 1 * r.val = (u 0).val; rw [w0, h0]; omega
  | ⟨1, _⟩ => show win0_1.index t 1 * 512 + 1 * e.val = (u 1).val; rw [w1, h1]; omega

/-! ## What the launch is handed -/

/-- The two arguments. -/
def left : FVec 𝓘 S2048x512 .f32 := m ((c : Thread nD τ).loc main_arg0)
def right : FVec 𝓘 S2048x512 .f32 := m ((c : Thread nD τ).loc main_arg1)

theorem V_left (u : S2048x512.Idx) : V m c main_v0 u = left m c u := by
  have h : V m c main_v0 = truncf .bf16 (left m c) bitsLt_bf16_f32 := by unfold V; after_reads_simp; rfl
  rw [h]; rfl
theorem V_right (u : S2048x512.Idx) : V m c main_v1 u = right m c u := by
  have h : V m c main_v1 = truncf .bf16 (right m c) bitsLt_bf16_f32 := by unfold V; after_reads_simp; rfl
  rw [h]; rfl

/-! ## The array after the launch -/

theorem written : (dats m 0 c).flushed 2 t
    = ((cfg0.win 2).blk t).view.read (Elt 𝓘) (product (left m c) (right m c) : Buf (Elt 𝓘) ((c : Thread nD τ).loc main_v2)) := by
  obtain ⟨w0, w1⟩ := where_2 t
  rw [Cert.Kernel17Ideal.Value.flushed2_A m c t]
  funext y
  rw [View.read_apply]
  obtain ⟨r, e, rfl⟩ : ∃ (r : Fin 512) (e : Fin 512), y = ix2 r e := ⟨y 0, y 1, (ix2_eta y).symm⟩
  refine (out_at c _ _ _ _ _ _ _ _ _ _ _ r e).trans ?_
  show _ = product (left m c) (right m c) _
  refine Finset.sum_congr rfl fun k _ => congrArg₂ (fun (a b : EReal) => a * b) ?_ ?_
  · refine (window_0 c t (V m c main_v0) k r _ ?_ ?_).trans (V_left m c _)
    · rfl
    · show win0_2.index t 0 * 512 + 1 * r.val = r.val
      rw [w0]; omega
  · refine (window_1 c t (V m c main_v1) k e _ ?_ ?_).trans (V_right m c _)
    · rfl
    · show win0_2.index t 1 * 512 + 1 * e.val = e.val
      rw [w1]; omega

theorem array : (dats m 0 c).arrAt 2 cfg0.N = (product (left m c) (right m c) : Buf (Elt 𝓘) ((c : Thread nD τ).loc main_v2)) :=
  (dats m 0 c).arrAt_eq_of_cover 2 _ (fun t _ => written m c t) fun i => by
    have hi0 : (i 0 : Nat) < 512 := (i 0).isLt
    have hi1 : (i 1 : Nat) < 512 := (i 1).isLt
    obtain ⟨t, ht⟩ : ∃ t : Fin cfg0.N, t.val = 0 := ⟨⟨0, by rw [show cfg0.N = 1 from N_0]; omega⟩, rfl⟩
    obtain ⟨w0, w1⟩ := where_2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [w0]; omega
    | ⟨1, _⟩ =>
      show win0_2.index t 1 * 512 ≤ (i 1 : Nat) ∧ (i 1 : Nat) < win0_2.index t 1 * 512 + 512
      rw [w1]; omega

end

/-! ## The reference -/

theorem reference (X : FVec 𝓘 S2048x512 .f32) (Y : FVec 𝓘 S2048x512 .f32) : val_main_v4 (F := 𝓘) X Y = product X Y := by
  funext i
  rw [val_main_v4_apply, val_main_v3_apply]
  refine (val_main_v2_apply X Y _).trans (Finset.sum_congr rfl fun k _ => (mul_comm _ _).trans ?_)
  refine congrArg₂ (fun (a b : EReal) => a * b) (congrArg X (funext fun a => Fin.ext ?_)) (congrArg Y (funext fun a => Fin.ext ?_))
  · match a with | ⟨0, _⟩ => rfl | ⟨1, _⟩ => rfl
  · match a with | ⟨0, _⟩ => rfl | ⟨1, _⟩ => rfl

theorem reference_frame : Cert.quiescent_Reference17Ideal (hReference17Ideal := Cert.Reference17Ideal.Gen.facts) := by
  intro m g _
  exact (θ_run Cert.Reference17Ideal.defs _ _).mono (fun r h => ⟨fun c => (h c).2, sem_eq_zero_of_no_sems (by decide) r.2⟩)
    (Cert.Reference17Ideal.Value.run m g)

/-! ## The equation -/

theorem equal : Cert.algebraic_Kernel17Ideal_Reference17Ideal (hKernel17Ideal := Cert.Kernel17Ideal.Gen.facts)
    (hReference17Ideal := Cert.Reference17Ideal.Gen.facts) := by
  intro m ρ m' ρ' _ hag
  refine ⟨fun c => product (left m c) (right m c), ?_, ?_⟩
  · refine (θ_run Cert.Kernel17Ideal.defs _ _).mono (fun r h c => ?_) (Cert.Kernel17Ideal.Value.run_blocks m ρ)
    exact ⟨(h c).1.trans (array m c), (h c).2⟩
  · refine (θ_run Cert.Reference17Ideal.defs _ _).mono (fun r h c => ?_) (Cert.Reference17Ideal.Value.run m' ρ')
    obtain ⟨a0, a1⟩ := hag c
    refine ⟨(h c).1.trans ((val_main_v4_eq _ _).trans ?_), (h c).2⟩
    rw [reference, a0, a1]; rfl

end Cert.Product17

end
-- ==== Proof.ForwardTile.lean ====
/- The forward call of attention, one tile at a time. A row's running maximum is only a scale: the kernel keeps, for each head,
   the sum of the row's weights times `exp (−μ)` and the weighted values times `exp (−μ)`, where `μ` is the maximum so far, and
   every step changes the scale and adds the tile's share. -/
module

public import proofs.«01_k».proof.Proof.TileMath
public import proofs.«01_k».proof.Proof.Gen.Kernel18Ideal.Skeleton

@[expose] public section

set_option maxRecDepth 16384

noncomputable section

namespace Cert.Forward

open Idealize.ShloMosaic hiding ix1 ix2 ix3 ix4 ix5
open Idealize.ShloMosaic.ValueIdx
open Cert.Attn
open Cert.Kernel18Ideal Cert.Kernel18Ideal.Gen

local notation "𝓘" => Idealize.ShloMosaic.Ideal

/-- The unnormalised weights of a tile at block distance δ. -/
def heavy (δ : ℤ) (x : Square) : Square := fun r s => mult (δ + r.val - s.val) * Real.exp (x r s)

/-- One number for the lanes of the first head and one for those of the second. -/
def two (a b : Fin 512 → ℝ) : Tile := fun r e => if e.val < 64 then a r else b r

/-! ## The half-mask -/

theorem mask (r : Fin 512) (e : Fin 128) (x : IVec S1x128 1) (hx : x = k0_pay34) (h : S1x128.ShapeCasts S1x128)
    (h' : S1x128.Broadcasts S512x128) :
    broadcastTo S512x128 (shapeCast S1x128 x h) h' (ix2 r e) = if e.val < 64 then 1#1 else 0#1 := mask_rows r e x (hx.trans rfl)

theorem zero_bf16 (i : S512x128.Idx) : k0_pay4 (F := 𝓘) i = ((0 : ℝ) : EReal) := zeros16 i

theorem queryA (x : Vec 𝓘 S512x128 .bf16) (a : Tile) (h : IsTile x a) : IsTile (k0_pay37 x) (first a) :=
  select_first _ (fun r e => mask r e _ rfl _ _) _ _ a (fun r e => (congrFun (self_cast x _) (ix2 r e)).trans (h r e)) zeros16

theorem queryB (x : Vec 𝓘 S512x128 .bf16) (a : Tile) (h : IsTile x a) : IsTile (k0_pay38 x) (second a) :=
  select_second _ (fun r e => mask r e _ rfl _ _) _ _ a (fun r e => (congrFun (self_cast x _) (ix2 r e)).trans (h r e)) zeros16

theorem valueB (x : Vec 𝓘 S512x128 .bf16) (a : Tile) (h : IsTile x a) : IsTile (k0_pay5 k0_pay34 x) (second a) :=
  select_second _ (fun r e => mask r e _ rfl _ _) _ _ a (fun r e => (congrFun (self_cast x _) (ix2 r e)).trans (h r e)) zeros16

/-! ## Columns -/

theorem col_cast (x : S512x1.Idx → EReal) (h : S512x1.ShapeCasts S512x1) : shapeCast S512x1 x h = x := by
  funext i
  exact shapeCast_apply x h i i rfl

/-- A column spread over the lanes. -/
theorem column_lanes (x : S512x1.Idx → EReal) (a : Fin 512 → ℝ) (hx : IsCol x a) (r : Fin 512) (e : Fin 128) :
    broadcastTo S512x128 (shapeCast S512x1 x shapeCasts_S512x1_S512x1) broadcasts_S512x1_S512x128 (ix2 r e) = ((a r : ℝ) : EReal) := by
  rw [col_cast]
  refine (broadcastTo_apply _ _ (ix2 r e) (ix2 r 0) (fun b => ?_)).trans (hx r 0)
  match b with | ⟨0, _⟩ => rfl | ⟨1, _⟩ => rfl

/-- The two heads' columns, each over its own lanes. -/
theorem two_cols (m : IVec S512x128 1) (hm : ∀ r e, m (ix2 r e) = if e.val < 64 then 1#1 else 0#1) (x y : FVec 𝓘 S512x1 .f32)
    (a b : Fin 512 → ℝ) (hx : IsCol x a) (hy : IsCol y b) :
    IsTile (select m (broadcastTo S512x128 (shapeCast S512x1 x shapeCasts_S512x1_S512x1) broadcasts_S512x1_S512x128 : FVec 𝓘 S512x128 .f32)
      (broadcastTo S512x128 (shapeCast S512x1 y shapeCasts_S512x1_S512x1) broadcasts_S512x1_S512x128)) (two a b) := by
  intro r e
  show Scalar.select (m (ix2 r e)) (broadcastTo S512x128 (shapeCast S512x1 x shapeCasts_S512x1_S512x1) broadcasts_S512x1_S512x128 (ix2 r e))
    (broadcastTo S512x128 (shapeCast S512x1 y shapeCasts_S512x1_S512x1) broadcasts_S512x1_S512x128 (ix2 r e)) = _
  rw [hm, column_lanes x a hx, column_lanes y b hy]
  unfold two
  by_cases he : e.val < 64
  · rw [if_pos he, if_pos he, select_one]
  · rw [if_neg he, if_neg he, select_zero]

theorem retile {x : S512x128.Idx → EReal} {a b : Tile} (h : IsTile x a) (e : ∀ r l, a r l = b r l) : IsTile x b :=
  fun r l => by rw [h r l, e r l]

theorem tile_mul (x y : FVec 𝓘 S512x128 .f32) (a b : Tile) (hx : IsTile x a) (hy : IsTile y b) :
    IsTile (mulf x y) (fun r e => a r e * b r e) := fun r e => by
  show (x (ix2 r e) : EReal) * y (ix2 r e) = _
  rw [hx, hy, EReal.coe_mul]

theorem tile_sum (x y : FVec 𝓘 S512x128 .f32) (a b : Tile) (hx : IsTile x a) (hy : IsTile y b) :
    IsTile (addf x y) (fun r e => a r e + b r e) := fun r e => by
  show (x (ix2 r e) : EReal) + y (ix2 r e) = _
  rw [hx, hy, EReal.coe_add]

/-! ## Row sums and maxima of squares -/

theorem lift_square (r s : Fin 512) : reduces_S512x512_S512.lift (ix1 r) s = ix2 r s := by
  funext a; match a with | ⟨0, _⟩ => rfl | ⟨1, _⟩ => rfl

theorem square_sum (x : FVec 𝓘 S512x512 .f32) (a : Square) (hx : IsSquare x a) :
    IsCol (shapeCast S512x1 (multiReduction .add [1] S512 x 0x00000000#32 reduces_S512x512_S512 (.inl rfl) rfl) shapeCasts_S512_S512x1)
      (fun r => ∑ s, a r s) := by
  refine column _ _ fun r => ?_
  refine (Ideal.multiReduction_add_single x _ _ _ _ (ix1 r)).trans ?_
  rw [← sum_coe]
  exact Finset.sum_congr rfl fun s _ => (congrArg x (lift_square r s)).trans (hx r s)

/-- The largest of a real number and values none of which is +∞ is real. -/
theorem new_max (m : FVec 𝓘 S512x1 .f32) (μ : Fin 512 → ℝ) (hm : IsCol m μ) (x : FVec 𝓘 S512x512 .f32) (hx : ∀ r s, x (ix2 r s) < (⊤ : EReal)) :
    ∃ ν : Fin 512 → ℝ, IsCol (maximumf m (shapeCast S512x1 (multiReduction .maximumf [1] S512 x 0xFF800000#32 reduces_S512x512_S512 (.inl rfl) rfl)
      shapeCasts_S512_S512x1)) ν := by
  have key : ∀ r : Fin 512, ∃ n : ℝ, ∀ z, maximumf m (shapeCast S512x1 (multiReduction .maximumf [1] S512 x 0xFF800000#32 reduces_S512x512_S512
      (.inl rfl) rfl) shapeCasts_S512_S512x1) (ix2 r z) = ((n : ℝ) : EReal) := by
    intro r
    have hred : multiReduction .maximumf [1] S512 x 0xFF800000#32 reduces_S512x512_S512 (.inl rfl) rfl (ix1 r) < (⊤ : EReal) := by
      refine lt_of_eq_of_lt ((Ideal.multiReduction_maximumf_single x _ _ _ _ (ix1 r)).trans
        (congrArg (fun b => (Finset.univ : Finset (Fin 512)).fold max b (x ∘ reduces_S512x512_S512.lift (ix1 r))) const_bot)) ?_
      exact (Finset.fold_max_lt _).2 ⟨bot_lt_top, fun s _ => lt_of_eq_of_lt (congrArg x (lift_square r s)) (hx r s)⟩
    have hlt : max ((μ r : ℝ) : EReal) (multiReduction .maximumf [1] S512 x 0xFF800000#32 reduces_S512x512_S512 (.inl rfl) rfl (ix1 r)) < ⊤ :=
      max_lt (EReal.coe_lt_top _) hred
    have hgt : ⊥ < max ((μ r : ℝ) : EReal) (multiReduction .maximumf [1] S512 x 0xFF800000#32 reduces_S512x512_S512 (.inl rfl) rfl (ix1 r)) :=
      lt_max_of_lt_left (EReal.bot_lt_coe _)
    refine ⟨_, fun z => Eq.trans ?_ (EReal.coe_toReal hlt.ne hgt.ne').symm⟩
    refine congrArg₂ (fun a b : EReal => max a b) (hm r z) ?_
    have hz : z.val = 0 := Nat.lt_one_iff.1 z.isLt
    refine shapeCast_apply _ _ (ix2 r z) (ix1 r) ?_
    rw [show (S512.rowMajor (ix1 r)).val = r.val from rowMajor_val1 _, show (S512x1.rowMajor (ix2 r z)).val = r.val * 1 + z.val from
      rowMajor_val2 _ 1 rfl]
    omega
  exact ⟨fun r => (key r).choose, fun r z => (key r).choose_spec z⟩

/-! ## The scores -/

theorem bias_at (b : Vec 𝓘 S1x512x512 .f32) (δ : ℤ) (hb : IsBias b δ) (r s : Fin 512) : k0_pay6 b (ix2 r s) = biasAt (δ + r.val - s.val) :=
  (bias_tile b r s).trans (hb r s)

/-- The score with its bias. -/
theorem scores_at (Q K : FVec 𝓘 S512x128 .bf16) (b : Vec 𝓘 S1x512x512 .f32) (q k : Tile) (δ : ℤ) (hQ : IsTile Q q) (hK : IsTile K k)
    (hb : IsBias b δ) (r s : Fin 512) :
    (k0_pay7 Q K b (ix2 r s) : EReal) = ((dots q k r s : ℝ) : EReal) + biasAt (δ + r.val - s.val) := by
  show matmul (F := 𝓘) dot_S512x128_S512x128_S512x512_1_1_0_0_n_n none Q (k0_pay2 K) (constant S512x512 .f32 0x00000000#32) (ix2 r s)
    + k0_pay6 b (ix2 r s) = _
  rw [bias_at b δ hb]
  refine congrArg (· + biasAt (δ + r.val - s.val)) ?_
  exact dot_lanes Q (k0_pay2 K) q k hQ (fun r e => (congrFun (self_cast K _) (ix2 r e)).trans (hK r e)) r s

theorem bias_lt_top (δ : ℤ) : biasAt δ < ⊤ := by
  unfold biasAt; split_ifs
  · exact bot_lt_top
  · exact EReal.coe_lt_top _

theorem scores_lt (x : ℝ) (δ : ℤ) : (x : EReal) + biasAt δ < ⊤ := EReal.add_lt_top (EReal.coe_ne_top _) (bias_lt_top δ).ne

/-- The exponential of the biased score, shifted by a maximum. -/
theorem exp_shift (x μ : ℝ) (δ : ℤ) : Ideal.exp ((x : EReal) + biasAt δ - (μ : EReal)) = ((mult δ * Real.exp x * Real.exp (-μ) : ℝ) : EReal) := by
  unfold biasAt
  by_cases h : mult δ = 0
  · rw [if_pos h, EReal.add_bot, EReal.bot_sub, Ideal.exp_bot, h, zero_mul, zero_mul, EReal.coe_zero]
  · have hp : 0 < mult δ := lt_of_le_of_ne (mult_nonneg δ) (Ne.symm h)
    rw [if_neg h, ← EReal.coe_add, ← EReal.coe_sub, Ideal.exp_coe]
    refine congrArg Real.toEReal ?_
    rw [show x + Real.log (mult δ) - μ = x + Real.log (mult δ) + -μ by ring, Real.exp_add, Real.exp_add, Real.exp_log hp]
    ring

/-! ## One head's step -/

section
variable (Q K : FVec 𝓘 S512x128 .bf16) (b : Vec 𝓘 S1x512x512 .f32) (q k : Tile) (δ : ℤ) (hQ : IsTile Q q) (hK : IsTile K k)
  (hb : IsBias b δ) (m l : FVec 𝓘 S512x1 .f32) (μ ν L : Fin 512 → ℝ) (hm : IsCol m μ)

include hQ hK hb hm in
theorem max_col : ∃ ν, IsCol (k0_pay8 Q m K b) ν :=
  new_max m μ hm (k0_pay7 Q K b) fun r s => by rw [scores_at Q K b q k δ hQ hK hb]; exact scores_lt _ _

variable (hν : IsCol (k0_pay8 Q m K b) ν)

include hQ hK hb hν in
theorem weights : IsSquare (k0_pay9 Q m K b) (fun r s => heavy δ (dots q k) r s * Real.exp (-ν r)) := by
  intro r s
  show Ideal.exp (k0_pay7 Q K b (ix2 r s) - broadcastTo S512x512 (k0_pay8 Q m K b) broadcasts_S512x1_S512x512 (ix2 r s)) = _
  rw [scores_at Q K b q k δ hQ hK hb, column_rows _ ν hν, exp_shift]
  rfl

include hm hν in
theorem scale : IsCol (k0_pay10 Q m K b) (fun r => Real.exp (μ r - ν r)) := by
  intro r z
  show Ideal.exp (m (ix2 r z) - k0_pay8 Q m K b (ix2 r z)) = _
  rw [hm, hν, ← EReal.coe_sub, Ideal.exp_coe]

/-- The rescaled sum and the tile's. -/
theorem rescale (x y : FVec 𝓘 S512x1 .f32) (w : FVec 𝓘 S512x512 .f32) (W : Square) (hx : IsCol x fun r => Real.exp (μ r - ν r))
    (hy : IsCol y fun r => L r * Real.exp (-μ r)) (hw : IsSquare w fun r s => W r s * Real.exp (-ν r)) :
    IsCol (addf (mulf x y) (shapeCast S512x1 (multiReduction .add [1] S512 w 0x00000000#32 reduces_S512x512_S512 (.inl rfl) rfl)
      shapeCasts_S512_S512x1)) (fun r => (L r + ∑ s, W r s) * Real.exp (-ν r)) := by
  intro r z
  refine (congrArg₂ (fun a b : EReal => a + b) (congrArg₂ (fun a b : EReal => a * b) (hx r z) (hy r z)) (square_sum w _ hw r z)).trans ?_
  show ((Real.exp (μ r - ν r) : ℝ) : EReal) * ((L r * Real.exp (-μ r) : ℝ) : EReal) + ((∑ s, W r s * Real.exp (-ν r) : ℝ) : EReal) = _
  rw [← EReal.coe_mul, ← EReal.coe_add]
  refine congrArg Real.toEReal ?_
  have e : Real.exp (μ r - ν r) * Real.exp (-μ r) = Real.exp (-ν r) := by rw [← Real.exp_add]; ring_nf
  dsimp only
  rw [← Finset.sum_mul, ← e]
  ring

end

/-! ## The step of both heads -/

/-- What the loop carries: for each head a scale `μ` and the sum of the weights, and the weighted values, all at that scale. -/
def Held (LA LB : Fin 512 → ℝ) (W : Tile) (st : FVec 𝓘 S512x1 .f32 × FVec 𝓘 S512x1 .f32 × FVec 𝓘 S512x1 .f32 × FVec 𝓘 S512x1 .f32 × FVec 𝓘 S512x128 .f32) : Prop :=
  ∃ μA μB : Fin 512 → ℝ, IsCol st.1 μA ∧ IsCol st.2.1 (fun r => LA r * Real.exp (-μA r)) ∧ IsCol st.2.2.1 μB
    ∧ IsCol st.2.2.2.1 (fun r => LB r * Real.exp (-μB r))
    ∧ IsTile st.2.2.2.2 (fun r e => W r e * two (fun r => Real.exp (-μA r)) (fun r => Real.exp (-μB r)) r e)

/-- What a trip makes of it. -/
def next (Q1 Q2 : FVec 𝓘 S512x128 .bf16) (K V : Vec 𝓘 S512x128 .bf16) (b : Vec 𝓘 S1x512x512 .f32)
    (st : FVec 𝓘 S512x1 .f32 × FVec 𝓘 S512x1 .f32 × FVec 𝓘 S512x1 .f32 × FVec 𝓘 S512x1 .f32 × FVec 𝓘 S512x128 .f32) :
    FVec 𝓘 S512x1 .f32 × FVec 𝓘 S512x1 .f32 × FVec 𝓘 S512x1 .f32 × FVec 𝓘 S512x1 .f32 × FVec 𝓘 S512x128 .f32 :=
  (k0_pay8 Q1 st.1 K b, k0_pay11 Q1 st.1 st.2.1 K b, k0_pay14 Q2 st.2.2.1 K b,
    k0_pay42 (k0_pay15 Q2 st.2.2.1 K b) (k0_pay17 Q2 st.2.2.1 st.2.2.2.1 K b),
    k0_pay43 st.2.2.2.2 (k0_pay5 k0_pay34 V) (k0_pay10 Q1 st.1 K b) (k0_pay12 k0_pay34 Q1 st.1 K V b) (k0_pay15 Q2 st.2.2.1 K b)
      (k0_pay16 Q2 st.2.2.1 K b))

theorem heads (q1 q2 k v : Tile) (δ : ℤ) (Q1 Q2 : FVec 𝓘 S512x128 .bf16) (K V : Vec 𝓘 S512x128 .bf16) (b : Vec 𝓘 S1x512x512 .f32)
    (h1 : IsTile Q1 q1) (h2 : IsTile Q2 q2) (hK : IsTile K k) (hV : IsTile V v) (hb : IsBias b δ) (LA LB : Fin 512 → ℝ) (W : Tile)
    (st : FVec 𝓘 S512x1 .f32 × FVec 𝓘 S512x1 .f32 × FVec 𝓘 S512x1 .f32 × FVec 𝓘 S512x1 .f32 × FVec 𝓘 S512x128 .f32)
    (h : Held LA LB W st) :
    Held (fun r => LA r + ∑ s, heavy δ (dots q1 k) r s) (fun r => LB r + ∑ s, heavy δ (dots q2 k) r s)
      (fun r e => W r e + ((∑ s, heavy δ (dots q1 k) r s * first v s e) + ∑ s, heavy δ (dots q2 k) r s * second v s e))
      (next Q1 Q2 K V b st) := by
  obtain ⟨μA, μB, a1, a2, b1, b2, ac⟩ := h
  obtain ⟨νA, hA⟩ := max_col Q1 K b q1 k δ h1 hK hb _ _ a1
  obtain ⟨νB, hB⟩ := max_col Q2 K b q2 k δ h2 hK hb _ _ b1
  have pA := weights Q1 K b q1 k δ h1 hK hb _ νA hA
  have pB := weights Q2 K b q2 k δ h2 hK hb _ νB hB
  have sA := scale Q1 K b _ _ _ a1 hA
  have sB := scale Q2 K b _ _ _ b1 hB
  refine ⟨νA, νB, hA, rescale μA νA LA _ _ _ _ sA a2 pA, hB, rescale μB νB LB _ _ _ _ sB b2 pB, ?_⟩
  have oA := dot_keys _ _ _ _ pA (select_first _ (fun r e => mask r e k0_pay34 rfl shapeCasts_S1x128_S1x128 broadcasts_S1x128_S512x128) _ _ v
    (fun r e => (congrFun (self_cast V shapeCasts_S512x128_S512x128) (ix2 r e)).trans (hV r e)) zero_bf16)
  have oB := dot_keys _ _ _ _ pB (valueB V v hV)
  have t := tile_sum _ _ _ _ (tile_mul _ _ _ _ ac (two_cols _ (fun r e => mask r e k0_pay34 rfl shapeCasts_S1x128_S1x128 broadcasts_S1x128_S512x128)
    _ _ _ _ sA sB)) (tile_sum _ _ _ _ oA oB)
  refine retile t fun r e => ?_
  have split : ∀ (w : Square) (n : ℝ) (u : Tile), ∑ s, w r s * n * u s e = (∑ s, w r s * u s e) * n := fun w n u => by
    rw [Finset.sum_mul]; exact Finset.sum_congr rfl fun s _ => by ring
  have ez : ∀ w : Square, ∀ u : Tile, (∀ s, u s e = 0) → ∑ s, w r s * u s e = 0 := fun w u hu =>
    Finset.sum_eq_zero fun s _ => by rw [hu, mul_zero]
  rw [split, split]
  have eA : Real.exp (-μA r) * Real.exp (μA r - νA r) = Real.exp (-νA r) := by rw [← Real.exp_add]; ring_nf
  have eB : Real.exp (-μB r) * Real.exp (μB r - νB r) = Real.exp (-νB r) := by rw [← Real.exp_add]; ring_nf
  by_cases he : e.val < 64
  · simp only [ez _ (second v) fun s => second_low v s e he, two, if_pos he]
    rw [mul_assoc, eA]; ring
  · simp only [ez _ (first v) fun s => first_high v s e he, two, if_neg he]
    rw [mul_assoc, eB]; ring

/-! ## The start and the end -/

/-- The starting maximum is a real number. -/
theorem start_real : ∃ μ : ℝ, Ideal.ofBits .f32 0xF149F2CA#32 = (μ : EReal) := by
  simp only [Ideal.ofBits, Ideal.ieee]
  simp
  exact ⟨-(13234890 * 2 ^ 76), by norm_cast⟩

theorem start : Held (fun _ => 0) (fun _ => 0) (fun _ _ => 0) (k0_pay39 (F := 𝓘), k0_pay40 (F := 𝓘), k0_pay39 (F := 𝓘), k0_pay40 (F := 𝓘), k0_pay41 (F := 𝓘)) := by
  obtain ⟨μ, hμ⟩ := start_real
  refine ⟨fun _ => μ, fun _ => μ, fun _ _ => hμ, fun r z => ?_, fun _ _ => hμ, fun r z => ?_, fun r e => ?_⟩
  · show Ideal.ofBits .f32 0x00000000#32 = ((0 * _ : ℝ) : EReal); rw [zero_mul]; exact const_zero
  · show Ideal.ofBits .f32 0x00000000#32 = ((0 * _ : ℝ) : EReal); rw [zero_mul]; exact const_zero
  · show Ideal.ofBits .f32 0x00000000#32 = ((0 * _ : ℝ) : EReal); rw [zero_mul]; exact const_zero

theorem quotient (l : FVec 𝓘 S512x1 .f32) (L μ : Fin 512 → ℝ) (hL : ∀ r, 0 < L r) (hl : IsCol l fun r => L r * Real.exp (-μ r)) :
    IsCol (divf (broadcast S512x1 (Scalar.ofBits (F := 𝓘) .f32 0x3F800000#32)) l) (fun r => 1 / (L r * Real.exp (-μ r))) := by
  intro r z
  show Ideal.div (Ideal.ofBits .f32 0x3F800000#32) (l (ix2 r z)) = _
  rw [hl, const_one, div_coe_pos _ _ (mul_pos (hL r) (Real.exp_pos _))]

/-- The output: the weighted values over the totals. -/
theorem out_tile (LA LB : Fin 512 → ℝ) (W : Tile) (hA : ∀ r, 0 < LA r) (hB : ∀ r, 0 < LB r)
    (st : FVec 𝓘 S512x1 .f32 × FVec 𝓘 S512x1 .f32 × FVec 𝓘 S512x1 .f32 × FVec 𝓘 S512x1 .f32 × FVec 𝓘 S512x128 .f32)
    (h : Held LA LB W st) : IsTile (k0_pay46 st.2.1 st.2.2.2.1 st.2.2.2.2) (fun r e => W r e / two LA LB r e) := by
  obtain ⟨μA, μB, a1, a2, b1, b2, ac⟩ := h
  refine retile (tile_mul _ _ _ _ ac (two_cols _ (fun r e => mask r e k0_pay34 rfl shapeCasts_S1x128_S1x128 broadcasts_S1x128_S512x128)
    _ _ _ _ (quotient _ _ _ hA a2) (quotient _ _ _ hB b2))) fun r e => ?_
  have nA := (hA r).ne'
  have nB := (hB r).ne'
  have xA := (Real.exp_pos (-μA r)).ne'
  have xB := (Real.exp_pos (-μB r)).ne'
  by_cases he : e.val < 64
  · simp only [two, if_pos he]; field_simp
  · simp only [two, if_neg he]; field_simp

theorem log_col (m l : FVec 𝓘 S512x1 .f32) (L μ : Fin 512 → ℝ) (hL : ∀ r, 0 < L r) (hm : IsCol m μ)
    (hl : IsCol l fun r => L r * Real.exp (-μ r)) : IsCol (addf m (log l)) (fun r => Real.log (L r)) := by
  intro r z
  show (m (ix2 r z) : EReal) + Ideal.log (l (ix2 r z)) = _
  rw [hm, hl, log_coe_pos _ (mul_pos (hL r) (Real.exp_pos _)), ← EReal.coe_add]
  refine congrArg Real.toEReal ?_
  rw [Real.log_mul (hL r).ne' (Real.exp_pos _).ne', Real.log_exp]
  ring

/-- The logarithms of the totals, over the lanes. -/
theorem lse_tile (LA LB : Fin 512 → ℝ) (W : Tile) (hA : ∀ r, 0 < LA r) (hB : ∀ r, 0 < LB r)
    (st : FVec 𝓘 S512x1 .f32 × FVec 𝓘 S512x1 .f32 × FVec 𝓘 S512x1 .f32 × FVec 𝓘 S512x1 .f32 × FVec 𝓘 S512x128 .f32)
    (h : Held LA LB W st) : IsTile (k0_pay1 (k0_pay47 st.1 st.2.1) (k0_pay48 st.2.2.1 st.2.2.2.1) k0_pay49)
      (two (fun r => Real.log (LA r)) (fun r => Real.log (LB r))) := by
  obtain ⟨μA, μB, a1, a2, b1, b2, ac⟩ := h
  exact two_cols _ (fun r e => mask r e k0_pay34 rfl shapeCasts_S1x128_S1x128 broadcasts_S1x128_S512x128) _ _ _ _
    (log_col _ _ _ _ hA a1 a2) (log_col _ _ _ _ hB b1 b2)

end Cert.Forward

end
-- ==== Proof.ForwardLoop.lean ====
/- The forward call's loop: a block of 512 queries and one pair of heads against the key blocks up to its own. After the last
   key block the carried sums are the whole rows' ones, since later keys have weight zero. -/
module

public import proofs.«01_k».proof.Proof.ForwardTile
public import proofs.«01_k».proof.Proof.Tiles
public import proofs.«01_k».proof.Proof.Gen.Kernel18Ideal.Value
public import Idealize.ShloMosaic.Lib.Pipeline.ValueKit.Tiles

@[expose] public section

set_option maxRecDepth 16384

noncomputable section

namespace Cert.Forward

open Idealize.ShloMosaic hiding ix1 ix2 ix3 ix4 ix5
open Idealize.ShloMosaic.ValueIdx
open Idealize.ShloMosaic.TcCoe Idealize.ShloMosaic.Tactic
open Idealize.SL Idealize.SL.Sem
open Cert.Attn
open Cert.Kernel18Ideal Cert.Kernel18Ideal.Gen

local notation "𝓘" => Idealize.ShloMosaic.Ideal

/-! ## The shares of the key blocks -/

section
variable (q k v : Arr) (b j : Fin 4) (p : Fin 8)

/-- The weights of block `j`'s keys for a row of block `b`, in the two heads, and the weighted values in a lane. -/
def partA (r : Fin 512) : ℝ := ∑ s, weight q k (headA p) (row b r) (row j s)
def partB (r : Fin 512) : ℝ := ∑ s, weight q k (headB p) (row b r) (row j s)
def partW (r : Fin 512) (e : Fin 128) : ℝ := ∑ s, weight q k (headOf (col p e)) (row b r) (row j s) * v (row j s) (col p e)

theorem heavy_low (r s : Fin 512) : heavy (dist b j) (dots (first (tile q b p)) (tile k j p)) r s = weight q k (headA p) (row b r) (row j s) := by
  unfold heavy weight
  rw [score_low, times_tile]

theorem heavy_high (r s : Fin 512) : heavy (dist b j) (dots (second (tile q b p)) (tile k j p)) r s = weight q k (headB p) (row b r) (row j s) := by
  unfold heavy weight
  rw [score_high, times_tile]

theorem heavy_values (r : Fin 512) (e : Fin 128) :
    (∑ s, heavy (dist b j) (dots (first (tile q b p)) (tile k j p)) r s * first (tile v j p) s e)
      + ∑ s, heavy (dist b j) (dots (second (tile q b p)) (tile k j p)) r s * second (tile v j p) s e = partW q k v b j p r e :=
  two_heads p _ _ (fun h s => weight q k h (row b r) (row j s)) (tile v j p) e (fun s => heavy_low q k b j p r s)
    (fun s => heavy_high q k b j p r s)

theorem weight_zero (h : Fin 16) (R C : Fin 2048) (hRC : R < C) : weight q k h R C = 0 := by
  have hlt : R.val < C.val := hRC
  unfold weight times
  rw [mult_neg (by omega), zero_mul]

theorem sumTo_end (f : Fin 4 → ℝ) (n : ℕ) (hz : ∀ a : Fin 4, n ≤ a.val → f a = 0) : sumTo f n = ∑ a, f a :=
  Finset.sum_congr rfl fun a _ => by
    by_cases h : a.val < n
    · rw [if_pos h]
    · rw [if_neg h, hz a (by omega)]

theorem allA (r : Fin 512) : sumTo (fun j => partA q k b j p r) (b.val + 1) = total q k (headA p) (row b r) := by
  refine (sumTo_end _ _ fun a ha => Finset.sum_eq_zero fun s _ => weight_zero q k _ _ _ (row_lt b a (by show b.val < a.val; omega) r s)).trans ?_
  exact (sum_rows fun C => weight q k (headA p) (row b r) C).symm

theorem allB (r : Fin 512) : sumTo (fun j => partB q k b j p r) (b.val + 1) = total q k (headB p) (row b r) := by
  refine (sumTo_end _ _ fun a ha => Finset.sum_eq_zero fun s _ => weight_zero q k _ _ _ (row_lt b a (by show b.val < a.val; omega) r s)).trans ?_
  exact (sum_rows fun C => weight q k (headB p) (row b r) C).symm

theorem allW (r : Fin 512) (e : Fin 128) : sumTo (fun j => partW q k v b j p r e) (b.val + 1)
    = ∑ C, weight q k (headOf (col p e)) (row b r) C * v C (col p e) := by
  refine (sumTo_end _ _ fun a ha => Finset.sum_eq_zero fun s _ => by
    rw [weight_zero q k _ _ _ (row_lt b a (by show b.val < a.val; omega) r s), zero_mul]).trans ?_
  exact (sum_rows fun C => weight q k (headOf (col p e)) (row b r) C * v C (col p e)).symm

theorem two_of (f : Fin 16 → Fin 512 → ℝ) (r : Fin 512) (e : Fin 128) : two (f (headA p)) (f (headB p)) r e = f (headOf (col p e)) r := by
  unfold two
  by_cases h : e.val < 64
  · rw [if_pos h, headOf_low p e h]
  · rw [if_neg h, headOf_high p e h]

/-- The weighted values over the total are the output. -/
theorem over_total (r : Fin 512) (e : Fin 128) :
    (∑ C, weight q k (headOf (col p e)) (row b r) C * v C (col p e)) / total q k (headOf (col p e)) (row b r)
      = output q k v (row b r) (col p e) := by
  unfold output prob
  rw [Finset.sum_div]
  exact Finset.sum_congr rfl fun C _ => by ring

end

theorem Held.of_eq {LA LB LA' LB' : Fin 512 → ℝ} {W W' : Tile}
    {st : FVec 𝓘 S512x1 .f32 × FVec 𝓘 S512x1 .f32 × FVec 𝓘 S512x1 .f32 × FVec 𝓘 S512x1 .f32 × FVec 𝓘 S512x128 .f32}
    (h : Held LA LB W st) (hA : ∀ r, LA r = LA' r) (hB : ∀ r, LB r = LB' r) (hW : ∀ r e, W r e = W' r e) : Held LA' LB' W' st := by
  obtain rfl := funext hA
  obtain rfl := funext hB
  obtain rfl : W = W' := funext fun r => funext fun e => hW r e
  exact h

/-! ## Loads -/

theorem load_keys (a : Memref sig .tc .vmem S2048x128 .bf16) (h : a.IsWhole) (X : Vec 𝓘 S2048x128 .bf16)
    (off : Fin 2 → ℕ) (inb : ∀ d, off d + S512x128.size d ≤ S2048x128.size d) (j : Fin 4)
    (hoff : off = ![512 * j.val, 0]) (r : Fin 512) (l : Fin 128) :
    View.readAt (Elt 𝓘) a.view (Rect.unit (s := S2048x128) off S512x128.size inb).toLoadRect (h.unread X) (ix2 r l) = X (ix2 (row j r) l) := by
  subst hoff
  rw [View.readAt_eq_ld, h.read_unread]
  exact View.ld_unit_apply_of X _ _ inb (ix2 r l) (ix2 (row j r) l) fun d => by
    match d with | ⟨0, _⟩ => rfl | ⟨1, _⟩ => exact (Nat.zero_add _).symm

theorem load_tile (a : Memref sig .tc .vmem S4x512x512 .f32) (h : a.IsWhole) (X : Vec 𝓘 S4x512x512 .f32) (off : Fin 3 → ℕ)
    (inb : ∀ d, off d + S1x512x512.size d ≤ S4x512x512.size d) (n : Fin 4) (hoff : off = ![n.val, 0, 0]) (r s : Fin 512) :
    View.readAt (Elt 𝓘) a.view (Rect.unit (s := S4x512x512) off S1x512x512.size inb).toLoadRect (h.unread X) (ix3 0 r s) = X (ix3 n r s) := by
  subst hoff
  rw [View.readAt_eq_ld, h.read_unread]
  exact View.ld_unit_apply_of X _ _ inb (ix3 0 r s) (ix3 n r s) fun d => by
    match d with | ⟨0, _⟩ => rfl | ⟨1, _⟩ => exact (Nat.zero_add _).symm | ⟨2, _⟩ => exact (Nat.zero_add _).symm

theorem keyWord : ∀ n : Fin 4, (Scalar.indexCast (Scalar.muli (Scf.iv 0#32 1#32 n.val) 512#32)).toNat = 512 * n.val := by decide +kernel

theorem tileWord : ∀ b n : Fin 4, n.val ≤ b.val → (Scalar.indexCast (Scalar.subi (BitVec.ofNat 32 b.val) (Scf.iv 0#32 1#32 n.val))).toNat
    = b.val - n.val := by decide +kernel

theorem key_off (j : Fin 4) (n : ℕ) (hj : j.val = n) :
    (![(Scalar.indexCast (Scalar.muli (Scf.iv 0#32 1#32 n) 512#32)).toNat, 0] : Fin 2 → ℕ) = ![512 * j.val, 0] := by
  subst hj
  rw [keyWord j]

theorem tile_off (i : grid0.Coords) (b j : Fin 4) (n : ℕ) (hb : (i 1).val = b.val) (hj : j.val = n) (hjb : j.val ≤ b.val) :
    (![(Scalar.indexCast (Scalar.subi (BitVec.ofNat 32 (i 1).val) (Scf.iv 0#32 1#32 n))).toNat, 0, 0] : Fin 3 → ℕ)
      = ![(⟨b.val - j.val, by omega⟩ : Fin 4).val, 0, 0] := by
  subst hj
  rw [hb, tileWord b j hjb]

theorem oneWord : ∀ b : Fin 4, Scf.trips 0#32 (Scalar.addi 0#32
    (Scalar.muli (Scalar.divsi (Scalar.subi (Scalar.addi (BitVec.ofNat 32 b.val) 1#32) 0#32) 1#32) 1#32)) 1#32 = b.val + 1 := by decide +kernel

theorem twoWord : ∀ b : Fin 4, Scf.trips (Scalar.addi 0#32
    (Scalar.muli (Scalar.divsi (Scalar.subi (Scalar.addi (BitVec.ofNat 32 b.val) 1#32) 0#32) 1#32) 1#32))
    (Scalar.addi 0#32 (Scalar.subi (Scalar.addi (BitVec.ofNat 32 b.val) 1#32) 0#32)) 1#32 = 0 := by decide +kernel

theorem trips_one (i : grid0.Coords) : Scf.trips 0#32 (Scalar.addi 0#32
    (Scalar.muli (Scalar.divsi (Scalar.subi (Scalar.addi (BitVec.ofNat 32 (i 1).val) 1#32) 0#32) 1#32) 1#32)) 1#32 = (i 1).val + 1 := oneWord (i 1)

theorem trips_two (i : grid0.Coords) : Scf.trips (Scalar.addi 0#32
    (Scalar.muli (Scalar.divsi (Scalar.subi (Scalar.addi (BitVec.ofNat 32 (i 1).val) 1#32) 0#32) 1#32) 1#32))
    (Scalar.addi 0#32 (Scalar.subi (Scalar.addi (BitVec.ofNat 32 (i 1).val) 1#32) 0#32)) 1#32 = 0 := twoWord (i 1)

/-- What the windows hold: the block's queries, and all the keys and values of the pair's lanes, and the bias tiles. -/
structure Given (q k v : Arr) (b : Fin 4) (p : Fin 8) (x0 : Vec 𝓘 S512x128 .bf16) (x1 x2 : Vec 𝓘 S2048x128 .bf16)
    (x3 : Vec 𝓘 S4x512x512 .f32) : Prop where
  query : IsTile x0 (tile q b p)
  key : ∀ R e, x1 (ix2 R e) = ((k R (col p e) : ℝ) : EReal)
  value : ∀ R e, x2 (ix2 R e) = ((v R (col p e) : ℝ) : EReal)
  bias : ∀ n r s, x3 (ix3 n r s) = biasAt (512 * (n.val : ℤ) + r.val - s.val)

section
variable (c : Dev nD) (i : grid0.Coords) (arg2 : Memref sig .tc .vmem S512x128 .bf16) (harg2 : arg2.IsWhole)
  (arg3 : Memref sig .tc .vmem S2048x128 .bf16) (harg3 : arg3.IsWhole) (arg4 : Memref sig .tc .vmem S2048x128 .bf16) (harg4 : arg4.IsWhole)
  (arg5 : Memref sig .tc .vmem S4x512x512 .f32) (harg5 : arg5.IsWhole) (arg6 : Memref sig .tc .vmem S512x128 .f32) (harg6 : arg6.IsWhole)
  (arg7 : Memref sig .tc .vmem S512x128 .f32) (harg7 : arg7.IsWhole)
  (x0 : Vec 𝓘 S512x128 .bf16) (x1 x2 : Vec 𝓘 S2048x128 .bf16) (x3 : Vec 𝓘 S4x512x512 .f32)
  (q k v : Arr) (b : Fin 4) (p : Fin 8) (B : Given q k v b p x0 x1 x2 x3) (hb : (i 1).val = b.val)

include B hb

set_option maxHeartbeats 1000000 in
/-- One trip: key block `j`. -/
theorem trip_held (j : Fin 4) (n : Fin (k0_t1_loop i).trips) (hj : j.val = n.val) (hjb : j.val ≤ b.val)
    (st : FVec 𝓘 S512x1 .f32 × FVec 𝓘 S512x1 .f32 × FVec 𝓘 S512x1 .f32 × FVec 𝓘 S512x1 .f32 × FVec 𝓘 S512x128 .f32)
    (LA LB : Fin 512 → ℝ) (W : Tile) (h : Held LA LB W st) :
    Held (fun r => LA r + partA q k b j p r) (fun r => LB r + partB q k b j p r) (fun r e => W r e + partW q k v b j p r e)
      (tripR_k0_t1 (F := 𝓘) Variants.none c none i arg2 harg2 arg3 harg3 arg4 harg4 arg5 harg5 arg6 harg6 arg7 harg7 (BitVec.ofNat 32 (i 1).val) x0
        (harg3.unread x1) (harg4.unread x2) (harg5.unread x3) n st) := by
  unfold tripR_k0_t1 trip_k0_t1; dsimp only; sl_unfold_words
  refine Held.of_eq (heads (first (tile q b p)) (second (tile q b p)) (tile k j p) (tile v j p) (dist b j) (k0_pay37 x0) (k0_pay38 x0) _ _ _
    (queryA x0 _ B.query) (queryB x0 _ B.query) ?k ?v ?b LA LB W st h) (fun r => ?a1) (fun r => ?a2) (fun r e => ?a3)
  case a1 => exact congrArg (LA r + ·) (Finset.sum_congr rfl fun s _ => heavy_low q k b j p r s)
  case a2 => exact congrArg (LB r + ·) (Finset.sum_congr rfl fun s _ => heavy_high q k b j p r s)
  case a3 => exact congrArg (W r e + ·) (heavy_values q k v b j p r e)
  case k => exact fun r l => (load_keys arg3 harg3 x1 _ _ j (key_off j n.val hj) r l).trans (B.key _ _)
  case v => exact fun r l => (load_keys arg4 harg4 x2 _ _ j (key_off j n.val hj) r l).trans (B.value _ _)
  case b =>
    intro r s
    refine (load_tile arg5 harg5 x3 _ _ ⟨b.val - j.val, by omega⟩ (tile_off i b j n.val hb hj hjb) r s).trans ((B.bias _ _ _).trans ?_)
    unfold Cert.Attn.dist
    congr 3
    show 512 * ((b.val - j.val : ℕ) : ℤ) = _
    rw [Nat.cast_sub hjb]

/-- Before trip `n`. -/
theorem loop_held (n : ℕ) (hn : n ≤ b.val + 1) :
    Held (fun r => sumTo (fun j => partA q k b j p r) n) (fun r => sumTo (fun j => partB q k b j p r) n)
      (fun r e => sumTo (fun j => partW q k v b j p r e) n)
      (st_k0_t1 (F := 𝓘) Variants.none c none i arg2 harg2 arg3 harg3 arg4 harg4 arg5 harg5 arg6 harg6 arg7 harg7 (BitVec.ofNat 32 (i 1).val) x0
        (harg3.unread x1) (harg4.unread x2) (harg5.unread x3) (k0_pay39, k0_pay40, k0_pay39, k0_pay40, k0_pay41) n) := by
  induction n with
  | zero =>
    have z : ∀ f : Fin 4 → ℝ, (0 : ℝ) = sumTo f 0 := fun f => (sumTo_zero f 0 fun _ h => absurd h (Nat.not_lt_zero _)).symm
    exact start.of_eq (fun r => z _) (fun r => z _) (fun r e => z _)
  | succ n ih =>
    have hlt : n < (k0_t1_loop i).trips := by rw [show (k0_t1_loop i).trips = (i 1).val + 1 from trips_one i, hb]; omega
    rw [st_k0_t1_succ (F := 𝓘) Variants.none c none i arg2 harg2 arg3 harg3 arg4 harg4 arg5 harg5 arg6 harg6 arg7 harg7 (BitVec.ofNat 32 (i 1).val) x0
      (harg3.unread x1) (harg4.unread x2) (harg5.unread x3) (k0_pay39, k0_pay40, k0_pay39, k0_pay40, k0_pay41) ⟨n, hlt⟩]
    refine (trip_held c i arg2 harg2 arg3 harg3 arg4 harg4 arg5 harg5 arg6 harg6 arg7 harg7 x0 x1 x2 x3 q k v b p B hb ⟨n, by omega⟩ ⟨n, hlt⟩ rfl
      (by show n ≤ b.val; omega) _ _ _ _ (ih (by omega))).of_eq (fun r => ?_) (fun r => ?_) (fun r e => ?_)
    · exact (sumTo_succ (fun j => partA q k b j p r) ⟨n, by omega⟩).symm
    · exact (sumTo_succ (fun j => partB q k b j p r) ⟨n, by omega⟩).symm
    · exact (sumTo_succ (fun j => partW q k v b j p r e) ⟨n, by omega⟩).symm

/-- After the last trip: the rows' totals and weighted values. -/
theorem end_held :
    Held (fun r => total q k (headA p) (row b r)) (fun r => total q k (headB p) (row b r))
      (fun r e => ∑ C, weight q k (headOf (col p e)) (row b r) C * v C (col p e))
      (st_k0_t1 (F := 𝓘) Variants.none c none i arg2 harg2 arg3 harg3 arg4 harg4 arg5 harg5 arg6 harg6 arg7 harg7 (BitVec.ofNat 32 (i 1).val) x0
        (harg3.unread x1) (harg4.unread x2) (harg5.unread x3) (k0_pay39, k0_pay40, k0_pay39, k0_pay40, k0_pay41) ((i 1).val + 1)) := by
  have h := loop_held c i arg2 harg2 arg3 harg3 arg4 harg4 arg5 harg5 arg6 harg6 arg7 harg7 x0 x1 x2 x3 q k v b p B hb (b.val + 1) le_rfl
  rw [← hb] at h
  refine h.of_eq (fun r => ?_) (fun r => ?_) (fun r e => ?_) <;> rw [hb]
  · exact allA q k b p r
  · exact allB q k b p r
  · exact allW q k v b p r e

/-- The output block. -/
theorem out_block : IsTile (out0_A_4 (F := 𝓘) c i arg2 harg2 arg3 harg3 arg4 harg4 arg5 harg5 arg6 harg6 arg7 harg7 x0 x1 x2 x3)
    (tile (output q k v) b p) := by
  unfold out0_A_4 kernelRun0_A; dsimp only; sl_unfold_words
  simp only [trips_two, trips_one, st_k0_t2.eq_1]
  rw [Cert.Tiles.store_all _ _ _ _ Cert.Tiles.off2, Cert.Tiles.load_all (S := S512x128) arg2 harg2 x0 _ Cert.Tiles.off2]
  refine retile (out_tile _ _ _ (fun r => total_pos q k _ _) (fun r => total_pos q k _ _) _
    (end_held c i arg2 harg2 arg3 harg3 arg4 harg4 arg5 harg5 arg6 harg6 arg7 harg7 x0 x1 x2 x3 q k v b p B hb)) fun r e => ?_
  rw [two_of p (fun h r => total q k h (row b r)) r e]
  exact over_total q k v b p r e

/-- The block of the logarithms of the totals. -/
theorem lse_block : IsTile (out0_A_5 (F := 𝓘) c i arg2 harg2 arg3 harg3 arg4 harg4 arg5 harg5 arg6 harg6 arg7 harg7 x0 x1 x2 x3)
    (tile (fun R l => Real.log (total q k (headOf l) R)) b p) := by
  unfold out0_A_5 kernelRun0_A; dsimp only; sl_unfold_words
  simp only [trips_two, trips_one, st_k0_t2.eq_1]
  rw [Cert.Tiles.store_all _ _ _ _ Cert.Tiles.off2, Cert.Tiles.load_all (S := S512x128) arg2 harg2 x0 _ Cert.Tiles.off2]
  refine retile (lse_tile _ _ _ (fun r => total_pos q k _ _) (fun r => total_pos q k _ _) _
    (end_held c i arg2 harg2 arg3 harg3 arg4 harg4 arg5 harg5 arg6 harg6 arg7 harg7 x0 x1 x2 x3 q k v b p B hb)) fun r e => ?_
  exact two_of p (fun h r => Real.log (total q k h (row b r))) r e

end

end Cert.Forward

end
-- ==== Proof.ForwardPlaces.lean ====
/- The forward call's launch: what its windows read at a grid point, and the two arrays the points write back. -/
module

public import proofs.«01_k».proof.Proof.ForwardLoop
public import proofs.«01_k».proof.Proof.KernelReads
public import Idealize.ShloMosaic.Lib.Pipeline.Value

@[expose] public section

set_option maxRecDepth 16384

noncomputable section

namespace Cert.Forward

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Attn
open Cert.Kernel18Ideal Cert.Kernel18Ideal.Gen

local notation "𝓘" => Idealize.ShloMosaic.Ideal

/-- The pair of heads and the query block of a grid point. -/
def pairAt (t : Fin cfg0.N) : Fin 8 := ⟨t.val / 4, by have := t.isLt; have : cfg0.N = 32 := N_0; omega⟩
def blockAt (t : Fin cfg0.N) : Fin 4 := ⟨t.val % 4, by omega⟩

theorem coord_block : ∀ t : Fin cfg0.N, (grid0.coords t 1).val = t.val % 4 :=
  (by decide +kernel : ∀ t : Fin grid0.N, (grid0.coords t 1).val = t.val % 4)

theorem at_0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem at_1 : ∀ t : Fin cfg0.N, win0_1.index t 0 = 0 ∧ win0_1.index t 1 = 8 + t.val / 4 :=
  (by decide +kernel : ∀ t : Fin grid0.N, win0_1.index t 0 = 0 ∧ win0_1.index t 1 = 8 + t.val / 4)
theorem at_2 : ∀ t : Fin cfg0.N, win0_2.index t 0 = 0 ∧ win0_2.index t 1 = 16 + t.val / 4 :=
  (by decide +kernel : ∀ t : Fin grid0.N, win0_2.index t 0 = 0 ∧ win0_2.index t 1 = 16 + t.val / 4)
theorem at_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem at_4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)
theorem at_5 : ∀ t : Fin cfg0.N, win0_5.index t 0 = t.val % 4 ∧ win0_5.index t 1 = t.val / 4 :=
  (by decide +kernel : ∀ t : Fin grid0.N, win0_5.index t 0 = t.val % 4 ∧ win0_5.index t 1 = t.val / 4)

section
variable (m : (ℓ : Loc nD τ sig) → Buf (Elt 𝓘) ℓ) (c : Dev nD) (t : Fin cfg0.N)

/-- The three arguments on a device. -/
abbrev inQ := m ((c : Thread nD τ).loc main_arg0)
abbrev inK := m ((c : Thread nD τ).loc main_arg1)
abbrev inV := m ((c : Thread nD τ).loc main_arg2)

theorem V_side : V m c main_v3 = sideBySide (inQ m c) (inK m c) (inV m c) := by
  unfold V; after_reads_simp; rfl

theorem V_tiles : V m c main_v46 = biasTiles := by
  unfold V; after_reads_simp; rfl

theorem read_0 (X : Buf (Elt 𝓘) ((c : Thread nD τ).loc main_v3)) (r : Fin 512) (e : Fin 128) :
    ((cfg0.win 0).blk t).view.read (Elt 𝓘) X (ix2 r e : S512x128.Idx)
      = X (ix2 (row (blockAt t) r) ((⟨0 + (col (pairAt t) e).val, by have := (col (pairAt t) e).isLt; omega⟩ : Fin 3072))) := by
  obtain ⟨h0, h1⟩ := at_0 t
  rw [View.read_apply]
  show X _ = X _
  refine congrArg X (funext fun a => Fin.ext ?_)
  match a with
  | ⟨0, _⟩ =>
    show win0_0.index t 0 * 512 + 1 * r.val = 512 * (t.val % 4) + r.val
    rw [h0]; omega
  | ⟨1, _⟩ =>
    show win0_0.index t 1 * 128 + 1 * e.val = 0 + (128 * (t.val / 4) + e.val)
    rw [h1]; omega

theorem read_1 (X : Buf (Elt 𝓘) ((c : Thread nD τ).loc main_v3)) (r : Fin 2048) (e : Fin 128) :
    ((cfg0.win 1).blk t).view.read (Elt 𝓘) X (ix2 r e : S2048x128.Idx)
      = X (ix2 r ((⟨1024 + (col (pairAt t) e).val, by have := (col (pairAt t) e).isLt; omega⟩ : Fin 3072))) := by
  obtain ⟨h0, h1⟩ := at_1 t
  rw [View.read_apply]
  show X _ = X _
  refine congrArg X (funext fun a => Fin.ext ?_)
  match a with
  | ⟨0, _⟩ =>
    show win0_1.index t 0 * 2048 + 1 * r.val = r.val
    rw [h0]; omega
  | ⟨1, _⟩ =>
    show win0_1.index t 1 * 128 + 1 * e.val = 1024 + (128 * (t.val / 4) + e.val)
    rw [h1]; omega

theorem read_2 (X : Buf (Elt 𝓘) ((c : Thread nD τ).loc main_v3)) (r : Fin 2048) (e : Fin 128) :
    ((cfg0.win 2).blk t).view.read (Elt 𝓘) X (ix2 r e : S2048x128.Idx)
      = X (ix2 r ((⟨2048 + (col (pairAt t) e).val, by have := (col (pairAt t) e).isLt; omega⟩ : Fin 3072))) := by
  obtain ⟨h0, h1⟩ := at_2 t
  rw [View.read_apply]
  show X _ = X _
  refine congrArg X (funext fun a => Fin.ext ?_)
  match a with
  | ⟨0, _⟩ =>
    show win0_2.index t 0 * 2048 + 1 * r.val = r.val
    rw [h0]; omega
  | ⟨1, _⟩ =>
    show win0_2.index t 1 * 128 + 1 * e.val = 2048 + (128 * (t.val / 4) + e.val)
    rw [h1]; omega

theorem read_3 (X : Buf (Elt 𝓘) ((c : Thread nD τ).loc main_v46)) (n : Fin 4) (r s : Fin 512) :
    ((cfg0.win 3).blk t).view.read (Elt 𝓘) X (ix3 n r s : S4x512x512.Idx) = X (ix3 n r s) := by
  obtain ⟨h0, h1, h2⟩ := at_3 t
  rw [View.read_apply]
  show X _ = X _
  refine congrArg X (funext fun a => Fin.ext ?_)
  match a with
  | ⟨0, _⟩ => show win0_3.index t 0 * 4 + 1 * n.val = n.val; rw [h0]; omega
  | ⟨1, _⟩ => show win0_3.index t 1 * 512 + 1 * r.val = r.val; rw [h1]; omega
  | ⟨2, _⟩ => show win0_3.index t 2 * 512 + 1 * s.val = s.val; rw [h2]; omega

variable (q k v : Arr) (hq : inQ m c = arr q) (hk : inK m c = arr k) (hv : inV m c = arr v)

include hq hk hv

/-- The windows of a grid point hold what the loop reads. -/
theorem given : Given q k v (blockAt t) (pairAt t) (iblk m c 0 t) (iblk m c 1 t) (iblk m c 2 t) (iblk m c 3 t) where
  query r e := by
    refine (read_0 c t (V m c main_v3) r e).trans ?_
    rw [V_side, hq, hk, hv]
    exact side_query q k v _ (col (pairAt t) e) _ (Nat.zero_add _)
  key R e := by
    refine (read_1 c t (V m c main_v3) R e).trans ?_
    rw [V_side, hq, hk, hv]
    exact side_key q k v R (col (pairAt t) e) _ rfl
  value R e := by
    refine (read_2 c t (V m c main_v3) R e).trans ?_
    rw [V_side, hq, hk, hv]
    exact side_value q k v R (col (pairAt t) e) _ rfl
  bias n r s := by
    refine (read_3 c t (V m c main_v46) n r s).trans ?_
    rw [V_tiles]
    exact biasTiles_read n r s

/-- What a point leaves for its block of the outputs. -/
theorem written_out : (dats m 0 c).flushed 4 t
    = ((cfg0.win 4).blk t).view.read (Elt 𝓘) (arr (output q k v) : Buf (Elt 𝓘) ((c : Thread nD τ).loc main_v47_0)) := by
  obtain ⟨h0, h1⟩ := at_4 t
  rw [Cert.Kernel18Ideal.Value.flushed4_A m c t]
  funext y
  rw [View.read_apply]
  obtain ⟨r, e, rfl⟩ : ∃ (r : Fin 512) (e : Fin 128), y = ix2 r e := ⟨y 0, y 1, (ix2_eta y).symm⟩
  refine (out_block c (grid0.coords t) (ms0_0 t) (hs0_0 t) (ms0_1 t) (hs0_1 t) (ms0_2 t) (hs0_2 t) (ms0_3 t) (hs0_3 t) (ms0_4 t) (hs0_4 t)
    (ms0_5 t) (hs0_5 t) _ _ _ _ q k v (blockAt t) (pairAt t) (given m c t q k v hq hk hv) (coord_block t) r e).trans ?_
  show _ = arr (output q k v) _
  refine (congrArg (arr (output q k v)) (a₁ := ix2 (row (blockAt t) r) (col (pairAt t) e)) (funext fun a => Fin.ext ?_))
  match a with
  | ⟨0, _⟩ => show 512 * (t.val % 4) + r.val = win0_4.index t 0 * 512 + 1 * r.val; rw [h0]; omega
  | ⟨1, _⟩ => show 128 * (t.val / 4) + e.val = win0_4.index t 1 * 128 + 1 * e.val; rw [h1]; omega

/-- What a point leaves for its block of the logarithms. -/
theorem written_lse : (dats m 0 c).flushed 5 t
    = ((cfg0.win 5).blk t).view.read (Elt 𝓘)
      (arr (fun R l => Real.log (total q k (headOf l) R)) : Buf (Elt 𝓘) ((c : Thread nD τ).loc main_v47_1)) := by
  obtain ⟨h0, h1⟩ := at_5 t
  rw [Cert.Kernel18Ideal.Value.flushed5_A m c t]
  funext y
  rw [View.read_apply]
  obtain ⟨r, e, rfl⟩ : ∃ (r : Fin 512) (e : Fin 128), y = ix2 r e := ⟨y 0, y 1, (ix2_eta y).symm⟩
  refine (lse_block c (grid0.coords t) (ms0_0 t) (hs0_0 t) (ms0_1 t) (hs0_1 t) (ms0_2 t) (hs0_2 t) (ms0_3 t) (hs0_3 t) (ms0_4 t) (hs0_4 t)
    (ms0_5 t) (hs0_5 t) _ _ _ _ q k v (blockAt t) (pairAt t) (given m c t q k v hq hk hv) (coord_block t) r e).trans ?_
  show _ = arr (fun R l => Real.log (total q k (headOf l) R)) _
  refine (congrArg (arr (fun R l => Real.log (total q k (headOf l) R))) (a₁ := ix2 (row (blockAt t) r) (col (pairAt t) e))
    (funext fun a => Fin.ext ?_))
  match a with
  | ⟨0, _⟩ => show 512 * (t.val % 4) + r.val = win0_5.index t 0 * 512 + 1 * r.val; rw [h0]; omega
  | ⟨1, _⟩ => show 128 * (t.val / 4) + e.val = win0_5.index t 1 * 128 + 1 * e.val; rw [h1]; omega

/-- The outputs. -/
theorem array_out : (dats m 0 c).arrAt 4 cfg0.N = (arr (output q k v) : Buf (Elt 𝓘) ((c : Thread nD τ).loc main_v47_0)) :=
  (dats m 0 c).arrAt_eq_of_cover 4 _ (fun t _ => written_out m c t q k v hq hk hv) fun i => by
    have hi0 : (i 0 : Nat) < 2048 := (i 0).isLt
    have hi1 : (i 1 : Nat) < 1024 := (i 1).isLt
    obtain ⟨t, hv'⟩ : ∃ t : Fin cfg0.N, t.val = 4 * ((i 1).val / 128) + (i 0).val / 512 :=
      ⟨⟨4 * ((i 1).val / 128) + (i 0).val / 512, by rw [show cfg0.N = 32 from N_0]; omega⟩, rfl⟩
    obtain ⟨h0, h1⟩ := at_4 t
    refine ⟨t, flush0_4 t, ?_⟩
    show i ∈ ((View.whole main_v47_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [h0]; omega
    | ⟨1, _⟩ =>
      show win0_4.index t 1 * 128 ≤ (i 1 : Nat) ∧ (i 1 : Nat) < win0_4.index t 1 * 128 + 128
      rw [h1]; omega

/-- The logarithms of the totals. -/
theorem array_lse : (dats m 0 c).arrAt 5 cfg0.N
    = (arr (fun R l => Real.log (total q k (headOf l) R)) : Buf (Elt 𝓘) ((c : Thread nD τ).loc main_v47_1)) :=
  (dats m 0 c).arrAt_eq_of_cover 5 _ (fun t _ => written_lse m c t q k v hq hk hv) fun i => by
    have hi0 : (i 0 : Nat) < 2048 := (i 0).isLt
    have hi1 : (i 1 : Nat) < 1024 := (i 1).isLt
    obtain ⟨t, hv'⟩ : ∃ t : Fin cfg0.N, t.val = 4 * ((i 1).val / 128) + (i 0).val / 512 :=
      ⟨⟨4 * ((i 1).val / 128) + (i 0).val / 512, by rw [show cfg0.N = 32 from N_0]; omega⟩, rfl⟩
    obtain ⟨h0, h1⟩ := at_5 t
    refine ⟨t, flush0_5 t, ?_⟩
    show i ∈ ((View.whole main_v47_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [h0]; omega
    | ⟨1, _⟩ =>
      show win0_5.index t 1 * 128 ≤ (i 1 : Nat) ∧ (i 1 : Nat) < win0_5.index t 1 * 128 + 128
      rw [h1]; omega

end

end Cert.Forward

end
-- ==== Proof.Forward.lean ====
/- The forward call: its two results are the reference's, the outputs of the attention and the logarithms of the sums of the
   exponentials of each row's scores. -/
module

public import proofs.«01_k».proof.Proof.ForwardPlaces
public import proofs.«01_k».proof.Proof.Finite
public import proofs.«01_k».proof.Proof.Gen.Reference18Ideal.Read
public import proofs.«01_k».proof.Proof.Gen.Reference18Ideal.Run

@[expose] public section

set_option maxRecDepth 16384

noncomputable section

namespace Cert.Forward

open Idealize.ShloMosaic hiding ix1 ix2 ix3 ix4 ix5
open Idealize.ShloMosaic.ValueIdx
open Idealize.ShloMosaic.TcCoe
open Idealize.SL Idealize.SL.Sem
open Cert.Attn

local notation "𝓘" => Idealize.ShloMosaic.Ideal

/-! ## The precondition -/

/-- The side conditions of the precondition's operations. -/
theorem inputs_facts : Cert.Pre_finite_inputs.Facts := ⟨by decide⟩

theorem inputs_reals (hF : Cert.Pre_finite_inputs.Facts) (a b x : FVec 𝓘 Cert.Pre_finite_inputs.S2048x1024 .f32)
    (h : Cert.Pre_finite_inputs.fn (F := 𝓘) a b x = fun _ => 1#1) :
    a = arr (reals a) ∧ b = arr (reals b) ∧ x = arr (reals x) := by
  have hi : ∀ i, (Ideal.cmp .olt (max (a i) (-(a i))) (Ideal.ofBits .f32 0x7F800000#32)
      &&& Ideal.cmp .olt (max (b i) (-(b i))) (Ideal.ofBits .f32 0x7F800000#32))
      &&& Ideal.cmp .olt (max (x i) (-(x i))) (Ideal.ofBits .f32 0x7F800000#32) = 1#1 := fun i => congrFun h i
  refine ⟨arr_reals a fun i => ?_, arr_reals b fun i => ?_, arr_reals x fun i => ?_⟩
  · exact (both_ones _ _ (both_ones _ _ (hi i)).1).1
  · exact (both_ones _ _ (both_ones _ _ (hi i)).1).2
  · exact (both_ones _ _ (hi i)).2

/-! ## The reference -/

theorem same_outputs (a b x : FVec 𝓘 Cert.Reference18Ideal.S2048x1024 .f32) :
    Cert.Reference18Ideal.Read.val_main_v74 (F := 𝓘) a b x = Cert.ReferenceIdeal.Read.val_main_v85 (F := 𝓘) a b x := rfl

theorem same_lse (a b : FVec 𝓘 Cert.Reference18Ideal.S2048x1024 .f32) :
    Cert.Reference18Ideal.Read.val_main_v78 (F := 𝓘) a b = lseLanes a b := rfl

theorem reference_out (q k v : Arr) : Cert.Reference18Ideal.Read.val_main_v74 (F := 𝓘) (arr q) (arr k) (arr v) = arr (output q k v) := by
  rw [same_outputs]
  funext i
  rw [← ix2_eta i]
  exact output_read q k v (i 0) (i 1)

theorem reference_lse (q k : Arr) : Cert.Reference18Ideal.Read.val_main_v78 (F := 𝓘) (arr q) (arr k)
    = arr (fun R l => Real.log (total q k (headOf l) R)) := by
  rw [same_lse]
  funext i
  rw [← ix2_eta i]
  exact lseLanes_read q k (i 0) (i 1)

theorem reference_frame : Cert.quiescent_Reference18Ideal (hReference18Ideal := Cert.Reference18Ideal.Gen.facts) := by
  intro m g _
  exact (θ_run Cert.Reference18Ideal.defs _ _).mono (fun r h => ⟨fun c => (h c).2.2, sem_eq_zero_of_no_sems (by decide) r.2⟩)
    (Cert.Reference18Ideal.Value.run m g)

/-! ## The equation -/

theorem equal : Cert.algebraic_Kernel18Ideal_Reference18Ideal_pre_finite_inputs (hKernel18Ideal := Cert.Kernel18Ideal.Gen.facts)
    (hReference18Ideal := Cert.Reference18Ideal.Gen.facts) (hPre_finite_inputs := inputs_facts) := by
  intro m ρ m' ρ' hpre hag
  have hr := fun c => inputs_reals inputs_facts _ _ _ (hpre c)
  refine ⟨fun c => arr (output (reals (inQ m c)) (reals (inK m c)) (reals (inV m c))),
    fun c => arr (fun R l => Real.log (total (reals (inQ m c)) (reals (inK m c)) (headOf l) R)), ?_, ?_⟩
  · refine (θ_run Cert.Kernel18Ideal.defs _ _).mono (fun r h c => ?_) (Cert.Kernel18Ideal.Value.run_blocks m ρ)
    obtain ⟨hq, hk, hv⟩ := hr c
    obtain ⟨h4, h5, h⟩ := h c
    exact ⟨h4.trans (array_out m c _ _ _ hq hk hv), h5.trans (array_lse m c _ _ _ hq hk hv), h⟩
  · refine (θ_run Cert.Reference18Ideal.defs _ _).mono (fun r h c => ?_) (Cert.Reference18Ideal.Value.run m' ρ')
    obtain ⟨hq, hk, hv⟩ := hr c
    obtain ⟨aq, ak, av⟩ := hag c
    obtain ⟨h74, h78, h⟩ := h c
    refine ⟨h74.trans ((Cert.Reference18Ideal.Read.val_main_v74_eq m' c).trans ?_),
      h78.trans ((Cert.Reference18Ideal.Read.val_main_v78_eq m' c).trans ?_), h⟩
    · rw [aq.trans hq, ak.trans hk, av.trans hv]
      exact reference_out _ _ _
    · rw [aq.trans hq, ak.trans hk]
      exact reference_lse _ _

end Cert.Forward

end
-- ==== Proof.Adam19.lean ====
/- The optimiser's call for the pooling's scale: the gradient, the step and the two moments are the reference's. -/
module

public import proofs.«01_k».proof.Proof.Gen.Kernel19.Frame
public import proofs.«01_k».proof.Proof.Gen.Kernel19Ideal.Value
public import proofs.«01_k».proof.Proof.Gen.Reference19Ideal.Read
public import proofs.«01_k».proof.Proof.Gen.Reference19Ideal.Run
public import proofs.«01_k».proof.Defs

@[expose] public section

set_option maxRecDepth 16384

noncomputable section

namespace Cert.Adam19

open Idealize.ShloMosaic
open Idealize.ShloMosaic.TcCoe
open Idealize.SL Idealize.SL.Sem
open Cert.Kernel19Ideal.Gen

local notation "𝓘" => Idealize.ShloMosaic.Ideal
local notation "Arr" => FVec Ideal Cert.Kernel19Ideal.S8x256 FTy.f32
local notation "Slots" => FVec Ideal Cert.Kernel19Ideal.S1x8x256 FTy.f32

/-! ## What the body stores is what the reference computes

Both do the same operations element by element; the reference spreads its constants over an array first. -/

theorem gradient (g : Slots) : Cert.Reference19Ideal.Read.val_main_v0 (F := 𝓘) g = k0_pay1 (F := 𝓘) g := rfl

theorem first_moment (g : Slots) (a : Arr) :
    Cert.Reference19Ideal.Read.val_main_v5 (F := 𝓘) g a = k0_pay2 (F := 𝓘) g a := by
  funext i
  rfl

theorem second_moment (g : Slots) (b : Arr) :
    Cert.Reference19Ideal.Read.val_main_v11 (F := 𝓘) g b = k0_pay3 (F := 𝓘) g b := by
  funext i
  rfl

theorem step (w : Arr) (g : Slots) (a b : Arr) :
    Cert.Reference19Ideal.Read.val_main_v24 (F := 𝓘) w g a b = k0_pay4 (F := 𝓘) g w a b := by
  funext i
  rfl

/-! ## The claims -/

theorem reference_frame : Cert.quiescent_Reference19Ideal (hReference19Ideal := Cert.Reference19Ideal.Gen.facts) := by
  intro m g _
  exact (θ_run Cert.Reference19Ideal.defs _ _).mono
    (fun r h => ⟨fun c => (h c).2.2.2.2, sem_eq_zero_of_no_sems (by decide) r.2⟩) (Cert.Reference19Ideal.Value.run m g)

theorem equal : Cert.algebraic_Kernel19Ideal_Reference19Ideal (hKernel19Ideal := Cert.Kernel19Ideal.Gen.facts)
    (hReference19Ideal := Cert.Reference19Ideal.Gen.facts) := by
  intro m ρ m' ρ' _ hag
  refine ⟨_, _, _, _, Cert.Kernel19Ideal.Value.run m ρ, ?_⟩
  refine (θ_run Cert.Reference19Ideal.defs _ _).mono (fun r h c => ?_) (Cert.Reference19Ideal.Value.run m' ρ')
  obtain ⟨aw, ag, aa, ab⟩ := hag c
  obtain ⟨h0, h24, h5, h11, h⟩ := h c
  refine ⟨h0.trans ((Cert.Reference19Ideal.Read.val_main_v0_eq _).trans ?_),
    h24.trans ((Cert.Reference19Ideal.Read.val_main_v24_eq _ _ _ _).trans ?_),
    h5.trans ((Cert.Reference19Ideal.Read.val_main_v5_eq _ _).trans ?_),
    h11.trans ((Cert.Reference19Ideal.Read.val_main_v11_eq _ _).trans ?_), h⟩
  · rw [ag]
    exact gradient _
  · rw [aw, ag, aa, ab]
    exact step _ _ _ _
  · rw [ag, aa]
    exact first_moment _ _
  · rw [ag, ab]
    exact second_moment _ _

end Cert.Adam19

end
-- ==== Proof.Adam.lean ====
/- What the optimiser's calls share, whatever the weight's shape: the step at one element, and the two layers of a
   weight, one of them new. -/
module

public import proofs.«01_k».proof.Proof.Tiles
public import Idealize.ShloMosaic.Lib.StableHlo.ReadAt

@[expose] public section

noncomputable section

namespace Cert.Adam

open Idealize.ShloMosaic hiding ix1 ix2 ix3 ix4 ix5
open Idealize.ShloMosaic.ValueIdx
open Idealize.ShloMosaic.TcCoe
open Cert.Tiles

/-! ## One element -/

/-- The first moment after a gradient `g`. -/
def first (a g : EReal) : EReal := Ideal.ofBits .f32 0x3F666666#32 * a + Ideal.ofBits .f32 0x3DCCCCCD#32 * g

/-- The second moment after a gradient `g`. -/
def second (b g : EReal) : EReal := Ideal.ofBits .f32 0x3F7FBE77#32 * b + Ideal.ofBits .f32 0x3A83126F#32 * (g * g)

/-- The change of a weight `w`. -/
def change (w a b g : EReal) : EReal :=
  Ideal.ofBits .f32 0xBA83126F#32
    * (Ideal.div (Ideal.div (first a g) (Ideal.ofBits .f32 0x3F26BD02#32))
        (Ideal.sqrt (Ideal.div (second b g) (Ideal.ofBits .f32 0x3C231ACC#32)) + Ideal.ofBits .f32 0x322BCC77#32)
      + Ideal.ofBits .f32 0x3C23D70A#32 * w)

/-- Eight terms added from the left, term by term. -/
theorem eight {a b : Fin 8 → EReal} (h : ∀ k, a k = b k) :
    a 0 + a 1 + a 2 + a 3 + a 4 + a 5 + a 6 + a 7 = ∑ k : Fin 8, b k := by
  rw [Fin.sum_univ_eight]; simp only [h]

/-! ## Two layers -/

section
variable {R C : ℕ} {α : Type}

/-- One layer of an array. -/
def layer {L : ℕ} (l : Fin L) (X : (⟨3, ![L, R, C]⟩ : Shape).Idx → α) : Fin R → Fin C → α := fun r c => X (ix3 l r c)

/-- An array whose layer `l` is new; the other is the old array's. -/
def renewed (l : Fin 2) (new : Fin R → Fin C → α) (old : (⟨3, ![2, R, C]⟩ : Shape).Idx → α) : (⟨3, ![2, R, C]⟩ : Shape).Idx → α :=
  fun i => if (i 0).val = l.val then new ⟨(i 1).val, (i 1).isLt⟩ ⟨(i 2).val, (i 2).isLt⟩ else old i

theorem renewed_new (l : Fin 2) (new : Fin R → Fin C → α) (old : (⟨3, ![2, R, C]⟩ : Shape).Idx → α)
    (i : (⟨3, ![2, R, C]⟩ : Shape).Idx) (h : (i 0).val = l.val) (r : Fin R) (c : Fin C) (hr : (i 1).val = r.val) (hc : (i 2).val = c.val) :
    renewed l new old i = new r c := by
  unfold renewed
  rw [if_pos h]
  exact congrArg₂ new (Fin.ext hr) (Fin.ext hc)

theorem renewed_old (l : Fin 2) (new : Fin R → Fin C → α) (old : (⟨3, ![2, R, C]⟩ : Shape).Idx → α)
    (i : (⟨3, ![2, R, C]⟩ : Shape).Idx) (h : ¬(i 0).val = l.val) : renewed l new old i = old i := if_neg h

/-- Two stacked blocks, read in the lower or the upper. -/
theorem stack_at (A B : (⟨3, ![1, R, C]⟩ : Shape).Idx → α)
    (h : Shape.Concatenates [(⟨3, ![1, R, C]⟩ : Shape), ⟨3, ![1, R, C]⟩] ⟨3, ![2, R, C]⟩ 0) (r : Fin R) (c : Fin C) :
    concatenate ⟨3, ![2, R, C]⟩ 0 [⟨⟨3, ![1, R, C]⟩, A⟩, ⟨⟨3, ![1, R, C]⟩, B⟩] h (ix3 (0 : Fin 2) r c) = A (ix3 (0 : Fin 1) r c)
      ∧ concatenate ⟨3, ![2, R, C]⟩ 0 [⟨⟨3, ![1, R, C]⟩, A⟩, ⟨⟨3, ![1, R, C]⟩, B⟩] h (ix3 (1 : Fin 2) r c) = B (ix3 (0 : Fin 1) r c) :=
  ⟨concatenate_pair_apply_left 0 A B h _ rfl (ix3 (0 : Fin 1) r c) fun a => by
      match a with | ⟨0, _⟩ => rfl | ⟨1, _⟩ => rfl | ⟨2, _⟩ => rfl,
    concatenate_pair_apply_right 0 A B h _ rfl rfl (ix3 (0 : Fin 1) r c) (fun a ha => by
      match a with | ⟨0, _⟩ => exact absurd rfl ha | ⟨1, _⟩ => rfl | ⟨2, _⟩ => rfl) rfl⟩

/-- The old layer stacked below the new one. -/
theorem stack_new (A B : (⟨3, ![1, R, C]⟩ : Shape).Idx → α)
    (h : Shape.Concatenates [(⟨3, ![1, R, C]⟩ : Shape), ⟨3, ![1, R, C]⟩] ⟨3, ![2, R, C]⟩ 0) (new : Fin R → Fin C → α)
    (old : (⟨3, ![2, R, C]⟩ : Shape).Idx → α) (hA : ∀ r c, A (ix3 (0 : Fin 1) r c) = layer 0 old r c)
    (hB : ∀ r c, B (ix3 (0 : Fin 1) r c) = new r c) :
    concatenate ⟨3, ![2, R, C]⟩ 0 [⟨⟨3, ![1, R, C]⟩, A⟩, ⟨⟨3, ![1, R, C]⟩, B⟩] h = renewed 1 new old := by
  funext i
  obtain ⟨l, r, c, rfl⟩ : ∃ (l : Fin 2) (r : Fin R) (c : Fin C), i = ix3 l r c := ⟨i 0, i 1, i 2, (ix3_eta i).symm⟩
  match l with
  | ⟨0, _⟩ => exact (stack_at A B h r c).1.trans ((hA r c).trans (renewed_old 1 new old _ Nat.zero_ne_one).symm)
  | ⟨1, _⟩ => exact (stack_at A B h r c).2.trans ((hB r c).trans (renewed_new 1 new old _ rfl r c rfl rfl).symm)

/-- The new layer stacked below the old one. -/
theorem new_stack (A B : (⟨3, ![1, R, C]⟩ : Shape).Idx → α)
    (h : Shape.Concatenates [(⟨3, ![1, R, C]⟩ : Shape), ⟨3, ![1, R, C]⟩] ⟨3, ![2, R, C]⟩ 0) (new : Fin R → Fin C → α)
    (old : (⟨3, ![2, R, C]⟩ : Shape).Idx → α) (hA : ∀ r c, A (ix3 (0 : Fin 1) r c) = new r c)
    (hB : ∀ r c, B (ix3 (0 : Fin 1) r c) = layer 1 old r c) :
    concatenate ⟨3, ![2, R, C]⟩ 0 [⟨⟨3, ![1, R, C]⟩, A⟩, ⟨⟨3, ![1, R, C]⟩, B⟩] h = renewed 0 new old := by
  funext i
  obtain ⟨l, r, c, rfl⟩ : ∃ (l : Fin 2) (r : Fin R) (c : Fin C), i = ix3 l r c := ⟨i 0, i 1, i 2, (ix3_eta i).symm⟩
  match l with
  | ⟨0, _⟩ => exact (stack_at A B h r c).1.trans ((hA r c).trans (renewed_new 0 new old _ rfl r c rfl rfl).symm)
  | ⟨1, _⟩ => exact (stack_at A B h r c).2.trans ((hB r c).trans (renewed_old 0 new old _ Nat.one_ne_zero).symm)

/-- A layer cut out of an array. -/
theorem cut_layer (l : Fin 2) (X : (⟨3, ![2, R, C]⟩ : Shape).Idx → α) (off : Fin 3 → ℕ) (h0 : off = ![l.val, 0, 0])
    (hs : (⟨3, ![2, R, C]⟩ : Shape).Slices off ⟨3, ![1, R, C]⟩) (hc : (⟨3, ![1, R, C]⟩ : Shape).ShapeCasts ⟨2, ![R, C]⟩)
    (r : Fin R) (c : Fin C) :
    shapeCast ⟨2, ![R, C]⟩ (extractStridedSlice ⟨3, ![1, R, C]⟩ off X hs) hc (ix2 r c) = layer l X r c := by
  subst h0
  refine (unstacked _ hc r c).trans (extractStridedSlice_apply _ X hs _ (ix3 l r c) fun a => ?_)
  match a with
  | ⟨0, _⟩ => rfl
  | ⟨1, _⟩ => exact (Nat.zero_add _).symm
  | ⟨2, _⟩ => exact (Nat.zero_add _).symm

/-- A matrix made a block with a leading unit axis. -/
theorem lifted (v : (⟨2, ![R, C]⟩ : Shape).Idx → α) (h : (⟨2, ![R, C]⟩ : Shape).BroadcastsInDim ⟨3, ![1, R, C]⟩ ![1, 2]) (hR : R ≠ 1)
    (hC : C ≠ 1) (r : Fin R) (c : Fin C) : broadcastInDim ⟨3, ![1, R, C]⟩ ![1, 2] h v (ix3 (0 : Fin 1) r c) = v (ix2 r c) :=
  broadcastInDim_apply _ h v _ _ fun a => by
    match a with
    | ⟨0, _⟩ => exact (if_neg hR).symm
    | ⟨1, _⟩ => exact (if_neg hC).symm

end

/-! ## Where a block lies -/

/-- Block `t` of layer `l`. -/
abbrev lies (ix : Fin 3 → ℕ) (l t : ℕ) : Prop := ix 0 = l ∧ ix 1 = t ∧ ix 2 = 0

theorem place0 (n : ℕ) {x l : ℕ} (k : ℕ) (h : x = l) : x * n + 1 * k = l * n + k := by rw [h, Nat.one_mul]
theorem place2 (n : ℕ) {x : ℕ} (k : ℕ) (h : x = 0) : x * n + 1 * k = k := by rw [h, Nat.one_mul, Nat.zero_mul, Nat.zero_add]

theorem index_ext {S : Fin 3 → ℕ} {u v : (⟨3, S⟩ : Shape).Idx} (h0 : (u 0).val = (v 0).val) (h1 : (u 1).val = (v 1).val)
    (h2 : (u 2).val = (v 2).val) : u = v :=
  funext fun a => Fin.ext (by match a with | ⟨0, _⟩ => exact h0 | ⟨1, _⟩ => exact h1 | ⟨2, _⟩ => exact h2)

/-- The elements of block `t`. -/
theorem inside {R C T l t : ℕ} (hT : 0 < T) (ix : Fin 3 → ℕ) (h : lies ix l t) (i : (⟨3, ![2, R, C]⟩ : Shape).Idx) (h0 : (i 0).val = l)
    (h1 : t = (i 1).val / T) (a : Fin 3) :
    ix a * (![1, T, C] : Fin 3 → ℕ) a ≤ (i a).val ∧ (i a).val < ix a * (![1, T, C] : Fin 3 → ℕ) a + (![1, T, C] : Fin 3 → ℕ) a := by
  obtain ⟨w0, w1, w2⟩ := h
  match a with
  | ⟨0, _⟩ => show ix 0 * 1 ≤ (i 0).val ∧ (i 0).val < ix 0 * 1 + 1; omega
  | ⟨1, _⟩ =>
    show ix 1 * T ≤ (i 1).val ∧ (i 1).val < ix 1 * T + T
    rw [w1, h1]
    have := Nat.div_add_mod' (i 1).val T
    have := Nat.mod_lt (i 1).val hT
    omega
  | ⟨2, _⟩ =>
    show ix 2 * C ≤ (i 2).val ∧ (i 2).val < ix 2 * C + C
    have h2 : (i 2).val < C := (i 2).isLt
    rw [w2, Nat.zero_mul]; omega

/-- An index of a block of one layer. -/
abbrev at0 {R C : ℕ} (r : Fin R) (c : Fin C) : (⟨3, ![1, R, C]⟩ : Shape).Idx := ix3 (0 : Fin 1) r c

theorem in_block {R C : ℕ} (y : (⟨3, ![1, R, C]⟩ : Shape).Idx) : ∃ (r : Fin R) (c : Fin C), y = at0 r c := by
  obtain ⟨z, r, c, rfl⟩ : ∃ (z : Fin 1) (r : Fin R) (c : Fin C), y = ix3 z r c := ⟨y 0, y 1, y 2, (ix3_eta y).symm⟩
  obtain rfl : z = 0 := Subsingleton.elim _ _
  exact ⟨r, c, rfl⟩

/-- A block's elements are in its layer. -/
theorem outside {R C T l t : ℕ} {ix : Fin 3 → ℕ} (h : lies ix l t) {i : (⟨3, ![2, R, C]⟩ : Shape).Idx}
    (hm : ∀ a : Fin 3, ix a * (![1, T, C] : Fin 3 → ℕ) a ≤ (i a).val ∧ (i a).val < ix a * (![1, T, C] : Fin 3 → ℕ) a + (![1, T, C] : Fin 3 → ℕ) a) :
    (i 0).val = l := by
  have h0 : ix 0 * 1 ≤ (i 0).val ∧ (i 0).val < ix 0 * 1 + 1 := hm 0
  rw [h.1] at h0; omega

/-! ## What the calls leave -/

section
variable {R C : ℕ} (l : Fin 2) (w a b old : (⟨3, ![2, R, C]⟩ : Shape).Idx → EReal) (g : (⟨3, ![8, R, C]⟩ : Shape).Idx → EReal)

/-- The gradient of one element: the eight devices' shares added up. -/
def total (r : Fin R) (c : Fin C) : EReal := ∑ k : Fin 8, g (ix3 k r c)

def gradients : (⟨3, ![2, R, C]⟩ : Shape).Idx → EReal := renewed l (total g) old
def changes : (⟨3, ![2, R, C]⟩ : Shape).Idx → EReal :=
  renewed l (fun r c => change (layer l w r c) (layer l a r c) (layer l b r c) (total g r c)) old
def firsts : (⟨3, ![2, R, C]⟩ : Shape).Idx → EReal := renewed l (fun r c => first (layer l a r c) (total g r c)) old
def seconds : (⟨3, ![2, R, C]⟩ : Shape).Idx → EReal := renewed l (fun r c => second (layer l b r c) (total g r c)) old

variable {l w a b old g} {i : (⟨3, ![2, R, C]⟩ : Shape).Idx} {r : Fin R} {c : Fin C}

/-! The new layer and the old one of each. -/
theorem changes_new (h : (i 0).val = l.val) (hr : (i 1).val = r.val) (hc : (i 2).val = c.val) :
    changes l w a b old g i = change (layer l w r c) (layer l a r c) (layer l b r c) (total g r c) := renewed_new l _ old i h r c hr hc
theorem changes_old (h : ¬(i 0).val = l.val) : changes l w a b old g i = old i := if_neg h
theorem firsts_new (h : (i 0).val = l.val) (hr : (i 1).val = r.val) (hc : (i 2).val = c.val) :
    firsts l a old g i = first (layer l a r c) (total g r c) := renewed_new l _ old i h r c hr hc
theorem firsts_old (h : ¬(i 0).val = l.val) : firsts l a old g i = old i := if_neg h
theorem seconds_new (h : (i 0).val = l.val) (hr : (i 1).val = r.val) (hc : (i 2).val = c.val) :
    seconds l b old g i = second (layer l b r c) (total g r c) := renewed_new l _ old i h r c hr hc
theorem seconds_old (h : ¬(i 0).val = l.val) : seconds l b old g i = old i := if_neg h

end

theorem change_congr {w w' a a' b b' g g' : EReal} (hw : w = w') (ha : a = a') (hb : b = b') (hg : g = g') :
    change w a b g = change w' a' b' g' := by rw [hw, ha, hb, hg]

end Cert.Adam

end
-- ==== Proof.Adam20.lean ====
/- The optimiser's call for one layer of the odd layers' input weight: the gradient summed over the devices' shares, the
   change and the two moments, the other layer passed through; and the reference's. -/
module

public import proofs.«01_k».proof.Defs
public import proofs.«01_k».proof.Proof.Adam
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Reference20Ideal

@[expose] public section

set_option maxRecDepth 16384

noncomputable section

namespace Cert.Adam20

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles Cert.Adam
open Cert.Kernel20Ideal Cert.Kernel20Ideal.Gen
open Cert.Reference20Ideal.Read

local notation "𝓘" => Idealize.ShloMosaic.Ideal

/-! ## One grid point -/

/-- The eight shares, added from the left. -/
theorem shares_at (v : Fin 8 → FVec 𝓘 S1x512x512 .bf16) (r : Fin 512) (e : Fin 512) :
    k0_pay3 (F := 𝓘) (v 0) (v 1) (v 2) (v 3) (v 4) (v 5) (v 6) (v 7) (ix2 r e) = ∑ k : Fin 8, v k (at0 r e) :=
  eight (a := fun k => (shapeCast S512x512 (v k) shapeCasts_S1x512x512_S512x512 : S512x512.Idx → EReal) (ix2 r e)) fun k => unstacked (v k) _ r e

theorem first_at (g : FVec 𝓘 S512x512 .f32) (a : FVec 𝓘 S1x512x512 .f32) (r : Fin 512) (e : Fin 512) :
    k0_pay4 (F := 𝓘) g a (ix2 r e) = first (a (at0 r e)) (g (ix2 r e)) :=
  congrArg (fun x => first x (g (ix2 r e))) (unstacked a _ r e)

theorem second_at (g : FVec 𝓘 S512x512 .f32) (b : FVec 𝓘 S1x512x512 .f32) (r : Fin 512) (e : Fin 512) :
    k0_pay5 (F := 𝓘) g b (ix2 r e) = second (b (at0 r e)) (g (ix2 r e)) :=
  congrArg (fun x => second x (g (ix2 r e))) (unstacked b _ r e)

theorem change_at (g : FVec 𝓘 S512x512 .f32) (w a b : FVec 𝓘 S1x512x512 .f32) (r : Fin 512) (e : Fin 512) :
    k0_pay7 (F := 𝓘) g a b w (at0 r e)
      = change (w (at0 r e)) (a (at0 r e)) (b (at0 r e)) (g (ix2 r e)) := by
  unfold k0_pay7
  exact (stacked _ _ r e).trans
    (change_congr (unstacked w _ r e) (unstacked a _ r e) (unstacked b _ r e) rfl)

section
variable (c : Dev nD) (i : grid0.Coords) (arg1 : Memref sig .tc .vmem S1x512x512 .f32) (harg1 : arg1.IsWhole)
  (arg2 : Memref sig .tc .vmem S8x512x512 .bf16) (harg2 : arg2.IsWhole)
  (arg3 : Memref sig .tc .vmem S1x512x512 .f32) (harg3 : arg3.IsWhole)
  (arg4 : Memref sig .tc .vmem S1x512x512 .f32) (harg4 : arg4.IsWhole)
  (arg9 : Memref sig .tc .vmem S1x512x512 .f32) (harg9 : arg9.IsWhole)
  (arg10 : Memref sig .tc .vmem S1x512x512 .f32) (harg10 : arg10.IsWhole)
  (arg11 : Memref sig .tc .vmem S1x512x512 .f32) (harg11 : arg11.IsWhole)
  (arg12 : Memref sig .tc .vmem S1x512x512 .f32) (harg12 : arg12.IsWhole)
  (x0 : Vec 𝓘 S1x512x512 .f32) (x1 : Vec 𝓘 S8x512x512 .bf16) (x2 x3 : Vec 𝓘 S1x512x512 .f32)

/-- One of the shares, loaded. -/
def share (b : Fin 8) : FVec 𝓘 S1x512x512 .bf16 := fun i => x1 (ix3 b ⟨(i 1).val, (i 1).isLt⟩ ⟨(i 2).val, (i 2).isLt⟩)

theorem load_share (b : Fin 8) (off : Fin 3 → ℕ) (h0 : off = ![b.val, 0, 0])
    (inb : ∀ d, off d + S1x512x512.size d ≤ S8x512x512.size d) :
    (View.readAt (Elt 𝓘) arg2.view (Rect.unit (s := S8x512x512) off S1x512x512.size inb).toLoadRect (harg2.unread x1) : Vec 𝓘 S1x512x512 .bf16)
      = share x1 b := by
  funext i
  obtain ⟨r, e, rfl⟩ := in_block i
  exact load_part arg2 harg2 x1 b off h0 inb r e

/-- The gradient's block. -/
def block : FVec 𝓘 S512x512 .f32 := k0_pay3 (F := 𝓘) (share x1 0) (share x1 1) (share x1 2) (share x1 3) (share x1 4) (share x1 5) (share x1 6) (share x1 7)

theorem block_at (r : Fin 512) (e : Fin 512) : block x1 (ix2 r e) = ∑ k : Fin 8, x1 (ix3 k r e) := shares_at (share x1) r e

theorem out4_at (r : Fin 512) (e : Fin 512) :
    out0_A_4 (F := 𝓘) c i arg1 harg1 arg2 harg2 arg3 harg3 arg4 harg4 arg9 harg9 arg10 harg10 arg11 harg11 arg12 harg12 x0 x1 x2 x3 (at0 r e)
      = ∑ k : Fin 8, x1 (ix3 k r e) := by
  unfold out0_A_4 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl]
  exact (stacked _ _ r e).trans (block_at x1 r e)

theorem out5_at (r : Fin 512) (e : Fin 512) :
    out0_A_5 (F := 𝓘) c i arg1 harg1 arg2 harg2 arg3 harg3 arg4 harg4 arg9 harg9 arg10 harg10 arg11 harg11 arg12 harg12 x0 x1 x2 x3 (at0 r e)
      = change (x0 (at0 r e)) (x2 (at0 r e)) (x3 (at0 r e)) (∑ k : Fin 8, x1 (ix3 k r e)) := by
  unfold out0_A_5 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl,
    load_all (S := S1x512x512) arg1 harg1 x0 _ off3, load_all (S := S1x512x512) arg3 harg3 x2 _ off3, load_all (S := S1x512x512) arg4 harg4 x3 _ off3]
  exact (change_at (block x1) x0 x2 x3 r e).trans (change_congr rfl rfl rfl (block_at x1 r e))

theorem out6_at (r : Fin 512) (e : Fin 512) :
    out0_A_6 (F := 𝓘) c i arg1 harg1 arg2 harg2 arg3 harg3 arg4 harg4 arg9 harg9 arg10 harg10 arg11 harg11 arg12 harg12 x0 x1 x2 x3 (at0 r e)
      = first (x2 (at0 r e)) (∑ k : Fin 8, x1 (ix3 k r e)) := by
  unfold out0_A_6 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x512x512) arg3 harg3 x2 _ off3]
  exact (stacked _ _ r e).trans ((first_at (block x1) x2 r e).trans (congrArg (first _) (block_at x1 r e)))

theorem out7_at (r : Fin 512) (e : Fin 512) :
    out0_A_7 (F := 𝓘) c i arg1 harg1 arg2 harg2 arg3 harg3 arg4 harg4 arg9 harg9 arg10 harg10 arg11 harg11 arg12 harg12 x0 x1 x2 x3 (at0 r e)
      = second (x3 (at0 r e)) (∑ k : Fin 8, x1 (ix3 k r e)) := by
  unfold out0_A_7 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x512x512) arg4 harg4 x3 _ off3]
  exact (stacked _ _ r e).trans ((second_at (block x1) x3 r e).trans (congrArg (second _) (block_at x1 r e)))

end

/-! ## The blocks of the arrays -/

abbrev Lies (ix : Fin grid0.N → Fin 3 → ℕ) (l : ℕ) : Prop := ∀ t, lies (ix t) l t.val

theorem where_0 : Lies win0_0.index 1 := by decide +kernel
theorem where_1 : Lies win0_1.index 0 := by decide +kernel
theorem where_2 : Lies win0_2.index 1 := by decide +kernel
theorem where_3 : Lies win0_3.index 1 := by decide +kernel
theorem where_4 : Lies win0_4.index 1 := by decide +kernel
theorem where_5 : Lies win0_5.index 1 := by decide +kernel
theorem where_6 : Lies win0_6.index 1 := by decide +kernel
theorem where_7 : Lies win0_7.index 1 := by decide +kernel

section
variable (m : (ℓ : Loc nD τ sig) → Buf (Elt 𝓘) ℓ) (c : Dev nD) (t : Fin cfg0.N)

/-- The arguments. -/
def weight : FVec 𝓘 S2x1024x512 .f32 := m ((c : Thread nD τ).loc main_arg0)
def slots : FVec 𝓘 S8x1024x512 .bf16 := m ((c : Thread nD τ).loc main_arg1)
def first_moment : FVec 𝓘 S2x1024x512 .f32 := m ((c : Thread nD τ).loc main_arg2)
def second_moment : FVec 𝓘 S2x1024x512 .f32 := m ((c : Thread nD τ).loc main_arg3)
def into4 : FVec 𝓘 S2x1024x512 .f32 := m ((c : Thread nD τ).loc main_arg4)
def into5 : FVec 𝓘 S2x1024x512 .f32 := m ((c : Thread nD τ).loc main_arg5)
def into6 : FVec 𝓘 S2x1024x512 .f32 := m ((c : Thread nD τ).loc main_arg6)
def into7 : FVec 𝓘 S2x1024x512 .f32 := m ((c : Thread nD τ).loc main_arg7)

/-- A row of a block, in the whole array. -/
def row (r : Fin 512) : Fin 1024 := ⟨t.val * 512 + r.val, by
  have ht : t.val < 2 := lt_of_lt_of_eq t.isLt N_0
  have hr := r.isLt
  omega⟩

theorem in_0 (r : Fin 512) (e : Fin 512) : iblk m c 0 t (at0 r e : S1x512x512.Idx) = layer (1 : Fin 2) (weight m c) (row t r) e := by
  obtain ⟨w0, w1, w2⟩ := where_0 t
  show ((cfg0.win 0).blk t).view.read (Elt 𝓘) (V m c main_arg0) _ = _
  rw [V_main_arg0, View.read_apply]
  show weight m c _ = weight m c _
  exact congrArg (weight m c) (index_ext (place0 1 0 w0) (place0 512 r.val w1) (place2 512 e.val w2))

theorem in_2 (r : Fin 512) (e : Fin 512) : iblk m c 2 t (at0 r e : S1x512x512.Idx) = layer (1 : Fin 2) (first_moment m c) (row t r) e := by
  obtain ⟨w0, w1, w2⟩ := where_2 t
  show ((cfg0.win 2).blk t).view.read (Elt 𝓘) (V m c main_arg2) _ = _
  rw [V_main_arg2, View.read_apply]
  show first_moment m c _ = first_moment m c _
  exact congrArg (first_moment m c) (index_ext (place0 1 0 w0) (place0 512 r.val w1) (place2 512 e.val w2))

theorem in_3 (r : Fin 512) (e : Fin 512) : iblk m c 3 t (at0 r e : S1x512x512.Idx) = layer (1 : Fin 2) (second_moment m c) (row t r) e := by
  obtain ⟨w0, w1, w2⟩ := where_3 t
  show ((cfg0.win 3).blk t).view.read (Elt 𝓘) (V m c main_arg3) _ = _
  rw [V_main_arg3, View.read_apply]
  show second_moment m c _ = second_moment m c _
  exact congrArg (second_moment m c) (index_ext (place0 1 0 w0) (place0 512 r.val w1) (place2 512 e.val w2))

theorem in_1 (k : Fin 8) (r : Fin 512) (e : Fin 512) : iblk m c 1 t (ix3 k r e : S8x512x512.Idx) = slots m c (ix3 k (row t r) e) := by
  obtain ⟨w0, w1, w2⟩ := where_1 t
  show ((cfg0.win 1).blk t).view.read (Elt 𝓘) (V m c main_arg1) _ = _
  rw [V_main_arg1, View.read_apply]
  show slots m c _ = slots m c _
  exact congrArg (slots m c) (index_ext (place2 8 k.val w0) (place0 512 r.val w1) (place2 512 e.val w2))

theorem in_total (r : Fin 512) (e : Fin 512) :
    ∑ k : Fin 8, (show EReal from iblk m c 1 t (ix3 k r e : S8x512x512.Idx)) = total (slots m c) (row t r) e :=
  Finset.sum_congr rfl fun k _ => in_1 m c t k r e

/-! ## The arrays after the launch -/

/-- The grid point of a row. -/
theorem point (i : S2x1024x512.Idx) : ∃ t : Fin cfg0.N, t.val = (i 1).val / 512 :=
  ⟨⟨(i 1).val / 512, by have hi : (i 1 : Nat) < 1024 := (i 1).isLt; rw [show cfg0.N = 2 from N_0]; omega⟩, rfl⟩

/-- What output 1 holds. -/
def result4 : FVec 𝓘 S2x1024x512 .f32 := gradients 1 (into4 m c) (slots m c)

theorem written4 : (dats m 0 c).flushed 4 t
    = ((cfg0.win 4).blk t).view.read (Elt 𝓘) (result4 m c : Buf (Elt 𝓘) ((c : Thread nD τ).loc main_v0_0)) := by
  obtain ⟨w0, w1, w2⟩ := where_4 t
  rw [Value.flushed4_A m c t]
  funext y
  rw [View.read_apply]
  obtain ⟨r, e, rfl⟩ := in_block y
  refine (out4_at c _ _ _ _ _ _ _ _ _ _ _ _ _ _ _ _ _ _ _ _ _ r e).trans (Eq.trans (in_total m c t r e) ?_)
  show _ = result4 m c _
  unfold result4 gradients
  exact (renewed_new 1 _ _ _ (place0 1 0 w0) (row t r) e (place0 512 r.val w1) (place2 512 e.val w2)).symm

theorem kept4 : V m c main_v0_0 = into4 m c := by unfold V; after_reads_simp; rfl

theorem array4 : (dats m 0 c).arrAt 4 cfg0.N = (result4 m c : Buf (Elt 𝓘) ((c : Thread nD τ).loc main_v0_0)) := by
  funext i
  by_cases h : (i 0).val = 1
  · obtain ⟨t, ht⟩ := point i
    refine (dats m 0 c).arrAt_apply_of_mem 4 (result4 m c) (fun t _ => written4 m c t) cfg0.N t i t.isLt (flush0_4 t) ?_
    show i ∈ ((View.whole main_v0_0).slice (win0_4.rect t)).set
    rw [View.set_slice_whole, Rect.mem_set_unit]
    exact inside (by decide) _ (where_4 t) i h ht
  · refine (Value.entry4 m c i fun t _ hi => h ?_).trans ((congrFun (kept4 m c) i).trans (renewed_old 1 _ _ i h).symm)
    have hm : i ∈ ((View.whole main_v0_0).slice (win0_4.rect t)).set := hi
    rw [View.set_slice_whole, Rect.mem_set_unit] at hm
    exact outside (where_4 t) hm

/-- What output 2 holds. -/
def result5 : FVec 𝓘 S2x1024x512 .f32 := changes 1 (weight m c) (first_moment m c) (second_moment m c) (into5 m c) (slots m c)

theorem written5 : (dats m 0 c).flushed 5 t
    = ((cfg0.win 5).blk t).view.read (Elt 𝓘) (result5 m c : Buf (Elt 𝓘) ((c : Thread nD τ).loc main_v0_1)) := by
  obtain ⟨w0, w1, w2⟩ := where_5 t
  rw [Value.flushed5_A m c t]
  funext y
  rw [View.read_apply]
  obtain ⟨r, e, rfl⟩ := in_block y
  refine (out5_at c _ _ _ _ _ _ _ _ _ _ _ _ _ _ _ _ _ _ _ _ _ r e).trans (Eq.trans (change_congr (in_0 m c t r e) (in_2 m c t r e) (in_3 m c t r e) (in_total m c t r e)) ?_)
  show _ = result5 m c _
  exact Eq.symm (changes_new (r := row t r) (c := e) (place0 1 0 w0) (place0 512 r.val w1) (place2 512 e.val w2))

theorem kept5 : V m c main_v0_1 = into5 m c := by unfold V; after_reads_simp; rfl

theorem array5 : (dats m 0 c).arrAt 5 cfg0.N = (result5 m c : Buf (Elt 𝓘) ((c : Thread nD τ).loc main_v0_1)) := by
  funext i
  by_cases h : (i 0).val = 1
  · obtain ⟨t, ht⟩ := point i
    refine (dats m 0 c).arrAt_apply_of_mem 5 (result5 m c) (fun t _ => written5 m c t) cfg0.N t i t.isLt (flush0_5 t) ?_
    show i ∈ ((View.whole main_v0_1).slice (win0_5.rect t)).set
    rw [View.set_slice_whole, Rect.mem_set_unit]
    exact inside (by decide) _ (where_5 t) i h ht
  · refine (Value.entry5 m c i fun t _ hi => h ?_).trans ((congrFun (kept5 m c) i).trans (changes_old h).symm)
    have hm : i ∈ ((View.whole main_v0_1).slice (win0_5.rect t)).set := hi
    rw [View.set_slice_whole, Rect.mem_set_unit] at hm
    exact outside (where_5 t) hm

/-- What output 3 holds. -/
def result6 : FVec 𝓘 S2x1024x512 .f32 := firsts 1 (first_moment m c) (into6 m c) (slots m c)

theorem written6 : (dats m 0 c).flushed 6 t
    = ((cfg0.win 6).blk t).view.read (Elt 𝓘) (result6 m c : Buf (Elt 𝓘) ((c : Thread nD τ).loc main_v0_2)) := by
  obtain ⟨w0, w1, w2⟩ := where_6 t
  rw [Value.flushed6_A m c t]
  funext y
  rw [View.read_apply]
  obtain ⟨r, e, rfl⟩ := in_block y
  refine (out6_at c _ _ _ _ _ _ _ _ _ _ _ _ _ _ _ _ _ _ _ _ _ r e).trans (Eq.trans (congrArg₂ first (in_2 m c t r e) (in_total m c t r e)) ?_)
  show _ = result6 m c _
  exact Eq.symm (firsts_new (r := row t r) (c := e) (place0 1 0 w0) (place0 512 r.val w1) (place2 512 e.val w2))

theorem kept6 : V m c main_v0_2 = into6 m c := by unfold V; after_reads_simp; rfl

theorem array6 : (dats m 0 c).arrAt 6 cfg0.N = (result6 m c : Buf (Elt 𝓘) ((c : Thread nD τ).loc main_v0_2)) := by
  funext i
  by_cases h : (i 0).val = 1
  · obtain ⟨t, ht⟩ := point i
    refine (dats m 0 c).arrAt_apply_of_mem 6 (result6 m c) (fun t _ => written6 m c t) cfg0.N t i t.isLt (flush0_6 t) ?_
    show i ∈ ((View.whole main_v0_2).slice (win0_6.rect t)).set
    rw [View.set_slice_whole, Rect.mem_set_unit]
    exact inside (by decide) _ (where_6 t) i h ht
  · refine (Value.entry6 m c i fun t _ hi => h ?_).trans ((congrFun (kept6 m c) i).trans (firsts_old h).symm)
    have hm : i ∈ ((View.whole main_v0_2).slice (win0_6.rect t)).set := hi
    rw [View.set_slice_whole, Rect.mem_set_unit] at hm
    exact outside (where_6 t) hm

/-- What output 4 holds. -/
def result7 : FVec 𝓘 S2x1024x512 .f32 := seconds 1 (second_moment m c) (into7 m c) (slots m c)

theorem written7 : (dats m 0 c).flushed 7 t
    = ((cfg0.win 7).blk t).view.read (Elt 𝓘) (result7 m c : Buf (Elt 𝓘) ((c : Thread nD τ).loc main_v0_3)) := by
  obtain ⟨w0, w1, w2⟩ := where_7 t
  rw [Value.flushed7_A m c t]
  funext y
  rw [View.read_apply]
  obtain ⟨r, e, rfl⟩ := in_block y
  refine (out7_at c _ _ _ _ _ _ _ _ _ _ _ _ _ _ _ _ _ _ _ _ _ r e).trans (Eq.trans (congrArg₂ second (in_3 m c t r e) (in_total m c t r e)) ?_)
  show _ = result7 m c _
  exact Eq.symm (seconds_new (r := row t r) (c := e) (place0 1 0 w0) (place0 512 r.val w1) (place2 512 e.val w2))

theorem kept7 : V m c main_v0_3 = into7 m c := by unfold V; after_reads_simp; rfl

theorem array7 : (dats m 0 c).arrAt 7 cfg0.N = (result7 m c : Buf (Elt 𝓘) ((c : Thread nD τ).loc main_v0_3)) := by
  funext i
  by_cases h : (i 0).val = 1
  · obtain ⟨t, ht⟩ := point i
    refine (dats m 0 c).arrAt_apply_of_mem 7 (result7 m c) (fun t _ => written7 m c t) cfg0.N t i t.isLt (flush0_7 t) ?_
    show i ∈ ((View.whole main_v0_3).slice (win0_7.rect t)).set
    rw [View.set_slice_whole, Rect.mem_set_unit]
    exact inside (by decide) _ (where_7 t) i h ht
  · refine (Value.entry7 m c i fun t _ hi => h ?_).trans ((congrFun (kept7 m c) i).trans (seconds_old h).symm)
    have hm : i ∈ ((View.whole main_v0_3).slice (win0_7.rect t)).set := hi
    rw [View.set_slice_whole, Rect.mem_set_unit] at hm
    exact outside (where_7 t) hm

end

/-! ## The reference -/

section
variable (w a b old : FVec 𝓘 S2x1024x512 .f32) (g : FVec 𝓘 S8x1024x512 .bf16)

theorem ref_total (r : Fin 1024) (c : Fin 512) : val_main_v3 (F := 𝓘) g (ix2 r c) = total g r c := by
  refine (val_main_v3_apply g (ix2 r c)).trans ?_
  show Ideal.ofBits .f32 0x00000000#32 + ∑ k : Fin 8, g (idx_main_v3 (ix2 r c) k) = _
  rw [Ideal.ofBits_zero_f32, zero_add]
  refine Finset.sum_congr rfl fun k _ => congrArg g (funext fun a => ?_)
  match a with
  | ⟨0, _⟩ => rfl
  | ⟨1, _⟩ => rfl
  | ⟨2, _⟩ => rfl

theorem ref_first (r : Fin 1024) (c : Fin 512) : val_main_v12 (F := 𝓘) g a (ix2 r c) = first (layer 1 a r c) (total g r c) :=
  congrArg₂ first (cut_layer 1 a _ rfl _ _ r c) (ref_total g r c)

theorem ref_second (r : Fin 1024) (c : Fin 512) : val_main_v18 (F := 𝓘) g b (ix2 r c) = second (layer 1 b r c) (total g r c) :=
  congrArg₂ second (cut_layer 1 b _ rfl _ _ r c) (ref_total g r c)

theorem ref_change (r : Fin 1024) (c : Fin 512) :
    val_main_v31 (F := 𝓘) w g a b (ix2 r c) = change (layer 1 w r c) (layer 1 a r c) (layer 1 b r c) (total g r c) :=
  change_congr (cut_layer 1 w _ rfl _ _ r c) (cut_layer 1 a _ rfl _ _ r c) (cut_layer 1 b _ rfl _ _ r c) (ref_total g r c)

/-- The other layer, cut out and made a block again. -/
theorem ref_old (hs : S2x1024x512.Slices ![0, 0, 0] Cert.Reference20Ideal.S1x1024x512) (hc : Cert.Reference20Ideal.S1x1024x512.ShapeCasts Cert.Reference20Ideal.S1024x512)
    (hb : Cert.Reference20Ideal.S1024x512.BroadcastsInDim Cert.Reference20Ideal.S1x1024x512 ![1, 2]) (r : Fin 1024) (c : Fin 512) :
    broadcastInDim Cert.Reference20Ideal.S1x1024x512 ![1, 2] hb (shapeCast Cert.Reference20Ideal.S1024x512 (extractStridedSlice Cert.Reference20Ideal.S1x1024x512 ![0, 0, 0] old hs) hc) (at0 r c) = layer 0 old r c :=
  (lifted _ hb (by decide) (by decide) r c).trans (cut_layer 0 old _ rfl hs hc r c)

theorem reference4 : val_main_v36 (F := 𝓘) g old = gradients 1 old g :=
  stack_new _ _ _ _ old (fun r c => ref_old old _ _ _ r c) (fun r c => (lifted _ _ (by decide) (by decide) r c).trans (ref_total g r c))

theorem reference5 : val_main_v41 (F := 𝓘) w g a b old = changes 1 w a b old g :=
  stack_new _ _ _ _ old (fun r c => ref_old old _ _ _ r c) (fun r c => (lifted _ _ (by decide) (by decide) r c).trans (ref_change w a b g r c))

theorem reference6 : val_main_v46 (F := 𝓘) g a old = firsts 1 a old g :=
  stack_new _ _ _ _ old (fun r c => ref_old old _ _ _ r c) (fun r c => (lifted _ _ (by decide) (by decide) r c).trans (ref_first a g r c))

theorem reference7 : val_main_v51 (F := 𝓘) g b old = seconds 1 b old g :=
  stack_new _ _ _ _ old (fun r c => ref_old old _ _ _ r c) (fun r c => (lifted _ _ (by decide) (by decide) r c).trans (ref_second b g r c))

end

theorem reference_frame : Cert.quiescent_Reference20Ideal (hReference20Ideal := Cert.Reference20Ideal.Gen.facts) := by
  intro m g _
  exact (θ_run Cert.Reference20Ideal.defs _ _).mono (fun r h => ⟨fun c => (h c).2.2.2.2, sem_eq_zero_of_no_sems (by decide) r.2⟩)
    (Cert.Reference20Ideal.Value.run m g)

/-! ## The equation -/

theorem equal : Cert.algebraic_Kernel20Ideal_Reference20Ideal (hKernel20Ideal := Cert.Kernel20Ideal.Gen.facts)
    (hReference20Ideal := Cert.Reference20Ideal.Gen.facts) := by
  intro m ρ m' ρ' _ hag
  refine ⟨fun c => result4 m c, fun c => result5 m c, fun c => result6 m c, fun c => result7 m c, ?_, ?_⟩
  · refine (θ_run Cert.Kernel20Ideal.defs _ _).mono (fun r h c => ?_) (Value.run_blocks m ρ)
    obtain ⟨h4, h5, h6, h7, h⟩ := h c
    exact ⟨h4.trans (array4 m c), h5.trans (array5 m c), h6.trans (array6 m c), h7.trans (array7 m c), h⟩
  · refine (θ_run Cert.Reference20Ideal.defs _ _).mono (fun r h c => ?_) (Cert.Reference20Ideal.Value.run m' ρ')
    obtain ⟨aw, ag, aa, ab, a4, a5, a6, a7⟩ := hag c
    obtain ⟨h4, h5, h6, h7, h⟩ := h c
    refine ⟨h4.trans ((val_main_v36_eq _ _).trans ?_), h5.trans ((val_main_v41_eq _ _ _ _ _).trans ?_),
      h6.trans ((val_main_v46_eq _ _ _).trans ?_), h7.trans ((val_main_v51_eq _ _ _).trans ?_), h⟩
    · rw [reference4, ag, a4]; rfl
    · rw [reference5, aw, ag, aa, ab, a5]; rfl
    · rw [reference6, ag, aa, a6]; rfl
    · rw [reference7, ag, ab, a7]; rfl

end Cert.Adam20

end
-- ==== Proof.Adam21.lean ====
/- The optimiser's call for one layer of the even layers' input weight: the gradient summed over the devices' shares, the
   change and the two moments, the other layer passed through; and the reference's. -/
module

public import proofs.«01_k».proof.Defs
public import proofs.«01_k».proof.Proof.Adam
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Reference21Ideal

@[expose] public section

set_option maxRecDepth 16384

noncomputable section

namespace Cert.Adam21

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles Cert.Adam
open Cert.Kernel21Ideal Cert.Kernel21Ideal.Gen
open Cert.Reference21Ideal.Read

local notation "𝓘" => Idealize.ShloMosaic.Ideal

/-! ## One grid point -/

/-- The eight shares, added from the left. -/
theorem shares_at (v : Fin 8 → FVec 𝓘 S1x256x640 .bf16) (r : Fin 256) (e : Fin 640) :
    k0_pay3 (F := 𝓘) (v 0) (v 1) (v 2) (v 3) (v 4) (v 5) (v 6) (v 7) (ix2 r e) = ∑ k : Fin 8, v k (at0 r e) :=
  eight (a := fun k => (shapeCast S256x640 (v k) shapeCasts_S1x256x640_S256x640 : S256x640.Idx → EReal) (ix2 r e)) fun k => unstacked (v k) _ r e

theorem first_at (g : FVec 𝓘 S256x640 .f32) (a : FVec 𝓘 S1x256x640 .f32) (r : Fin 256) (e : Fin 640) :
    k0_pay4 (F := 𝓘) g a (ix2 r e) = first (a (at0 r e)) (g (ix2 r e)) :=
  congrArg (fun x => first x (g (ix2 r e))) (unstacked a _ r e)

theorem second_at (g : FVec 𝓘 S256x640 .f32) (b : FVec 𝓘 S1x256x640 .f32) (r : Fin 256) (e : Fin 640) :
    k0_pay5 (F := 𝓘) g b (ix2 r e) = second (b (at0 r e)) (g (ix2 r e)) :=
  congrArg (fun x => second x (g (ix2 r e))) (unstacked b _ r e)

theorem change_at (g : FVec 𝓘 S256x640 .f32) (w a b : FVec 𝓘 S1x256x640 .f32) (r : Fin 256) (e : Fin 640) :
    k0_pay7 (F := 𝓘) g a b w (at0 r e)
      = change (w (at0 r e)) (a (at0 r e)) (b (at0 r e)) (g (ix2 r e)) := by
  unfold k0_pay7
  exact (stacked _ _ r e).trans
    (change_congr (unstacked w _ r e) (unstacked a _ r e) (unstacked b _ r e) rfl)

section
variable (c : Dev nD) (i : grid0.Coords) (arg1 : Memref sig .tc .vmem S1x256x640 .f32) (harg1 : arg1.IsWhole)
  (arg2 : Memref sig .tc .vmem S8x256x640 .bf16) (harg2 : arg2.IsWhole)
  (arg3 : Memref sig .tc .vmem S1x256x640 .f32) (harg3 : arg3.IsWhole)
  (arg4 : Memref sig .tc .vmem S1x256x640 .f32) (harg4 : arg4.IsWhole)
  (arg9 : Memref sig .tc .vmem S1x256x640 .f32) (harg9 : arg9.IsWhole)
  (arg10 : Memref sig .tc .vmem S1x256x640 .f32) (harg10 : arg10.IsWhole)
  (arg11 : Memref sig .tc .vmem S1x256x640 .f32) (harg11 : arg11.IsWhole)
  (arg12 : Memref sig .tc .vmem S1x256x640 .f32) (harg12 : arg12.IsWhole)
  (x0 : Vec 𝓘 S1x256x640 .f32) (x1 : Vec 𝓘 S8x256x640 .bf16) (x2 x3 : Vec 𝓘 S1x256x640 .f32)

/-- One of the shares, loaded. -/
def share (b : Fin 8) : FVec 𝓘 S1x256x640 .bf16 := fun i => x1 (ix3 b ⟨(i 1).val, (i 1).isLt⟩ ⟨(i 2).val, (i 2).isLt⟩)

theorem load_share (b : Fin 8) (off : Fin 3 → ℕ) (h0 : off = ![b.val, 0, 0])
    (inb : ∀ d, off d + S1x256x640.size d ≤ S8x256x640.size d) :
    (View.readAt (Elt 𝓘) arg2.view (Rect.unit (s := S8x256x640) off S1x256x640.size inb).toLoadRect (harg2.unread x1) : Vec 𝓘 S1x256x640 .bf16)
      = share x1 b := by
  funext i
  obtain ⟨r, e, rfl⟩ := in_block i
  exact load_part arg2 harg2 x1 b off h0 inb r e

/-- The gradient's block. -/
def block : FVec 𝓘 S256x640 .f32 := k0_pay3 (F := 𝓘) (share x1 0) (share x1 1) (share x1 2) (share x1 3) (share x1 4) (share x1 5) (share x1 6) (share x1 7)

theorem block_at (r : Fin 256) (e : Fin 640) : block x1 (ix2 r e) = ∑ k : Fin 8, x1 (ix3 k r e) := shares_at (share x1) r e

theorem out4_at (r : Fin 256) (e : Fin 640) :
    out0_A_4 (F := 𝓘) c i arg1 harg1 arg2 harg2 arg3 harg3 arg4 harg4 arg9 harg9 arg10 harg10 arg11 harg11 arg12 harg12 x0 x1 x2 x3 (at0 r e)
      = ∑ k : Fin 8, x1 (ix3 k r e) := by
  unfold out0_A_4 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl]
  exact (stacked _ _ r e).trans (block_at x1 r e)

theorem out5_at (r : Fin 256) (e : Fin 640) :
    out0_A_5 (F := 𝓘) c i arg1 harg1 arg2 harg2 arg3 harg3 arg4 harg4 arg9 harg9 arg10 harg10 arg11 harg11 arg12 harg12 x0 x1 x2 x3 (at0 r e)
      = change (x0 (at0 r e)) (x2 (at0 r e)) (x3 (at0 r e)) (∑ k : Fin 8, x1 (ix3 k r e)) := by
  unfold out0_A_5 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl,
    load_all (S := S1x256x640) arg1 harg1 x0 _ off3, load_all (S := S1x256x640) arg3 harg3 x2 _ off3, load_all (S := S1x256x640) arg4 harg4 x3 _ off3]
  exact (change_at (block x1) x0 x2 x3 r e).trans (change_congr rfl rfl rfl (block_at x1 r e))

theorem out6_at (r : Fin 256) (e : Fin 640) :
    out0_A_6 (F := 𝓘) c i arg1 harg1 arg2 harg2 arg3 harg3 arg4 harg4 arg9 harg9 arg10 harg10 arg11 harg11 arg12 harg12 x0 x1 x2 x3 (at0 r e)
      = first (x2 (at0 r e)) (∑ k : Fin 8, x1 (ix3 k r e)) := by
  unfold out0_A_6 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x256x640) arg3 harg3 x2 _ off3]
  exact (stacked _ _ r e).trans ((first_at (block x1) x2 r e).trans (congrArg (first _) (block_at x1 r e)))

theorem out7_at (r : Fin 256) (e : Fin 640) :
    out0_A_7 (F := 𝓘) c i arg1 harg1 arg2 harg2 arg3 harg3 arg4 harg4 arg9 harg9 arg10 harg10 arg11 harg11 arg12 harg12 x0 x1 x2 x3 (at0 r e)
      = second (x3 (at0 r e)) (∑ k : Fin 8, x1 (ix3 k r e)) := by
  unfold out0_A_7 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x256x640) arg4 harg4 x3 _ off3]
  exact (stacked _ _ r e).trans ((second_at (block x1) x3 r e).trans (congrArg (second _) (block_at x1 r e)))

end

/-! ## The blocks of the arrays -/

abbrev Lies (ix : Fin grid0.N → Fin 3 → ℕ) (l : ℕ) : Prop := ∀ t, lies (ix t) l t.val

theorem where_0 : Lies win0_0.index 0 := by decide +kernel
theorem where_1 : Lies win0_1.index 0 := by decide +kernel
theorem where_2 : Lies win0_2.index 0 := by decide +kernel
theorem where_3 : Lies win0_3.index 0 := by decide +kernel
theorem where_4 : Lies win0_4.index 0 := by decide +kernel
theorem where_5 : Lies win0_5.index 0 := by decide +kernel
theorem where_6 : Lies win0_6.index 0 := by decide +kernel
theorem where_7 : Lies win0_7.index 0 := by decide +kernel

section
variable (m : (ℓ : Loc nD τ sig) → Buf (Elt 𝓘) ℓ) (c : Dev nD) (t : Fin cfg0.N)

/-- The arguments. -/
def weight : FVec 𝓘 S2x1024x640 .f32 := m ((c : Thread nD τ).loc main_arg0)
def slots : FVec 𝓘 S8x1024x640 .bf16 := m ((c : Thread nD τ).loc main_arg1)
def first_moment : FVec 𝓘 S2x1024x640 .f32 := m ((c : Thread nD τ).loc main_arg2)
def second_moment : FVec 𝓘 S2x1024x640 .f32 := m ((c : Thread nD τ).loc main_arg3)
def into4 : FVec 𝓘 S2x1024x640 .f32 := m ((c : Thread nD τ).loc main_arg4)
def into5 : FVec 𝓘 S2x1024x640 .f32 := m ((c : Thread nD τ).loc main_arg5)
def into6 : FVec 𝓘 S2x1024x640 .f32 := m ((c : Thread nD τ).loc main_arg6)
def into7 : FVec 𝓘 S2x1024x640 .f32 := m ((c : Thread nD τ).loc main_arg7)

/-- A row of a block, in the whole array. -/
def row (r : Fin 256) : Fin 1024 := ⟨t.val * 256 + r.val, by
  have ht : t.val < 4 := lt_of_lt_of_eq t.isLt N_0
  have hr := r.isLt
  omega⟩

theorem in_0 (r : Fin 256) (e : Fin 640) : iblk m c 0 t (at0 r e : S1x256x640.Idx) = layer (0 : Fin 2) (weight m c) (row t r) e := by
  obtain ⟨w0, w1, w2⟩ := where_0 t
  show ((cfg0.win 0).blk t).view.read (Elt 𝓘) (V m c main_arg0) _ = _
  rw [V_main_arg0, View.read_apply]
  show weight m c _ = weight m c _
  exact congrArg (weight m c) (index_ext (place0 1 0 w0) (place0 256 r.val w1) (place2 640 e.val w2))

theorem in_2 (r : Fin 256) (e : Fin 640) : iblk m c 2 t (at0 r e : S1x256x640.Idx) = layer (0 : Fin 2) (first_moment m c) (row t r) e := by
  obtain ⟨w0, w1, w2⟩ := where_2 t
  show ((cfg0.win 2).blk t).view.read (Elt 𝓘) (V m c main_arg2) _ = _
  rw [V_main_arg2, View.read_apply]
  show first_moment m c _ = first_moment m c _
  exact congrArg (first_moment m c) (index_ext (place0 1 0 w0) (place0 256 r.val w1) (place2 640 e.val w2))

theorem in_3 (r : Fin 256) (e : Fin 640) : iblk m c 3 t (at0 r e : S1x256x640.Idx) = layer (0 : Fin 2) (second_moment m c) (row t r) e := by
  obtain ⟨w0, w1, w2⟩ := where_3 t
  show ((cfg0.win 3).blk t).view.read (Elt 𝓘) (V m c main_arg3) _ = _
  rw [V_main_arg3, View.read_apply]
  show second_moment m c _ = second_moment m c _
  exact congrArg (second_moment m c) (index_ext (place0 1 0 w0) (place0 256 r.val w1) (place2 640 e.val w2))

theorem in_1 (k : Fin 8) (r : Fin 256) (e : Fin 640) : iblk m c 1 t (ix3 k r e : S8x256x640.Idx) = slots m c (ix3 k (row t r) e) := by
  obtain ⟨w0, w1, w2⟩ := where_1 t
  show ((cfg0.win 1).blk t).view.read (Elt 𝓘) (V m c main_arg1) _ = _
  rw [V_main_arg1, View.read_apply]
  show slots m c _ = slots m c _
  exact congrArg (slots m c) (index_ext (place2 8 k.val w0) (place0 256 r.val w1) (place2 640 e.val w2))

theorem in_total (r : Fin 256) (e : Fin 640) :
    ∑ k : Fin 8, (show EReal from iblk m c 1 t (ix3 k r e : S8x256x640.Idx)) = total (slots m c) (row t r) e :=
  Finset.sum_congr rfl fun k _ => in_1 m c t k r e

/-! ## The arrays after the launch -/

/-- The grid point of a row. -/
theorem point (i : S2x1024x640.Idx) : ∃ t : Fin cfg0.N, t.val = (i 1).val / 256 :=
  ⟨⟨(i 1).val / 256, by have hi : (i 1 : Nat) < 1024 := (i 1).isLt; rw [show cfg0.N = 4 from N_0]; omega⟩, rfl⟩

/-- What output 1 holds. -/
def result4 : FVec 𝓘 S2x1024x640 .f32 := gradients 0 (into4 m c) (slots m c)

theorem written4 : (dats m 0 c).flushed 4 t
    = ((cfg0.win 4).blk t).view.read (Elt 𝓘) (result4 m c : Buf (Elt 𝓘) ((c : Thread nD τ).loc main_v0_0)) := by
  obtain ⟨w0, w1, w2⟩ := where_4 t
  rw [Value.flushed4_A m c t]
  funext y
  rw [View.read_apply]
  obtain ⟨r, e, rfl⟩ := in_block y
  refine (out4_at c _ _ _ _ _ _ _ _ _ _ _ _ _ _ _ _ _ _ _ _ _ r e).trans (Eq.trans (in_total m c t r e) ?_)
  show _ = result4 m c _
  unfold result4 gradients
  exact (renewed_new 0 _ _ _ (place0 1 0 w0) (row t r) e (place0 256 r.val w1) (place2 640 e.val w2)).symm

theorem kept4 : V m c main_v0_0 = into4 m c := by unfold V; after_reads_simp; rfl

theorem array4 : (dats m 0 c).arrAt 4 cfg0.N = (result4 m c : Buf (Elt 𝓘) ((c : Thread nD τ).loc main_v0_0)) := by
  funext i
  by_cases h : (i 0).val = 0
  · obtain ⟨t, ht⟩ := point i
    refine (dats m 0 c).arrAt_apply_of_mem 4 (result4 m c) (fun t _ => written4 m c t) cfg0.N t i t.isLt (flush0_4 t) ?_
    show i ∈ ((View.whole main_v0_0).slice (win0_4.rect t)).set
    rw [View.set_slice_whole, Rect.mem_set_unit]
    exact inside (by decide) _ (where_4 t) i h ht
  · refine (Value.entry4 m c i fun t _ hi => h ?_).trans ((congrFun (kept4 m c) i).trans (renewed_old 0 _ _ i h).symm)
    have hm : i ∈ ((View.whole main_v0_0).slice (win0_4.rect t)).set := hi
    rw [View.set_slice_whole, Rect.mem_set_unit] at hm
    exact outside (where_4 t) hm

/-- What output 2 holds. -/
def result5 : FVec 𝓘 S2x1024x640 .f32 := changes 0 (weight m c) (first_moment m c) (second_moment m c) (into5 m c) (slots m c)

theorem written5 : (dats m 0 c).flushed 5 t
    = ((cfg0.win 5).blk t).view.read (Elt 𝓘) (result5 m c : Buf (Elt 𝓘) ((c : Thread nD τ).loc main_v0_1)) := by
  obtain ⟨w0, w1, w2⟩ := where_5 t
  rw [Value.flushed5_A m c t]
  funext y
  rw [View.read_apply]
  obtain ⟨r, e, rfl⟩ := in_block y
  refine (out5_at c _ _ _ _ _ _ _ _ _ _ _ _ _ _ _ _ _ _ _ _ _ r e).trans (Eq.trans (change_congr (in_0 m c t r e) (in_2 m c t r e) (in_3 m c t r e) (in_total m c t r e)) ?_)
  show _ = result5 m c _
  exact Eq.symm (changes_new (r := row t r) (c := e) (place0 1 0 w0) (place0 256 r.val w1) (place2 640 e.val w2))

theorem kept5 : V m c main_v0_1 = into5 m c := by unfold V; after_reads_simp; rfl

theorem array5 : (dats m 0 c).arrAt 5 cfg0.N = (result5 m c : Buf (Elt 𝓘) ((c : Thread nD τ).loc main_v0_1)) := by
  funext i
  by_cases h : (i 0).val = 0
  · obtain ⟨t, ht⟩ := point i
    refine (dats m 0 c).arrAt_apply_of_mem 5 (result5 m c) (fun t _ => written5 m c t) cfg0.N t i t.isLt (flush0_5 t) ?_
    show i ∈ ((View.whole main_v0_1).slice (win0_5.rect t)).set
    rw [View.set_slice_whole, Rect.mem_set_unit]
    exact inside (by decide) _ (where_5 t) i h ht
  · refine (Value.entry5 m c i fun t _ hi => h ?_).trans ((congrFun (kept5 m c) i).trans (changes_old h).symm)
    have hm : i ∈ ((View.whole main_v0_1).slice (win0_5.rect t)).set := hi
    rw [View.set_slice_whole, Rect.mem_set_unit] at hm
    exact outside (where_5 t) hm

/-- What output 3 holds. -/
def result6 : FVec 𝓘 S2x1024x640 .f32 := firsts 0 (first_moment m c) (into6 m c) (slots m c)

theorem written6 : (dats m 0 c).flushed 6 t
    = ((cfg0.win 6).blk t).view.read (Elt 𝓘) (result6 m c : Buf (Elt 𝓘) ((c : Thread nD τ).loc main_v0_2)) := by
  obtain ⟨w0, w1, w2⟩ := where_6 t
  rw [Value.flushed6_A m c t]
  funext y
  rw [View.read_apply]
  obtain ⟨r, e, rfl⟩ := in_block y
  refine (out6_at c _ _ _ _ _ _ _ _ _ _ _ _ _ _ _ _ _ _ _ _ _ r e).trans (Eq.trans (congrArg₂ first (in_2 m c t r e) (in_total m c t r e)) ?_)
  show _ = result6 m c _
  exact Eq.symm (firsts_new (r := row t r) (c := e) (place0 1 0 w0) (place0 256 r.val w1) (place2 640 e.val w2))

theorem kept6 : V m c main_v0_2 = into6 m c := by unfold V; after_reads_simp; rfl

theorem array6 : (dats m 0 c).arrAt 6 cfg0.N = (result6 m c : Buf (Elt 𝓘) ((c : Thread nD τ).loc main_v0_2)) := by
  funext i
  by_cases h : (i 0).val = 0
  · obtain ⟨t, ht⟩ := point i
    refine (dats m 0 c).arrAt_apply_of_mem 6 (result6 m c) (fun t _ => written6 m c t) cfg0.N t i t.isLt (flush0_6 t) ?_
    show i ∈ ((View.whole main_v0_2).slice (win0_6.rect t)).set
    rw [View.set_slice_whole, Rect.mem_set_unit]
    exact inside (by decide) _ (where_6 t) i h ht
  · refine (Value.entry6 m c i fun t _ hi => h ?_).trans ((congrFun (kept6 m c) i).trans (firsts_old h).symm)
    have hm : i ∈ ((View.whole main_v0_2).slice (win0_6.rect t)).set := hi
    rw [View.set_slice_whole, Rect.mem_set_unit] at hm
    exact outside (where_6 t) hm

/-- What output 4 holds. -/
def result7 : FVec 𝓘 S2x1024x640 .f32 := seconds 0 (second_moment m c) (into7 m c) (slots m c)

theorem written7 : (dats m 0 c).flushed 7 t
    = ((cfg0.win 7).blk t).view.read (Elt 𝓘) (result7 m c : Buf (Elt 𝓘) ((c : Thread nD τ).loc main_v0_3)) := by
  obtain ⟨w0, w1, w2⟩ := where_7 t
  rw [Value.flushed7_A m c t]
  funext y
  rw [View.read_apply]
  obtain ⟨r, e, rfl⟩ := in_block y
  refine (out7_at c _ _ _ _ _ _ _ _ _ _ _ _ _ _ _ _ _ _ _ _ _ r e).trans (Eq.trans (congrArg₂ second (in_3 m c t r e) (in_total m c t r e)) ?_)
  show _ = result7 m c _
  exact Eq.symm (seconds_new (r := row t r) (c := e) (place0 1 0 w0) (place0 256 r.val w1) (place2 640 e.val w2))

theorem kept7 : V m c main_v0_3 = into7 m c := by unfold V; after_reads_simp; rfl

theorem array7 : (dats m 0 c).arrAt 7 cfg0.N = (result7 m c : Buf (Elt 𝓘) ((c : Thread nD τ).loc main_v0_3)) := by
  funext i
  by_cases h : (i 0).val = 0
  · obtain ⟨t, ht⟩ := point i
    refine (dats m 0 c).arrAt_apply_of_mem 7 (result7 m c) (fun t _ => written7 m c t) cfg0.N t i t.isLt (flush0_7 t) ?_
    show i ∈ ((View.whole main_v0_3).slice (win0_7.rect t)).set
    rw [View.set_slice_whole, Rect.mem_set_unit]
    exact inside (by decide) _ (where_7 t) i h ht
  · refine (Value.entry7 m c i fun t _ hi => h ?_).trans ((congrFun (kept7 m c) i).trans (seconds_old h).symm)
    have hm : i ∈ ((View.whole main_v0_3).slice (win0_7.rect t)).set := hi
    rw [View.set_slice_whole, Rect.mem_set_unit] at hm
    exact outside (where_7 t) hm

end

/-! ## The reference -/

section
variable (w a b old : FVec 𝓘 S2x1024x640 .f32) (g : FVec 𝓘 S8x1024x640 .bf16)

theorem ref_total (r : Fin 1024) (c : Fin 640) : val_main_v3 (F := 𝓘) g (ix2 r c) = total g r c := by
  refine (val_main_v3_apply g (ix2 r c)).trans ?_
  show Ideal.ofBits .f32 0x00000000#32 + ∑ k : Fin 8, g (idx_main_v3 (ix2 r c) k) = _
  rw [Ideal.ofBits_zero_f32, zero_add]
  refine Finset.sum_congr rfl fun k _ => congrArg g (funext fun a => ?_)
  match a with
  | ⟨0, _⟩ => rfl
  | ⟨1, _⟩ => rfl
  | ⟨2, _⟩ => rfl

theorem ref_first (r : Fin 1024) (c : Fin 640) : val_main_v12 (F := 𝓘) g a (ix2 r c) = first (layer 0 a r c) (total g r c) :=
  congrArg₂ first (cut_layer 0 a _ rfl _ _ r c) (ref_total g r c)

theorem ref_second (r : Fin 1024) (c : Fin 640) : val_main_v18 (F := 𝓘) g b (ix2 r c) = second (layer 0 b r c) (total g r c) :=
  congrArg₂ second (cut_layer 0 b _ rfl _ _ r c) (ref_total g r c)

theorem ref_change (r : Fin 1024) (c : Fin 640) :
    val_main_v31 (F := 𝓘) w g a b (ix2 r c) = change (layer 0 w r c) (layer 0 a r c) (layer 0 b r c) (total g r c) :=
  change_congr (cut_layer 0 w _ rfl _ _ r c) (cut_layer 0 a _ rfl _ _ r c) (cut_layer 0 b _ rfl _ _ r c) (ref_total g r c)

/-- The other layer, cut out and made a block again. -/
theorem ref_old (hs : S2x1024x640.Slices ![1, 0, 0] Cert.Reference21Ideal.S1x1024x640) (hc : Cert.Reference21Ideal.S1x1024x640.ShapeCasts Cert.Reference21Ideal.S1024x640)
    (hb : Cert.Reference21Ideal.S1024x640.BroadcastsInDim Cert.Reference21Ideal.S1x1024x640 ![1, 2]) (r : Fin 1024) (c : Fin 640) :
    broadcastInDim Cert.Reference21Ideal.S1x1024x640 ![1, 2] hb (shapeCast Cert.Reference21Ideal.S1024x640 (extractStridedSlice Cert.Reference21Ideal.S1x1024x640 ![1, 0, 0] old hs) hc) (at0 r c) = layer 1 old r c :=
  (lifted _ hb (by decide) (by decide) r c).trans (cut_layer 1 old _ rfl hs hc r c)

theorem reference4 : val_main_v36 (F := 𝓘) g old = gradients 0 old g :=
  new_stack _ _ _ _ old (fun r c => (lifted _ _ (by decide) (by decide) r c).trans (ref_total g r c)) (fun r c => ref_old old _ _ _ r c)

theorem reference5 : val_main_v41 (F := 𝓘) w g a b old = changes 0 w a b old g :=
  new_stack _ _ _ _ old (fun r c => (lifted _ _ (by decide) (by decide) r c).trans (ref_change w a b g r c)) (fun r c => ref_old old _ _ _ r c)

theorem reference6 : val_main_v46 (F := 𝓘) g a old = firsts 0 a old g :=
  new_stack _ _ _ _ old (fun r c => (lifted _ _ (by decide) (by decide) r c).trans (ref_first a g r c)) (fun r c => ref_old old _ _ _ r c)

theorem reference7 : val_main_v51 (F := 𝓘) g b old = seconds 0 b old g :=
  new_stack _ _ _ _ old (fun r c => (lifted _ _ (by decide) (by decide) r c).trans (ref_second b g r c)) (fun r c => ref_old old _ _ _ r c)

end

theorem reference_frame : Cert.quiescent_Reference21Ideal (hReference21Ideal := Cert.Reference21Ideal.Gen.facts) := by
  intro m g _
  exact (θ_run Cert.Reference21Ideal.defs _ _).mono (fun r h => ⟨fun c => (h c).2.2.2.2, sem_eq_zero_of_no_sems (by decide) r.2⟩)
    (Cert.Reference21Ideal.Value.run m g)

/-! ## The equation -/

theorem equal : Cert.algebraic_Kernel21Ideal_Reference21Ideal (hKernel21Ideal := Cert.Kernel21Ideal.Gen.facts)
    (hReference21Ideal := Cert.Reference21Ideal.Gen.facts) := by
  intro m ρ m' ρ' _ hag
  refine ⟨fun c => result4 m c, fun c => result5 m c, fun c => result6 m c, fun c => result7 m c, ?_, ?_⟩
  · refine (θ_run Cert.Kernel21Ideal.defs _ _).mono (fun r h c => ?_) (Value.run_blocks m ρ)
    obtain ⟨h4, h5, h6, h7, h⟩ := h c
    exact ⟨h4.trans (array4 m c), h5.trans (array5 m c), h6.trans (array6 m c), h7.trans (array7 m c), h⟩
  · refine (θ_run Cert.Reference21Ideal.defs _ _).mono (fun r h c => ?_) (Cert.Reference21Ideal.Value.run m' ρ')
    obtain ⟨aw, ag, aa, ab, a4, a5, a6, a7⟩ := hag c
    obtain ⟨h4, h5, h6, h7, h⟩ := h c
    refine ⟨h4.trans ((val_main_v36_eq _ _).trans ?_), h5.trans ((val_main_v41_eq _ _ _ _ _).trans ?_),
      h6.trans ((val_main_v46_eq _ _ _).trans ?_), h7.trans ((val_main_v51_eq _ _ _).trans ?_), h⟩
    · rw [reference4, ag, a4]; rfl
    · rw [reference5, aw, ag, aa, ab, a5]; rfl
    · rw [reference6, ag, aa, a6]; rfl
    · rw [reference7, ag, ab, a7]; rfl

end Cert.Adam21

end
-- ==== Proof.Adam22.lean ====
/- The optimiser's call for one layer of the even layers' output weight: the gradient summed over the devices' shares, the
   change and the two moments, the other layer passed through; and the reference's. -/
module

public import proofs.«01_k».proof.Defs
public import proofs.«01_k».proof.Proof.Adam
public import proofs.«01_k».proof.Proof.Gen.Kernel22.Frame
public import proofs.«01_k».proof.Proof.Gen.Kernel22Ideal.Value
public import proofs.«01_k».proof.Proof.Gen.Reference22Ideal.Read
public import proofs.«01_k».proof.Proof.Gen.Reference22Ideal

@[expose] public section

set_option maxRecDepth 16384

noncomputable section

namespace Cert.Adam22

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles Cert.Adam
open Cert.Kernel22Ideal Cert.Kernel22Ideal.Gen
open Cert.Reference22Ideal.Read

local notation "𝓘" => Idealize.ShloMosaic.Ideal

/-! ## One grid point -/

/-- The eight shares, added from the left. -/
theorem shares_at (v : Fin 8 → FVec 𝓘 S1x192x1024 .bf16) (r : Fin 192) (e : Fin 1024) :
    k0_pay3 (F := 𝓘) (v 0) (v 1) (v 2) (v 3) (v 4) (v 5) (v 6) (v 7) (ix2 r e) = ∑ k : Fin 8, v k (at0 r e) :=
  eight (a := fun k => (shapeCast S192x1024 (v k) shapeCasts_S1x192x1024_S192x1024 : S192x1024.Idx → EReal) (ix2 r e)) fun k => unstacked (v k) _ r e

theorem first_at (g : FVec 𝓘 S192x1024 .f32) (a : FVec 𝓘 S1x192x1024 .f32) (r : Fin 192) (e : Fin 1024) :
    k0_pay4 (F := 𝓘) g a (ix2 r e) = first (a (at0 r e)) (g (ix2 r e)) :=
  congrArg (fun x => first x (g (ix2 r e))) (unstacked a _ r e)

theorem second_at (g : FVec 𝓘 S192x1024 .f32) (b : FVec 𝓘 S1x192x1024 .f32) (r : Fin 192) (e : Fin 1024) :
    k0_pay5 (F := 𝓘) g b (ix2 r e) = second (b (at0 r e)) (g (ix2 r e)) :=
  congrArg (fun x => second x (g (ix2 r e))) (unstacked b _ r e)

theorem change_at (g : FVec 𝓘 S192x1024 .f32) (w a b : FVec 𝓘 S1x192x1024 .f32) (r : Fin 192) (e : Fin 1024) :
    k0_pay7 (F := 𝓘) g a b w (at0 r e)
      = change (w (at0 r e)) (a (at0 r e)) (b (at0 r e)) (g (ix2 r e)) := by
  unfold k0_pay7
  exact (stacked _ _ r e).trans
    (change_congr (unstacked w _ r e) (unstacked a _ r e) (unstacked b _ r e) rfl)

section
variable (c : Dev nD) (i : grid0.Coords) (arg1 : Memref sig .tc .vmem S1x192x1024 .f32) (harg1 : arg1.IsWhole)
  (arg2 : Memref sig .tc .vmem S8x192x1024 .bf16) (harg2 : arg2.IsWhole)
  (arg3 : Memref sig .tc .vmem S1x192x1024 .f32) (harg3 : arg3.IsWhole)
  (arg4 : Memref sig .tc .vmem S1x192x1024 .f32) (harg4 : arg4.IsWhole)
  (arg9 : Memref sig .tc .vmem S1x192x1024 .f32) (harg9 : arg9.IsWhole)
  (arg10 : Memref sig .tc .vmem S1x192x1024 .f32) (harg10 : arg10.IsWhole)
  (arg11 : Memref sig .tc .vmem S1x192x1024 .f32) (harg11 : arg11.IsWhole)
  (arg12 : Memref sig .tc .vmem S1x192x1024 .f32) (harg12 : arg12.IsWhole)
  (x0 : Vec 𝓘 S1x192x1024 .f32) (x1 : Vec 𝓘 S8x192x1024 .bf16) (x2 x3 : Vec 𝓘 S1x192x1024 .f32)

/-- One of the shares, loaded. -/
def share (b : Fin 8) : FVec 𝓘 S1x192x1024 .bf16 := fun i => x1 (ix3 b ⟨(i 1).val, (i 1).isLt⟩ ⟨(i 2).val, (i 2).isLt⟩)

theorem load_share (b : Fin 8) (off : Fin 3 → ℕ) (h0 : off = ![b.val, 0, 0])
    (inb : ∀ d, off d + S1x192x1024.size d ≤ S8x192x1024.size d) :
    (View.readAt (Elt 𝓘) arg2.view (Rect.unit (s := S8x192x1024) off S1x192x1024.size inb).toLoadRect (harg2.unread x1) : Vec 𝓘 S1x192x1024 .bf16)
      = share x1 b := by
  funext i
  obtain ⟨r, e, rfl⟩ := in_block i
  exact load_part arg2 harg2 x1 b off h0 inb r e

/-- The gradient's block. -/
def block : FVec 𝓘 S192x1024 .f32 := k0_pay3 (F := 𝓘) (share x1 0) (share x1 1) (share x1 2) (share x1 3) (share x1 4) (share x1 5) (share x1 6) (share x1 7)

theorem block_at (r : Fin 192) (e : Fin 1024) : block x1 (ix2 r e) = ∑ k : Fin 8, x1 (ix3 k r e) := shares_at (share x1) r e

theorem out4_at (r : Fin 192) (e : Fin 1024) :
    out0_A_4 (F := 𝓘) c i arg1 harg1 arg2 harg2 arg3 harg3 arg4 harg4 arg9 harg9 arg10 harg10 arg11 harg11 arg12 harg12 x0 x1 x2 x3 (at0 r e)
      = ∑ k : Fin 8, x1 (ix3 k r e) := by
  unfold out0_A_4 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl]
  exact (stacked _ _ r e).trans (block_at x1 r e)

theorem out5_at (r : Fin 192) (e : Fin 1024) :
    out0_A_5 (F := 𝓘) c i arg1 harg1 arg2 harg2 arg3 harg3 arg4 harg4 arg9 harg9 arg10 harg10 arg11 harg11 arg12 harg12 x0 x1 x2 x3 (at0 r e)
      = change (x0 (at0 r e)) (x2 (at0 r e)) (x3 (at0 r e)) (∑ k : Fin 8, x1 (ix3 k r e)) := by
  unfold out0_A_5 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl,
    load_all (S := S1x192x1024) arg1 harg1 x0 _ off3, load_all (S := S1x192x1024) arg3 harg3 x2 _ off3, load_all (S := S1x192x1024) arg4 harg4 x3 _ off3]
  exact (change_at (block x1) x0 x2 x3 r e).trans (change_congr rfl rfl rfl (block_at x1 r e))

theorem out6_at (r : Fin 192) (e : Fin 1024) :
    out0_A_6 (F := 𝓘) c i arg1 harg1 arg2 harg2 arg3 harg3 arg4 harg4 arg9 harg9 arg10 harg10 arg11 harg11 arg12 harg12 x0 x1 x2 x3 (at0 r e)
      = first (x2 (at0 r e)) (∑ k : Fin 8, x1 (ix3 k r e)) := by
  unfold out0_A_6 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x192x1024) arg3 harg3 x2 _ off3]
  exact (stacked _ _ r e).trans ((first_at (block x1) x2 r e).trans (congrArg (first _) (block_at x1 r e)))

theorem out7_at (r : Fin 192) (e : Fin 1024) :
    out0_A_7 (F := 𝓘) c i arg1 harg1 arg2 harg2 arg3 harg3 arg4 harg4 arg9 harg9 arg10 harg10 arg11 harg11 arg12 harg12 x0 x1 x2 x3 (at0 r e)
      = second (x3 (at0 r e)) (∑ k : Fin 8, x1 (ix3 k r e)) := by
  unfold out0_A_7 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x192x1024) arg4 harg4 x3 _ off3]
  exact (stacked _ _ r e).trans ((second_at (block x1) x3 r e).trans (congrArg (second _) (block_at x1 r e)))

end

/-! ## The blocks of the arrays -/

abbrev Lies (ix : Fin grid0.N → Fin 3 → ℕ) (l : ℕ) : Prop := ∀ t, lies (ix t) l t.val

theorem where_0 : Lies win0_0.index 0 := by decide +kernel
theorem where_1 : Lies win0_1.index 0 := by decide +kernel
theorem where_2 : Lies win0_2.index 0 := by decide +kernel
theorem where_3 : Lies win0_3.index 0 := by decide +kernel
theorem where_4 : Lies win0_4.index 0 := by decide +kernel
theorem where_5 : Lies win0_5.index 0 := by decide +kernel
theorem where_6 : Lies win0_6.index 0 := by decide +kernel
theorem where_7 : Lies win0_7.index 0 := by decide +kernel

section
variable (m : (ℓ : Loc nD τ sig) → Buf (Elt 𝓘) ℓ) (c : Dev nD) (t : Fin cfg0.N)

/-- The arguments. -/
def weight : FVec 𝓘 S2x192x1024 .f32 := m ((c : Thread nD τ).loc main_arg0)
def slots : FVec 𝓘 S8x192x1024 .bf16 := m ((c : Thread nD τ).loc main_arg1)
def first_moment : FVec 𝓘 S2x192x1024 .f32 := m ((c : Thread nD τ).loc main_arg2)
def second_moment : FVec 𝓘 S2x192x1024 .f32 := m ((c : Thread nD τ).loc main_arg3)
def into4 : FVec 𝓘 S2x192x1024 .f32 := m ((c : Thread nD τ).loc main_arg4)
def into5 : FVec 𝓘 S2x192x1024 .f32 := m ((c : Thread nD τ).loc main_arg5)
def into6 : FVec 𝓘 S2x192x1024 .f32 := m ((c : Thread nD τ).loc main_arg6)
def into7 : FVec 𝓘 S2x192x1024 .f32 := m ((c : Thread nD τ).loc main_arg7)

/-- A row of a block, in the whole array. -/
def row (r : Fin 192) : Fin 192 := ⟨t.val * 192 + r.val, by
  have ht : t.val < 1 := lt_of_lt_of_eq t.isLt N_0
  have hr := r.isLt
  omega⟩

theorem in_0 (r : Fin 192) (e : Fin 1024) : iblk m c 0 t (at0 r e : S1x192x1024.Idx) = layer (0 : Fin 2) (weight m c) (row t r) e := by
  obtain ⟨w0, w1, w2⟩ := where_0 t
  show ((cfg0.win 0).blk t).view.read (Elt 𝓘) (V m c main_arg0) _ = _
  rw [V_main_arg0, View.read_apply]
  show weight m c _ = weight m c _
  exact congrArg (weight m c) (index_ext (place0 1 0 w0) (place0 192 r.val w1) (place2 1024 e.val w2))

theorem in_2 (r : Fin 192) (e : Fin 1024) : iblk m c 2 t (at0 r e : S1x192x1024.Idx) = layer (0 : Fin 2) (first_moment m c) (row t r) e := by
  obtain ⟨w0, w1, w2⟩ := where_2 t
  show ((cfg0.win 2).blk t).view.read (Elt 𝓘) (V m c main_arg2) _ = _
  rw [V_main_arg2, View.read_apply]
  show first_moment m c _ = first_moment m c _
  exact congrArg (first_moment m c) (index_ext (place0 1 0 w0) (place0 192 r.val w1) (place2 1024 e.val w2))

theorem in_3 (r : Fin 192) (e : Fin 1024) : iblk m c 3 t (at0 r e : S1x192x1024.Idx) = layer (0 : Fin 2) (second_moment m c) (row t r) e := by
  obtain ⟨w0, w1, w2⟩ := where_3 t
  show ((cfg0.win 3).blk t).view.read (Elt 𝓘) (V m c main_arg3) _ = _
  rw [V_main_arg3, View.read_apply]
  show second_moment m c _ = second_moment m c _
  exact congrArg (second_moment m c) (index_ext (place0 1 0 w0) (place0 192 r.val w1) (place2 1024 e.val w2))

theorem in_1 (k : Fin 8) (r : Fin 192) (e : Fin 1024) : iblk m c 1 t (ix3 k r e : S8x192x1024.Idx) = slots m c (ix3 k (row t r) e) := by
  obtain ⟨w0, w1, w2⟩ := where_1 t
  show ((cfg0.win 1).blk t).view.read (Elt 𝓘) (V m c main_arg1) _ = _
  rw [V_main_arg1, View.read_apply]
  show slots m c _ = slots m c _
  exact congrArg (slots m c) (index_ext (place2 8 k.val w0) (place0 192 r.val w1) (place2 1024 e.val w2))

theorem in_total (r : Fin 192) (e : Fin 1024) :
    ∑ k : Fin 8, (show EReal from iblk m c 1 t (ix3 k r e : S8x192x1024.Idx)) = total (slots m c) (row t r) e :=
  Finset.sum_congr rfl fun k _ => in_1 m c t k r e

/-! ## The arrays after the launch -/

/-- The grid point of a row. -/
theorem point (i : S2x192x1024.Idx) : ∃ t : Fin cfg0.N, t.val = (i 1).val / 192 :=
  ⟨⟨(i 1).val / 192, by have hi : (i 1 : Nat) < 192 := (i 1).isLt; rw [show cfg0.N = 1 from N_0]; omega⟩, rfl⟩

/-- What output 1 holds. -/
def result4 : FVec 𝓘 S2x192x1024 .f32 := gradients 0 (into4 m c) (slots m c)

theorem written4 : (dats m 0 c).flushed 4 t
    = ((cfg0.win 4).blk t).view.read (Elt 𝓘) (result4 m c : Buf (Elt 𝓘) ((c : Thread nD τ).loc main_v0_0)) := by
  obtain ⟨w0, w1, w2⟩ := where_4 t
  rw [Value.flushed4_A m c t]
  funext y
  rw [View.read_apply]
  obtain ⟨r, e, rfl⟩ := in_block y
  refine (out4_at c _ _ _ _ _ _ _ _ _ _ _ _ _ _ _ _ _ _ _ _ _ r e).trans (Eq.trans (in_total m c t r e) ?_)
  show _ = result4 m c _
  unfold result4 gradients
  exact (renewed_new 0 _ _ _ (place0 1 0 w0) (row t r) e (place0 192 r.val w1) (place2 1024 e.val w2)).symm

theorem kept4 : V m c main_v0_0 = into4 m c := by unfold V; after_reads_simp; rfl

theorem array4 : (dats m 0 c).arrAt 4 cfg0.N = (result4 m c : Buf (Elt 𝓘) ((c : Thread nD τ).loc main_v0_0)) := by
  funext i
  by_cases h : (i 0).val = 0
  · obtain ⟨t, ht⟩ := point i
    refine (dats m 0 c).arrAt_apply_of_mem 4 (result4 m c) (fun t _ => written4 m c t) cfg0.N t i t.isLt (flush0_4 t) ?_
    show i ∈ ((View.whole main_v0_0).slice (win0_4.rect t)).set
    rw [View.set_slice_whole, Rect.mem_set_unit]
    exact inside (by decide) _ (where_4 t) i h ht
  · refine (Value.entry4 m c i fun t _ hi => h ?_).trans ((congrFun (kept4 m c) i).trans (renewed_old 0 _ _ i h).symm)
    have hm : i ∈ ((View.whole main_v0_0).slice (win0_4.rect t)).set := hi
    rw [View.set_slice_whole, Rect.mem_set_unit] at hm
    exact outside (where_4 t) hm

/-- What output 2 holds. -/
def result5 : FVec 𝓘 S2x192x1024 .f32 := changes 0 (weight m c) (first_moment m c) (second_moment m c) (into5 m c) (slots m c)

theorem written5 : (dats m 0 c).flushed 5 t
    = ((cfg0.win 5).blk t).view.read (Elt 𝓘) (result5 m c : Buf (Elt 𝓘) ((c : Thread nD τ).loc main_v0_1)) := by
  obtain ⟨w0, w1, w2⟩ := where_5 t
  rw [Value.flushed5_A m c t]
  funext y
  rw [View.read_apply]
  obtain ⟨r, e, rfl⟩ := in_block y
  refine (out5_at c _ _ _ _ _ _ _ _ _ _ _ _ _ _ _ _ _ _ _ _ _ r e).trans (Eq.trans (change_congr (in_0 m c t r e) (in_2 m c t r e) (in_3 m c t r e) (in_total m c t r e)) ?_)
  show _ = result5 m c _
  exact Eq.symm (changes_new (r := row t r) (c := e) (place0 1 0 w0) (place0 192 r.val w1) (place2 1024 e.val w2))

theorem kept5 : V m c main_v0_1 = into5 m c := by unfold V; after_reads_simp; rfl

theorem array5 : (dats m 0 c).arrAt 5 cfg0.N = (result5 m c : Buf (Elt 𝓘) ((c : Thread nD τ).loc main_v0_1)) := by
  funext i
  by_cases h : (i 0).val = 0
  · obtain ⟨t, ht⟩ := point i
    refine (dats m 0 c).arrAt_apply_of_mem 5 (result5 m c) (fun t _ => written5 m c t) cfg0.N t i t.isLt (flush0_5 t) ?_
    show i ∈ ((View.whole main_v0_1).slice (win0_5.rect t)).set
    rw [View.set_slice_whole, Rect.mem_set_unit]
    exact inside (by decide) _ (where_5 t) i h ht
  · refine (Value.entry5 m c i fun t _ hi => h ?_).trans ((congrFun (kept5 m c) i).trans (changes_old h).symm)
    have hm : i ∈ ((View.whole main_v0_1).slice (win0_5.rect t)).set := hi
    rw [View.set_slice_whole, Rect.mem_set_unit] at hm
    exact outside (where_5 t) hm

/-- What output 3 holds. -/
def result6 : FVec 𝓘 S2x192x1024 .f32 := firsts 0 (first_moment m c) (into6 m c) (slots m c)

theorem written6 : (dats m 0 c).flushed 6 t
    = ((cfg0.win 6).blk t).view.read (Elt 𝓘) (result6 m c : Buf (Elt 𝓘) ((c : Thread nD τ).loc main_v0_2)) := by
  obtain ⟨w0, w1, w2⟩ := where_6 t
  rw [Value.flushed6_A m c t]
  funext y
  rw [View.read_apply]
  obtain ⟨r, e, rfl⟩ := in_block y
  refine (out6_at c _ _ _ _ _ _ _ _ _ _ _ _ _ _ _ _ _ _ _ _ _ r e).trans (Eq.trans (congrArg₂ first (in_2 m c t r e) (in_total m c t r e)) ?_)
  show _ = result6 m c _
  exact Eq.symm (firsts_new (r := row t r) (c := e) (place0 1 0 w0) (place0 192 r.val w1) (place2 1024 e.val w2))

theorem kept6 : V m c main_v0_2 = into6 m c := by unfold V; after_reads_simp; rfl

theorem array6 : (dats m 0 c).arrAt 6 cfg0.N = (result6 m c : Buf (Elt 𝓘) ((c : Thread nD τ).loc main_v0_2)) := by
  funext i
  by_cases h : (i 0).val = 0
  · obtain ⟨t, ht⟩ := point i
    refine (dats m 0 c).arrAt_apply_of_mem 6 (result6 m c) (fun t _ => written6 m c t) cfg0.N t i t.isLt (flush0_6 t) ?_
    show i ∈ ((View.whole main_v0_2).slice (win0_6.rect t)).set
    rw [View.set_slice_whole, Rect.mem_set_unit]
    exact inside (by decide) _ (where_6 t) i h ht
  · refine (Value.entry6 m c i fun t _ hi => h ?_).trans ((congrFun (kept6 m c) i).trans (firsts_old h).symm)
    have hm : i ∈ ((View.whole main_v0_2).slice (win0_6.rect t)).set := hi
    rw [View.set_slice_whole, Rect.mem_set_unit] at hm
    exact outside (where_6 t) hm

/-- What output 4 holds. -/
def result7 : FVec 𝓘 S2x192x1024 .f32 := seconds 0 (second_moment m c) (into7 m c) (slots m c)

theorem written7 : (dats m 0 c).flushed 7 t
    = ((cfg0.win 7).blk t).view.read (Elt 𝓘) (result7 m c : Buf (Elt 𝓘) ((c : Thread nD τ).loc main_v0_3)) := by
  obtain ⟨w0, w1, w2⟩ := where_7 t
  rw [Value.flushed7_A m c t]
  funext y
  rw [View.read_apply]
  obtain ⟨r, e, rfl⟩ := in_block y
  refine (out7_at c _ _ _ _ _ _ _ _ _ _ _ _ _ _ _ _ _ _ _ _ _ r e).trans (Eq.trans (congrArg₂ second (in_3 m c t r e) (in_total m c t r e)) ?_)
  show _ = result7 m c _
  exact Eq.symm (seconds_new (r := row t r) (c := e) (place0 1 0 w0) (place0 192 r.val w1) (place2 1024 e.val w2))

theorem kept7 : V m c main_v0_3 = into7 m c := by unfold V; after_reads_simp; rfl

theorem array7 : (dats m 0 c).arrAt 7 cfg0.N = (result7 m c : Buf (Elt 𝓘) ((c : Thread nD τ).loc main_v0_3)) := by
  funext i
  by_cases h : (i 0).val = 0
  · obtain ⟨t, ht⟩ := point i
    refine (dats m 0 c).arrAt_apply_of_mem 7 (result7 m c) (fun t _ => written7 m c t) cfg0.N t i t.isLt (flush0_7 t) ?_
    show i ∈ ((View.whole main_v0_3).slice (win0_7.rect t)).set
    rw [View.set_slice_whole, Rect.mem_set_unit]
    exact inside (by decide) _ (where_7 t) i h ht
  · refine (Value.entry7 m c i fun t _ hi => h ?_).trans ((congrFun (kept7 m c) i).trans (seconds_old h).symm)
    have hm : i ∈ ((View.whole main_v0_3).slice (win0_7.rect t)).set := hi
    rw [View.set_slice_whole, Rect.mem_set_unit] at hm
    exact outside (where_7 t) hm

end

/-! ## The reference -/

section
variable (w a b old : FVec 𝓘 S2x192x1024 .f32) (g : FVec 𝓘 S8x192x1024 .bf16)

theorem ref_total (r : Fin 192) (c : Fin 1024) : val_main_v3 (F := 𝓘) g (ix2 r c) = total g r c := by
  refine (val_main_v3_apply g (ix2 r c)).trans ?_
  show Ideal.ofBits .f32 0x00000000#32 + ∑ k : Fin 8, g (idx_main_v3 (ix2 r c) k) = _
  rw [Ideal.ofBits_zero_f32, zero_add]
  refine Finset.sum_congr rfl fun k _ => congrArg g (funext fun a => ?_)
  match a with
  | ⟨0, _⟩ => rfl
  | ⟨1, _⟩ => rfl
  | ⟨2, _⟩ => rfl

theorem ref_first (r : Fin 192) (c : Fin 1024) : val_main_v12 (F := 𝓘) g a (ix2 r c) = first (layer 0 a r c) (total g r c) :=
  congrArg₂ first (cut_layer 0 a _ rfl _ _ r c) (ref_total g r c)

theorem ref_second (r : Fin 192) (c : Fin 1024) : val_main_v18 (F := 𝓘) g b (ix2 r c) = second (layer 0 b r c) (total g r c) :=
  congrArg₂ second (cut_layer 0 b _ rfl _ _ r c) (ref_total g r c)

theorem ref_change (r : Fin 192) (c : Fin 1024) :
    val_main_v31 (F := 𝓘) w g a b (ix2 r c) = change (layer 0 w r c) (layer 0 a r c) (layer 0 b r c) (total g r c) :=
  change_congr (cut_layer 0 w _ rfl _ _ r c) (cut_layer 0 a _ rfl _ _ r c) (cut_layer 0 b _ rfl _ _ r c) (ref_total g r c)

/-- The other layer, cut out and made a block again. -/
theorem ref_old (hs : S2x192x1024.Slices ![1, 0, 0] S1x192x1024) (hc : S1x192x1024.ShapeCasts S192x1024)
    (hb : S192x1024.BroadcastsInDim S1x192x1024 ![1, 2]) (r : Fin 192) (c : Fin 1024) :
    broadcastInDim S1x192x1024 ![1, 2] hb (shapeCast S192x1024 (extractStridedSlice S1x192x1024 ![1, 0, 0] old hs) hc) (at0 r c) = layer 1 old r c :=
  (lifted _ hb (by decide) (by decide) r c).trans (cut_layer 1 old _ rfl hs hc r c)

theorem reference4 : val_main_v36 (F := 𝓘) g old = gradients 0 old g :=
  new_stack _ _ _ _ old (fun r c => (lifted _ _ (by decide) (by decide) r c).trans (ref_total g r c)) (fun r c => ref_old old _ _ _ r c)

theorem reference5 : val_main_v41 (F := 𝓘) w g a b old = changes 0 w a b old g :=
  new_stack _ _ _ _ old (fun r c => (lifted _ _ (by decide) (by decide) r c).trans (ref_change w a b g r c)) (fun r c => ref_old old _ _ _ r c)

theorem reference6 : val_main_v46 (F := 𝓘) g a old = firsts 0 a old g :=
  new_stack _ _ _ _ old (fun r c => (lifted _ _ (by decide) (by decide) r c).trans (ref_first a g r c)) (fun r c => ref_old old _ _ _ r c)

theorem reference7 : val_main_v51 (F := 𝓘) g b old = seconds 0 b old g :=
  new_stack _ _ _ _ old (fun r c => (lifted _ _ (by decide) (by decide) r c).trans (ref_second b g r c)) (fun r c => ref_old old _ _ _ r c)

end

theorem reference_frame : Cert.quiescent_Reference22Ideal (hReference22Ideal := Cert.Reference22Ideal.Gen.facts) := by
  intro m g _
  exact (θ_run Cert.Reference22Ideal.defs _ _).mono (fun r h => ⟨fun c => (h c).2.2.2.2, sem_eq_zero_of_no_sems (by decide) r.2⟩)
    (Cert.Reference22Ideal.Value.run m g)

/-! ## The equation -/

theorem equal : Cert.algebraic_Kernel22Ideal_Reference22Ideal (hKernel22Ideal := Cert.Kernel22Ideal.Gen.facts)
    (hReference22Ideal := Cert.Reference22Ideal.Gen.facts) := by
  intro m ρ m' ρ' _ hag
  refine ⟨fun c => result4 m c, fun c => result5 m c, fun c => result6 m c, fun c => result7 m c, ?_, ?_⟩
  · refine (θ_run Cert.Kernel22Ideal.defs _ _).mono (fun r h c => ?_) (Value.run_blocks m ρ)
    obtain ⟨h4, h5, h6, h7, h⟩ := h c
    exact ⟨h4.trans (array4 m c), h5.trans (array5 m c), h6.trans (array6 m c), h7.trans (array7 m c), h⟩
  · refine (θ_run Cert.Reference22Ideal.defs _ _).mono (fun r h c => ?_) (Cert.Reference22Ideal.Value.run m' ρ')
    obtain ⟨aw, ag, aa, ab, a4, a5, a6, a7⟩ := hag c
    obtain ⟨h4, h5, h6, h7, h⟩ := h c
    refine ⟨h4.trans ((val_main_v36_eq _ _).trans ?_), h5.trans ((val_main_v41_eq _ _ _ _ _).trans ?_),
      h6.trans ((val_main_v46_eq _ _ _).trans ?_), h7.trans ((val_main_v51_eq _ _ _).trans ?_), h⟩
    · rw [reference4, ag, a4]; rfl
    · rw [reference5, aw, ag, aa, ab, a5]; rfl
    · rw [reference6, ag, aa, a6]; rfl
    · rw [reference7, ag, ab, a7]; rfl

end Cert.Adam22

end
-- ==== Proof.Adam23.lean ====
/- The optimiser's call for one layer of the odd layers' output weight: the gradient summed over the devices' shares, the
   change and the two moments, the other layer passed through; and the reference's. -/
module

public import proofs.«01_k».proof.Defs
public import proofs.«01_k».proof.Proof.Adam
public import proofs.«01_k».proof.Proof.Gen.Kernel23.Frame
public import proofs.«01_k».proof.Proof.Gen.Kernel23Ideal.Value
public import proofs.«01_k».proof.Proof.Gen.Reference23Ideal.Read
public import proofs.«01_k».proof.Proof.Gen.Reference23Ideal

@[expose] public section

set_option maxRecDepth 16384

noncomputable section

namespace Cert.Adam23

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles Cert.Adam
open Cert.Kernel23Ideal Cert.Kernel23Ideal.Gen
open Cert.Reference23Ideal.Read

local notation "𝓘" => Idealize.ShloMosaic.Ideal

/-! ## One grid point -/

/-- The eight shares, added from the left. -/
theorem shares_at (v : Fin 8 → FVec 𝓘 S1x256x1024 .bf16) (r : Fin 256) (e : Fin 1024) :
    k0_pay3 (F := 𝓘) (v 0) (v 1) (v 2) (v 3) (v 4) (v 5) (v 6) (v 7) (ix2 r e) = ∑ k : Fin 8, v k (at0 r e) :=
  eight (a := fun k => (shapeCast S256x1024 (v k) shapeCasts_S1x256x1024_S256x1024 : S256x1024.Idx → EReal) (ix2 r e)) fun k => unstacked (v k) _ r e

theorem first_at (g : FVec 𝓘 S256x1024 .f32) (a : FVec 𝓘 S1x256x1024 .f32) (r : Fin 256) (e : Fin 1024) :
    k0_pay4 (F := 𝓘) g a (ix2 r e) = first (a (at0 r e)) (g (ix2 r e)) :=
  congrArg (fun x => first x (g (ix2 r e))) (unstacked a _ r e)

theorem second_at (g : FVec 𝓘 S256x1024 .f32) (b : FVec 𝓘 S1x256x1024 .f32) (r : Fin 256) (e : Fin 1024) :
    k0_pay5 (F := 𝓘) g b (ix2 r e) = second (b (at0 r e)) (g (ix2 r e)) :=
  congrArg (fun x => second x (g (ix2 r e))) (unstacked b _ r e)

theorem change_at (g : FVec 𝓘 S256x1024 .f32) (w a b : FVec 𝓘 S1x256x1024 .f32) (r : Fin 256) (e : Fin 1024) :
    k0_pay7 (F := 𝓘) g a b w (at0 r e)
      = change (w (at0 r e)) (a (at0 r e)) (b (at0 r e)) (g (ix2 r e)) := by
  unfold k0_pay7
  exact (stacked _ _ r e).trans
    (change_congr (unstacked w _ r e) (unstacked a _ r e) (unstacked b _ r e) rfl)

section
variable (c : Dev nD) (i : grid0.Coords) (arg1 : Memref sig .tc .vmem S1x256x1024 .f32) (harg1 : arg1.IsWhole)
  (arg2 : Memref sig .tc .vmem S8x256x1024 .bf16) (harg2 : arg2.IsWhole)
  (arg3 : Memref sig .tc .vmem S1x256x1024 .f32) (harg3 : arg3.IsWhole)
  (arg4 : Memref sig .tc .vmem S1x256x1024 .f32) (harg4 : arg4.IsWhole)
  (arg9 : Memref sig .tc .vmem S1x256x1024 .f32) (harg9 : arg9.IsWhole)
  (arg10 : Memref sig .tc .vmem S1x256x1024 .f32) (harg10 : arg10.IsWhole)
  (arg11 : Memref sig .tc .vmem S1x256x1024 .f32) (harg11 : arg11.IsWhole)
  (arg12 : Memref sig .tc .vmem S1x256x1024 .f32) (harg12 : arg12.IsWhole)
  (x0 : Vec 𝓘 S1x256x1024 .f32) (x1 : Vec 𝓘 S8x256x1024 .bf16) (x2 x3 : Vec 𝓘 S1x256x1024 .f32)

/-- One of the shares, loaded. -/
def share (b : Fin 8) : FVec 𝓘 S1x256x1024 .bf16 := fun i => x1 (ix3 b ⟨(i 1).val, (i 1).isLt⟩ ⟨(i 2).val, (i 2).isLt⟩)

theorem load_share (b : Fin 8) (off : Fin 3 → ℕ) (h0 : off = ![b.val, 0, 0])
    (inb : ∀ d, off d + S1x256x1024.size d ≤ S8x256x1024.size d) :
    (View.readAt (Elt 𝓘) arg2.view (Rect.unit (s := S8x256x1024) off S1x256x1024.size inb).toLoadRect (harg2.unread x1) : Vec 𝓘 S1x256x1024 .bf16)
      = share x1 b := by
  funext i
  obtain ⟨r, e, rfl⟩ := in_block i
  exact load_part arg2 harg2 x1 b off h0 inb r e

/-- The gradient's block. -/
def block : FVec 𝓘 S256x1024 .f32 := k0_pay3 (F := 𝓘) (share x1 0) (share x1 1) (share x1 2) (share x1 3) (share x1 4) (share x1 5) (share x1 6) (share x1 7)

theorem block_at (r : Fin 256) (e : Fin 1024) : block x1 (ix2 r e) = ∑ k : Fin 8, x1 (ix3 k r e) := shares_at (share x1) r e

theorem out4_at (r : Fin 256) (e : Fin 1024) :
    out0_A_4 (F := 𝓘) c i arg1 harg1 arg2 harg2 arg3 harg3 arg4 harg4 arg9 harg9 arg10 harg10 arg11 harg11 arg12 harg12 x0 x1 x2 x3 (at0 r e)
      = ∑ k : Fin 8, x1 (ix3 k r e) := by
  unfold out0_A_4 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl]
  exact (stacked _ _ r e).trans (block_at x1 r e)

theorem out5_at (r : Fin 256) (e : Fin 1024) :
    out0_A_5 (F := 𝓘) c i arg1 harg1 arg2 harg2 arg3 harg3 arg4 harg4 arg9 harg9 arg10 harg10 arg11 harg11 arg12 harg12 x0 x1 x2 x3 (at0 r e)
      = change (x0 (at0 r e)) (x2 (at0 r e)) (x3 (at0 r e)) (∑ k : Fin 8, x1 (ix3 k r e)) := by
  unfold out0_A_5 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl,
    load_all (S := S1x256x1024) arg1 harg1 x0 _ off3, load_all (S := S1x256x1024) arg3 harg3 x2 _ off3, load_all (S := S1x256x1024) arg4 harg4 x3 _ off3]
  exact (change_at (block x1) x0 x2 x3 r e).trans (change_congr rfl rfl rfl (block_at x1 r e))

theorem out6_at (r : Fin 256) (e : Fin 1024) :
    out0_A_6 (F := 𝓘) c i arg1 harg1 arg2 harg2 arg3 harg3 arg4 harg4 arg9 harg9 arg10 harg10 arg11 harg11 arg12 harg12 x0 x1 x2 x3 (at0 r e)
      = first (x2 (at0 r e)) (∑ k : Fin 8, x1 (ix3 k r e)) := by
  unfold out0_A_6 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x256x1024) arg3 harg3 x2 _ off3]
  exact (stacked _ _ r e).trans ((first_at (block x1) x2 r e).trans (congrArg (first _) (block_at x1 r e)))

theorem out7_at (r : Fin 256) (e : Fin 1024) :
    out0_A_7 (F := 𝓘) c i arg1 harg1 arg2 harg2 arg3 harg3 arg4 harg4 arg9 harg9 arg10 harg10 arg11 harg11 arg12 harg12 x0 x1 x2 x3 (at0 r e)
      = second (x3 (at0 r e)) (∑ k : Fin 8, x1 (ix3 k r e)) := by
  unfold out0_A_7 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x256x1024) arg4 harg4 x3 _ off3]
  exact (stacked _ _ r e).trans ((second_at (block x1) x3 r e).trans (congrArg (second _) (block_at x1 r e)))

end

/-! ## The blocks of the arrays -/

abbrev Lies (ix : Fin grid0.N → Fin 3 → ℕ) (l : ℕ) : Prop := ∀ t, lies (ix t) l t.val

theorem where_0 : Lies win0_0.index 1 := by decide +kernel
theorem where_1 : Lies win0_1.index 0 := by decide +kernel
theorem where_2 : Lies win0_2.index 1 := by decide +kernel
theorem where_3 : Lies win0_3.index 1 := by decide +kernel
theorem where_4 : Lies win0_4.index 1 := by decide +kernel
theorem where_5 : Lies win0_5.index 1 := by decide +kernel
theorem where_6 : Lies win0_6.index 1 := by decide +kernel
theorem where_7 : Lies win0_7.index 1 := by decide +kernel

section
variable (m : (ℓ : Loc nD τ sig) → Buf (Elt 𝓘) ℓ) (c : Dev nD) (t : Fin cfg0.N)

/-- The arguments. -/
def weight : FVec 𝓘 S2x256x1024 .f32 := m ((c : Thread nD τ).loc main_arg0)
def slots : FVec 𝓘 S8x256x1024 .bf16 := m ((c : Thread nD τ).loc main_arg1)
def first_moment : FVec 𝓘 S2x256x1024 .f32 := m ((c : Thread nD τ).loc main_arg2)
def second_moment : FVec 𝓘 S2x256x1024 .f32 := m ((c : Thread nD τ).loc main_arg3)
def into4 : FVec 𝓘 S2x256x1024 .f32 := m ((c : Thread nD τ).loc main_arg4)
def into5 : FVec 𝓘 S2x256x1024 .f32 := m ((c : Thread nD τ).loc main_arg5)
def into6 : FVec 𝓘 S2x256x1024 .f32 := m ((c : Thread nD τ).loc main_arg6)
def into7 : FVec 𝓘 S2x256x1024 .f32 := m ((c : Thread nD τ).loc main_arg7)

/-- A row of a block, in the whole array. -/
def row (r : Fin 256) : Fin 256 := ⟨t.val * 256 + r.val, by
  have ht : t.val < 1 := lt_of_lt_of_eq t.isLt N_0
  have hr := r.isLt
  omega⟩

theorem in_0 (r : Fin 256) (e : Fin 1024) : iblk m c 0 t (at0 r e : S1x256x1024.Idx) = layer (1 : Fin 2) (weight m c) (row t r) e := by
  obtain ⟨w0, w1, w2⟩ := where_0 t
  show ((cfg0.win 0).blk t).view.read (Elt 𝓘) (V m c main_arg0) _ = _
  rw [V_main_arg0, View.read_apply]
  show weight m c _ = weight m c _
  exact congrArg (weight m c) (index_ext (place0 1 0 w0) (place0 256 r.val w1) (place2 1024 e.val w2))

theorem in_2 (r : Fin 256) (e : Fin 1024) : iblk m c 2 t (at0 r e : S1x256x1024.Idx) = layer (1 : Fin 2) (first_moment m c) (row t r) e := by
  obtain ⟨w0, w1, w2⟩ := where_2 t
  show ((cfg0.win 2).blk t).view.read (Elt 𝓘) (V m c main_arg2) _ = _
  rw [V_main_arg2, View.read_apply]
  show first_moment m c _ = first_moment m c _
  exact congrArg (first_moment m c) (index_ext (place0 1 0 w0) (place0 256 r.val w1) (place2 1024 e.val w2))

theorem in_3 (r : Fin 256) (e : Fin 1024) : iblk m c 3 t (at0 r e : S1x256x1024.Idx) = layer (1 : Fin 2) (second_moment m c) (row t r) e := by
  obtain ⟨w0, w1, w2⟩ := where_3 t
  show ((cfg0.win 3).blk t).view.read (Elt 𝓘) (V m c main_arg3) _ = _
  rw [V_main_arg3, View.read_apply]
  show second_moment m c _ = second_moment m c _
  exact congrArg (second_moment m c) (index_ext (place0 1 0 w0) (place0 256 r.val w1) (place2 1024 e.val w2))

theorem in_1 (k : Fin 8) (r : Fin 256) (e : Fin 1024) : iblk m c 1 t (ix3 k r e : S8x256x1024.Idx) = slots m c (ix3 k (row t r) e) := by
  obtain ⟨w0, w1, w2⟩ := where_1 t
  show ((cfg0.win 1).blk t).view.read (Elt 𝓘) (V m c main_arg1) _ = _
  rw [V_main_arg1, View.read_apply]
  show slots m c _ = slots m c _
  exact congrArg (slots m c) (index_ext (place2 8 k.val w0) (place0 256 r.val w1) (place2 1024 e.val w2))

theorem in_total (r : Fin 256) (e : Fin 1024) :
    ∑ k : Fin 8, (show EReal from iblk m c 1 t (ix3 k r e : S8x256x1024.Idx)) = total (slots m c) (row t r) e :=
  Finset.sum_congr rfl fun k _ => in_1 m c t k r e

/-! ## The arrays after the launch -/

/-- The grid point of a row. -/
theorem point (i : S2x256x1024.Idx) : ∃ t : Fin cfg0.N, t.val = (i 1).val / 256 :=
  ⟨⟨(i 1).val / 256, by have hi : (i 1 : Nat) < 256 := (i 1).isLt; rw [show cfg0.N = 1 from N_0]; omega⟩, rfl⟩

/-- What output 1 holds. -/
def result4 : FVec 𝓘 S2x256x1024 .f32 := gradients 1 (into4 m c) (slots m c)

theorem written4 : (dats m 0 c).flushed 4 t
    = ((cfg0.win 4).blk t).view.read (Elt 𝓘) (result4 m c : Buf (Elt 𝓘) ((c : Thread nD τ).loc main_v0_0)) := by
  obtain ⟨w0, w1, w2⟩ := where_4 t
  rw [Value.flushed4_A m c t]
  funext y
  rw [View.read_apply]
  obtain ⟨r, e, rfl⟩ := in_block y
  refine (out4_at c _ _ _ _ _ _ _ _ _ _ _ _ _ _ _ _ _ _ _ _ _ r e).trans (Eq.trans (in_total m c t r e) ?_)
  show _ = result4 m c _
  unfold result4 gradients
  exact (renewed_new 1 _ _ _ (place0 1 0 w0) (row t r) e (place0 256 r.val w1) (place2 1024 e.val w2)).symm

theorem kept4 : V m c main_v0_0 = into4 m c := by unfold V; after_reads_simp; rfl

theorem array4 : (dats m 0 c).arrAt 4 cfg0.N = (result4 m c : Buf (Elt 𝓘) ((c : Thread nD τ).loc main_v0_0)) := by
  funext i
  by_cases h : (i 0).val = 1
  · obtain ⟨t, ht⟩ := point i
    refine (dats m 0 c).arrAt_apply_of_mem 4 (result4 m c) (fun t _ => written4 m c t) cfg0.N t i t.isLt (flush0_4 t) ?_
    show i ∈ ((View.whole main_v0_0).slice (win0_4.rect t)).set
    rw [View.set_slice_whole, Rect.mem_set_unit]
    exact inside (by decide) _ (where_4 t) i h ht
  · refine (Value.entry4 m c i fun t _ hi => h ?_).trans ((congrFun (kept4 m c) i).trans (renewed_old 1 _ _ i h).symm)
    have hm : i ∈ ((View.whole main_v0_0).slice (win0_4.rect t)).set := hi
    rw [View.set_slice_whole, Rect.mem_set_unit] at hm
    exact outside (where_4 t) hm

/-- What output 2 holds. -/
def result5 : FVec 𝓘 S2x256x1024 .f32 := changes 1 (weight m c) (first_moment m c) (second_moment m c) (into5 m c) (slots m c)

theorem written5 : (dats m 0 c).flushed 5 t
    = ((cfg0.win 5).blk t).view.read (Elt 𝓘) (result5 m c : Buf (Elt 𝓘) ((c : Thread nD τ).loc main_v0_1)) := by
  obtain ⟨w0, w1, w2⟩ := where_5 t
  rw [Value.flushed5_A m c t]
  funext y
  rw [View.read_apply]
  obtain ⟨r, e, rfl⟩ := in_block y
  refine (out5_at c _ _ _ _ _ _ _ _ _ _ _ _ _ _ _ _ _ _ _ _ _ r e).trans (Eq.trans (change_congr (in_0 m c t r e) (in_2 m c t r e) (in_3 m c t r e) (in_total m c t r e)) ?_)
  show _ = result5 m c _
  exact Eq.symm (changes_new (r := row t r) (c := e) (place0 1 0 w0) (place0 256 r.val w1) (place2 1024 e.val w2))

theorem kept5 : V m c main_v0_1 = into5 m c := by unfold V; after_reads_simp; rfl

theorem array5 : (dats m 0 c).arrAt 5 cfg0.N = (result5 m c : Buf (Elt 𝓘) ((c : Thread nD τ).loc main_v0_1)) := by
  funext i
  by_cases h : (i 0).val = 1
  · obtain ⟨t, ht⟩ := point i
    refine (dats m 0 c).arrAt_apply_of_mem 5 (result5 m c) (fun t _ => written5 m c t) cfg0.N t i t.isLt (flush0_5 t) ?_
    show i ∈ ((View.whole main_v0_1).slice (win0_5.rect t)).set
    rw [View.set_slice_whole, Rect.mem_set_unit]
    exact inside (by decide) _ (where_5 t) i h ht
  · refine (Value.entry5 m c i fun t _ hi => h ?_).trans ((congrFun (kept5 m c) i).trans (changes_old h).symm)
    have hm : i ∈ ((View.whole main_v0_1).slice (win0_5.rect t)).set := hi
    rw [View.set_slice_whole, Rect.mem_set_unit] at hm
    exact outside (where_5 t) hm

/-- What output 3 holds. -/
def result6 : FVec 𝓘 S2x256x1024 .f32 := firsts 1 (first_moment m c) (into6 m c) (slots m c)

theorem written6 : (dats m 0 c).flushed 6 t
    = ((cfg0.win 6).blk t).view.read (Elt 𝓘) (result6 m c : Buf (Elt 𝓘) ((c : Thread nD τ).loc main_v0_2)) := by
  obtain ⟨w0, w1, w2⟩ := where_6 t
  rw [Value.flushed6_A m c t]
  funext y
  rw [View.read_apply]
  obtain ⟨r, e, rfl⟩ := in_block y
  refine (out6_at c _ _ _ _ _ _ _ _ _ _ _ _ _ _ _ _ _ _ _ _ _ r e).trans (Eq.trans (congrArg₂ first (in_2 m c t r e) (in_total m c t r e)) ?_)
  show _ = result6 m c _
  exact Eq.symm (firsts_new (r := row t r) (c := e) (place0 1 0 w0) (place0 256 r.val w1) (place2 1024 e.val w2))

theorem kept6 : V m c main_v0_2 = into6 m c := by unfold V; after_reads_simp; rfl

theorem array6 : (dats m 0 c).arrAt 6 cfg0.N = (result6 m c : Buf (Elt 𝓘) ((c : Thread nD τ).loc main_v0_2)) := by
  funext i
  by_cases h : (i 0).val = 1
  · obtain ⟨t, ht⟩ := point i
    refine (dats m 0 c).arrAt_apply_of_mem 6 (result6 m c) (fun t _ => written6 m c t) cfg0.N t i t.isLt (flush0_6 t) ?_
    show i ∈ ((View.whole main_v0_2).slice (win0_6.rect t)).set
    rw [View.set_slice_whole, Rect.mem_set_unit]
    exact inside (by decide) _ (where_6 t) i h ht
  · refine (Value.entry6 m c i fun t _ hi => h ?_).trans ((congrFun (kept6 m c) i).trans (firsts_old h).symm)
    have hm : i ∈ ((View.whole main_v0_2).slice (win0_6.rect t)).set := hi
    rw [View.set_slice_whole, Rect.mem_set_unit] at hm
    exact outside (where_6 t) hm

/-- What output 4 holds. -/
def result7 : FVec 𝓘 S2x256x1024 .f32 := seconds 1 (second_moment m c) (into7 m c) (slots m c)

theorem written7 : (dats m 0 c).flushed 7 t
    = ((cfg0.win 7).blk t).view.read (Elt 𝓘) (result7 m c : Buf (Elt 𝓘) ((c : Thread nD τ).loc main_v0_3)) := by
  obtain ⟨w0, w1, w2⟩ := where_7 t
  rw [Value.flushed7_A m c t]
  funext y
  rw [View.read_apply]
  obtain ⟨r, e, rfl⟩ := in_block y
  refine (out7_at c _ _ _ _ _ _ _ _ _ _ _ _ _ _ _ _ _ _ _ _ _ r e).trans (Eq.trans (congrArg₂ second (in_3 m c t r e) (in_total m c t r e)) ?_)
  show _ = result7 m c _
  exact Eq.symm (seconds_new (r := row t r) (c := e) (place0 1 0 w0) (place0 256 r.val w1) (place2 1024 e.val w2))

theorem kept7 : V m c main_v0_3 = into7 m c := by unfold V; after_reads_simp; rfl

theorem array7 : (dats m 0 c).arrAt 7 cfg0.N = (result7 m c : Buf (Elt 𝓘) ((c : Thread nD τ).loc main_v0_3)) := by
  funext i
  by_cases h : (i 0).val = 1
  · obtain ⟨t, ht⟩ := point i
    refine (dats m 0 c).arrAt_apply_of_mem 7 (result7 m c) (fun t _ => written7 m c t) cfg0.N t i t.isLt (flush0_7 t) ?_
    show i ∈ ((View.whole main_v0_3).slice (win0_7.rect t)).set
    rw [View.set_slice_whole, Rect.mem_set_unit]
    exact inside (by decide) _ (where_7 t) i h ht
  · refine (Value.entry7 m c i fun t _ hi => h ?_).trans ((congrFun (kept7 m c) i).trans (seconds_old h).symm)
    have hm : i ∈ ((View.whole main_v0_3).slice (win0_7.rect t)).set := hi
    rw [View.set_slice_whole, Rect.mem_set_unit] at hm
    exact outside (where_7 t) hm

end

/-! ## The reference -/

section
variable (w a b old : FVec 𝓘 S2x256x1024 .f32) (g : FVec 𝓘 S8x256x1024 .bf16)

theorem ref_total (r : Fin 256) (c : Fin 1024) : val_main_v3 (F := 𝓘) g (ix2 r c) = total g r c := by
  refine (val_main_v3_apply g (ix2 r c)).trans ?_
  show Ideal.ofBits .f32 0x00000000#32 + ∑ k : Fin 8, g (idx_main_v3 (ix2 r c) k) = _
  rw [Ideal.ofBits_zero_f32, zero_add]
  refine Finset.sum_congr rfl fun k _ => congrArg g (funext fun a => ?_)
  match a with
  | ⟨0, _⟩ => rfl
  | ⟨1, _⟩ => rfl
  | ⟨2, _⟩ => rfl

theorem ref_first (r : Fin 256) (c : Fin 1024) : val_main_v12 (F := 𝓘) g a (ix2 r c) = first (layer 1 a r c) (total g r c) :=
  congrArg₂ first (cut_layer 1 a _ rfl _ _ r c) (ref_total g r c)

theorem ref_second (r : Fin 256) (c : Fin 1024) : val_main_v18 (F := 𝓘) g b (ix2 r c) = second (layer 1 b r c) (total g r c) :=
  congrArg₂ second (cut_layer 1 b _ rfl _ _ r c) (ref_total g r c)

theorem ref_change (r : Fin 256) (c : Fin 1024) :
    val_main_v31 (F := 𝓘) w g a b (ix2 r c) = change (layer 1 w r c) (layer 1 a r c) (layer 1 b r c) (total g r c) :=
  change_congr (cut_layer 1 w _ rfl _ _ r c) (cut_layer 1 a _ rfl _ _ r c) (cut_layer 1 b _ rfl _ _ r c) (ref_total g r c)

/-- The other layer, cut out and made a block again. -/
theorem ref_old (hs : S2x256x1024.Slices ![0, 0, 0] S1x256x1024) (hc : S1x256x1024.ShapeCasts S256x1024)
    (hb : S256x1024.BroadcastsInDim S1x256x1024 ![1, 2]) (r : Fin 256) (c : Fin 1024) :
    broadcastInDim S1x256x1024 ![1, 2] hb (shapeCast S256x1024 (extractStridedSlice S1x256x1024 ![0, 0, 0] old hs) hc) (at0 r c) = layer 0 old r c :=
  (lifted _ hb (by decide) (by decide) r c).trans (cut_layer 0 old _ rfl hs hc r c)

theorem reference4 : val_main_v36 (F := 𝓘) g old = gradients 1 old g :=
  stack_new _ _ _ _ old (fun r c => ref_old old _ _ _ r c) (fun r c => (lifted _ _ (by decide) (by decide) r c).trans (ref_total g r c))

theorem reference5 : val_main_v41 (F := 𝓘) w g a b old = changes 1 w a b old g :=
  stack_new _ _ _ _ old (fun r c => ref_old old _ _ _ r c) (fun r c => (lifted _ _ (by decide) (by decide) r c).trans (ref_change w a b g r c))

theorem reference6 : val_main_v46 (F := 𝓘) g a old = firsts 1 a old g :=
  stack_new _ _ _ _ old (fun r c => ref_old old _ _ _ r c) (fun r c => (lifted _ _ (by decide) (by decide) r c).trans (ref_first a g r c))

theorem reference7 : val_main_v51 (F := 𝓘) g b old = seconds 1 b old g :=
  stack_new _ _ _ _ old (fun r c => ref_old old _ _ _ r c) (fun r c => (lifted _ _ (by decide) (by decide) r c).trans (ref_second b g r c))

end

theorem reference_frame : Cert.quiescent_Reference23Ideal (hReference23Ideal := Cert.Reference23Ideal.Gen.facts) := by
  intro m g _
  exact (θ_run Cert.Reference23Ideal.defs _ _).mono (fun r h => ⟨fun c => (h c).2.2.2.2, sem_eq_zero_of_no_sems (by decide) r.2⟩)
    (Cert.Reference23Ideal.Value.run m g)

/-! ## The equation -/

theorem equal : Cert.algebraic_Kernel23Ideal_Reference23Ideal (hKernel23Ideal := Cert.Kernel23Ideal.Gen.facts)
    (hReference23Ideal := Cert.Reference23Ideal.Gen.facts) := by
  intro m ρ m' ρ' _ hag
  refine ⟨fun c => result4 m c, fun c => result5 m c, fun c => result6 m c, fun c => result7 m c, ?_, ?_⟩
  · refine (θ_run Cert.Kernel23Ideal.defs _ _).mono (fun r h c => ?_) (Value.run_blocks m ρ)
    obtain ⟨h4, h5, h6, h7, h⟩ := h c
    exact ⟨h4.trans (array4 m c), h5.trans (array5 m c), h6.trans (array6 m c), h7.trans (array7 m c), h⟩
  · refine (θ_run Cert.Reference23Ideal.defs _ _).mono (fun r h c => ?_) (Cert.Reference23Ideal.Value.run m' ρ')
    obtain ⟨aw, ag, aa, ab, a4, a5, a6, a7⟩ := hag c
    obtain ⟨h4, h5, h6, h7, h⟩ := h c
    refine ⟨h4.trans ((val_main_v36_eq _ _).trans ?_), h5.trans ((val_main_v41_eq _ _ _ _ _).trans ?_),
      h6.trans ((val_main_v46_eq _ _ _).trans ?_), h7.trans ((val_main_v51_eq _ _ _).trans ?_), h⟩
    · rw [reference4, ag, a4]; rfl
    · rw [reference5, aw, ag, aa, ab, a5]; rfl
    · rw [reference6, ag, aa, a6]; rfl
    · rw [reference7, ag, ab, a7]; rfl

end Cert.Adam23

end
-- ==== Proof.Adam24.lean ====
/- The optimiser's call for one layer of the gated unit's weight: the gradient summed over the devices' shares, the
   change and the two moments, the other layer passed through; and the reference's. -/
module

public import proofs.«01_k».proof.Defs
public import proofs.«01_k».proof.Proof.Adam
public import proofs.«01_k».proof.Proof.Gen.Kernel24.Frame
public import proofs.«01_k».proof.Proof.Gen.Kernel24Ideal.Value
public import proofs.«01_k».proof.Proof.Gen.Reference24Ideal.Read
public import proofs.«01_k».proof.Proof.Gen.Reference24Ideal

@[expose] public section

set_option maxRecDepth 16384

noncomputable section

namespace Cert.Adam24

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles Cert.Adam
open Cert.Kernel24Ideal Cert.Kernel24Ideal.Gen
open Cert.Reference24Ideal.Read

local notation "𝓘" => Idealize.ShloMosaic.Ideal

/-! ## One grid point -/

/-- The eight shares, added from the left. -/
theorem shares_at (v : Fin 8 → FVec 𝓘 S1x64x512 .bf16) (r : Fin 64) (e : Fin 512) :
    k0_pay3 (F := 𝓘) (v 0) (v 1) (v 2) (v 3) (v 4) (v 5) (v 6) (v 7) (ix2 r e) = ∑ k : Fin 8, v k (at0 r e) :=
  eight (a := fun k => (shapeCast S64x512 (v k) shapeCasts_S1x64x512_S64x512 : S64x512.Idx → EReal) (ix2 r e)) fun k => unstacked (v k) _ r e

theorem first_at (g : FVec 𝓘 S64x512 .f32) (a : FVec 𝓘 S1x64x512 .f32) (r : Fin 64) (e : Fin 512) :
    k0_pay4 (F := 𝓘) g a (ix2 r e) = first (a (at0 r e)) (g (ix2 r e)) :=
  congrArg (fun x => first x (g (ix2 r e))) (unstacked a _ r e)

theorem second_at (g : FVec 𝓘 S64x512 .f32) (b : FVec 𝓘 S1x64x512 .f32) (r : Fin 64) (e : Fin 512) :
    k0_pay5 (F := 𝓘) g b (ix2 r e) = second (b (at0 r e)) (g (ix2 r e)) :=
  congrArg (fun x => second x (g (ix2 r e))) (unstacked b _ r e)

theorem change_at (g : FVec 𝓘 S64x512 .f32) (w a b : FVec 𝓘 S1x64x512 .f32) (r : Fin 64) (e : Fin 512) :
    k0_pay7 (F := 𝓘) g a b w (at0 r e)
      = change (w (at0 r e)) (a (at0 r e)) (b (at0 r e)) (g (ix2 r e)) := by
  unfold k0_pay7
  exact (stacked _ _ r e).trans
    (change_congr (unstacked w _ r e) (unstacked a _ r e) (unstacked b _ r e) rfl)

section
variable (c : Dev nD) (i : grid0.Coords) (arg1 : Memref sig .tc .vmem S1x64x512 .f32) (harg1 : arg1.IsWhole)
  (arg2 : Memref sig .tc .vmem S8x64x512 .bf16) (harg2 : arg2.IsWhole)
  (arg3 : Memref sig .tc .vmem S1x64x512 .f32) (harg3 : arg3.IsWhole)
  (arg4 : Memref sig .tc .vmem S1x64x512 .f32) (harg4 : arg4.IsWhole)
  (arg9 : Memref sig .tc .vmem S1x64x512 .f32) (harg9 : arg9.IsWhole)
  (arg10 : Memref sig .tc .vmem S1x64x512 .f32) (harg10 : arg10.IsWhole)
  (arg11 : Memref sig .tc .vmem S1x64x512 .f32) (harg11 : arg11.IsWhole)
  (arg12 : Memref sig .tc .vmem S1x64x512 .f32) (harg12 : arg12.IsWhole)
  (x0 : Vec 𝓘 S1x64x512 .f32) (x1 : Vec 𝓘 S8x64x512 .bf16) (x2 x3 : Vec 𝓘 S1x64x512 .f32)

/-- One of the shares, loaded. -/
def share (b : Fin 8) : FVec 𝓘 S1x64x512 .bf16 := fun i => x1 (ix3 b ⟨(i 1).val, (i 1).isLt⟩ ⟨(i 2).val, (i 2).isLt⟩)

theorem load_share (b : Fin 8) (off : Fin 3 → ℕ) (h0 : off = ![b.val, 0, 0])
    (inb : ∀ d, off d + S1x64x512.size d ≤ S8x64x512.size d) :
    (View.readAt (Elt 𝓘) arg2.view (Rect.unit (s := S8x64x512) off S1x64x512.size inb).toLoadRect (harg2.unread x1) : Vec 𝓘 S1x64x512 .bf16)
      = share x1 b := by
  funext i
  obtain ⟨r, e, rfl⟩ := in_block i
  exact load_part arg2 harg2 x1 b off h0 inb r e

/-- The gradient's block. -/
def block : FVec 𝓘 S64x512 .f32 := k0_pay3 (F := 𝓘) (share x1 0) (share x1 1) (share x1 2) (share x1 3) (share x1 4) (share x1 5) (share x1 6) (share x1 7)

theorem block_at (r : Fin 64) (e : Fin 512) : block x1 (ix2 r e) = ∑ k : Fin 8, x1 (ix3 k r e) := shares_at (share x1) r e

theorem out4_at (r : Fin 64) (e : Fin 512) :
    out0_A_4 (F := 𝓘) c i arg1 harg1 arg2 harg2 arg3 harg3 arg4 harg4 arg9 harg9 arg10 harg10 arg11 harg11 arg12 harg12 x0 x1 x2 x3 (at0 r e)
      = ∑ k : Fin 8, x1 (ix3 k r e) := by
  unfold out0_A_4 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl]
  exact (stacked _ _ r e).trans (block_at x1 r e)

theorem out5_at (r : Fin 64) (e : Fin 512) :
    out0_A_5 (F := 𝓘) c i arg1 harg1 arg2 harg2 arg3 harg3 arg4 harg4 arg9 harg9 arg10 harg10 arg11 harg11 arg12 harg12 x0 x1 x2 x3 (at0 r e)
      = change (x0 (at0 r e)) (x2 (at0 r e)) (x3 (at0 r e)) (∑ k : Fin 8, x1 (ix3 k r e)) := by
  unfold out0_A_5 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl,
    load_all (S := S1x64x512) arg1 harg1 x0 _ off3, load_all (S := S1x64x512) arg3 harg3 x2 _ off3, load_all (S := S1x64x512) arg4 harg4 x3 _ off3]
  exact (change_at (block x1) x0 x2 x3 r e).trans (change_congr rfl rfl rfl (block_at x1 r e))

theorem out6_at (r : Fin 64) (e : Fin 512) :
    out0_A_6 (F := 𝓘) c i arg1 harg1 arg2 harg2 arg3 harg3 arg4 harg4 arg9 harg9 arg10 harg10 arg11 harg11 arg12 harg12 x0 x1 x2 x3 (at0 r e)
      = first (x2 (at0 r e)) (∑ k : Fin 8, x1 (ix3 k r e)) := by
  unfold out0_A_6 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x64x512) arg3 harg3 x2 _ off3]
  exact (stacked _ _ r e).trans ((first_at (block x1) x2 r e).trans (congrArg (first _) (block_at x1 r e)))

theorem out7_at (r : Fin 64) (e : Fin 512) :
    out0_A_7 (F := 𝓘) c i arg1 harg1 arg2 harg2 arg3 harg3 arg4 harg4 arg9 harg9 arg10 harg10 arg11 harg11 arg12 harg12 x0 x1 x2 x3 (at0 r e)
      = second (x3 (at0 r e)) (∑ k : Fin 8, x1 (ix3 k r e)) := by
  unfold out0_A_7 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x64x512) arg4 harg4 x3 _ off3]
  exact (stacked _ _ r e).trans ((second_at (block x1) x3 r e).trans (congrArg (second _) (block_at x1 r e)))

end

/-! ## The blocks of the arrays -/

abbrev Lies (ix : Fin grid0.N → Fin 3 → ℕ) (l : ℕ) : Prop := ∀ t, lies (ix t) l t.val

theorem where_0 : Lies win0_0.index 0 := by decide +kernel
theorem where_1 : Lies win0_1.index 0 := by decide +kernel
theorem where_2 : Lies win0_2.index 0 := by decide +kernel
theorem where_3 : Lies win0_3.index 0 := by decide +kernel
theorem where_4 : Lies win0_4.index 0 := by decide +kernel
theorem where_5 : Lies win0_5.index 0 := by decide +kernel
theorem where_6 : Lies win0_6.index 0 := by decide +kernel
theorem where_7 : Lies win0_7.index 0 := by decide +kernel

section
variable (m : (ℓ : Loc nD τ sig) → Buf (Elt 𝓘) ℓ) (c : Dev nD) (t : Fin cfg0.N)

/-- The arguments. -/
def weight : FVec 𝓘 S2x64x512 .f32 := m ((c : Thread nD τ).loc main_arg0)
def slots : FVec 𝓘 S8x64x512 .bf16 := m ((c : Thread nD τ).loc main_arg1)
def first_moment : FVec 𝓘 S2x64x512 .f32 := m ((c : Thread nD τ).loc main_arg2)
def second_moment : FVec 𝓘 S2x64x512 .f32 := m ((c : Thread nD τ).loc main_arg3)
def into4 : FVec 𝓘 S2x64x512 .f32 := m ((c : Thread nD τ).loc main_arg4)
def into5 : FVec 𝓘 S2x64x512 .f32 := m ((c : Thread nD τ).loc main_arg5)
def into6 : FVec 𝓘 S2x64x512 .f32 := m ((c : Thread nD τ).loc main_arg6)
def into7 : FVec 𝓘 S2x64x512 .f32 := m ((c : Thread nD τ).loc main_arg7)

/-- A row of a block, in the whole array. -/
def row (r : Fin 64) : Fin 64 := ⟨t.val * 64 + r.val, by
  have ht : t.val < 1 := lt_of_lt_of_eq t.isLt N_0
  have hr := r.isLt
  omega⟩

theorem in_0 (r : Fin 64) (e : Fin 512) : iblk m c 0 t (at0 r e : S1x64x512.Idx) = layer (0 : Fin 2) (weight m c) (row t r) e := by
  obtain ⟨w0, w1, w2⟩ := where_0 t
  show ((cfg0.win 0).blk t).view.read (Elt 𝓘) (V m c main_arg0) _ = _
  rw [V_main_arg0, View.read_apply]
  show weight m c _ = weight m c _
  exact congrArg (weight m c) (index_ext (place0 1 0 w0) (place0 64 r.val w1) (place2 512 e.val w2))

theorem in_2 (r : Fin 64) (e : Fin 512) : iblk m c 2 t (at0 r e : S1x64x512.Idx) = layer (0 : Fin 2) (first_moment m c) (row t r) e := by
  obtain ⟨w0, w1, w2⟩ := where_2 t
  show ((cfg0.win 2).blk t).view.read (Elt 𝓘) (V m c main_arg2) _ = _
  rw [V_main_arg2, View.read_apply]
  show first_moment m c _ = first_moment m c _
  exact congrArg (first_moment m c) (index_ext (place0 1 0 w0) (place0 64 r.val w1) (place2 512 e.val w2))

theorem in_3 (r : Fin 64) (e : Fin 512) : iblk m c 3 t (at0 r e : S1x64x512.Idx) = layer (0 : Fin 2) (second_moment m c) (row t r) e := by
  obtain ⟨w0, w1, w2⟩ := where_3 t
  show ((cfg0.win 3).blk t).view.read (Elt 𝓘) (V m c main_arg3) _ = _
  rw [V_main_arg3, View.read_apply]
  show second_moment m c _ = second_moment m c _
  exact congrArg (second_moment m c) (index_ext (place0 1 0 w0) (place0 64 r.val w1) (place2 512 e.val w2))

theorem in_1 (k : Fin 8) (r : Fin 64) (e : Fin 512) : iblk m c 1 t (ix3 k r e : S8x64x512.Idx) = slots m c (ix3 k (row t r) e) := by
  obtain ⟨w0, w1, w2⟩ := where_1 t
  show ((cfg0.win 1).blk t).view.read (Elt 𝓘) (V m c main_arg1) _ = _
  rw [V_main_arg1, View.read_apply]
  show slots m c _ = slots m c _
  exact congrArg (slots m c) (index_ext (place2 8 k.val w0) (place0 64 r.val w1) (place2 512 e.val w2))

theorem in_total (r : Fin 64) (e : Fin 512) :
    ∑ k : Fin 8, (show EReal from iblk m c 1 t (ix3 k r e : S8x64x512.Idx)) = total (slots m c) (row t r) e :=
  Finset.sum_congr rfl fun k _ => in_1 m c t k r e

/-! ## The arrays after the launch -/

/-- The grid point of a row. -/
theorem point (i : S2x64x512.Idx) : ∃ t : Fin cfg0.N, t.val = (i 1).val / 64 :=
  ⟨⟨(i 1).val / 64, by have hi : (i 1 : Nat) < 64 := (i 1).isLt; rw [show cfg0.N = 1 from N_0]; omega⟩, rfl⟩

/-- What output 1 holds. -/
def result4 : FVec 𝓘 S2x64x512 .f32 := gradients 0 (into4 m c) (slots m c)

theorem written4 : (dats m 0 c).flushed 4 t
    = ((cfg0.win 4).blk t).view.read (Elt 𝓘) (result4 m c : Buf (Elt 𝓘) ((c : Thread nD τ).loc main_v0_0)) := by
  obtain ⟨w0, w1, w2⟩ := where_4 t
  rw [Value.flushed4_A m c t]
  funext y
  rw [View.read_apply]
  obtain ⟨r, e, rfl⟩ := in_block y
  refine (out4_at c _ _ _ _ _ _ _ _ _ _ _ _ _ _ _ _ _ _ _ _ _ r e).trans (Eq.trans (in_total m c t r e) ?_)
  show _ = result4 m c _
  unfold result4 gradients
  exact (renewed_new 0 _ _ _ (place0 1 0 w0) (row t r) e (place0 64 r.val w1) (place2 512 e.val w2)).symm

theorem kept4 : V m c main_v0_0 = into4 m c := by unfold V; after_reads_simp; rfl

theorem array4 : (dats m 0 c).arrAt 4 cfg0.N = (result4 m c : Buf (Elt 𝓘) ((c : Thread nD τ).loc main_v0_0)) := by
  funext i
  by_cases h : (i 0).val = 0
  · obtain ⟨t, ht⟩ := point i
    refine (dats m 0 c).arrAt_apply_of_mem 4 (result4 m c) (fun t _ => written4 m c t) cfg0.N t i t.isLt (flush0_4 t) ?_
    show i ∈ ((View.whole main_v0_0).slice (win0_4.rect t)).set
    rw [View.set_slice_whole, Rect.mem_set_unit]
    exact inside (by decide) _ (where_4 t) i h ht
  · refine (Value.entry4 m c i fun t _ hi => h ?_).trans ((congrFun (kept4 m c) i).trans (renewed_old 0 _ _ i h).symm)
    have hm : i ∈ ((View.whole main_v0_0).slice (win0_4.rect t)).set := hi
    rw [View.set_slice_whole, Rect.mem_set_unit] at hm
    exact outside (where_4 t) hm

/-- What output 2 holds. -/
def result5 : FVec 𝓘 S2x64x512 .f32 := changes 0 (weight m c) (first_moment m c) (second_moment m c) (into5 m c) (slots m c)

theorem written5 : (dats m 0 c).flushed 5 t
    = ((cfg0.win 5).blk t).view.read (Elt 𝓘) (result5 m c : Buf (Elt 𝓘) ((c : Thread nD τ).loc main_v0_1)) := by
  obtain ⟨w0, w1, w2⟩ := where_5 t
  rw [Value.flushed5_A m c t]
  funext y
  rw [View.read_apply]
  obtain ⟨r, e, rfl⟩ := in_block y
  refine (out5_at c _ _ _ _ _ _ _ _ _ _ _ _ _ _ _ _ _ _ _ _ _ r e).trans (Eq.trans (change_congr (in_0 m c t r e) (in_2 m c t r e) (in_3 m c t r e) (in_total m c t r e)) ?_)
  show _ = result5 m c _
  exact Eq.symm (changes_new (r := row t r) (c := e) (place0 1 0 w0) (place0 64 r.val w1) (place2 512 e.val w2))

theorem kept5 : V m c main_v0_1 = into5 m c := by unfold V; after_reads_simp; rfl

theorem array5 : (dats m 0 c).arrAt 5 cfg0.N = (result5 m c : Buf (Elt 𝓘) ((c : Thread nD τ).loc main_v0_1)) := by
  funext i
  by_cases h : (i 0).val = 0
  · obtain ⟨t, ht⟩ := point i
    refine (dats m 0 c).arrAt_apply_of_mem 5 (result5 m c) (fun t _ => written5 m c t) cfg0.N t i t.isLt (flush0_5 t) ?_
    show i ∈ ((View.whole main_v0_1).slice (win0_5.rect t)).set
    rw [View.set_slice_whole, Rect.mem_set_unit]
    exact inside (by decide) _ (where_5 t) i h ht
  · refine (Value.entry5 m c i fun t _ hi => h ?_).trans ((congrFun (kept5 m c) i).trans (changes_old h).symm)
    have hm : i ∈ ((View.whole main_v0_1).slice (win0_5.rect t)).set := hi
    rw [View.set_slice_whole, Rect.mem_set_unit] at hm
    exact outside (where_5 t) hm

/-- What output 3 holds. -/
def result6 : FVec 𝓘 S2x64x512 .f32 := firsts 0 (first_moment m c) (into6 m c) (slots m c)

theorem written6 : (dats m 0 c).flushed 6 t
    = ((cfg0.win 6).blk t).view.read (Elt 𝓘) (result6 m c : Buf (Elt 𝓘) ((c : Thread nD τ).loc main_v0_2)) := by
  obtain ⟨w0, w1, w2⟩ := where_6 t
  rw [Value.flushed6_A m c t]
  funext y
  rw [View.read_apply]
  obtain ⟨r, e, rfl⟩ := in_block y
  refine (out6_at c _ _ _ _ _ _ _ _ _ _ _ _ _ _ _ _ _ _ _ _ _ r e).trans (Eq.trans (congrArg₂ first (in_2 m c t r e) (in_total m c t r e)) ?_)
  show _ = result6 m c _
  exact Eq.symm (firsts_new (r := row t r) (c := e) (place0 1 0 w0) (place0 64 r.val w1) (place2 512 e.val w2))

theorem kept6 : V m c main_v0_2 = into6 m c := by unfold V; after_reads_simp; rfl

theorem array6 : (dats m 0 c).arrAt 6 cfg0.N = (result6 m c : Buf (Elt 𝓘) ((c : Thread nD τ).loc main_v0_2)) := by
  funext i
  by_cases h : (i 0).val = 0
  · obtain ⟨t, ht⟩ := point i
    refine (dats m 0 c).arrAt_apply_of_mem 6 (result6 m c) (fun t _ => written6 m c t) cfg0.N t i t.isLt (flush0_6 t) ?_
    show i ∈ ((View.whole main_v0_2).slice (win0_6.rect t)).set
    rw [View.set_slice_whole, Rect.mem_set_unit]
    exact inside (by decide) _ (where_6 t) i h ht
  · refine (Value.entry6 m c i fun t _ hi => h ?_).trans ((congrFun (kept6 m c) i).trans (firsts_old h).symm)
    have hm : i ∈ ((View.whole main_v0_2).slice (win0_6.rect t)).set := hi
    rw [View.set_slice_whole, Rect.mem_set_unit] at hm
    exact outside (where_6 t) hm

/-- What output 4 holds. -/
def result7 : FVec 𝓘 S2x64x512 .f32 := seconds 0 (second_moment m c) (into7 m c) (slots m c)

theorem written7 : (dats m 0 c).flushed 7 t
    = ((cfg0.win 7).blk t).view.read (Elt 𝓘) (result7 m c : Buf (Elt 𝓘) ((c : Thread nD τ).loc main_v0_3)) := by
  obtain ⟨w0, w1, w2⟩ := where_7 t
  rw [Value.flushed7_A m c t]
  funext y
  rw [View.read_apply]
  obtain ⟨r, e, rfl⟩ := in_block y
  refine (out7_at c _ _ _ _ _ _ _ _ _ _ _ _ _ _ _ _ _ _ _ _ _ r e).trans (Eq.trans (congrArg₂ second (in_3 m c t r e) (in_total m c t r e)) ?_)
  show _ = result7 m c _
  exact Eq.symm (seconds_new (r := row t r) (c := e) (place0 1 0 w0) (place0 64 r.val w1) (place2 512 e.val w2))

theorem kept7 : V m c main_v0_3 = into7 m c := by unfold V; after_reads_simp; rfl

theorem array7 : (dats m 0 c).arrAt 7 cfg0.N = (result7 m c : Buf (Elt 𝓘) ((c : Thread nD τ).loc main_v0_3)) := by
  funext i
  by_cases h : (i 0).val = 0
  · obtain ⟨t, ht⟩ := point i
    refine (dats m 0 c).arrAt_apply_of_mem 7 (result7 m c) (fun t _ => written7 m c t) cfg0.N t i t.isLt (flush0_7 t) ?_
    show i ∈ ((View.whole main_v0_3).slice (win0_7.rect t)).set
    rw [View.set_slice_whole, Rect.mem_set_unit]
    exact inside (by decide) _ (where_7 t) i h ht
  · refine (Value.entry7 m c i fun t _ hi => h ?_).trans ((congrFun (kept7 m c) i).trans (seconds_old h).symm)
    have hm : i ∈ ((View.whole main_v0_3).slice (win0_7.rect t)).set := hi
    rw [View.set_slice_whole, Rect.mem_set_unit] at hm
    exact outside (where_7 t) hm

end

/-! ## The reference -/

section
variable (w a b old : FVec 𝓘 S2x64x512 .f32) (g : FVec 𝓘 S8x64x512 .bf16)

theorem ref_total (r : Fin 64) (c : Fin 512) : val_main_v3 (F := 𝓘) g (ix2 r c) = total g r c := by
  refine (val_main_v3_apply g (ix2 r c)).trans ?_
  show Ideal.ofBits .f32 0x00000000#32 + ∑ k : Fin 8, g (idx_main_v3 (ix2 r c) k) = _
  rw [Ideal.ofBits_zero_f32, zero_add]
  refine Finset.sum_congr rfl fun k _ => congrArg g (funext fun a => ?_)
  match a with
  | ⟨0, _⟩ => rfl
  | ⟨1, _⟩ => rfl
  | ⟨2, _⟩ => rfl

theorem ref_first (r : Fin 64) (c : Fin 512) : val_main_v12 (F := 𝓘) g a (ix2 r c) = first (layer 0 a r c) (total g r c) :=
  congrArg₂ first (cut_layer 0 a _ rfl _ _ r c) (ref_total g r c)

theorem ref_second (r : Fin 64) (c : Fin 512) : val_main_v18 (F := 𝓘) g b (ix2 r c) = second (layer 0 b r c) (total g r c) :=
  congrArg₂ second (cut_layer 0 b _ rfl _ _ r c) (ref_total g r c)

theorem ref_change (r : Fin 64) (c : Fin 512) :
    val_main_v31 (F := 𝓘) w g a b (ix2 r c) = change (layer 0 w r c) (layer 0 a r c) (layer 0 b r c) (total g r c) :=
  change_congr (cut_layer 0 w _ rfl _ _ r c) (cut_layer 0 a _ rfl _ _ r c) (cut_layer 0 b _ rfl _ _ r c) (ref_total g r c)

/-- The other layer, cut out and made a block again. -/
theorem ref_old (hs : S2x64x512.Slices ![1, 0, 0] S1x64x512) (hc : S1x64x512.ShapeCasts S64x512)
    (hb : S64x512.BroadcastsInDim S1x64x512 ![1, 2]) (r : Fin 64) (c : Fin 512) :
    broadcastInDim S1x64x512 ![1, 2] hb (shapeCast S64x512 (extractStridedSlice S1x64x512 ![1, 0, 0] old hs) hc) (at0 r c) = layer 1 old r c :=
  (lifted _ hb (by decide) (by decide) r c).trans (cut_layer 1 old _ rfl hs hc r c)

theorem reference4 : val_main_v36 (F := 𝓘) g old = gradients 0 old g :=
  new_stack _ _ _ _ old (fun r c => (lifted _ _ (by decide) (by decide) r c).trans (ref_total g r c)) (fun r c => ref_old old _ _ _ r c)

theorem reference5 : val_main_v41 (F := 𝓘) w g a b old = changes 0 w a b old g :=
  new_stack _ _ _ _ old (fun r c => (lifted _ _ (by decide) (by decide) r c).trans (ref_change w a b g r c)) (fun r c => ref_old old _ _ _ r c)

theorem reference6 : val_main_v46 (F := 𝓘) g a old = firsts 0 a old g :=
  new_stack _ _ _ _ old (fun r c => (lifted _ _ (by decide) (by decide) r c).trans (ref_first a g r c)) (fun r c => ref_old old _ _ _ r c)

theorem reference7 : val_main_v51 (F := 𝓘) g b old = seconds 0 b old g :=
  new_stack _ _ _ _ old (fun r c => (lifted _ _ (by decide) (by decide) r c).trans (ref_second b g r c)) (fun r c => ref_old old _ _ _ r c)

end

theorem reference_frame : Cert.quiescent_Reference24Ideal (hReference24Ideal := Cert.Reference24Ideal.Gen.facts) := by
  intro m g _
  exact (θ_run Cert.Reference24Ideal.defs _ _).mono (fun r h => ⟨fun c => (h c).2.2.2.2, sem_eq_zero_of_no_sems (by decide) r.2⟩)
    (Cert.Reference24Ideal.Value.run m g)

/-! ## The equation -/

theorem equal : Cert.algebraic_Kernel24Ideal_Reference24Ideal (hKernel24Ideal := Cert.Kernel24Ideal.Gen.facts)
    (hReference24Ideal := Cert.Reference24Ideal.Gen.facts) := by
  intro m ρ m' ρ' _ hag
  refine ⟨fun c => result4 m c, fun c => result5 m c, fun c => result6 m c, fun c => result7 m c, ?_, ?_⟩
  · refine (θ_run Cert.Kernel24Ideal.defs _ _).mono (fun r h c => ?_) (Value.run_blocks m ρ)
    obtain ⟨h4, h5, h6, h7, h⟩ := h c
    exact ⟨h4.trans (array4 m c), h5.trans (array5 m c), h6.trans (array6 m c), h7.trans (array7 m c), h⟩
  · refine (θ_run Cert.Reference24Ideal.defs _ _).mono (fun r h c => ?_) (Cert.Reference24Ideal.Value.run m' ρ')
    obtain ⟨aw, ag, aa, ab, a4, a5, a6, a7⟩ := hag c
    obtain ⟨h4, h5, h6, h7, h⟩ := h c
    refine ⟨h4.trans ((val_main_v36_eq _ _).trans ?_), h5.trans ((val_main_v41_eq _ _ _ _ _).trans ?_),
      h6.trans ((val_main_v46_eq _ _ _).trans ?_), h7.trans ((val_main_v51_eq _ _ _).trans ?_), h⟩
    · rw [reference4, ag, a4]; rfl
    · rw [reference5, aw, ag, aa, ab, a5]; rfl
    · rw [reference6, ag, aa, a6]; rfl
    · rw [reference7, ag, ab, a7]; rfl

end Cert.Adam24

end
-- ==== Proof.Adam25.lean ====
/- The optimiser's call for one layer of the pooling's weight: the gradient summed over the devices' shares, the
   change and the two moments, the other layer passed through; and the reference's. -/
module

public import proofs.«01_k».proof.Defs
public import proofs.«01_k».proof.Proof.Adam
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Reference25Ideal

@[expose] public section

set_option maxRecDepth 16384

noncomputable section

namespace Cert.Adam25

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Tiles Cert.Adam
open Cert.Kernel25Ideal Cert.Kernel25Ideal.Gen
open Cert.Reference25Ideal.Read

local notation "𝓘" => Idealize.ShloMosaic.Ideal

/-! ## One grid point -/

/-- The eight shares, added from the left. -/
theorem shares_at (v : Fin 8 → FVec 𝓘 S1x256x512 .bf16) (r : Fin 256) (e : Fin 512) :
    k0_pay3 (F := 𝓘) (v 0) (v 1) (v 2) (v 3) (v 4) (v 5) (v 6) (v 7) (ix2 r e) = ∑ k : Fin 8, v k (at0 r e) :=
  eight (a := fun k => (shapeCast S256x512 (v k) shapeCasts_S1x256x512_S256x512 : S256x512.Idx → EReal) (ix2 r e)) fun k => unstacked (v k) _ r e

theorem first_at (g : FVec 𝓘 S256x512 .f32) (a : FVec 𝓘 S1x256x512 .f32) (r : Fin 256) (e : Fin 512) :
    k0_pay4 (F := 𝓘) g a (ix2 r e) = first (a (at0 r e)) (g (ix2 r e)) :=
  congrArg (fun x => first x (g (ix2 r e))) (unstacked a _ r e)

theorem second_at (g : FVec 𝓘 S256x512 .f32) (b : FVec 𝓘 S1x256x512 .f32) (r : Fin 256) (e : Fin 512) :
    k0_pay5 (F := 𝓘) g b (ix2 r e) = second (b (at0 r e)) (g (ix2 r e)) :=
  congrArg (fun x => second x (g (ix2 r e))) (unstacked b _ r e)

theorem change_at (g : FVec 𝓘 S256x512 .f32) (w a b : FVec 𝓘 S1x256x512 .f32) (r : Fin 256) (e : Fin 512) :
    k0_pay7 (F := 𝓘) g a b w (at0 r e)
      = change (w (at0 r e)) (a (at0 r e)) (b (at0 r e)) (g (ix2 r e)) := by
  unfold k0_pay7
  exact (stacked _ _ r e).trans
    (change_congr (unstacked w _ r e) (unstacked a _ r e) (unstacked b _ r e) rfl)

section
variable (c : Dev nD) (i : grid0.Coords) (arg1 : Memref sig .tc .vmem S1x256x512 .f32) (harg1 : arg1.IsWhole)
  (arg2 : Memref sig .tc .vmem S8x256x512 .bf16) (harg2 : arg2.IsWhole)
  (arg3 : Memref sig .tc .vmem S1x256x512 .f32) (harg3 : arg3.IsWhole)
  (arg4 : Memref sig .tc .vmem S1x256x512 .f32) (harg4 : arg4.IsWhole)
  (arg9 : Memref sig .tc .vmem S1x256x512 .f32) (harg9 : arg9.IsWhole)
  (arg10 : Memref sig .tc .vmem S1x256x512 .f32) (harg10 : arg10.IsWhole)
  (arg11 : Memref sig .tc .vmem S1x256x512 .f32) (harg11 : arg11.IsWhole)
  (arg12 : Memref sig .tc .vmem S1x256x512 .f32) (harg12 : arg12.IsWhole)
  (x0 : Vec 𝓘 S1x256x512 .f32) (x1 : Vec 𝓘 S8x256x512 .bf16) (x2 x3 : Vec 𝓘 S1x256x512 .f32)

/-- One of the shares, loaded. -/
def share (b : Fin 8) : FVec 𝓘 S1x256x512 .bf16 := fun i => x1 (ix3 b ⟨(i 1).val, (i 1).isLt⟩ ⟨(i 2).val, (i 2).isLt⟩)

theorem load_share (b : Fin 8) (off : Fin 3 → ℕ) (h0 : off = ![b.val, 0, 0])
    (inb : ∀ d, off d + S1x256x512.size d ≤ S8x256x512.size d) :
    (View.readAt (Elt 𝓘) arg2.view (Rect.unit (s := S8x256x512) off S1x256x512.size inb).toLoadRect (harg2.unread x1) : Vec 𝓘 S1x256x512 .bf16)
      = share x1 b := by
  funext i
  obtain ⟨r, e, rfl⟩ := in_block i
  exact load_part arg2 harg2 x1 b off h0 inb r e

/-- The gradient's block. -/
def block : FVec 𝓘 S256x512 .f32 := k0_pay3 (F := 𝓘) (share x1 0) (share x1 1) (share x1 2) (share x1 3) (share x1 4) (share x1 5) (share x1 6) (share x1 7)

theorem block_at (r : Fin 256) (e : Fin 512) : block x1 (ix2 r e) = ∑ k : Fin 8, x1 (ix3 k r e) := shares_at (share x1) r e

theorem out4_at (r : Fin 256) (e : Fin 512) :
    out0_A_4 (F := 𝓘) c i arg1 harg1 arg2 harg2 arg3 harg3 arg4 harg4 arg9 harg9 arg10 harg10 arg11 harg11 arg12 harg12 x0 x1 x2 x3 (at0 r e)
      = ∑ k : Fin 8, x1 (ix3 k r e) := by
  unfold out0_A_4 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl]
  exact (stacked _ _ r e).trans (block_at x1 r e)

theorem out5_at (r : Fin 256) (e : Fin 512) :
    out0_A_5 (F := 𝓘) c i arg1 harg1 arg2 harg2 arg3 harg3 arg4 harg4 arg9 harg9 arg10 harg10 arg11 harg11 arg12 harg12 x0 x1 x2 x3 (at0 r e)
      = change (x0 (at0 r e)) (x2 (at0 r e)) (x3 (at0 r e)) (∑ k : Fin 8, x1 (ix3 k r e)) := by
  unfold out0_A_5 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl,
    load_all (S := S1x256x512) arg1 harg1 x0 _ off3, load_all (S := S1x256x512) arg3 harg3 x2 _ off3, load_all (S := S1x256x512) arg4 harg4 x3 _ off3]
  exact (change_at (block x1) x0 x2 x3 r e).trans (change_congr rfl rfl rfl (block_at x1 r e))

theorem out6_at (r : Fin 256) (e : Fin 512) :
    out0_A_6 (F := 𝓘) c i arg1 harg1 arg2 harg2 arg3 harg3 arg4 harg4 arg9 harg9 arg10 harg10 arg11 harg11 arg12 harg12 x0 x1 x2 x3 (at0 r e)
      = first (x2 (at0 r e)) (∑ k : Fin 8, x1 (ix3 k r e)) := by
  unfold out0_A_6 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x256x512) arg3 harg3 x2 _ off3]
  exact (stacked _ _ r e).trans ((first_at (block x1) x2 r e).trans (congrArg (first _) (block_at x1 r e)))

theorem out7_at (r : Fin 256) (e : Fin 512) :
    out0_A_7 (F := 𝓘) c i arg1 harg1 arg2 harg2 arg3 harg3 arg4 harg4 arg9 harg9 arg10 harg10 arg11 harg11 arg12 harg12 x0 x1 x2 x3 (at0 r e)
      = second (x3 (at0 r e)) (∑ k : Fin 8, x1 (ix3 k r e)) := by
  unfold out0_A_7 kernelRun0_A; dsimp only; sl_unfold_words
  rw [store_all _ _ _ _ off3]
  have L := load_share arg2 harg2 x1
  simp only [L 0 ![0, 0, 0] rfl, L 1 ![1, 0, 0] rfl, L 2 ![2, 0, 0] rfl,
    L 3 ![3, 0, 0] rfl, L 4 ![4, 0, 0] rfl, L 5 ![5, 0, 0] rfl,
    L 6 ![6, 0, 0] rfl, L 7 ![7, 0, 0] rfl, load_all (S := S1x256x512) arg4 harg4 x3 _ off3]
  exact (stacked _ _ r e).trans ((second_at (block x1) x3 r e).trans (congrArg (second _) (block_at x1 r e)))

end

/-! ## The blocks of the arrays -/

abbrev Lies (ix : Fin grid0.N → Fin 3 → ℕ) (l : ℕ) : Prop := ∀ t, lies (ix t) l t.val

theorem where_0 : Lies win0_0.index 1 := by decide +kernel
theorem where_1 : Lies win0_1.index 0 := by decide +kernel
theorem where_2 : Lies win0_2.index 1 := by decide +kernel
theorem where_3 : Lies win0_3.index 1 := by decide +kernel
theorem where_4 : Lies win0_4.index 1 := by decide +kernel
theorem where_5 : Lies win0_5.index 1 := by decide +kernel
theorem where_6 : Lies win0_6.index 1 := by decide +kernel
theorem where_7 : Lies win0_7.index 1 := by decide +kernel

section
variable (m : (ℓ : Loc nD τ sig) → Buf (Elt 𝓘) ℓ) (c : Dev nD) (t : Fin cfg0.N)

/-- The arguments. -/
def weight : FVec 𝓘 S2x256x512 .f32 := m ((c : Thread nD τ).loc main_arg0)
def slots : FVec 𝓘 S8x256x512 .bf16 := m ((c : Thread nD τ).loc main_arg1)
def first_moment : FVec 𝓘 S2x256x512 .f32 := m ((c : Thread nD τ).loc main_arg2)
def second_moment : FVec 𝓘 S2x256x512 .f32 := m ((c : Thread nD τ).loc main_arg3)
def into4 : FVec 𝓘 S2x256x512 .f32 := m ((c : Thread nD τ).loc main_arg4)
def into5 : FVec 𝓘 S2x256x512 .f32 := m ((c : Thread nD τ).loc main_arg5)
def into6 : FVec 𝓘 S2x256x512 .f32 := m ((c : Thread nD τ).loc main_arg6)
def into7 : FVec 𝓘 S2x256x512 .f32 := m ((c : Thread nD τ).loc main_arg7)

/-- A row of a block, in the whole array. -/
def row (r : Fin 256) : Fin 256 := ⟨t.val * 256 + r.val, by
  have ht : t.val < 1 := lt_of_lt_of_eq t.isLt N_0
  have hr := r.isLt
  omega⟩

theorem in_0 (r : Fin 256) (e : Fin 512) : iblk m c 0 t (at0 r e : S1x256x512.Idx) = layer (1 : Fin 2) (weight m c) (row t r) e := by
  obtain ⟨w0, w1, w2⟩ := where_0 t
  show ((cfg0.win 0).blk t).view.read (Elt 𝓘) (V m c main_arg0) _ = _
  rw [V_main_arg0, View.read_apply]
  show weight m c _ = weight m c _
  exact congrArg (weight m c) (index_ext (place0 1 0 w0) (place0 256 r.val w1) (place2 512 e.val w2))

theorem in_2 (r : Fin 256) (e : Fin 512) : iblk m c 2 t (at0 r e : S1x256x512.Idx) = layer (1 : Fin 2) (first_moment m c) (row t r) e := by
  obtain ⟨w0, w1, w2⟩ := where_2 t
  show ((cfg0.win 2).blk t).view.read (Elt 𝓘) (V m c main_arg2) _ = _
  rw [V_main_arg2, View.read_apply]
  show first_moment m c _ = first_moment m c _
  exact congrArg (first_moment m c) (index_ext (place0 1 0 w0) (place0 256 r.val w1) (place2 512 e.val w2))

theorem in_3 (r : Fin 256) (e : Fin 512) : iblk m c 3 t (at0 r e : S1x256x512.Idx) = layer (1 : Fin 2) (second_moment m c) (row t r) e := by
  obtain ⟨w0, w1, w2⟩ := where_3 t
  show ((cfg0.win 3).blk t).view.read (Elt 𝓘) (V m c main_arg3) _ = _
  rw [V_main_arg3, View.read_apply]
  show second_moment m c _ = second_moment m c _
  exact congrArg (second_moment m c) (index_ext (place0 1 0 w0) (place0 256 r.val w1) (place2 512 e.val w2))

theorem in_1 (k : Fin 8) (r : Fin 256) (e : Fin 512) : iblk m c 1 t (ix3 k r e : S8x256x512.Idx) = slots m c (ix3 k (row t r) e) := by
  obtain ⟨w0, w1, w2⟩ := where_1 t
  show ((cfg0.win 1).blk t).view.read (Elt 𝓘) (V m c main_arg1) _ = _
  rw [V_main_arg1, View.read_apply]
  show slots m c _ = slots m c _
  exact congrArg (slots m c) (index_ext (place2 8 k.val w0) (place0 256 r.val w1) (place2 512 e.val w2))

theorem in_total (r : Fin 256) (e : Fin 512) :
    ∑ k : Fin 8, (show EReal from iblk m c 1 t (ix3 k r e : S8x256x512.Idx)) = total (slots m c) (row t r) e :=
  Finset.sum_congr rfl fun k _ => in_1 m c t k r e

/-! ## The arrays after the launch -/

/-- The grid point of a row. -/
theorem point (i : S2x256x512.Idx) : ∃ t : Fin cfg0.N, t.val = (i 1).val / 256 :=
  ⟨⟨(i 1).val / 256, by have hi : (i 1 : Nat) < 256 := (i 1).isLt; rw [show cfg0.N = 1 from N_0]; omega⟩, rfl⟩

/-- What output 1 holds. -/
def result4 : FVec 𝓘 S2x256x512 .f32 := gradients 1 (into4 m c) (slots m c)

theorem written4 : (dats m 0 c).flushed 4 t
    = ((cfg0.win 4).blk t).view.read (Elt 𝓘) (result4 m c : Buf (Elt 𝓘) ((c : Thread nD τ).loc main_v0_0)) := by
  obtain ⟨w0, w1, w2⟩ := where_4 t
  rw [Value.flushed4_A m c t]
  funext y
  rw [View.read_apply]
  obtain ⟨r, e, rfl⟩ := in_block y
  refine (out4_at c _ _ _ _ _ _ _ _ _ _ _ _ _ _ _ _ _ _ _ _ _ r e).trans (Eq.trans (in_total m c t r e) ?_)
  show _ = result4 m c _
  unfold result4 gradients
  exact (renewed_new 1 _ _ _ (place0 1 0 w0) (row t r) e (place0 256 r.val w1) (place2 512 e.val w2)).symm

theorem kept4 : V m c main_v0_0 = into4 m c := by unfold V; after_reads_simp; rfl

theorem array4 : (dats m 0 c).arrAt 4 cfg0.N = (result4 m c : Buf (Elt 𝓘) ((c : Thread nD τ).loc main_v0_0)) := by
  funext i
  by_cases h : (i 0).val = 1
  · obtain ⟨t, ht⟩ := point i
    refine (dats m 0 c).arrAt_apply_of_mem 4 (result4 m c) (fun t _ => written4 m c t) cfg0.N t i t.isLt (flush0_4 t) ?_
    show i ∈ ((View.whole main_v0_0).slice (win0_4.rect t)).set
    rw [View.set_slice_whole, Rect.mem_set_unit]
    exact inside (by decide) _ (where_4 t) i h ht
  · refine (Value.entry4 m c i fun t _ hi => h ?_).trans ((congrFun (kept4 m c) i).trans (renewed_old 1 _ _ i h).symm)
    have hm : i ∈ ((View.whole main_v0_0).slice (win0_4.rect t)).set := hi
    rw [View.set_slice_whole, Rect.mem_set_unit] at hm
    exact outside (where_4 t) hm

/-- What output 2 holds. -/
def result5 : FVec 𝓘 S2x256x512 .f32 := changes 1 (weight m c) (first_moment m c) (second_moment m c) (into5 m c) (slots m c)

theorem written5 : (dats m 0 c).flushed 5 t
    = ((cfg0.win 5).blk t).view.read (Elt 𝓘) (result5 m c : Buf (Elt 𝓘) ((c : Thread nD τ).loc main_v0_1)) := by
  obtain ⟨w0, w1, w2⟩ := where_5 t
  rw [Value.flushed5_A m c t]
  funext y
  rw [View.read_apply]
  obtain ⟨r, e, rfl⟩ := in_block y
  refine (out5_at c _ _ _ _ _ _ _ _ _ _ _ _ _ _ _ _ _ _ _ _ _ r e).trans (Eq.trans (change_congr (in_0 m c t r e) (in_2 m c t r e) (in_3 m c t r e) (in_total m c t r e)) ?_)
  show _ = result5 m c _
  exact Eq.symm (changes_new (r := row t r) (c := e) (place0 1 0 w0) (place0 256 r.val w1) (place2 512 e.val w2))

theorem kept5 : V m c main_v0_1 = into5 m c := by unfold V; after_reads_simp; rfl

theorem array5 : (dats m 0 c).arrAt 5 cfg0.N = (result5 m c : Buf (Elt 𝓘) ((c : Thread nD τ).loc main_v0_1)) := by
  funext i
  by_cases h : (i 0).val = 1
  · obtain ⟨t, ht⟩ := point i
    refine (dats m 0 c).arrAt_apply_of_mem 5 (result5 m c) (fun t _ => written5 m c t) cfg0.N t i t.isLt (flush0_5 t) ?_
    show i ∈ ((View.whole main_v0_1).slice (win0_5.rect t)).set
    rw [View.set_slice_whole, Rect.mem_set_unit]
    exact inside (by decide) _ (where_5 t) i h ht
  · refine (Value.entry5 m c i fun t _ hi => h ?_).trans ((congrFun (kept5 m c) i).trans (changes_old h).symm)
    have hm : i ∈ ((View.whole main_v0_1).slice (win0_5.rect t)).set := hi
    rw [View.set_slice_whole, Rect.mem_set_unit] at hm
    exact outside (where_5 t) hm

/-- What output 3 holds. -/
def result6 : FVec 𝓘 S2x256x512 .f32 := firsts 1 (first_moment m c) (into6 m c) (slots m c)

theorem written6 : (dats m 0 c).flushed 6 t
    = ((cfg0.win 6).blk t).view.read (Elt 𝓘) (result6 m c : Buf (Elt 𝓘) ((c : Thread nD τ).loc main_v0_2)) := by
  obtain ⟨w0, w1, w2⟩ := where_6 t
  rw [Value.flushed6_A m c t]
  funext y
  rw [View.read_apply]
  obtain ⟨r, e, rfl⟩ := in_block y
  refine (out6_at c _ _ _ _ _ _ _ _ _ _ _ _ _ _ _ _ _ _ _ _ _ r e).trans (Eq.trans (congrArg₂ first (in_2 m c t r e) (in_total m c t r e)) ?_)
  show _ = result6 m c _
  exact Eq.symm (firsts_new (r := row t r) (c := e) (place0 1 0 w0) (place0 256 r.val w1) (place2 512 e.val w2))

theorem kept6 : V m c main_v0_2 = into6 m c := by unfold V; after_reads_simp; rfl

theorem array6 : (dats m 0 c).arrAt 6 cfg0.N = (result6 m c : Buf (Elt 𝓘) ((c : Thread nD τ).loc main_v0_2)) := by
  funext i
  by_cases h : (i 0).val = 1
  · obtain ⟨t, ht⟩ := point i
    refine (dats m 0 c).arrAt_apply_of_mem 6 (result6 m c) (fun t _ => written6 m c t) cfg0.N t i t.isLt (flush0_6 t) ?_
    show i ∈ ((View.whole main_v0_2).slice (win0_6.rect t)).set
    rw [View.set_slice_whole, Rect.mem_set_unit]
    exact inside (by decide) _ (where_6 t) i h ht
  · refine (Value.entry6 m c i fun t _ hi => h ?_).trans ((congrFun (kept6 m c) i).trans (firsts_old h).symm)
    have hm : i ∈ ((View.whole main_v0_2).slice (win0_6.rect t)).set := hi
    rw [View.set_slice_whole, Rect.mem_set_unit] at hm
    exact outside (where_6 t) hm

/-- What output 4 holds. -/
def result7 : FVec 𝓘 S2x256x512 .f32 := seconds 1 (second_moment m c) (into7 m c) (slots m c)

theorem written7 : (dats m 0 c).flushed 7 t
    = ((cfg0.win 7).blk t).view.read (Elt 𝓘) (result7 m c : Buf (Elt 𝓘) ((c : Thread nD τ).loc main_v0_3)) := by
  obtain ⟨w0, w1, w2⟩ := where_7 t
  rw [Value.flushed7_A m c t]
  funext y
  rw [View.read_apply]
  obtain ⟨r, e, rfl⟩ := in_block y
  refine (out7_at c _ _ _ _ _ _ _ _ _ _ _ _ _ _ _ _ _ _ _ _ _ r e).trans (Eq.trans (congrArg₂ second (in_3 m c t r e) (in_total m c t r e)) ?_)
  show _ = result7 m c _
  exact Eq.symm (seconds_new (r := row t r) (c := e) (place0 1 0 w0) (place0 256 r.val w1) (place2 512 e.val w2))

theorem kept7 : V m c main_v0_3 = into7 m c := by unfold V; after_reads_simp; rfl

theorem array7 : (dats m 0 c).arrAt 7 cfg0.N = (result7 m c : Buf (Elt 𝓘) ((c : Thread nD τ).loc main_v0_3)) := by
  funext i
  by_cases h : (i 0).val = 1
  · obtain ⟨t, ht⟩ := point i
    refine (dats m 0 c).arrAt_apply_of_mem 7 (result7 m c) (fun t _ => written7 m c t) cfg0.N t i t.isLt (flush0_7 t) ?_
    show i ∈ ((View.whole main_v0_3).slice (win0_7.rect t)).set
    rw [View.set_slice_whole, Rect.mem_set_unit]
    exact inside (by decide) _ (where_7 t) i h ht
  · refine (Value.entry7 m c i fun t _ hi => h ?_).trans ((congrFun (kept7 m c) i).trans (seconds_old h).symm)
    have hm : i ∈ ((View.whole main_v0_3).slice (win0_7.rect t)).set := hi
    rw [View.set_slice_whole, Rect.mem_set_unit] at hm
    exact outside (where_7 t) hm

end

/-! ## The reference -/

section
variable (w a b old : FVec 𝓘 S2x256x512 .f32) (g : FVec 𝓘 S8x256x512 .bf16)

theorem ref_total (r : Fin 256) (c : Fin 512) : val_main_v3 (F := 𝓘) g (ix2 r c) = total g r c := by
  refine (val_main_v3_apply g (ix2 r c)).trans ?_
  show Ideal.ofBits .f32 0x00000000#32 + ∑ k : Fin 8, g (idx_main_v3 (ix2 r c) k) = _
  rw [Ideal.ofBits_zero_f32, zero_add]
  refine Finset.sum_congr rfl fun k _ => congrArg g (funext fun a => ?_)
  match a with
  | ⟨0, _⟩ => rfl
  | ⟨1, _⟩ => rfl
  | ⟨2, _⟩ => rfl

theorem ref_first (r : Fin 256) (c : Fin 512) : val_main_v12 (F := 𝓘) g a (ix2 r c) = first (layer 1 a r c) (total g r c) :=
  congrArg₂ first (cut_layer 1 a _ rfl _ _ r c) (ref_total g r c)

theorem ref_second (r : Fin 256) (c : Fin 512) : val_main_v18 (F := 𝓘) g b (ix2 r c) = second (layer 1 b r c) (total g r c) :=
  congrArg₂ second (cut_layer 1 b _ rfl _ _ r c) (ref_total g r c)

theorem ref_change (r : Fin 256) (c : Fin 512) :
    val_main_v31 (F := 𝓘) w g a b (ix2 r c) = change (layer 1 w r c) (layer 1 a r c) (layer 1 b r c) (total g r c) :=
  change_congr (cut_layer 1 w _ rfl _ _ r c) (cut_layer 1 a _ rfl _ _ r c) (cut_layer 1 b _ rfl _ _ r c) (ref_total g r c)

/-- The other layer, cut out and made a block again. -/
theorem ref_old (hs : S2x256x512.Slices ![0, 0, 0] S1x256x512) (hc : S1x256x512.ShapeCasts S256x512)
    (hb : S256x512.BroadcastsInDim S1x256x512 ![1, 2]) (r : Fin 256) (c : Fin 512) :
    broadcastInDim S1x256x512 ![1, 2] hb (shapeCast S256x512 (extractStridedSlice S1x256x512 ![0, 0, 0] old hs) hc) (at0 r c) = layer 0 old r c :=
  (lifted _ hb (by decide) (by decide) r c).trans (cut_layer 0 old _ rfl hs hc r c)

theorem reference4 : val_main_v36 (F := 𝓘) g old = gradients 1 old g :=
  stack_new _ _ _ _ old (fun r c => ref_old old _ _ _ r c) (fun r c => (lifted _ _ (by decide) (by decide) r c).trans (ref_total g r c))

theorem reference5 : val_main_v41 (F := 𝓘) w g a b old = changes 1 w a b old g :=
  stack_new _ _ _ _ old (fun r c => ref_old old _ _ _ r c) (fun r c => (lifted _ _ (by decide) (by decide) r c).trans (ref_change w a b g r c))

theorem reference6 : val_main_v46 (F := 𝓘) g a old = firsts 1 a old g :=
  stack_new _ _ _ _ old (fun r c => ref_old old _ _ _ r c) (fun r c => (lifted _ _ (by decide) (by decide) r c).trans (ref_first a g r c))

theorem reference7 : val_main_v51 (F := 𝓘) g b old = seconds 1 b old g :=
  stack_new _ _ _ _ old (fun r c => ref_old old _ _ _ r c) (fun r c => (lifted _ _ (by decide) (by decide) r c).trans (ref_second b g r c))

end

theorem reference_frame : Cert.quiescent_Reference25Ideal (hReference25Ideal := Cert.Reference25Ideal.Gen.facts) := by
  intro m g _
  exact (θ_run Cert.Reference25Ideal.defs _ _).mono (fun r h => ⟨fun c => (h c).2.2.2.2, sem_eq_zero_of_no_sems (by decide) r.2⟩)
    (Cert.Reference25Ideal.Value.run m g)

/-! ## The equation -/

theorem equal : Cert.algebraic_Kernel25Ideal_Reference25Ideal (hKernel25Ideal := Cert.Kernel25Ideal.Gen.facts)
    (hReference25Ideal := Cert.Reference25Ideal.Gen.facts) := by
  intro m ρ m' ρ' _ hag
  refine ⟨fun c => result4 m c, fun c => result5 m c, fun c => result6 m c, fun c => result7 m c, ?_, ?_⟩
  · refine (θ_run Cert.Kernel25Ideal.defs _ _).mono (fun r h c => ?_) (Value.run_blocks m ρ)
    obtain ⟨h4, h5, h6, h7, h⟩ := h c
    exact ⟨h4.trans (array4 m c), h5.trans (array5 m c), h6.trans (array6 m c), h7.trans (array7 m c), h⟩
  · refine (θ_run Cert.Reference25Ideal.defs _ _).mono (fun r h c => ?_) (Cert.Reference25Ideal.Value.run m' ρ')
    obtain ⟨aw, ag, aa, ab, a4, a5, a6, a7⟩ := hag c
    obtain ⟨h4, h5, h6, h7, h⟩ := h c
    refine ⟨h4.trans ((val_main_v36_eq _ _).trans ?_), h5.trans ((val_main_v41_eq _ _ _ _ _).trans ?_),
      h6.trans ((val_main_v46_eq _ _ _).trans ?_), h7.trans ((val_main_v51_eq _ _ _).trans ?_), h⟩
    · rw [reference4, ag, a4]; rfl
    · rw [reference5, aw, ag, aa, ab, a5]; rfl
    · rw [reference6, ag, aa, a6]; rfl
    · rw [reference7, ag, ab, a7]; rfl

end Cert.Adam25

end
-- ==== Proof.Rows.lean ====
/- What the calls that work on one row at a time share: a row's norm, and where a block of 512 rows lies. -/
module

public import proofs.«01_k».proof.Proof.Adam

@[expose] public section

noncomputable section

namespace Cert.Rows

open Idealize.ShloMosaic hiding ix1 ix2 ix3 ix4 ix5
open Idealize.ShloMosaic.ValueIdx
open Idealize.ShloMosaic.TcCoe

local notation "𝓘" => Idealize.ShloMosaic.Ideal

/-- The reciprocal of a row's root mean square, from the sum of its squares. -/
def scale (s : EReal) : EReal :=
  Ideal.rsqrt (Ideal.div s (Ideal.ofBits .f32 0x44800000#32) + Ideal.ofBits .f32 0x358637BD#32)

/-- An element of a row's norm. -/
def normed (x : Fin 1024 → EReal) (g : EReal) (e : Fin 1024) : EReal := x e * scale (∑ k, x k * x k) * g

abbrev Block : Shape := ⟨2, ![512, 1024]⟩

/-- The squares of a row of a block, added up. -/
theorem squares (x : FVec 𝓘 Block .f32) (h : Block.Reduces [1] ⟨1, ![512]⟩) (h0 h1) (r : Fin 512) :
    (multiReduction .add [1] ⟨1, ![512]⟩ (mulf x x) 0x00000000#32 h h0 h1 : FVec 𝓘 ⟨1, ![512]⟩ .f32) (ix1 r)
      = ∑ k : Fin 1024, x (ix2 r k) * x (ix2 r k) := by
  refine (Ideal.multiReduction_add_single (mulf x x) _ _ _ _ (ix1 r)).trans ?_
  exact Finset.sum_congr rfl fun k _ => congrArg (mulf x x) (funext fun a => by match a with | ⟨0, _⟩ => rfl | ⟨1, _⟩ => rfl)

theorem at2 {S : Fin 2 → ℕ} {u v : (⟨2, S⟩ : Shape).Idx} (h0 : (u 0).val = (v 0).val) (h1 : (u 1).val = (v 1).val) : u = v :=
  funext fun a => Fin.ext (by match a with | ⟨0, _⟩ => exact h0 | ⟨1, _⟩ => exact h1)

/-- Block `t` of 512 rows. -/
theorem covered {C : ℕ} (ix : Fin 2 → ℕ) (t : ℕ) (h0 : ix 0 = t) (h1 : ix 1 = 0) (i : (⟨2, ![2048, C]⟩ : Shape).Idx)
    (ht : t = (i 0).val / 512) (a : Fin 2) :
    ix a * (![512, C] : Fin 2 → ℕ) a ≤ (i a).val ∧ (i a).val < ix a * (![512, C] : Fin 2 → ℕ) a + (![512, C] : Fin 2 → ℕ) a := by
  match a with
  | ⟨0, _⟩ => show ix 0 * 512 ≤ (i 0).val ∧ (i 0).val < ix 0 * 512 + 512; omega
  | ⟨1, _⟩ =>
    show ix 1 * C ≤ (i 1).val ∧ (i 1).val < ix 1 * C + C
    have : (i 1).val < C := (i 1).isLt
    rw [h1, Nat.zero_mul]; omega

end Cert.Rows

end
-- ==== Proof.Rows26.lean ====
/- The call that normalises the rows of a layer's input: the kernel's and the reference's are the norm of each row. -/
module

public import proofs.«01_k».proof.Defs
public import proofs.«01_k».proof.Proof.Rows
public import proofs.«01_k».proof.Proof.Gen.Kernel26.Frame
public import proofs.«01_k».proof.Proof.Gen.Kernel26Ideal.Value
public import proofs.«01_k».proof.Proof.Gen.Reference26Ideal.Read
public import proofs.«01_k».proof.Proof.Gen.Reference26Ideal

@[expose] public section

set_option maxRecDepth 16384

noncomputable section

namespace Cert.Rows26

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Rows Cert.Adam Cert.Tiles
open Cert.Kernel26Ideal Cert.Kernel26Ideal.Gen
open Cert.Reference26Ideal.Read

local notation "𝓘" => Idealize.ShloMosaic.Ideal

/-- The norms of all rows. -/
def norms (X : FVec 𝓘 S2048x1024 .f32) (G : FVec 𝓘 S1x1024 .f32) : FVec 𝓘 S2048x1024 .bf16 :=
  fun i => normed (fun k => X (ix2 (i 0) k)) (G (ix2 (0 : Fin 1) (i 1))) (i 1)

theorem out_at (x : Vec 𝓘 S512x1024 .f32) (g : Vec 𝓘 S1x1024 .f32) (r : Fin 512) (e : Fin 1024) :
    out0_2 (F := 𝓘) x g (ix2 r e) = normed (fun k => x (ix2 r k)) (g (ix2 (0 : Fin 1) e)) e := by
  unfold out0_2
  rw [View.ld_unit_zero off2 _ x, View.ld_unit_zero off2 _ g, Cert.Kernel26Ideal.Value.canon2_eq]
  refine congrArg₂ (fun (a b : EReal) => a * b) (congrArg₂ (fun (a b : EReal) => a * b) (congrArg x (at2 rfl rfl)) (congrArg scale ?_))
    (congrArg g (at2 rfl rfl))
  refine Eq.trans ?_ (squares x reduces_S512x1024_S512 (.inl rfl) rfl r)
  exact congrArg (multiReduction (F := 𝓘) (φ := .f32) .add [1] S512 (mulf (F := 𝓘) (φ := .f32) x x) 0x00000000#32 reduces_S512x1024_S512 (.inl rfl) rfl) (funext fun a => by match a with | ⟨0, _⟩ => rfl)

theorem where_0 : ∀ t : Fin cfg0.N, win0_0.index t 0 = t.val ∧ win0_0.index t 1 = 0 :=
  (by decide +kernel : ∀ t : Fin grid0.N, win0_0.index t 0 = t.val ∧ win0_0.index t 1 = 0)
theorem where_1 : ∀ t : Fin cfg0.N, win0_1.index t 0 = 0 ∧ win0_1.index t 1 = 0 :=
  (by decide +kernel : ∀ t : Fin grid0.N, win0_1.index t 0 = 0 ∧ win0_1.index t 1 = 0)
theorem where_2 : ∀ t : Fin cfg0.N, win0_2.index t 0 = t.val ∧ win0_2.index t 1 = 0 :=
  (by decide +kernel : ∀ t : Fin grid0.N, win0_2.index t 0 = t.val ∧ win0_2.index t 1 = 0)

section
variable (m : (ℓ : Loc nD τ sig) → Buf (Elt 𝓘) ℓ) (c : Dev nD) (t : Fin cfg0.N)

/-- The two arguments. -/
def input : FVec 𝓘 S2048x1024 .f32 := m ((c : Thread nD τ).loc main_arg0)
def gain : FVec 𝓘 S1x1024 .f32 := m ((c : Thread nD τ).loc main_arg1)

/-- A row of a block, in the whole array. -/
def row (r : Fin 512) : Fin 2048 := ⟨t.val * 512 + r.val, by
  have ht : t.val < 4 := lt_of_lt_of_eq t.isLt N_0
  have hr := r.isLt
  omega⟩

theorem in_0 (r : Fin 512) (k : Fin 1024) : iblk m c 0 t (ix2 r k : S512x1024.Idx) = input m c (ix2 (row t r) k) := by
  obtain ⟨u0, u1⟩ := where_0 t
  show ((cfg0.win 0).blk t).view.read (Elt 𝓘) (V m c main_arg0) _ = _
  rw [V_main_arg0, View.read_apply]
  exact congrArg (input m c) (at2 (place0 512 r.val u0) (place2 1024 k.val u1))

theorem in_1 (e : Fin 1024) : iblk m c 1 t (ix2 (0 : Fin 1) e : S1x1024.Idx) = gain m c (ix2 (0 : Fin 1) e) := by
  obtain ⟨u0, u1⟩ := where_1 t
  show ((cfg0.win 1).blk t).view.read (Elt 𝓘) (V m c main_arg1) _ = _
  rw [V_main_arg1, View.read_apply]
  exact congrArg (gain m c) (at2 (place2 1 0 u0) (place2 1024 e.val u1))

theorem written : (dats m 0 c).flushed 2 t
    = ((cfg0.win 2).blk t).view.read (Elt 𝓘) (norms (input m c) (gain m c) : Buf (Elt 𝓘) ((c : Thread nD τ).loc main_v0)) := by
  obtain ⟨w0, w1⟩ := where_2 t
  rw [Cert.Kernel26Ideal.Value.flushed2 m c t]
  funext y
  rw [View.read_apply]
  obtain ⟨r, e, rfl⟩ : ∃ (r : Fin 512) (e : Fin 1024), y = ix2 r e := ⟨y 0, y 1, (ix2_eta y).symm⟩
  refine (out_at _ _ r e).trans (Eq.trans (congrArg₂ (fun a b => normed a b e) (funext fun k => in_0 m c t r k) (in_1 m c t e)) ?_)
  show _ = norms (input m c) (gain m c) _
  exact congrArg (norms (input m c) (gain m c)) (at2 (v := ix2 (row t r) e) (place0 512 r.val w0) (place2 1024 e.val w1)).symm

theorem array : (dats m 0 c).arrAt 2 cfg0.N = (norms (input m c) (gain m c) : Buf (Elt 𝓘) ((c : Thread nD τ).loc main_v0)) :=
  (dats m 0 c).arrAt_eq_of_cover 2 _ (fun t _ => written m c t) fun i => by
    have hi : (i 0 : Nat) < 2048 := (i 0).isLt
    obtain ⟨t, ht⟩ : ∃ t : Fin cfg0.N, t.val = (i 0).val / 512 := ⟨⟨(i 0).val / 512, by rw [show cfg0.N = 4 from N_0]; omega⟩, rfl⟩
    obtain ⟨w0, w1⟩ := where_2 t
    refine ⟨t, flush0_2 t, ?_⟩
    show i ∈ ((View.whole main_v0).slice (win0_2.rect t)).set
    rw [View.set_slice_whole, Rect.mem_set_unit]
    exact covered _ _ w0 w1 i ht

end

/-! ## The reference -/

theorem reference (X : FVec 𝓘 S2048x1024 .f32) (G : FVec 𝓘 S1x1024 .f32) : val_main_v14 (F := 𝓘) X G = norms X G := by
  funext i
  obtain ⟨r, e, rfl⟩ : ∃ (r : Fin 2048) (e : Fin 1024), i = ix2 r e := ⟨i 0, i 1, (ix2_eta i).symm⟩
  rw [val_main_v14_apply, val_main_v13_apply, val_main_v10_apply, val_main_v9_apply, val_main_v8_apply, val_main_v7_apply, val_main_v5_apply,
    val_main_v3_apply, val_main_v2_apply, val_main_v12_apply, val_main_v11_apply, val_main_v0_apply, val_main_v4_apply, val_main_v6_apply,
    val_main_cst_apply]
  refine congrArg₂ (fun (a b : EReal) => a * b) (congrArg (fun (a : EReal) => X (ix2 r e) * a) (congrArg scale ?_)) (congrArg G (at2 rfl ?_))
  · refine (congrArg (fun a : EReal => a + _) Ideal.ofBits_zero_f32).trans ((zero_add _).trans (Finset.sum_congr rfl fun k _ => ?_))
    exact congrArg (fun u => X u * X u) (at2 rfl rfl)
  · exact Nat.mod_eq_of_lt e.isLt

theorem reference_frame : Cert.quiescent_Reference26Ideal (hReference26Ideal := Cert.Reference26Ideal.Gen.facts) := by
  intro m g _
  exact (θ_run Cert.Reference26Ideal.defs _ _).mono (fun r h => ⟨fun c => (h c).2, sem_eq_zero_of_no_sems (by decide) r.2⟩)
    (Cert.Reference26Ideal.Value.run m g)

/-! ## The equation -/

theorem equal : Cert.algebraic_Kernel26Ideal_Reference26Ideal (hKernel26Ideal := Cert.Kernel26Ideal.Gen.facts)
    (hReference26Ideal := Cert.Reference26Ideal.Gen.facts) := by
  intro m ρ m' ρ' _ hag
  refine ⟨fun c => norms (input m c) (gain m c), ?_, ?_⟩
  · refine (θ_run Cert.Kernel26Ideal.defs _ _).mono (fun r h c => ?_) (Cert.Kernel26Ideal.Value.run_blocks m ρ)
    exact ⟨(h c).1.trans (array m c), (h c).2⟩
  · refine (θ_run Cert.Reference26Ideal.defs _ _).mono (fun r h c => ?_) (Cert.Reference26Ideal.Value.run m' ρ')
    obtain ⟨a0, a1⟩ := hag c
    refine ⟨(h c).1.trans ((val_main_v14_eq _ _).trans ?_), (h c).2⟩
    rw [reference, a0, a1]; rfl

end Cert.Rows26

end
-- ==== Proof.Rows27.lean ====
/- The odd layers' gate in the forward pass: the mixed values, scaled, times the gate's input and its sigmoid. -/
module

public import proofs.«01_k».proof.Defs
public import proofs.«01_k».proof.Proof.Rows
public import proofs.«01_k».proof.Proof.Gen.Kernel27.Frame
public import proofs.«01_k».proof.Proof.Gen.Kernel27Ideal.Value
public import proofs.«01_k».proof.Proof.Gen.Reference27Ideal.Read
public import proofs.«01_k».proof.Proof.Gen.Reference27Ideal

@[expose] public section

set_option maxRecDepth 16384

noncomputable section

namespace Cert.Rows27

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Rows Cert.Adam Cert.Tiles
open Cert.Kernel27Ideal Cert.Kernel27Ideal.Gen
open Cert.Reference27Ideal.Read

local notation "𝓘" => Idealize.ShloMosaic.Ideal

/-- A column of the second half. -/
def half (e : Fin 2048) : Fin 4096 := ⟨1 * 2048 + e.val, by have := e.isLt; omega⟩

/-- One element. -/
def gated (y s x : EReal) : EReal :=
  y * s * (x * Ideal.div (Ideal.ofBits .f32 0x3F800000#32) (Ideal.ofBits .f32 0x3F800000#32 + Ideal.exp (-x)))

/-- All of them; the gate's inputs are the second half of the columns of `P`. -/
def gates (Y : FVec 𝓘 S2048x2048 .f32) (P : FVec 𝓘 S2048x4096 .f32) (G : FVec 𝓘 S1x2048 .f32) : FVec 𝓘 S2048x2048 .bf16 :=
  fun i => gated (Y i) (G (ix2 (0 : Fin 1) (i 1))) (P (ix2 (i 0) (half (i 1))))

theorem out_at (y x : Vec 𝓘 S512x2048 .f32) (g : Vec 𝓘 S1x2048 .f32) (r : Fin 512) (e : Fin 2048) :
    out0_3 (F := 𝓘) y x g (ix2 r e) = gated (y (ix2 r e)) (g (ix2 (0 : Fin 1) e)) (x (ix2 r e)) := by
  unfold out0_3
  rw [View.ld_unit_zero off2 _ y, View.ld_unit_zero off2 _ x, View.ld_unit_zero off2 _ g, Cert.Kernel27Ideal.Value.canon3_eq]
  refine Eq.trans ?_ (congrArg (gated (y (ix2 r e)) (g (ix2 (0 : Fin 1) e))) (congrArg x (at2 (u := Cert.Kernel27Ideal.Value.ix3_2 (ix2 r e)) rfl rfl)))
  refine congrArg₂ (fun (a b : EReal) => a * b) (congrArg₂ (fun (a b : EReal) => a * b) (congrArg y (at2 rfl rfl)) (congrArg g (at2 rfl rfl))) ?_
  refine congrArg (fun a : EReal => _ * Ideal.div _ (_ + Ideal.exp a)) ?_
  exact (congrArg (fun a : EReal => a - _) Ideal.ofBits_zero_f32).trans (zero_sub _)

theorem where_0 : ∀ t : Fin cfg0.N, win0_0.index t 0 = t.val ∧ win0_0.index t 1 = 0 :=
  (by decide +kernel : ∀ t : Fin grid0.N, win0_0.index t 0 = t.val ∧ win0_0.index t 1 = 0)
theorem where_1 : ∀ t : Fin cfg0.N, win0_1.index t 0 = t.val ∧ win0_1.index t 1 = 1 :=
  (by decide +kernel : ∀ t : Fin grid0.N, win0_1.index t 0 = t.val ∧ win0_1.index t 1 = 1)
theorem where_2 : ∀ t : Fin cfg0.N, win0_2.index t 0 = 0 ∧ win0_2.index t 1 = 0 :=
  (by decide +kernel : ∀ t : Fin grid0.N, win0_2.index t 0 = 0 ∧ win0_2.index t 1 = 0)
theorem where_3 : ∀ t : Fin cfg0.N, win0_3.index t 0 = t.val ∧ win0_3.index t 1 = 0 :=
  (by decide +kernel : ∀ t : Fin grid0.N, win0_3.index t 0 = t.val ∧ win0_3.index t 1 = 0)

section
variable (m : (ℓ : Loc nD τ sig) → Buf (Elt 𝓘) ℓ) (c : Dev nD) (t : Fin cfg0.N)

/-- The arguments. -/
def mixed : FVec 𝓘 S2048x2048 .f32 := m ((c : Thread nD τ).loc main_arg0)
def proj : FVec 𝓘 S2048x4096 .f32 := m ((c : Thread nD τ).loc main_arg1)
def gain : FVec 𝓘 S1x2048 .f32 := m ((c : Thread nD τ).loc main_arg2)

/-- A row of a block, in the whole array. -/
def row (r : Fin 512) : Fin 2048 := ⟨t.val * 512 + r.val, by
  have ht : t.val < 4 := lt_of_lt_of_eq t.isLt N_0
  have hr := r.isLt
  omega⟩

theorem in_0 (r : Fin 512) (e : Fin 2048) : iblk m c 0 t (ix2 r e : S512x2048.Idx) = mixed m c (ix2 (row t r) e) := by
  obtain ⟨u0, u1⟩ := where_0 t
  show ((cfg0.win 0).blk t).view.read (Elt 𝓘) (V m c main_arg0) _ = _
  rw [V_main_arg0, View.read_apply]
  exact congrArg (mixed m c) (at2 (place0 512 r.val u0) (place2 2048 e.val u1))

theorem in_1 (r : Fin 512) (e : Fin 2048) : iblk m c 1 t (ix2 r e : S512x2048.Idx) = proj m c (ix2 (row t r) (half e)) := by
  obtain ⟨u0, u1⟩ := where_1 t
  show ((cfg0.win 1).blk t).view.read (Elt 𝓘) (V m c main_arg1) _ = _
  rw [V_main_arg1, View.read_apply]
  exact congrArg (proj m c) (at2 (place0 512 r.val u0) (place0 2048 e.val u1))

theorem in_2 (e : Fin 2048) : iblk m c 2 t (ix2 (0 : Fin 1) e : S1x2048.Idx) = gain m c (ix2 (0 : Fin 1) e) := by
  obtain ⟨u0, u1⟩ := where_2 t
  show ((cfg0.win 2).blk t).view.read (Elt 𝓘) (V m c main_arg2) _ = _
  rw [V_main_arg2, View.read_apply]
  exact congrArg (gain m c) (at2 (place2 1 0 u0) (place2 2048 e.val u1))

/-- The result. -/
def result : FVec 𝓘 S2048x2048 .bf16 := gates (mixed m c) (proj m c) (gain m c)

theorem written : (dats m 0 c).flushed 3 t
    = ((cfg0.win 3).blk t).view.read (Elt 𝓘) (result m c : Buf (Elt 𝓘) ((c : Thread nD τ).loc main_v0)) := by
  obtain ⟨w0, w1⟩ := where_3 t
  rw [Cert.Kernel27Ideal.Value.flushed3 m c t]
  funext y
  rw [View.read_apply]
  obtain ⟨r, e, rfl⟩ : ∃ (r : Fin 512) (e : Fin 2048), y = ix2 r e := ⟨y 0, y 1, (ix2_eta y).symm⟩
  refine (out_at _ _ _ r e).trans (Eq.trans (congr (congrArg₂ gated (in_0 m c t r e) (in_2 m c t e)) (in_1 m c t r e)) ?_)
  show _ = result m c _
  exact congrArg (result m c) (at2 (v := ix2 (row t r) e) (place0 512 r.val w0) (place2 2048 e.val w1)).symm

theorem array : (dats m 0 c).arrAt 3 cfg0.N = (result m c : Buf (Elt 𝓘) ((c : Thread nD τ).loc main_v0)) :=
  (dats m 0 c).arrAt_eq_of_cover 3 _ (fun t _ => written m c t) fun i => by
    have hi : (i 0 : Nat) < 2048 := (i 0).isLt
    obtain ⟨t, ht⟩ : ∃ t : Fin cfg0.N, t.val = (i 0).val / 512 := ⟨⟨(i 0).val / 512, by rw [show cfg0.N = 4 from N_0]; omega⟩, rfl⟩
    obtain ⟨w0, w1⟩ := where_3 t
    refine ⟨t, flush0_3 t, ?_⟩
    show i ∈ ((View.whole main_v0).slice (win0_3.rect t)).set
    rw [View.set_slice_whole, Rect.mem_set_unit]
    exact covered _ _ w0 w1 i ht

end

/-! ## The reference -/

theorem reference (Y : FVec 𝓘 S2048x2048 .f32) (P : FVec 𝓘 S2048x4096 .f32) (G : FVec 𝓘 S1x2048 .f32) :
    val_main_v7 (F := 𝓘) Y P G = gates Y P G := by
  funext i
  obtain ⟨r, e, rfl⟩ : ∃ (r : Fin 2048) (e : Fin 2048), i = ix2 r e := ⟨i 0, i 1, (ix2_eta i).symm⟩
  rw [val_main_v7_apply, val_main_v6_apply, val_main_v4_apply, val_main_v3_apply, val_main_v2_apply, val_main_v1_apply, val_main_v5_apply,
    val_main_call0_v5_apply, val_main_call0_v3_apply, val_main_call0_v1_apply, val_main_call0_v0_apply, val_main_v0_apply,
    val_main_call0_v4_apply, val_main_call0_v2_apply]
  refine congrArg₂ (fun (a b : EReal) => a * b) (congrArg (fun a : EReal => Y (ix2 r e) * a) (congrArg G (at2 rfl (Nat.mod_eq_of_lt e.isLt)))) ?_
  exact congrArg (fun a : EReal => a * Ideal.div (Ideal.ofBits .f32 0x3F800000#32) (Ideal.ofBits .f32 0x3F800000#32 + Ideal.exp (-a)))
    (congrArg P (at2 rfl rfl))

theorem reference_frame : Cert.quiescent_Reference27Ideal (hReference27Ideal := Cert.Reference27Ideal.Gen.facts) := by
  intro m g _
  exact (θ_run Cert.Reference27Ideal.defs _ _).mono (fun r h => ⟨fun c => (h c).2, sem_eq_zero_of_no_sems (by decide) r.2⟩)
    (Cert.Reference27Ideal.Value.run m g)

/-! ## The equation -/

theorem equal : Cert.algebraic_Kernel27Ideal_Reference27Ideal (hKernel27Ideal := Cert.Kernel27Ideal.Gen.facts)
    (hReference27Ideal := Cert.Reference27Ideal.Gen.facts) := by
  intro m ρ m' ρ' _ hag
  refine ⟨fun c => result m c, ?_, ?_⟩
  · refine (θ_run Cert.Kernel27Ideal.defs _ _).mono (fun r h c => ?_) (Cert.Kernel27Ideal.Value.run_blocks m ρ)
    exact ⟨(h c).1.trans (array m c), (h c).2⟩
  · refine (θ_run Cert.Reference27Ideal.defs _ _).mono (fun r h c => ?_) (Cert.Reference27Ideal.Value.run m' ρ')
    obtain ⟨a0, a1, a2⟩ := hag c
    refine ⟨(h c).1.trans ((val_main_v7_eq _ _ _).trans ?_), (h c).2⟩
    rw [reference, a0, a1, a2]; rfl

end Cert.Rows27

end
-- ==== Proof.Rows28.lean ====
/- The call at the end of a layer: the layer's input plus the norm of its output, and the norm of that sum's rows, with which
   the next layer starts. -/
module

public import proofs.«01_k».proof.Defs
public import proofs.«01_k».proof.Proof.Rows
public import proofs.«01_k».proof.Proof.Gen.Kernel28.Frame
public import proofs.«01_k».proof.Proof.Gen.Kernel28Ideal.Value
public import proofs.«01_k».proof.Proof.Gen.Reference28Ideal.Read
public import proofs.«01_k».proof.Proof.Gen.Reference28Ideal

@[expose] public section

set_option maxRecDepth 16384

noncomputable section

namespace Cert.Rows28

open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat)
open Cert.Rows Cert.Adam Cert.Tiles
open Cert.Kernel28Ideal Cert.Kernel28Ideal.Gen
open Cert.Reference28Ideal.Read

local notation "𝓘" => Idealize.ShloMosaic.Ideal

/-- The sums. -/
def sums (X Y : FVec 𝓘 S2048x1024 .f32) (G : FVec 𝓘 S1x1024 .f32) : FVec 𝓘 S2048x1024 .f32 :=
  fun i => X i + normed (fun k => Y (ix2 (i 0) k)) (G (ix2 (0 : Fin 1) (i 1))) (i 1)

/-- The norms of their rows. -/
def nexts (X Y : FVec 𝓘 S2048x1024 .f32) (G N : FVec 𝓘 S1x1024 .f32) : FVec 𝓘 S2048x1024 .bf16 :=
  fun i => normed (fun k => sums X Y G (ix2 (i 0) k)) (N (ix2 (0 : Fin 1) (i 1))) (i 1)

section
variable (x y : Vec 𝓘 S512x1024 .f32) (g n : Vec 𝓘 S1x1024 .f32) (r : Fin 512)

/-- An element of a block's sum. -/
def sum (e : Fin 1024) : EReal := x (ix2 r e) + normed (fun k => y (ix2 r k)) (g (ix2 (0 : Fin 1) e)) e

theorem sum_at (e : Fin 1024) (u : S512x1024.Idx) (hu : u = ix2 r e) : Cert.Kernel28Ideal.Value.E4 x y g u = sum x y g r e := by
  subst hu
  refine congrArg₂ (fun (a b : EReal) => a + b) (congrArg x (at2 rfl rfl)) (congrArg₂ (fun (a b : EReal) => a * b)
    (congrArg₂ (fun (a b : EReal) => a * b) (congrArg y (at2 rfl rfl)) (congrArg scale ?_)) (congrArg g (at2 rfl rfl)))
  refine Eq.trans ?_ (squares y reduces_S512x1024_S512 (.inl rfl) rfl r)
  exact congrArg (multiReduction (F := 𝓘) (φ := .f32) .add [1] S512 (mulf (F := 𝓘) (φ := .f32) y y) 0x00000000#32 reduces_S512x1024_S512
    (.inl rfl) rfl) (funext fun a => by match a with | ⟨0, _⟩ => rfl)

theorem pay_at (e : Fin 1024) : k0_pay1 (F := 𝓘) x y g (ix2 r e) = sum x y g r e :=
  (Cert.Kernel28Ideal.Value.piece4_0 x y g _).trans
    (sum_at x y g r e _ (at2 ((Nat.zero_add _).trans (Nat.one_mul _)) ((Nat.zero_add _).trans (Nat.one_mul _))))

theorem out4_at (e : Fin 1024) : out0_4 (F := 𝓘) x y g n (ix2 r e) = sum x y g r e := by
  unfold out0_4
  rw [View.ld_unit_zero off2 _ x, View.ld_unit_zero off2 _ y, View.ld_unit_zero off2 _ g, Cert.Kernel28Ideal.Value.canon4_eq]
  exact sum_at x y g r e _ rfl

theorem out5_at (e : Fin 1024) : out0_5 (F := 𝓘) x y g n (ix2 r e) = normed (sum x y g r) (n (ix2 (0 : Fin 1) e)) e := by
  unfold out0_5
  rw [View.ld_unit_zero off2 _ x, View.ld_unit_zero off2 _ y, View.ld_unit_zero off2 _ g, View.ld_unit_zero off2 _ n,
    Cert.Kernel28Ideal.Value.canon5_eq]
  refine congrArg₂ (fun (a b : EReal) => a * b) (congrArg₂ (fun (a b : EReal) => a * b) (sum_at x y g r e _ rfl) (congrArg scale ?_))
    (congrArg n (at2 rfl rfl))
  refine Eq.trans ?_ ((squares (k0_pay1 (F := 𝓘) x y g) reduces_S512x1024_S512 (.inl rfl) rfl r).trans
    (Finset.sum_congr rfl fun k _ => congrArg (fun a : EReal => a * a) (pay_at x y g r k)))
  exact congrArg (multiReduction (F := 𝓘) (φ := .f32) .add [1] S512 (mulf (F := 𝓘) (φ := .f32) (k0_pay1 (F := 𝓘) x y g)
    (k0_pay1 (F := 𝓘) x y g)) 0x00000000#32 reduces_S512x1024_S512 (.inl rfl) rfl) (funext fun a => by match a with | ⟨0, _⟩ => rfl)

end

theorem where_0 : ∀ t : Fin cfg0.N, win0_0.index t 0 = t.val ∧ win0_0.index t 1 = 0 :=
  (by decide +kernel : ∀ t : Fin grid0.N, win0_0.index t 0 = t.val ∧ win0_0.index t 1 = 0)
theorem where_1 : ∀ t : Fin cfg0.N, win0_1.index t 0 = t.val ∧ win0_1.index t 1 = 0 :=
  (by decide +kernel : ∀ t : Fin grid0.N, win0_1.index t 0 = t.val ∧ win0_1.index t 1 = 0)
theorem where_2 : ∀ t : Fin cfg0.N, win0_2.index t 0 = 0 ∧ win0_2.index t 1 = 0 :=
  (by decide +kernel : ∀ t : Fin grid0.N, win0_2.index t 0 = 0 ∧ win0_2.index t 1 = 0)
theorem where_3 : ∀ t : Fin cfg0.N, win0_3.index t 0 = 0 ∧ win0_3.index t 1 = 0 :=
  (by decide +kernel : ∀ t : Fin grid0.N, win0_3.index t 0 = 0 ∧ win0_3.index t 1 = 0)
theorem where_4 : ∀ t : Fin cfg0.N, win0_4.index t 0 = t.val ∧ win0_4.index t 1 = 0 :=
  (by decide +kernel : ∀ t : Fin grid0.N, win0_4.index t 0 = t.val ∧ win0_4.index t 1 = 0)
theorem where_5 : ∀ t : Fin cfg0.N, win0_5.index t 0 = t.val ∧ win0_5.index t 1 = 0 :=
  (by decide +kernel : ∀ t : Fin grid0.N, win0_5.index t 0 = t.val ∧ win0_5.index t 1 = 0)

section
variable (m : (ℓ : Loc nD τ sig) → Buf (Elt 𝓘) ℓ) (c : Dev nD) (t : Fin cfg0.N)

/-- The arguments. -/
def input : FVec 𝓘 S2048x1024 .f32 := m ((c : Thread nD τ).loc main_arg0)
def output : FVec 𝓘 S2048x1024 .f32 := m ((c : Thread nD τ).loc main_arg1)
def gain : FVec 𝓘 S1x1024 .f32 := m ((c : Thread nD τ).loc main_arg2)
def next_gain : FVec 𝓘 S1x1024 .f32 := m ((c : Thread nD τ).loc main_arg3)

/-- A row of a block, in the whole array. -/
def row (r : Fin 512) : Fin 2048 := ⟨t.val * 512 + r.val, by
  have ht : t.val < 4 := lt_of_lt_of_eq t.isLt N_0
  have hr := r.isLt
  omega⟩

theorem in_0 (r : Fin 512) (k : Fin 1024) : iblk m c 0 t (ix2 r k : S512x1024.Idx) = input m c (ix2 (row t r) k) := by
  obtain ⟨u0, u1⟩ := where_0 t
  show ((cfg0.win 0).blk t).view.read (Elt 𝓘) (V m c main_arg0) _ = _
  rw [V_main_arg0, View.read_apply]
  exact congrArg (input m c) (at2 (place0 512 r.val u0) (place2 1024 k.val u1))

theorem in_1 (r : Fin 512) (k : Fin 1024) : iblk m c 1 t (ix2 r k : S512x1024.Idx) = output m c (ix2 (row t r) k) := by
  obtain ⟨u0, u1⟩ := where_1 t
  show ((cfg0.win 1).blk t).view.read (Elt 𝓘) (V m c main_arg1) _ = _
  rw [V_main_arg1, View.read_apply]
  exact congrArg (output m c) (at2 (place0 512 r.val u0) (place2 1024 k.val u1))

theorem in_2 (e : Fin 1024) : iblk m c 2 t (ix2 (0 : Fin 1) e : S1x1024.Idx) = gain m c (ix2 (0 : Fin 1) e) := by
  obtain ⟨u0, u1⟩ := where_2 t
  show ((cfg0.win 2).blk t).view.read (Elt 𝓘) (V m c main_arg2) _ = _
  rw [V_main_arg2, View.read_apply]
  exact congrArg (gain m c) (at2 (place2 1 0 u0) (place2 1024 e.val u1))

theorem in_3 (e : Fin 1024) : iblk m c 3 t (ix2 (0 : Fin 1) e : S1x1024.Idx) = next_gain m c (ix2 (0 : Fin 1) e) := by
  obtain ⟨u0, u1⟩ := where_3 t
  show ((cfg0.win 3).blk t).view.read (Elt 𝓘) (V m c main_arg3) _ = _
  rw [V_main_arg3, View.read_apply]
  exact congrArg (next_gain m c) (at2 (place2 1 0 u0) (place2 1024 e.val u1))

/-- The two results. -/
def result4 : FVec 𝓘 S2048x1024 .f32 := sums (input m c) (output m c) (gain m c)
def result5 : FVec 𝓘 S2048x1024 .bf16 := nexts (input m c) (output m c) (gain m c) (next_gain m c)

theorem in_sum (r : Fin 512) (e : Fin 1024) :
    sum (iblk m c 0 t) (iblk m c 1 t) (iblk m c 2 t) r e = result4 m c (ix2 (row t r) e) :=
  congrArg₂ (fun (a b : EReal) => a + b) (in_0 m c t r e)
    (congrArg₂ (fun a b => normed a b e) (funext fun k => in_1 m c t r k) (in_2 m c t e))

theorem written4 : (dats m 0 c).flushed 4 t
    = ((cfg0.win 4).blk t).view.read (Elt 𝓘) (result4 m c : Buf (Elt 𝓘) ((c : Thread nD τ).loc main_v0_0)) := by
  obtain ⟨w0, w1⟩ := where_4 t
  rw [Cert.Kernel28Ideal.Value.flushed4 m c t]
  funext y
  rw [View.read_apply]
  obtain ⟨r, e, rfl⟩ : ∃ (r : Fin 512) (e : Fin 1024), y = ix2 r e := ⟨y 0, y 1, (ix2_eta y).symm⟩
  refine (out4_at _ _ _ _ r e).trans (Eq.trans (in_sum m c t r e) ?_)
  show _ = result4 m c _
  exact congrArg (result4 m c) (at2 (v := ix2 (row t r) e) (place0 512 r.val w0) (place2 1024 e.val w1)).symm

theorem array4 : (dats m 0 c).arrAt 4 cfg0.N = (result4 m c : Buf (Elt 𝓘) ((c : Thread nD τ).loc main_v0_0)) :=
  (dats m 0 c).arrAt_eq_of_cover 4 _ (fun t _ => written4 m c t) fun i => by
    have hi : (i 0 : Nat) < 2048 := (i 0).isLt
    obtain ⟨t, ht⟩ : ∃ t : Fin cfg0.N, t.val = (i 0).val / 512 := ⟨⟨(i 0).val / 512, by rw [show cfg0.N = 4 from N_0]; omega⟩, rfl⟩
    obtain ⟨w0, w1⟩ := where_4 t
    refine ⟨t, flush0_4 t, ?_⟩
    show i ∈ ((View.whole main_v0_0).slice (win0_4.rect t)).set
    rw [View.set_slice_whole, Rect.mem_set_unit]
    exact covered _ _ w0 w1 i ht

theorem written5 : (dats m 0 c).flushed 5 t
    = ((cfg0.win 5).blk t).view.read (Elt 𝓘) (result5 m c : Buf (Elt 𝓘) ((c : Thread nD τ).loc main_v0_1)) := by
  obtain ⟨w0, w1⟩ := where_5 t
  rw [Cert.Kernel28Ideal.Value.flushed5 m c t]
  funext y
  rw [View.read_apply]
  obtain ⟨r, e, rfl⟩ : ∃ (r : Fin 512) (e : Fin 1024), y = ix2 r e := ⟨y 0, y 1, (ix2_eta y).symm⟩
  refine (out5_at _ _ _ _ r e).trans (Eq.trans (congrArg₂ (fun a b => normed a b e) (funext fun k => in_sum m c t r k) (in_3 m c t e)) ?_)
  show _ = result5 m c _
  exact congrArg (result5 m c) (at2 (v := ix2 (row t r) e) (place0 512 r.val w0) (place2 1024 e.val w1)).symm

theorem array5 : (dats m 0 c).arrAt 5 cfg0.N = (result5 m c : Buf (Elt 𝓘) ((c : Thread nD τ).loc main_v0_1)) :=
  (dats m 0 c).arrAt_eq_of_cover 5 _ (fun t _ => written5 m c t) fun i => by
    have hi : (i 0 : Nat) < 2048 := (i 0).isLt
    obtain ⟨t, ht⟩ : ∃ t : Fin cfg0.N, t.val = (i 0).val / 512 := ⟨⟨(i 0).val / 512, by rw [show cfg0.N = 4 from N_0]; omega⟩, rfl⟩
    obtain ⟨w0, w1⟩ := where_5 t
    refine ⟨t, flush0_5 t, ?_⟩
    show i ∈ ((View.whole main_v0_1).slice (win0_5.rect t)).set
    rw [View.set_slice_whole, Rect.mem_set_unit]
    exact covered _ _ w0 w1 i ht

end

/-! ## The reference -/

theorem reference4 (X Y : FVec 𝓘 S2048x1024 .f32) (G : FVec 𝓘 S1x1024 .f32) : val_main_v14 (F := 𝓘) X Y G = sums X Y G := by
  funext i
  obtain ⟨r, e, rfl⟩ : ∃ (r : Fin 2048) (e : Fin 1024), i = ix2 r e := ⟨i 0, i 1, (ix2_eta i).symm⟩
  rw [val_main_v14_apply, val_main_v13_apply, val_main_v10_apply, val_main_v9_apply, val_main_v8_apply, val_main_v7_apply, val_main_v5_apply,
    val_main_v3_apply, val_main_v2_apply, val_main_v12_apply, val_main_v11_apply, val_main_v0_apply, val_main_v4_apply, val_main_v6_apply,
    val_main_cst_apply]
  refine congrArg (fun a : EReal => X (ix2 r e) + a) (congrArg₂ (fun (a b : EReal) => a * b)
    (congrArg (fun (a : EReal) => Y (ix2 r e) * a) (congrArg scale ?_)) (congrArg G (at2 rfl (Nat.mod_eq_of_lt e.isLt))))
  refine (congrArg (fun a : EReal => a + _) Ideal.ofBits_zero_f32).trans ((zero_add _).trans (Finset.sum_congr rfl fun k _ => ?_))
  exact congrArg (fun u => Y u * Y u) (at2 rfl rfl)

theorem reference5 (X Y : FVec 𝓘 S2048x1024 .f32) (G N : FVec 𝓘 S1x1024 .f32) : val_main_v29 (F := 𝓘) X Y G N = nexts X Y G N := by
  funext i
  obtain ⟨r, e, rfl⟩ : ∃ (r : Fin 2048) (e : Fin 1024), i = ix2 r e := ⟨i 0, i 1, (ix2_eta i).symm⟩
  rw [val_main_v29_apply, val_main_v28_apply, val_main_v25_apply, val_main_v24_apply, val_main_v23_apply, val_main_v22_apply,
    val_main_v20_apply, val_main_v18_apply, val_main_v17_apply, val_main_v27_apply, val_main_v26_apply, val_main_v15_apply,
    val_main_v19_apply, val_main_v21_apply, val_main_cst_2_apply]
  refine congrArg₂ (fun (a b : EReal) => a * b) (congrArg₂ (fun (a b : EReal) => a * b) (congrFun (reference4 X Y G) (ix2 r e)) (congrArg scale ?_))
    (congrArg N (at2 rfl (Nat.mod_eq_of_lt e.isLt)))
  refine (congrArg (fun a : EReal => a + _) Ideal.ofBits_zero_f32).trans ((zero_add _).trans (Finset.sum_congr rfl fun k _ => ?_))
  refine congrArg (fun a : EReal => a * a) ((congrFun (reference4 X Y G) _).trans ?_)
  exact congrArg (sums X Y G) (at2 rfl rfl)

theorem reference_frame : Cert.quiescent_Reference28Ideal (hReference28Ideal := Cert.Reference28Ideal.Gen.facts) := by
  intro m g _
  exact (θ_run Cert.Reference28Ideal.defs _ _).mono (fun r h => ⟨fun c => (h c).2.2, sem_eq_zero_of_no_sems (by decide) r.2⟩)
    (Cert.Reference28Ideal.Value.run m g)

/-! ## The equation -/

theorem equal : Cert.algebraic_Kernel28Ideal_Reference28Ideal (hKernel28Ideal := Cert.Kernel28Ideal.Gen.facts)
    (hReference28Ideal := Cert.Reference28Ideal.Gen.facts) := by
  intro m ρ m' ρ' _ hag
  refine ⟨fun c => result4 m c, fun c => result5 m c, ?_, ?_⟩
  · refine (θ_run Cert.Kernel28Ideal.defs _ _).mono (fun r h c => ?_) (Cert.Kernel28Ideal.Value.run_blocks m ρ)
    exact ⟨(h c).1.trans (array4 m c), (h c).2.1.trans (array5 m c), (h c).2.2⟩
  · refine (θ_run Cert.Reference28Ideal.defs _ _).mono (fun r h c => ?_) (Cert.Reference28Ideal.Value.run m' ρ')
    obtain ⟨a0, a1, a2, a3⟩ := hag c
    refine ⟨(h c).1.trans ((val_main_v14_eq _ _ _).trans ?_), (h c).2.1.trans ((val_main_v29_eq _ _ _ _).trans ?_), (h c).2.2⟩
    · rw [reference4, a0, a1, a2]; rfl
    · rw [reference5, a0, a1, a2, a3]; rfl

end Cert.Rows28

end
-- ==== Proof.Products.lean ====
/- The sixteen products of the projections, of the mixing of the pooled values and of the recurrence's gate, gathered, and the
   forward pass of the attention. -/
module

public import proofs.«01_k».proof.Proof.Gen.Kernel2.Frame
public import proofs.«01_k».proof.Proof.Gen.Kernel2Ideal.Frame
public import proofs.«01_k».proof.Proof.Gen.Reference2Ideal.Run
public import proofs.«01_k».proof.Proof.Product2
public import proofs.«01_k».proof.Proof.Gen.Kernel3.Frame
public import proofs.«01_k».proof.Proof.Gen.Kernel3Ideal.Frame
public import proofs.«01_k».proof.Proof.Gen.Reference3Ideal.Run
public import proofs.«01_k».proof.Proof.Product3
public import proofs.«01_k».proof.Proof.Gen.Kernel4.Frame
public import proofs.«01_k».proof.Proof.Gen.Kernel4Ideal.Frame
public import proofs.«01_k».proof.Proof.Gen.Reference4Ideal.Run
public import proofs.«01_k».proof.Proof.Product4
public import proofs.«01_k».proof.Proof.Gen.Kernel5.Frame
public import proofs.«01_k».proof.Proof.Gen.Kernel5Ideal.Frame
public import proofs.«01_k».proof.Proof.Gen.Reference5Ideal.Run
public import proofs.«01_k».proof.Proof.Product5
public import proofs.«01_k».proof.Proof.Gen.Kernel6.Frame
public import proofs.«01_k».proof.Proof.Gen.Kernel6Ideal.Frame
public import proofs.«01_k».proof.Proof.Gen.Reference6Ideal.Run
public import proofs.«01_k».proof.Proof.Product6
public import proofs.«01_k».proof.Proof.Gen.Kernel7.Frame
public import proofs.«01_k».proof.Proof.Gen.Kernel7Ideal.Frame
public import proofs.«01_k».proof.Proof.Gen.Reference7Ideal.Run
public import proofs.«01_k».proof.Proof.Product7
public import proofs.«01_k».proof.Proof.Gen.Kernel8.Frame
public import proofs.«01_k».proof.Proof.Gen.Kernel8Ideal.Frame
public import proofs.«01_k».proof.Proof.Gen.Reference8Ideal.Run
public import proofs.«01_k».proof.Proof.Product8
public import proofs.«01_k».proof.Proof.Gen.Kernel9.Frame
public import proofs.«01_k».proof.Proof.Gen.Kernel9Ideal.Frame
public import proofs.«01_k».proof.Proof.Gen.Reference9Ideal.Run
public import proofs.«01_k».proof.Proof.Product9
public import proofs.«01_k».proof.Proof.Gen.Kernel10.Frame
public import proofs.«01_k».proof.Proof.Gen.Kernel10Ideal.Frame
public import proofs.«01_k».proof.Proof.Gen.Reference10Ideal.Run
public import proofs.«01_k».proof.Proof.Product10
public import proofs.«01_k».proof.Proof.Gen.Kernel11.Frame
public import proofs.«01_k».proof.Proof.Gen.Kernel11Ideal.Frame
public import proofs.«01_k».proof.Proof.Gen.Reference11Ideal.Run
public import proofs.«01_k».proof.Proof.Product11
public import proofs.«01_k».proof.Proof.Gen.Kernel12.Frame
public import proofs.«01_k».proof.Proof.Gen.Kernel12Ideal.Frame
public import proofs.«01_k».proof.Proof.Gen.Reference12Ideal.Run
public import proofs.«01_k».proof.Proof.Product12
public import proofs.«01_k».proof.Proof.Gen.Kernel13.Frame
public import proofs.«01_k».proof.Proof.Gen.Kernel13Ideal.Frame
public import proofs.«01_k».proof.Proof.Gen.Reference13Ideal.Run
public import proofs.«01_k».proof.Proof.Product13
public import proofs.«01_k».proof.Proof.Gen.Kernel14.Frame
public import proofs.«01_k».proof.Proof.Gen.Kernel14Ideal.Frame
public import proofs.«01_k».proof.Proof.Gen.Reference14Ideal.Run
public import proofs.«01_k».proof.Proof.Product14
public import proofs.«01_k».proof.Proof.Gen.Kernel15.Frame
public import proofs.«01_k».proof.Proof.Gen.Kernel15Ideal.Frame
public import proofs.«01_k».proof.Proof.Gen.Reference15Ideal.Run
public import proofs.«01_k».proof.Proof.Product15
public import proofs.«01_k».proof.Proof.Gen.Kernel16.Frame
public import proofs.«01_k».proof.Proof.Gen.Kernel16Ideal.Frame
public import proofs.«01_k».proof.Proof.Gen.Reference16Ideal.Run
public import proofs.«01_k».proof.Proof.Product16
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Reference17Ideal
public import proofs.«01_k».proof.Proof.Product17
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Reference18Ideal
public import proofs.«01_k».proof.Proof.Forward
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Reference19Ideal
public import proofs.«01_k».proof.Proof.Adam19
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Reference20Ideal
public import proofs.«01_k».proof.Proof.Adam20
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Reference21Ideal
public import proofs.«01_k».proof.Proof.Adam21
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Reference22Ideal
public import proofs.«01_k».proof.Proof.Adam22
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Reference23Ideal
public import proofs.«01_k».proof.Proof.Adam23
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Reference24Ideal
public import proofs.«01_k».proof.Proof.Adam24
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Reference25Ideal
public import proofs.«01_k».proof.Proof.Adam25
public import proofs.«01_k».proof.Proof.Rows26
public import proofs.«01_k».proof.Proof.Rows27
public import proofs.«01_k».proof.Proof.Rows28
-- ==== Proof.lean ====
/- The claims: every program's frame, the kernel's idealization, the equality of the attention's three gradients, and
   that of the sixteen products, of the attention's forward pass, of the optimiser's calls, of the norms and of the gate. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import proofs.«01_k».proof.Proof.Products
public import Idealize.ShloMosaic.Lib.Claim
public import Idealize.ShloMosaic.Adequacy
public import Idealize.ShloMosaic.Init

@[expose] public section

noncomputable section

namespace Cert.Proof

open Idealize.ShloMosaic Idealize.SL.Sem

/-- The reference runs, keeps its arguments, and has no semaphore. -/
theorem reference_frame : Cert.quiescent_ReferenceIdeal (hReferenceIdeal := Cert.ReferenceIdeal.Gen.facts) := by
  intro m g _
  refine (θ_run Cert.ReferenceIdeal.defs _ _).mono (fun r h => ⟨fun c => (h c).2.2.2, sem_eq_zero_of_no_sems (by decide) r.2⟩)
    (Cert.ReferenceIdeal.Value.run m g)

theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Attn.finite_facts, Cert.Forward.inputs_facts, ?_⟩
  exact ⟨fun m ρ _ => Cert.Kernel.Gen.frame m ρ, fun m ρ _ => Cert.KernelIdeal.Gen.frame m ρ,
    fun m ρ _ => Cert.KernelIdeal.Gen.frame m ρ, reference_frame, fun m g _ => reference_frame m g trivial,
    fun m ρ _ => Cert.Kernel2.Gen.frame m ρ, fun m ρ _ => Cert.Kernel2Ideal.Gen.frame m ρ, Cert.Product2.reference_frame,
    fun m ρ _ => Cert.Kernel3.Gen.frame m ρ, fun m ρ _ => Cert.Kernel3Ideal.Gen.frame m ρ, Cert.Product3.reference_frame,
    fun m ρ _ => Cert.Kernel4.Gen.frame m ρ, fun m ρ _ => Cert.Kernel4Ideal.Gen.frame m ρ, Cert.Product4.reference_frame,
    fun m ρ _ => Cert.Kernel5.Gen.frame m ρ, fun m ρ _ => Cert.Kernel5Ideal.Gen.frame m ρ, Cert.Product5.reference_frame,
    fun m ρ _ => Cert.Kernel6.Gen.frame m ρ, fun m ρ _ => Cert.Kernel6Ideal.Gen.frame m ρ, Cert.Product6.reference_frame,
    fun m ρ _ => Cert.Kernel7.Gen.frame m ρ, fun m ρ _ => Cert.Kernel7Ideal.Gen.frame m ρ, Cert.Product7.reference_frame,
    fun m ρ _ => Cert.Kernel8.Gen.frame m ρ, fun m ρ _ => Cert.Kernel8Ideal.Gen.frame m ρ, Cert.Product8.reference_frame,
    fun m ρ _ => Cert.Kernel9.Gen.frame m ρ, fun m ρ _ => Cert.Kernel9Ideal.Gen.frame m ρ, Cert.Product9.reference_frame,
    fun m ρ _ => Cert.Kernel10.Gen.frame m ρ, fun m ρ _ => Cert.Kernel10Ideal.Gen.frame m ρ, Cert.Product10.reference_frame,
    fun m ρ _ => Cert.Kernel11.Gen.frame m ρ, fun m ρ _ => Cert.Kernel11Ideal.Gen.frame m ρ, Cert.Product11.reference_frame,
    fun m ρ _ => Cert.Kernel12.Gen.frame m ρ, fun m ρ _ => Cert.Kernel12Ideal.Gen.frame m ρ, Cert.Product12.reference_frame,
    fun m ρ _ => Cert.Kernel13.Gen.frame m ρ, fun m ρ _ => Cert.Kernel13Ideal.Gen.frame m ρ, Cert.Product13.reference_frame,
    fun m ρ _ => Cert.Kernel14.Gen.frame m ρ, fun m ρ _ => Cert.Kernel14Ideal.Gen.frame m ρ, Cert.Product14.reference_frame,
    fun m ρ _ => Cert.Kernel15.Gen.frame m ρ, fun m ρ _ => Cert.Kernel15Ideal.Gen.frame m ρ, Cert.Product15.reference_frame,
    fun m ρ _ => Cert.Kernel16.Gen.frame m ρ, fun m ρ _ => Cert.Kernel16Ideal.Gen.frame m ρ, Cert.Product16.reference_frame,
    fun m ρ _ => Cert.Kernel17.Gen.frame m ρ, fun m ρ _ => Cert.Kernel17Ideal.Gen.frame m ρ, Cert.Product17.reference_frame,
    fun m ρ _ => Cert.Kernel18.Gen.frame m ρ, fun m ρ _ => Cert.Kernel18Ideal.Gen.frame m ρ,
    fun m ρ _ => Cert.Kernel18Ideal.Gen.frame m ρ, Cert.Forward.reference_frame, fun m g _ => Cert.Forward.reference_frame m g trivial,
    fun m ρ _ => Cert.Kernel19.Gen.frame m ρ, fun m ρ _ => Cert.Kernel19Ideal.Gen.frame m ρ, Cert.Adam19.reference_frame,
    fun m ρ _ => Cert.Kernel20.Gen.frame m ρ, fun m ρ _ => Cert.Kernel20Ideal.Gen.frame m ρ, Cert.Adam20.reference_frame,
    fun m ρ _ => Cert.Kernel21.Gen.frame m ρ, fun m ρ _ => Cert.Kernel21Ideal.Gen.frame m ρ, Cert.Adam21.reference_frame,
    fun m ρ _ => Cert.Kernel22.Gen.frame m ρ, fun m ρ _ => Cert.Kernel22Ideal.Gen.frame m ρ, Cert.Adam22.reference_frame,
    fun m ρ _ => Cert.Kernel23.Gen.frame m ρ, fun m ρ _ => Cert.Kernel23Ideal.Gen.frame m ρ, Cert.Adam23.reference_frame,
    fun m ρ _ => Cert.Kernel24.Gen.frame m ρ, fun m ρ _ => Cert.Kernel24Ideal.Gen.frame m ρ, Cert.Adam24.reference_frame,
    fun m ρ _ => Cert.Kernel25.Gen.frame m ρ, fun m ρ _ => Cert.Kernel25Ideal.Gen.frame m ρ, Cert.Adam25.reference_frame,
    fun m ρ _ => Cert.Kernel26.Gen.frame m ρ, fun m ρ _ => Cert.Kernel26Ideal.Gen.frame m ρ, Cert.Rows26.reference_frame,
    fun m ρ _ => Cert.Kernel27.Gen.frame m ρ, fun m ρ _ => Cert.Kernel27Ideal.Gen.frame m ρ, Cert.Rows27.reference_frame,
    fun m ρ _ => Cert.Kernel28.Gen.frame m ρ, fun m ρ _ => Cert.Kernel28Ideal.Gen.frame m ρ, Cert.Rows28.reference_frame,
    trivial, Cert.Attn.equal_gradients,
    trivial, Cert.Product2.equal,
    trivial, Cert.Product3.equal,
    trivial, Cert.Product4.equal,
    trivial, Cert.Product5.equal,
    trivial, Cert.Product6.equal,
    trivial, Cert.Product7.equal,
    trivial, Cert.Product8.equal,
    trivial, Cert.Product9.equal,
    trivial, Cert.Product10.equal,
    trivial, Cert.Product11.equal,
    trivial, Cert.Product12.equal,
    trivial, Cert.Product13.equal,
    trivial, Cert.Product14.equal,
    trivial, Cert.Product15.equal,
    trivial, Cert.Product16.equal,
    trivial, Cert.Product17.equal, trivial, Cert.Forward.equal,
    trivial, Cert.Adam19.equal,
    trivial, Cert.Adam20.equal,
    trivial, Cert.Adam21.equal,
    trivial, Cert.Adam22.equal,
    trivial, Cert.Adam23.equal,
    trivial, Cert.Adam24.equal,
    trivial, Cert.Adam25.equal,
    trivial, Cert.Rows26.equal,
    trivial, Cert.Rows27.equal,
    trivial, Cert.Rows28.equal⟩

end Cert.Proof

end
